-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDw2 (m : (ℓ : Loc Cert.KernelDw2.nD Cert.KernelDw2.τ Cert.KernelDw2.sig) → Buf (Elt Bits) ℓ) : Prop :=
  True

def Pre_KernelDw2Ideal (m : (ℓ : Loc Cert.KernelDw2Ideal.nD Cert.KernelDw2Ideal.τ Cert.KernelDw2Ideal.sig) → Buf (Elt Ideal) ℓ) : Prop :=
  True

def Pre_ReferenceDw2Ideal (m : (ℓ : Loc Cert.ReferenceDw2Ideal.nD Cert.ReferenceDw2Ideal.τ Cert.ReferenceDw2Ideal.sig) → Buf (Elt Ideal) ℓ) : Prop :=
  True

def Pre_KernelDw1 (m : (ℓ : Loc Cert.KernelDw1.nD Cert.KernelDw1.τ Cert.KernelDw1.sig) → Buf (Elt Bits) ℓ) : Prop :=
  True

def Pre_KernelDw1Ideal (m : (ℓ : Loc Cert.KernelDw1Ideal.nD Cert.KernelDw1Ideal.τ Cert.KernelDw1Ideal.sig) → Buf (Elt Ideal) ℓ) : Prop :=
  True

def Pre_ReferenceDw1Ideal (m : (ℓ : Loc Cert.ReferenceDw1Ideal.nD Cert.ReferenceDw1Ideal.τ Cert.ReferenceDw1Ideal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelGdnDw (m : (ℓ : Loc Cert.KernelGdnDw.nD Cert.KernelGdnDw.τ Cert.KernelGdnDw.sig) → Buf (Elt Bits) ℓ) : Prop :=
  True

def Pre_KernelGdnDwIdeal (m : (ℓ : Loc Cert.KernelGdnDwIdeal.nD Cert.KernelGdnDwIdeal.τ Cert.KernelGdnDwIdeal.sig) → Buf (Elt Ideal) ℓ) : Prop :=
  True

def Pre_ReferenceGdnDwIdeal (m : (ℓ : Loc Cert.ReferenceGdnDwIdeal.nD Cert.ReferenceGdnDwIdeal.τ Cert.ReferenceGdnDwIdeal.sig) → Buf (Elt Ideal) ℓ) : Prop :=
  True

def Pre_KernelGdnDx (m : (ℓ : Loc Cert.KernelGdnDx.nD Cert.KernelGdnDx.τ Cert.KernelGdnDx.sig) → Buf (Elt Bits) ℓ) : Prop :=
  True

def Pre_KernelGdnDxIdeal (m : (ℓ : Loc Cert.KernelGdnDxIdeal.nD Cert.KernelGdnDxIdeal.τ Cert.KernelGdnDxIdeal.sig) → Buf (Elt Ideal) ℓ) : Prop :=
  True

def Pre_ReferenceGdnDxIdeal (m : (ℓ : Loc Cert.ReferenceGdnDxIdeal.nD Cert.ReferenceGdnDxIdeal.τ Cert.ReferenceGdnDxIdeal.sig) → Buf (Elt Ideal) ℓ) : Prop :=
  True

def Pre_KernelGlaDw (m : (ℓ : Loc Cert.KernelGlaDw.nD Cert.KernelGlaDw.τ Cert.KernelGlaDw.sig) → Buf (Elt Bits) ℓ) : Prop :=
  True

def Pre_KernelGlaDwIdeal (m : (ℓ : Loc Cert.KernelGlaDwIdeal.nD Cert.KernelGlaDwIdeal.τ Cert.KernelGlaDwIdeal.sig) → Buf (Elt Ideal) ℓ) : Prop :=
  True

def Pre_ReferenceGlaDwIdeal (m : (ℓ : Loc Cert.ReferenceGlaDwIdeal.nD Cert.ReferenceGlaDwIdeal.τ Cert.ReferenceGlaDwIdeal.sig) → Buf (Elt Ideal) ℓ) : Prop :=
  True

def Pre_KernelGlaDx (m : (ℓ : Loc Cert.KernelGlaDx.nD Cert.KernelGlaDx.τ Cert.KernelGlaDx.sig) → Buf (Elt Bits) ℓ) : Prop :=
  True

def Pre_KernelGlaDxIdeal (m : (ℓ : Loc Cert.KernelGlaDxIdeal.nD Cert.KernelGlaDxIdeal.τ Cert.KernelGlaDxIdeal.sig) → Buf (Elt Ideal) ℓ) : Prop :=
  True

def Pre_ReferenceGlaDxIdeal (m : (ℓ : Loc Cert.ReferenceGlaDxIdeal.nD Cert.ReferenceGlaDxIdeal.τ Cert.ReferenceGlaDxIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelOutDy (m : (ℓ : Loc Cert.KernelOutDy.nD Cert.KernelOutDy.τ Cert.KernelOutDy.sig) → Buf (Elt Bits) ℓ) : Prop :=
  True

def Pre_KernelOutDyIdeal (m : (ℓ : Loc Cert.KernelOutDyIdeal.nD Cert.KernelOutDyIdeal.τ Cert.KernelOutDyIdeal.sig) → Buf (Elt Ideal) ℓ) : Prop :=
  True

def Pre_ReferenceOutDyIdeal (m : (ℓ : Loc Cert.ReferenceOutDyIdeal.nD Cert.ReferenceOutDyIdeal.τ Cert.ReferenceOutDyIdeal.sig) → Buf (Elt Ideal) ℓ) : Prop :=
  True

def Pre_KernelGateDw (m : (ℓ : Loc Cert.KernelGateDw.nD Cert.KernelGateDw.τ Cert.KernelGateDw.sig) → Buf (Elt Bits) ℓ) : Prop :=
  True

def Pre_KernelGateDwIdeal (m : (ℓ : Loc Cert.KernelGateDwIdeal.nD Cert.KernelGateDwIdeal.τ Cert.KernelGateDwIdeal.sig) → Buf (Elt Ideal) ℓ) : Prop :=
  True

def Pre_ReferenceGateDwIdeal (m : (ℓ : Loc Cert.ReferenceGateDwIdeal.nD Cert.ReferenceGateDwIdeal.τ Cert.ReferenceGateDwIdeal.sig) → Buf (Elt Ideal) ℓ) : Prop :=
  True

def Pre_KernelGateDx (m : (ℓ : Loc Cert.KernelGateDx.nD Cert.KernelGateDx.τ Cert.KernelGateDx.sig) → Buf (Elt Bits) ℓ) : Prop :=
  True

def Pre_KernelGateDxIdeal (m : (ℓ : Loc Cert.KernelGateDxIdeal.nD Cert.KernelGateDxIdeal.τ Cert.KernelGateDxIdeal.sig) → Buf (Elt Ideal) ℓ) : Prop :=
  True

def Pre_ReferenceGateDxIdeal (m : (ℓ : Loc Cert.ReferenceGateDxIdeal.nD Cert.ReferenceGateDxIdeal.τ Cert.ReferenceGateDxIdeal.sig) → Buf (Elt Ideal) ℓ) : Prop :=
  True

def Pre_KernelGateDw2 (m : (ℓ : Loc Cert.KernelGateDw2.nD Cert.KernelGateDw2.τ Cert.KernelGateDw2.sig) → Buf (Elt Bits) ℓ) : Prop :=
  True

def Pre_KernelGateDw2Ideal (m : (ℓ : Loc Cert.KernelGateDw2Ideal.nD Cert.KernelGateDw2Ideal.τ Cert.KernelGateDw2Ideal.sig) → Buf (Elt Ideal) ℓ) : Prop :=
  True

def Pre_ReferenceGateDw2Ideal (m : (ℓ : Loc Cert.ReferenceGateDw2Ideal.nD Cert.ReferenceGateDw2Ideal.τ Cert.ReferenceGateDw2Ideal.sig) → Buf (Elt Ideal) ℓ) : Prop :=
  True

def Pre_KernelMlpUp (m : (ℓ : Loc Cert.KernelMlpUp.nD Cert.KernelMlpUp.τ Cert.KernelMlpUp.sig) → Buf (Elt Bits) ℓ) : Prop :=
  True

def Pre_KernelMlpUpIdeal (m : (ℓ : Loc Cert.KernelMlpUpIdeal.nD Cert.KernelMlpUpIdeal.τ Cert.KernelMlpUpIdeal.sig) → Buf (Elt Ideal) ℓ) : Prop :=
  True

def Pre_ReferenceMlpUpIdeal (m : (ℓ : Loc Cert.ReferenceMlpUpIdeal.nD Cert.ReferenceMlpUpIdeal.τ Cert.ReferenceMlpUpIdeal.sig) → Buf (Elt Ideal) ℓ) : Prop :=
  True

def Pre_KernelMlpDown (m : (ℓ : Loc Cert.KernelMlpDown.nD Cert.KernelMlpDown.τ Cert.KernelMlpDown.sig) → Buf (Elt Bits) ℓ) : Prop :=
  True

def Pre_KernelMlpDownIdeal (m : (ℓ : Loc Cert.KernelMlpDownIdeal.nD Cert.KernelMlpDownIdeal.τ Cert.KernelMlpDownIdeal.sig) → Buf (Elt Ideal) ℓ) : Prop :=
  True

def Pre_ReferenceMlpDownIdeal (m : (ℓ : Loc Cert.ReferenceMlpDownIdeal.nD Cert.ReferenceMlpDownIdeal.τ Cert.ReferenceMlpDownIdeal.sig) → Buf (Elt Ideal) ℓ) : Prop :=
  True

def Pre_KernelGdnProj (m : (ℓ : Loc Cert.KernelGdnProj.nD Cert.KernelGdnProj.τ Cert.KernelGdnProj.sig) → Buf (Elt Bits) ℓ) : Prop :=
  True

def Pre_KernelGdnProjIdeal (m : (ℓ : Loc Cert.KernelGdnProjIdeal.nD Cert.KernelGdnProjIdeal.τ Cert.KernelGdnProjIdeal.sig) → Buf (Elt Ideal) ℓ) : Prop :=
  True

def Pre_ReferenceGdnProjIdeal (m : (ℓ : Loc Cert.ReferenceGdnProjIdeal.nD Cert.ReferenceGdnProjIdeal.τ Cert.ReferenceGdnProjIdeal.sig) → Buf (Elt Ideal) ℓ) : Prop :=
  True

def Pre_KernelGlaProj (m : (ℓ : Loc Cert.KernelGlaProj.nD Cert.KernelGlaProj.τ Cert.KernelGlaProj.sig) → Buf (Elt Bits) ℓ) : Prop :=
  True

def Pre_KernelGlaProjIdeal (m : (ℓ : Loc Cert.KernelGlaProjIdeal.nD Cert.KernelGlaProjIdeal.τ Cert.KernelGlaProjIdeal.sig) → Buf (Elt Ideal) ℓ) : Prop :=
  True

def Pre_ReferenceGlaProjIdeal (m : (ℓ : Loc Cert.ReferenceGlaProjIdeal.nD Cert.ReferenceGlaProjIdeal.τ Cert.ReferenceGlaProjIdeal.sig) → Buf (Elt Ideal) ℓ) : Prop :=
  True

def Pre_KernelGateProj (m : (ℓ : Loc Cert.KernelGateProj.nD Cert.KernelGateProj.τ Cert.KernelGateProj.sig) → Buf (Elt Bits) ℓ) : Prop :=
  True

def Pre_KernelGateProjIdeal (m : (ℓ : Loc Cert.KernelGateProjIdeal.nD Cert.KernelGateProjIdeal.τ Cert.KernelGateProjIdeal.sig) → Buf (Elt Ideal) ℓ) : Prop :=
  True

def Pre_ReferenceGateProjIdeal (m : (ℓ : Loc Cert.ReferenceGateProjIdeal.nD Cert.ReferenceGateProjIdeal.τ Cert.ReferenceGateProjIdeal.sig) → Buf (Elt Ideal) ℓ) : Prop :=
  True

def Pre_KernelOutProj (m : (ℓ : Loc Cert.KernelOutProj.nD Cert.KernelOutProj.τ Cert.KernelOutProj.sig) → Buf (Elt Bits) ℓ) : Prop :=
  True

def Pre_KernelOutProjIdeal (m : (ℓ : Loc Cert.KernelOutProjIdeal.nD Cert.KernelOutProjIdeal.τ Cert.KernelOutProjIdeal.sig) → Buf (Elt Ideal) ℓ) : Prop :=
  True

def Pre_ReferenceOutProjIdeal (m : (ℓ : Loc Cert.ReferenceOutProjIdeal.nD Cert.ReferenceOutProjIdeal.τ Cert.ReferenceOutProjIdeal.sig) → Buf (Elt Ideal) ℓ) : Prop :=
  True

def Pre_KernelAdamwMlpW1 (m : (ℓ : Loc Cert.KernelAdamwMlpW1.nD Cert.KernelAdamwMlpW1.τ Cert.KernelAdamwMlpW1.sig) → Buf (Elt Bits) ℓ) : Prop :=
  True

def Pre_KernelAdamwMlpW1Ideal (m : (ℓ : Loc Cert.KernelAdamwMlpW1Ideal.nD Cert.KernelAdamwMlpW1Ideal.τ Cert.KernelAdamwMlpW1Ideal.sig) → Buf (Elt Ideal) ℓ) : Prop :=
  True

def Pre_ReferenceAdamwMlpW1Ideal (m : (ℓ : Loc Cert.ReferenceAdamwMlpW1Ideal.nD Cert.ReferenceAdamwMlpW1Ideal.τ Cert.ReferenceAdamwMlpW1Ideal.sig) → Buf (Elt Ideal) ℓ) : Prop :=
  True

def Pre_KernelAdamwMlpW2 (m : (ℓ : Loc Cert.KernelAdamwMlpW2.nD Cert.KernelAdamwMlpW2.τ Cert.KernelAdamwMlpW2.sig) → Buf (Elt Bits) ℓ) : Prop :=
  True

def Pre_KernelAdamwMlpW2Ideal (m : (ℓ : Loc Cert.KernelAdamwMlpW2Ideal.nD Cert.KernelAdamwMlpW2Ideal.τ Cert.KernelAdamwMlpW2Ideal.sig) → Buf (Elt Ideal) ℓ) : Prop :=
  True

def Pre_ReferenceAdamwMlpW2Ideal (m : (ℓ : Loc Cert.ReferenceAdamwMlpW2Ideal.nD Cert.ReferenceAdamwMlpW2Ideal.τ Cert.ReferenceAdamwMlpW2Ideal.sig) → Buf (Elt Ideal) ℓ) : Prop :=
  True

def Pre_KernelAdamwAWOut (m : (ℓ : Loc Cert.KernelAdamwAWOut.nD Cert.KernelAdamwAWOut.τ Cert.KernelAdamwAWOut.sig) → Buf (Elt Bits) ℓ) : Prop :=
  True

def Pre_KernelAdamwAWOutIdeal (m : (ℓ : Loc Cert.KernelAdamwAWOutIdeal.nD Cert.KernelAdamwAWOutIdeal.τ Cert.KernelAdamwAWOutIdeal.sig) → Buf (Elt Ideal) ℓ) : Prop :=
  True

def Pre_ReferenceAdamwAWOutIdeal (m : (ℓ : Loc Cert.ReferenceAdamwAWOutIdeal.nD Cert.ReferenceAdamwAWOutIdeal.τ Cert.ReferenceAdamwAWOutIdeal.sig) → Buf (Elt Ideal) ℓ) : Prop :=
  True

def Pre_KernelAdamwBWOut (m : (ℓ : Loc Cert.KernelAdamwBWOut.nD Cert.KernelAdamwBWOut.τ Cert.KernelAdamwBWOut.sig) → Buf (Elt Bits) ℓ) : Prop :=
  True

def Pre_KernelAdamwBWOutIdeal (m : (ℓ : Loc Cert.KernelAdamwBWOutIdeal.nD Cert.KernelAdamwBWOutIdeal.τ Cert.KernelAdamwBWOutIdeal.sig) → Buf (Elt Ideal) ℓ) : Prop :=
  True

def Pre_ReferenceAdamwBWOutIdeal (m : (ℓ : Loc Cert.ReferenceAdamwBWOutIdeal.nD Cert.ReferenceAdamwBWOutIdeal.τ Cert.ReferenceAdamwBWOutIdeal.sig) → Buf (Elt Ideal) ℓ) : Prop :=
  True

def Pre_KernelAdamwAWIn (m : (ℓ : Loc Cert.KernelAdamwAWIn.nD Cert.KernelAdamwAWIn.τ Cert.KernelAdamwAWIn.sig) → Buf (Elt Bits) ℓ) : Prop :=
  True

def Pre_KernelAdamwAWInIdeal (m : (ℓ : Loc Cert.KernelAdamwAWInIdeal.nD Cert.KernelAdamwAWInIdeal.τ Cert.KernelAdamwAWInIdeal.sig) → Buf (Elt Ideal) ℓ) : Prop :=
  True

def Pre_ReferenceAdamwAWInIdeal (m : (ℓ : Loc Cert.ReferenceAdamwAWInIdeal.nD Cert.ReferenceAdamwAWInIdeal.τ Cert.ReferenceAdamwAWInIdeal.sig) → Buf (Elt Ideal) ℓ) : Prop :=
  True

def Pre_KernelAdamwBWIn (m : (ℓ : Loc Cert.KernelAdamwBWIn.nD Cert.KernelAdamwBWIn.τ Cert.KernelAdamwBWIn.sig) → Buf (Elt Bits) ℓ) : Prop :=
  True

def Pre_KernelAdamwBWInIdeal (m : (ℓ : Loc Cert.KernelAdamwBWInIdeal.nD Cert.KernelAdamwBWInIdeal.τ Cert.KernelAdamwBWInIdeal.sig) → Buf (Elt Ideal) ℓ) : Prop :=
  True

def Pre_ReferenceAdamwBWInIdeal (m : (ℓ : Loc Cert.ReferenceAdamwBWInIdeal.nD Cert.ReferenceAdamwBWInIdeal.τ Cert.ReferenceAdamwBWInIdeal.sig) → Buf (Elt Ideal) ℓ) : Prop :=
  True

def Pre_KernelAdamwSmall (m : (ℓ : Loc Cert.KernelAdamwSmall.nD Cert.KernelAdamwSmall.τ Cert.KernelAdamwSmall.sig) → Buf (Elt Bits) ℓ) : Prop :=
  True

def Pre_KernelAdamwSmallIdeal (m : (ℓ : Loc Cert.KernelAdamwSmallIdeal.nD Cert.KernelAdamwSmallIdeal.τ Cert.KernelAdamwSmallIdeal.sig) → Buf (Elt Ideal) ℓ) : Prop :=
  True

def Pre_ReferenceAdamwSmallIdeal (m : (ℓ : Loc Cert.ReferenceAdamwSmallIdeal.nD Cert.ReferenceAdamwSmallIdeal.τ Cert.ReferenceAdamwSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0)

def quiescent_KernelDw2 [hKernelDw2 : Cert.KernelDw2.Facts] : Prop :=
  ∀ (m : (ℓ : Loc Cert.KernelDw2.nD Cert.KernelDw2.τ Cert.KernelDw2.sig) → Buf (Elt Bits) ℓ) (g : Dev Cert.KernelDw2.nD → PrngReg), Pre_KernelDw2 m →
    θ_run (Cert.KernelDw2.defs (F := Bits)) (onTc (τ := Cert.KernelDw2.τ) (Cert.KernelDw2.main (F := Bits))) ⟨m, fun _ => 0, g⟩ (fun r => (∀ c : Dev Cert.KernelDw2.nD,
      r.2.mem ((c.tc : Thread Cert.KernelDw2.nD Cert.KernelDw2.τ).loc Cert.KernelDw2.main_arg0) = m ((c.tc : Thread Cert.KernelDw2.nD Cert.KernelDw2.τ).loc Cert.KernelDw2.main_arg0)
      ∧ r.2.mem ((c.tc : Thread Cert.KernelDw2.nD Cert.KernelDw2.τ).loc Cert.KernelDw2.main_arg1) = m ((c.tc : Thread Cert.KernelDw2.nD Cert.KernelDw2.τ).loc Cert.KernelDw2.main_arg1))
      ∧ r.2.sem = fun _ => 0)

def quiescent_KernelDw2Ideal [hKernelDw2Ideal : Cert.KernelDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg), Pre_KernelDw2Ideal m →
    θ_run (Cert.KernelDw2Ideal.defs (F := Ideal)) (onTc (τ := Cert.KernelDw2Ideal.τ) (Cert.KernelDw2Ideal.main (F := Ideal))) ⟨m, fun _ => 0, g⟩ (fun r => (∀ c : Dev Cert.KernelDw2Ideal.nD,
      r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
      ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ r.2.sem = fun _ => 0)

def quiescent_ReferenceDw2Ideal [hReferenceDw2Ideal : Cert.ReferenceDw2Ideal.Facts] : Prop :=
  ∀ (m : (ℓ : Loc Cert.ReferenceDw2Ideal.nD Cert.ReferenceDw2Ideal.τ Cert.ReferenceDw2Ideal.sig) → Buf (Elt Ideal) ℓ) (g : Dev Cert.ReferenceDw2Ideal.nD → PrngReg), Pre_ReferenceDw2Ideal m →
    θ_run (Cert.ReferenceDw2Ideal.defs (F := Ideal)) (onTc (τ := Cert.ReferenceDw2Ideal.τ) (Cert.ReferenceDw2Ideal.main (F := Ideal))) ⟨m, fun _ => 0, g⟩ (fun r => (∀ c : Dev Cert.ReferenceDw2Ideal.nD,
      r.2.mem ((c.tc : Thread Cert.ReferenceDw2Ideal.nD Cert.ReferenceDw2Ideal.τ).loc Cert.ReferenceDw2Ideal.main_arg0) = m ((c.tc : Thread Cert.ReferenceDw2Ideal.nD Cert.ReferenceDw2Ideal.τ).loc Cert.ReferenceDw2Ideal.main_arg0)
      ∧ r.2.mem ((c.tc : Thread Cert.ReferenceDw2Ideal.nD Cert.ReferenceDw2Ideal.τ).loc Cert.ReferenceDw2Ideal.main_arg1) = m ((c.tc : Thread Cert.ReferenceDw2Ideal.nD Cert.ReferenceDw2Ideal.τ).loc Cert.ReferenceDw2Ideal.main_arg1))
      ∧ r.2.sem = fun _ => 0)

def quiescent_KernelDw1 [hKernelDw1 : Cert.KernelDw1.Facts] : Prop :=
  ∀ (m : (ℓ : Loc Cert.KernelDw1.nD Cert.KernelDw1.τ Cert.KernelDw1.sig) → Buf (Elt Bits) ℓ) (g : Dev Cert.KernelDw1.nD → PrngReg), Pre_KernelDw1 m →
    θ_run (Cert.KernelDw1.defs (F := Bits)) (onTc (τ := Cert.KernelDw1.τ) (Cert.KernelDw1.main (F := Bits))) ⟨m, fun _ => 0, g⟩ (fun r => (∀ c : Dev Cert.KernelDw1.nD,
      r.2.mem ((c.tc : Thread Cert.KernelDw1.nD Cert.KernelDw1.τ).loc Cert.KernelDw1.main_arg0) = m ((c.tc : Thread Cert.KernelDw1.nD Cert.KernelDw1.τ).loc Cert.KernelDw1.main_arg0)
      ∧ r.2.mem ((c.tc : Thread Cert.KernelDw1.nD Cert.KernelDw1.τ).loc Cert.KernelDw1.main_arg1) = m ((c.tc : Thread Cert.KernelDw1.nD Cert.KernelDw1.τ).loc Cert.KernelDw1.main_arg1))
      ∧ r.2.sem = fun _ => 0)

def quiescent_KernelDw1Ideal [hKernelDw1Ideal : Cert.KernelDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg), Pre_KernelDw1Ideal m →
    θ_run (Cert.KernelDw1Ideal.defs (F := Ideal)) (onTc (τ := Cert.KernelDw1Ideal.τ) (Cert.KernelDw1Ideal.main (F := Ideal))) ⟨m, fun _ => 0, g⟩ (fun r => (∀ c : Dev Cert.KernelDw1Ideal.nD,
      r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
      ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ r.2.sem = fun _ => 0)

def quiescent_ReferenceDw1Ideal [hReferenceDw1Ideal : Cert.ReferenceDw1Ideal.Facts] : Prop :=
  ∀ (m : (ℓ : Loc Cert.ReferenceDw1Ideal.nD Cert.ReferenceDw1Ideal.τ Cert.ReferenceDw1Ideal.sig) → Buf (Elt Ideal) ℓ) (g : Dev Cert.ReferenceDw1Ideal.nD → PrngReg), Pre_ReferenceDw1Ideal m →
    θ_run (Cert.ReferenceDw1Ideal.defs (F := Ideal)) (onTc (τ := Cert.ReferenceDw1Ideal.τ) (Cert.ReferenceDw1Ideal.main (F := Ideal))) ⟨m, fun _ => 0, g⟩ (fun r => (∀ c : Dev Cert.ReferenceDw1Ideal.nD,
      r.2.mem ((c.tc : Thread Cert.ReferenceDw1Ideal.nD Cert.ReferenceDw1Ideal.τ).loc Cert.ReferenceDw1Ideal.main_arg0) = m ((c.tc : Thread Cert.ReferenceDw1Ideal.nD Cert.ReferenceDw1Ideal.τ).loc Cert.ReferenceDw1Ideal.main_arg0)
      ∧ r.2.mem ((c.tc : Thread Cert.ReferenceDw1Ideal.nD Cert.ReferenceDw1Ideal.τ).loc Cert.ReferenceDw1Ideal.main_arg1) = m ((c.tc : Thread Cert.ReferenceDw1Ideal.nD Cert.ReferenceDw1Ideal.τ).loc Cert.ReferenceDw1Ideal.main_arg1))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2))
      ∧ r.2.sem = fun _ => 0)

def quiescent_KernelGdnDw [hKernelGdnDw : Cert.KernelGdnDw.Facts] : Prop :=
  ∀ (m : (ℓ : Loc Cert.KernelGdnDw.nD Cert.KernelGdnDw.τ Cert.KernelGdnDw.sig) → Buf (Elt Bits) ℓ) (g : Dev Cert.KernelGdnDw.nD → PrngReg), Pre_KernelGdnDw m →
    θ_run (Cert.KernelGdnDw.defs (F := Bits)) (onTc (τ := Cert.KernelGdnDw.τ) (Cert.KernelGdnDw.main (F := Bits))) ⟨m, fun _ => 0, g⟩ (fun r => (∀ c : Dev Cert.KernelGdnDw.nD,
      r.2.mem ((c.tc : Thread Cert.KernelGdnDw.nD Cert.KernelGdnDw.τ).loc Cert.KernelGdnDw.main_arg0) = m ((c.tc : Thread Cert.KernelGdnDw.nD Cert.KernelGdnDw.τ).loc Cert.KernelGdnDw.main_arg0)
      ∧ r.2.mem ((c.tc : Thread Cert.KernelGdnDw.nD Cert.KernelGdnDw.τ).loc Cert.KernelGdnDw.main_arg1) = m ((c.tc : Thread Cert.KernelGdnDw.nD Cert.KernelGdnDw.τ).loc Cert.KernelGdnDw.main_arg1))
      ∧ r.2.sem = fun _ => 0)

def quiescent_KernelGdnDwIdeal [hKernelGdnDwIdeal : Cert.KernelGdnDwIdeal.Facts] : Prop :=
  ∀ (m : (ℓ : Loc Cert.KernelGdnDwIdeal.nD Cert.KernelGdnDwIdeal.τ Cert.KernelGdnDwIdeal.sig) → Buf (Elt Ideal) ℓ) (g : Dev Cert.KernelGdnDwIdeal.nD → PrngReg), Pre_KernelGdnDwIdeal m →
    θ_run (Cert.KernelGdnDwIdeal.defs (F := Ideal)) (onTc (τ := Cert.KernelGdnDwIdeal.τ) (Cert.KernelGdnDwIdeal.main (F := Ideal))) ⟨m, fun _ => 0, g⟩ (fun r => (∀ c : Dev Cert.KernelGdnDwIdeal.nD,
      r.2.mem ((c.tc : Thread Cert.KernelGdnDwIdeal.nD Cert.KernelGdnDwIdeal.τ).loc Cert.KernelGdnDwIdeal.main_arg0) = m ((c.tc : Thread Cert.KernelGdnDwIdeal.nD Cert.KernelGdnDwIdeal.τ).loc Cert.KernelGdnDwIdeal.main_arg0)
      ∧ r.2.mem ((c.tc : Thread Cert.KernelGdnDwIdeal.nD Cert.KernelGdnDwIdeal.τ).loc Cert.KernelGdnDwIdeal.main_arg1) = m ((c.tc : Thread Cert.KernelGdnDwIdeal.nD Cert.KernelGdnDwIdeal.τ).loc Cert.KernelGdnDwIdeal.main_arg1))
      ∧ r.2.sem = fun _ => 0)

def quiescent_ReferenceGdnDwIdeal [hReferenceGdnDwIdeal : Cert.ReferenceGdnDwIdeal.Facts] : Prop :=
  ∀ (m : (ℓ : Loc Cert.ReferenceGdnDwIdeal.nD Cert.ReferenceGdnDwIdeal.τ Cert.ReferenceGdnDwIdeal.sig) → Buf (Elt Ideal) ℓ) (g : Dev Cert.ReferenceGdnDwIdeal.nD → PrngReg), Pre_ReferenceGdnDwIdeal m →
    θ_run (Cert.ReferenceGdnDwIdeal.defs (F := Ideal)) (onTc (τ := Cert.ReferenceGdnDwIdeal.τ) (Cert.ReferenceGdnDwIdeal.main (F := Ideal))) ⟨m, fun _ => 0, g⟩ (fun r => (∀ c : Dev Cert.ReferenceGdnDwIdeal.nD,
      r.2.mem ((c.tc : Thread Cert.ReferenceGdnDwIdeal.nD Cert.ReferenceGdnDwIdeal.τ).loc Cert.ReferenceGdnDwIdeal.main_arg0) = m ((c.tc : Thread Cert.ReferenceGdnDwIdeal.nD Cert.ReferenceGdnDwIdeal.τ).loc Cert.ReferenceGdnDwIdeal.main_arg0)
      ∧ r.2.mem ((c.tc : Thread Cert.ReferenceGdnDwIdeal.nD Cert.ReferenceGdnDwIdeal.τ).loc Cert.ReferenceGdnDwIdeal.main_arg1) = m ((c.tc : Thread Cert.ReferenceGdnDwIdeal.nD Cert.ReferenceGdnDwIdeal.τ).loc Cert.ReferenceGdnDwIdeal.main_arg1))
      ∧ r.2.sem = fun _ => 0)

def quiescent_KernelGdnDx [hKernelGdnDx : Cert.KernelGdnDx.Facts] : Prop :=
  ∀ (m : (ℓ : Loc Cert.KernelGdnDx.nD Cert.KernelGdnDx.τ Cert.KernelGdnDx.sig) → Buf (Elt Bits) ℓ) (g : Dev Cert.KernelGdnDx.nD → PrngReg), Pre_KernelGdnDx m →
    θ_run (Cert.KernelGdnDx.defs (F := Bits)) (onTc (τ := Cert.KernelGdnDx.τ) (Cert.KernelGdnDx.main (F := Bits))) ⟨m, fun _ => 0, g⟩ (fun r => (∀ c : Dev Cert.KernelGdnDx.nD,
      r.2.mem ((c.tc : Thread Cert.KernelGdnDx.nD Cert.KernelGdnDx.τ).loc Cert.KernelGdnDx.main_arg0) = m ((c.tc : Thread Cert.KernelGdnDx.nD Cert.KernelGdnDx.τ).loc Cert.KernelGdnDx.main_arg0)
      ∧ r.2.mem ((c.tc : Thread Cert.KernelGdnDx.nD Cert.KernelGdnDx.τ).loc Cert.KernelGdnDx.main_arg1) = m ((c.tc : Thread Cert.KernelGdnDx.nD Cert.KernelGdnDx.τ).loc Cert.KernelGdnDx.main_arg1)
      ∧ r.2.mem ((c.tc : Thread Cert.KernelGdnDx.nD Cert.KernelGdnDx.τ).loc Cert.KernelGdnDx.main_arg2) = m ((c.tc : Thread Cert.KernelGdnDx.nD Cert.KernelGdnDx.τ).loc Cert.KernelGdnDx.main_arg2))
      ∧ r.2.sem = fun _ => 0)

def quiescent_KernelGdnDxIdeal [hKernelGdnDxIdeal : Cert.KernelGdnDxIdeal.Facts] : Prop :=
  ∀ (m : (ℓ : Loc Cert.KernelGdnDxIdeal.nD Cert.KernelGdnDxIdeal.τ Cert.KernelGdnDxIdeal.sig) → Buf (Elt Ideal) ℓ) (g : Dev Cert.KernelGdnDxIdeal.nD → PrngReg), Pre_KernelGdnDxIdeal m →
    θ_run (Cert.KernelGdnDxIdeal.defs (F := Ideal)) (onTc (τ := Cert.KernelGdnDxIdeal.τ) (Cert.KernelGdnDxIdeal.main (F := Ideal))) ⟨m, fun _ => 0, g⟩ (fun r => (∀ c : Dev Cert.KernelGdnDxIdeal.nD,
      r.2.mem ((c.tc : Thread Cert.KernelGdnDxIdeal.nD Cert.KernelGdnDxIdeal.τ).loc Cert.KernelGdnDxIdeal.main_arg0) = m ((c.tc : Thread Cert.KernelGdnDxIdeal.nD Cert.KernelGdnDxIdeal.τ).loc Cert.KernelGdnDxIdeal.main_arg0)
      ∧ r.2.mem ((c.tc : Thread Cert.KernelGdnDxIdeal.nD Cert.KernelGdnDxIdeal.τ).loc Cert.KernelGdnDxIdeal.main_arg1) = m ((c.tc : Thread Cert.KernelGdnDxIdeal.nD Cert.KernelGdnDxIdeal.τ).loc Cert.KernelGdnDxIdeal.main_arg1)
      ∧ r.2.mem ((c.tc : Thread Cert.KernelGdnDxIdeal.nD Cert.KernelGdnDxIdeal.τ).loc Cert.KernelGdnDxIdeal.main_arg2) = m ((c.tc : Thread Cert.KernelGdnDxIdeal.nD Cert.KernelGdnDxIdeal.τ).loc Cert.KernelGdnDxIdeal.main_arg2))
      ∧ r.2.sem = fun _ => 0)

def quiescent_ReferenceGdnDxIdeal [hReferenceGdnDxIdeal : Cert.ReferenceGdnDxIdeal.Facts] : Prop :=
  ∀ (m : (ℓ : Loc Cert.ReferenceGdnDxIdeal.nD Cert.ReferenceGdnDxIdeal.τ Cert.ReferenceGdnDxIdeal.sig) → Buf (Elt Ideal) ℓ) (g : Dev Cert.ReferenceGdnDxIdeal.nD → PrngReg), Pre_ReferenceGdnDxIdeal m →
    θ_run (Cert.ReferenceGdnDxIdeal.defs (F := Ideal)) (onTc (τ := Cert.ReferenceGdnDxIdeal.τ) (Cert.ReferenceGdnDxIdeal.main (F := Ideal))) ⟨m, fun _ => 0, g⟩ (fun r => (∀ c : Dev Cert.ReferenceGdnDxIdeal.nD,
      r.2.mem ((c.tc : Thread Cert.ReferenceGdnDxIdeal.nD Cert.ReferenceGdnDxIdeal.τ).loc Cert.ReferenceGdnDxIdeal.main_arg0) = m ((c.tc : Thread Cert.ReferenceGdnDxIdeal.nD Cert.ReferenceGdnDxIdeal.τ).loc Cert.ReferenceGdnDxIdeal.main_arg0)
      ∧ r.2.mem ((c.tc : Thread Cert.ReferenceGdnDxIdeal.nD Cert.ReferenceGdnDxIdeal.τ).loc Cert.ReferenceGdnDxIdeal.main_arg1) = m ((c.tc : Thread Cert.ReferenceGdnDxIdeal.nD Cert.ReferenceGdnDxIdeal.τ).loc Cert.ReferenceGdnDxIdeal.main_arg1)
      ∧ r.2.mem ((c.tc : Thread Cert.ReferenceGdnDxIdeal.nD Cert.ReferenceGdnDxIdeal.τ).loc Cert.ReferenceGdnDxIdeal.main_arg2) = m ((c.tc : Thread Cert.ReferenceGdnDxIdeal.nD Cert.ReferenceGdnDxIdeal.τ).loc Cert.ReferenceGdnDxIdeal.main_arg2))
      ∧ r.2.sem = fun _ => 0)

def quiescent_KernelGlaDw [hKernelGlaDw : Cert.KernelGlaDw.Facts] : Prop :=
  ∀ (m : (ℓ : Loc Cert.KernelGlaDw.nD Cert.KernelGlaDw.τ Cert.KernelGlaDw.sig) → Buf (Elt Bits) ℓ) (g : Dev Cert.KernelGlaDw.nD → PrngReg), Pre_KernelGlaDw m →
    θ_run (Cert.KernelGlaDw.defs (F := Bits)) (onTc (τ := Cert.KernelGlaDw.τ) (Cert.KernelGlaDw.main (F := Bits))) ⟨m, fun _ => 0, g⟩ (fun r => (∀ c : Dev Cert.KernelGlaDw.nD,
      r.2.mem ((c.tc : Thread Cert.KernelGlaDw.nD Cert.KernelGlaDw.τ).loc Cert.KernelGlaDw.main_arg0) = m ((c.tc : Thread Cert.KernelGlaDw.nD Cert.KernelGlaDw.τ).loc Cert.KernelGlaDw.main_arg0)
      ∧ r.2.mem ((c.tc : Thread Cert.KernelGlaDw.nD Cert.KernelGlaDw.τ).loc Cert.KernelGlaDw.main_arg1) = m ((c.tc : Thread Cert.KernelGlaDw.nD Cert.KernelGlaDw.τ).loc Cert.KernelGlaDw.main_arg1))
      ∧ r.2.sem = fun _ => 0)

def quiescent_KernelGlaDwIdeal [hKernelGlaDwIdeal : Cert.KernelGlaDwIdeal.Facts] : Prop :=
  ∀ (m : (ℓ : Loc Cert.KernelGlaDwIdeal.nD Cert.KernelGlaDwIdeal.τ Cert.KernelGlaDwIdeal.sig) → Buf (Elt Ideal) ℓ) (g : Dev Cert.KernelGlaDwIdeal.nD → PrngReg), Pre_KernelGlaDwIdeal m →
    θ_run (Cert.KernelGlaDwIdeal.defs (F := Ideal)) (onTc (τ := Cert.KernelGlaDwIdeal.τ) (Cert.KernelGlaDwIdeal.main (F := Ideal))) ⟨m, fun _ => 0, g⟩ (fun r => (∀ c : Dev Cert.KernelGlaDwIdeal.nD,
      r.2.mem ((c.tc : Thread Cert.KernelGlaDwIdeal.nD Cert.KernelGlaDwIdeal.τ).loc Cert.KernelGlaDwIdeal.main_arg0) = m ((c.tc : Thread Cert.KernelGlaDwIdeal.nD Cert.KernelGlaDwIdeal.τ).loc Cert.KernelGlaDwIdeal.main_arg0)
      ∧ r.2.mem ((c.tc : Thread Cert.KernelGlaDwIdeal.nD Cert.KernelGlaDwIdeal.τ).loc Cert.KernelGlaDwIdeal.main_arg1) = m ((c.tc : Thread Cert.KernelGlaDwIdeal.nD Cert.KernelGlaDwIdeal.τ).loc Cert.KernelGlaDwIdeal.main_arg1))
      ∧ r.2.sem = fun _ => 0)

def quiescent_ReferenceGlaDwIdeal [hReferenceGlaDwIdeal : Cert.ReferenceGlaDwIdeal.Facts] : Prop :=
  ∀ (m : (ℓ : Loc Cert.ReferenceGlaDwIdeal.nD Cert.ReferenceGlaDwIdeal.τ Cert.ReferenceGlaDwIdeal.sig) → Buf (Elt Ideal) ℓ) (g : Dev Cert.ReferenceGlaDwIdeal.nD → PrngReg), Pre_ReferenceGlaDwIdeal m →
    θ_run (Cert.ReferenceGlaDwIdeal.defs (F := Ideal)) (onTc (τ := Cert.ReferenceGlaDwIdeal.τ) (Cert.ReferenceGlaDwIdeal.main (F := Ideal))) ⟨m, fun _ => 0, g⟩ (fun r => (∀ c : Dev Cert.ReferenceGlaDwIdeal.nD,
      r.2.mem ((c.tc : Thread Cert.ReferenceGlaDwIdeal.nD Cert.ReferenceGlaDwIdeal.τ).loc Cert.ReferenceGlaDwIdeal.main_arg0) = m ((c.tc : Thread Cert.ReferenceGlaDwIdeal.nD Cert.ReferenceGlaDwIdeal.τ).loc Cert.ReferenceGlaDwIdeal.main_arg0)
      ∧ r.2.mem ((c.tc : Thread Cert.ReferenceGlaDwIdeal.nD Cert.ReferenceGlaDwIdeal.τ).loc Cert.ReferenceGlaDwIdeal.main_arg1) = m ((c.tc : Thread Cert.ReferenceGlaDwIdeal.nD Cert.ReferenceGlaDwIdeal.τ).loc Cert.ReferenceGlaDwIdeal.main_arg1))
      ∧ r.2.sem = fun _ => 0)

def quiescent_KernelGlaDx [hKernelGlaDx : Cert.KernelGlaDx.Facts] : Prop :=
  ∀ (m : (ℓ : Loc Cert.KernelGlaDx.nD Cert.KernelGlaDx.τ Cert.KernelGlaDx.sig) → Buf (Elt Bits) ℓ) (g : Dev Cert.KernelGlaDx.nD → PrngReg), Pre_KernelGlaDx m →
    θ_run (Cert.KernelGlaDx.defs (F := Bits)) (onTc (τ := Cert.KernelGlaDx.τ) (Cert.KernelGlaDx.main (F := Bits))) ⟨m, fun _ => 0, g⟩ (fun r => (∀ c : Dev Cert.KernelGlaDx.nD,
      r.2.mem ((c.tc : Thread Cert.KernelGlaDx.nD Cert.KernelGlaDx.τ).loc Cert.KernelGlaDx.main_arg0) = m ((c.tc : Thread Cert.KernelGlaDx.nD Cert.KernelGlaDx.τ).loc Cert.KernelGlaDx.main_arg0)
      ∧ r.2.mem ((c.tc : Thread Cert.KernelGlaDx.nD Cert.KernelGlaDx.τ).loc Cert.KernelGlaDx.main_arg1) = m ((c.tc : Thread Cert.KernelGlaDx.nD Cert.KernelGlaDx.τ).loc Cert.KernelGlaDx.main_arg1)
      ∧ r.2.mem ((c.tc : Thread Cert.KernelGlaDx.nD Cert.KernelGlaDx.τ).loc Cert.KernelGlaDx.main_arg2) = m ((c.tc : Thread Cert.KernelGlaDx.nD Cert.KernelGlaDx.τ).loc Cert.KernelGlaDx.main_arg2))
      ∧ r.2.sem = fun _ => 0)

def quiescent_KernelGlaDxIdeal [hKernelGlaDxIdeal : Cert.KernelGlaDxIdeal.Facts] : Prop :=
  ∀ (m : (ℓ : Loc Cert.KernelGlaDxIdeal.nD Cert.KernelGlaDxIdeal.τ Cert.KernelGlaDxIdeal.sig) → Buf (Elt Ideal) ℓ) (g : Dev Cert.KernelGlaDxIdeal.nD → PrngReg), Pre_KernelGlaDxIdeal m →
    θ_run (Cert.KernelGlaDxIdeal.defs (F := Ideal)) (onTc (τ := Cert.KernelGlaDxIdeal.τ) (Cert.KernelGlaDxIdeal.main (F := Ideal))) ⟨m, fun _ => 0, g⟩ (fun r => (∀ c : Dev Cert.KernelGlaDxIdeal.nD,
      r.2.mem ((c.tc : Thread Cert.KernelGlaDxIdeal.nD Cert.KernelGlaDxIdeal.τ).loc Cert.KernelGlaDxIdeal.main_arg0) = m ((c.tc : Thread Cert.KernelGlaDxIdeal.nD Cert.KernelGlaDxIdeal.τ).loc Cert.KernelGlaDxIdeal.main_arg0)
      ∧ r.2.mem ((c.tc : Thread Cert.KernelGlaDxIdeal.nD Cert.KernelGlaDxIdeal.τ).loc Cert.KernelGlaDxIdeal.main_arg1) = m ((c.tc : Thread Cert.KernelGlaDxIdeal.nD Cert.KernelGlaDxIdeal.τ).loc Cert.KernelGlaDxIdeal.main_arg1)
      ∧ r.2.mem ((c.tc : Thread Cert.KernelGlaDxIdeal.nD Cert.KernelGlaDxIdeal.τ).loc Cert.KernelGlaDxIdeal.main_arg2) = m ((c.tc : Thread Cert.KernelGlaDxIdeal.nD Cert.KernelGlaDxIdeal.τ).loc Cert.KernelGlaDxIdeal.main_arg2))
      ∧ r.2.sem = fun _ => 0)

def quiescent_ReferenceGlaDxIdeal [hReferenceGlaDxIdeal : Cert.ReferenceGlaDxIdeal.Facts] : Prop :=
  ∀ (m : (ℓ : Loc Cert.ReferenceGlaDxIdeal.nD Cert.ReferenceGlaDxIdeal.τ Cert.ReferenceGlaDxIdeal.sig) → Buf (Elt Ideal) ℓ) (g : Dev Cert.ReferenceGlaDxIdeal.nD → PrngReg), Pre_ReferenceGlaDxIdeal m →
    θ_run (Cert.ReferenceGlaDxIdeal.defs (F := Ideal)) (onTc (τ := Cert.ReferenceGlaDxIdeal.τ) (Cert.ReferenceGlaDxIdeal.main (F := Ideal))) ⟨m, fun _ => 0, g⟩ (fun r => (∀ c : Dev Cert.ReferenceGlaDxIdeal.nD,
      r.2.mem ((c.tc : Thread Cert.ReferenceGlaDxIdeal.nD Cert.ReferenceGlaDxIdeal.τ).loc Cert.ReferenceGlaDxIdeal.main_arg0) = m ((c.tc : Thread Cert.ReferenceGlaDxIdeal.nD Cert.ReferenceGlaDxIdeal.τ).loc Cert.ReferenceGlaDxIdeal.main_arg0)
      ∧ r.2.mem ((c.tc : Thread Cert.ReferenceGlaDxIdeal.nD Cert.ReferenceGlaDxIdeal.τ).loc Cert.ReferenceGlaDxIdeal.main_arg1) = m ((c.tc : Thread Cert.ReferenceGlaDxIdeal.nD Cert.ReferenceGlaDxIdeal.τ).loc Cert.ReferenceGlaDxIdeal.main_arg1)
      ∧ r.2.mem ((c.tc : Thread Cert.ReferenceGlaDxIdeal.nD Cert.ReferenceGlaDxIdeal.τ).loc Cert.ReferenceGlaDxIdeal.main_arg2) = m ((c.tc : Thread Cert.ReferenceGlaDxIdeal.nD Cert.ReferenceGlaDxIdeal.τ).loc Cert.ReferenceGlaDxIdeal.main_arg2))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelOutDy [hKernelOutDy : Cert.KernelOutDy.Facts] : Prop :=
  ∀ (m : (ℓ : Loc Cert.KernelOutDy.nD Cert.KernelOutDy.τ Cert.KernelOutDy.sig) → Buf (Elt Bits) ℓ) (g : Dev Cert.KernelOutDy.nD → PrngReg), Pre_KernelOutDy m →
    θ_run (Cert.KernelOutDy.defs (F := Bits)) (onTc (τ := Cert.KernelOutDy.τ) (Cert.KernelOutDy.main (F := Bits))) ⟨m, fun _ => 0, g⟩ (fun r => (∀ c : Dev Cert.KernelOutDy.nD,
      r.2.mem ((c.tc : Thread Cert.KernelOutDy.nD Cert.KernelOutDy.τ).loc Cert.KernelOutDy.main_arg0) = m ((c.tc : Thread Cert.KernelOutDy.nD Cert.KernelOutDy.τ).loc Cert.KernelOutDy.main_arg0)
      ∧ r.2.mem ((c.tc : Thread Cert.KernelOutDy.nD Cert.KernelOutDy.τ).loc Cert.KernelOutDy.main_arg1) = m ((c.tc : Thread Cert.KernelOutDy.nD Cert.KernelOutDy.τ).loc Cert.KernelOutDy.main_arg1))
      ∧ r.2.sem = fun _ => 0)

def quiescent_KernelOutDyIdeal [hKernelOutDyIdeal : Cert.KernelOutDyIdeal.Facts] : Prop :=
  ∀ (m : (ℓ : Loc Cert.KernelOutDyIdeal.nD Cert.KernelOutDyIdeal.τ Cert.KernelOutDyIdeal.sig) → Buf (Elt Ideal) ℓ) (g : Dev Cert.KernelOutDyIdeal.nD → PrngReg), Pre_KernelOutDyIdeal m →
    θ_run (Cert.KernelOutDyIdeal.defs (F := Ideal)) (onTc (τ := Cert.KernelOutDyIdeal.τ) (Cert.KernelOutDyIdeal.main (F := Ideal))) ⟨m, fun _ => 0, g⟩ (fun r => (∀ c : Dev Cert.KernelOutDyIdeal.nD,
      r.2.mem ((c.tc : Thread Cert.KernelOutDyIdeal.nD Cert.KernelOutDyIdeal.τ).loc Cert.KernelOutDyIdeal.main_arg0) = m ((c.tc : Thread Cert.KernelOutDyIdeal.nD Cert.KernelOutDyIdeal.τ).loc Cert.KernelOutDyIdeal.main_arg0)
      ∧ r.2.mem ((c.tc : Thread Cert.KernelOutDyIdeal.nD Cert.KernelOutDyIdeal.τ).loc Cert.KernelOutDyIdeal.main_arg1) = m ((c.tc : Thread Cert.KernelOutDyIdeal.nD Cert.KernelOutDyIdeal.τ).loc Cert.KernelOutDyIdeal.main_arg1))
      ∧ r.2.sem = fun _ => 0)

def quiescent_ReferenceOutDyIdeal [hReferenceOutDyIdeal : Cert.ReferenceOutDyIdeal.Facts] : Prop :=
  ∀ (m : (ℓ : Loc Cert.ReferenceOutDyIdeal.nD Cert.ReferenceOutDyIdeal.τ Cert.ReferenceOutDyIdeal.sig) → Buf (Elt Ideal) ℓ) (g : Dev Cert.ReferenceOutDyIdeal.nD → PrngReg), Pre_ReferenceOutDyIdeal m →
    θ_run (Cert.ReferenceOutDyIdeal.defs (F := Ideal)) (onTc (τ := Cert.ReferenceOutDyIdeal.τ) (Cert.ReferenceOutDyIdeal.main (F := Ideal))) ⟨m, fun _ => 0, g⟩ (fun r => (∀ c : Dev Cert.ReferenceOutDyIdeal.nD,
      r.2.mem ((c.tc : Thread Cert.ReferenceOutDyIdeal.nD Cert.ReferenceOutDyIdeal.τ).loc Cert.ReferenceOutDyIdeal.main_arg0) = m ((c.tc : Thread Cert.ReferenceOutDyIdeal.nD Cert.ReferenceOutDyIdeal.τ).loc Cert.ReferenceOutDyIdeal.main_arg0)
      ∧ r.2.mem ((c.tc : Thread Cert.ReferenceOutDyIdeal.nD Cert.ReferenceOutDyIdeal.τ).loc Cert.ReferenceOutDyIdeal.main_arg1) = m ((c.tc : Thread Cert.ReferenceOutDyIdeal.nD Cert.ReferenceOutDyIdeal.τ).loc Cert.ReferenceOutDyIdeal.main_arg1))
      ∧ r.2.sem = fun _ => 0)

def quiescent_KernelGateDw [hKernelGateDw : Cert.KernelGateDw.Facts] : Prop :=
  ∀ (m : (ℓ : Loc Cert.KernelGateDw.nD Cert.KernelGateDw.τ Cert.KernelGateDw.sig) → Buf (Elt Bits) ℓ) (g : Dev Cert.KernelGateDw.nD → PrngReg), Pre_KernelGateDw m →
    θ_run (Cert.KernelGateDw.defs (F := Bits)) (onTc (τ := Cert.KernelGateDw.τ) (Cert.KernelGateDw.main (F := Bits))) ⟨m, fun _ => 0, g⟩ (fun r => (∀ c : Dev Cert.KernelGateDw.nD,
      r.2.mem ((c.tc : Thread Cert.KernelGateDw.nD Cert.KernelGateDw.τ).loc Cert.KernelGateDw.main_arg0) = m ((c.tc : Thread Cert.KernelGateDw.nD Cert.KernelGateDw.τ).loc Cert.KernelGateDw.main_arg0)
      ∧ r.2.mem ((c.tc : Thread Cert.KernelGateDw.nD Cert.KernelGateDw.τ).loc Cert.KernelGateDw.main_arg1) = m ((c.tc : Thread Cert.KernelGateDw.nD Cert.KernelGateDw.τ).loc Cert.KernelGateDw.main_arg1))
      ∧ r.2.sem = fun _ => 0)

def quiescent_KernelGateDwIdeal [hKernelGateDwIdeal : Cert.KernelGateDwIdeal.Facts] : Prop :=
  ∀ (m : (ℓ : Loc Cert.KernelGateDwIdeal.nD Cert.KernelGateDwIdeal.τ Cert.KernelGateDwIdeal.sig) → Buf (Elt Ideal) ℓ) (g : Dev Cert.KernelGateDwIdeal.nD → PrngReg), Pre_KernelGateDwIdeal m →
    θ_run (Cert.KernelGateDwIdeal.defs (F := Ideal)) (onTc (τ := Cert.KernelGateDwIdeal.τ) (Cert.KernelGateDwIdeal.main (F := Ideal))) ⟨m, fun _ => 0, g⟩ (fun r => (∀ c : Dev Cert.KernelGateDwIdeal.nD,
      r.2.mem ((c.tc : Thread Cert.KernelGateDwIdeal.nD Cert.KernelGateDwIdeal.τ).loc Cert.KernelGateDwIdeal.main_arg0) = m ((c.tc : Thread Cert.KernelGateDwIdeal.nD Cert.KernelGateDwIdeal.τ).loc Cert.KernelGateDwIdeal.main_arg0)
      ∧ r.2.mem ((c.tc : Thread Cert.KernelGateDwIdeal.nD Cert.KernelGateDwIdeal.τ).loc Cert.KernelGateDwIdeal.main_arg1) = m ((c.tc : Thread Cert.KernelGateDwIdeal.nD Cert.KernelGateDwIdeal.τ).loc Cert.KernelGateDwIdeal.main_arg1))
      ∧ r.2.sem = fun _ => 0)

def quiescent_ReferenceGateDwIdeal [hReferenceGateDwIdeal : Cert.ReferenceGateDwIdeal.Facts] : Prop :=
  ∀ (m : (ℓ : Loc Cert.ReferenceGateDwIdeal.nD Cert.ReferenceGateDwIdeal.τ Cert.ReferenceGateDwIdeal.sig) → Buf (Elt Ideal) ℓ) (g : Dev Cert.ReferenceGateDwIdeal.nD → PrngReg), Pre_ReferenceGateDwIdeal m →
    θ_run (Cert.ReferenceGateDwIdeal.defs (F := Ideal)) (onTc (τ := Cert.ReferenceGateDwIdeal.τ) (Cert.ReferenceGateDwIdeal.main (F := Ideal))) ⟨m, fun _ => 0, g⟩ (fun r => (∀ c : Dev Cert.ReferenceGateDwIdeal.nD,
      r.2.mem ((c.tc : Thread Cert.ReferenceGateDwIdeal.nD Cert.ReferenceGateDwIdeal.τ).loc Cert.ReferenceGateDwIdeal.main_arg0) = m ((c.tc : Thread Cert.ReferenceGateDwIdeal.nD Cert.ReferenceGateDwIdeal.τ).loc Cert.ReferenceGateDwIdeal.main_arg0)
      ∧ r.2.mem ((c.tc : Thread Cert.ReferenceGateDwIdeal.nD Cert.ReferenceGateDwIdeal.τ).loc Cert.ReferenceGateDwIdeal.main_arg1) = m ((c.tc : Thread Cert.ReferenceGateDwIdeal.nD Cert.ReferenceGateDwIdeal.τ).loc Cert.ReferenceGateDwIdeal.main_arg1))
      ∧ r.2.sem = fun _ => 0)

def quiescent_KernelGateDx [hKernelGateDx : Cert.KernelGateDx.Facts] : Prop :=
  ∀ (m : (ℓ : Loc Cert.KernelGateDx.nD Cert.KernelGateDx.τ Cert.KernelGateDx.sig) → Buf (Elt Bits) ℓ) (g : Dev Cert.KernelGateDx.nD → PrngReg), Pre_KernelGateDx m →
    θ_run (Cert.KernelGateDx.defs (F := Bits)) (onTc (τ := Cert.KernelGateDx.τ) (Cert.KernelGateDx.main (F := Bits))) ⟨m, fun _ => 0, g⟩ (fun r => (∀ c : Dev Cert.KernelGateDx.nD,
      r.2.mem ((c.tc : Thread Cert.KernelGateDx.nD Cert.KernelGateDx.τ).loc Cert.KernelGateDx.main_arg0) = m ((c.tc : Thread Cert.KernelGateDx.nD Cert.KernelGateDx.τ).loc Cert.KernelGateDx.main_arg0)
      ∧ r.2.mem ((c.tc : Thread Cert.KernelGateDx.nD Cert.KernelGateDx.τ).loc Cert.KernelGateDx.main_arg1) = m ((c.tc : Thread Cert.KernelGateDx.nD Cert.KernelGateDx.τ).loc Cert.KernelGateDx.main_arg1)
      ∧ r.2.mem ((c.tc : Thread Cert.KernelGateDx.nD Cert.KernelGateDx.τ).loc Cert.KernelGateDx.main_arg2) = m ((c.tc : Thread Cert.KernelGateDx.nD Cert.KernelGateDx.τ).loc Cert.KernelGateDx.main_arg2))
      ∧ r.2.sem = fun _ => 0)

def quiescent_KernelGateDxIdeal [hKernelGateDxIdeal : Cert.KernelGateDxIdeal.Facts] : Prop :=
  ∀ (m : (ℓ : Loc Cert.KernelGateDxIdeal.nD Cert.KernelGateDxIdeal.τ Cert.KernelGateDxIdeal.sig) → Buf (Elt Ideal) ℓ) (g : Dev Cert.KernelGateDxIdeal.nD → PrngReg), Pre_KernelGateDxIdeal m →
    θ_run (Cert.KernelGateDxIdeal.defs (F := Ideal)) (onTc (τ := Cert.KernelGateDxIdeal.τ) (Cert.KernelGateDxIdeal.main (F := Ideal))) ⟨m, fun _ => 0, g⟩ (fun r => (∀ c : Dev Cert.KernelGateDxIdeal.nD,
      r.2.mem ((c.tc : Thread Cert.KernelGateDxIdeal.nD Cert.KernelGateDxIdeal.τ).loc Cert.KernelGateDxIdeal.main_arg0) = m ((c.tc : Thread Cert.KernelGateDxIdeal.nD Cert.KernelGateDxIdeal.τ).loc Cert.KernelGateDxIdeal.main_arg0)
      ∧ r.2.mem ((c.tc : Thread Cert.KernelGateDxIdeal.nD Cert.KernelGateDxIdeal.τ).loc Cert.KernelGateDxIdeal.main_arg1) = m ((c.tc : Thread Cert.KernelGateDxIdeal.nD Cert.KernelGateDxIdeal.τ).loc Cert.KernelGateDxIdeal.main_arg1)
      ∧ r.2.mem ((c.tc : Thread Cert.KernelGateDxIdeal.nD Cert.KernelGateDxIdeal.τ).loc Cert.KernelGateDxIdeal.main_arg2) = m ((c.tc : Thread Cert.KernelGateDxIdeal.nD Cert.KernelGateDxIdeal.τ).loc Cert.KernelGateDxIdeal.main_arg2))
      ∧ r.2.sem = fun _ => 0)

def quiescent_ReferenceGateDxIdeal [hReferenceGateDxIdeal : Cert.ReferenceGateDxIdeal.Facts] : Prop :=
  ∀ (m : (ℓ : Loc Cert.ReferenceGateDxIdeal.nD Cert.ReferenceGateDxIdeal.τ Cert.ReferenceGateDxIdeal.sig) → Buf (Elt Ideal) ℓ) (g : Dev Cert.ReferenceGateDxIdeal.nD → PrngReg), Pre_ReferenceGateDxIdeal m →
    θ_run (Cert.ReferenceGateDxIdeal.defs (F := Ideal)) (onTc (τ := Cert.ReferenceGateDxIdeal.τ) (Cert.ReferenceGateDxIdeal.main (F := Ideal))) ⟨m, fun _ => 0, g⟩ (fun r => (∀ c : Dev Cert.ReferenceGateDxIdeal.nD,
      r.2.mem ((c.tc : Thread Cert.ReferenceGateDxIdeal.nD Cert.ReferenceGateDxIdeal.τ).loc Cert.ReferenceGateDxIdeal.main_arg0) = m ((c.tc : Thread Cert.ReferenceGateDxIdeal.nD Cert.ReferenceGateDxIdeal.τ).loc Cert.ReferenceGateDxIdeal.main_arg0)
      ∧ r.2.mem ((c.tc : Thread Cert.ReferenceGateDxIdeal.nD Cert.ReferenceGateDxIdeal.τ).loc Cert.ReferenceGateDxIdeal.main_arg1) = m ((c.tc : Thread Cert.ReferenceGateDxIdeal.nD Cert.ReferenceGateDxIdeal.τ).loc Cert.ReferenceGateDxIdeal.main_arg1)
      ∧ r.2.mem ((c.tc : Thread Cert.ReferenceGateDxIdeal.nD Cert.ReferenceGateDxIdeal.τ).loc Cert.ReferenceGateDxIdeal.main_arg2) = m ((c.tc : Thread Cert.ReferenceGateDxIdeal.nD Cert.ReferenceGateDxIdeal.τ).loc Cert.ReferenceGateDxIdeal.main_arg2))
      ∧ r.2.sem = fun _ => 0)

def quiescent_KernelGateDw2 [hKernelGateDw2 : Cert.KernelGateDw2.Facts] : Prop :=
  ∀ (m : (ℓ : Loc Cert.KernelGateDw2.nD Cert.KernelGateDw2.τ Cert.KernelGateDw2.sig) → Buf (Elt Bits) ℓ) (g : Dev Cert.KernelGateDw2.nD → PrngReg), Pre_KernelGateDw2 m →
    θ_run (Cert.KernelGateDw2.defs (F := Bits)) (onTc (τ := Cert.KernelGateDw2.τ) (Cert.KernelGateDw2.main (F := Bits))) ⟨m, fun _ => 0, g⟩ (fun r => (∀ c : Dev Cert.KernelGateDw2.nD,
      r.2.mem ((c.tc : Thread Cert.KernelGateDw2.nD Cert.KernelGateDw2.τ).loc Cert.KernelGateDw2.main_arg0) = m ((c.tc : Thread Cert.KernelGateDw2.nD Cert.KernelGateDw2.τ).loc Cert.KernelGateDw2.main_arg0)
      ∧ r.2.mem ((c.tc : Thread Cert.KernelGateDw2.nD Cert.KernelGateDw2.τ).loc Cert.KernelGateDw2.main_arg1) = m ((c.tc : Thread Cert.KernelGateDw2.nD Cert.KernelGateDw2.τ).loc Cert.KernelGateDw2.main_arg1))
      ∧ r.2.sem = fun _ => 0)

def quiescent_KernelGateDw2Ideal [hKernelGateDw2Ideal : Cert.KernelGateDw2Ideal.Facts] : Prop :=
  ∀ (m : (ℓ : Loc Cert.KernelGateDw2Ideal.nD Cert.KernelGateDw2Ideal.τ Cert.KernelGateDw2Ideal.sig) → Buf (Elt Ideal) ℓ) (g : Dev Cert.KernelGateDw2Ideal.nD → PrngReg), Pre_KernelGateDw2Ideal m →
    θ_run (Cert.KernelGateDw2Ideal.defs (F := Ideal)) (onTc (τ := Cert.KernelGateDw2Ideal.τ) (Cert.KernelGateDw2Ideal.main (F := Ideal))) ⟨m, fun _ => 0, g⟩ (fun r => (∀ c : Dev Cert.KernelGateDw2Ideal.nD,
      r.2.mem ((c.tc : Thread Cert.KernelGateDw2Ideal.nD Cert.KernelGateDw2Ideal.τ).loc Cert.KernelGateDw2Ideal.main_arg0) = m ((c.tc : Thread Cert.KernelGateDw2Ideal.nD Cert.KernelGateDw2Ideal.τ).loc Cert.KernelGateDw2Ideal.main_arg0)
      ∧ r.2.mem ((c.tc : Thread Cert.KernelGateDw2Ideal.nD Cert.KernelGateDw2Ideal.τ).loc Cert.KernelGateDw2Ideal.main_arg1) = m ((c.tc : Thread Cert.KernelGateDw2Ideal.nD Cert.KernelGateDw2Ideal.τ).loc Cert.KernelGateDw2Ideal.main_arg1))
      ∧ r.2.sem = fun _ => 0)

def quiescent_ReferenceGateDw2Ideal [hReferenceGateDw2Ideal : Cert.ReferenceGateDw2Ideal.Facts] : Prop :=
  ∀ (m : (ℓ : Loc Cert.ReferenceGateDw2Ideal.nD Cert.ReferenceGateDw2Ideal.τ Cert.ReferenceGateDw2Ideal.sig) → Buf (Elt Ideal) ℓ) (g : Dev Cert.ReferenceGateDw2Ideal.nD → PrngReg), Pre_ReferenceGateDw2Ideal m →
    θ_run (Cert.ReferenceGateDw2Ideal.defs (F := Ideal)) (onTc (τ := Cert.ReferenceGateDw2Ideal.τ) (Cert.ReferenceGateDw2Ideal.main (F := Ideal))) ⟨m, fun _ => 0, g⟩ (fun r => (∀ c : Dev Cert.ReferenceGateDw2Ideal.nD,
      r.2.mem ((c.tc : Thread Cert.ReferenceGateDw2Ideal.nD Cert.ReferenceGateDw2Ideal.τ).loc Cert.ReferenceGateDw2Ideal.main_arg0) = m ((c.tc : Thread Cert.ReferenceGateDw2Ideal.nD Cert.ReferenceGateDw2Ideal.τ).loc Cert.ReferenceGateDw2Ideal.main_arg0)
      ∧ r.2.mem ((c.tc : Thread Cert.ReferenceGateDw2Ideal.nD Cert.ReferenceGateDw2Ideal.τ).loc Cert.ReferenceGateDw2Ideal.main_arg1) = m ((c.tc : Thread Cert.ReferenceGateDw2Ideal.nD Cert.ReferenceGateDw2Ideal.τ).loc Cert.ReferenceGateDw2Ideal.main_arg1))
      ∧ r.2.sem = fun _ => 0)

def quiescent_KernelMlpUp [hKernelMlpUp : Cert.KernelMlpUp.Facts] : Prop :=
  ∀ (m : (ℓ : Loc Cert.KernelMlpUp.nD Cert.KernelMlpUp.τ Cert.KernelMlpUp.sig) → Buf (Elt Bits) ℓ) (g : Dev Cert.KernelMlpUp.nD → PrngReg), Pre_KernelMlpUp m →
    θ_run (Cert.KernelMlpUp.defs (F := Bits)) (onTc (τ := Cert.KernelMlpUp.τ) (Cert.KernelMlpUp.main (F := Bits))) ⟨m, fun _ => 0, g⟩ (fun r => (∀ c : Dev Cert.KernelMlpUp.nD,
      r.2.mem ((c.tc : Thread Cert.KernelMlpUp.nD Cert.KernelMlpUp.τ).loc Cert.KernelMlpUp.main_arg0) = m ((c.tc : Thread Cert.KernelMlpUp.nD Cert.KernelMlpUp.τ).loc Cert.KernelMlpUp.main_arg0)
      ∧ r.2.mem ((c.tc : Thread Cert.KernelMlpUp.nD Cert.KernelMlpUp.τ).loc Cert.KernelMlpUp.main_arg1) = m ((c.tc : Thread Cert.KernelMlpUp.nD Cert.KernelMlpUp.τ).loc Cert.KernelMlpUp.main_arg1))
      ∧ r.2.sem = fun _ => 0)

def quiescent_KernelMlpUpIdeal [hKernelMlpUpIdeal : Cert.KernelMlpUpIdeal.Facts] : Prop :=
  ∀ (m : (ℓ : Loc Cert.KernelMlpUpIdeal.nD Cert.KernelMlpUpIdeal.τ Cert.KernelMlpUpIdeal.sig) → Buf (Elt Ideal) ℓ) (g : Dev Cert.KernelMlpUpIdeal.nD → PrngReg), Pre_KernelMlpUpIdeal m →
    θ_run (Cert.KernelMlpUpIdeal.defs (F := Ideal)) (onTc (τ := Cert.KernelMlpUpIdeal.τ) (Cert.KernelMlpUpIdeal.main (F := Ideal))) ⟨m, fun _ => 0, g⟩ (fun r => (∀ c : Dev Cert.KernelMlpUpIdeal.nD,
      r.2.mem ((c.tc : Thread Cert.KernelMlpUpIdeal.nD Cert.KernelMlpUpIdeal.τ).loc Cert.KernelMlpUpIdeal.main_arg0) = m ((c.tc : Thread Cert.KernelMlpUpIdeal.nD Cert.KernelMlpUpIdeal.τ).loc Cert.KernelMlpUpIdeal.main_arg0)
      ∧ r.2.mem ((c.tc : Thread Cert.KernelMlpUpIdeal.nD Cert.KernelMlpUpIdeal.τ).loc Cert.KernelMlpUpIdeal.main_arg1) = m ((c.tc : Thread Cert.KernelMlpUpIdeal.nD Cert.KernelMlpUpIdeal.τ).loc Cert.KernelMlpUpIdeal.main_arg1))
      ∧ r.2.sem = fun _ => 0)

def quiescent_ReferenceMlpUpIdeal [hReferenceMlpUpIdeal : Cert.ReferenceMlpUpIdeal.Facts] : Prop :=
  ∀ (m : (ℓ : Loc Cert.ReferenceMlpUpIdeal.nD Cert.ReferenceMlpUpIdeal.τ Cert.ReferenceMlpUpIdeal.sig) → Buf (Elt Ideal) ℓ) (g : Dev Cert.ReferenceMlpUpIdeal.nD → PrngReg), Pre_ReferenceMlpUpIdeal m →
    θ_run (Cert.ReferenceMlpUpIdeal.defs (F := Ideal)) (onTc (τ := Cert.ReferenceMlpUpIdeal.τ) (Cert.ReferenceMlpUpIdeal.main (F := Ideal))) ⟨m, fun _ => 0, g⟩ (fun r => (∀ c : Dev Cert.ReferenceMlpUpIdeal.nD,
      r.2.mem ((c.tc : Thread Cert.ReferenceMlpUpIdeal.nD Cert.ReferenceMlpUpIdeal.τ).loc Cert.ReferenceMlpUpIdeal.main_arg0) = m ((c.tc : Thread Cert.ReferenceMlpUpIdeal.nD Cert.ReferenceMlpUpIdeal.τ).loc Cert.ReferenceMlpUpIdeal.main_arg0)
      ∧ r.2.mem ((c.tc : Thread Cert.ReferenceMlpUpIdeal.nD Cert.ReferenceMlpUpIdeal.τ).loc Cert.ReferenceMlpUpIdeal.main_arg1) = m ((c.tc : Thread Cert.ReferenceMlpUpIdeal.nD Cert.ReferenceMlpUpIdeal.τ).loc Cert.ReferenceMlpUpIdeal.main_arg1))
      ∧ r.2.sem = fun _ => 0)

def quiescent_KernelMlpDown [hKernelMlpDown : Cert.KernelMlpDown.Facts] : Prop :=
  ∀ (m : (ℓ : Loc Cert.KernelMlpDown.nD Cert.KernelMlpDown.τ Cert.KernelMlpDown.sig) → Buf (Elt Bits) ℓ) (g : Dev Cert.KernelMlpDown.nD → PrngReg), Pre_KernelMlpDown m →
    θ_run (Cert.KernelMlpDown.defs (F := Bits)) (onTc (τ := Cert.KernelMlpDown.τ) (Cert.KernelMlpDown.main (F := Bits))) ⟨m, fun _ => 0, g⟩ (fun r => (∀ c : Dev Cert.KernelMlpDown.nD,
      r.2.mem ((c.tc : Thread Cert.KernelMlpDown.nD Cert.KernelMlpDown.τ).loc Cert.KernelMlpDown.main_arg0) = m ((c.tc : Thread Cert.KernelMlpDown.nD Cert.KernelMlpDown.τ).loc Cert.KernelMlpDown.main_arg0)
      ∧ r.2.mem ((c.tc : Thread Cert.KernelMlpDown.nD Cert.KernelMlpDown.τ).loc Cert.KernelMlpDown.main_arg1) = m ((c.tc : Thread Cert.KernelMlpDown.nD Cert.KernelMlpDown.τ).loc Cert.KernelMlpDown.main_arg1))
      ∧ r.2.sem = fun _ => 0)

def quiescent_KernelMlpDownIdeal [hKernelMlpDownIdeal : Cert.KernelMlpDownIdeal.Facts] : Prop :=
  ∀ (m : (ℓ : Loc Cert.KernelMlpDownIdeal.nD Cert.KernelMlpDownIdeal.τ Cert.KernelMlpDownIdeal.sig) → Buf (Elt Ideal) ℓ) (g : Dev Cert.KernelMlpDownIdeal.nD → PrngReg), Pre_KernelMlpDownIdeal m →
    θ_run (Cert.KernelMlpDownIdeal.defs (F := Ideal)) (onTc (τ := Cert.KernelMlpDownIdeal.τ) (Cert.KernelMlpDownIdeal.main (F := Ideal))) ⟨m, fun _ => 0, g⟩ (fun r => (∀ c : Dev Cert.KernelMlpDownIdeal.nD,
      r.2.mem ((c.tc : Thread Cert.KernelMlpDownIdeal.nD Cert.KernelMlpDownIdeal.τ).loc Cert.KernelMlpDownIdeal.main_arg0) = m ((c.tc : Thread Cert.KernelMlpDownIdeal.nD Cert.KernelMlpDownIdeal.τ).loc Cert.KernelMlpDownIdeal.main_arg0)
      ∧ r.2.mem ((c.tc : Thread Cert.KernelMlpDownIdeal.nD Cert.KernelMlpDownIdeal.τ).loc Cert.KernelMlpDownIdeal.main_arg1) = m ((c.tc : Thread Cert.KernelMlpDownIdeal.nD Cert.KernelMlpDownIdeal.τ).loc Cert.KernelMlpDownIdeal.main_arg1))
      ∧ r.2.sem = fun _ => 0)

def quiescent_ReferenceMlpDownIdeal [hReferenceMlpDownIdeal : Cert.ReferenceMlpDownIdeal.Facts] : Prop :=
  ∀ (m : (ℓ : Loc Cert.ReferenceMlpDownIdeal.nD Cert.ReferenceMlpDownIdeal.τ Cert.ReferenceMlpDownIdeal.sig) → Buf (Elt Ideal) ℓ) (g : Dev Cert.ReferenceMlpDownIdeal.nD → PrngReg), Pre_ReferenceMlpDownIdeal m →
    θ_run (Cert.ReferenceMlpDownIdeal.defs (F := Ideal)) (onTc (τ := Cert.ReferenceMlpDownIdeal.τ) (Cert.ReferenceMlpDownIdeal.main (F := Ideal))) ⟨m, fun _ => 0, g⟩ (fun r => (∀ c : Dev Cert.ReferenceMlpDownIdeal.nD,
      r.2.mem ((c.tc : Thread Cert.ReferenceMlpDownIdeal.nD Cert.ReferenceMlpDownIdeal.τ).loc Cert.ReferenceMlpDownIdeal.main_arg0) = m ((c.tc : Thread Cert.ReferenceMlpDownIdeal.nD Cert.ReferenceMlpDownIdeal.τ).loc Cert.ReferenceMlpDownIdeal.main_arg0)
      ∧ r.2.mem ((c.tc : Thread Cert.ReferenceMlpDownIdeal.nD Cert.ReferenceMlpDownIdeal.τ).loc Cert.ReferenceMlpDownIdeal.main_arg1) = m ((c.tc : Thread Cert.ReferenceMlpDownIdeal.nD Cert.ReferenceMlpDownIdeal.τ).loc Cert.ReferenceMlpDownIdeal.main_arg1))
      ∧ r.2.sem = fun _ => 0)

def quiescent_KernelGdnProj [hKernelGdnProj : Cert.KernelGdnProj.Facts] : Prop :=
  ∀ (m : (ℓ : Loc Cert.KernelGdnProj.nD Cert.KernelGdnProj.τ Cert.KernelGdnProj.sig) → Buf (Elt Bits) ℓ) (g : Dev Cert.KernelGdnProj.nD → PrngReg), Pre_KernelGdnProj m →
    θ_run (Cert.KernelGdnProj.defs (F := Bits)) (onTc (τ := Cert.KernelGdnProj.τ) (Cert.KernelGdnProj.main (F := Bits))) ⟨m, fun _ => 0, g⟩ (fun r => (∀ c : Dev Cert.KernelGdnProj.nD,
      r.2.mem ((c.tc : Thread Cert.KernelGdnProj.nD Cert.KernelGdnProj.τ).loc Cert.KernelGdnProj.main_arg0) = m ((c.tc : Thread Cert.KernelGdnProj.nD Cert.KernelGdnProj.τ).loc Cert.KernelGdnProj.main_arg0)
      ∧ r.2.mem ((c.tc : Thread Cert.KernelGdnProj.nD Cert.KernelGdnProj.τ).loc Cert.KernelGdnProj.main_arg1) = m ((c.tc : Thread Cert.KernelGdnProj.nD Cert.KernelGdnProj.τ).loc Cert.KernelGdnProj.main_arg1))
      ∧ r.2.sem = fun _ => 0)

def quiescent_KernelGdnProjIdeal [hKernelGdnProjIdeal : Cert.KernelGdnProjIdeal.Facts] : Prop :=
  ∀ (m : (ℓ : Loc Cert.KernelGdnProjIdeal.nD Cert.KernelGdnProjIdeal.τ Cert.KernelGdnProjIdeal.sig) → Buf (Elt Ideal) ℓ) (g : Dev Cert.KernelGdnProjIdeal.nD → PrngReg), Pre_KernelGdnProjIdeal m →
    θ_run (Cert.KernelGdnProjIdeal.defs (F := Ideal)) (onTc (τ := Cert.KernelGdnProjIdeal.τ) (Cert.KernelGdnProjIdeal.main (F := Ideal))) ⟨m, fun _ => 0, g⟩ (fun r => (∀ c : Dev Cert.KernelGdnProjIdeal.nD,
      r.2.mem ((c.tc : Thread Cert.KernelGdnProjIdeal.nD Cert.KernelGdnProjIdeal.τ).loc Cert.KernelGdnProjIdeal.main_arg0) = m ((c.tc : Thread Cert.KernelGdnProjIdeal.nD Cert.KernelGdnProjIdeal.τ).loc Cert.KernelGdnProjIdeal.main_arg0)
      ∧ r.2.mem ((c.tc : Thread Cert.KernelGdnProjIdeal.nD Cert.KernelGdnProjIdeal.τ).loc Cert.KernelGdnProjIdeal.main_arg1) = m ((c.tc : Thread Cert.KernelGdnProjIdeal.nD Cert.KernelGdnProjIdeal.τ).loc Cert.KernelGdnProjIdeal.main_arg1))
      ∧ r.2.sem = fun _ => 0)

def quiescent_ReferenceGdnProjIdeal [hReferenceGdnProjIdeal : Cert.ReferenceGdnProjIdeal.Facts] : Prop :=
  ∀ (m : (ℓ : Loc Cert.ReferenceGdnProjIdeal.nD Cert.ReferenceGdnProjIdeal.τ Cert.ReferenceGdnProjIdeal.sig) → Buf (Elt Ideal) ℓ) (g : Dev Cert.ReferenceGdnProjIdeal.nD → PrngReg), Pre_ReferenceGdnProjIdeal m →
    θ_run (Cert.ReferenceGdnProjIdeal.defs (F := Ideal)) (onTc (τ := Cert.ReferenceGdnProjIdeal.τ) (Cert.ReferenceGdnProjIdeal.main (F := Ideal))) ⟨m, fun _ => 0, g⟩ (fun r => (∀ c : Dev Cert.ReferenceGdnProjIdeal.nD,
      r.2.mem ((c.tc : Thread Cert.ReferenceGdnProjIdeal.nD Cert.ReferenceGdnProjIdeal.τ).loc Cert.ReferenceGdnProjIdeal.main_arg0) = m ((c.tc : Thread Cert.ReferenceGdnProjIdeal.nD Cert.ReferenceGdnProjIdeal.τ).loc Cert.ReferenceGdnProjIdeal.main_arg0)
      ∧ r.2.mem ((c.tc : Thread Cert.ReferenceGdnProjIdeal.nD Cert.ReferenceGdnProjIdeal.τ).loc Cert.ReferenceGdnProjIdeal.main_arg1) = m ((c.tc : Thread Cert.ReferenceGdnProjIdeal.nD Cert.ReferenceGdnProjIdeal.τ).loc Cert.ReferenceGdnProjIdeal.main_arg1))
      ∧ r.2.sem = fun _ => 0)

def quiescent_KernelGlaProj [hKernelGlaProj : Cert.KernelGlaProj.Facts] : Prop :=
  ∀ (m : (ℓ : Loc Cert.KernelGlaProj.nD Cert.KernelGlaProj.τ Cert.KernelGlaProj.sig) → Buf (Elt Bits) ℓ) (g : Dev Cert.KernelGlaProj.nD → PrngReg), Pre_KernelGlaProj m →
    θ_run (Cert.KernelGlaProj.defs (F := Bits)) (onTc (τ := Cert.KernelGlaProj.τ) (Cert.KernelGlaProj.main (F := Bits))) ⟨m, fun _ => 0, g⟩ (fun r => (∀ c : Dev Cert.KernelGlaProj.nD,
      r.2.mem ((c.tc : Thread Cert.KernelGlaProj.nD Cert.KernelGlaProj.τ).loc Cert.KernelGlaProj.main_arg0) = m ((c.tc : Thread Cert.KernelGlaProj.nD Cert.KernelGlaProj.τ).loc Cert.KernelGlaProj.main_arg0)
      ∧ r.2.mem ((c.tc : Thread Cert.KernelGlaProj.nD Cert.KernelGlaProj.τ).loc Cert.KernelGlaProj.main_arg1) = m ((c.tc : Thread Cert.KernelGlaProj.nD Cert.KernelGlaProj.τ).loc Cert.KernelGlaProj.main_arg1))
      ∧ r.2.sem = fun _ => 0)

def quiescent_KernelGlaProjIdeal [hKernelGlaProjIdeal : Cert.KernelGlaProjIdeal.Facts] : Prop :=
  ∀ (m : (ℓ : Loc Cert.KernelGlaProjIdeal.nD Cert.KernelGlaProjIdeal.τ Cert.KernelGlaProjIdeal.sig) → Buf (Elt Ideal) ℓ) (g : Dev Cert.KernelGlaProjIdeal.nD → PrngReg), Pre_KernelGlaProjIdeal m →
    θ_run (Cert.KernelGlaProjIdeal.defs (F := Ideal)) (onTc (τ := Cert.KernelGlaProjIdeal.τ) (Cert.KernelGlaProjIdeal.main (F := Ideal))) ⟨m, fun _ => 0, g⟩ (fun r => (∀ c : Dev Cert.KernelGlaProjIdeal.nD,
      r.2.mem ((c.tc : Thread Cert.KernelGlaProjIdeal.nD Cert.KernelGlaProjIdeal.τ).loc Cert.KernelGlaProjIdeal.main_arg0) = m ((c.tc : Thread Cert.KernelGlaProjIdeal.nD Cert.KernelGlaProjIdeal.τ).loc Cert.KernelGlaProjIdeal.main_arg0)
      ∧ r.2.mem ((c.tc : Thread Cert.KernelGlaProjIdeal.nD Cert.KernelGlaProjIdeal.τ).loc Cert.KernelGlaProjIdeal.main_arg1) = m ((c.tc : Thread Cert.KernelGlaProjIdeal.nD Cert.KernelGlaProjIdeal.τ).loc Cert.KernelGlaProjIdeal.main_arg1))
      ∧ r.2.sem = fun _ => 0)

def quiescent_ReferenceGlaProjIdeal [hReferenceGlaProjIdeal : Cert.ReferenceGlaProjIdeal.Facts] : Prop :=
  ∀ (m : (ℓ : Loc Cert.ReferenceGlaProjIdeal.nD Cert.ReferenceGlaProjIdeal.τ Cert.ReferenceGlaProjIdeal.sig) → Buf (Elt Ideal) ℓ) (g : Dev Cert.ReferenceGlaProjIdeal.nD → PrngReg), Pre_ReferenceGlaProjIdeal m →
    θ_run (Cert.ReferenceGlaProjIdeal.defs (F := Ideal)) (onTc (τ := Cert.ReferenceGlaProjIdeal.τ) (Cert.ReferenceGlaProjIdeal.main (F := Ideal))) ⟨m, fun _ => 0, g⟩ (fun r => (∀ c : Dev Cert.ReferenceGlaProjIdeal.nD,
      r.2.mem ((c.tc : Thread Cert.ReferenceGlaProjIdeal.nD Cert.ReferenceGlaProjIdeal.τ).loc Cert.ReferenceGlaProjIdeal.main_arg0) = m ((c.tc : Thread Cert.ReferenceGlaProjIdeal.nD Cert.ReferenceGlaProjIdeal.τ).loc Cert.ReferenceGlaProjIdeal.main_arg0)
      ∧ r.2.mem ((c.tc : Thread Cert.ReferenceGlaProjIdeal.nD Cert.ReferenceGlaProjIdeal.τ).loc Cert.ReferenceGlaProjIdeal.main_arg1) = m ((c.tc : Thread Cert.ReferenceGlaProjIdeal.nD Cert.ReferenceGlaProjIdeal.τ).loc Cert.ReferenceGlaProjIdeal.main_arg1))
      ∧ r.2.sem = fun _ => 0)

def quiescent_KernelGateProj [hKernelGateProj : Cert.KernelGateProj.Facts] : Prop :=
  ∀ (m : (ℓ : Loc Cert.KernelGateProj.nD Cert.KernelGateProj.τ Cert.KernelGateProj.sig) → Buf (Elt Bits) ℓ) (g : Dev Cert.KernelGateProj.nD → PrngReg), Pre_KernelGateProj m →
    θ_run (Cert.KernelGateProj.defs (F := Bits)) (onTc (τ := Cert.KernelGateProj.τ) (Cert.KernelGateProj.main (F := Bits))) ⟨m, fun _ => 0, g⟩ (fun r => (∀ c : Dev Cert.KernelGateProj.nD,
      r.2.mem ((c.tc : Thread Cert.KernelGateProj.nD Cert.KernelGateProj.τ).loc Cert.KernelGateProj.main_arg0) = m ((c.tc : Thread Cert.KernelGateProj.nD Cert.KernelGateProj.τ).loc Cert.KernelGateProj.main_arg0)
      ∧ r.2.mem ((c.tc : Thread Cert.KernelGateProj.nD Cert.KernelGateProj.τ).loc Cert.KernelGateProj.main_arg1) = m ((c.tc : Thread Cert.KernelGateProj.nD Cert.KernelGateProj.τ).loc Cert.KernelGateProj.main_arg1))
      ∧ r.2.sem = fun _ => 0)

def quiescent_KernelGateProjIdeal [hKernelGateProjIdeal : Cert.KernelGateProjIdeal.Facts] : Prop :=
  ∀ (m : (ℓ : Loc Cert.KernelGateProjIdeal.nD Cert.KernelGateProjIdeal.τ Cert.KernelGateProjIdeal.sig) → Buf (Elt Ideal) ℓ) (g : Dev Cert.KernelGateProjIdeal.nD → PrngReg), Pre_KernelGateProjIdeal m →
    θ_run (Cert.KernelGateProjIdeal.defs (F := Ideal)) (onTc (τ := Cert.KernelGateProjIdeal.τ) (Cert.KernelGateProjIdeal.main (F := Ideal))) ⟨m, fun _ => 0, g⟩ (fun r => (∀ c : Dev Cert.KernelGateProjIdeal.nD,
      r.2.mem ((c.tc : Thread Cert.KernelGateProjIdeal.nD Cert.KernelGateProjIdeal.τ).loc Cert.KernelGateProjIdeal.main_arg0) = m ((c.tc : Thread Cert.KernelGateProjIdeal.nD Cert.KernelGateProjIdeal.τ).loc Cert.KernelGateProjIdeal.main_arg0)
      ∧ r.2.mem ((c.tc : Thread Cert.KernelGateProjIdeal.nD Cert.KernelGateProjIdeal.τ).loc Cert.KernelGateProjIdeal.main_arg1) = m ((c.tc : Thread Cert.KernelGateProjIdeal.nD Cert.KernelGateProjIdeal.τ).loc Cert.KernelGateProjIdeal.main_arg1))
      ∧ r.2.sem = fun _ => 0)

def quiescent_ReferenceGateProjIdeal [hReferenceGateProjIdeal : Cert.ReferenceGateProjIdeal.Facts] : Prop :=
  ∀ (m : (ℓ : Loc Cert.ReferenceGateProjIdeal.nD Cert.ReferenceGateProjIdeal.τ Cert.ReferenceGateProjIdeal.sig) → Buf (Elt Ideal) ℓ) (g : Dev Cert.ReferenceGateProjIdeal.nD → PrngReg), Pre_ReferenceGateProjIdeal m →
    θ_run (Cert.ReferenceGateProjIdeal.defs (F := Ideal)) (onTc (τ := Cert.ReferenceGateProjIdeal.τ) (Cert.ReferenceGateProjIdeal.main (F := Ideal))) ⟨m, fun _ => 0, g⟩ (fun r => (∀ c : Dev Cert.ReferenceGateProjIdeal.nD,
      r.2.mem ((c.tc : Thread Cert.ReferenceGateProjIdeal.nD Cert.ReferenceGateProjIdeal.τ).loc Cert.ReferenceGateProjIdeal.main_arg0) = m ((c.tc : Thread Cert.ReferenceGateProjIdeal.nD Cert.ReferenceGateProjIdeal.τ).loc Cert.ReferenceGateProjIdeal.main_arg0)
      ∧ r.2.mem ((c.tc : Thread Cert.ReferenceGateProjIdeal.nD Cert.ReferenceGateProjIdeal.τ).loc Cert.ReferenceGateProjIdeal.main_arg1) = m ((c.tc : Thread Cert.ReferenceGateProjIdeal.nD Cert.ReferenceGateProjIdeal.τ).loc Cert.ReferenceGateProjIdeal.main_arg1))
      ∧ r.2.sem = fun _ => 0)

def quiescent_KernelOutProj [hKernelOutProj : Cert.KernelOutProj.Facts] : Prop :=
  ∀ (m : (ℓ : Loc Cert.KernelOutProj.nD Cert.KernelOutProj.τ Cert.KernelOutProj.sig) → Buf (Elt Bits) ℓ) (g : Dev Cert.KernelOutProj.nD → PrngReg), Pre_KernelOutProj m →
    θ_run (Cert.KernelOutProj.defs (F := Bits)) (onTc (τ := Cert.KernelOutProj.τ) (Cert.KernelOutProj.main (F := Bits))) ⟨m, fun _ => 0, g⟩ (fun r => (∀ c : Dev Cert.KernelOutProj.nD,
      r.2.mem ((c.tc : Thread Cert.KernelOutProj.nD Cert.KernelOutProj.τ).loc Cert.KernelOutProj.main_arg0) = m ((c.tc : Thread Cert.KernelOutProj.nD Cert.KernelOutProj.τ).loc Cert.KernelOutProj.main_arg0)
      ∧ r.2.mem ((c.tc : Thread Cert.KernelOutProj.nD Cert.KernelOutProj.τ).loc Cert.KernelOutProj.main_arg1) = m ((c.tc : Thread Cert.KernelOutProj.nD Cert.KernelOutProj.τ).loc Cert.KernelOutProj.main_arg1))
      ∧ r.2.sem = fun _ => 0)

def quiescent_KernelOutProjIdeal [hKernelOutProjIdeal : Cert.KernelOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1))
      ∧ r.2.sem = fun _ => 0)

def quiescent_ReferenceOutProjIdeal [hReferenceOutProjIdeal : Cert.ReferenceOutProjIdeal.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1))
      ∧ r.2.sem = fun _ => 0)

def quiescent_KernelAdamwMlpW1 [hKernelAdamwMlpW1 : Cert.KernelAdamwMlpW1.Facts] : Prop :=
  ∀ (m : (ℓ : Loc Cert.KernelAdamwMlpW1.nD Cert.KernelAdamwMlpW1.τ Cert.KernelAdamwMlpW1.sig) → Buf (Elt Bits) ℓ) (g : Dev Cert.KernelAdamwMlpW1.nD → PrngReg), Pre_KernelAdamwMlpW1 m →
    θ_run (Cert.KernelAdamwMlpW1.defs (F := Bits)) (onTc (τ := Cert.KernelAdamwMlpW1.τ) (Cert.KernelAdamwMlpW1.main (F := Bits))) ⟨m, fun _ => 0, g⟩ (fun r => (∀ c : Dev Cert.KernelAdamwMlpW1.nD,
      r.2.mem ((c.tc : Thread Cert.KernelAdamwMlpW1.nD Cert.KernelAdamwMlpW1.τ).loc Cert.KernelAdamwMlpW1.main_arg0) = m ((c.tc : Thread Cert.KernelAdamwMlpW1.nD Cert.KernelAdamwMlpW1.τ).loc Cert.KernelAdamwMlpW1.main_arg0)
      ∧ r.2.mem ((c.tc : Thread Cert.KernelAdamwMlpW1.nD Cert.KernelAdamwMlpW1.τ).loc Cert.KernelAdamwMlpW1.main_arg1) = m ((c.tc : Thread Cert.KernelAdamwMlpW1.nD Cert.KernelAdamwMlpW1.τ).loc Cert.KernelAdamwMlpW1.main_arg1)
      ∧ r.2.mem ((c.tc : Thread Cert.KernelAdamwMlpW1.nD Cert.KernelAdamwMlpW1.τ).loc Cert.KernelAdamwMlpW1.main_arg2) = m ((c.tc : Thread Cert.KernelAdamwMlpW1.nD Cert.KernelAdamwMlpW1.τ).loc Cert.KernelAdamwMlpW1.main_arg2)
      ∧ r.2.mem ((c.tc : Thread Cert.KernelAdamwMlpW1.nD Cert.KernelAdamwMlpW1.τ).loc Cert.KernelAdamwMlpW1.main_arg3) = m ((c.tc : Thread Cert.KernelAdamwMlpW1.nD Cert.KernelAdamwMlpW1.τ).loc Cert.KernelAdamwMlpW1.main_arg3))
      ∧ r.2.sem = fun _ => 0)

def quiescent_KernelAdamwMlpW1Ideal [hKernelAdamwMlpW1Ideal : Cert.KernelAdamwMlpW1Ideal.Facts] : Prop :=
  ∀ (m : (ℓ : Loc Cert.KernelAdamwMlpW1Ideal.nD Cert.KernelAdamwMlpW1Ideal.τ Cert.KernelAdamwMlpW1Ideal.sig) → Buf (Elt Ideal) ℓ) (g : Dev Cert.KernelAdamwMlpW1Ideal.nD → PrngReg), Pre_KernelAdamwMlpW1Ideal m →
    θ_run (Cert.KernelAdamwMlpW1Ideal.defs (F := Ideal)) (onTc (τ := Cert.KernelAdamwMlpW1Ideal.τ) (Cert.KernelAdamwMlpW1Ideal.main (F := Ideal))) ⟨m, fun _ => 0, g⟩ (fun r => (∀ c : Dev Cert.KernelAdamwMlpW1Ideal.nD,
      r.2.mem ((c.tc : Thread Cert.KernelAdamwMlpW1Ideal.nD Cert.KernelAdamwMlpW1Ideal.τ).loc Cert.KernelAdamwMlpW1Ideal.main_arg0) = m ((c.tc : Thread Cert.KernelAdamwMlpW1Ideal.nD Cert.KernelAdamwMlpW1Ideal.τ).loc Cert.KernelAdamwMlpW1Ideal.main_arg0)
      ∧ r.2.mem ((c.tc : Thread Cert.KernelAdamwMlpW1Ideal.nD Cert.KernelAdamwMlpW1Ideal.τ).loc Cert.KernelAdamwMlpW1Ideal.main_arg1) = m ((c.tc : Thread Cert.KernelAdamwMlpW1Ideal.nD Cert.KernelAdamwMlpW1Ideal.τ).loc Cert.KernelAdamwMlpW1Ideal.main_arg1)
      ∧ r.2.mem ((c.tc : Thread Cert.KernelAdamwMlpW1Ideal.nD Cert.KernelAdamwMlpW1Ideal.τ).loc Cert.KernelAdamwMlpW1Ideal.main_arg2) = m ((c.tc : Thread Cert.KernelAdamwMlpW1Ideal.nD Cert.KernelAdamwMlpW1Ideal.τ).loc Cert.KernelAdamwMlpW1Ideal.main_arg2)
      ∧ r.2.mem ((c.tc : Thread Cert.KernelAdamwMlpW1Ideal.nD Cert.KernelAdamwMlpW1Ideal.τ).loc Cert.KernelAdamwMlpW1Ideal.main_arg3) = m ((c.tc : Thread Cert.KernelAdamwMlpW1Ideal.nD Cert.KernelAdamwMlpW1Ideal.τ).loc Cert.KernelAdamwMlpW1Ideal.main_arg3))
      ∧ r.2.sem = fun _ => 0)

def quiescent_ReferenceAdamwMlpW1Ideal [hReferenceAdamwMlpW1Ideal : Cert.ReferenceAdamwMlpW1Ideal.Facts] : Prop :=
  ∀ (m : (ℓ : Loc Cert.ReferenceAdamwMlpW1Ideal.nD Cert.ReferenceAdamwMlpW1Ideal.τ Cert.ReferenceAdamwMlpW1Ideal.sig) → Buf (Elt Ideal) ℓ) (g : Dev Cert.ReferenceAdamwMlpW1Ideal.nD → PrngReg), Pre_ReferenceAdamwMlpW1Ideal m →
    θ_run (Cert.ReferenceAdamwMlpW1Ideal.defs (F := Ideal)) (onTc (τ := Cert.ReferenceAdamwMlpW1Ideal.τ) (Cert.ReferenceAdamwMlpW1Ideal.main (F := Ideal))) ⟨m, fun _ => 0, g⟩ (fun r => (∀ c : Dev Cert.ReferenceAdamwMlpW1Ideal.nD,
      r.2.mem ((c.tc : Thread Cert.ReferenceAdamwMlpW1Ideal.nD Cert.ReferenceAdamwMlpW1Ideal.τ).loc Cert.ReferenceAdamwMlpW1Ideal.main_arg0) = m ((c.tc : Thread Cert.ReferenceAdamwMlpW1Ideal.nD Cert.ReferenceAdamwMlpW1Ideal.τ).loc Cert.ReferenceAdamwMlpW1Ideal.main_arg0)
      ∧ r.2.mem ((c.tc : Thread Cert.ReferenceAdamwMlpW1Ideal.nD Cert.ReferenceAdamwMlpW1Ideal.τ).loc Cert.ReferenceAdamwMlpW1Ideal.main_arg1) = m ((c.tc : Thread Cert.ReferenceAdamwMlpW1Ideal.nD Cert.ReferenceAdamwMlpW1Ideal.τ).loc Cert.ReferenceAdamwMlpW1Ideal.main_arg1)
      ∧ r.2.mem ((c.tc : Thread Cert.ReferenceAdamwMlpW1Ideal.nD Cert.ReferenceAdamwMlpW1Ideal.τ).loc Cert.ReferenceAdamwMlpW1Ideal.main_arg2) = m ((c.tc : Thread Cert.ReferenceAdamwMlpW1Ideal.nD Cert.ReferenceAdamwMlpW1Ideal.τ).loc Cert.ReferenceAdamwMlpW1Ideal.main_arg2)
      ∧ r.2.mem ((c.tc : Thread Cert.ReferenceAdamwMlpW1Ideal.nD Cert.ReferenceAdamwMlpW1Ideal.τ).loc Cert.ReferenceAdamwMlpW1Ideal.main_arg3) = m ((c.tc : Thread Cert.ReferenceAdamwMlpW1Ideal.nD Cert.ReferenceAdamwMlpW1Ideal.τ).loc Cert.ReferenceAdamwMlpW1Ideal.main_arg3))
      ∧ r.2.sem = fun _ => 0)

def quiescent_KernelAdamwMlpW2 [hKernelAdamwMlpW2 : Cert.KernelAdamwMlpW2.Facts] : Prop :=
  ∀ (m : (ℓ : Loc Cert.KernelAdamwMlpW2.nD Cert.KernelAdamwMlpW2.τ Cert.KernelAdamwMlpW2.sig) → Buf (Elt Bits) ℓ) (g : Dev Cert.KernelAdamwMlpW2.nD → PrngReg), Pre_KernelAdamwMlpW2 m →
    θ_run (Cert.KernelAdamwMlpW2.defs (F := Bits)) (onTc (τ := Cert.KernelAdamwMlpW2.τ) (Cert.KernelAdamwMlpW2.main (F := Bits))) ⟨m, fun _ => 0, g⟩ (fun r => (∀ c : Dev Cert.KernelAdamwMlpW2.nD,
      r.2.mem ((c.tc : Thread Cert.KernelAdamwMlpW2.nD Cert.KernelAdamwMlpW2.τ).loc Cert.KernelAdamwMlpW2.main_arg0) = m ((c.tc : Thread Cert.KernelAdamwMlpW2.nD Cert.KernelAdamwMlpW2.τ).loc Cert.KernelAdamwMlpW2.main_arg0)
      ∧ r.2.mem ((c.tc : Thread Cert.KernelAdamwMlpW2.nD Cert.KernelAdamwMlpW2.τ).loc Cert.KernelAdamwMlpW2.main_arg1) = m ((c.tc : Thread Cert.KernelAdamwMlpW2.nD Cert.KernelAdamwMlpW2.τ).loc Cert.KernelAdamwMlpW2.main_arg1)
      ∧ r.2.mem ((c.tc : Thread Cert.KernelAdamwMlpW2.nD Cert.KernelAdamwMlpW2.τ).loc Cert.KernelAdamwMlpW2.main_arg2) = m ((c.tc : Thread Cert.KernelAdamwMlpW2.nD Cert.KernelAdamwMlpW2.τ).loc Cert.KernelAdamwMlpW2.main_arg2)
      ∧ r.2.mem ((c.tc : Thread Cert.KernelAdamwMlpW2.nD Cert.KernelAdamwMlpW2.τ).loc Cert.KernelAdamwMlpW2.main_arg3) = m ((c.tc : Thread Cert.KernelAdamwMlpW2.nD Cert.KernelAdamwMlpW2.τ).loc Cert.KernelAdamwMlpW2.main_arg3))
      ∧ r.2.sem = fun _ => 0)

def quiescent_KernelAdamwMlpW2Ideal [hKernelAdamwMlpW2Ideal : Cert.KernelAdamwMlpW2Ideal.Facts] : Prop :=
  ∀ (m : (ℓ : Loc Cert.KernelAdamwMlpW2Ideal.nD Cert.KernelAdamwMlpW2Ideal.τ Cert.KernelAdamwMlpW2Ideal.sig) → Buf (Elt Ideal) ℓ) (g : Dev Cert.KernelAdamwMlpW2Ideal.nD → PrngReg), Pre_KernelAdamwMlpW2Ideal m →
    θ_run (Cert.KernelAdamwMlpW2Ideal.defs (F := Ideal)) (onTc (τ := Cert.KernelAdamwMlpW2Ideal.τ) (Cert.KernelAdamwMlpW2Ideal.main (F := Ideal))) ⟨m, fun _ => 0, g⟩ (fun r => (∀ c : Dev Cert.KernelAdamwMlpW2Ideal.nD,
      r.2.mem ((c.tc : Thread Cert.KernelAdamwMlpW2Ideal.nD Cert.KernelAdamwMlpW2Ideal.τ).loc Cert.KernelAdamwMlpW2Ideal.main_arg0) = m ((c.tc : Thread Cert.KernelAdamwMlpW2Ideal.nD Cert.KernelAdamwMlpW2Ideal.τ).loc Cert.KernelAdamwMlpW2Ideal.main_arg0)
      ∧ r.2.mem ((c.tc : Thread Cert.KernelAdamwMlpW2Ideal.nD Cert.KernelAdamwMlpW2Ideal.τ).loc Cert.KernelAdamwMlpW2Ideal.main_arg1) = m ((c.tc : Thread Cert.KernelAdamwMlpW2Ideal.nD Cert.KernelAdamwMlpW2Ideal.τ).loc Cert.KernelAdamwMlpW2Ideal.main_arg1)
      ∧ r.2.mem ((c.tc : Thread Cert.KernelAdamwMlpW2Ideal.nD Cert.KernelAdamwMlpW2Ideal.τ).loc Cert.KernelAdamwMlpW2Ideal.main_arg2) = m ((c.tc : Thread Cert.KernelAdamwMlpW2Ideal.nD Cert.KernelAdamwMlpW2Ideal.τ).loc Cert.KernelAdamwMlpW2Ideal.main_arg2)
      ∧ r.2.mem ((c.tc : Thread Cert.KernelAdamwMlpW2Ideal.nD Cert.KernelAdamwMlpW2Ideal.τ).loc Cert.KernelAdamwMlpW2Ideal.main_arg3) = m ((c.tc : Thread Cert.KernelAdamwMlpW2Ideal.nD Cert.KernelAdamwMlpW2Ideal.τ).loc Cert.KernelAdamwMlpW2Ideal.main_arg3))
      ∧ r.2.sem = fun _ => 0)

def quiescent_ReferenceAdamwMlpW2Ideal [hReferenceAdamwMlpW2Ideal : Cert.ReferenceAdamwMlpW2Ideal.Facts] : Prop :=
  ∀ (m : (ℓ : Loc Cert.ReferenceAdamwMlpW2Ideal.nD Cert.ReferenceAdamwMlpW2Ideal.τ Cert.ReferenceAdamwMlpW2Ideal.sig) → Buf (Elt Ideal) ℓ) (g : Dev Cert.ReferenceAdamwMlpW2Ideal.nD → PrngReg), Pre_ReferenceAdamwMlpW2Ideal m →
    θ_run (Cert.ReferenceAdamwMlpW2Ideal.defs (F := Ideal)) (onTc (τ := Cert.ReferenceAdamwMlpW2Ideal.τ) (Cert.ReferenceAdamwMlpW2Ideal.main (F := Ideal))) ⟨m, fun _ => 0, g⟩ (fun r => (∀ c : Dev Cert.ReferenceAdamwMlpW2Ideal.nD,
      r.2.mem ((c.tc : Thread Cert.ReferenceAdamwMlpW2Ideal.nD Cert.ReferenceAdamwMlpW2Ideal.τ).loc Cert.ReferenceAdamwMlpW2Ideal.main_arg0) = m ((c.tc : Thread Cert.ReferenceAdamwMlpW2Ideal.nD Cert.ReferenceAdamwMlpW2Ideal.τ).loc Cert.ReferenceAdamwMlpW2Ideal.main_arg0)
      ∧ r.2.mem ((c.tc : Thread Cert.ReferenceAdamwMlpW2Ideal.nD Cert.ReferenceAdamwMlpW2Ideal.τ).loc Cert.ReferenceAdamwMlpW2Ideal.main_arg1) = m ((c.tc : Thread Cert.ReferenceAdamwMlpW2Ideal.nD Cert.ReferenceAdamwMlpW2Ideal.τ).loc Cert.ReferenceAdamwMlpW2Ideal.main_arg1)
      ∧ r.2.mem ((c.tc : Thread Cert.ReferenceAdamwMlpW2Ideal.nD Cert.ReferenceAdamwMlpW2Ideal.τ).loc Cert.ReferenceAdamwMlpW2Ideal.main_arg2) = m ((c.tc : Thread Cert.ReferenceAdamwMlpW2Ideal.nD Cert.ReferenceAdamwMlpW2Ideal.τ).loc Cert.ReferenceAdamwMlpW2Ideal.main_arg2)
      ∧ r.2.mem ((c.tc : Thread Cert.ReferenceAdamwMlpW2Ideal.nD Cert.ReferenceAdamwMlpW2Ideal.τ).loc Cert.ReferenceAdamwMlpW2Ideal.main_arg3) = m ((c.tc : Thread Cert.ReferenceAdamwMlpW2Ideal.nD Cert.ReferenceAdamwMlpW2Ideal.τ).loc Cert.ReferenceAdamwMlpW2Ideal.main_arg3))
      ∧ r.2.sem = fun _ => 0)

def quiescent_KernelAdamwAWOut [hKernelAdamwAWOut : Cert.KernelAdamwAWOut.Facts] : Prop :=
  ∀ (m : (ℓ : Loc Cert.KernelAdamwAWOut.nD Cert.KernelAdamwAWOut.τ Cert.KernelAdamwAWOut.sig) → Buf (Elt Bits) ℓ) (g : Dev Cert.KernelAdamwAWOut.nD → PrngReg), Pre_KernelAdamwAWOut m →
    θ_run (Cert.KernelAdamwAWOut.defs (F := Bits)) (onTc (τ := Cert.KernelAdamwAWOut.τ) (Cert.KernelAdamwAWOut.main (F := Bits))) ⟨m, fun _ => 0, g⟩ (fun r => (∀ c : Dev Cert.KernelAdamwAWOut.nD,
      r.2.mem ((c.tc : Thread Cert.KernelAdamwAWOut.nD Cert.KernelAdamwAWOut.τ).loc Cert.KernelAdamwAWOut.main_arg0) = m ((c.tc : Thread Cert.KernelAdamwAWOut.nD Cert.KernelAdamwAWOut.τ).loc Cert.KernelAdamwAWOut.main_arg0)
      ∧ r.2.mem ((c.tc : Thread Cert.KernelAdamwAWOut.nD Cert.KernelAdamwAWOut.τ).loc Cert.KernelAdamwAWOut.main_arg1) = m ((c.tc : Thread Cert.KernelAdamwAWOut.nD Cert.KernelAdamwAWOut.τ).loc Cert.KernelAdamwAWOut.main_arg1)
      ∧ r.2.mem ((c.tc : Thread Cert.KernelAdamwAWOut.nD Cert.KernelAdamwAWOut.τ).loc Cert.KernelAdamwAWOut.main_arg2) = m ((c.tc : Thread Cert.KernelAdamwAWOut.nD Cert.KernelAdamwAWOut.τ).loc Cert.KernelAdamwAWOut.main_arg2)
      ∧ r.2.mem ((c.tc : Thread Cert.KernelAdamwAWOut.nD Cert.KernelAdamwAWOut.τ).loc Cert.KernelAdamwAWOut.main_arg3) = m ((c.tc : Thread Cert.KernelAdamwAWOut.nD Cert.KernelAdamwAWOut.τ).loc Cert.KernelAdamwAWOut.main_arg3))
      ∧ r.2.sem = fun _ => 0)

def quiescent_KernelAdamwAWOutIdeal [hKernelAdamwAWOutIdeal : Cert.KernelAdamwAWOutIdeal.Facts] : Prop :=
  ∀ (m : (ℓ : Loc Cert.KernelAdamwAWOutIdeal.nD Cert.KernelAdamwAWOutIdeal.τ Cert.KernelAdamwAWOutIdeal.sig) → Buf (Elt Ideal) ℓ) (g : Dev Cert.KernelAdamwAWOutIdeal.nD → PrngReg), Pre_KernelAdamwAWOutIdeal m →
    θ_run (Cert.KernelAdamwAWOutIdeal.defs (F := Ideal)) (onTc (τ := Cert.KernelAdamwAWOutIdeal.τ) (Cert.KernelAdamwAWOutIdeal.main (F := Ideal))) ⟨m, fun _ => 0, g⟩ (fun r => (∀ c : Dev Cert.KernelAdamwAWOutIdeal.nD,
      r.2.mem ((c.tc : Thread Cert.KernelAdamwAWOutIdeal.nD Cert.KernelAdamwAWOutIdeal.τ).loc Cert.KernelAdamwAWOutIdeal.main_arg0) = m ((c.tc : Thread Cert.KernelAdamwAWOutIdeal.nD Cert.KernelAdamwAWOutIdeal.τ).loc Cert.KernelAdamwAWOutIdeal.main_arg0)
      ∧ r.2.mem ((c.tc : Thread Cert.KernelAdamwAWOutIdeal.nD Cert.KernelAdamwAWOutIdeal.τ).loc Cert.KernelAdamwAWOutIdeal.main_arg1) = m ((c.tc : Thread Cert.KernelAdamwAWOutIdeal.nD Cert.KernelAdamwAWOutIdeal.τ).loc Cert.KernelAdamwAWOutIdeal.main_arg1)
      ∧ r.2.mem ((c.tc : Thread Cert.KernelAdamwAWOutIdeal.nD Cert.KernelAdamwAWOutIdeal.τ).loc Cert.KernelAdamwAWOutIdeal.main_arg2) = m ((c.tc : Thread Cert.KernelAdamwAWOutIdeal.nD Cert.KernelAdamwAWOutIdeal.τ).loc Cert.KernelAdamwAWOutIdeal.main_arg2)
      ∧ r.2.mem ((c.tc : Thread Cert.KernelAdamwAWOutIdeal.nD Cert.KernelAdamwAWOutIdeal.τ).loc Cert.KernelAdamwAWOutIdeal.main_arg3) = m ((c.tc : Thread Cert.KernelAdamwAWOutIdeal.nD Cert.KernelAdamwAWOutIdeal.τ).loc Cert.KernelAdamwAWOutIdeal.main_arg3))
      ∧ r.2.sem = fun _ => 0)

def quiescent_ReferenceAdamwAWOutIdeal [hReferenceAdamwAWOutIdeal : Cert.ReferenceAdamwAWOutIdeal.Facts] : Prop :=
  ∀ (m : (ℓ : Loc Cert.ReferenceAdamwAWOutIdeal.nD Cert.ReferenceAdamwAWOutIdeal.τ Cert.ReferenceAdamwAWOutIdeal.sig) → Buf (Elt Ideal) ℓ) (g : Dev Cert.ReferenceAdamwAWOutIdeal.nD → PrngReg), Pre_ReferenceAdamwAWOutIdeal m →
    θ_run (Cert.ReferenceAdamwAWOutIdeal.defs (F := Ideal)) (onTc (τ := Cert.ReferenceAdamwAWOutIdeal.τ) (Cert.ReferenceAdamwAWOutIdeal.main (F := Ideal))) ⟨m, fun _ => 0, g⟩ (fun r => (∀ c : Dev Cert.ReferenceAdamwAWOutIdeal.nD,
      r.2.mem ((c.tc : Thread Cert.ReferenceAdamwAWOutIdeal.nD Cert.ReferenceAdamwAWOutIdeal.τ).loc Cert.ReferenceAdamwAWOutIdeal.main_arg0) = m ((c.tc : Thread Cert.ReferenceAdamwAWOutIdeal.nD Cert.ReferenceAdamwAWOutIdeal.τ).loc Cert.ReferenceAdamwAWOutIdeal.main_arg0)
      ∧ r.2.mem ((c.tc : Thread Cert.ReferenceAdamwAWOutIdeal.nD Cert.ReferenceAdamwAWOutIdeal.τ).loc Cert.ReferenceAdamwAWOutIdeal.main_arg1) = m ((c.tc : Thread Cert.ReferenceAdamwAWOutIdeal.nD Cert.ReferenceAdamwAWOutIdeal.τ).loc Cert.ReferenceAdamwAWOutIdeal.main_arg1)
      ∧ r.2.mem ((c.tc : Thread Cert.ReferenceAdamwAWOutIdeal.nD Cert.ReferenceAdamwAWOutIdeal.τ).loc Cert.ReferenceAdamwAWOutIdeal.main_arg2) = m ((c.tc : Thread Cert.ReferenceAdamwAWOutIdeal.nD Cert.ReferenceAdamwAWOutIdeal.τ).loc Cert.ReferenceAdamwAWOutIdeal.main_arg2)
      ∧ r.2.mem ((c.tc : Thread Cert.ReferenceAdamwAWOutIdeal.nD Cert.ReferenceAdamwAWOutIdeal.τ).loc Cert.ReferenceAdamwAWOutIdeal.main_arg3) = m ((c.tc : Thread Cert.ReferenceAdamwAWOutIdeal.nD Cert.ReferenceAdamwAWOutIdeal.τ).loc Cert.ReferenceAdamwAWOutIdeal.main_arg3))
      ∧ r.2.sem = fun _ => 0)

def quiescent_KernelAdamwBWOut [hKernelAdamwBWOut : Cert.KernelAdamwBWOut.Facts] : Prop :=
  ∀ (m : (ℓ : Loc Cert.KernelAdamwBWOut.nD Cert.KernelAdamwBWOut.τ Cert.KernelAdamwBWOut.sig) → Buf (Elt Bits) ℓ) (g : Dev Cert.KernelAdamwBWOut.nD → PrngReg), Pre_KernelAdamwBWOut m →
    θ_run (Cert.KernelAdamwBWOut.defs (F := Bits)) (onTc (τ := Cert.KernelAdamwBWOut.τ) (Cert.KernelAdamwBWOut.main (F := Bits))) ⟨m, fun _ => 0, g⟩ (fun r => (∀ c : Dev Cert.KernelAdamwBWOut.nD,
      r.2.mem ((c.tc : Thread Cert.KernelAdamwBWOut.nD Cert.KernelAdamwBWOut.τ).loc Cert.KernelAdamwBWOut.main_arg0) = m ((c.tc : Thread Cert.KernelAdamwBWOut.nD Cert.KernelAdamwBWOut.τ).loc Cert.KernelAdamwBWOut.main_arg0)
      ∧ r.2.mem ((c.tc : Thread Cert.KernelAdamwBWOut.nD Cert.KernelAdamwBWOut.τ).loc Cert.KernelAdamwBWOut.main_arg1) = m ((c.tc : Thread Cert.KernelAdamwBWOut.nD Cert.KernelAdamwBWOut.τ).loc Cert.KernelAdamwBWOut.main_arg1)
      ∧ r.2.mem ((c.tc : Thread Cert.KernelAdamwBWOut.nD Cert.KernelAdamwBWOut.τ).loc Cert.KernelAdamwBWOut.main_arg2) = m ((c.tc : Thread Cert.KernelAdamwBWOut.nD Cert.KernelAdamwBWOut.τ).loc Cert.KernelAdamwBWOut.main_arg2)
      ∧ r.2.mem ((c.tc : Thread Cert.KernelAdamwBWOut.nD Cert.KernelAdamwBWOut.τ).loc Cert.KernelAdamwBWOut.main_arg3) = m ((c.tc : Thread Cert.KernelAdamwBWOut.nD Cert.KernelAdamwBWOut.τ).loc Cert.KernelAdamwBWOut.main_arg3))
      ∧ r.2.sem = fun _ => 0)

def quiescent_KernelAdamwBWOutIdeal [hKernelAdamwBWOutIdeal : Cert.KernelAdamwBWOutIdeal.Facts] : Prop :=
  ∀ (m : (ℓ : Loc Cert.KernelAdamwBWOutIdeal.nD Cert.KernelAdamwBWOutIdeal.τ Cert.KernelAdamwBWOutIdeal.sig) → Buf (Elt Ideal) ℓ) (g : Dev Cert.KernelAdamwBWOutIdeal.nD → PrngReg), Pre_KernelAdamwBWOutIdeal m →
    θ_run (Cert.KernelAdamwBWOutIdeal.defs (F := Ideal)) (onTc (τ := Cert.KernelAdamwBWOutIdeal.τ) (Cert.KernelAdamwBWOutIdeal.main (F := Ideal))) ⟨m, fun _ => 0, g⟩ (fun r => (∀ c : Dev Cert.KernelAdamwBWOutIdeal.nD,
      r.2.mem ((c.tc : Thread Cert.KernelAdamwBWOutIdeal.nD Cert.KernelAdamwBWOutIdeal.τ).loc Cert.KernelAdamwBWOutIdeal.main_arg0) = m ((c.tc : Thread Cert.KernelAdamwBWOutIdeal.nD Cert.KernelAdamwBWOutIdeal.τ).loc Cert.KernelAdamwBWOutIdeal.main_arg0)
      ∧ r.2.mem ((c.tc : Thread Cert.KernelAdamwBWOutIdeal.nD Cert.KernelAdamwBWOutIdeal.τ).loc Cert.KernelAdamwBWOutIdeal.main_arg1) = m ((c.tc : Thread Cert.KernelAdamwBWOutIdeal.nD Cert.KernelAdamwBWOutIdeal.τ).loc Cert.KernelAdamwBWOutIdeal.main_arg1)
      ∧ r.2.mem ((c.tc : Thread Cert.KernelAdamwBWOutIdeal.nD Cert.KernelAdamwBWOutIdeal.τ).loc Cert.KernelAdamwBWOutIdeal.main_arg2) = m ((c.tc : Thread Cert.KernelAdamwBWOutIdeal.nD Cert.KernelAdamwBWOutIdeal.τ).loc Cert.KernelAdamwBWOutIdeal.main_arg2)
      ∧ r.2.mem ((c.tc : Thread Cert.KernelAdamwBWOutIdeal.nD Cert.KernelAdamwBWOutIdeal.τ).loc Cert.KernelAdamwBWOutIdeal.main_arg3) = m ((c.tc : Thread Cert.KernelAdamwBWOutIdeal.nD Cert.KernelAdamwBWOutIdeal.τ).loc Cert.KernelAdamwBWOutIdeal.main_arg3))
      ∧ r.2.sem = fun _ => 0)

def quiescent_ReferenceAdamwBWOutIdeal [hReferenceAdamwBWOutIdeal : Cert.ReferenceAdamwBWOutIdeal.Facts] : Prop :=
  ∀ (m : (ℓ : Loc Cert.ReferenceAdamwBWOutIdeal.nD Cert.ReferenceAdamwBWOutIdeal.τ Cert.ReferenceAdamwBWOutIdeal.sig) → Buf (Elt Ideal) ℓ) (g : Dev Cert.ReferenceAdamwBWOutIdeal.nD → PrngReg), Pre_ReferenceAdamwBWOutIdeal m →
    θ_run (Cert.ReferenceAdamwBWOutIdeal.defs (F := Ideal)) (onTc (τ := Cert.ReferenceAdamwBWOutIdeal.τ) (Cert.ReferenceAdamwBWOutIdeal.main (F := Ideal))) ⟨m, fun _ => 0, g⟩ (fun r => (∀ c : Dev Cert.ReferenceAdamwBWOutIdeal.nD,
      r.2.mem ((c.tc : Thread Cert.ReferenceAdamwBWOutIdeal.nD Cert.ReferenceAdamwBWOutIdeal.τ).loc Cert.ReferenceAdamwBWOutIdeal.main_arg0) = m ((c.tc : Thread Cert.ReferenceAdamwBWOutIdeal.nD Cert.ReferenceAdamwBWOutIdeal.τ).loc Cert.ReferenceAdamwBWOutIdeal.main_arg0)
      ∧ r.2.mem ((c.tc : Thread Cert.ReferenceAdamwBWOutIdeal.nD Cert.ReferenceAdamwBWOutIdeal.τ).loc Cert.ReferenceAdamwBWOutIdeal.main_arg1) = m ((c.tc : Thread Cert.ReferenceAdamwBWOutIdeal.nD Cert.ReferenceAdamwBWOutIdeal.τ).loc Cert.ReferenceAdamwBWOutIdeal.main_arg1)
      ∧ r.2.mem ((c.tc : Thread Cert.ReferenceAdamwBWOutIdeal.nD Cert.ReferenceAdamwBWOutIdeal.τ).loc Cert.ReferenceAdamwBWOutIdeal.main_arg2) = m ((c.tc : Thread Cert.ReferenceAdamwBWOutIdeal.nD Cert.ReferenceAdamwBWOutIdeal.τ).loc Cert.ReferenceAdamwBWOutIdeal.main_arg2)
      ∧ r.2.mem ((c.tc : Thread Cert.ReferenceAdamwBWOutIdeal.nD Cert.ReferenceAdamwBWOutIdeal.τ).loc Cert.ReferenceAdamwBWOutIdeal.main_arg3) = m ((c.tc : Thread Cert.ReferenceAdamwBWOutIdeal.nD Cert.ReferenceAdamwBWOutIdeal.τ).loc Cert.ReferenceAdamwBWOutIdeal.main_arg3))
      ∧ r.2.sem = fun _ => 0)

def quiescent_KernelAdamwAWIn [hKernelAdamwAWIn : Cert.KernelAdamwAWIn.Facts] : Prop :=
  ∀ (m : (ℓ : Loc Cert.KernelAdamwAWIn.nD Cert.KernelAdamwAWIn.τ Cert.KernelAdamwAWIn.sig) → Buf (Elt Bits) ℓ) (g : Dev Cert.KernelAdamwAWIn.nD → PrngReg), Pre_KernelAdamwAWIn m →
    θ_run (Cert.KernelAdamwAWIn.defs (F := Bits)) (onTc (τ := Cert.KernelAdamwAWIn.τ) (Cert.KernelAdamwAWIn.main (F := Bits))) ⟨m, fun _ => 0, g⟩ (fun r => (∀ c : Dev Cert.KernelAdamwAWIn.nD,
      r.2.mem ((c.tc : Thread Cert.KernelAdamwAWIn.nD Cert.KernelAdamwAWIn.τ).loc Cert.KernelAdamwAWIn.main_arg0) = m ((c.tc : Thread Cert.KernelAdamwAWIn.nD Cert.KernelAdamwAWIn.τ).loc Cert.KernelAdamwAWIn.main_arg0)
      ∧ r.2.mem ((c.tc : Thread Cert.KernelAdamwAWIn.nD Cert.KernelAdamwAWIn.τ).loc Cert.KernelAdamwAWIn.main_arg1) = m ((c.tc : Thread Cert.KernelAdamwAWIn.nD Cert.KernelAdamwAWIn.τ).loc Cert.KernelAdamwAWIn.main_arg1)
      ∧ r.2.mem ((c.tc : Thread Cert.KernelAdamwAWIn.nD Cert.KernelAdamwAWIn.τ).loc Cert.KernelAdamwAWIn.main_arg2) = m ((c.tc : Thread Cert.KernelAdamwAWIn.nD Cert.KernelAdamwAWIn.τ).loc Cert.KernelAdamwAWIn.main_arg2)
      ∧ r.2.mem ((c.tc : Thread Cert.KernelAdamwAWIn.nD Cert.KernelAdamwAWIn.τ).loc Cert.KernelAdamwAWIn.main_arg3) = m ((c.tc : Thread Cert.KernelAdamwAWIn.nD Cert.KernelAdamwAWIn.τ).loc Cert.KernelAdamwAWIn.main_arg3))
      ∧ r.2.sem = fun _ => 0)

def quiescent_KernelAdamwAWInIdeal [hKernelAdamwAWInIdeal : Cert.KernelAdamwAWInIdeal.Facts] : Prop :=
  ∀ (m : (ℓ : Loc Cert.KernelAdamwAWInIdeal.nD Cert.KernelAdamwAWInIdeal.τ Cert.KernelAdamwAWInIdeal.sig) → Buf (Elt Ideal) ℓ) (g : Dev Cert.KernelAdamwAWInIdeal.nD → PrngReg), Pre_KernelAdamwAWInIdeal m →
    θ_run (Cert.KernelAdamwAWInIdeal.defs (F := Ideal)) (onTc (τ := Cert.KernelAdamwAWInIdeal.τ) (Cert.KernelAdamwAWInIdeal.main (F := Ideal))) ⟨m, fun _ => 0, g⟩ (fun r => (∀ c : Dev Cert.KernelAdamwAWInIdeal.nD,
      r.2.mem ((c.tc : Thread Cert.KernelAdamwAWInIdeal.nD Cert.KernelAdamwAWInIdeal.τ).loc Cert.KernelAdamwAWInIdeal.main_arg0) = m ((c.tc : Thread Cert.KernelAdamwAWInIdeal.nD Cert.KernelAdamwAWInIdeal.τ).loc Cert.KernelAdamwAWInIdeal.main_arg0)
      ∧ r.2.mem ((c.tc : Thread Cert.KernelAdamwAWInIdeal.nD Cert.KernelAdamwAWInIdeal.τ).loc Cert.KernelAdamwAWInIdeal.main_arg1) = m ((c.tc : Thread Cert.KernelAdamwAWInIdeal.nD Cert.KernelAdamwAWInIdeal.τ).loc Cert.KernelAdamwAWInIdeal.main_arg1)
      ∧ r.2.mem ((c.tc : Thread Cert.KernelAdamwAWInIdeal.nD Cert.KernelAdamwAWInIdeal.τ).loc Cert.KernelAdamwAWInIdeal.main_arg2) = m ((c.tc : Thread Cert.KernelAdamwAWInIdeal.nD Cert.KernelAdamwAWInIdeal.τ).loc Cert.KernelAdamwAWInIdeal.main_arg2)
      ∧ r.2.mem ((c.tc : Thread Cert.KernelAdamwAWInIdeal.nD Cert.KernelAdamwAWInIdeal.τ).loc Cert.KernelAdamwAWInIdeal.main_arg3) = m ((c.tc : Thread Cert.KernelAdamwAWInIdeal.nD Cert.KernelAdamwAWInIdeal.τ).loc Cert.KernelAdamwAWInIdeal.main_arg3))
      ∧ r.2.sem = fun _ => 0)

def quiescent_ReferenceAdamwAWInIdeal [hReferenceAdamwAWInIdeal : Cert.ReferenceAdamwAWInIdeal.Facts] : Prop :=
  ∀ (m : (ℓ : Loc Cert.ReferenceAdamwAWInIdeal.nD Cert.ReferenceAdamwAWInIdeal.τ Cert.ReferenceAdamwAWInIdeal.sig) → Buf (Elt Ideal) ℓ) (g : Dev Cert.ReferenceAdamwAWInIdeal.nD → PrngReg), Pre_ReferenceAdamwAWInIdeal m →
    θ_run (Cert.ReferenceAdamwAWInIdeal.defs (F := Ideal)) (onTc (τ := Cert.ReferenceAdamwAWInIdeal.τ) (Cert.ReferenceAdamwAWInIdeal.main (F := Ideal))) ⟨m, fun _ => 0, g⟩ (fun r => (∀ c : Dev Cert.ReferenceAdamwAWInIdeal.nD,
      r.2.mem ((c.tc : Thread Cert.ReferenceAdamwAWInIdeal.nD Cert.ReferenceAdamwAWInIdeal.τ).loc Cert.ReferenceAdamwAWInIdeal.main_arg0) = m ((c.tc : Thread Cert.ReferenceAdamwAWInIdeal.nD Cert.ReferenceAdamwAWInIdeal.τ).loc Cert.ReferenceAdamwAWInIdeal.main_arg0)
      ∧ r.2.mem ((c.tc : Thread Cert.ReferenceAdamwAWInIdeal.nD Cert.ReferenceAdamwAWInIdeal.τ).loc Cert.ReferenceAdamwAWInIdeal.main_arg1) = m ((c.tc : Thread Cert.ReferenceAdamwAWInIdeal.nD Cert.ReferenceAdamwAWInIdeal.τ).loc Cert.ReferenceAdamwAWInIdeal.main_arg1)
      ∧ r.2.mem ((c.tc : Thread Cert.ReferenceAdamwAWInIdeal.nD Cert.ReferenceAdamwAWInIdeal.τ).loc Cert.ReferenceAdamwAWInIdeal.main_arg2) = m ((c.tc : Thread Cert.ReferenceAdamwAWInIdeal.nD Cert.ReferenceAdamwAWInIdeal.τ).loc Cert.ReferenceAdamwAWInIdeal.main_arg2)
      ∧ r.2.mem ((c.tc : Thread Cert.ReferenceAdamwAWInIdeal.nD Cert.ReferenceAdamwAWInIdeal.τ).loc Cert.ReferenceAdamwAWInIdeal.main_arg3) = m ((c.tc : Thread Cert.ReferenceAdamwAWInIdeal.nD Cert.ReferenceAdamwAWInIdeal.τ).loc Cert.ReferenceAdamwAWInIdeal.main_arg3))
      ∧ r.2.sem = fun _ => 0)

def quiescent_KernelAdamwBWIn [hKernelAdamwBWIn : Cert.KernelAdamwBWIn.Facts] : Prop :=
  ∀ (m : (ℓ : Loc Cert.KernelAdamwBWIn.nD Cert.KernelAdamwBWIn.τ Cert.KernelAdamwBWIn.sig) → Buf (Elt Bits) ℓ) (g : Dev Cert.KernelAdamwBWIn.nD → PrngReg), Pre_KernelAdamwBWIn m →
    θ_run (Cert.KernelAdamwBWIn.defs (F := Bits)) (onTc (τ := Cert.KernelAdamwBWIn.τ) (Cert.KernelAdamwBWIn.main (F := Bits))) ⟨m, fun _ => 0, g⟩ (fun r => (∀ c : Dev Cert.KernelAdamwBWIn.nD,
      r.2.mem ((c.tc : Thread Cert.KernelAdamwBWIn.nD Cert.KernelAdamwBWIn.τ).loc Cert.KernelAdamwBWIn.main_arg0) = m ((c.tc : Thread Cert.KernelAdamwBWIn.nD Cert.KernelAdamwBWIn.τ).loc Cert.KernelAdamwBWIn.main_arg0)
      ∧ r.2.mem ((c.tc : Thread Cert.KernelAdamwBWIn.nD Cert.KernelAdamwBWIn.τ).loc Cert.KernelAdamwBWIn.main_arg1) = m ((c.tc : Thread Cert.KernelAdamwBWIn.nD Cert.KernelAdamwBWIn.τ).loc Cert.KernelAdamwBWIn.main_arg1)
      ∧ r.2.mem ((c.tc : Thread Cert.KernelAdamwBWIn.nD Cert.KernelAdamwBWIn.τ).loc Cert.KernelAdamwBWIn.main_arg2) = m ((c.tc : Thread Cert.KernelAdamwBWIn.nD Cert.KernelAdamwBWIn.τ).loc Cert.KernelAdamwBWIn.main_arg2)
      ∧ r.2.mem ((c.tc : Thread Cert.KernelAdamwBWIn.nD Cert.KernelAdamwBWIn.τ).loc Cert.KernelAdamwBWIn.main_arg3) = m ((c.tc : Thread Cert.KernelAdamwBWIn.nD Cert.KernelAdamwBWIn.τ).loc Cert.KernelAdamwBWIn.main_arg3))
      ∧ r.2.sem = fun _ => 0)

def quiescent_KernelAdamwBWInIdeal [hKernelAdamwBWInIdeal : Cert.KernelAdamwBWInIdeal.Facts] : Prop :=
  ∀ (m : (ℓ : Loc Cert.KernelAdamwBWInIdeal.nD Cert.KernelAdamwBWInIdeal.τ Cert.KernelAdamwBWInIdeal.sig) → Buf (Elt Ideal) ℓ) (g : Dev Cert.KernelAdamwBWInIdeal.nD → PrngReg), Pre_KernelAdamwBWInIdeal m →
    θ_run (Cert.KernelAdamwBWInIdeal.defs (F := Ideal)) (onTc (τ := Cert.KernelAdamwBWInIdeal.τ) (Cert.KernelAdamwBWInIdeal.main (F := Ideal))) ⟨m, fun _ => 0, g⟩ (fun r => (∀ c : Dev Cert.KernelAdamwBWInIdeal.nD,
      r.2.mem ((c.tc : Thread Cert.KernelAdamwBWInIdeal.nD Cert.KernelAdamwBWInIdeal.τ).loc Cert.KernelAdamwBWInIdeal.main_arg0) = m ((c.tc : Thread Cert.KernelAdamwBWInIdeal.nD Cert.KernelAdamwBWInIdeal.τ).loc Cert.KernelAdamwBWInIdeal.main_arg0)
      ∧ r.2.mem ((c.tc : Thread Cert.KernelAdamwBWInIdeal.nD Cert.KernelAdamwBWInIdeal.τ).loc Cert.KernelAdamwBWInIdeal.main_arg1) = m ((c.tc : Thread Cert.KernelAdamwBWInIdeal.nD Cert.KernelAdamwBWInIdeal.τ).loc Cert.KernelAdamwBWInIdeal.main_arg1)
      ∧ r.2.mem ((c.tc : Thread Cert.KernelAdamwBWInIdeal.nD Cert.KernelAdamwBWInIdeal.τ).loc Cert.KernelAdamwBWInIdeal.main_arg2) = m ((c.tc : Thread Cert.KernelAdamwBWInIdeal.nD Cert.KernelAdamwBWInIdeal.τ).loc Cert.KernelAdamwBWInIdeal.main_arg2)
      ∧ r.2.mem ((c.tc : Thread Cert.KernelAdamwBWInIdeal.nD Cert.KernelAdamwBWInIdeal.τ).loc Cert.KernelAdamwBWInIdeal.main_arg3) = m ((c.tc : Thread Cert.KernelAdamwBWInIdeal.nD Cert.KernelAdamwBWInIdeal.τ).loc Cert.KernelAdamwBWInIdeal.main_arg3))
      ∧ r.2.sem = fun _ => 0)

def quiescent_ReferenceAdamwBWInIdeal [hReferenceAdamwBWInIdeal : Cert.ReferenceAdamwBWInIdeal.Facts] : Prop :=
  ∀ (m : (ℓ : Loc Cert.ReferenceAdamwBWInIdeal.nD Cert.ReferenceAdamwBWInIdeal.τ Cert.ReferenceAdamwBWInIdeal.sig) → Buf (Elt Ideal) ℓ) (g : Dev Cert.ReferenceAdamwBWInIdeal.nD → PrngReg), Pre_ReferenceAdamwBWInIdeal m →
    θ_run (Cert.ReferenceAdamwBWInIdeal.defs (F := Ideal)) (onTc (τ := Cert.ReferenceAdamwBWInIdeal.τ) (Cert.ReferenceAdamwBWInIdeal.main (F := Ideal))) ⟨m, fun _ => 0, g⟩ (fun r => (∀ c : Dev Cert.ReferenceAdamwBWInIdeal.nD,
      r.2.mem ((c.tc : Thread Cert.ReferenceAdamwBWInIdeal.nD Cert.ReferenceAdamwBWInIdeal.τ).loc Cert.ReferenceAdamwBWInIdeal.main_arg0) = m ((c.tc : Thread Cert.ReferenceAdamwBWInIdeal.nD Cert.ReferenceAdamwBWInIdeal.τ).loc Cert.ReferenceAdamwBWInIdeal.main_arg0)
      ∧ r.2.mem ((c.tc : Thread Cert.ReferenceAdamwBWInIdeal.nD Cert.ReferenceAdamwBWInIdeal.τ).loc Cert.ReferenceAdamwBWInIdeal.main_arg1) = m ((c.tc : Thread Cert.ReferenceAdamwBWInIdeal.nD Cert.ReferenceAdamwBWInIdeal.τ).loc Cert.ReferenceAdamwBWInIdeal.main_arg1)
      ∧ r.2.mem ((c.tc : Thread Cert.ReferenceAdamwBWInIdeal.nD Cert.ReferenceAdamwBWInIdeal.τ).loc Cert.ReferenceAdamwBWInIdeal.main_arg2) = m ((c.tc : Thread Cert.ReferenceAdamwBWInIdeal.nD Cert.ReferenceAdamwBWInIdeal.τ).loc Cert.ReferenceAdamwBWInIdeal.main_arg2)
      ∧ r.2.mem ((c.tc : Thread Cert.ReferenceAdamwBWInIdeal.nD Cert.ReferenceAdamwBWInIdeal.τ).loc Cert.ReferenceAdamwBWInIdeal.main_arg3) = m ((c.tc : Thread Cert.ReferenceAdamwBWInIdeal.nD Cert.ReferenceAdamwBWInIdeal.τ).loc Cert.ReferenceAdamwBWInIdeal.main_arg3))
      ∧ r.2.sem = fun _ => 0)

def quiescent_KernelAdamwSmall [hKernelAdamwSmall : Cert.KernelAdamwSmall.Facts] : Prop :=
  ∀ (m : (ℓ : Loc Cert.KernelAdamwSmall.nD Cert.KernelAdamwSmall.τ Cert.KernelAdamwSmall.sig) → Buf (Elt Bits) ℓ) (g : Dev Cert.KernelAdamwSmall.nD → PrngReg), Pre_KernelAdamwSmall m →
    θ_run (Cert.KernelAdamwSmall.defs (F := Bits)) (onTc (τ := Cert.KernelAdamwSmall.τ) (Cert.KernelAdamwSmall.main (F := Bits))) ⟨m, fun _ => 0, g⟩ (fun r => (∀ c : Dev Cert.KernelAdamwSmall.nD,
      r.2.mem ((c.tc : Thread Cert.KernelAdamwSmall.nD Cert.KernelAdamwSmall.τ).loc Cert.KernelAdamwSmall.main_arg0) = m ((c.tc : Thread Cert.KernelAdamwSmall.nD Cert.KernelAdamwSmall.τ).loc Cert.KernelAdamwSmall.main_arg0)
      ∧ r.2.mem ((c.tc : Thread Cert.KernelAdamwSmall.nD Cert.KernelAdamwSmall.τ).loc Cert.KernelAdamwSmall.main_arg1) = m ((c.tc : Thread Cert.KernelAdamwSmall.nD Cert.KernelAdamwSmall.τ).loc Cert.KernelAdamwSmall.main_arg1)
      ∧ r.2.mem ((c.tc : Thread Cert.KernelAdamwSmall.nD Cert.KernelAdamwSmall.τ).loc Cert.KernelAdamwSmall.main_arg2) = m ((c.tc : Thread Cert.KernelAdamwSmall.nD Cert.KernelAdamwSmall.τ).loc Cert.KernelAdamwSmall.main_arg2)
      ∧ r.2.mem ((c.tc : Thread Cert.KernelAdamwSmall.nD Cert.KernelAdamwSmall.τ).loc Cert.KernelAdamwSmall.main_arg3) = m ((c.tc : Thread Cert.KernelAdamwSmall.nD Cert.KernelAdamwSmall.τ).loc Cert.KernelAdamwSmall.main_arg3)
      ∧ r.2.mem ((c.tc : Thread Cert.KernelAdamwSmall.nD Cert.KernelAdamwSmall.τ).loc Cert.KernelAdamwSmall.main_arg4) = m ((c.tc : Thread Cert.KernelAdamwSmall.nD Cert.KernelAdamwSmall.τ).loc Cert.KernelAdamwSmall.main_arg4)
      ∧ r.2.mem ((c.tc : Thread Cert.KernelAdamwSmall.nD Cert.KernelAdamwSmall.τ).loc Cert.KernelAdamwSmall.main_arg5) = m ((c.tc : Thread Cert.KernelAdamwSmall.nD Cert.KernelAdamwSmall.τ).loc Cert.KernelAdamwSmall.main_arg5)
      ∧ r.2.mem ((c.tc : Thread Cert.KernelAdamwSmall.nD Cert.KernelAdamwSmall.τ).loc Cert.KernelAdamwSmall.main_arg6) = m ((c.tc : Thread Cert.KernelAdamwSmall.nD Cert.KernelAdamwSmall.τ).loc Cert.KernelAdamwSmall.main_arg6)
      ∧ r.2.mem ((c.tc : Thread Cert.KernelAdamwSmall.nD Cert.KernelAdamwSmall.τ).loc Cert.KernelAdamwSmall.main_arg7) = m ((c.tc : Thread Cert.KernelAdamwSmall.nD Cert.KernelAdamwSmall.τ).loc Cert.KernelAdamwSmall.main_arg7)
      ∧ r.2.mem ((c.tc : Thread Cert.KernelAdamwSmall.nD Cert.KernelAdamwSmall.τ).loc Cert.KernelAdamwSmall.main_arg8) = m ((c.tc : Thread Cert.KernelAdamwSmall.nD Cert.KernelAdamwSmall.τ).loc Cert.KernelAdamwSmall.main_arg8)
      ∧ r.2.mem ((c.tc : Thread Cert.KernelAdamwSmall.nD Cert.KernelAdamwSmall.τ).loc Cert.KernelAdamwSmall.main_arg9) = m ((c.tc : Thread Cert.KernelAdamwSmall.nD Cert.KernelAdamwSmall.τ).loc Cert.KernelAdamwSmall.main_arg9)
      ∧ r.2.mem ((c.tc : Thread Cert.KernelAdamwSmall.nD Cert.KernelAdamwSmall.τ).loc Cert.KernelAdamwSmall.main_arg10) = m ((c.tc : Thread Cert.KernelAdamwSmall.nD Cert.KernelAdamwSmall.τ).loc Cert.KernelAdamwSmall.main_arg10)
      ∧ r.2.mem ((c.tc : Thread Cert.KernelAdamwSmall.nD Cert.KernelAdamwSmall.τ).loc Cert.KernelAdamwSmall.main_arg11) = m ((c.tc : Thread Cert.KernelAdamwSmall.nD Cert.KernelAdamwSmall.τ).loc Cert.KernelAdamwSmall.main_arg11)
      ∧ r.2.mem ((c.tc : Thread Cert.KernelAdamwSmall.nD Cert.KernelAdamwSmall.τ).loc Cert.KernelAdamwSmall.main_arg12) = m ((c.tc : Thread Cert.KernelAdamwSmall.nD Cert.KernelAdamwSmall.τ).loc Cert.KernelAdamwSmall.main_arg12)
      ∧ r.2.mem ((c.tc : Thread Cert.KernelAdamwSmall.nD Cert.KernelAdamwSmall.τ).loc Cert.KernelAdamwSmall.main_arg13) = m ((c.tc : Thread Cert.KernelAdamwSmall.nD Cert.KernelAdamwSmall.τ).loc Cert.KernelAdamwSmall.main_arg13)
      ∧ r.2.mem ((c.tc : Thread Cert.KernelAdamwSmall.nD Cert.KernelAdamwSmall.τ).loc Cert.KernelAdamwSmall.main_arg14) = m ((c.tc : Thread Cert.KernelAdamwSmall.nD Cert.KernelAdamwSmall.τ).loc Cert.KernelAdamwSmall.main_arg14)
      ∧ r.2.mem ((c.tc : Thread Cert.KernelAdamwSmall.nD Cert.KernelAdamwSmall.τ).loc Cert.KernelAdamwSmall.main_arg15) = m ((c.tc : Thread Cert.KernelAdamwSmall.nD Cert.KernelAdamwSmall.τ).loc Cert.KernelAdamwSmall.main_arg15)
      ∧ r.2.mem ((c.tc : Thread Cert.KernelAdamwSmall.nD Cert.KernelAdamwSmall.τ).loc Cert.KernelAdamwSmall.main_arg16) = m ((c.tc : Thread Cert.KernelAdamwSmall.nD Cert.KernelAdamwSmall.τ).loc Cert.KernelAdamwSmall.main_arg16)
      ∧ r.2.mem ((c.tc : Thread Cert.KernelAdamwSmall.nD Cert.KernelAdamwSmall.τ).loc Cert.KernelAdamwSmall.main_arg17) = m ((c.tc : Thread Cert.KernelAdamwSmall.nD Cert.KernelAdamwSmall.τ).loc Cert.KernelAdamwSmall.main_arg17)
      ∧ r.2.mem ((c.tc : Thread Cert.KernelAdamwSmall.nD Cert.KernelAdamwSmall.τ).loc Cert.KernelAdamwSmall.main_arg18) = m ((c.tc : Thread Cert.KernelAdamwSmall.nD Cert.KernelAdamwSmall.τ).loc Cert.KernelAdamwSmall.main_arg18)
      ∧ r.2.mem ((c.tc : Thread Cert.KernelAdamwSmall.nD Cert.KernelAdamwSmall.τ).loc Cert.KernelAdamwSmall.main_arg19) = m ((c.tc : Thread Cert.KernelAdamwSmall.nD Cert.KernelAdamwSmall.τ).loc Cert.KernelAdamwSmall.main_arg19)
      ∧ r.2.mem ((c.tc : Thread Cert.KernelAdamwSmall.nD Cert.KernelAdamwSmall.τ).loc Cert.KernelAdamwSmall.main_arg20) = m ((c.tc : Thread Cert.KernelAdamwSmall.nD Cert.KernelAdamwSmall.τ).loc Cert.KernelAdamwSmall.main_arg20)
      ∧ r.2.mem ((c.tc : Thread Cert.KernelAdamwSmall.nD Cert.KernelAdamwSmall.τ).loc Cert.KernelAdamwSmall.main_arg21) = m ((c.tc : Thread Cert.KernelAdamwSmall.nD Cert.KernelAdamwSmall.τ).loc Cert.KernelAdamwSmall.main_arg21)
      ∧ r.2.mem ((c.tc : Thread Cert.KernelAdamwSmall.nD Cert.KernelAdamwSmall.τ).loc Cert.KernelAdamwSmall.main_arg22) = m ((c.tc : Thread Cert.KernelAdamwSmall.nD Cert.KernelAdamwSmall.τ).loc Cert.KernelAdamwSmall.main_arg22)
      ∧ r.2.mem ((c.tc : Thread Cert.KernelAdamwSmall.nD Cert.KernelAdamwSmall.τ).loc Cert.KernelAdamwSmall.main_arg23) = m ((c.tc : Thread Cert.KernelAdamwSmall.nD Cert.KernelAdamwSmall.τ).loc Cert.KernelAdamwSmall.main_arg23)
      ∧ r.2.mem ((c.tc : Thread Cert.KernelAdamwSmall.nD Cert.KernelAdamwSmall.τ).loc Cert.KernelAdamwSmall.main_arg24) = m ((c.tc : Thread Cert.KernelAdamwSmall.nD Cert.KernelAdamwSmall.τ).loc Cert.KernelAdamwSmall.main_arg24)
      ∧ r.2.mem ((c.tc : Thread Cert.KernelAdamwSmall.nD Cert.KernelAdamwSmall.τ).loc Cert.KernelAdamwSmall.main_arg25) = m ((c.tc : Thread Cert.KernelAdamwSmall.nD Cert.KernelAdamwSmall.τ).loc Cert.KernelAdamwSmall.main_arg25)
      ∧ r.2.mem ((c.tc : Thread Cert.KernelAdamwSmall.nD Cert.KernelAdamwSmall.τ).loc Cert.KernelAdamwSmall.main_arg26) = m ((c.tc : Thread Cert.KernelAdamwSmall.nD Cert.KernelAdamwSmall.τ).loc Cert.KernelAdamwSmall.main_arg26)
      ∧ r.2.mem ((c.tc : Thread Cert.KernelAdamwSmall.nD Cert.KernelAdamwSmall.τ).loc Cert.KernelAdamwSmall.main_arg27) = m ((c.tc : Thread Cert.KernelAdamwSmall.nD Cert.KernelAdamwSmall.τ).loc Cert.KernelAdamwSmall.main_arg27)
      ∧ r.2.mem ((c.tc : Thread Cert.KernelAdamwSmall.nD Cert.KernelAdamwSmall.τ).loc Cert.KernelAdamwSmall.main_arg28) = m ((c.tc : Thread Cert.KernelAdamwSmall.nD Cert.KernelAdamwSmall.τ).loc Cert.KernelAdamwSmall.main_arg28)
      ∧ r.2.mem ((c.tc : Thread Cert.KernelAdamwSmall.nD Cert.KernelAdamwSmall.τ).loc Cert.KernelAdamwSmall.main_arg29) = m ((c.tc : Thread Cert.KernelAdamwSmall.nD Cert.KernelAdamwSmall.τ).loc Cert.KernelAdamwSmall.main_arg29)
      ∧ r.2.mem ((c.tc : Thread Cert.KernelAdamwSmall.nD Cert.KernelAdamwSmall.τ).loc Cert.KernelAdamwSmall.main_arg30) = m ((c.tc : Thread Cert.KernelAdamwSmall.nD Cert.KernelAdamwSmall.τ).loc Cert.KernelAdamwSmall.main_arg30)
      ∧ r.2.mem ((c.tc : Thread Cert.KernelAdamwSmall.nD Cert.KernelAdamwSmall.τ).loc Cert.KernelAdamwSmall.main_arg31) = m ((c.tc : Thread Cert.KernelAdamwSmall.nD Cert.KernelAdamwSmall.τ).loc Cert.KernelAdamwSmall.main_arg31)
      ∧ r.2.mem ((c.tc : Thread Cert.KernelAdamwSmall.nD Cert.KernelAdamwSmall.τ).loc Cert.KernelAdamwSmall.main_arg32) = m ((c.tc : Thread Cert.KernelAdamwSmall.nD Cert.KernelAdamwSmall.τ).loc Cert.KernelAdamwSmall.main_arg32)
      ∧ r.2.mem ((c.tc : Thread Cert.KernelAdamwSmall.nD Cert.KernelAdamwSmall.τ).loc Cert.KernelAdamwSmall.main_arg33) = m ((c.tc : Thread Cert.KernelAdamwSmall.nD Cert.KernelAdamwSmall.τ).loc Cert.KernelAdamwSmall.main_arg33)
      ∧ r.2.mem ((c.tc : Thread Cert.KernelAdamwSmall.nD Cert.KernelAdamwSmall.τ).loc Cert.KernelAdamwSmall.main_arg34) = m ((c.tc : Thread Cert.KernelAdamwSmall.nD Cert.KernelAdamwSmall.τ).loc Cert.KernelAdamwSmall.main_arg34)
      ∧ r.2.mem ((c.tc : Thread Cert.KernelAdamwSmall.nD Cert.KernelAdamwSmall.τ).loc Cert.KernelAdamwSmall.main_arg35) = m ((c.tc : Thread Cert.KernelAdamwSmall.nD Cert.KernelAdamwSmall.τ).loc Cert.KernelAdamwSmall.main_arg35)
      ∧ r.2.mem ((c.tc : Thread Cert.KernelAdamwSmall.nD Cert.KernelAdamwSmall.τ).loc Cert.KernelAdamwSmall.main_arg36) = m ((c.tc : Thread Cert.KernelAdamwSmall.nD Cert.KernelAdamwSmall.τ).loc Cert.KernelAdamwSmall.main_arg36)
      ∧ r.2.mem ((c.tc : Thread Cert.KernelAdamwSmall.nD Cert.KernelAdamwSmall.τ).loc Cert.KernelAdamwSmall.main_arg37) = m ((c.tc : Thread Cert.KernelAdamwSmall.nD Cert.KernelAdamwSmall.τ).loc Cert.KernelAdamwSmall.main_arg37)
      ∧ r.2.mem ((c.tc : Thread Cert.KernelAdamwSmall.nD Cert.KernelAdamwSmall.τ).loc Cert.KernelAdamwSmall.main_arg38) = m ((c.tc : Thread Cert.KernelAdamwSmall.nD Cert.KernelAdamwSmall.τ).loc Cert.KernelAdamwSmall.main_arg38)
      ∧ r.2.mem ((c.tc : Thread Cert.KernelAdamwSmall.nD Cert.KernelAdamwSmall.τ).loc Cert.KernelAdamwSmall.main_arg39) = m ((c.tc : Thread Cert.KernelAdamwSmall.nD Cert.KernelAdamwSmall.τ).loc Cert.KernelAdamwSmall.main_arg39)
      ∧ r.2.mem ((c.tc : Thread Cert.KernelAdamwSmall.nD Cert.KernelAdamwSmall.τ).loc Cert.KernelAdamwSmall.main_arg40) = m ((c.tc : Thread Cert.KernelAdamwSmall.nD Cert.KernelAdamwSmall.τ).loc Cert.KernelAdamwSmall.main_arg40)
      ∧ r.2.mem ((c.tc : Thread Cert.KernelAdamwSmall.nD Cert.KernelAdamwSmall.τ).loc Cert.KernelAdamwSmall.main_arg41) = m ((c.tc : Thread Cert.KernelAdamwSmall.nD Cert.KernelAdamwSmall.τ).loc Cert.KernelAdamwSmall.main_arg41)
      ∧ r.2.mem ((c.tc : Thread Cert.KernelAdamwSmall.nD Cert.KernelAdamwSmall.τ).loc Cert.KernelAdamwSmall.main_arg42) = m ((c.tc : Thread Cert.KernelAdamwSmall.nD Cert.KernelAdamwSmall.τ).loc Cert.KernelAdamwSmall.main_arg42)
      ∧ r.2.mem ((c.tc : Thread Cert.KernelAdamwSmall.nD Cert.KernelAdamwSmall.τ).loc Cert.KernelAdamwSmall.main_arg43) = m ((c.tc : Thread Cert.KernelAdamwSmall.nD Cert.KernelAdamwSmall.τ).loc Cert.KernelAdamwSmall.main_arg43))
      ∧ r.2.sem = fun _ => 0)

def quiescent_KernelAdamwSmallIdeal [hKernelAdamwSmallIdeal : Cert.KernelAdamwSmallIdeal.Facts] : Prop :=
  ∀ (m : (ℓ : Loc Cert.KernelAdamwSmallIdeal.nD Cert.KernelAdamwSmallIdeal.τ Cert.KernelAdamwSmallIdeal.sig) → Buf (Elt Ideal) ℓ) (g : Dev Cert.KernelAdamwSmallIdeal.nD → PrngReg), Pre_KernelAdamwSmallIdeal m →
    θ_run (Cert.KernelAdamwSmallIdeal.defs (F := Ideal)) (onTc (τ := Cert.KernelAdamwSmallIdeal.τ) (Cert.KernelAdamwSmallIdeal.main (F := Ideal))) ⟨m, fun _ => 0, g⟩ (fun r => (∀ c : Dev Cert.KernelAdamwSmallIdeal.nD,
      r.2.mem ((c.tc : Thread Cert.KernelAdamwSmallIdeal.nD Cert.KernelAdamwSmallIdeal.τ).loc Cert.KernelAdamwSmallIdeal.main_arg0) = m ((c.tc : Thread Cert.KernelAdamwSmallIdeal.nD Cert.KernelAdamwSmallIdeal.τ).loc Cert.KernelAdamwSmallIdeal.main_arg0)
      ∧ r.2.mem ((c.tc : Thread Cert.KernelAdamwSmallIdeal.nD Cert.KernelAdamwSmallIdeal.τ).loc Cert.KernelAdamwSmallIdeal.main_arg1) = m ((c.tc : Thread Cert.KernelAdamwSmallIdeal.nD Cert.KernelAdamwSmallIdeal.τ).loc Cert.KernelAdamwSmallIdeal.main_arg1)
      ∧ r.2.mem ((c.tc : Thread Cert.KernelAdamwSmallIdeal.nD Cert.KernelAdamwSmallIdeal.τ).loc Cert.KernelAdamwSmallIdeal.main_arg2) = m ((c.tc : Thread Cert.KernelAdamwSmallIdeal.nD Cert.KernelAdamwSmallIdeal.τ).loc Cert.KernelAdamwSmallIdeal.main_arg2)
      ∧ r.2.mem ((c.tc : Thread Cert.KernelAdamwSmallIdeal.nD Cert.KernelAdamwSmallIdeal.τ).loc Cert.KernelAdamwSmallIdeal.main_arg3) = m ((c.tc : Thread Cert.KernelAdamwSmallIdeal.nD Cert.KernelAdamwSmallIdeal.τ).loc Cert.KernelAdamwSmallIdeal.main_arg3)
      ∧ r.2.mem ((c.tc : Thread Cert.KernelAdamwSmallIdeal.nD Cert.KernelAdamwSmallIdeal.τ).loc Cert.KernelAdamwSmallIdeal.main_arg4) = m ((c.tc : Thread Cert.KernelAdamwSmallIdeal.nD Cert.KernelAdamwSmallIdeal.τ).loc Cert.KernelAdamwSmallIdeal.main_arg4)
      ∧ r.2.mem ((c.tc : Thread Cert.KernelAdamwSmallIdeal.nD Cert.KernelAdamwSmallIdeal.τ).loc Cert.KernelAdamwSmallIdeal.main_arg5) = m ((c.tc : Thread Cert.KernelAdamwSmallIdeal.nD Cert.KernelAdamwSmallIdeal.τ).loc Cert.KernelAdamwSmallIdeal.main_arg5)
      ∧ r.2.mem ((c.tc : Thread Cert.KernelAdamwSmallIdeal.nD Cert.KernelAdamwSmallIdeal.τ).loc Cert.KernelAdamwSmallIdeal.main_arg6) = m ((c.tc : Thread Cert.KernelAdamwSmallIdeal.nD Cert.KernelAdamwSmallIdeal.τ).loc Cert.KernelAdamwSmallIdeal.main_arg6)
      ∧ r.2.mem ((c.tc : Thread Cert.KernelAdamwSmallIdeal.nD Cert.KernelAdamwSmallIdeal.τ).loc Cert.KernelAdamwSmallIdeal.main_arg7) = m ((c.tc : Thread Cert.KernelAdamwSmallIdeal.nD Cert.KernelAdamwSmallIdeal.τ).loc Cert.KernelAdamwSmallIdeal.main_arg7)
      ∧ r.2.mem ((c.tc : Thread Cert.KernelAdamwSmallIdeal.nD Cert.KernelAdamwSmallIdeal.τ).loc Cert.KernelAdamwSmallIdeal.main_arg8) = m ((c.tc : Thread Cert.KernelAdamwSmallIdeal.nD Cert.KernelAdamwSmallIdeal.τ).loc Cert.KernelAdamwSmallIdeal.main_arg8)
      ∧ r.2.mem ((c.tc : Thread Cert.KernelAdamwSmallIdeal.nD Cert.KernelAdamwSmallIdeal.τ).loc Cert.KernelAdamwSmallIdeal.main_arg9) = m ((c.tc : Thread Cert.KernelAdamwSmallIdeal.nD Cert.KernelAdamwSmallIdeal.τ).loc Cert.KernelAdamwSmallIdeal.main_arg9)
      ∧ r.2.mem ((c.tc : Thread Cert.KernelAdamwSmallIdeal.nD Cert.KernelAdamwSmallIdeal.τ).loc Cert.KernelAdamwSmallIdeal.main_arg10) = m ((c.tc : Thread Cert.KernelAdamwSmallIdeal.nD Cert.KernelAdamwSmallIdeal.τ).loc Cert.KernelAdamwSmallIdeal.main_arg10)
      ∧ r.2.mem ((c.tc : Thread Cert.KernelAdamwSmallIdeal.nD Cert.KernelAdamwSmallIdeal.τ).loc Cert.KernelAdamwSmallIdeal.main_arg11) = m ((c.tc : Thread Cert.KernelAdamwSmallIdeal.nD Cert.KernelAdamwSmallIdeal.τ).loc Cert.KernelAdamwSmallIdeal.main_arg11)
      ∧ r.2.mem ((c.tc : Thread Cert.KernelAdamwSmallIdeal.nD Cert.KernelAdamwSmallIdeal.τ).loc Cert.KernelAdamwSmallIdeal.main_arg12) = m ((c.tc : Thread Cert.KernelAdamwSmallIdeal.nD Cert.KernelAdamwSmallIdeal.τ).loc Cert.KernelAdamwSmallIdeal.main_arg12)
      ∧ r.2.mem ((c.tc : Thread Cert.KernelAdamwSmallIdeal.nD Cert.KernelAdamwSmallIdeal.τ).loc Cert.KernelAdamwSmallIdeal.main_arg13) = m ((c.tc : Thread Cert.KernelAdamwSmallIdeal.nD Cert.KernelAdamwSmallIdeal.τ).loc Cert.KernelAdamwSmallIdeal.main_arg13)
      ∧ r.2.mem ((c.tc : Thread Cert.KernelAdamwSmallIdeal.nD Cert.KernelAdamwSmallIdeal.τ).loc Cert.KernelAdamwSmallIdeal.main_arg14) = m ((c.tc : Thread Cert.KernelAdamwSmallIdeal.nD Cert.KernelAdamwSmallIdeal.τ).loc Cert.KernelAdamwSmallIdeal.main_arg14)
      ∧ r.2.mem ((c.tc : Thread Cert.KernelAdamwSmallIdeal.nD Cert.KernelAdamwSmallIdeal.τ).loc Cert.KernelAdamwSmallIdeal.main_arg15) = m ((c.tc : Thread Cert.KernelAdamwSmallIdeal.nD Cert.KernelAdamwSmallIdeal.τ).loc Cert.KernelAdamwSmallIdeal.main_arg15)
      ∧ r.2.mem ((c.tc : Thread Cert.KernelAdamwSmallIdeal.nD Cert.KernelAdamwSmallIdeal.τ).loc Cert.KernelAdamwSmallIdeal.main_arg16) = m ((c.tc : Thread Cert.KernelAdamwSmallIdeal.nD Cert.KernelAdamwSmallIdeal.τ).loc Cert.KernelAdamwSmallIdeal.main_arg16)
      ∧ r.2.mem ((c.tc : Thread Cert.KernelAdamwSmallIdeal.nD Cert.KernelAdamwSmallIdeal.τ).loc Cert.KernelAdamwSmallIdeal.main_arg17) = m ((c.tc : Thread Cert.KernelAdamwSmallIdeal.nD Cert.KernelAdamwSmallIdeal.τ).loc Cert.KernelAdamwSmallIdeal.main_arg17)
      ∧ r.2.mem ((c.tc : Thread Cert.KernelAdamwSmallIdeal.nD Cert.KernelAdamwSmallIdeal.τ).loc Cert.KernelAdamwSmallIdeal.main_arg18) = m ((c.tc : Thread Cert.KernelAdamwSmallIdeal.nD Cert.KernelAdamwSmallIdeal.τ).loc Cert.KernelAdamwSmallIdeal.main_arg18)
      ∧ r.2.mem ((c.tc : Thread Cert.KernelAdamwSmallIdeal.nD Cert.KernelAdamwSmallIdeal.τ).loc Cert.KernelAdamwSmallIdeal.main_arg19) = m ((c.tc : Thread Cert.KernelAdamwSmallIdeal.nD Cert.KernelAdamwSmallIdeal.τ).loc Cert.KernelAdamwSmallIdeal.main_arg19)
      ∧ r.2.mem ((c.tc : Thread Cert.KernelAdamwSmallIdeal.nD Cert.KernelAdamwSmallIdeal.τ).loc Cert.KernelAdamwSmallIdeal.main_arg20) = m ((c.tc : Thread Cert.KernelAdamwSmallIdeal.nD Cert.KernelAdamwSmallIdeal.τ).loc Cert.KernelAdamwSmallIdeal.main_arg20)
      ∧ r.2.mem ((c.tc : Thread Cert.KernelAdamwSmallIdeal.nD Cert.KernelAdamwSmallIdeal.τ).loc Cert.KernelAdamwSmallIdeal.main_arg21) = m ((c.tc : Thread Cert.KernelAdamwSmallIdeal.nD Cert.KernelAdamwSmallIdeal.τ).loc Cert.KernelAdamwSmallIdeal.main_arg21)
      ∧ r.2.mem ((c.tc : Thread Cert.KernelAdamwSmallIdeal.nD Cert.KernelAdamwSmallIdeal.τ).loc Cert.KernelAdamwSmallIdeal.main_arg22) = m ((c.tc : Thread Cert.KernelAdamwSmallIdeal.nD Cert.KernelAdamwSmallIdeal.τ).loc Cert.KernelAdamwSmallIdeal.main_arg22)
      ∧ r.2.mem ((c.tc : Thread Cert.KernelAdamwSmallIdeal.nD Cert.KernelAdamwSmallIdeal.τ).loc Cert.KernelAdamwSmallIdeal.main_arg23) = m ((c.tc : Thread Cert.KernelAdamwSmallIdeal.nD Cert.KernelAdamwSmallIdeal.τ).loc Cert.KernelAdamwSmallIdeal.main_arg23)
      ∧ r.2.mem ((c.tc : Thread Cert.KernelAdamwSmallIdeal.nD Cert.KernelAdamwSmallIdeal.τ).loc Cert.KernelAdamwSmallIdeal.main_arg24) = m ((c.tc : Thread Cert.KernelAdamwSmallIdeal.nD Cert.KernelAdamwSmallIdeal.τ).loc Cert.KernelAdamwSmallIdeal.main_arg24)
      ∧ r.2.mem ((c.tc : Thread Cert.KernelAdamwSmallIdeal.nD Cert.KernelAdamwSmallIdeal.τ).loc Cert.KernelAdamwSmallIdeal.main_arg25) = m ((c.tc : Thread Cert.KernelAdamwSmallIdeal.nD Cert.KernelAdamwSmallIdeal.τ).loc Cert.KernelAdamwSmallIdeal.main_arg25)
      ∧ r.2.mem ((c.tc : Thread Cert.KernelAdamwSmallIdeal.nD Cert.KernelAdamwSmallIdeal.τ).loc Cert.KernelAdamwSmallIdeal.main_arg26) = m ((c.tc : Thread Cert.KernelAdamwSmallIdeal.nD Cert.KernelAdamwSmallIdeal.τ).loc Cert.KernelAdamwSmallIdeal.main_arg26)
      ∧ r.2.mem ((c.tc : Thread Cert.KernelAdamwSmallIdeal.nD Cert.KernelAdamwSmallIdeal.τ).loc Cert.KernelAdamwSmallIdeal.main_arg27) = m ((c.tc : Thread Cert.KernelAdamwSmallIdeal.nD Cert.KernelAdamwSmallIdeal.τ).loc Cert.KernelAdamwSmallIdeal.main_arg27)
      ∧ r.2.mem ((c.tc : Thread Cert.KernelAdamwSmallIdeal.nD Cert.KernelAdamwSmallIdeal.τ).loc Cert.KernelAdamwSmallIdeal.main_arg28) = m ((c.tc : Thread Cert.KernelAdamwSmallIdeal.nD Cert.KernelAdamwSmallIdeal.τ).loc Cert.KernelAdamwSmallIdeal.main_arg28)
      ∧ r.2.mem ((c.tc : Thread Cert.KernelAdamwSmallIdeal.nD Cert.KernelAdamwSmallIdeal.τ).loc Cert.KernelAdamwSmallIdeal.main_arg29) = m ((c.tc : Thread Cert.KernelAdamwSmallIdeal.nD Cert.KernelAdamwSmallIdeal.τ).loc Cert.KernelAdamwSmallIdeal.main_arg29)
      ∧ r.2.mem ((c.tc : Thread Cert.KernelAdamwSmallIdeal.nD Cert.KernelAdamwSmallIdeal.τ).loc Cert.KernelAdamwSmallIdeal.main_arg30) = m ((c.tc : Thread Cert.KernelAdamwSmallIdeal.nD Cert.KernelAdamwSmallIdeal.τ).loc Cert.KernelAdamwSmallIdeal.main_arg30)
      ∧ r.2.mem ((c.tc : Thread Cert.KernelAdamwSmallIdeal.nD Cert.KernelAdamwSmallIdeal.τ).loc Cert.KernelAdamwSmallIdeal.main_arg31) = m ((c.tc : Thread Cert.KernelAdamwSmallIdeal.nD Cert.KernelAdamwSmallIdeal.τ).loc Cert.KernelAdamwSmallIdeal.main_arg31)
      ∧ r.2.mem ((c.tc : Thread Cert.KernelAdamwSmallIdeal.nD Cert.KernelAdamwSmallIdeal.τ).loc Cert.KernelAdamwSmallIdeal.main_arg32) = m ((c.tc : Thread Cert.KernelAdamwSmallIdeal.nD Cert.KernelAdamwSmallIdeal.τ).loc Cert.KernelAdamwSmallIdeal.main_arg32)
      ∧ r.2.mem ((c.tc : Thread Cert.KernelAdamwSmallIdeal.nD Cert.KernelAdamwSmallIdeal.τ).loc Cert.KernelAdamwSmallIdeal.main_arg33) = m ((c.tc : Thread Cert.KernelAdamwSmallIdeal.nD Cert.KernelAdamwSmallIdeal.τ).loc Cert.KernelAdamwSmallIdeal.main_arg33)
      ∧ r.2.mem ((c.tc : Thread Cert.KernelAdamwSmallIdeal.nD Cert.KernelAdamwSmallIdeal.τ).loc Cert.KernelAdamwSmallIdeal.main_arg34) = m ((c.tc : Thread Cert.KernelAdamwSmallIdeal.nD Cert.KernelAdamwSmallIdeal.τ).loc Cert.KernelAdamwSmallIdeal.main_arg34)
      ∧ r.2.mem ((c.tc : Thread Cert.KernelAdamwSmallIdeal.nD Cert.KernelAdamwSmallIdeal.τ).loc Cert.KernelAdamwSmallIdeal.main_arg35) = m ((c.tc : Thread Cert.KernelAdamwSmallIdeal.nD Cert.KernelAdamwSmallIdeal.τ).loc Cert.KernelAdamwSmallIdeal.main_arg35)
      ∧ r.2.mem ((c.tc : Thread Cert.KernelAdamwSmallIdeal.nD Cert.KernelAdamwSmallIdeal.τ).loc Cert.KernelAdamwSmallIdeal.main_arg36) = m ((c.tc : Thread Cert.KernelAdamwSmallIdeal.nD Cert.KernelAdamwSmallIdeal.τ).loc Cert.KernelAdamwSmallIdeal.main_arg36)
      ∧ r.2.mem ((c.tc : Thread Cert.KernelAdamwSmallIdeal.nD Cert.KernelAdamwSmallIdeal.τ).loc Cert.KernelAdamwSmallIdeal.main_arg37) = m ((c.tc : Thread Cert.KernelAdamwSmallIdeal.nD Cert.KernelAdamwSmallIdeal.τ).loc Cert.KernelAdamwSmallIdeal.main_arg37)
      ∧ r.2.mem ((c.tc : Thread Cert.KernelAdamwSmallIdeal.nD Cert.KernelAdamwSmallIdeal.τ).loc Cert.KernelAdamwSmallIdeal.main_arg38) = m ((c.tc : Thread Cert.KernelAdamwSmallIdeal.nD Cert.KernelAdamwSmallIdeal.τ).loc Cert.KernelAdamwSmallIdeal.main_arg38)
      ∧ r.2.mem ((c.tc : Thread Cert.KernelAdamwSmallIdeal.nD Cert.KernelAdamwSmallIdeal.τ).loc Cert.KernelAdamwSmallIdeal.main_arg39) = m ((c.tc : Thread Cert.KernelAdamwSmallIdeal.nD Cert.KernelAdamwSmallIdeal.τ).loc Cert.KernelAdamwSmallIdeal.main_arg39)
      ∧ r.2.mem ((c.tc : Thread Cert.KernelAdamwSmallIdeal.nD Cert.KernelAdamwSmallIdeal.τ).loc Cert.KernelAdamwSmallIdeal.main_arg40) = m ((c.tc : Thread Cert.KernelAdamwSmallIdeal.nD Cert.KernelAdamwSmallIdeal.τ).loc Cert.KernelAdamwSmallIdeal.main_arg40)
      ∧ r.2.mem ((c.tc : Thread Cert.KernelAdamwSmallIdeal.nD Cert.KernelAdamwSmallIdeal.τ).loc Cert.KernelAdamwSmallIdeal.main_arg41) = m ((c.tc : Thread Cert.KernelAdamwSmallIdeal.nD Cert.KernelAdamwSmallIdeal.τ).loc Cert.KernelAdamwSmallIdeal.main_arg41)
      ∧ r.2.mem ((c.tc : Thread Cert.KernelAdamwSmallIdeal.nD Cert.KernelAdamwSmallIdeal.τ).loc Cert.KernelAdamwSmallIdeal.main_arg42) = m ((c.tc : Thread Cert.KernelAdamwSmallIdeal.nD Cert.KernelAdamwSmallIdeal.τ).loc Cert.KernelAdamwSmallIdeal.main_arg42)
      ∧ r.2.mem ((c.tc : Thread Cert.KernelAdamwSmallIdeal.nD Cert.KernelAdamwSmallIdeal.τ).loc Cert.KernelAdamwSmallIdeal.main_arg43) = m ((c.tc : Thread Cert.KernelAdamwSmallIdeal.nD Cert.KernelAdamwSmallIdeal.τ).loc Cert.KernelAdamwSmallIdeal.main_arg43))
      ∧ r.2.sem = fun _ => 0)

def quiescent_ReferenceAdamwSmallIdeal [hReferenceAdamwSmallIdeal : Cert.ReferenceAdamwSmallIdeal.Facts] : Prop :=
  ∀ (m : (ℓ : Loc Cert.ReferenceAdamwSmallIdeal.nD Cert.ReferenceAdamwSmallIdeal.τ Cert.ReferenceAdamwSmallIdeal.sig) → Buf (Elt Ideal) ℓ) (g : Dev Cert.ReferenceAdamwSmallIdeal.nD → PrngReg), Pre_ReferenceAdamwSmallIdeal m →
    θ_run (Cert.ReferenceAdamwSmallIdeal.defs (F := Ideal)) (onTc (τ := Cert.ReferenceAdamwSmallIdeal.τ) (Cert.ReferenceAdamwSmallIdeal.main (F := Ideal))) ⟨m, fun _ => 0, g⟩ (fun r => (∀ c : Dev Cert.ReferenceAdamwSmallIdeal.nD,
      r.2.mem ((c.tc : Thread Cert.ReferenceAdamwSmallIdeal.nD Cert.ReferenceAdamwSmallIdeal.τ).loc Cert.ReferenceAdamwSmallIdeal.main_arg0) = m ((c.tc : Thread Cert.ReferenceAdamwSmallIdeal.nD Cert.ReferenceAdamwSmallIdeal.τ).loc Cert.ReferenceAdamwSmallIdeal.main_arg0)
      ∧ r.2.mem ((c.tc : Thread Cert.ReferenceAdamwSmallIdeal.nD Cert.ReferenceAdamwSmallIdeal.τ).loc Cert.ReferenceAdamwSmallIdeal.main_arg1) = m ((c.tc : Thread Cert.ReferenceAdamwSmallIdeal.nD Cert.ReferenceAdamwSmallIdeal.τ).loc Cert.ReferenceAdamwSmallIdeal.main_arg1)
      ∧ r.2.mem ((c.tc : Thread Cert.ReferenceAdamwSmallIdeal.nD Cert.ReferenceAdamwSmallIdeal.τ).loc Cert.ReferenceAdamwSmallIdeal.main_arg2) = m ((c.tc : Thread Cert.ReferenceAdamwSmallIdeal.nD Cert.ReferenceAdamwSmallIdeal.τ).loc Cert.ReferenceAdamwSmallIdeal.main_arg2)
      ∧ r.2.mem ((c.tc : Thread Cert.ReferenceAdamwSmallIdeal.nD Cert.ReferenceAdamwSmallIdeal.τ).loc Cert.ReferenceAdamwSmallIdeal.main_arg3) = m ((c.tc : Thread Cert.ReferenceAdamwSmallIdeal.nD Cert.ReferenceAdamwSmallIdeal.τ).loc Cert.ReferenceAdamwSmallIdeal.main_arg3)
      ∧ r.2.mem ((c.tc : Thread Cert.ReferenceAdamwSmallIdeal.nD Cert.ReferenceAdamwSmallIdeal.τ).loc Cert.ReferenceAdamwSmallIdeal.main_arg4) = m ((c.tc : Thread Cert.ReferenceAdamwSmallIdeal.nD Cert.ReferenceAdamwSmallIdeal.τ).loc Cert.ReferenceAdamwSmallIdeal.main_arg4)
      ∧ r.2.mem ((c.tc : Thread Cert.ReferenceAdamwSmallIdeal.nD Cert.ReferenceAdamwSmallIdeal.τ).loc Cert.ReferenceAdamwSmallIdeal.main_arg5) = m ((c.tc : Thread Cert.ReferenceAdamwSmallIdeal.nD Cert.ReferenceAdamwSmallIdeal.τ).loc Cert.ReferenceAdamwSmallIdeal.main_arg5)
      ∧ r.2.mem ((c.tc : Thread Cert.ReferenceAdamwSmallIdeal.nD Cert.ReferenceAdamwSmallIdeal.τ).loc Cert.ReferenceAdamwSmallIdeal.main_arg6) = m ((c.tc : Thread Cert.ReferenceAdamwSmallIdeal.nD Cert.ReferenceAdamwSmallIdeal.τ).loc Cert.ReferenceAdamwSmallIdeal.main_arg6)
      ∧ r.2.mem ((c.tc : Thread Cert.ReferenceAdamwSmallIdeal.nD Cert.ReferenceAdamwSmallIdeal.τ).loc Cert.ReferenceAdamwSmallIdeal.main_arg7) = m ((c.tc : Thread Cert.ReferenceAdamwSmallIdeal.nD Cert.ReferenceAdamwSmallIdeal.τ).loc Cert.ReferenceAdamwSmallIdeal.main_arg7)
      ∧ r.2.mem ((c.tc : Thread Cert.ReferenceAdamwSmallIdeal.nD Cert.ReferenceAdamwSmallIdeal.τ).loc Cert.ReferenceAdamwSmallIdeal.main_arg8) = m ((c.tc : Thread Cert.ReferenceAdamwSmallIdeal.nD Cert.ReferenceAdamwSmallIdeal.τ).loc Cert.ReferenceAdamwSmallIdeal.main_arg8)
      ∧ r.2.mem ((c.tc : Thread Cert.ReferenceAdamwSmallIdeal.nD Cert.ReferenceAdamwSmallIdeal.τ).loc Cert.ReferenceAdamwSmallIdeal.main_arg9) = m ((c.tc : Thread Cert.ReferenceAdamwSmallIdeal.nD Cert.ReferenceAdamwSmallIdeal.τ).loc Cert.ReferenceAdamwSmallIdeal.main_arg9)
      ∧ r.2.mem ((c.tc : Thread Cert.ReferenceAdamwSmallIdeal.nD Cert.ReferenceAdamwSmallIdeal.τ).loc Cert.ReferenceAdamwSmallIdeal.main_arg10) = m ((c.tc : Thread Cert.ReferenceAdamwSmallIdeal.nD Cert.ReferenceAdamwSmallIdeal.τ).loc Cert.ReferenceAdamwSmallIdeal.main_arg10)
      ∧ r.2.mem ((c.tc : Thread Cert.ReferenceAdamwSmallIdeal.nD Cert.ReferenceAdamwSmallIdeal.τ).loc Cert.ReferenceAdamwSmallIdeal.main_arg11) = m ((c.tc : Thread Cert.ReferenceAdamwSmallIdeal.nD Cert.ReferenceAdamwSmallIdeal.τ).loc Cert.ReferenceAdamwSmallIdeal.main_arg11)
      ∧ r.2.mem ((c.tc : Thread Cert.ReferenceAdamwSmallIdeal.nD Cert.ReferenceAdamwSmallIdeal.τ).loc Cert.ReferenceAdamwSmallIdeal.main_arg12) = m ((c.tc : Thread Cert.ReferenceAdamwSmallIdeal.nD Cert.ReferenceAdamwSmallIdeal.τ).loc Cert.ReferenceAdamwSmallIdeal.main_arg12)
      ∧ r.2.mem ((c.tc : Thread Cert.ReferenceAdamwSmallIdeal.nD Cert.ReferenceAdamwSmallIdeal.τ).loc Cert.ReferenceAdamwSmallIdeal.main_arg13) = m ((c.tc : Thread Cert.ReferenceAdamwSmallIdeal.nD Cert.ReferenceAdamwSmallIdeal.τ).loc Cert.ReferenceAdamwSmallIdeal.main_arg13)
      ∧ r.2.mem ((c.tc : Thread Cert.ReferenceAdamwSmallIdeal.nD Cert.ReferenceAdamwSmallIdeal.τ).loc Cert.ReferenceAdamwSmallIdeal.main_arg14) = m ((c.tc : Thread Cert.ReferenceAdamwSmallIdeal.nD Cert.ReferenceAdamwSmallIdeal.τ).loc Cert.ReferenceAdamwSmallIdeal.main_arg14)
      ∧ r.2.mem ((c.tc : Thread Cert.ReferenceAdamwSmallIdeal.nD Cert.ReferenceAdamwSmallIdeal.τ).loc Cert.ReferenceAdamwSmallIdeal.main_arg15) = m ((c.tc : Thread Cert.ReferenceAdamwSmallIdeal.nD Cert.ReferenceAdamwSmallIdeal.τ).loc Cert.ReferenceAdamwSmallIdeal.main_arg15)
      ∧ r.2.mem ((c.tc : Thread Cert.ReferenceAdamwSmallIdeal.nD Cert.ReferenceAdamwSmallIdeal.τ).loc Cert.ReferenceAdamwSmallIdeal.main_arg16) = m ((c.tc : Thread Cert.ReferenceAdamwSmallIdeal.nD Cert.ReferenceAdamwSmallIdeal.τ).loc Cert.ReferenceAdamwSmallIdeal.main_arg16)
      ∧ r.2.mem ((c.tc : Thread Cert.ReferenceAdamwSmallIdeal.nD Cert.ReferenceAdamwSmallIdeal.τ).loc Cert.ReferenceAdamwSmallIdeal.main_arg17) = m ((c.tc : Thread Cert.ReferenceAdamwSmallIdeal.nD Cert.ReferenceAdamwSmallIdeal.τ).loc Cert.ReferenceAdamwSmallIdeal.main_arg17)
      ∧ r.2.mem ((c.tc : Thread Cert.ReferenceAdamwSmallIdeal.nD Cert.ReferenceAdamwSmallIdeal.τ).loc Cert.ReferenceAdamwSmallIdeal.main_arg18) = m ((c.tc : Thread Cert.ReferenceAdamwSmallIdeal.nD Cert.ReferenceAdamwSmallIdeal.τ).loc Cert.ReferenceAdamwSmallIdeal.main_arg18)
      ∧ r.2.mem ((c.tc : Thread Cert.ReferenceAdamwSmallIdeal.nD Cert.ReferenceAdamwSmallIdeal.τ).loc Cert.ReferenceAdamwSmallIdeal.main_arg19) = m ((c.tc : Thread Cert.ReferenceAdamwSmallIdeal.nD Cert.ReferenceAdamwSmallIdeal.τ).loc Cert.ReferenceAdamwSmallIdeal.main_arg19)
      ∧ r.2.mem ((c.tc : Thread Cert.ReferenceAdamwSmallIdeal.nD Cert.ReferenceAdamwSmallIdeal.τ).loc Cert.ReferenceAdamwSmallIdeal.main_arg20) = m ((c.tc : Thread Cert.ReferenceAdamwSmallIdeal.nD Cert.ReferenceAdamwSmallIdeal.τ).loc Cert.ReferenceAdamwSmallIdeal.main_arg20)
      ∧ r.2.mem ((c.tc : Thread Cert.ReferenceAdamwSmallIdeal.nD Cert.ReferenceAdamwSmallIdeal.τ).loc Cert.ReferenceAdamwSmallIdeal.main_arg21) = m ((c.tc : Thread Cert.ReferenceAdamwSmallIdeal.nD Cert.ReferenceAdamwSmallIdeal.τ).loc Cert.ReferenceAdamwSmallIdeal.main_arg21)
      ∧ r.2.mem ((c.tc : Thread Cert.ReferenceAdamwSmallIdeal.nD Cert.ReferenceAdamwSmallIdeal.τ).loc Cert.ReferenceAdamwSmallIdeal.main_arg22) = m ((c.tc : Thread Cert.ReferenceAdamwSmallIdeal.nD Cert.ReferenceAdamwSmallIdeal.τ).loc Cert.ReferenceAdamwSmallIdeal.main_arg22)
      ∧ r.2.mem ((c.tc : Thread Cert.ReferenceAdamwSmallIdeal.nD Cert.ReferenceAdamwSmallIdeal.τ).loc Cert.ReferenceAdamwSmallIdeal.main_arg23) = m ((c.tc : Thread Cert.ReferenceAdamwSmallIdeal.nD Cert.ReferenceAdamwSmallIdeal.τ).loc Cert.ReferenceAdamwSmallIdeal.main_arg23)
      ∧ r.2.mem ((c.tc : Thread Cert.ReferenceAdamwSmallIdeal.nD Cert.ReferenceAdamwSmallIdeal.τ).loc Cert.ReferenceAdamwSmallIdeal.main_arg24) = m ((c.tc : Thread Cert.ReferenceAdamwSmallIdeal.nD Cert.ReferenceAdamwSmallIdeal.τ).loc Cert.ReferenceAdamwSmallIdeal.main_arg24)
      ∧ r.2.mem ((c.tc : Thread Cert.ReferenceAdamwSmallIdeal.nD Cert.ReferenceAdamwSmallIdeal.τ).loc Cert.ReferenceAdamwSmallIdeal.main_arg25) = m ((c.tc : Thread Cert.ReferenceAdamwSmallIdeal.nD Cert.ReferenceAdamwSmallIdeal.τ).loc Cert.ReferenceAdamwSmallIdeal.main_arg25)
      ∧ r.2.mem ((c.tc : Thread Cert.ReferenceAdamwSmallIdeal.nD Cert.ReferenceAdamwSmallIdeal.τ).loc Cert.ReferenceAdamwSmallIdeal.main_arg26) = m ((c.tc : Thread Cert.ReferenceAdamwSmallIdeal.nD Cert.ReferenceAdamwSmallIdeal.τ).loc Cert.ReferenceAdamwSmallIdeal.main_arg26)
      ∧ r.2.mem ((c.tc : Thread Cert.ReferenceAdamwSmallIdeal.nD Cert.ReferenceAdamwSmallIdeal.τ).loc Cert.ReferenceAdamwSmallIdeal.main_arg27) = m ((c.tc : Thread Cert.ReferenceAdamwSmallIdeal.nD Cert.ReferenceAdamwSmallIdeal.τ).loc Cert.ReferenceAdamwSmallIdeal.main_arg27)
      ∧ r.2.mem ((c.tc : Thread Cert.ReferenceAdamwSmallIdeal.nD Cert.ReferenceAdamwSmallIdeal.τ).loc Cert.ReferenceAdamwSmallIdeal.main_arg28) = m ((c.tc : Thread Cert.ReferenceAdamwSmallIdeal.nD Cert.ReferenceAdamwSmallIdeal.τ).loc Cert.ReferenceAdamwSmallIdeal.main_arg28)
      ∧ r.2.mem ((c.tc : Thread Cert.ReferenceAdamwSmallIdeal.nD Cert.ReferenceAdamwSmallIdeal.τ).loc Cert.ReferenceAdamwSmallIdeal.main_arg29) = m ((c.tc : Thread Cert.ReferenceAdamwSmallIdeal.nD Cert.ReferenceAdamwSmallIdeal.τ).loc Cert.ReferenceAdamwSmallIdeal.main_arg29)
      ∧ r.2.mem ((c.tc : Thread Cert.ReferenceAdamwSmallIdeal.nD Cert.ReferenceAdamwSmallIdeal.τ).loc Cert.ReferenceAdamwSmallIdeal.main_arg30) = m ((c.tc : Thread Cert.ReferenceAdamwSmallIdeal.nD Cert.ReferenceAdamwSmallIdeal.τ).loc Cert.ReferenceAdamwSmallIdeal.main_arg30)
      ∧ r.2.mem ((c.tc : Thread Cert.ReferenceAdamwSmallIdeal.nD Cert.ReferenceAdamwSmallIdeal.τ).loc Cert.ReferenceAdamwSmallIdeal.main_arg31) = m ((c.tc : Thread Cert.ReferenceAdamwSmallIdeal.nD Cert.ReferenceAdamwSmallIdeal.τ).loc Cert.ReferenceAdamwSmallIdeal.main_arg31)
      ∧ r.2.mem ((c.tc : Thread Cert.ReferenceAdamwSmallIdeal.nD Cert.ReferenceAdamwSmallIdeal.τ).loc Cert.ReferenceAdamwSmallIdeal.main_arg32) = m ((c.tc : Thread Cert.ReferenceAdamwSmallIdeal.nD Cert.ReferenceAdamwSmallIdeal.τ).loc Cert.ReferenceAdamwSmallIdeal.main_arg32)
      ∧ r.2.mem ((c.tc : Thread Cert.ReferenceAdamwSmallIdeal.nD Cert.ReferenceAdamwSmallIdeal.τ).loc Cert.ReferenceAdamwSmallIdeal.main_arg33) = m ((c.tc : Thread Cert.ReferenceAdamwSmallIdeal.nD Cert.ReferenceAdamwSmallIdeal.τ).loc Cert.ReferenceAdamwSmallIdeal.main_arg33)
      ∧ r.2.mem ((c.tc : Thread Cert.ReferenceAdamwSmallIdeal.nD Cert.ReferenceAdamwSmallIdeal.τ).loc Cert.ReferenceAdamwSmallIdeal.main_arg34) = m ((c.tc : Thread Cert.ReferenceAdamwSmallIdeal.nD Cert.ReferenceAdamwSmallIdeal.τ).loc Cert.ReferenceAdamwSmallIdeal.main_arg34)
      ∧ r.2.mem ((c.tc : Thread Cert.ReferenceAdamwSmallIdeal.nD Cert.ReferenceAdamwSmallIdeal.τ).loc Cert.ReferenceAdamwSmallIdeal.main_arg35) = m ((c.tc : Thread Cert.ReferenceAdamwSmallIdeal.nD Cert.ReferenceAdamwSmallIdeal.τ).loc Cert.ReferenceAdamwSmallIdeal.main_arg35)
      ∧ r.2.mem ((c.tc : Thread Cert.ReferenceAdamwSmallIdeal.nD Cert.ReferenceAdamwSmallIdeal.τ).loc Cert.ReferenceAdamwSmallIdeal.main_arg36) = m ((c.tc : Thread Cert.ReferenceAdamwSmallIdeal.nD Cert.ReferenceAdamwSmallIdeal.τ).loc Cert.ReferenceAdamwSmallIdeal.main_arg36)
      ∧ r.2.mem ((c.tc : Thread Cert.ReferenceAdamwSmallIdeal.nD Cert.ReferenceAdamwSmallIdeal.τ).loc Cert.ReferenceAdamwSmallIdeal.main_arg37) = m ((c.tc : Thread Cert.ReferenceAdamwSmallIdeal.nD Cert.ReferenceAdamwSmallIdeal.τ).loc Cert.ReferenceAdamwSmallIdeal.main_arg37)
      ∧ r.2.mem ((c.tc : Thread Cert.ReferenceAdamwSmallIdeal.nD Cert.ReferenceAdamwSmallIdeal.τ).loc Cert.ReferenceAdamwSmallIdeal.main_arg38) = m ((c.tc : Thread Cert.ReferenceAdamwSmallIdeal.nD Cert.ReferenceAdamwSmallIdeal.τ).loc Cert.ReferenceAdamwSmallIdeal.main_arg38)
      ∧ r.2.mem ((c.tc : Thread Cert.ReferenceAdamwSmallIdeal.nD Cert.ReferenceAdamwSmallIdeal.τ).loc Cert.ReferenceAdamwSmallIdeal.main_arg39) = m ((c.tc : Thread Cert.ReferenceAdamwSmallIdeal.nD Cert.ReferenceAdamwSmallIdeal.τ).loc Cert.ReferenceAdamwSmallIdeal.main_arg39)
      ∧ r.2.mem ((c.tc : Thread Cert.ReferenceAdamwSmallIdeal.nD Cert.ReferenceAdamwSmallIdeal.τ).loc Cert.ReferenceAdamwSmallIdeal.main_arg40) = m ((c.tc : Thread Cert.ReferenceAdamwSmallIdeal.nD Cert.ReferenceAdamwSmallIdeal.τ).loc Cert.ReferenceAdamwSmallIdeal.main_arg40)
      ∧ r.2.mem ((c.tc : Thread Cert.ReferenceAdamwSmallIdeal.nD Cert.ReferenceAdamwSmallIdeal.τ).loc Cert.ReferenceAdamwSmallIdeal.main_arg41) = m ((c.tc : Thread Cert.ReferenceAdamwSmallIdeal.nD Cert.ReferenceAdamwSmallIdeal.τ).loc Cert.ReferenceAdamwSmallIdeal.main_arg41)
      ∧ r.2.mem ((c.tc : Thread Cert.ReferenceAdamwSmallIdeal.nD Cert.ReferenceAdamwSmallIdeal.τ).loc Cert.ReferenceAdamwSmallIdeal.main_arg42) = m ((c.tc : Thread Cert.ReferenceAdamwSmallIdeal.nD Cert.ReferenceAdamwSmallIdeal.τ).loc Cert.ReferenceAdamwSmallIdeal.main_arg42)
      ∧ r.2.mem ((c.tc : Thread Cert.ReferenceAdamwSmallIdeal.nD Cert.ReferenceAdamwSmallIdeal.τ).loc Cert.ReferenceAdamwSmallIdeal.main_arg43) = m ((c.tc : Thread Cert.ReferenceAdamwSmallIdeal.nD Cert.ReferenceAdamwSmallIdeal.τ).loc Cert.ReferenceAdamwSmallIdeal.main_arg43))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)) →
    ∃ (v0 : (c : Dev Cert.KernelDhIdeal.nD) → Buf (Elt Ideal) ((c.tc : Thread Cert.KernelDhIdeal.nD Cert.KernelDhIdeal.τ).loc Cert.KernelDhIdeal.main_v2)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v2) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v13) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2))

def preserves_KernelDw2_KernelDw2Ideal : Prop :=
  True

def algebraic_KernelDw2Ideal_ReferenceDw2Ideal [hKernelDw2Ideal : Cert.KernelDw2Ideal.Facts] [hReferenceDw2Ideal : Cert.ReferenceDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg)
    (m' : (ℓ : Loc Cert.ReferenceDw2Ideal.nD Cert.ReferenceDw2Ideal.τ Cert.ReferenceDw2Ideal.sig) → Buf (Elt Ideal) ℓ) (g' : Dev Cert.ReferenceDw2Ideal.nD → PrngReg), Pre_KernelDw2Ideal m →
    (∀ c : Dev Cert.KernelDw2Ideal.nD,
      m' ((c.tc : Thread Cert.ReferenceDw2Ideal.nD Cert.ReferenceDw2Ideal.τ).loc Cert.ReferenceDw2Ideal.main_arg0) = m ((c.tc : Thread Cert.KernelDw2Ideal.nD Cert.KernelDw2Ideal.τ).loc Cert.KernelDw2Ideal.main_arg0)
      ∧ m' ((c.tc : Thread Cert.ReferenceDw2Ideal.nD Cert.ReferenceDw2Ideal.τ).loc Cert.ReferenceDw2Ideal.main_arg1) = m ((c.tc : Thread Cert.KernelDw2Ideal.nD Cert.KernelDw2Ideal.τ).loc Cert.KernelDw2Ideal.main_arg1)) →
    ∃ (v0 : (c : Dev Cert.KernelDw2Ideal.nD) → Buf (Elt Ideal) ((c.tc : Thread Cert.KernelDw2Ideal.nD Cert.KernelDw2Ideal.τ).loc Cert.KernelDw2Ideal.main_v4)),
      θ_run (Cert.KernelDw2Ideal.defs (F := Ideal)) (onTc (τ := Cert.KernelDw2Ideal.τ) (Cert.KernelDw2Ideal.main (F := Ideal))) ⟨m, fun _ => 0, g⟩ (fun r => ∀ c : Dev Cert.KernelDw2Ideal.nD,
          r.2.mem ((c.tc : Thread Cert.KernelDw2Ideal.nD Cert.KernelDw2Ideal.τ).loc Cert.KernelDw2Ideal.main_v4) = v0 c
          ∧ r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
          ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ θ_run (Cert.ReferenceDw2Ideal.defs (F := Ideal)) (onTc (τ := Cert.ReferenceDw2Ideal.τ) (Cert.ReferenceDw2Ideal.main (F := Ideal))) ⟨m', fun _ => 0, g'⟩ (fun r => ∀ c : Dev Cert.ReferenceDw2Ideal.nD,
          r.2.mem ((c.tc : Thread Cert.ReferenceDw2Ideal.nD Cert.ReferenceDw2Ideal.τ).loc Cert.ReferenceDw2Ideal.main_v15) = v0 c
          ∧ r.2.mem ((c.tc : Thread Cert.ReferenceDw2Ideal.nD Cert.ReferenceDw2Ideal.τ).loc Cert.ReferenceDw2Ideal.main_arg0) = m' ((c.tc : Thread Cert.ReferenceDw2Ideal.nD Cert.ReferenceDw2Ideal.τ).loc Cert.ReferenceDw2Ideal.main_arg0)
          ∧ r.2.mem ((c.tc : Thread Cert.ReferenceDw2Ideal.nD Cert.ReferenceDw2Ideal.τ).loc Cert.ReferenceDw2Ideal.main_arg1) = m' ((c.tc : Thread Cert.ReferenceDw2Ideal.nD Cert.ReferenceDw2Ideal.τ).loc Cert.ReferenceDw2Ideal.main_arg1))

def preserves_KernelDw1_KernelDw1Ideal : Prop :=
  True

def algebraic_KernelDw1Ideal_ReferenceDw1Ideal [hKernelDw1Ideal : Cert.KernelDw1Ideal.Facts] [hReferenceDw1Ideal : Cert.ReferenceDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg)
    (m' : (ℓ : Loc Cert.ReferenceDw1Ideal.nD Cert.ReferenceDw1Ideal.τ Cert.ReferenceDw1Ideal.sig) → Buf (Elt Ideal) ℓ) (g' : Dev Cert.ReferenceDw1Ideal.nD → PrngReg), Pre_KernelDw1Ideal m →
    (∀ c : Dev Cert.KernelDw1Ideal.nD,
      m' ((c.tc : Thread Cert.ReferenceDw1Ideal.nD Cert.ReferenceDw1Ideal.τ).loc Cert.ReferenceDw1Ideal.main_arg0) = m ((c.tc : Thread Cert.KernelDw1Ideal.nD Cert.KernelDw1Ideal.τ).loc Cert.KernelDw1Ideal.main_arg0)
      ∧ m' ((c.tc : Thread Cert.ReferenceDw1Ideal.nD Cert.ReferenceDw1Ideal.τ).loc Cert.ReferenceDw1Ideal.main_arg1) = m ((c.tc : Thread Cert.KernelDw1Ideal.nD Cert.KernelDw1Ideal.τ).loc Cert.KernelDw1Ideal.main_arg1)) →
    ∃ (v0 : (c : Dev Cert.KernelDw1Ideal.nD) → Buf (Elt Ideal) ((c.tc : Thread Cert.KernelDw1Ideal.nD Cert.KernelDw1Ideal.τ).loc Cert.KernelDw1Ideal.main_v1)),
      θ_run (Cert.KernelDw1Ideal.defs (F := Ideal)) (onTc (τ := Cert.KernelDw1Ideal.τ) (Cert.KernelDw1Ideal.main (F := Ideal))) ⟨m, fun _ => 0, g⟩ (fun r => ∀ c : Dev Cert.KernelDw1Ideal.nD,
          r.2.mem ((c.tc : Thread Cert.KernelDw1Ideal.nD Cert.KernelDw1Ideal.τ).loc Cert.KernelDw1Ideal.main_v1) = v0 c
          ∧ r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
          ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ θ_run (Cert.ReferenceDw1Ideal.defs (F := Ideal)) (onTc (τ := Cert.ReferenceDw1Ideal.τ) (Cert.ReferenceDw1Ideal.main (F := Ideal))) ⟨m', fun _ => 0, g'⟩ (fun r => ∀ c : Dev Cert.ReferenceDw1Ideal.nD,
          r.2.mem ((c.tc : Thread Cert.ReferenceDw1Ideal.nD Cert.ReferenceDw1Ideal.τ).loc Cert.ReferenceDw1Ideal.main_v6) = v0 c
          ∧ r.2.mem ((c.tc : Thread Cert.ReferenceDw1Ideal.nD Cert.ReferenceDw1Ideal.τ).loc Cert.ReferenceDw1Ideal.main_arg0) = m' ((c.tc : Thread Cert.ReferenceDw1Ideal.nD Cert.ReferenceDw1Ideal.τ).loc Cert.ReferenceDw1Ideal.main_arg0)
          ∧ r.2.mem ((c.tc : Thread Cert.ReferenceDw1Ideal.nD Cert.ReferenceDw1Ideal.τ).loc Cert.ReferenceDw1Ideal.main_arg1) = m' ((c.tc : Thread Cert.ReferenceDw1Ideal.nD Cert.ReferenceDw1Ideal.τ).loc Cert.ReferenceDw1Ideal.main_arg1))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)) →
    ∃ (v0 : (c : Dev Cert.KernelDxIdeal.nD) → Buf (Elt Ideal) ((c.tc : Thread Cert.KernelDxIdeal.nD Cert.KernelDxIdeal.τ).loc Cert.KernelDxIdeal.main_v3)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v3) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v7) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2))

def preserves_KernelGdnDw_KernelGdnDwIdeal : Prop :=
  True

def algebraic_KernelGdnDwIdeal_ReferenceGdnDwIdeal [hKernelGdnDwIdeal : Cert.KernelGdnDwIdeal.Facts] [hReferenceGdnDwIdeal : Cert.ReferenceGdnDwIdeal.Facts] : Prop :=
  ∀ (m : (ℓ : Loc Cert.KernelGdnDwIdeal.nD Cert.KernelGdnDwIdeal.τ Cert.KernelGdnDwIdeal.sig) → Buf (Elt Ideal) ℓ) (g : Dev Cert.KernelGdnDwIdeal.nD → PrngReg)
    (m' : (ℓ : Loc Cert.ReferenceGdnDwIdeal.nD Cert.ReferenceGdnDwIdeal.τ Cert.ReferenceGdnDwIdeal.sig) → Buf (Elt Ideal) ℓ) (g' : Dev Cert.ReferenceGdnDwIdeal.nD → PrngReg), Pre_KernelGdnDwIdeal m →
    (∀ c : Dev Cert.KernelGdnDwIdeal.nD,
      m' ((c.tc : Thread Cert.ReferenceGdnDwIdeal.nD Cert.ReferenceGdnDwIdeal.τ).loc Cert.ReferenceGdnDwIdeal.main_arg0) = m ((c.tc : Thread Cert.KernelGdnDwIdeal.nD Cert.KernelGdnDwIdeal.τ).loc Cert.KernelGdnDwIdeal.main_arg0)
      ∧ m' ((c.tc : Thread Cert.ReferenceGdnDwIdeal.nD Cert.ReferenceGdnDwIdeal.τ).loc Cert.ReferenceGdnDwIdeal.main_arg1) = m ((c.tc : Thread Cert.KernelGdnDwIdeal.nD Cert.KernelGdnDwIdeal.τ).loc Cert.KernelGdnDwIdeal.main_arg1)) →
    ∃ (v0 : (c : Dev Cert.KernelGdnDwIdeal.nD) → Buf (Elt Ideal) ((c.tc : Thread Cert.KernelGdnDwIdeal.nD Cert.KernelGdnDwIdeal.τ).loc Cert.KernelGdnDwIdeal.main_v1)),
      θ_run (Cert.KernelGdnDwIdeal.defs (F := Ideal)) (onTc (τ := Cert.KernelGdnDwIdeal.τ) (Cert.KernelGdnDwIdeal.main (F := Ideal))) ⟨m, fun _ => 0, g⟩ (fun r => ∀ c : Dev Cert.KernelGdnDwIdeal.nD,
          r.2.mem ((c.tc : Thread Cert.KernelGdnDwIdeal.nD Cert.KernelGdnDwIdeal.τ).loc Cert.KernelGdnDwIdeal.main_v1) = v0 c
          ∧ r.2.mem ((c.tc : Thread Cert.KernelGdnDwIdeal.nD Cert.KernelGdnDwIdeal.τ).loc Cert.KernelGdnDwIdeal.main_arg0) = m ((c.tc : Thread Cert.KernelGdnDwIdeal.nD Cert.KernelGdnDwIdeal.τ).loc Cert.KernelGdnDwIdeal.main_arg0)
          ∧ r.2.mem ((c.tc : Thread Cert.KernelGdnDwIdeal.nD Cert.KernelGdnDwIdeal.τ).loc Cert.KernelGdnDwIdeal.main_arg1) = m ((c.tc : Thread Cert.KernelGdnDwIdeal.nD Cert.KernelGdnDwIdeal.τ).loc Cert.KernelGdnDwIdeal.main_arg1))
      ∧ θ_run (Cert.ReferenceGdnDwIdeal.defs (F := Ideal)) (onTc (τ := Cert.ReferenceGdnDwIdeal.τ) (Cert.ReferenceGdnDwIdeal.main (F := Ideal))) ⟨m', fun _ => 0, g'⟩ (fun r => ∀ c : Dev Cert.ReferenceGdnDwIdeal.nD,
          r.2.mem ((c.tc : Thread Cert.ReferenceGdnDwIdeal.nD Cert.ReferenceGdnDwIdeal.τ).loc Cert.ReferenceGdnDwIdeal.main_v3) = v0 c
          ∧ r.2.mem ((c.tc : Thread Cert.ReferenceGdnDwIdeal.nD Cert.ReferenceGdnDwIdeal.τ).loc Cert.ReferenceGdnDwIdeal.main_arg0) = m' ((c.tc : Thread Cert.ReferenceGdnDwIdeal.nD Cert.ReferenceGdnDwIdeal.τ).loc Cert.ReferenceGdnDwIdeal.main_arg0)
          ∧ r.2.mem ((c.tc : Thread Cert.ReferenceGdnDwIdeal.nD Cert.ReferenceGdnDwIdeal.τ).loc Cert.ReferenceGdnDwIdeal.main_arg1) = m' ((c.tc : Thread Cert.ReferenceGdnDwIdeal.nD Cert.ReferenceGdnDwIdeal.τ).loc Cert.ReferenceGdnDwIdeal.main_arg1))

def preserves_KernelGdnDx_KernelGdnDxIdeal : Prop :=
  True

def algebraic_KernelGdnDxIdeal_ReferenceGdnDxIdeal [hKernelGdnDxIdeal : Cert.KernelGdnDxIdeal.Facts] [hReferenceGdnDxIdeal : Cert.ReferenceGdnDxIdeal.Facts] : Prop :=
  ∀ (m : (ℓ : Loc Cert.KernelGdnDxIdeal.nD Cert.KernelGdnDxIdeal.τ Cert.KernelGdnDxIdeal.sig) → Buf (Elt Ideal) ℓ) (g : Dev Cert.KernelGdnDxIdeal.nD → PrngReg)
    (m' : (ℓ : Loc Cert.ReferenceGdnDxIdeal.nD Cert.ReferenceGdnDxIdeal.τ Cert.ReferenceGdnDxIdeal.sig) → Buf (Elt Ideal) ℓ) (g' : Dev Cert.ReferenceGdnDxIdeal.nD → PrngReg), Pre_KernelGdnDxIdeal m →
    (∀ c : Dev Cert.KernelGdnDxIdeal.nD,
      m' ((c.tc : Thread Cert.ReferenceGdnDxIdeal.nD Cert.ReferenceGdnDxIdeal.τ).loc Cert.ReferenceGdnDxIdeal.main_arg0) = m ((c.tc : Thread Cert.KernelGdnDxIdeal.nD Cert.KernelGdnDxIdeal.τ).loc Cert.KernelGdnDxIdeal.main_arg0)
      ∧ m' ((c.tc : Thread Cert.ReferenceGdnDxIdeal.nD Cert.ReferenceGdnDxIdeal.τ).loc Cert.ReferenceGdnDxIdeal.main_arg1) = m ((c.tc : Thread Cert.KernelGdnDxIdeal.nD Cert.KernelGdnDxIdeal.τ).loc Cert.KernelGdnDxIdeal.main_arg1)
      ∧ m' ((c.tc : Thread Cert.ReferenceGdnDxIdeal.nD Cert.ReferenceGdnDxIdeal.τ).loc Cert.ReferenceGdnDxIdeal.main_arg2) = m ((c.tc : Thread Cert.KernelGdnDxIdeal.nD Cert.KernelGdnDxIdeal.τ).loc Cert.KernelGdnDxIdeal.main_arg2)) →
    ∃ (v0 : (c : Dev Cert.KernelGdnDxIdeal.nD) → Buf (Elt Ideal) ((c.tc : Thread Cert.KernelGdnDxIdeal.nD Cert.KernelGdnDxIdeal.τ).loc Cert.KernelGdnDxIdeal.main_v1)),
      θ_run (Cert.KernelGdnDxIdeal.defs (F := Ideal)) (onTc (τ := Cert.KernelGdnDxIdeal.τ) (Cert.KernelGdnDxIdeal.main (F := Ideal))) ⟨m, fun _ => 0, g⟩ (fun r => ∀ c : Dev Cert.KernelGdnDxIdeal.nD,
          r.2.mem ((c.tc : Thread Cert.KernelGdnDxIdeal.nD Cert.KernelGdnDxIdeal.τ).loc Cert.KernelGdnDxIdeal.main_v1) = v0 c
          ∧ r.2.mem ((c.tc : Thread Cert.KernelGdnDxIdeal.nD Cert.KernelGdnDxIdeal.τ).loc Cert.KernelGdnDxIdeal.main_arg0) = m ((c.tc : Thread Cert.KernelGdnDxIdeal.nD Cert.KernelGdnDxIdeal.τ).loc Cert.KernelGdnDxIdeal.main_arg0)
          ∧ r.2.mem ((c.tc : Thread Cert.KernelGdnDxIdeal.nD Cert.KernelGdnDxIdeal.τ).loc Cert.KernelGdnDxIdeal.main_arg1) = m ((c.tc : Thread Cert.KernelGdnDxIdeal.nD Cert.KernelGdnDxIdeal.τ).loc Cert.KernelGdnDxIdeal.main_arg1)
          ∧ r.2.mem ((c.tc : Thread Cert.KernelGdnDxIdeal.nD Cert.KernelGdnDxIdeal.τ).loc Cert.KernelGdnDxIdeal.main_arg2) = m ((c.tc : Thread Cert.KernelGdnDxIdeal.nD Cert.KernelGdnDxIdeal.τ).loc Cert.KernelGdnDxIdeal.main_arg2))
      ∧ θ_run (Cert.ReferenceGdnDxIdeal.defs (F := Ideal)) (onTc (τ := Cert.ReferenceGdnDxIdeal.τ) (Cert.ReferenceGdnDxIdeal.main (F := Ideal))) ⟨m', fun _ => 0, g'⟩ (fun r => ∀ c : Dev Cert.ReferenceGdnDxIdeal.nD,
          r.2.mem ((c.tc : Thread Cert.ReferenceGdnDxIdeal.nD Cert.ReferenceGdnDxIdeal.τ).loc Cert.ReferenceGdnDxIdeal.main_v7) = v0 c
          ∧ r.2.mem ((c.tc : Thread Cert.ReferenceGdnDxIdeal.nD Cert.ReferenceGdnDxIdeal.τ).loc Cert.ReferenceGdnDxIdeal.main_arg0) = m' ((c.tc : Thread Cert.ReferenceGdnDxIdeal.nD Cert.ReferenceGdnDxIdeal.τ).loc Cert.ReferenceGdnDxIdeal.main_arg0)
          ∧ r.2.mem ((c.tc : Thread Cert.ReferenceGdnDxIdeal.nD Cert.ReferenceGdnDxIdeal.τ).loc Cert.ReferenceGdnDxIdeal.main_arg1) = m' ((c.tc : Thread Cert.ReferenceGdnDxIdeal.nD Cert.ReferenceGdnDxIdeal.τ).loc Cert.ReferenceGdnDxIdeal.main_arg1)
          ∧ r.2.mem ((c.tc : Thread Cert.ReferenceGdnDxIdeal.nD Cert.ReferenceGdnDxIdeal.τ).loc Cert.ReferenceGdnDxIdeal.main_arg2) = m' ((c.tc : Thread Cert.ReferenceGdnDxIdeal.nD Cert.ReferenceGdnDxIdeal.τ).loc Cert.ReferenceGdnDxIdeal.main_arg2))

def preserves_KernelGlaDw_KernelGlaDwIdeal : Prop :=
  True

def algebraic_KernelGlaDwIdeal_ReferenceGlaDwIdeal [hKernelGlaDwIdeal : Cert.KernelGlaDwIdeal.Facts] [hReferenceGlaDwIdeal : Cert.ReferenceGlaDwIdeal.Facts] : Prop :=
  ∀ (m : (ℓ : Loc Cert.KernelGlaDwIdeal.nD Cert.KernelGlaDwIdeal.τ Cert.KernelGlaDwIdeal.sig) → Buf (Elt Ideal) ℓ) (g : Dev Cert.KernelGlaDwIdeal.nD → PrngReg)
    (m' : (ℓ : Loc Cert.ReferenceGlaDwIdeal.nD Cert.ReferenceGlaDwIdeal.τ Cert.ReferenceGlaDwIdeal.sig) → Buf (Elt Ideal) ℓ) (g' : Dev Cert.ReferenceGlaDwIdeal.nD → PrngReg), Pre_KernelGlaDwIdeal m →
    (∀ c : Dev Cert.KernelGlaDwIdeal.nD,
      m' ((c.tc : Thread Cert.ReferenceGlaDwIdeal.nD Cert.ReferenceGlaDwIdeal.τ).loc Cert.ReferenceGlaDwIdeal.main_arg0) = m ((c.tc : Thread Cert.KernelGlaDwIdeal.nD Cert.KernelGlaDwIdeal.τ).loc Cert.KernelGlaDwIdeal.main_arg0)
      ∧ m' ((c.tc : Thread Cert.ReferenceGlaDwIdeal.nD Cert.ReferenceGlaDwIdeal.τ).loc Cert.ReferenceGlaDwIdeal.main_arg1) = m ((c.tc : Thread Cert.KernelGlaDwIdeal.nD Cert.KernelGlaDwIdeal.τ).loc Cert.KernelGlaDwIdeal.main_arg1)) →
    ∃ (v0 : (c : Dev Cert.KernelGlaDwIdeal.nD) → Buf (Elt Ideal) ((c.tc : Thread Cert.KernelGlaDwIdeal.nD Cert.KernelGlaDwIdeal.τ).loc Cert.KernelGlaDwIdeal.main_v1)),
      θ_run (Cert.KernelGlaDwIdeal.defs (F := Ideal)) (onTc (τ := Cert.KernelGlaDwIdeal.τ) (Cert.KernelGlaDwIdeal.main (F := Ideal))) ⟨m, fun _ => 0, g⟩ (fun r => ∀ c : Dev Cert.KernelGlaDwIdeal.nD,
          r.2.mem ((c.tc : Thread Cert.KernelGlaDwIdeal.nD Cert.KernelGlaDwIdeal.τ).loc Cert.KernelGlaDwIdeal.main_v1) = v0 c
          ∧ r.2.mem ((c.tc : Thread Cert.KernelGlaDwIdeal.nD Cert.KernelGlaDwIdeal.τ).loc Cert.KernelGlaDwIdeal.main_arg0) = m ((c.tc : Thread Cert.KernelGlaDwIdeal.nD Cert.KernelGlaDwIdeal.τ).loc Cert.KernelGlaDwIdeal.main_arg0)
          ∧ r.2.mem ((c.tc : Thread Cert.KernelGlaDwIdeal.nD Cert.KernelGlaDwIdeal.τ).loc Cert.KernelGlaDwIdeal.main_arg1) = m ((c.tc : Thread Cert.KernelGlaDwIdeal.nD Cert.KernelGlaDwIdeal.τ).loc Cert.KernelGlaDwIdeal.main_arg1))
      ∧ θ_run (Cert.ReferenceGlaDwIdeal.defs (F := Ideal)) (onTc (τ := Cert.ReferenceGlaDwIdeal.τ) (Cert.ReferenceGlaDwIdeal.main (F := Ideal))) ⟨m', fun _ => 0, g'⟩ (fun r => ∀ c : Dev Cert.ReferenceGlaDwIdeal.nD,
          r.2.mem ((c.tc : Thread Cert.ReferenceGlaDwIdeal.nD Cert.ReferenceGlaDwIdeal.τ).loc Cert.ReferenceGlaDwIdeal.main_v3) = v0 c
          ∧ r.2.mem ((c.tc : Thread Cert.ReferenceGlaDwIdeal.nD Cert.ReferenceGlaDwIdeal.τ).loc Cert.ReferenceGlaDwIdeal.main_arg0) = m' ((c.tc : Thread Cert.ReferenceGlaDwIdeal.nD Cert.ReferenceGlaDwIdeal.τ).loc Cert.ReferenceGlaDwIdeal.main_arg0)
          ∧ r.2.mem ((c.tc : Thread Cert.ReferenceGlaDwIdeal.nD Cert.ReferenceGlaDwIdeal.τ).loc Cert.ReferenceGlaDwIdeal.main_arg1) = m' ((c.tc : Thread Cert.ReferenceGlaDwIdeal.nD Cert.ReferenceGlaDwIdeal.τ).loc Cert.ReferenceGlaDwIdeal.main_arg1))

def preserves_KernelGlaDx_KernelGlaDxIdeal : Prop :=
  True

def algebraic_KernelGlaDxIdeal_ReferenceGlaDxIdeal [hKernelGlaDxIdeal : Cert.KernelGlaDxIdeal.Facts] [hReferenceGlaDxIdeal : Cert.ReferenceGlaDxIdeal.Facts] : Prop :=
  ∀ (m : (ℓ : Loc Cert.KernelGlaDxIdeal.nD Cert.KernelGlaDxIdeal.τ Cert.KernelGlaDxIdeal.sig) → Buf (Elt Ideal) ℓ) (g : Dev Cert.KernelGlaDxIdeal.nD → PrngReg)
    (m' : (ℓ : Loc Cert.ReferenceGlaDxIdeal.nD Cert.ReferenceGlaDxIdeal.τ Cert.ReferenceGlaDxIdeal.sig) → Buf (Elt Ideal) ℓ) (g' : Dev Cert.ReferenceGlaDxIdeal.nD → PrngReg), Pre_KernelGlaDxIdeal m →
    (∀ c : Dev Cert.KernelGlaDxIdeal.nD,
      m' ((c.tc : Thread Cert.ReferenceGlaDxIdeal.nD Cert.ReferenceGlaDxIdeal.τ).loc Cert.ReferenceGlaDxIdeal.main_arg0) = m ((c.tc : Thread Cert.KernelGlaDxIdeal.nD Cert.KernelGlaDxIdeal.τ).loc Cert.KernelGlaDxIdeal.main_arg0)
      ∧ m' ((c.tc : Thread Cert.ReferenceGlaDxIdeal.nD Cert.ReferenceGlaDxIdeal.τ).loc Cert.ReferenceGlaDxIdeal.main_arg1) = m ((c.tc : Thread Cert.KernelGlaDxIdeal.nD Cert.KernelGlaDxIdeal.τ).loc Cert.KernelGlaDxIdeal.main_arg1)
      ∧ m' ((c.tc : Thread Cert.ReferenceGlaDxIdeal.nD Cert.ReferenceGlaDxIdeal.τ).loc Cert.ReferenceGlaDxIdeal.main_arg2) = m ((c.tc : Thread Cert.KernelGlaDxIdeal.nD Cert.KernelGlaDxIdeal.τ).loc Cert.KernelGlaDxIdeal.main_arg2)) →
    ∃ (v0 : (c : Dev Cert.KernelGlaDxIdeal.nD) → Buf (Elt Ideal) ((c.tc : Thread Cert.KernelGlaDxIdeal.nD Cert.KernelGlaDxIdeal.τ).loc Cert.KernelGlaDxIdeal.main_v1)),
      θ_run (Cert.KernelGlaDxIdeal.defs (F := Ideal)) (onTc (τ := Cert.KernelGlaDxIdeal.τ) (Cert.KernelGlaDxIdeal.main (F := Ideal))) ⟨m, fun _ => 0, g⟩ (fun r => ∀ c : Dev Cert.KernelGlaDxIdeal.nD,
          r.2.mem ((c.tc : Thread Cert.KernelGlaDxIdeal.nD Cert.KernelGlaDxIdeal.τ).loc Cert.KernelGlaDxIdeal.main_v1) = v0 c
          ∧ r.2.mem ((c.tc : Thread Cert.KernelGlaDxIdeal.nD Cert.KernelGlaDxIdeal.τ).loc Cert.KernelGlaDxIdeal.main_arg0) = m ((c.tc : Thread Cert.KernelGlaDxIdeal.nD Cert.KernelGlaDxIdeal.τ).loc Cert.KernelGlaDxIdeal.main_arg0)
          ∧ r.2.mem ((c.tc : Thread Cert.KernelGlaDxIdeal.nD Cert.KernelGlaDxIdeal.τ).loc Cert.KernelGlaDxIdeal.main_arg1) = m ((c.tc : Thread Cert.KernelGlaDxIdeal.nD Cert.KernelGlaDxIdeal.τ).loc Cert.KernelGlaDxIdeal.main_arg1)
          ∧ r.2.mem ((c.tc : Thread Cert.KernelGlaDxIdeal.nD Cert.KernelGlaDxIdeal.τ).loc Cert.KernelGlaDxIdeal.main_arg2) = m ((c.tc : Thread Cert.KernelGlaDxIdeal.nD Cert.KernelGlaDxIdeal.τ).loc Cert.KernelGlaDxIdeal.main_arg2))
      ∧ θ_run (Cert.ReferenceGlaDxIdeal.defs (F := Ideal)) (onTc (τ := Cert.ReferenceGlaDxIdeal.τ) (Cert.ReferenceGlaDxIdeal.main (F := Ideal))) ⟨m', fun _ => 0, g'⟩ (fun r => ∀ c : Dev Cert.ReferenceGlaDxIdeal.nD,
          r.2.mem ((c.tc : Thread Cert.ReferenceGlaDxIdeal.nD Cert.ReferenceGlaDxIdeal.τ).loc Cert.ReferenceGlaDxIdeal.main_v7) = v0 c
          ∧ r.2.mem ((c.tc : Thread Cert.ReferenceGlaDxIdeal.nD Cert.ReferenceGlaDxIdeal.τ).loc Cert.ReferenceGlaDxIdeal.main_arg0) = m' ((c.tc : Thread Cert.ReferenceGlaDxIdeal.nD Cert.ReferenceGlaDxIdeal.τ).loc Cert.ReferenceGlaDxIdeal.main_arg0)
          ∧ r.2.mem ((c.tc : Thread Cert.ReferenceGlaDxIdeal.nD Cert.ReferenceGlaDxIdeal.τ).loc Cert.ReferenceGlaDxIdeal.main_arg1) = m' ((c.tc : Thread Cert.ReferenceGlaDxIdeal.nD Cert.ReferenceGlaDxIdeal.τ).loc Cert.ReferenceGlaDxIdeal.main_arg1)
          ∧ r.2.mem ((c.tc : Thread Cert.ReferenceGlaDxIdeal.nD Cert.ReferenceGlaDxIdeal.τ).loc Cert.ReferenceGlaDxIdeal.main_arg2) = m' ((c.tc : Thread Cert.ReferenceGlaDxIdeal.nD Cert.ReferenceGlaDxIdeal.τ).loc Cert.ReferenceGlaDxIdeal.main_arg2))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v3) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelOutDy_KernelOutDyIdeal : Prop :=
  True

def algebraic_KernelOutDyIdeal_ReferenceOutDyIdeal [hKernelOutDyIdeal : Cert.KernelOutDyIdeal.Facts] [hReferenceOutDyIdeal : Cert.ReferenceOutDyIdeal.Facts] : Prop :=
  ∀ (m : (ℓ : Loc Cert.KernelOutDyIdeal.nD Cert.KernelOutDyIdeal.τ Cert.KernelOutDyIdeal.sig) → Buf (Elt Ideal) ℓ) (g : Dev Cert.KernelOutDyIdeal.nD → PrngReg)
    (m' : (ℓ : Loc Cert.ReferenceOutDyIdeal.nD Cert.ReferenceOutDyIdeal.τ Cert.ReferenceOutDyIdeal.sig) → Buf (Elt Ideal) ℓ) (g' : Dev Cert.ReferenceOutDyIdeal.nD → PrngReg), Pre_KernelOutDyIdeal m →
    (∀ c : Dev Cert.KernelOutDyIdeal.nD,
      m' ((c.tc : Thread Cert.ReferenceOutDyIdeal.nD Cert.ReferenceOutDyIdeal.τ).loc Cert.ReferenceOutDyIdeal.main_arg0) = m ((c.tc : Thread Cert.KernelOutDyIdeal.nD Cert.KernelOutDyIdeal.τ).loc Cert.KernelOutDyIdeal.main_arg0)
      ∧ m' ((c.tc : Thread Cert.ReferenceOutDyIdeal.nD Cert.ReferenceOutDyIdeal.τ).loc Cert.ReferenceOutDyIdeal.main_arg1) = m ((c.tc : Thread Cert.KernelOutDyIdeal.nD Cert.KernelOutDyIdeal.τ).loc Cert.KernelOutDyIdeal.main_arg1)) →
    ∃ (v0 : (c : Dev Cert.KernelOutDyIdeal.nD) → Buf (Elt Ideal) ((c.tc : Thread Cert.KernelOutDyIdeal.nD Cert.KernelOutDyIdeal.τ).loc Cert.KernelOutDyIdeal.main_v1)),
      θ_run (Cert.KernelOutDyIdeal.defs (F := Ideal)) (onTc (τ := Cert.KernelOutDyIdeal.τ) (Cert.KernelOutDyIdeal.main (F := Ideal))) ⟨m, fun _ => 0, g⟩ (fun r => ∀ c : Dev Cert.KernelOutDyIdeal.nD,
          r.2.mem ((c.tc : Thread Cert.KernelOutDyIdeal.nD Cert.KernelOutDyIdeal.τ).loc Cert.KernelOutDyIdeal.main_v1) = v0 c
          ∧ r.2.mem ((c.tc : Thread Cert.KernelOutDyIdeal.nD Cert.KernelOutDyIdeal.τ).loc Cert.KernelOutDyIdeal.main_arg0) = m ((c.tc : Thread Cert.KernelOutDyIdeal.nD Cert.KernelOutDyIdeal.τ).loc Cert.KernelOutDyIdeal.main_arg0)
          ∧ r.2.mem ((c.tc : Thread Cert.KernelOutDyIdeal.nD Cert.KernelOutDyIdeal.τ).loc Cert.KernelOutDyIdeal.main_arg1) = m ((c.tc : Thread Cert.KernelOutDyIdeal.nD Cert.KernelOutDyIdeal.τ).loc Cert.KernelOutDyIdeal.main_arg1))
      ∧ θ_run (Cert.ReferenceOutDyIdeal.defs (F := Ideal)) (onTc (τ := Cert.ReferenceOutDyIdeal.τ) (Cert.ReferenceOutDyIdeal.main (F := Ideal))) ⟨m', fun _ => 0, g'⟩ (fun r => ∀ c : Dev Cert.ReferenceOutDyIdeal.nD,
          r.2.mem ((c.tc : Thread Cert.ReferenceOutDyIdeal.nD Cert.ReferenceOutDyIdeal.τ).loc Cert.ReferenceOutDyIdeal.main_v2) = v0 c
          ∧ r.2.mem ((c.tc : Thread Cert.ReferenceOutDyIdeal.nD Cert.ReferenceOutDyIdeal.τ).loc Cert.ReferenceOutDyIdeal.main_arg0) = m' ((c.tc : Thread Cert.ReferenceOutDyIdeal.nD Cert.ReferenceOutDyIdeal.τ).loc Cert.ReferenceOutDyIdeal.main_arg0)
          ∧ r.2.mem ((c.tc : Thread Cert.ReferenceOutDyIdeal.nD Cert.ReferenceOutDyIdeal.τ).loc Cert.ReferenceOutDyIdeal.main_arg1) = m' ((c.tc : Thread Cert.ReferenceOutDyIdeal.nD Cert.ReferenceOutDyIdeal.τ).loc Cert.ReferenceOutDyIdeal.main_arg1))

def preserves_KernelGateDw_KernelGateDwIdeal : Prop :=
  True

def algebraic_KernelGateDwIdeal_ReferenceGateDwIdeal [hKernelGateDwIdeal : Cert.KernelGateDwIdeal.Facts] [hReferenceGateDwIdeal : Cert.ReferenceGateDwIdeal.Facts] : Prop :=
  ∀ (m : (ℓ : Loc Cert.KernelGateDwIdeal.nD Cert.KernelGateDwIdeal.τ Cert.KernelGateDwIdeal.sig) → Buf (Elt Ideal) ℓ) (g : Dev Cert.KernelGateDwIdeal.nD → PrngReg)
    (m' : (ℓ : Loc Cert.ReferenceGateDwIdeal.nD Cert.ReferenceGateDwIdeal.τ Cert.ReferenceGateDwIdeal.sig) → Buf (Elt Ideal) ℓ) (g' : Dev Cert.ReferenceGateDwIdeal.nD → PrngReg), Pre_KernelGateDwIdeal m →
    (∀ c : Dev Cert.KernelGateDwIdeal.nD,
      m' ((c.tc : Thread Cert.ReferenceGateDwIdeal.nD Cert.ReferenceGateDwIdeal.τ).loc Cert.ReferenceGateDwIdeal.main_arg0) = m ((c.tc : Thread Cert.KernelGateDwIdeal.nD Cert.KernelGateDwIdeal.τ).loc Cert.KernelGateDwIdeal.main_arg0)
      ∧ m' ((c.tc : Thread Cert.ReferenceGateDwIdeal.nD Cert.ReferenceGateDwIdeal.τ).loc Cert.ReferenceGateDwIdeal.main_arg1) = m ((c.tc : Thread Cert.KernelGateDwIdeal.nD Cert.KernelGateDwIdeal.τ).loc Cert.KernelGateDwIdeal.main_arg1)) →
    ∃ (v0 : (c : Dev Cert.KernelGateDwIdeal.nD) → Buf (Elt Ideal) ((c.tc : Thread Cert.KernelGateDwIdeal.nD Cert.KernelGateDwIdeal.τ).loc Cert.KernelGateDwIdeal.main_v1)),
      θ_run (Cert.KernelGateDwIdeal.defs (F := Ideal)) (onTc (τ := Cert.KernelGateDwIdeal.τ) (Cert.KernelGateDwIdeal.main (F := Ideal))) ⟨m, fun _ => 0, g⟩ (fun r => ∀ c : Dev Cert.KernelGateDwIdeal.nD,
          r.2.mem ((c.tc : Thread Cert.KernelGateDwIdeal.nD Cert.KernelGateDwIdeal.τ).loc Cert.KernelGateDwIdeal.main_v1) = v0 c
          ∧ r.2.mem ((c.tc : Thread Cert.KernelGateDwIdeal.nD Cert.KernelGateDwIdeal.τ).loc Cert.KernelGateDwIdeal.main_arg0) = m ((c.tc : Thread Cert.KernelGateDwIdeal.nD Cert.KernelGateDwIdeal.τ).loc Cert.KernelGateDwIdeal.main_arg0)
          ∧ r.2.mem ((c.tc : Thread Cert.KernelGateDwIdeal.nD Cert.KernelGateDwIdeal.τ).loc Cert.KernelGateDwIdeal.main_arg1) = m ((c.tc : Thread Cert.KernelGateDwIdeal.nD Cert.KernelGateDwIdeal.τ).loc Cert.KernelGateDwIdeal.main_arg1))
      ∧ θ_run (Cert.ReferenceGateDwIdeal.defs (F := Ideal)) (onTc (τ := Cert.ReferenceGateDwIdeal.τ) (Cert.ReferenceGateDwIdeal.main (F := Ideal))) ⟨m', fun _ => 0, g'⟩ (fun r => ∀ c : Dev Cert.ReferenceGateDwIdeal.nD,
          r.2.mem ((c.tc : Thread Cert.ReferenceGateDwIdeal.nD Cert.ReferenceGateDwIdeal.τ).loc Cert.ReferenceGateDwIdeal.main_v3) = v0 c
          ∧ r.2.mem ((c.tc : Thread Cert.ReferenceGateDwIdeal.nD Cert.ReferenceGateDwIdeal.τ).loc Cert.ReferenceGateDwIdeal.main_arg0) = m' ((c.tc : Thread Cert.ReferenceGateDwIdeal.nD Cert.ReferenceGateDwIdeal.τ).loc Cert.ReferenceGateDwIdeal.main_arg0)
          ∧ r.2.mem ((c.tc : Thread Cert.ReferenceGateDwIdeal.nD Cert.ReferenceGateDwIdeal.τ).loc Cert.ReferenceGateDwIdeal.main_arg1) = m' ((c.tc : Thread Cert.ReferenceGateDwIdeal.nD Cert.ReferenceGateDwIdeal.τ).loc Cert.ReferenceGateDwIdeal.main_arg1))

def preserves_KernelGateDx_KernelGateDxIdeal : Prop :=
  True

def algebraic_KernelGateDxIdeal_ReferenceGateDxIdeal [hKernelGateDxIdeal : Cert.KernelGateDxIdeal.Facts] [hReferenceGateDxIdeal : Cert.ReferenceGateDxIdeal.Facts] : Prop :=
  ∀ (m : (ℓ : Loc Cert.KernelGateDxIdeal.nD Cert.KernelGateDxIdeal.τ Cert.KernelGateDxIdeal.sig) → Buf (Elt Ideal) ℓ) (g : Dev Cert.KernelGateDxIdeal.nD → PrngReg)
    (m' : (ℓ : Loc Cert.ReferenceGateDxIdeal.nD Cert.ReferenceGateDxIdeal.τ Cert.ReferenceGateDxIdeal.sig) → Buf (Elt Ideal) ℓ) (g' : Dev Cert.ReferenceGateDxIdeal.nD → PrngReg), Pre_KernelGateDxIdeal m →
    (∀ c : Dev Cert.KernelGateDxIdeal.nD,
      m' ((c.tc : Thread Cert.ReferenceGateDxIdeal.nD Cert.ReferenceGateDxIdeal.τ).loc Cert.ReferenceGateDxIdeal.main_arg0) = m ((c.tc : Thread Cert.KernelGateDxIdeal.nD Cert.KernelGateDxIdeal.τ).loc Cert.KernelGateDxIdeal.main_arg0)
      ∧ m' ((c.tc : Thread Cert.ReferenceGateDxIdeal.nD Cert.ReferenceGateDxIdeal.τ).loc Cert.ReferenceGateDxIdeal.main_arg1) = m ((c.tc : Thread Cert.KernelGateDxIdeal.nD Cert.KernelGateDxIdeal.τ).loc Cert.KernelGateDxIdeal.main_arg1)
      ∧ m' ((c.tc : Thread Cert.ReferenceGateDxIdeal.nD Cert.ReferenceGateDxIdeal.τ).loc Cert.ReferenceGateDxIdeal.main_arg2) = m ((c.tc : Thread Cert.KernelGateDxIdeal.nD Cert.KernelGateDxIdeal.τ).loc Cert.KernelGateDxIdeal.main_arg2)) →
    ∃ (v0 : (c : Dev Cert.KernelGateDxIdeal.nD) → Buf (Elt Ideal) ((c.tc : Thread Cert.KernelGateDxIdeal.nD Cert.KernelGateDxIdeal.τ).loc Cert.KernelGateDxIdeal.main_v1)),
      θ_run (Cert.KernelGateDxIdeal.defs (F := Ideal)) (onTc (τ := Cert.KernelGateDxIdeal.τ) (Cert.KernelGateDxIdeal.main (F := Ideal))) ⟨m, fun _ => 0, g⟩ (fun r => ∀ c : Dev Cert.KernelGateDxIdeal.nD,
          r.2.mem ((c.tc : Thread Cert.KernelGateDxIdeal.nD Cert.KernelGateDxIdeal.τ).loc Cert.KernelGateDxIdeal.main_v1) = v0 c
          ∧ r.2.mem ((c.tc : Thread Cert.KernelGateDxIdeal.nD Cert.KernelGateDxIdeal.τ).loc Cert.KernelGateDxIdeal.main_arg0) = m ((c.tc : Thread Cert.KernelGateDxIdeal.nD Cert.KernelGateDxIdeal.τ).loc Cert.KernelGateDxIdeal.main_arg0)
          ∧ r.2.mem ((c.tc : Thread Cert.KernelGateDxIdeal.nD Cert.KernelGateDxIdeal.τ).loc Cert.KernelGateDxIdeal.main_arg1) = m ((c.tc : Thread Cert.KernelGateDxIdeal.nD Cert.KernelGateDxIdeal.τ).loc Cert.KernelGateDxIdeal.main_arg1)
          ∧ r.2.mem ((c.tc : Thread Cert.KernelGateDxIdeal.nD Cert.KernelGateDxIdeal.τ).loc Cert.KernelGateDxIdeal.main_arg2) = m ((c.tc : Thread Cert.KernelGateDxIdeal.nD Cert.KernelGateDxIdeal.τ).loc Cert.KernelGateDxIdeal.main_arg2))
      ∧ θ_run (Cert.ReferenceGateDxIdeal.defs (F := Ideal)) (onTc (τ := Cert.ReferenceGateDxIdeal.τ) (Cert.ReferenceGateDxIdeal.main (F := Ideal))) ⟨m', fun _ => 0, g'⟩ (fun r => ∀ c : Dev Cert.ReferenceGateDxIdeal.nD,
          r.2.mem ((c.tc : Thread Cert.ReferenceGateDxIdeal.nD Cert.ReferenceGateDxIdeal.τ).loc Cert.ReferenceGateDxIdeal.main_v7) = v0 c
          ∧ r.2.mem ((c.tc : Thread Cert.ReferenceGateDxIdeal.nD Cert.ReferenceGateDxIdeal.τ).loc Cert.ReferenceGateDxIdeal.main_arg0) = m' ((c.tc : Thread Cert.ReferenceGateDxIdeal.nD Cert.ReferenceGateDxIdeal.τ).loc Cert.ReferenceGateDxIdeal.main_arg0)
          ∧ r.2.mem ((c.tc : Thread Cert.ReferenceGateDxIdeal.nD Cert.ReferenceGateDxIdeal.τ).loc Cert.ReferenceGateDxIdeal.main_arg1) = m' ((c.tc : Thread Cert.ReferenceGateDxIdeal.nD Cert.ReferenceGateDxIdeal.τ).loc Cert.ReferenceGateDxIdeal.main_arg1)
          ∧ r.2.mem ((c.tc : Thread Cert.ReferenceGateDxIdeal.nD Cert.ReferenceGateDxIdeal.τ).loc Cert.ReferenceGateDxIdeal.main_arg2) = m' ((c.tc : Thread Cert.ReferenceGateDxIdeal.nD Cert.ReferenceGateDxIdeal.τ).loc Cert.ReferenceGateDxIdeal.main_arg2))

def preserves_KernelGateDw2_KernelGateDw2Ideal : Prop :=
  True

def algebraic_KernelGateDw2Ideal_ReferenceGateDw2Ideal [hKernelGateDw2Ideal : Cert.KernelGateDw2Ideal.Facts] [hReferenceGateDw2Ideal : Cert.ReferenceGateDw2Ideal.Facts] : Prop :=
  ∀ (m : (ℓ : Loc Cert.KernelGateDw2Ideal.nD Cert.KernelGateDw2Ideal.τ Cert.KernelGateDw2Ideal.sig) → Buf (Elt Ideal) ℓ) (g : Dev Cert.KernelGateDw2Ideal.nD → PrngReg)
    (m' : (ℓ : Loc Cert.ReferenceGateDw2Ideal.nD Cert.ReferenceGateDw2Ideal.τ Cert.ReferenceGateDw2Ideal.sig) → Buf (Elt Ideal) ℓ) (g' : Dev Cert.ReferenceGateDw2Ideal.nD → PrngReg), Pre_KernelGateDw2Ideal m →
    (∀ c : Dev Cert.KernelGateDw2Ideal.nD,
      m' ((c.tc : Thread Cert.ReferenceGateDw2Ideal.nD Cert.ReferenceGateDw2Ideal.τ).loc Cert.ReferenceGateDw2Ideal.main_arg0) = m ((c.tc : Thread Cert.KernelGateDw2Ideal.nD Cert.KernelGateDw2Ideal.τ).loc Cert.KernelGateDw2Ideal.main_arg0)
      ∧ m' ((c.tc : Thread Cert.ReferenceGateDw2Ideal.nD Cert.ReferenceGateDw2Ideal.τ).loc Cert.ReferenceGateDw2Ideal.main_arg1) = m ((c.tc : Thread Cert.KernelGateDw2Ideal.nD Cert.KernelGateDw2Ideal.τ).loc Cert.KernelGateDw2Ideal.main_arg1)) →
    ∃ (v0 : (c : Dev Cert.KernelGateDw2Ideal.nD) → Buf (Elt Ideal) ((c.tc : Thread Cert.KernelGateDw2Ideal.nD Cert.KernelGateDw2Ideal.τ).loc Cert.KernelGateDw2Ideal.main_v0)),
      θ_run (Cert.KernelGateDw2Ideal.defs (F := Ideal)) (onTc (τ := Cert.KernelGateDw2Ideal.τ) (Cert.KernelGateDw2Ideal.main (F := Ideal))) ⟨m, fun _ => 0, g⟩ (fun r => ∀ c : Dev Cert.KernelGateDw2Ideal.nD,
          r.2.mem ((c.tc : Thread Cert.KernelGateDw2Ideal.nD Cert.KernelGateDw2Ideal.τ).loc Cert.KernelGateDw2Ideal.main_v0) = v0 c
          ∧ r.2.mem ((c.tc : Thread Cert.KernelGateDw2Ideal.nD Cert.KernelGateDw2Ideal.τ).loc Cert.KernelGateDw2Ideal.main_arg0) = m ((c.tc : Thread Cert.KernelGateDw2Ideal.nD Cert.KernelGateDw2Ideal.τ).loc Cert.KernelGateDw2Ideal.main_arg0)
          ∧ r.2.mem ((c.tc : Thread Cert.KernelGateDw2Ideal.nD Cert.KernelGateDw2Ideal.τ).loc Cert.KernelGateDw2Ideal.main_arg1) = m ((c.tc : Thread Cert.KernelGateDw2Ideal.nD Cert.KernelGateDw2Ideal.τ).loc Cert.KernelGateDw2Ideal.main_arg1))
      ∧ θ_run (Cert.ReferenceGateDw2Ideal.defs (F := Ideal)) (onTc (τ := Cert.ReferenceGateDw2Ideal.τ) (Cert.ReferenceGateDw2Ideal.main (F := Ideal))) ⟨m', fun _ => 0, g'⟩ (fun r => ∀ c : Dev Cert.ReferenceGateDw2Ideal.nD,
          r.2.mem ((c.tc : Thread Cert.ReferenceGateDw2Ideal.nD Cert.ReferenceGateDw2Ideal.τ).loc Cert.ReferenceGateDw2Ideal.main_v3) = v0 c
          ∧ r.2.mem ((c.tc : Thread Cert.ReferenceGateDw2Ideal.nD Cert.ReferenceGateDw2Ideal.τ).loc Cert.ReferenceGateDw2Ideal.main_arg0) = m' ((c.tc : Thread Cert.ReferenceGateDw2Ideal.nD Cert.ReferenceGateDw2Ideal.τ).loc Cert.ReferenceGateDw2Ideal.main_arg0)
          ∧ r.2.mem ((c.tc : Thread Cert.ReferenceGateDw2Ideal.nD Cert.ReferenceGateDw2Ideal.τ).loc Cert.ReferenceGateDw2Ideal.main_arg1) = m' ((c.tc : Thread Cert.ReferenceGateDw2Ideal.nD Cert.ReferenceGateDw2Ideal.τ).loc Cert.ReferenceGateDw2Ideal.main_arg1))

def preserves_KernelMlpUp_KernelMlpUpIdeal : Prop :=
  True

def algebraic_KernelMlpUpIdeal_ReferenceMlpUpIdeal [hKernelMlpUpIdeal : Cert.KernelMlpUpIdeal.Facts] [hReferenceMlpUpIdeal : Cert.ReferenceMlpUpIdeal.Facts] : Prop :=
  ∀ (m : (ℓ : Loc Cert.KernelMlpUpIdeal.nD Cert.KernelMlpUpIdeal.τ Cert.KernelMlpUpIdeal.sig) → Buf (Elt Ideal) ℓ) (g : Dev Cert.KernelMlpUpIdeal.nD → PrngReg)
    (m' : (ℓ : Loc Cert.ReferenceMlpUpIdeal.nD Cert.ReferenceMlpUpIdeal.τ Cert.ReferenceMlpUpIdeal.sig) → Buf (Elt Ideal) ℓ) (g' : Dev Cert.ReferenceMlpUpIdeal.nD → PrngReg), Pre_KernelMlpUpIdeal m →
    (∀ c : Dev Cert.KernelMlpUpIdeal.nD,
      m' ((c.tc : Thread Cert.ReferenceMlpUpIdeal.nD Cert.ReferenceMlpUpIdeal.τ).loc Cert.ReferenceMlpUpIdeal.main_arg0) = m ((c.tc : Thread Cert.KernelMlpUpIdeal.nD Cert.KernelMlpUpIdeal.τ).loc Cert.KernelMlpUpIdeal.main_arg0)
      ∧ m' ((c.tc : Thread Cert.ReferenceMlpUpIdeal.nD Cert.ReferenceMlpUpIdeal.τ).loc Cert.ReferenceMlpUpIdeal.main_arg1) = m ((c.tc : Thread Cert.KernelMlpUpIdeal.nD Cert.KernelMlpUpIdeal.τ).loc Cert.KernelMlpUpIdeal.main_arg1)) →
    ∃ (v0 : (c : Dev Cert.KernelMlpUpIdeal.nD) → Buf (Elt Ideal) ((c.tc : Thread Cert.KernelMlpUpIdeal.nD Cert.KernelMlpUpIdeal.τ).loc Cert.KernelMlpUpIdeal.main_v4_0)) (v1 : (c : Dev Cert.KernelMlpUpIdeal.nD) → Buf (Elt Ideal) ((c.tc : Thread Cert.KernelMlpUpIdeal.nD Cert.KernelMlpUpIdeal.τ).loc Cert.KernelMlpUpIdeal.main_v4_1)),
      θ_run (Cert.KernelMlpUpIdeal.defs (F := Ideal)) (onTc (τ := Cert.KernelMlpUpIdeal.τ) (Cert.KernelMlpUpIdeal.main (F := Ideal))) ⟨m, fun _ => 0, g⟩ (fun r => ∀ c : Dev Cert.KernelMlpUpIdeal.nD,
          r.2.mem ((c.tc : Thread Cert.KernelMlpUpIdeal.nD Cert.KernelMlpUpIdeal.τ).loc Cert.KernelMlpUpIdeal.main_v4_0) = v0 c
          ∧ r.2.mem ((c.tc : Thread Cert.KernelMlpUpIdeal.nD Cert.KernelMlpUpIdeal.τ).loc Cert.KernelMlpUpIdeal.main_v4_1) = v1 c
          ∧ r.2.mem ((c.tc : Thread Cert.KernelMlpUpIdeal.nD Cert.KernelMlpUpIdeal.τ).loc Cert.KernelMlpUpIdeal.main_arg0) = m ((c.tc : Thread Cert.KernelMlpUpIdeal.nD Cert.KernelMlpUpIdeal.τ).loc Cert.KernelMlpUpIdeal.main_arg0)
          ∧ r.2.mem ((c.tc : Thread Cert.KernelMlpUpIdeal.nD Cert.KernelMlpUpIdeal.τ).loc Cert.KernelMlpUpIdeal.main_arg1) = m ((c.tc : Thread Cert.KernelMlpUpIdeal.nD Cert.KernelMlpUpIdeal.τ).loc Cert.KernelMlpUpIdeal.main_arg1))
      ∧ θ_run (Cert.ReferenceMlpUpIdeal.defs (F := Ideal)) (onTc (τ := Cert.ReferenceMlpUpIdeal.τ) (Cert.ReferenceMlpUpIdeal.main (F := Ideal))) ⟨m', fun _ => 0, g'⟩ (fun r => ∀ c : Dev Cert.ReferenceMlpUpIdeal.nD,
          r.2.mem ((c.tc : Thread Cert.ReferenceMlpUpIdeal.nD Cert.ReferenceMlpUpIdeal.τ).loc Cert.ReferenceMlpUpIdeal.main_v0) = v0 c
          ∧ r.2.mem ((c.tc : Thread Cert.ReferenceMlpUpIdeal.nD Cert.ReferenceMlpUpIdeal.τ).loc Cert.ReferenceMlpUpIdeal.main_v3) = v1 c
          ∧ r.2.mem ((c.tc : Thread Cert.ReferenceMlpUpIdeal.nD Cert.ReferenceMlpUpIdeal.τ).loc Cert.ReferenceMlpUpIdeal.main_arg0) = m' ((c.tc : Thread Cert.ReferenceMlpUpIdeal.nD Cert.ReferenceMlpUpIdeal.τ).loc Cert.ReferenceMlpUpIdeal.main_arg0)
          ∧ r.2.mem ((c.tc : Thread Cert.ReferenceMlpUpIdeal.nD Cert.ReferenceMlpUpIdeal.τ).loc Cert.ReferenceMlpUpIdeal.main_arg1) = m' ((c.tc : Thread Cert.ReferenceMlpUpIdeal.nD Cert.ReferenceMlpUpIdeal.τ).loc Cert.ReferenceMlpUpIdeal.main_arg1))

def preserves_KernelMlpDown_KernelMlpDownIdeal : Prop :=
  True

def algebraic_KernelMlpDownIdeal_ReferenceMlpDownIdeal [hKernelMlpDownIdeal : Cert.KernelMlpDownIdeal.Facts] [hReferenceMlpDownIdeal : Cert.ReferenceMlpDownIdeal.Facts] : Prop :=
  ∀ (m : (ℓ : Loc Cert.KernelMlpDownIdeal.nD Cert.KernelMlpDownIdeal.τ Cert.KernelMlpDownIdeal.sig) → Buf (Elt Ideal) ℓ) (g : Dev Cert.KernelMlpDownIdeal.nD → PrngReg)
    (m' : (ℓ : Loc Cert.ReferenceMlpDownIdeal.nD Cert.ReferenceMlpDownIdeal.τ Cert.ReferenceMlpDownIdeal.sig) → Buf (Elt Ideal) ℓ) (g' : Dev Cert.ReferenceMlpDownIdeal.nD → PrngReg), Pre_KernelMlpDownIdeal m →
    (∀ c : Dev Cert.KernelMlpDownIdeal.nD,
      m' ((c.tc : Thread Cert.ReferenceMlpDownIdeal.nD Cert.ReferenceMlpDownIdeal.τ).loc Cert.ReferenceMlpDownIdeal.main_arg0) = m ((c.tc : Thread Cert.KernelMlpDownIdeal.nD Cert.KernelMlpDownIdeal.τ).loc Cert.KernelMlpDownIdeal.main_arg0)
      ∧ m' ((c.tc : Thread Cert.ReferenceMlpDownIdeal.nD Cert.ReferenceMlpDownIdeal.τ).loc Cert.ReferenceMlpDownIdeal.main_arg1) = m ((c.tc : Thread Cert.KernelMlpDownIdeal.nD Cert.KernelMlpDownIdeal.τ).loc Cert.KernelMlpDownIdeal.main_arg1)) →
    ∃ (v0 : (c : Dev Cert.KernelMlpDownIdeal.nD) → Buf (Elt Ideal) ((c.tc : Thread Cert.KernelMlpDownIdeal.nD Cert.KernelMlpDownIdeal.τ).loc Cert.KernelMlpDownIdeal.main_v6)),
      θ_run (Cert.KernelMlpDownIdeal.defs (F := Ideal)) (onTc (τ := Cert.KernelMlpDownIdeal.τ) (Cert.KernelMlpDownIdeal.main (F := Ideal))) ⟨m, fun _ => 0, g⟩ (fun r => ∀ c : Dev Cert.KernelMlpDownIdeal.nD,
          r.2.mem ((c.tc : Thread Cert.KernelMlpDownIdeal.nD Cert.KernelMlpDownIdeal.τ).loc Cert.KernelMlpDownIdeal.main_v6) = v0 c
          ∧ r.2.mem ((c.tc : Thread Cert.KernelMlpDownIdeal.nD Cert.KernelMlpDownIdeal.τ).loc Cert.KernelMlpDownIdeal.main_arg0) = m ((c.tc : Thread Cert.KernelMlpDownIdeal.nD Cert.KernelMlpDownIdeal.τ).loc Cert.KernelMlpDownIdeal.main_arg0)
          ∧ r.2.mem ((c.tc : Thread Cert.KernelMlpDownIdeal.nD Cert.KernelMlpDownIdeal.τ).loc Cert.KernelMlpDownIdeal.main_arg1) = m ((c.tc : Thread Cert.KernelMlpDownIdeal.nD Cert.KernelMlpDownIdeal.τ).loc Cert.KernelMlpDownIdeal.main_arg1))
      ∧ θ_run (Cert.ReferenceMlpDownIdeal.defs (F := Ideal)) (onTc (τ := Cert.ReferenceMlpDownIdeal.τ) (Cert.ReferenceMlpDownIdeal.main (F := Ideal))) ⟨m', fun _ => 0, g'⟩ (fun r => ∀ c : Dev Cert.ReferenceMlpDownIdeal.nD,
          r.2.mem ((c.tc : Thread Cert.ReferenceMlpDownIdeal.nD Cert.ReferenceMlpDownIdeal.τ).loc Cert.ReferenceMlpDownIdeal.main_v2) = v0 c
          ∧ r.2.mem ((c.tc : Thread Cert.ReferenceMlpDownIdeal.nD Cert.ReferenceMlpDownIdeal.τ).loc Cert.ReferenceMlpDownIdeal.main_arg0) = m' ((c.tc : Thread Cert.ReferenceMlpDownIdeal.nD Cert.ReferenceMlpDownIdeal.τ).loc Cert.ReferenceMlpDownIdeal.main_arg0)
          ∧ r.2.mem ((c.tc : Thread Cert.ReferenceMlpDownIdeal.nD Cert.ReferenceMlpDownIdeal.τ).loc Cert.ReferenceMlpDownIdeal.main_arg1) = m' ((c.tc : Thread Cert.ReferenceMlpDownIdeal.nD Cert.ReferenceMlpDownIdeal.τ).loc Cert.ReferenceMlpDownIdeal.main_arg1))

def preserves_KernelGdnProj_KernelGdnProjIdeal : Prop :=
  True

def algebraic_KernelGdnProjIdeal_ReferenceGdnProjIdeal [hKernelGdnProjIdeal : Cert.KernelGdnProjIdeal.Facts] [hReferenceGdnProjIdeal : Cert.ReferenceGdnProjIdeal.Facts] : Prop :=
  ∀ (m : (ℓ : Loc Cert.KernelGdnProjIdeal.nD Cert.KernelGdnProjIdeal.τ Cert.KernelGdnProjIdeal.sig) → Buf (Elt Ideal) ℓ) (g : Dev Cert.KernelGdnProjIdeal.nD → PrngReg)
    (m' : (ℓ : Loc Cert.ReferenceGdnProjIdeal.nD Cert.ReferenceGdnProjIdeal.τ Cert.ReferenceGdnProjIdeal.sig) → Buf (Elt Ideal) ℓ) (g' : Dev Cert.ReferenceGdnProjIdeal.nD → PrngReg), Pre_KernelGdnProjIdeal m →
    (∀ c : Dev Cert.KernelGdnProjIdeal.nD,
      m' ((c.tc : Thread Cert.ReferenceGdnProjIdeal.nD Cert.ReferenceGdnProjIdeal.τ).loc Cert.ReferenceGdnProjIdeal.main_arg0) = m ((c.tc : Thread Cert.KernelGdnProjIdeal.nD Cert.KernelGdnProjIdeal.τ).loc Cert.KernelGdnProjIdeal.main_arg0)
      ∧ m' ((c.tc : Thread Cert.ReferenceGdnProjIdeal.nD Cert.ReferenceGdnProjIdeal.τ).loc Cert.ReferenceGdnProjIdeal.main_arg1) = m ((c.tc : Thread Cert.KernelGdnProjIdeal.nD Cert.KernelGdnProjIdeal.τ).loc Cert.KernelGdnProjIdeal.main_arg1)) →
    ∃ (v0 : (c : Dev Cert.KernelGdnProjIdeal.nD) → Buf (Elt Ideal) ((c.tc : Thread Cert.KernelGdnProjIdeal.nD Cert.KernelGdnProjIdeal.τ).loc Cert.KernelGdnProjIdeal.main_v2)),
      θ_run (Cert.KernelGdnProjIdeal.defs (F := Ideal)) (onTc (τ := Cert.KernelGdnProjIdeal.τ) (Cert.KernelGdnProjIdeal.main (F := Ideal))) ⟨m, fun _ => 0, g⟩ (fun r => ∀ c : Dev Cert.KernelGdnProjIdeal.nD,
          r.2.mem ((c.tc : Thread Cert.KernelGdnProjIdeal.nD Cert.KernelGdnProjIdeal.τ).loc Cert.KernelGdnProjIdeal.main_v2) = v0 c
          ∧ r.2.mem ((c.tc : Thread Cert.KernelGdnProjIdeal.nD Cert.KernelGdnProjIdeal.τ).loc Cert.KernelGdnProjIdeal.main_arg0) = m ((c.tc : Thread Cert.KernelGdnProjIdeal.nD Cert.KernelGdnProjIdeal.τ).loc Cert.KernelGdnProjIdeal.main_arg0)
          ∧ r.2.mem ((c.tc : Thread Cert.KernelGdnProjIdeal.nD Cert.KernelGdnProjIdeal.τ).loc Cert.KernelGdnProjIdeal.main_arg1) = m ((c.tc : Thread Cert.KernelGdnProjIdeal.nD Cert.KernelGdnProjIdeal.τ).loc Cert.KernelGdnProjIdeal.main_arg1))
      ∧ θ_run (Cert.ReferenceGdnProjIdeal.defs (F := Ideal)) (onTc (τ := Cert.ReferenceGdnProjIdeal.τ) (Cert.ReferenceGdnProjIdeal.main (F := Ideal))) ⟨m', fun _ => 0, g'⟩ (fun r => ∀ c : Dev Cert.ReferenceGdnProjIdeal.nD,
          r.2.mem ((c.tc : Thread Cert.ReferenceGdnProjIdeal.nD Cert.ReferenceGdnProjIdeal.τ).loc Cert.ReferenceGdnProjIdeal.main_v0) = v0 c
          ∧ r.2.mem ((c.tc : Thread Cert.ReferenceGdnProjIdeal.nD Cert.ReferenceGdnProjIdeal.τ).loc Cert.ReferenceGdnProjIdeal.main_arg0) = m' ((c.tc : Thread Cert.ReferenceGdnProjIdeal.nD Cert.ReferenceGdnProjIdeal.τ).loc Cert.ReferenceGdnProjIdeal.main_arg0)
          ∧ r.2.mem ((c.tc : Thread Cert.ReferenceGdnProjIdeal.nD Cert.ReferenceGdnProjIdeal.τ).loc Cert.ReferenceGdnProjIdeal.main_arg1) = m' ((c.tc : Thread Cert.ReferenceGdnProjIdeal.nD Cert.ReferenceGdnProjIdeal.τ).loc Cert.ReferenceGdnProjIdeal.main_arg1))

def preserves_KernelGlaProj_KernelGlaProjIdeal : Prop :=
  True

def algebraic_KernelGlaProjIdeal_ReferenceGlaProjIdeal [hKernelGlaProjIdeal : Cert.KernelGlaProjIdeal.Facts] [hReferenceGlaProjIdeal : Cert.ReferenceGlaProjIdeal.Facts] : Prop :=
  ∀ (m : (ℓ : Loc Cert.KernelGlaProjIdeal.nD Cert.KernelGlaProjIdeal.τ Cert.KernelGlaProjIdeal.sig) → Buf (Elt Ideal) ℓ) (g : Dev Cert.KernelGlaProjIdeal.nD → PrngReg)
    (m' : (ℓ : Loc Cert.ReferenceGlaProjIdeal.nD Cert.ReferenceGlaProjIdeal.τ Cert.ReferenceGlaProjIdeal.sig) → Buf (Elt Ideal) ℓ) (g' : Dev Cert.ReferenceGlaProjIdeal.nD → PrngReg), Pre_KernelGlaProjIdeal m →
    (∀ c : Dev Cert.KernelGlaProjIdeal.nD,
      m' ((c.tc : Thread Cert.ReferenceGlaProjIdeal.nD Cert.ReferenceGlaProjIdeal.τ).loc Cert.ReferenceGlaProjIdeal.main_arg0) = m ((c.tc : Thread Cert.KernelGlaProjIdeal.nD Cert.KernelGlaProjIdeal.τ).loc Cert.KernelGlaProjIdeal.main_arg0)
      ∧ m' ((c.tc : Thread Cert.ReferenceGlaProjIdeal.nD Cert.ReferenceGlaProjIdeal.τ).loc Cert.ReferenceGlaProjIdeal.main_arg1) = m ((c.tc : Thread Cert.KernelGlaProjIdeal.nD Cert.KernelGlaProjIdeal.τ).loc Cert.KernelGlaProjIdeal.main_arg1)) →
    ∃ (v0 : (c : Dev Cert.KernelGlaProjIdeal.nD) → Buf (Elt Ideal) ((c.tc : Thread Cert.KernelGlaProjIdeal.nD Cert.KernelGlaProjIdeal.τ).loc Cert.KernelGlaProjIdeal.main_v2)),
      θ_run (Cert.KernelGlaProjIdeal.defs (F := Ideal)) (onTc (τ := Cert.KernelGlaProjIdeal.τ) (Cert.KernelGlaProjIdeal.main (F := Ideal))) ⟨m, fun _ => 0, g⟩ (fun r => ∀ c : Dev Cert.KernelGlaProjIdeal.nD,
          r.2.mem ((c.tc : Thread Cert.KernelGlaProjIdeal.nD Cert.KernelGlaProjIdeal.τ).loc Cert.KernelGlaProjIdeal.main_v2) = v0 c
          ∧ r.2.mem ((c.tc : Thread Cert.KernelGlaProjIdeal.nD Cert.KernelGlaProjIdeal.τ).loc Cert.KernelGlaProjIdeal.main_arg0) = m ((c.tc : Thread Cert.KernelGlaProjIdeal.nD Cert.KernelGlaProjIdeal.τ).loc Cert.KernelGlaProjIdeal.main_arg0)
          ∧ r.2.mem ((c.tc : Thread Cert.KernelGlaProjIdeal.nD Cert.KernelGlaProjIdeal.τ).loc Cert.KernelGlaProjIdeal.main_arg1) = m ((c.tc : Thread Cert.KernelGlaProjIdeal.nD Cert.KernelGlaProjIdeal.τ).loc Cert.KernelGlaProjIdeal.main_arg1))
      ∧ θ_run (Cert.ReferenceGlaProjIdeal.defs (F := Ideal)) (onTc (τ := Cert.ReferenceGlaProjIdeal.τ) (Cert.ReferenceGlaProjIdeal.main (F := Ideal))) ⟨m', fun _ => 0, g'⟩ (fun r => ∀ c : Dev Cert.ReferenceGlaProjIdeal.nD,
          r.2.mem ((c.tc : Thread Cert.ReferenceGlaProjIdeal.nD Cert.ReferenceGlaProjIdeal.τ).loc Cert.ReferenceGlaProjIdeal.main_v0) = v0 c
          ∧ r.2.mem ((c.tc : Thread Cert.ReferenceGlaProjIdeal.nD Cert.ReferenceGlaProjIdeal.τ).loc Cert.ReferenceGlaProjIdeal.main_arg0) = m' ((c.tc : Thread Cert.ReferenceGlaProjIdeal.nD Cert.ReferenceGlaProjIdeal.τ).loc Cert.ReferenceGlaProjIdeal.main_arg0)
          ∧ r.2.mem ((c.tc : Thread Cert.ReferenceGlaProjIdeal.nD Cert.ReferenceGlaProjIdeal.τ).loc Cert.ReferenceGlaProjIdeal.main_arg1) = m' ((c.tc : Thread Cert.ReferenceGlaProjIdeal.nD Cert.ReferenceGlaProjIdeal.τ).loc Cert.ReferenceGlaProjIdeal.main_arg1))

def preserves_KernelGateProj_KernelGateProjIdeal : Prop :=
  True

def algebraic_KernelGateProjIdeal_ReferenceGateProjIdeal [hKernelGateProjIdeal : Cert.KernelGateProjIdeal.Facts] [hReferenceGateProjIdeal : Cert.ReferenceGateProjIdeal.Facts] : Prop :=
  ∀ (m : (ℓ : Loc Cert.KernelGateProjIdeal.nD Cert.KernelGateProjIdeal.τ Cert.KernelGateProjIdeal.sig) → Buf (Elt Ideal) ℓ) (g : Dev Cert.KernelGateProjIdeal.nD → PrngReg)
    (m' : (ℓ : Loc Cert.ReferenceGateProjIdeal.nD Cert.ReferenceGateProjIdeal.τ Cert.ReferenceGateProjIdeal.sig) → Buf (Elt Ideal) ℓ) (g' : Dev Cert.ReferenceGateProjIdeal.nD → PrngReg), Pre_KernelGateProjIdeal m →
    (∀ c : Dev Cert.KernelGateProjIdeal.nD,
      m' ((c.tc : Thread Cert.ReferenceGateProjIdeal.nD Cert.ReferenceGateProjIdeal.τ).loc Cert.ReferenceGateProjIdeal.main_arg0) = m ((c.tc : Thread Cert.KernelGateProjIdeal.nD Cert.KernelGateProjIdeal.τ).loc Cert.KernelGateProjIdeal.main_arg0)
      ∧ m' ((c.tc : Thread Cert.ReferenceGateProjIdeal.nD Cert.ReferenceGateProjIdeal.τ).loc Cert.ReferenceGateProjIdeal.main_arg1) = m ((c.tc : Thread Cert.KernelGateProjIdeal.nD Cert.KernelGateProjIdeal.τ).loc Cert.KernelGateProjIdeal.main_arg1)) →
    ∃ (v0 : (c : Dev Cert.KernelGateProjIdeal.nD) → Buf (Elt Ideal) ((c.tc : Thread Cert.KernelGateProjIdeal.nD Cert.KernelGateProjIdeal.τ).loc Cert.KernelGateProjIdeal.main_v2)),
      θ_run (Cert.KernelGateProjIdeal.defs (F := Ideal)) (onTc (τ := Cert.KernelGateProjIdeal.τ) (Cert.KernelGateProjIdeal.main (F := Ideal))) ⟨m, fun _ => 0, g⟩ (fun r => ∀ c : Dev Cert.KernelGateProjIdeal.nD,
          r.2.mem ((c.tc : Thread Cert.KernelGateProjIdeal.nD Cert.KernelGateProjIdeal.τ).loc Cert.KernelGateProjIdeal.main_v2) = v0 c
          ∧ r.2.mem ((c.tc : Thread Cert.KernelGateProjIdeal.nD Cert.KernelGateProjIdeal.τ).loc Cert.KernelGateProjIdeal.main_arg0) = m ((c.tc : Thread Cert.KernelGateProjIdeal.nD Cert.KernelGateProjIdeal.τ).loc Cert.KernelGateProjIdeal.main_arg0)
          ∧ r.2.mem ((c.tc : Thread Cert.KernelGateProjIdeal.nD Cert.KernelGateProjIdeal.τ).loc Cert.KernelGateProjIdeal.main_arg1) = m ((c.tc : Thread Cert.KernelGateProjIdeal.nD Cert.KernelGateProjIdeal.τ).loc Cert.KernelGateProjIdeal.main_arg1))
      ∧ θ_run (Cert.ReferenceGateProjIdeal.defs (F := Ideal)) (onTc (τ := Cert.ReferenceGateProjIdeal.τ) (Cert.ReferenceGateProjIdeal.main (F := Ideal))) ⟨m', fun _ => 0, g'⟩ (fun r => ∀ c : Dev Cert.ReferenceGateProjIdeal.nD,
          r.2.mem ((c.tc : Thread Cert.ReferenceGateProjIdeal.nD Cert.ReferenceGateProjIdeal.τ).loc Cert.ReferenceGateProjIdeal.main_v0) = v0 c
          ∧ r.2.mem ((c.tc : Thread Cert.ReferenceGateProjIdeal.nD Cert.ReferenceGateProjIdeal.τ).loc Cert.ReferenceGateProjIdeal.main_arg0) = m' ((c.tc : Thread Cert.ReferenceGateProjIdeal.nD Cert.ReferenceGateProjIdeal.τ).loc Cert.ReferenceGateProjIdeal.main_arg0)
          ∧ r.2.mem ((c.tc : Thread Cert.ReferenceGateProjIdeal.nD Cert.ReferenceGateProjIdeal.τ).loc Cert.ReferenceGateProjIdeal.main_arg1) = m' ((c.tc : Thread Cert.ReferenceGateProjIdeal.nD Cert.ReferenceGateProjIdeal.τ).loc Cert.ReferenceGateProjIdeal.main_arg1))

def preserves_KernelOutProj_KernelOutProjIdeal : Prop :=
  True

def algebraic_KernelOutProjIdeal_ReferenceOutProjIdeal [hKernelOutProjIdeal : Cert.KernelOutProjIdeal.Facts] [hReferenceOutProjIdeal : Cert.ReferenceOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg)
    (m' : (ℓ : Loc Cert.ReferenceOutProjIdeal.nD Cert.ReferenceOutProjIdeal.τ Cert.ReferenceOutProjIdeal.sig) → Buf (Elt Ideal) ℓ) (g' : Dev Cert.ReferenceOutProjIdeal.nD → PrngReg), Pre_KernelOutProjIdeal m →
    (∀ c : Dev Cert.KernelOutProjIdeal.nD,
      m' ((c.tc : Thread Cert.ReferenceOutProjIdeal.nD Cert.ReferenceOutProjIdeal.τ).loc Cert.ReferenceOutProjIdeal.main_arg0) = m ((c.tc : Thread Cert.KernelOutProjIdeal.nD Cert.KernelOutProjIdeal.τ).loc Cert.KernelOutProjIdeal.main_arg0)
      ∧ m' ((c.tc : Thread Cert.ReferenceOutProjIdeal.nD Cert.ReferenceOutProjIdeal.τ).loc Cert.ReferenceOutProjIdeal.main_arg1) = m ((c.tc : Thread Cert.KernelOutProjIdeal.nD Cert.KernelOutProjIdeal.τ).loc Cert.KernelOutProjIdeal.main_arg1)) →
    ∃ (v0 : (c : Dev Cert.KernelOutProjIdeal.nD) → Buf (Elt Ideal) ((c.tc : Thread Cert.KernelOutProjIdeal.nD Cert.KernelOutProjIdeal.τ).loc Cert.KernelOutProjIdeal.main_v1)),
      θ_run (Cert.KernelOutProjIdeal.defs (F := Ideal)) (onTc (τ := Cert.KernelOutProjIdeal.τ) (Cert.KernelOutProjIdeal.main (F := Ideal))) ⟨m, fun _ => 0, g⟩ (fun r => ∀ c : Dev Cert.KernelOutProjIdeal.nD,
          r.2.mem ((c.tc : Thread Cert.KernelOutProjIdeal.nD Cert.KernelOutProjIdeal.τ).loc Cert.KernelOutProjIdeal.main_v1) = v0 c
          ∧ r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
          ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1))
      ∧ θ_run (Cert.ReferenceOutProjIdeal.defs (F := Ideal)) (onTc (τ := Cert.ReferenceOutProjIdeal.τ) (Cert.ReferenceOutProjIdeal.main (F := Ideal))) ⟨m', fun _ => 0, g'⟩ (fun r => ∀ c : Dev Cert.ReferenceOutProjIdeal.nD,
          r.2.mem ((c.tc : Thread Cert.ReferenceOutProjIdeal.nD Cert.ReferenceOutProjIdeal.τ).loc Cert.ReferenceOutProjIdeal.main_v0) = v0 c
          ∧ r.2.mem ((c.tc : Thread Cert.ReferenceOutProjIdeal.nD Cert.ReferenceOutProjIdeal.τ).loc Cert.ReferenceOutProjIdeal.main_arg0) = m' ((c.tc : Thread Cert.ReferenceOutProjIdeal.nD Cert.ReferenceOutProjIdeal.τ).loc Cert.ReferenceOutProjIdeal.main_arg0)
          ∧ r.2.mem ((c.tc : Thread Cert.ReferenceOutProjIdeal.nD Cert.ReferenceOutProjIdeal.τ).loc Cert.ReferenceOutProjIdeal.main_arg1) = m' ((c.tc : Thread Cert.ReferenceOutProjIdeal.nD Cert.ReferenceOutProjIdeal.τ).loc Cert.ReferenceOutProjIdeal.main_arg1))

def preserves_KernelAdamwMlpW1_KernelAdamwMlpW1Ideal : Prop :=
  True

def algebraic_KernelAdamwMlpW1Ideal_ReferenceAdamwMlpW1Ideal [hKernelAdamwMlpW1Ideal : Cert.KernelAdamwMlpW1Ideal.Facts] [hReferenceAdamwMlpW1Ideal : Cert.ReferenceAdamwMlpW1Ideal.Facts] : Prop :=
  ∀ (m : (ℓ : Loc Cert.KernelAdamwMlpW1Ideal.nD Cert.KernelAdamwMlpW1Ideal.τ Cert.KernelAdamwMlpW1Ideal.sig) → Buf (Elt Ideal) ℓ) (g : Dev Cert.KernelAdamwMlpW1Ideal.nD → PrngReg)
    (m' : (ℓ : Loc Cert.ReferenceAdamwMlpW1Ideal.nD Cert.ReferenceAdamwMlpW1Ideal.τ Cert.ReferenceAdamwMlpW1Ideal.sig) → Buf (Elt Ideal) ℓ) (g' : Dev Cert.ReferenceAdamwMlpW1Ideal.nD → PrngReg), Pre_KernelAdamwMlpW1Ideal m →
    (∀ c : Dev Cert.KernelAdamwMlpW1Ideal.nD,
      m' ((c.tc : Thread Cert.ReferenceAdamwMlpW1Ideal.nD Cert.ReferenceAdamwMlpW1Ideal.τ).loc Cert.ReferenceAdamwMlpW1Ideal.main_arg0) = m ((c.tc : Thread Cert.KernelAdamwMlpW1Ideal.nD Cert.KernelAdamwMlpW1Ideal.τ).loc Cert.KernelAdamwMlpW1Ideal.main_arg0)
      ∧ m' ((c.tc : Thread Cert.ReferenceAdamwMlpW1Ideal.nD Cert.ReferenceAdamwMlpW1Ideal.τ).loc Cert.ReferenceAdamwMlpW1Ideal.main_arg1) = m ((c.tc : Thread Cert.KernelAdamwMlpW1Ideal.nD Cert.KernelAdamwMlpW1Ideal.τ).loc Cert.KernelAdamwMlpW1Ideal.main_arg1)
      ∧ m' ((c.tc : Thread Cert.ReferenceAdamwMlpW1Ideal.nD Cert.ReferenceAdamwMlpW1Ideal.τ).loc Cert.ReferenceAdamwMlpW1Ideal.main_arg2) = m ((c.tc : Thread Cert.KernelAdamwMlpW1Ideal.nD Cert.KernelAdamwMlpW1Ideal.τ).loc Cert.KernelAdamwMlpW1Ideal.main_arg2)
      ∧ m' ((c.tc : Thread Cert.ReferenceAdamwMlpW1Ideal.nD Cert.ReferenceAdamwMlpW1Ideal.τ).loc Cert.ReferenceAdamwMlpW1Ideal.main_arg3) = m ((c.tc : Thread Cert.KernelAdamwMlpW1Ideal.nD Cert.KernelAdamwMlpW1Ideal.τ).loc Cert.KernelAdamwMlpW1Ideal.main_arg3)) →
    ∃ (v0 : (c : Dev Cert.KernelAdamwMlpW1Ideal.nD) → Buf (Elt Ideal) ((c.tc : Thread Cert.KernelAdamwMlpW1Ideal.nD Cert.KernelAdamwMlpW1Ideal.τ).loc Cert.KernelAdamwMlpW1Ideal.main_v3_0)) (v1 : (c : Dev Cert.KernelAdamwMlpW1Ideal.nD) → Buf (Elt Ideal) ((c.tc : Thread Cert.KernelAdamwMlpW1Ideal.nD Cert.KernelAdamwMlpW1Ideal.τ).loc Cert.KernelAdamwMlpW1Ideal.main_v3_1)) (v2 : (c : Dev Cert.KernelAdamwMlpW1Ideal.nD) → Buf (Elt Ideal) ((c.tc : Thread Cert.KernelAdamwMlpW1Ideal.nD Cert.KernelAdamwMlpW1Ideal.τ).loc Cert.KernelAdamwMlpW1Ideal.main_v3_2)) (v3 : (c : Dev Cert.KernelAdamwMlpW1Ideal.nD) → Buf (Elt Ideal) ((c.tc : Thread Cert.KernelAdamwMlpW1Ideal.nD Cert.KernelAdamwMlpW1Ideal.τ).loc Cert.KernelAdamwMlpW1Ideal.main_v3_3)),
      θ_run (Cert.KernelAdamwMlpW1Ideal.defs (F := Ideal)) (onTc (τ := Cert.KernelAdamwMlpW1Ideal.τ) (Cert.KernelAdamwMlpW1Ideal.main (F := Ideal))) ⟨m, fun _ => 0, g⟩ (fun r => ∀ c : Dev Cert.KernelAdamwMlpW1Ideal.nD,
          r.2.mem ((c.tc : Thread Cert.KernelAdamwMlpW1Ideal.nD Cert.KernelAdamwMlpW1Ideal.τ).loc Cert.KernelAdamwMlpW1Ideal.main_v3_0) = v0 c
          ∧ r.2.mem ((c.tc : Thread Cert.KernelAdamwMlpW1Ideal.nD Cert.KernelAdamwMlpW1Ideal.τ).loc Cert.KernelAdamwMlpW1Ideal.main_v3_1) = v1 c
          ∧ r.2.mem ((c.tc : Thread Cert.KernelAdamwMlpW1Ideal.nD Cert.KernelAdamwMlpW1Ideal.τ).loc Cert.KernelAdamwMlpW1Ideal.main_v3_2) = v2 c
          ∧ r.2.mem ((c.tc : Thread Cert.KernelAdamwMlpW1Ideal.nD Cert.KernelAdamwMlpW1Ideal.τ).loc Cert.KernelAdamwMlpW1Ideal.main_v3_3) = v3 c
          ∧ r.2.mem ((c.tc : Thread Cert.KernelAdamwMlpW1Ideal.nD Cert.KernelAdamwMlpW1Ideal.τ).loc Cert.KernelAdamwMlpW1Ideal.main_arg0) = m ((c.tc : Thread Cert.KernelAdamwMlpW1Ideal.nD Cert.KernelAdamwMlpW1Ideal.τ).loc Cert.KernelAdamwMlpW1Ideal.main_arg0)
          ∧ r.2.mem ((c.tc : Thread Cert.KernelAdamwMlpW1Ideal.nD Cert.KernelAdamwMlpW1Ideal.τ).loc Cert.KernelAdamwMlpW1Ideal.main_arg1) = m ((c.tc : Thread Cert.KernelAdamwMlpW1Ideal.nD Cert.KernelAdamwMlpW1Ideal.τ).loc Cert.KernelAdamwMlpW1Ideal.main_arg1)
          ∧ r.2.mem ((c.tc : Thread Cert.KernelAdamwMlpW1Ideal.nD Cert.KernelAdamwMlpW1Ideal.τ).loc Cert.KernelAdamwMlpW1Ideal.main_arg2) = m ((c.tc : Thread Cert.KernelAdamwMlpW1Ideal.nD Cert.KernelAdamwMlpW1Ideal.τ).loc Cert.KernelAdamwMlpW1Ideal.main_arg2)
          ∧ r.2.mem ((c.tc : Thread Cert.KernelAdamwMlpW1Ideal.nD Cert.KernelAdamwMlpW1Ideal.τ).loc Cert.KernelAdamwMlpW1Ideal.main_arg3) = m ((c.tc : Thread Cert.KernelAdamwMlpW1Ideal.nD Cert.KernelAdamwMlpW1Ideal.τ).loc Cert.KernelAdamwMlpW1Ideal.main_arg3))
      ∧ θ_run (Cert.ReferenceAdamwMlpW1Ideal.defs (F := Ideal)) (onTc (τ := Cert.ReferenceAdamwMlpW1Ideal.τ) (Cert.ReferenceAdamwMlpW1Ideal.main (F := Ideal))) ⟨m', fun _ => 0, g'⟩ (fun r => ∀ c : Dev Cert.ReferenceAdamwMlpW1Ideal.nD,
          r.2.mem ((c.tc : Thread Cert.ReferenceAdamwMlpW1Ideal.nD Cert.ReferenceAdamwMlpW1Ideal.τ).loc Cert.ReferenceAdamwMlpW1Ideal.main_v26) = v0 c
          ∧ r.2.mem ((c.tc : Thread Cert.ReferenceAdamwMlpW1Ideal.nD Cert.ReferenceAdamwMlpW1Ideal.τ).loc Cert.ReferenceAdamwMlpW1Ideal.main_v27) = v1 c
          ∧ r.2.mem ((c.tc : Thread Cert.ReferenceAdamwMlpW1Ideal.nD Cert.ReferenceAdamwMlpW1Ideal.τ).loc Cert.ReferenceAdamwMlpW1Ideal.main_v28) = v2 c
          ∧ r.2.mem ((c.tc : Thread Cert.ReferenceAdamwMlpW1Ideal.nD Cert.ReferenceAdamwMlpW1Ideal.τ).loc Cert.ReferenceAdamwMlpW1Ideal.main_v29) = v3 c
          ∧ r.2.mem ((c.tc : Thread Cert.ReferenceAdamwMlpW1Ideal.nD Cert.ReferenceAdamwMlpW1Ideal.τ).loc Cert.ReferenceAdamwMlpW1Ideal.main_arg0) = m' ((c.tc : Thread Cert.ReferenceAdamwMlpW1Ideal.nD Cert.ReferenceAdamwMlpW1Ideal.τ).loc Cert.ReferenceAdamwMlpW1Ideal.main_arg0)
          ∧ r.2.mem ((c.tc : Thread Cert.ReferenceAdamwMlpW1Ideal.nD Cert.ReferenceAdamwMlpW1Ideal.τ).loc Cert.ReferenceAdamwMlpW1Ideal.main_arg1) = m' ((c.tc : Thread Cert.ReferenceAdamwMlpW1Ideal.nD Cert.ReferenceAdamwMlpW1Ideal.τ).loc Cert.ReferenceAdamwMlpW1Ideal.main_arg1)
          ∧ r.2.mem ((c.tc : Thread Cert.ReferenceAdamwMlpW1Ideal.nD Cert.ReferenceAdamwMlpW1Ideal.τ).loc Cert.ReferenceAdamwMlpW1Ideal.main_arg2) = m' ((c.tc : Thread Cert.ReferenceAdamwMlpW1Ideal.nD Cert.ReferenceAdamwMlpW1Ideal.τ).loc Cert.ReferenceAdamwMlpW1Ideal.main_arg2)
          ∧ r.2.mem ((c.tc : Thread Cert.ReferenceAdamwMlpW1Ideal.nD Cert.ReferenceAdamwMlpW1Ideal.τ).loc Cert.ReferenceAdamwMlpW1Ideal.main_arg3) = m' ((c.tc : Thread Cert.ReferenceAdamwMlpW1Ideal.nD Cert.ReferenceAdamwMlpW1Ideal.τ).loc Cert.ReferenceAdamwMlpW1Ideal.main_arg3))

def preserves_KernelAdamwMlpW2_KernelAdamwMlpW2Ideal : Prop :=
  True

def algebraic_KernelAdamwMlpW2Ideal_ReferenceAdamwMlpW2Ideal [hKernelAdamwMlpW2Ideal : Cert.KernelAdamwMlpW2Ideal.Facts] [hReferenceAdamwMlpW2Ideal : Cert.ReferenceAdamwMlpW2Ideal.Facts] : Prop :=
  ∀ (m : (ℓ : Loc Cert.KernelAdamwMlpW2Ideal.nD Cert.KernelAdamwMlpW2Ideal.τ Cert.KernelAdamwMlpW2Ideal.sig) → Buf (Elt Ideal) ℓ) (g : Dev Cert.KernelAdamwMlpW2Ideal.nD → PrngReg)
    (m' : (ℓ : Loc Cert.ReferenceAdamwMlpW2Ideal.nD Cert.ReferenceAdamwMlpW2Ideal.τ Cert.ReferenceAdamwMlpW2Ideal.sig) → Buf (Elt Ideal) ℓ) (g' : Dev Cert.ReferenceAdamwMlpW2Ideal.nD → PrngReg), Pre_KernelAdamwMlpW2Ideal m →
    (∀ c : Dev Cert.KernelAdamwMlpW2Ideal.nD,
      m' ((c.tc : Thread Cert.ReferenceAdamwMlpW2Ideal.nD Cert.ReferenceAdamwMlpW2Ideal.τ).loc Cert.ReferenceAdamwMlpW2Ideal.main_arg0) = m ((c.tc : Thread Cert.KernelAdamwMlpW2Ideal.nD Cert.KernelAdamwMlpW2Ideal.τ).loc Cert.KernelAdamwMlpW2Ideal.main_arg0)
      ∧ m' ((c.tc : Thread Cert.ReferenceAdamwMlpW2Ideal.nD Cert.ReferenceAdamwMlpW2Ideal.τ).loc Cert.ReferenceAdamwMlpW2Ideal.main_arg1) = m ((c.tc : Thread Cert.KernelAdamwMlpW2Ideal.nD Cert.KernelAdamwMlpW2Ideal.τ).loc Cert.KernelAdamwMlpW2Ideal.main_arg1)
      ∧ m' ((c.tc : Thread Cert.ReferenceAdamwMlpW2Ideal.nD Cert.ReferenceAdamwMlpW2Ideal.τ).loc Cert.ReferenceAdamwMlpW2Ideal.main_arg2) = m ((c.tc : Thread Cert.KernelAdamwMlpW2Ideal.nD Cert.KernelAdamwMlpW2Ideal.τ).loc Cert.KernelAdamwMlpW2Ideal.main_arg2)
      ∧ m' ((c.tc : Thread Cert.ReferenceAdamwMlpW2Ideal.nD Cert.ReferenceAdamwMlpW2Ideal.τ).loc Cert.ReferenceAdamwMlpW2Ideal.main_arg3) = m ((c.tc : Thread Cert.KernelAdamwMlpW2Ideal.nD Cert.KernelAdamwMlpW2Ideal.τ).loc Cert.KernelAdamwMlpW2Ideal.main_arg3)) →
    ∃ (v0 : (c : Dev Cert.KernelAdamwMlpW2Ideal.nD) → Buf (Elt Ideal) ((c.tc : Thread Cert.KernelAdamwMlpW2Ideal.nD Cert.KernelAdamwMlpW2Ideal.τ).loc Cert.KernelAdamwMlpW2Ideal.main_v3_0)) (v1 : (c : Dev Cert.KernelAdamwMlpW2Ideal.nD) → Buf (Elt Ideal) ((c.tc : Thread Cert.KernelAdamwMlpW2Ideal.nD Cert.KernelAdamwMlpW2Ideal.τ).loc Cert.KernelAdamwMlpW2Ideal.main_v3_1)) (v2 : (c : Dev Cert.KernelAdamwMlpW2Ideal.nD) → Buf (Elt Ideal) ((c.tc : Thread Cert.KernelAdamwMlpW2Ideal.nD Cert.KernelAdamwMlpW2Ideal.τ).loc Cert.KernelAdamwMlpW2Ideal.main_v3_2)) (v3 : (c : Dev Cert.KernelAdamwMlpW2Ideal.nD) → Buf (Elt Ideal) ((c.tc : Thread Cert.KernelAdamwMlpW2Ideal.nD Cert.KernelAdamwMlpW2Ideal.τ).loc Cert.KernelAdamwMlpW2Ideal.main_v3_3)),
      θ_run (Cert.KernelAdamwMlpW2Ideal.defs (F := Ideal)) (onTc (τ := Cert.KernelAdamwMlpW2Ideal.τ) (Cert.KernelAdamwMlpW2Ideal.main (F := Ideal))) ⟨m, fun _ => 0, g⟩ (fun r => ∀ c : Dev Cert.KernelAdamwMlpW2Ideal.nD,
          r.2.mem ((c.tc : Thread Cert.KernelAdamwMlpW2Ideal.nD Cert.KernelAdamwMlpW2Ideal.τ).loc Cert.KernelAdamwMlpW2Ideal.main_v3_0) = v0 c
          ∧ r.2.mem ((c.tc : Thread Cert.KernelAdamwMlpW2Ideal.nD Cert.KernelAdamwMlpW2Ideal.τ).loc Cert.KernelAdamwMlpW2Ideal.main_v3_1) = v1 c
          ∧ r.2.mem ((c.tc : Thread Cert.KernelAdamwMlpW2Ideal.nD Cert.KernelAdamwMlpW2Ideal.τ).loc Cert.KernelAdamwMlpW2Ideal.main_v3_2) = v2 c
          ∧ r.2.mem ((c.tc : Thread Cert.KernelAdamwMlpW2Ideal.nD Cert.KernelAdamwMlpW2Ideal.τ).loc Cert.KernelAdamwMlpW2Ideal.main_v3_3) = v3 c
          ∧ r.2.mem ((c.tc : Thread Cert.KernelAdamwMlpW2Ideal.nD Cert.KernelAdamwMlpW2Ideal.τ).loc Cert.KernelAdamwMlpW2Ideal.main_arg0) = m ((c.tc : Thread Cert.KernelAdamwMlpW2Ideal.nD Cert.KernelAdamwMlpW2Ideal.τ).loc Cert.KernelAdamwMlpW2Ideal.main_arg0)
          ∧ r.2.mem ((c.tc : Thread Cert.KernelAdamwMlpW2Ideal.nD Cert.KernelAdamwMlpW2Ideal.τ).loc Cert.KernelAdamwMlpW2Ideal.main_arg1) = m ((c.tc : Thread Cert.KernelAdamwMlpW2Ideal.nD Cert.KernelAdamwMlpW2Ideal.τ).loc Cert.KernelAdamwMlpW2Ideal.main_arg1)
          ∧ r.2.mem ((c.tc : Thread Cert.KernelAdamwMlpW2Ideal.nD Cert.KernelAdamwMlpW2Ideal.τ).loc Cert.KernelAdamwMlpW2Ideal.main_arg2) = m ((c.tc : Thread Cert.KernelAdamwMlpW2Ideal.nD Cert.KernelAdamwMlpW2Ideal.τ).loc Cert.KernelAdamwMlpW2Ideal.main_arg2)
          ∧ r.2.mem ((c.tc : Thread Cert.KernelAdamwMlpW2Ideal.nD Cert.KernelAdamwMlpW2Ideal.τ).loc Cert.KernelAdamwMlpW2Ideal.main_arg3) = m ((c.tc : Thread Cert.KernelAdamwMlpW2Ideal.nD Cert.KernelAdamwMlpW2Ideal.τ).loc Cert.KernelAdamwMlpW2Ideal.main_arg3))
      ∧ θ_run (Cert.ReferenceAdamwMlpW2Ideal.defs (F := Ideal)) (onTc (τ := Cert.ReferenceAdamwMlpW2Ideal.τ) (Cert.ReferenceAdamwMlpW2Ideal.main (F := Ideal))) ⟨m', fun _ => 0, g'⟩ (fun r => ∀ c : Dev Cert.ReferenceAdamwMlpW2Ideal.nD,
          r.2.mem ((c.tc : Thread Cert.ReferenceAdamwMlpW2Ideal.nD Cert.ReferenceAdamwMlpW2Ideal.τ).loc Cert.ReferenceAdamwMlpW2Ideal.main_v26) = v0 c
          ∧ r.2.mem ((c.tc : Thread Cert.ReferenceAdamwMlpW2Ideal.nD Cert.ReferenceAdamwMlpW2Ideal.τ).loc Cert.ReferenceAdamwMlpW2Ideal.main_v27) = v1 c
          ∧ r.2.mem ((c.tc : Thread Cert.ReferenceAdamwMlpW2Ideal.nD Cert.ReferenceAdamwMlpW2Ideal.τ).loc Cert.ReferenceAdamwMlpW2Ideal.main_v28) = v2 c
          ∧ r.2.mem ((c.tc : Thread Cert.ReferenceAdamwMlpW2Ideal.nD Cert.ReferenceAdamwMlpW2Ideal.τ).loc Cert.ReferenceAdamwMlpW2Ideal.main_v29) = v3 c
          ∧ r.2.mem ((c.tc : Thread Cert.ReferenceAdamwMlpW2Ideal.nD Cert.ReferenceAdamwMlpW2Ideal.τ).loc Cert.ReferenceAdamwMlpW2Ideal.main_arg0) = m' ((c.tc : Thread Cert.ReferenceAdamwMlpW2Ideal.nD Cert.ReferenceAdamwMlpW2Ideal.τ).loc Cert.ReferenceAdamwMlpW2Ideal.main_arg0)
          ∧ r.2.mem ((c.tc : Thread Cert.ReferenceAdamwMlpW2Ideal.nD Cert.ReferenceAdamwMlpW2Ideal.τ).loc Cert.ReferenceAdamwMlpW2Ideal.main_arg1) = m' ((c.tc : Thread Cert.ReferenceAdamwMlpW2Ideal.nD Cert.ReferenceAdamwMlpW2Ideal.τ).loc Cert.ReferenceAdamwMlpW2Ideal.main_arg1)
          ∧ r.2.mem ((c.tc : Thread Cert.ReferenceAdamwMlpW2Ideal.nD Cert.ReferenceAdamwMlpW2Ideal.τ).loc Cert.ReferenceAdamwMlpW2Ideal.main_arg2) = m' ((c.tc : Thread Cert.ReferenceAdamwMlpW2Ideal.nD Cert.ReferenceAdamwMlpW2Ideal.τ).loc Cert.ReferenceAdamwMlpW2Ideal.main_arg2)
          ∧ r.2.mem ((c.tc : Thread Cert.ReferenceAdamwMlpW2Ideal.nD Cert.ReferenceAdamwMlpW2Ideal.τ).loc Cert.ReferenceAdamwMlpW2Ideal.main_arg3) = m' ((c.tc : Thread Cert.ReferenceAdamwMlpW2Ideal.nD Cert.ReferenceAdamwMlpW2Ideal.τ).loc Cert.ReferenceAdamwMlpW2Ideal.main_arg3))

def preserves_KernelAdamwAWOut_KernelAdamwAWOutIdeal : Prop :=
  True

def algebraic_KernelAdamwAWOutIdeal_ReferenceAdamwAWOutIdeal [hKernelAdamwAWOutIdeal : Cert.KernelAdamwAWOutIdeal.Facts] [hReferenceAdamwAWOutIdeal : Cert.ReferenceAdamwAWOutIdeal.Facts] : Prop :=
  ∀ (m : (ℓ : Loc Cert.KernelAdamwAWOutIdeal.nD Cert.KernelAdamwAWOutIdeal.τ Cert.KernelAdamwAWOutIdeal.sig) → Buf (Elt Ideal) ℓ) (g : Dev Cert.KernelAdamwAWOutIdeal.nD → PrngReg)
    (m' : (ℓ : Loc Cert.ReferenceAdamwAWOutIdeal.nD Cert.ReferenceAdamwAWOutIdeal.τ Cert.ReferenceAdamwAWOutIdeal.sig) → Buf (Elt Ideal) ℓ) (g' : Dev Cert.ReferenceAdamwAWOutIdeal.nD → PrngReg), Pre_KernelAdamwAWOutIdeal m →
    (∀ c : Dev Cert.KernelAdamwAWOutIdeal.nD,
      m' ((c.tc : Thread Cert.ReferenceAdamwAWOutIdeal.nD Cert.ReferenceAdamwAWOutIdeal.τ).loc Cert.ReferenceAdamwAWOutIdeal.main_arg0) = m ((c.tc : Thread Cert.KernelAdamwAWOutIdeal.nD Cert.KernelAdamwAWOutIdeal.τ).loc Cert.KernelAdamwAWOutIdeal.main_arg0)
      ∧ m' ((c.tc : Thread Cert.ReferenceAdamwAWOutIdeal.nD Cert.ReferenceAdamwAWOutIdeal.τ).loc Cert.ReferenceAdamwAWOutIdeal.main_arg1) = m ((c.tc : Thread Cert.KernelAdamwAWOutIdeal.nD Cert.KernelAdamwAWOutIdeal.τ).loc Cert.KernelAdamwAWOutIdeal.main_arg1)
      ∧ m' ((c.tc : Thread Cert.ReferenceAdamwAWOutIdeal.nD Cert.ReferenceAdamwAWOutIdeal.τ).loc Cert.ReferenceAdamwAWOutIdeal.main_arg2) = m ((c.tc : Thread Cert.KernelAdamwAWOutIdeal.nD Cert.KernelAdamwAWOutIdeal.τ).loc Cert.KernelAdamwAWOutIdeal.main_arg2)
      ∧ m' ((c.tc : Thread Cert.ReferenceAdamwAWOutIdeal.nD Cert.ReferenceAdamwAWOutIdeal.τ).loc Cert.ReferenceAdamwAWOutIdeal.main_arg3) = m ((c.tc : Thread Cert.KernelAdamwAWOutIdeal.nD Cert.KernelAdamwAWOutIdeal.τ).loc Cert.KernelAdamwAWOutIdeal.main_arg3)) →
    ∃ (v0 : (c : Dev Cert.KernelAdamwAWOutIdeal.nD) → Buf (Elt Ideal) ((c.tc : Thread Cert.KernelAdamwAWOutIdeal.nD Cert.KernelAdamwAWOutIdeal.τ).loc Cert.KernelAdamwAWOutIdeal.main_v3_0)) (v1 : (c : Dev Cert.KernelAdamwAWOutIdeal.nD) → Buf (Elt Ideal) ((c.tc : Thread Cert.KernelAdamwAWOutIdeal.nD Cert.KernelAdamwAWOutIdeal.τ).loc Cert.KernelAdamwAWOutIdeal.main_v3_1)) (v2 : (c : Dev Cert.KernelAdamwAWOutIdeal.nD) → Buf (Elt Ideal) ((c.tc : Thread Cert.KernelAdamwAWOutIdeal.nD Cert.KernelAdamwAWOutIdeal.τ).loc Cert.KernelAdamwAWOutIdeal.main_v3_2)) (v3 : (c : Dev Cert.KernelAdamwAWOutIdeal.nD) → Buf (Elt Ideal) ((c.tc : Thread Cert.KernelAdamwAWOutIdeal.nD Cert.KernelAdamwAWOutIdeal.τ).loc Cert.KernelAdamwAWOutIdeal.main_v3_3)),
      θ_run (Cert.KernelAdamwAWOutIdeal.defs (F := Ideal)) (onTc (τ := Cert.KernelAdamwAWOutIdeal.τ) (Cert.KernelAdamwAWOutIdeal.main (F := Ideal))) ⟨m, fun _ => 0, g⟩ (fun r => ∀ c : Dev Cert.KernelAdamwAWOutIdeal.nD,
          r.2.mem ((c.tc : Thread Cert.KernelAdamwAWOutIdeal.nD Cert.KernelAdamwAWOutIdeal.τ).loc Cert.KernelAdamwAWOutIdeal.main_v3_0) = v0 c
          ∧ r.2.mem ((c.tc : Thread Cert.KernelAdamwAWOutIdeal.nD Cert.KernelAdamwAWOutIdeal.τ).loc Cert.KernelAdamwAWOutIdeal.main_v3_1) = v1 c
          ∧ r.2.mem ((c.tc : Thread Cert.KernelAdamwAWOutIdeal.nD Cert.KernelAdamwAWOutIdeal.τ).loc Cert.KernelAdamwAWOutIdeal.main_v3_2) = v2 c
          ∧ r.2.mem ((c.tc : Thread Cert.KernelAdamwAWOutIdeal.nD Cert.KernelAdamwAWOutIdeal.τ).loc Cert.KernelAdamwAWOutIdeal.main_v3_3) = v3 c
          ∧ r.2.mem ((c.tc : Thread Cert.KernelAdamwAWOutIdeal.nD Cert.KernelAdamwAWOutIdeal.τ).loc Cert.KernelAdamwAWOutIdeal.main_arg0) = m ((c.tc : Thread Cert.KernelAdamwAWOutIdeal.nD Cert.KernelAdamwAWOutIdeal.τ).loc Cert.KernelAdamwAWOutIdeal.main_arg0)
          ∧ r.2.mem ((c.tc : Thread Cert.KernelAdamwAWOutIdeal.nD Cert.KernelAdamwAWOutIdeal.τ).loc Cert.KernelAdamwAWOutIdeal.main_arg1) = m ((c.tc : Thread Cert.KernelAdamwAWOutIdeal.nD Cert.KernelAdamwAWOutIdeal.τ).loc Cert.KernelAdamwAWOutIdeal.main_arg1)
          ∧ r.2.mem ((c.tc : Thread Cert.KernelAdamwAWOutIdeal.nD Cert.KernelAdamwAWOutIdeal.τ).loc Cert.KernelAdamwAWOutIdeal.main_arg2) = m ((c.tc : Thread Cert.KernelAdamwAWOutIdeal.nD Cert.KernelAdamwAWOutIdeal.τ).loc Cert.KernelAdamwAWOutIdeal.main_arg2)
          ∧ r.2.mem ((c.tc : Thread Cert.KernelAdamwAWOutIdeal.nD Cert.KernelAdamwAWOutIdeal.τ).loc Cert.KernelAdamwAWOutIdeal.main_arg3) = m ((c.tc : Thread Cert.KernelAdamwAWOutIdeal.nD Cert.KernelAdamwAWOutIdeal.τ).loc Cert.KernelAdamwAWOutIdeal.main_arg3))
      ∧ θ_run (Cert.ReferenceAdamwAWOutIdeal.defs (F := Ideal)) (onTc (τ := Cert.ReferenceAdamwAWOutIdeal.τ) (Cert.ReferenceAdamwAWOutIdeal.main (F := Ideal))) ⟨m', fun _ => 0, g'⟩ (fun r => ∀ c : Dev Cert.ReferenceAdamwAWOutIdeal.nD,
          r.2.mem ((c.tc : Thread Cert.ReferenceAdamwAWOutIdeal.nD Cert.ReferenceAdamwAWOutIdeal.τ).loc Cert.ReferenceAdamwAWOutIdeal.main_v26) = v0 c
          ∧ r.2.mem ((c.tc : Thread Cert.ReferenceAdamwAWOutIdeal.nD Cert.ReferenceAdamwAWOutIdeal.τ).loc Cert.ReferenceAdamwAWOutIdeal.main_v27) = v1 c
          ∧ r.2.mem ((c.tc : Thread Cert.ReferenceAdamwAWOutIdeal.nD Cert.ReferenceAdamwAWOutIdeal.τ).loc Cert.ReferenceAdamwAWOutIdeal.main_v28) = v2 c
          ∧ r.2.mem ((c.tc : Thread Cert.ReferenceAdamwAWOutIdeal.nD Cert.ReferenceAdamwAWOutIdeal.τ).loc Cert.ReferenceAdamwAWOutIdeal.main_v29) = v3 c
          ∧ r.2.mem ((c.tc : Thread Cert.ReferenceAdamwAWOutIdeal.nD Cert.ReferenceAdamwAWOutIdeal.τ).loc Cert.ReferenceAdamwAWOutIdeal.main_arg0) = m' ((c.tc : Thread Cert.ReferenceAdamwAWOutIdeal.nD Cert.ReferenceAdamwAWOutIdeal.τ).loc Cert.ReferenceAdamwAWOutIdeal.main_arg0)
          ∧ r.2.mem ((c.tc : Thread Cert.ReferenceAdamwAWOutIdeal.nD Cert.ReferenceAdamwAWOutIdeal.τ).loc Cert.ReferenceAdamwAWOutIdeal.main_arg1) = m' ((c.tc : Thread Cert.ReferenceAdamwAWOutIdeal.nD Cert.ReferenceAdamwAWOutIdeal.τ).loc Cert.ReferenceAdamwAWOutIdeal.main_arg1)
          ∧ r.2.mem ((c.tc : Thread Cert.ReferenceAdamwAWOutIdeal.nD Cert.ReferenceAdamwAWOutIdeal.τ).loc Cert.ReferenceAdamwAWOutIdeal.main_arg2) = m' ((c.tc : Thread Cert.ReferenceAdamwAWOutIdeal.nD Cert.ReferenceAdamwAWOutIdeal.τ).loc Cert.ReferenceAdamwAWOutIdeal.main_arg2)
          ∧ r.2.mem ((c.tc : Thread Cert.ReferenceAdamwAWOutIdeal.nD Cert.ReferenceAdamwAWOutIdeal.τ).loc Cert.ReferenceAdamwAWOutIdeal.main_arg3) = m' ((c.tc : Thread Cert.ReferenceAdamwAWOutIdeal.nD Cert.ReferenceAdamwAWOutIdeal.τ).loc Cert.ReferenceAdamwAWOutIdeal.main_arg3))

def preserves_KernelAdamwBWOut_KernelAdamwBWOutIdeal : Prop :=
  True

def algebraic_KernelAdamwBWOutIdeal_ReferenceAdamwBWOutIdeal [hKernelAdamwBWOutIdeal : Cert.KernelAdamwBWOutIdeal.Facts] [hReferenceAdamwBWOutIdeal : Cert.ReferenceAdamwBWOutIdeal.Facts] : Prop :=
  ∀ (m : (ℓ : Loc Cert.KernelAdamwBWOutIdeal.nD Cert.KernelAdamwBWOutIdeal.τ Cert.KernelAdamwBWOutIdeal.sig) → Buf (Elt Ideal) ℓ) (g : Dev Cert.KernelAdamwBWOutIdeal.nD → PrngReg)
    (m' : (ℓ : Loc Cert.ReferenceAdamwBWOutIdeal.nD Cert.ReferenceAdamwBWOutIdeal.τ Cert.ReferenceAdamwBWOutIdeal.sig) → Buf (Elt Ideal) ℓ) (g' : Dev Cert.ReferenceAdamwBWOutIdeal.nD → PrngReg), Pre_KernelAdamwBWOutIdeal m →
    (∀ c : Dev Cert.KernelAdamwBWOutIdeal.nD,
      m' ((c.tc : Thread Cert.ReferenceAdamwBWOutIdeal.nD Cert.ReferenceAdamwBWOutIdeal.τ).loc Cert.ReferenceAdamwBWOutIdeal.main_arg0) = m ((c.tc : Thread Cert.KernelAdamwBWOutIdeal.nD Cert.KernelAdamwBWOutIdeal.τ).loc Cert.KernelAdamwBWOutIdeal.main_arg0)
      ∧ m' ((c.tc : Thread Cert.ReferenceAdamwBWOutIdeal.nD Cert.ReferenceAdamwBWOutIdeal.τ).loc Cert.ReferenceAdamwBWOutIdeal.main_arg1) = m ((c.tc : Thread Cert.KernelAdamwBWOutIdeal.nD Cert.KernelAdamwBWOutIdeal.τ).loc Cert.KernelAdamwBWOutIdeal.main_arg1)
      ∧ m' ((c.tc : Thread Cert.ReferenceAdamwBWOutIdeal.nD Cert.ReferenceAdamwBWOutIdeal.τ).loc Cert.ReferenceAdamwBWOutIdeal.main_arg2) = m ((c.tc : Thread Cert.KernelAdamwBWOutIdeal.nD Cert.KernelAdamwBWOutIdeal.τ).loc Cert.KernelAdamwBWOutIdeal.main_arg2)
      ∧ m' ((c.tc : Thread Cert.ReferenceAdamwBWOutIdeal.nD Cert.ReferenceAdamwBWOutIdeal.τ).loc Cert.ReferenceAdamwBWOutIdeal.main_arg3) = m ((c.tc : Thread Cert.KernelAdamwBWOutIdeal.nD Cert.KernelAdamwBWOutIdeal.τ).loc Cert.KernelAdamwBWOutIdeal.main_arg3)) →
    ∃ (v0 : (c : Dev Cert.KernelAdamwBWOutIdeal.nD) → Buf (Elt Ideal) ((c.tc : Thread Cert.KernelAdamwBWOutIdeal.nD Cert.KernelAdamwBWOutIdeal.τ).loc Cert.KernelAdamwBWOutIdeal.main_v3_0)) (v1 : (c : Dev Cert.KernelAdamwBWOutIdeal.nD) → Buf (Elt Ideal) ((c.tc : Thread Cert.KernelAdamwBWOutIdeal.nD Cert.KernelAdamwBWOutIdeal.τ).loc Cert.KernelAdamwBWOutIdeal.main_v3_1)) (v2 : (c : Dev Cert.KernelAdamwBWOutIdeal.nD) → Buf (Elt Ideal) ((c.tc : Thread Cert.KernelAdamwBWOutIdeal.nD Cert.KernelAdamwBWOutIdeal.τ).loc Cert.KernelAdamwBWOutIdeal.main_v3_2)) (v3 : (c : Dev Cert.KernelAdamwBWOutIdeal.nD) → Buf (Elt Ideal) ((c.tc : Thread Cert.KernelAdamwBWOutIdeal.nD Cert.KernelAdamwBWOutIdeal.τ).loc Cert.KernelAdamwBWOutIdeal.main_v3_3)),
      θ_run (Cert.KernelAdamwBWOutIdeal.defs (F := Ideal)) (onTc (τ := Cert.KernelAdamwBWOutIdeal.τ) (Cert.KernelAdamwBWOutIdeal.main (F := Ideal))) ⟨m, fun _ => 0, g⟩ (fun r => ∀ c : Dev Cert.KernelAdamwBWOutIdeal.nD,
          r.2.mem ((c.tc : Thread Cert.KernelAdamwBWOutIdeal.nD Cert.KernelAdamwBWOutIdeal.τ).loc Cert.KernelAdamwBWOutIdeal.main_v3_0) = v0 c
          ∧ r.2.mem ((c.tc : Thread Cert.KernelAdamwBWOutIdeal.nD Cert.KernelAdamwBWOutIdeal.τ).loc Cert.KernelAdamwBWOutIdeal.main_v3_1) = v1 c
          ∧ r.2.mem ((c.tc : Thread Cert.KernelAdamwBWOutIdeal.nD Cert.KernelAdamwBWOutIdeal.τ).loc Cert.KernelAdamwBWOutIdeal.main_v3_2) = v2 c
          ∧ r.2.mem ((c.tc : Thread Cert.KernelAdamwBWOutIdeal.nD Cert.KernelAdamwBWOutIdeal.τ).loc Cert.KernelAdamwBWOutIdeal.main_v3_3) = v3 c
          ∧ r.2.mem ((c.tc : Thread Cert.KernelAdamwBWOutIdeal.nD Cert.KernelAdamwBWOutIdeal.τ).loc Cert.KernelAdamwBWOutIdeal.main_arg0) = m ((c.tc : Thread Cert.KernelAdamwBWOutIdeal.nD Cert.KernelAdamwBWOutIdeal.τ).loc Cert.KernelAdamwBWOutIdeal.main_arg0)
          ∧ r.2.mem ((c.tc : Thread Cert.KernelAdamwBWOutIdeal.nD Cert.KernelAdamwBWOutIdeal.τ).loc Cert.KernelAdamwBWOutIdeal.main_arg1) = m ((c.tc : Thread Cert.KernelAdamwBWOutIdeal.nD Cert.KernelAdamwBWOutIdeal.τ).loc Cert.KernelAdamwBWOutIdeal.main_arg1)
          ∧ r.2.mem ((c.tc : Thread Cert.KernelAdamwBWOutIdeal.nD Cert.KernelAdamwBWOutIdeal.τ).loc Cert.KernelAdamwBWOutIdeal.main_arg2) = m ((c.tc : Thread Cert.KernelAdamwBWOutIdeal.nD Cert.KernelAdamwBWOutIdeal.τ).loc Cert.KernelAdamwBWOutIdeal.main_arg2)
          ∧ r.2.mem ((c.tc : Thread Cert.KernelAdamwBWOutIdeal.nD Cert.KernelAdamwBWOutIdeal.τ).loc Cert.KernelAdamwBWOutIdeal.main_arg3) = m ((c.tc : Thread Cert.KernelAdamwBWOutIdeal.nD Cert.KernelAdamwBWOutIdeal.τ).loc Cert.KernelAdamwBWOutIdeal.main_arg3))
      ∧ θ_run (Cert.ReferenceAdamwBWOutIdeal.defs (F := Ideal)) (onTc (τ := Cert.ReferenceAdamwBWOutIdeal.τ) (Cert.ReferenceAdamwBWOutIdeal.main (F := Ideal))) ⟨m', fun _ => 0, g'⟩ (fun r => ∀ c : Dev Cert.ReferenceAdamwBWOutIdeal.nD,
          r.2.mem ((c.tc : Thread Cert.ReferenceAdamwBWOutIdeal.nD Cert.ReferenceAdamwBWOutIdeal.τ).loc Cert.ReferenceAdamwBWOutIdeal.main_v26) = v0 c
          ∧ r.2.mem ((c.tc : Thread Cert.ReferenceAdamwBWOutIdeal.nD Cert.ReferenceAdamwBWOutIdeal.τ).loc Cert.ReferenceAdamwBWOutIdeal.main_v27) = v1 c
          ∧ r.2.mem ((c.tc : Thread Cert.ReferenceAdamwBWOutIdeal.nD Cert.ReferenceAdamwBWOutIdeal.τ).loc Cert.ReferenceAdamwBWOutIdeal.main_v28) = v2 c
          ∧ r.2.mem ((c.tc : Thread Cert.ReferenceAdamwBWOutIdeal.nD Cert.ReferenceAdamwBWOutIdeal.τ).loc Cert.ReferenceAdamwBWOutIdeal.main_v29) = v3 c
          ∧ r.2.mem ((c.tc : Thread Cert.ReferenceAdamwBWOutIdeal.nD Cert.ReferenceAdamwBWOutIdeal.τ).loc Cert.ReferenceAdamwBWOutIdeal.main_arg0) = m' ((c.tc : Thread Cert.ReferenceAdamwBWOutIdeal.nD Cert.ReferenceAdamwBWOutIdeal.τ).loc Cert.ReferenceAdamwBWOutIdeal.main_arg0)
          ∧ r.2.mem ((c.tc : Thread Cert.ReferenceAdamwBWOutIdeal.nD Cert.ReferenceAdamwBWOutIdeal.τ).loc Cert.ReferenceAdamwBWOutIdeal.main_arg1) = m' ((c.tc : Thread Cert.ReferenceAdamwBWOutIdeal.nD Cert.ReferenceAdamwBWOutIdeal.τ).loc Cert.ReferenceAdamwBWOutIdeal.main_arg1)
          ∧ r.2.mem ((c.tc : Thread Cert.ReferenceAdamwBWOutIdeal.nD Cert.ReferenceAdamwBWOutIdeal.τ).loc Cert.ReferenceAdamwBWOutIdeal.main_arg2) = m' ((c.tc : Thread Cert.ReferenceAdamwBWOutIdeal.nD Cert.ReferenceAdamwBWOutIdeal.τ).loc Cert.ReferenceAdamwBWOutIdeal.main_arg2)
          ∧ r.2.mem ((c.tc : Thread Cert.ReferenceAdamwBWOutIdeal.nD Cert.ReferenceAdamwBWOutIdeal.τ).loc Cert.ReferenceAdamwBWOutIdeal.main_arg3) = m' ((c.tc : Thread Cert.ReferenceAdamwBWOutIdeal.nD Cert.ReferenceAdamwBWOutIdeal.τ).loc Cert.ReferenceAdamwBWOutIdeal.main_arg3))

def preserves_KernelAdamwAWIn_KernelAdamwAWInIdeal : Prop :=
  True

def algebraic_KernelAdamwAWInIdeal_ReferenceAdamwAWInIdeal [hKernelAdamwAWInIdeal : Cert.KernelAdamwAWInIdeal.Facts] [hReferenceAdamwAWInIdeal : Cert.ReferenceAdamwAWInIdeal.Facts] : Prop :=
  ∀ (m : (ℓ : Loc Cert.KernelAdamwAWInIdeal.nD Cert.KernelAdamwAWInIdeal.τ Cert.KernelAdamwAWInIdeal.sig) → Buf (Elt Ideal) ℓ) (g : Dev Cert.KernelAdamwAWInIdeal.nD → PrngReg)
    (m' : (ℓ : Loc Cert.ReferenceAdamwAWInIdeal.nD Cert.ReferenceAdamwAWInIdeal.τ Cert.ReferenceAdamwAWInIdeal.sig) → Buf (Elt Ideal) ℓ) (g' : Dev Cert.ReferenceAdamwAWInIdeal.nD → PrngReg), Pre_KernelAdamwAWInIdeal m →
    (∀ c : Dev Cert.KernelAdamwAWInIdeal.nD,
      m' ((c.tc : Thread Cert.ReferenceAdamwAWInIdeal.nD Cert.ReferenceAdamwAWInIdeal.τ).loc Cert.ReferenceAdamwAWInIdeal.main_arg0) = m ((c.tc : Thread Cert.KernelAdamwAWInIdeal.nD Cert.KernelAdamwAWInIdeal.τ).loc Cert.KernelAdamwAWInIdeal.main_arg0)
      ∧ m' ((c.tc : Thread Cert.ReferenceAdamwAWInIdeal.nD Cert.ReferenceAdamwAWInIdeal.τ).loc Cert.ReferenceAdamwAWInIdeal.main_arg1) = m ((c.tc : Thread Cert.KernelAdamwAWInIdeal.nD Cert.KernelAdamwAWInIdeal.τ).loc Cert.KernelAdamwAWInIdeal.main_arg1)
      ∧ m' ((c.tc : Thread Cert.ReferenceAdamwAWInIdeal.nD Cert.ReferenceAdamwAWInIdeal.τ).loc Cert.ReferenceAdamwAWInIdeal.main_arg2) = m ((c.tc : Thread Cert.KernelAdamwAWInIdeal.nD Cert.KernelAdamwAWInIdeal.τ).loc Cert.KernelAdamwAWInIdeal.main_arg2)
      ∧ m' ((c.tc : Thread Cert.ReferenceAdamwAWInIdeal.nD Cert.ReferenceAdamwAWInIdeal.τ).loc Cert.ReferenceAdamwAWInIdeal.main_arg3) = m ((c.tc : Thread Cert.KernelAdamwAWInIdeal.nD Cert.KernelAdamwAWInIdeal.τ).loc Cert.KernelAdamwAWInIdeal.main_arg3)) →
    ∃ (v0 : (c : Dev Cert.KernelAdamwAWInIdeal.nD) → Buf (Elt Ideal) ((c.tc : Thread Cert.KernelAdamwAWInIdeal.nD Cert.KernelAdamwAWInIdeal.τ).loc Cert.KernelAdamwAWInIdeal.main_v5_0)) (v1 : (c : Dev Cert.KernelAdamwAWInIdeal.nD) → Buf (Elt Ideal) ((c.tc : Thread Cert.KernelAdamwAWInIdeal.nD Cert.KernelAdamwAWInIdeal.τ).loc Cert.KernelAdamwAWInIdeal.main_v5_1)) (v2 : (c : Dev Cert.KernelAdamwAWInIdeal.nD) → Buf (Elt Ideal) ((c.tc : Thread Cert.KernelAdamwAWInIdeal.nD Cert.KernelAdamwAWInIdeal.τ).loc Cert.KernelAdamwAWInIdeal.main_v5_2)) (v3 : (c : Dev Cert.KernelAdamwAWInIdeal.nD) → Buf (Elt Ideal) ((c.tc : Thread Cert.KernelAdamwAWInIdeal.nD Cert.KernelAdamwAWInIdeal.τ).loc Cert.KernelAdamwAWInIdeal.main_v5_3)),
      θ_run (Cert.KernelAdamwAWInIdeal.defs (F := Ideal)) (onTc (τ := Cert.KernelAdamwAWInIdeal.τ) (Cert.KernelAdamwAWInIdeal.main (F := Ideal))) ⟨m, fun _ => 0, g⟩ (fun r => ∀ c : Dev Cert.KernelAdamwAWInIdeal.nD,
          r.2.mem ((c.tc : Thread Cert.KernelAdamwAWInIdeal.nD Cert.KernelAdamwAWInIdeal.τ).loc Cert.KernelAdamwAWInIdeal.main_v5_0) = v0 c
          ∧ r.2.mem ((c.tc : Thread Cert.KernelAdamwAWInIdeal.nD Cert.KernelAdamwAWInIdeal.τ).loc Cert.KernelAdamwAWInIdeal.main_v5_1) = v1 c
          ∧ r.2.mem ((c.tc : Thread Cert.KernelAdamwAWInIdeal.nD Cert.KernelAdamwAWInIdeal.τ).loc Cert.KernelAdamwAWInIdeal.main_v5_2) = v2 c
          ∧ r.2.mem ((c.tc : Thread Cert.KernelAdamwAWInIdeal.nD Cert.KernelAdamwAWInIdeal.τ).loc Cert.KernelAdamwAWInIdeal.main_v5_3) = v3 c
          ∧ r.2.mem ((c.tc : Thread Cert.KernelAdamwAWInIdeal.nD Cert.KernelAdamwAWInIdeal.τ).loc Cert.KernelAdamwAWInIdeal.main_arg0) = m ((c.tc : Thread Cert.KernelAdamwAWInIdeal.nD Cert.KernelAdamwAWInIdeal.τ).loc Cert.KernelAdamwAWInIdeal.main_arg0)
          ∧ r.2.mem ((c.tc : Thread Cert.KernelAdamwAWInIdeal.nD Cert.KernelAdamwAWInIdeal.τ).loc Cert.KernelAdamwAWInIdeal.main_arg1) = m ((c.tc : Thread Cert.KernelAdamwAWInIdeal.nD Cert.KernelAdamwAWInIdeal.τ).loc Cert.KernelAdamwAWInIdeal.main_arg1)
          ∧ r.2.mem ((c.tc : Thread Cert.KernelAdamwAWInIdeal.nD Cert.KernelAdamwAWInIdeal.τ).loc Cert.KernelAdamwAWInIdeal.main_arg2) = m ((c.tc : Thread Cert.KernelAdamwAWInIdeal.nD Cert.KernelAdamwAWInIdeal.τ).loc Cert.KernelAdamwAWInIdeal.main_arg2)
          ∧ r.2.mem ((c.tc : Thread Cert.KernelAdamwAWInIdeal.nD Cert.KernelAdamwAWInIdeal.τ).loc Cert.KernelAdamwAWInIdeal.main_arg3) = m ((c.tc : Thread Cert.KernelAdamwAWInIdeal.nD Cert.KernelAdamwAWInIdeal.τ).loc Cert.KernelAdamwAWInIdeal.main_arg3))
      ∧ θ_run (Cert.ReferenceAdamwAWInIdeal.defs (F := Ideal)) (onTc (τ := Cert.ReferenceAdamwAWInIdeal.τ) (Cert.ReferenceAdamwAWInIdeal.main (F := Ideal))) ⟨m', fun _ => 0, g'⟩ (fun r => ∀ c : Dev Cert.ReferenceAdamwAWInIdeal.nD,
          r.2.mem ((c.tc : Thread Cert.ReferenceAdamwAWInIdeal.nD Cert.ReferenceAdamwAWInIdeal.τ).loc Cert.ReferenceAdamwAWInIdeal.main_v26) = v0 c
          ∧ r.2.mem ((c.tc : Thread Cert.ReferenceAdamwAWInIdeal.nD Cert.ReferenceAdamwAWInIdeal.τ).loc Cert.ReferenceAdamwAWInIdeal.main_v27) = v1 c
          ∧ r.2.mem ((c.tc : Thread Cert.ReferenceAdamwAWInIdeal.nD Cert.ReferenceAdamwAWInIdeal.τ).loc Cert.ReferenceAdamwAWInIdeal.main_v28) = v2 c
          ∧ r.2.mem ((c.tc : Thread Cert.ReferenceAdamwAWInIdeal.nD Cert.ReferenceAdamwAWInIdeal.τ).loc Cert.ReferenceAdamwAWInIdeal.main_v29) = v3 c
          ∧ r.2.mem ((c.tc : Thread Cert.ReferenceAdamwAWInIdeal.nD Cert.ReferenceAdamwAWInIdeal.τ).loc Cert.ReferenceAdamwAWInIdeal.main_arg0) = m' ((c.tc : Thread Cert.ReferenceAdamwAWInIdeal.nD Cert.ReferenceAdamwAWInIdeal.τ).loc Cert.ReferenceAdamwAWInIdeal.main_arg0)
          ∧ r.2.mem ((c.tc : Thread Cert.ReferenceAdamwAWInIdeal.nD Cert.ReferenceAdamwAWInIdeal.τ).loc Cert.ReferenceAdamwAWInIdeal.main_arg1) = m' ((c.tc : Thread Cert.ReferenceAdamwAWInIdeal.nD Cert.ReferenceAdamwAWInIdeal.τ).loc Cert.ReferenceAdamwAWInIdeal.main_arg1)
          ∧ r.2.mem ((c.tc : Thread Cert.ReferenceAdamwAWInIdeal.nD Cert.ReferenceAdamwAWInIdeal.τ).loc Cert.ReferenceAdamwAWInIdeal.main_arg2) = m' ((c.tc : Thread Cert.ReferenceAdamwAWInIdeal.nD Cert.ReferenceAdamwAWInIdeal.τ).loc Cert.ReferenceAdamwAWInIdeal.main_arg2)
          ∧ r.2.mem ((c.tc : Thread Cert.ReferenceAdamwAWInIdeal.nD Cert.ReferenceAdamwAWInIdeal.τ).loc Cert.ReferenceAdamwAWInIdeal.main_arg3) = m' ((c.tc : Thread Cert.ReferenceAdamwAWInIdeal.nD Cert.ReferenceAdamwAWInIdeal.τ).loc Cert.ReferenceAdamwAWInIdeal.main_arg3))

def preserves_KernelAdamwBWIn_KernelAdamwBWInIdeal : Prop :=
  True

def algebraic_KernelAdamwBWInIdeal_ReferenceAdamwBWInIdeal [hKernelAdamwBWInIdeal : Cert.KernelAdamwBWInIdeal.Facts] [hReferenceAdamwBWInIdeal : Cert.ReferenceAdamwBWInIdeal.Facts] : Prop :=
  ∀ (m : (ℓ : Loc Cert.KernelAdamwBWInIdeal.nD Cert.KernelAdamwBWInIdeal.τ Cert.KernelAdamwBWInIdeal.sig) → Buf (Elt Ideal) ℓ) (g : Dev Cert.KernelAdamwBWInIdeal.nD → PrngReg)
    (m' : (ℓ : Loc Cert.ReferenceAdamwBWInIdeal.nD Cert.ReferenceAdamwBWInIdeal.τ Cert.ReferenceAdamwBWInIdeal.sig) → Buf (Elt Ideal) ℓ) (g' : Dev Cert.ReferenceAdamwBWInIdeal.nD → PrngReg), Pre_KernelAdamwBWInIdeal m →
    (∀ c : Dev Cert.KernelAdamwBWInIdeal.nD,
      m' ((c.tc : Thread Cert.ReferenceAdamwBWInIdeal.nD Cert.ReferenceAdamwBWInIdeal.τ).loc Cert.ReferenceAdamwBWInIdeal.main_arg0) = m ((c.tc : Thread Cert.KernelAdamwBWInIdeal.nD Cert.KernelAdamwBWInIdeal.τ).loc Cert.KernelAdamwBWInIdeal.main_arg0)
      ∧ m' ((c.tc : Thread Cert.ReferenceAdamwBWInIdeal.nD Cert.ReferenceAdamwBWInIdeal.τ).loc Cert.ReferenceAdamwBWInIdeal.main_arg1) = m ((c.tc : Thread Cert.KernelAdamwBWInIdeal.nD Cert.KernelAdamwBWInIdeal.τ).loc Cert.KernelAdamwBWInIdeal.main_arg1)
      ∧ m' ((c.tc : Thread Cert.ReferenceAdamwBWInIdeal.nD Cert.ReferenceAdamwBWInIdeal.τ).loc Cert.ReferenceAdamwBWInIdeal.main_arg2) = m ((c.tc : Thread Cert.KernelAdamwBWInIdeal.nD Cert.KernelAdamwBWInIdeal.τ).loc Cert.KernelAdamwBWInIdeal.main_arg2)
      ∧ m' ((c.tc : Thread Cert.ReferenceAdamwBWInIdeal.nD Cert.ReferenceAdamwBWInIdeal.τ).loc Cert.ReferenceAdamwBWInIdeal.main_arg3) = m ((c.tc : Thread Cert.KernelAdamwBWInIdeal.nD Cert.KernelAdamwBWInIdeal.τ).loc Cert.KernelAdamwBWInIdeal.main_arg3)) →
    ∃ (v0 : (c : Dev Cert.KernelAdamwBWInIdeal.nD) → Buf (Elt Ideal) ((c.tc : Thread Cert.KernelAdamwBWInIdeal.nD Cert.KernelAdamwBWInIdeal.τ).loc Cert.KernelAdamwBWInIdeal.main_v5_0)) (v1 : (c : Dev Cert.KernelAdamwBWInIdeal.nD) → Buf (Elt Ideal) ((c.tc : Thread Cert.KernelAdamwBWInIdeal.nD Cert.KernelAdamwBWInIdeal.τ).loc Cert.KernelAdamwBWInIdeal.main_v5_1)) (v2 : (c : Dev Cert.KernelAdamwBWInIdeal.nD) → Buf (Elt Ideal) ((c.tc : Thread Cert.KernelAdamwBWInIdeal.nD Cert.KernelAdamwBWInIdeal.τ).loc Cert.KernelAdamwBWInIdeal.main_v5_2)) (v3 : (c : Dev Cert.KernelAdamwBWInIdeal.nD) → Buf (Elt Ideal) ((c.tc : Thread Cert.KernelAdamwBWInIdeal.nD Cert.KernelAdamwBWInIdeal.τ).loc Cert.KernelAdamwBWInIdeal.main_v5_3)),
      θ_run (Cert.KernelAdamwBWInIdeal.defs (F := Ideal)) (onTc (τ := Cert.KernelAdamwBWInIdeal.τ) (Cert.KernelAdamwBWInIdeal.main (F := Ideal))) ⟨m, fun _ => 0, g⟩ (fun r => ∀ c : Dev Cert.KernelAdamwBWInIdeal.nD,
          r.2.mem ((c.tc : Thread Cert.KernelAdamwBWInIdeal.nD Cert.KernelAdamwBWInIdeal.τ).loc Cert.KernelAdamwBWInIdeal.main_v5_0) = v0 c
          ∧ r.2.mem ((c.tc : Thread Cert.KernelAdamwBWInIdeal.nD Cert.KernelAdamwBWInIdeal.τ).loc Cert.KernelAdamwBWInIdeal.main_v5_1) = v1 c
          ∧ r.2.mem ((c.tc : Thread Cert.KernelAdamwBWInIdeal.nD Cert.KernelAdamwBWInIdeal.τ).loc Cert.KernelAdamwBWInIdeal.main_v5_2) = v2 c
          ∧ r.2.mem ((c.tc : Thread Cert.KernelAdamwBWInIdeal.nD Cert.KernelAdamwBWInIdeal.τ).loc Cert.KernelAdamwBWInIdeal.main_v5_3) = v3 c
          ∧ r.2.mem ((c.tc : Thread Cert.KernelAdamwBWInIdeal.nD Cert.KernelAdamwBWInIdeal.τ).loc Cert.KernelAdamwBWInIdeal.main_arg0) = m ((c.tc : Thread Cert.KernelAdamwBWInIdeal.nD Cert.KernelAdamwBWInIdeal.τ).loc Cert.KernelAdamwBWInIdeal.main_arg0)
          ∧ r.2.mem ((c.tc : Thread Cert.KernelAdamwBWInIdeal.nD Cert.KernelAdamwBWInIdeal.τ).loc Cert.KernelAdamwBWInIdeal.main_arg1) = m ((c.tc : Thread Cert.KernelAdamwBWInIdeal.nD Cert.KernelAdamwBWInIdeal.τ).loc Cert.KernelAdamwBWInIdeal.main_arg1)
          ∧ r.2.mem ((c.tc : Thread Cert.KernelAdamwBWInIdeal.nD Cert.KernelAdamwBWInIdeal.τ).loc Cert.KernelAdamwBWInIdeal.main_arg2) = m ((c.tc : Thread Cert.KernelAdamwBWInIdeal.nD Cert.KernelAdamwBWInIdeal.τ).loc Cert.KernelAdamwBWInIdeal.main_arg2)
          ∧ r.2.mem ((c.tc : Thread Cert.KernelAdamwBWInIdeal.nD Cert.KernelAdamwBWInIdeal.τ).loc Cert.KernelAdamwBWInIdeal.main_arg3) = m ((c.tc : Thread Cert.KernelAdamwBWInIdeal.nD Cert.KernelAdamwBWInIdeal.τ).loc Cert.KernelAdamwBWInIdeal.main_arg3))
      ∧ θ_run (Cert.ReferenceAdamwBWInIdeal.defs (F := Ideal)) (onTc (τ := Cert.ReferenceAdamwBWInIdeal.τ) (Cert.ReferenceAdamwBWInIdeal.main (F := Ideal))) ⟨m', fun _ => 0, g'⟩ (fun r => ∀ c : Dev Cert.ReferenceAdamwBWInIdeal.nD,
          r.2.mem ((c.tc : Thread Cert.ReferenceAdamwBWInIdeal.nD Cert.ReferenceAdamwBWInIdeal.τ).loc Cert.ReferenceAdamwBWInIdeal.main_v26) = v0 c
          ∧ r.2.mem ((c.tc : Thread Cert.ReferenceAdamwBWInIdeal.nD Cert.ReferenceAdamwBWInIdeal.τ).loc Cert.ReferenceAdamwBWInIdeal.main_v27) = v1 c
          ∧ r.2.mem ((c.tc : Thread Cert.ReferenceAdamwBWInIdeal.nD Cert.ReferenceAdamwBWInIdeal.τ).loc Cert.ReferenceAdamwBWInIdeal.main_v28) = v2 c
          ∧ r.2.mem ((c.tc : Thread Cert.ReferenceAdamwBWInIdeal.nD Cert.ReferenceAdamwBWInIdeal.τ).loc Cert.ReferenceAdamwBWInIdeal.main_v29) = v3 c
          ∧ r.2.mem ((c.tc : Thread Cert.ReferenceAdamwBWInIdeal.nD Cert.ReferenceAdamwBWInIdeal.τ).loc Cert.ReferenceAdamwBWInIdeal.main_arg0) = m' ((c.tc : Thread Cert.ReferenceAdamwBWInIdeal.nD Cert.ReferenceAdamwBWInIdeal.τ).loc Cert.ReferenceAdamwBWInIdeal.main_arg0)
          ∧ r.2.mem ((c.tc : Thread Cert.ReferenceAdamwBWInIdeal.nD Cert.ReferenceAdamwBWInIdeal.τ).loc Cert.ReferenceAdamwBWInIdeal.main_arg1) = m' ((c.tc : Thread Cert.ReferenceAdamwBWInIdeal.nD Cert.ReferenceAdamwBWInIdeal.τ).loc Cert.ReferenceAdamwBWInIdeal.main_arg1)
          ∧ r.2.mem ((c.tc : Thread Cert.ReferenceAdamwBWInIdeal.nD Cert.ReferenceAdamwBWInIdeal.τ).loc Cert.ReferenceAdamwBWInIdeal.main_arg2) = m' ((c.tc : Thread Cert.ReferenceAdamwBWInIdeal.nD Cert.ReferenceAdamwBWInIdeal.τ).loc Cert.ReferenceAdamwBWInIdeal.main_arg2)
          ∧ r.2.mem ((c.tc : Thread Cert.ReferenceAdamwBWInIdeal.nD Cert.ReferenceAdamwBWInIdeal.τ).loc Cert.ReferenceAdamwBWInIdeal.main_arg3) = m' ((c.tc : Thread Cert.ReferenceAdamwBWInIdeal.nD Cert.ReferenceAdamwBWInIdeal.τ).loc Cert.ReferenceAdamwBWInIdeal.main_arg3))

def preserves_KernelAdamwSmall_KernelAdamwSmallIdeal : Prop :=
  True

def algebraic_KernelAdamwSmallIdeal_ReferenceAdamwSmallIdeal [hKernelAdamwSmallIdeal : Cert.KernelAdamwSmallIdeal.Facts] [hReferenceAdamwSmallIdeal : Cert.ReferenceAdamwSmallIdeal.Facts] : Prop :=
  ∀ (m : (ℓ : Loc Cert.KernelAdamwSmallIdeal.nD Cert.KernelAdamwSmallIdeal.τ Cert.KernelAdamwSmallIdeal.sig) → Buf (Elt Ideal) ℓ) (g : Dev Cert.KernelAdamwSmallIdeal.nD → PrngReg)
    (m' : (ℓ : Loc Cert.ReferenceAdamwSmallIdeal.nD Cert.ReferenceAdamwSmallIdeal.τ Cert.ReferenceAdamwSmallIdeal.sig) → Buf (Elt Ideal) ℓ) (g' : Dev Cert.ReferenceAdamwSmallIdeal.nD → PrngReg), Pre_KernelAdamwSmallIdeal m →
    (∀ c : Dev Cert.KernelAdamwSmallIdeal.nD,
      m' ((c.tc : Thread Cert.ReferenceAdamwSmallIdeal.nD Cert.ReferenceAdamwSmallIdeal.τ).loc Cert.ReferenceAdamwSmallIdeal.main_arg0) = m ((c.tc : Thread Cert.KernelAdamwSmallIdeal.nD Cert.KernelAdamwSmallIdeal.τ).loc Cert.KernelAdamwSmallIdeal.main_arg0)
      ∧ m' ((c.tc : Thread Cert.ReferenceAdamwSmallIdeal.nD Cert.ReferenceAdamwSmallIdeal.τ).loc Cert.ReferenceAdamwSmallIdeal.main_arg1) = m ((c.tc : Thread Cert.KernelAdamwSmallIdeal.nD Cert.KernelAdamwSmallIdeal.τ).loc Cert.KernelAdamwSmallIdeal.main_arg1)
      ∧ m' ((c.tc : Thread Cert.ReferenceAdamwSmallIdeal.nD Cert.ReferenceAdamwSmallIdeal.τ).loc Cert.ReferenceAdamwSmallIdeal.main_arg2) = m ((c.tc : Thread Cert.KernelAdamwSmallIdeal.nD Cert.KernelAdamwSmallIdeal.τ).loc Cert.KernelAdamwSmallIdeal.main_arg2)
      ∧ m' ((c.tc : Thread Cert.ReferenceAdamwSmallIdeal.nD Cert.ReferenceAdamwSmallIdeal.τ).loc Cert.ReferenceAdamwSmallIdeal.main_arg3) = m ((c.tc : Thread Cert.KernelAdamwSmallIdeal.nD Cert.KernelAdamwSmallIdeal.τ).loc Cert.KernelAdamwSmallIdeal.main_arg3)
      ∧ m' ((c.tc : Thread Cert.ReferenceAdamwSmallIdeal.nD Cert.ReferenceAdamwSmallIdeal.τ).loc Cert.ReferenceAdamwSmallIdeal.main_arg4) = m ((c.tc : Thread Cert.KernelAdamwSmallIdeal.nD Cert.KernelAdamwSmallIdeal.τ).loc Cert.KernelAdamwSmallIdeal.main_arg4)
      ∧ m' ((c.tc : Thread Cert.ReferenceAdamwSmallIdeal.nD Cert.ReferenceAdamwSmallIdeal.τ).loc Cert.ReferenceAdamwSmallIdeal.main_arg5) = m ((c.tc : Thread Cert.KernelAdamwSmallIdeal.nD Cert.KernelAdamwSmallIdeal.τ).loc Cert.KernelAdamwSmallIdeal.main_arg5)
      ∧ m' ((c.tc : Thread Cert.ReferenceAdamwSmallIdeal.nD Cert.ReferenceAdamwSmallIdeal.τ).loc Cert.ReferenceAdamwSmallIdeal.main_arg6) = m ((c.tc : Thread Cert.KernelAdamwSmallIdeal.nD Cert.KernelAdamwSmallIdeal.τ).loc Cert.KernelAdamwSmallIdeal.main_arg6)
      ∧ m' ((c.tc : Thread Cert.ReferenceAdamwSmallIdeal.nD Cert.ReferenceAdamwSmallIdeal.τ).loc Cert.ReferenceAdamwSmallIdeal.main_arg7) = m ((c.tc : Thread Cert.KernelAdamwSmallIdeal.nD Cert.KernelAdamwSmallIdeal.τ).loc Cert.KernelAdamwSmallIdeal.main_arg7)
      ∧ m' ((c.tc : Thread Cert.ReferenceAdamwSmallIdeal.nD Cert.ReferenceAdamwSmallIdeal.τ).loc Cert.ReferenceAdamwSmallIdeal.main_arg8) = m ((c.tc : Thread Cert.KernelAdamwSmallIdeal.nD Cert.KernelAdamwSmallIdeal.τ).loc Cert.KernelAdamwSmallIdeal.main_arg8)
      ∧ m' ((c.tc : Thread Cert.ReferenceAdamwSmallIdeal.nD Cert.ReferenceAdamwSmallIdeal.τ).loc Cert.ReferenceAdamwSmallIdeal.main_arg9) = m ((c.tc : Thread Cert.KernelAdamwSmallIdeal.nD Cert.KernelAdamwSmallIdeal.τ).loc Cert.KernelAdamwSmallIdeal.main_arg9)
      ∧ m' ((c.tc : Thread Cert.ReferenceAdamwSmallIdeal.nD Cert.ReferenceAdamwSmallIdeal.τ).loc Cert.ReferenceAdamwSmallIdeal.main_arg10) = m ((c.tc : Thread Cert.KernelAdamwSmallIdeal.nD Cert.KernelAdamwSmallIdeal.τ).loc Cert.KernelAdamwSmallIdeal.main_arg10)
      ∧ m' ((c.tc : Thread Cert.ReferenceAdamwSmallIdeal.nD Cert.ReferenceAdamwSmallIdeal.τ).loc Cert.ReferenceAdamwSmallIdeal.main_arg11) = m ((c.tc : Thread Cert.KernelAdamwSmallIdeal.nD Cert.KernelAdamwSmallIdeal.τ).loc Cert.KernelAdamwSmallIdeal.main_arg11)
      ∧ m' ((c.tc : Thread Cert.ReferenceAdamwSmallIdeal.nD Cert.ReferenceAdamwSmallIdeal.τ).loc Cert.ReferenceAdamwSmallIdeal.main_arg12) = m ((c.tc : Thread Cert.KernelAdamwSmallIdeal.nD Cert.KernelAdamwSmallIdeal.τ).loc Cert.KernelAdamwSmallIdeal.main_arg12)
      ∧ m' ((c.tc : Thread Cert.ReferenceAdamwSmallIdeal.nD Cert.ReferenceAdamwSmallIdeal.τ).loc Cert.ReferenceAdamwSmallIdeal.main_arg13) = m ((c.tc : Thread Cert.KernelAdamwSmallIdeal.nD Cert.KernelAdamwSmallIdeal.τ).loc Cert.KernelAdamwSmallIdeal.main_arg13)
      ∧ m' ((c.tc : Thread Cert.ReferenceAdamwSmallIdeal.nD Cert.ReferenceAdamwSmallIdeal.τ).loc Cert.ReferenceAdamwSmallIdeal.main_arg14) = m ((c.tc : Thread Cert.KernelAdamwSmallIdeal.nD Cert.KernelAdamwSmallIdeal.τ).loc Cert.KernelAdamwSmallIdeal.main_arg14)
      ∧ m' ((c.tc : Thread Cert.ReferenceAdamwSmallIdeal.nD Cert.ReferenceAdamwSmallIdeal.τ).loc Cert.ReferenceAdamwSmallIdeal.main_arg15) = m ((c.tc : Thread Cert.KernelAdamwSmallIdeal.nD Cert.KernelAdamwSmallIdeal.τ).loc Cert.KernelAdamwSmallIdeal.main_arg15)
      ∧ m' ((c.tc : Thread Cert.ReferenceAdamwSmallIdeal.nD Cert.ReferenceAdamwSmallIdeal.τ).loc Cert.ReferenceAdamwSmallIdeal.main_arg16) = m ((c.tc : Thread Cert.KernelAdamwSmallIdeal.nD Cert.KernelAdamwSmallIdeal.τ).loc Cert.KernelAdamwSmallIdeal.main_arg16)
      ∧ m' ((c.tc : Thread Cert.ReferenceAdamwSmallIdeal.nD Cert.ReferenceAdamwSmallIdeal.τ).loc Cert.ReferenceAdamwSmallIdeal.main_arg17) = m ((c.tc : Thread Cert.KernelAdamwSmallIdeal.nD Cert.KernelAdamwSmallIdeal.τ).loc Cert.KernelAdamwSmallIdeal.main_arg17)
      ∧ m' ((c.tc : Thread Cert.ReferenceAdamwSmallIdeal.nD Cert.ReferenceAdamwSmallIdeal.τ).loc Cert.ReferenceAdamwSmallIdeal.main_arg18) = m ((c.tc : Thread Cert.KernelAdamwSmallIdeal.nD Cert.KernelAdamwSmallIdeal.τ).loc Cert.KernelAdamwSmallIdeal.main_arg18)
      ∧ m' ((c.tc : Thread Cert.ReferenceAdamwSmallIdeal.nD Cert.ReferenceAdamwSmallIdeal.τ).loc Cert.ReferenceAdamwSmallIdeal.main_arg19) = m ((c.tc : Thread Cert.KernelAdamwSmallIdeal.nD Cert.KernelAdamwSmallIdeal.τ).loc Cert.KernelAdamwSmallIdeal.main_arg19)
      ∧ m' ((c.tc : Thread Cert.ReferenceAdamwSmallIdeal.nD Cert.ReferenceAdamwSmallIdeal.τ).loc Cert.ReferenceAdamwSmallIdeal.main_arg20) = m ((c.tc : Thread Cert.KernelAdamwSmallIdeal.nD Cert.KernelAdamwSmallIdeal.τ).loc Cert.KernelAdamwSmallIdeal.main_arg20)
      ∧ m' ((c.tc : Thread Cert.ReferenceAdamwSmallIdeal.nD Cert.ReferenceAdamwSmallIdeal.τ).loc Cert.ReferenceAdamwSmallIdeal.main_arg21) = m ((c.tc : Thread Cert.KernelAdamwSmallIdeal.nD Cert.KernelAdamwSmallIdeal.τ).loc Cert.KernelAdamwSmallIdeal.main_arg21)
      ∧ m' ((c.tc : Thread Cert.ReferenceAdamwSmallIdeal.nD Cert.ReferenceAdamwSmallIdeal.τ).loc Cert.ReferenceAdamwSmallIdeal.main_arg22) = m ((c.tc : Thread Cert.KernelAdamwSmallIdeal.nD Cert.KernelAdamwSmallIdeal.τ).loc Cert.KernelAdamwSmallIdeal.main_arg22)
      ∧ m' ((c.tc : Thread Cert.ReferenceAdamwSmallIdeal.nD Cert.ReferenceAdamwSmallIdeal.τ).loc Cert.ReferenceAdamwSmallIdeal.main_arg23) = m ((c.tc : Thread Cert.KernelAdamwSmallIdeal.nD Cert.KernelAdamwSmallIdeal.τ).loc Cert.KernelAdamwSmallIdeal.main_arg23)
      ∧ m' ((c.tc : Thread Cert.ReferenceAdamwSmallIdeal.nD Cert.ReferenceAdamwSmallIdeal.τ).loc Cert.ReferenceAdamwSmallIdeal.main_arg24) = m ((c.tc : Thread Cert.KernelAdamwSmallIdeal.nD Cert.KernelAdamwSmallIdeal.τ).loc Cert.KernelAdamwSmallIdeal.main_arg24)
      ∧ m' ((c.tc : Thread Cert.ReferenceAdamwSmallIdeal.nD Cert.ReferenceAdamwSmallIdeal.τ).loc Cert.ReferenceAdamwSmallIdeal.main_arg25) = m ((c.tc : Thread Cert.KernelAdamwSmallIdeal.nD Cert.KernelAdamwSmallIdeal.τ).loc Cert.KernelAdamwSmallIdeal.main_arg25)
      ∧ m' ((c.tc : Thread Cert.ReferenceAdamwSmallIdeal.nD Cert.ReferenceAdamwSmallIdeal.τ).loc Cert.ReferenceAdamwSmallIdeal.main_arg26) = m ((c.tc : Thread Cert.KernelAdamwSmallIdeal.nD Cert.KernelAdamwSmallIdeal.τ).loc Cert.KernelAdamwSmallIdeal.main_arg26)
      ∧ m' ((c.tc : Thread Cert.ReferenceAdamwSmallIdeal.nD Cert.ReferenceAdamwSmallIdeal.τ).loc Cert.ReferenceAdamwSmallIdeal.main_arg27) = m ((c.tc : Thread Cert.KernelAdamwSmallIdeal.nD Cert.KernelAdamwSmallIdeal.τ).loc Cert.KernelAdamwSmallIdeal.main_arg27)
      ∧ m' ((c.tc : Thread Cert.ReferenceAdamwSmallIdeal.nD Cert.ReferenceAdamwSmallIdeal.τ).loc Cert.ReferenceAdamwSmallIdeal.main_arg28) = m ((c.tc : Thread Cert.KernelAdamwSmallIdeal.nD Cert.KernelAdamwSmallIdeal.τ).loc Cert.KernelAdamwSmallIdeal.main_arg28)
      ∧ m' ((c.tc : Thread Cert.ReferenceAdamwSmallIdeal.nD Cert.ReferenceAdamwSmallIdeal.τ).loc Cert.ReferenceAdamwSmallIdeal.main_arg29) = m ((c.tc : Thread Cert.KernelAdamwSmallIdeal.nD Cert.KernelAdamwSmallIdeal.τ).loc Cert.KernelAdamwSmallIdeal.main_arg29)
      ∧ m' ((c.tc : Thread Cert.ReferenceAdamwSmallIdeal.nD Cert.ReferenceAdamwSmallIdeal.τ).loc Cert.ReferenceAdamwSmallIdeal.main_arg30) = m ((c.tc : Thread Cert.KernelAdamwSmallIdeal.nD Cert.KernelAdamwSmallIdeal.τ).loc Cert.KernelAdamwSmallIdeal.main_arg30)
      ∧ m' ((c.tc : Thread Cert.ReferenceAdamwSmallIdeal.nD Cert.ReferenceAdamwSmallIdeal.τ).loc Cert.ReferenceAdamwSmallIdeal.main_arg31) = m ((c.tc : Thread Cert.KernelAdamwSmallIdeal.nD Cert.KernelAdamwSmallIdeal.τ).loc Cert.KernelAdamwSmallIdeal.main_arg31)
      ∧ m' ((c.tc : Thread Cert.ReferenceAdamwSmallIdeal.nD Cert.ReferenceAdamwSmallIdeal.τ).loc Cert.ReferenceAdamwSmallIdeal.main_arg32) = m ((c.tc : Thread Cert.KernelAdamwSmallIdeal.nD Cert.KernelAdamwSmallIdeal.τ).loc Cert.KernelAdamwSmallIdeal.main_arg32)
      ∧ m' ((c.tc : Thread Cert.ReferenceAdamwSmallIdeal.nD Cert.ReferenceAdamwSmallIdeal.τ).loc Cert.ReferenceAdamwSmallIdeal.main_arg33) = m ((c.tc : Thread Cert.KernelAdamwSmallIdeal.nD Cert.KernelAdamwSmallIdeal.τ).loc Cert.KernelAdamwSmallIdeal.main_arg33)
      ∧ m' ((c.tc : Thread Cert.ReferenceAdamwSmallIdeal.nD Cert.ReferenceAdamwSmallIdeal.τ).loc Cert.ReferenceAdamwSmallIdeal.main_arg34) = m ((c.tc : Thread Cert.KernelAdamwSmallIdeal.nD Cert.KernelAdamwSmallIdeal.τ).loc Cert.KernelAdamwSmallIdeal.main_arg34)
      ∧ m' ((c.tc : Thread Cert.ReferenceAdamwSmallIdeal.nD Cert.ReferenceAdamwSmallIdeal.τ).loc Cert.ReferenceAdamwSmallIdeal.main_arg35) = m ((c.tc : Thread Cert.KernelAdamwSmallIdeal.nD Cert.KernelAdamwSmallIdeal.τ).loc Cert.KernelAdamwSmallIdeal.main_arg35)
      ∧ m' ((c.tc : Thread Cert.ReferenceAdamwSmallIdeal.nD Cert.ReferenceAdamwSmallIdeal.τ).loc Cert.ReferenceAdamwSmallIdeal.main_arg36) = m ((c.tc : Thread Cert.KernelAdamwSmallIdeal.nD Cert.KernelAdamwSmallIdeal.τ).loc Cert.KernelAdamwSmallIdeal.main_arg36)
      ∧ m' ((c.tc : Thread Cert.ReferenceAdamwSmallIdeal.nD Cert.ReferenceAdamwSmallIdeal.τ).loc Cert.ReferenceAdamwSmallIdeal.main_arg37) = m ((c.tc : Thread Cert.KernelAdamwSmallIdeal.nD Cert.KernelAdamwSmallIdeal.τ).loc Cert.KernelAdamwSmallIdeal.main_arg37)
      ∧ m' ((c.tc : Thread Cert.ReferenceAdamwSmallIdeal.nD Cert.ReferenceAdamwSmallIdeal.τ).loc Cert.ReferenceAdamwSmallIdeal.main_arg38) = m ((c.tc : Thread Cert.KernelAdamwSmallIdeal.nD Cert.KernelAdamwSmallIdeal.τ).loc Cert.KernelAdamwSmallIdeal.main_arg38)
      ∧ m' ((c.tc : Thread Cert.ReferenceAdamwSmallIdeal.nD Cert.ReferenceAdamwSmallIdeal.τ).loc Cert.ReferenceAdamwSmallIdeal.main_arg39) = m ((c.tc : Thread Cert.KernelAdamwSmallIdeal.nD Cert.KernelAdamwSmallIdeal.τ).loc Cert.KernelAdamwSmallIdeal.main_arg39)
      ∧ m' ((c.tc : Thread Cert.ReferenceAdamwSmallIdeal.nD Cert.ReferenceAdamwSmallIdeal.τ).loc Cert.ReferenceAdamwSmallIdeal.main_arg40) = m ((c.tc : Thread Cert.KernelAdamwSmallIdeal.nD Cert.KernelAdamwSmallIdeal.τ).loc Cert.KernelAdamwSmallIdeal.main_arg40)
      ∧ m' ((c.tc : Thread Cert.ReferenceAdamwSmallIdeal.nD Cert.ReferenceAdamwSmallIdeal.τ).loc Cert.ReferenceAdamwSmallIdeal.main_arg41) = m ((c.tc : Thread Cert.KernelAdamwSmallIdeal.nD Cert.KernelAdamwSmallIdeal.τ).loc Cert.KernelAdamwSmallIdeal.main_arg41)
      ∧ m' ((c.tc : Thread Cert.ReferenceAdamwSmallIdeal.nD Cert.ReferenceAdamwSmallIdeal.τ).loc Cert.ReferenceAdamwSmallIdeal.main_arg42) = m ((c.tc : Thread Cert.KernelAdamwSmallIdeal.nD Cert.KernelAdamwSmallIdeal.τ).loc Cert.KernelAdamwSmallIdeal.main_arg42)
      ∧ m' ((c.tc : Thread Cert.ReferenceAdamwSmallIdeal.nD Cert.ReferenceAdamwSmallIdeal.τ).loc Cert.ReferenceAdamwSmallIdeal.main_arg43) = m ((c.tc : Thread Cert.KernelAdamwSmallIdeal.nD Cert.KernelAdamwSmallIdeal.τ).loc Cert.KernelAdamwSmallIdeal.main_arg43)) →
    ∃ (v0 : (c : Dev Cert.KernelAdamwSmallIdeal.nD) → Buf (Elt Ideal) ((c.tc : Thread Cert.KernelAdamwSmallIdeal.nD Cert.KernelAdamwSmallIdeal.τ).loc Cert.KernelAdamwSmallIdeal.main_v56_0)) (v1 : (c : Dev Cert.KernelAdamwSmallIdeal.nD) → Buf (Elt Ideal) ((c.tc : Thread Cert.KernelAdamwSmallIdeal.nD Cert.KernelAdamwSmallIdeal.τ).loc Cert.KernelAdamwSmallIdeal.main_v56_1)) (v2 : (c : Dev Cert.KernelAdamwSmallIdeal.nD) → Buf (Elt Ideal) ((c.tc : Thread Cert.KernelAdamwSmallIdeal.nD Cert.KernelAdamwSmallIdeal.τ).loc Cert.KernelAdamwSmallIdeal.main_v56_2)) (v3 : (c : Dev Cert.KernelAdamwSmallIdeal.nD) → Buf (Elt Ideal) ((c.tc : Thread Cert.KernelAdamwSmallIdeal.nD Cert.KernelAdamwSmallIdeal.τ).loc Cert.KernelAdamwSmallIdeal.main_v56_3)),
      θ_run (Cert.KernelAdamwSmallIdeal.defs (F := Ideal)) (onTc (τ := Cert.KernelAdamwSmallIdeal.τ) (Cert.KernelAdamwSmallIdeal.main (F := Ideal))) ⟨m, fun _ => 0, g⟩ (fun r => ∀ c : Dev Cert.KernelAdamwSmallIdeal.nD,
          r.2.mem ((c.tc : Thread Cert.KernelAdamwSmallIdeal.nD Cert.KernelAdamwSmallIdeal.τ).loc Cert.KernelAdamwSmallIdeal.main_v56_0) = v0 c
          ∧ r.2.mem ((c.tc : Thread Cert.KernelAdamwSmallIdeal.nD Cert.KernelAdamwSmallIdeal.τ).loc Cert.KernelAdamwSmallIdeal.main_v56_1) = v1 c
          ∧ r.2.mem ((c.tc : Thread Cert.KernelAdamwSmallIdeal.nD Cert.KernelAdamwSmallIdeal.τ).loc Cert.KernelAdamwSmallIdeal.main_v56_2) = v2 c
          ∧ r.2.mem ((c.tc : Thread Cert.KernelAdamwSmallIdeal.nD Cert.KernelAdamwSmallIdeal.τ).loc Cert.KernelAdamwSmallIdeal.main_v56_3) = v3 c
          ∧ r.2.mem ((c.tc : Thread Cert.KernelAdamwSmallIdeal.nD Cert.KernelAdamwSmallIdeal.τ).loc Cert.KernelAdamwSmallIdeal.main_arg0) = m ((c.tc : Thread Cert.KernelAdamwSmallIdeal.nD Cert.KernelAdamwSmallIdeal.τ).loc Cert.KernelAdamwSmallIdeal.main_arg0)
          ∧ r.2.mem ((c.tc : Thread Cert.KernelAdamwSmallIdeal.nD Cert.KernelAdamwSmallIdeal.τ).loc Cert.KernelAdamwSmallIdeal.main_arg1) = m ((c.tc : Thread Cert.KernelAdamwSmallIdeal.nD Cert.KernelAdamwSmallIdeal.τ).loc Cert.KernelAdamwSmallIdeal.main_arg1)
          ∧ r.2.mem ((c.tc : Thread Cert.KernelAdamwSmallIdeal.nD Cert.KernelAdamwSmallIdeal.τ).loc Cert.KernelAdamwSmallIdeal.main_arg2) = m ((c.tc : Thread Cert.KernelAdamwSmallIdeal.nD Cert.KernelAdamwSmallIdeal.τ).loc Cert.KernelAdamwSmallIdeal.main_arg2)
          ∧ r.2.mem ((c.tc : Thread Cert.KernelAdamwSmallIdeal.nD Cert.KernelAdamwSmallIdeal.τ).loc Cert.KernelAdamwSmallIdeal.main_arg3) = m ((c.tc : Thread Cert.KernelAdamwSmallIdeal.nD Cert.KernelAdamwSmallIdeal.τ).loc Cert.KernelAdamwSmallIdeal.main_arg3)
          ∧ r.2.mem ((c.tc : Thread Cert.KernelAdamwSmallIdeal.nD Cert.KernelAdamwSmallIdeal.τ).loc Cert.KernelAdamwSmallIdeal.main_arg4) = m ((c.tc : Thread Cert.KernelAdamwSmallIdeal.nD Cert.KernelAdamwSmallIdeal.τ).loc Cert.KernelAdamwSmallIdeal.main_arg4)
          ∧ r.2.mem ((c.tc : Thread Cert.KernelAdamwSmallIdeal.nD Cert.KernelAdamwSmallIdeal.τ).loc Cert.KernelAdamwSmallIdeal.main_arg5) = m ((c.tc : Thread Cert.KernelAdamwSmallIdeal.nD Cert.KernelAdamwSmallIdeal.τ).loc Cert.KernelAdamwSmallIdeal.main_arg5)
          ∧ r.2.mem ((c.tc : Thread Cert.KernelAdamwSmallIdeal.nD Cert.KernelAdamwSmallIdeal.τ).loc Cert.KernelAdamwSmallIdeal.main_arg6) = m ((c.tc : Thread Cert.KernelAdamwSmallIdeal.nD Cert.KernelAdamwSmallIdeal.τ).loc Cert.KernelAdamwSmallIdeal.main_arg6)
          ∧ r.2.mem ((c.tc : Thread Cert.KernelAdamwSmallIdeal.nD Cert.KernelAdamwSmallIdeal.τ).loc Cert.KernelAdamwSmallIdeal.main_arg7) = m ((c.tc : Thread Cert.KernelAdamwSmallIdeal.nD Cert.KernelAdamwSmallIdeal.τ).loc Cert.KernelAdamwSmallIdeal.main_arg7)
          ∧ r.2.mem ((c.tc : Thread Cert.KernelAdamwSmallIdeal.nD Cert.KernelAdamwSmallIdeal.τ).loc Cert.KernelAdamwSmallIdeal.main_arg8) = m ((c.tc : Thread Cert.KernelAdamwSmallIdeal.nD Cert.KernelAdamwSmallIdeal.τ).loc Cert.KernelAdamwSmallIdeal.main_arg8)
          ∧ r.2.mem ((c.tc : Thread Cert.KernelAdamwSmallIdeal.nD Cert.KernelAdamwSmallIdeal.τ).loc Cert.KernelAdamwSmallIdeal.main_arg9) = m ((c.tc : Thread Cert.KernelAdamwSmallIdeal.nD Cert.KernelAdamwSmallIdeal.τ).loc Cert.KernelAdamwSmallIdeal.main_arg9)
          ∧ r.2.mem ((c.tc : Thread Cert.KernelAdamwSmallIdeal.nD Cert.KernelAdamwSmallIdeal.τ).loc Cert.KernelAdamwSmallIdeal.main_arg10) = m ((c.tc : Thread Cert.KernelAdamwSmallIdeal.nD Cert.KernelAdamwSmallIdeal.τ).loc Cert.KernelAdamwSmallIdeal.main_arg10)
          ∧ r.2.mem ((c.tc : Thread Cert.KernelAdamwSmallIdeal.nD Cert.KernelAdamwSmallIdeal.τ).loc Cert.KernelAdamwSmallIdeal.main_arg11) = m ((c.tc : Thread Cert.KernelAdamwSmallIdeal.nD Cert.KernelAdamwSmallIdeal.τ).loc Cert.KernelAdamwSmallIdeal.main_arg11)
          ∧ r.2.mem ((c.tc : Thread Cert.KernelAdamwSmallIdeal.nD Cert.KernelAdamwSmallIdeal.τ).loc Cert.KernelAdamwSmallIdeal.main_arg12) = m ((c.tc : Thread Cert.KernelAdamwSmallIdeal.nD Cert.KernelAdamwSmallIdeal.τ).loc Cert.KernelAdamwSmallIdeal.main_arg12)
          ∧ r.2.mem ((c.tc : Thread Cert.KernelAdamwSmallIdeal.nD Cert.KernelAdamwSmallIdeal.τ).loc Cert.KernelAdamwSmallIdeal.main_arg13) = m ((c.tc : Thread Cert.KernelAdamwSmallIdeal.nD Cert.KernelAdamwSmallIdeal.τ).loc Cert.KernelAdamwSmallIdeal.main_arg13)
          ∧ r.2.mem ((c.tc : Thread Cert.KernelAdamwSmallIdeal.nD Cert.KernelAdamwSmallIdeal.τ).loc Cert.KernelAdamwSmallIdeal.main_arg14) = m ((c.tc : Thread Cert.KernelAdamwSmallIdeal.nD Cert.KernelAdamwSmallIdeal.τ).loc Cert.KernelAdamwSmallIdeal.main_arg14)
          ∧ r.2.mem ((c.tc : Thread Cert.KernelAdamwSmallIdeal.nD Cert.KernelAdamwSmallIdeal.τ).loc Cert.KernelAdamwSmallIdeal.main_arg15) = m ((c.tc : Thread Cert.KernelAdamwSmallIdeal.nD Cert.KernelAdamwSmallIdeal.τ).loc Cert.KernelAdamwSmallIdeal.main_arg15)
          ∧ r.2.mem ((c.tc : Thread Cert.KernelAdamwSmallIdeal.nD Cert.KernelAdamwSmallIdeal.τ).loc Cert.KernelAdamwSmallIdeal.main_arg16) = m ((c.tc : Thread Cert.KernelAdamwSmallIdeal.nD Cert.KernelAdamwSmallIdeal.τ).loc Cert.KernelAdamwSmallIdeal.main_arg16)
          ∧ r.2.mem ((c.tc : Thread Cert.KernelAdamwSmallIdeal.nD Cert.KernelAdamwSmallIdeal.τ).loc Cert.KernelAdamwSmallIdeal.main_arg17) = m ((c.tc : Thread Cert.KernelAdamwSmallIdeal.nD Cert.KernelAdamwSmallIdeal.τ).loc Cert.KernelAdamwSmallIdeal.main_arg17)
          ∧ r.2.mem ((c.tc : Thread Cert.KernelAdamwSmallIdeal.nD Cert.KernelAdamwSmallIdeal.τ).loc Cert.KernelAdamwSmallIdeal.main_arg18) = m ((c.tc : Thread Cert.KernelAdamwSmallIdeal.nD Cert.KernelAdamwSmallIdeal.τ).loc Cert.KernelAdamwSmallIdeal.main_arg18)
          ∧ r.2.mem ((c.tc : Thread Cert.KernelAdamwSmallIdeal.nD Cert.KernelAdamwSmallIdeal.τ).loc Cert.KernelAdamwSmallIdeal.main_arg19) = m ((c.tc : Thread Cert.KernelAdamwSmallIdeal.nD Cert.KernelAdamwSmallIdeal.τ).loc Cert.KernelAdamwSmallIdeal.main_arg19)
          ∧ r.2.mem ((c.tc : Thread Cert.KernelAdamwSmallIdeal.nD Cert.KernelAdamwSmallIdeal.τ).loc Cert.KernelAdamwSmallIdeal.main_arg20) = m ((c.tc : Thread Cert.KernelAdamwSmallIdeal.nD Cert.KernelAdamwSmallIdeal.τ).loc Cert.KernelAdamwSmallIdeal.main_arg20)
          ∧ r.2.mem ((c.tc : Thread Cert.KernelAdamwSmallIdeal.nD Cert.KernelAdamwSmallIdeal.τ).loc Cert.KernelAdamwSmallIdeal.main_arg21) = m ((c.tc : Thread Cert.KernelAdamwSmallIdeal.nD Cert.KernelAdamwSmallIdeal.τ).loc Cert.KernelAdamwSmallIdeal.main_arg21)
          ∧ r.2.mem ((c.tc : Thread Cert.KernelAdamwSmallIdeal.nD Cert.KernelAdamwSmallIdeal.τ).loc Cert.KernelAdamwSmallIdeal.main_arg22) = m ((c.tc : Thread Cert.KernelAdamwSmallIdeal.nD Cert.KernelAdamwSmallIdeal.τ).loc Cert.KernelAdamwSmallIdeal.main_arg22)
          ∧ r.2.mem ((c.tc : Thread Cert.KernelAdamwSmallIdeal.nD Cert.KernelAdamwSmallIdeal.τ).loc Cert.KernelAdamwSmallIdeal.main_arg23) = m ((c.tc : Thread Cert.KernelAdamwSmallIdeal.nD Cert.KernelAdamwSmallIdeal.τ).loc Cert.KernelAdamwSmallIdeal.main_arg23)
          ∧ r.2.mem ((c.tc : Thread Cert.KernelAdamwSmallIdeal.nD Cert.KernelAdamwSmallIdeal.τ).loc Cert.KernelAdamwSmallIdeal.main_arg24) = m ((c.tc : Thread Cert.KernelAdamwSmallIdeal.nD Cert.KernelAdamwSmallIdeal.τ).loc Cert.KernelAdamwSmallIdeal.main_arg24)
          ∧ r.2.mem ((c.tc : Thread Cert.KernelAdamwSmallIdeal.nD Cert.KernelAdamwSmallIdeal.τ).loc Cert.KernelAdamwSmallIdeal.main_arg25) = m ((c.tc : Thread Cert.KernelAdamwSmallIdeal.nD Cert.KernelAdamwSmallIdeal.τ).loc Cert.KernelAdamwSmallIdeal.main_arg25)
          ∧ r.2.mem ((c.tc : Thread Cert.KernelAdamwSmallIdeal.nD Cert.KernelAdamwSmallIdeal.τ).loc Cert.KernelAdamwSmallIdeal.main_arg26) = m ((c.tc : Thread Cert.KernelAdamwSmallIdeal.nD Cert.KernelAdamwSmallIdeal.τ).loc Cert.KernelAdamwSmallIdeal.main_arg26)
          ∧ r.2.mem ((c.tc : Thread Cert.KernelAdamwSmallIdeal.nD Cert.KernelAdamwSmallIdeal.τ).loc Cert.KernelAdamwSmallIdeal.main_arg27) = m ((c.tc : Thread Cert.KernelAdamwSmallIdeal.nD Cert.KernelAdamwSmallIdeal.τ).loc Cert.KernelAdamwSmallIdeal.main_arg27)
          ∧ r.2.mem ((c.tc : Thread Cert.KernelAdamwSmallIdeal.nD Cert.KernelAdamwSmallIdeal.τ).loc Cert.KernelAdamwSmallIdeal.main_arg28) = m ((c.tc : Thread Cert.KernelAdamwSmallIdeal.nD Cert.KernelAdamwSmallIdeal.τ).loc Cert.KernelAdamwSmallIdeal.main_arg28)
          ∧ r.2.mem ((c.tc : Thread Cert.KernelAdamwSmallIdeal.nD Cert.KernelAdamwSmallIdeal.τ).loc Cert.KernelAdamwSmallIdeal.main_arg29) = m ((c.tc : Thread Cert.KernelAdamwSmallIdeal.nD Cert.KernelAdamwSmallIdeal.τ).loc Cert.KernelAdamwSmallIdeal.main_arg29)
          ∧ r.2.mem ((c.tc : Thread Cert.KernelAdamwSmallIdeal.nD Cert.KernelAdamwSmallIdeal.τ).loc Cert.KernelAdamwSmallIdeal.main_arg30) = m ((c.tc : Thread Cert.KernelAdamwSmallIdeal.nD Cert.KernelAdamwSmallIdeal.τ).loc Cert.KernelAdamwSmallIdeal.main_arg30)
          ∧ r.2.mem ((c.tc : Thread Cert.KernelAdamwSmallIdeal.nD Cert.KernelAdamwSmallIdeal.τ).loc Cert.KernelAdamwSmallIdeal.main_arg31) = m ((c.tc : Thread Cert.KernelAdamwSmallIdeal.nD Cert.KernelAdamwSmallIdeal.τ).loc Cert.KernelAdamwSmallIdeal.main_arg31)
          ∧ r.2.mem ((c.tc : Thread Cert.KernelAdamwSmallIdeal.nD Cert.KernelAdamwSmallIdeal.τ).loc Cert.KernelAdamwSmallIdeal.main_arg32) = m ((c.tc : Thread Cert.KernelAdamwSmallIdeal.nD Cert.KernelAdamwSmallIdeal.τ).loc Cert.KernelAdamwSmallIdeal.main_arg32)
          ∧ r.2.mem ((c.tc : Thread Cert.KernelAdamwSmallIdeal.nD Cert.KernelAdamwSmallIdeal.τ).loc Cert.KernelAdamwSmallIdeal.main_arg33) = m ((c.tc : Thread Cert.KernelAdamwSmallIdeal.nD Cert.KernelAdamwSmallIdeal.τ).loc Cert.KernelAdamwSmallIdeal.main_arg33)
          ∧ r.2.mem ((c.tc : Thread Cert.KernelAdamwSmallIdeal.nD Cert.KernelAdamwSmallIdeal.τ).loc Cert.KernelAdamwSmallIdeal.main_arg34) = m ((c.tc : Thread Cert.KernelAdamwSmallIdeal.nD Cert.KernelAdamwSmallIdeal.τ).loc Cert.KernelAdamwSmallIdeal.main_arg34)
          ∧ r.2.mem ((c.tc : Thread Cert.KernelAdamwSmallIdeal.nD Cert.KernelAdamwSmallIdeal.τ).loc Cert.KernelAdamwSmallIdeal.main_arg35) = m ((c.tc : Thread Cert.KernelAdamwSmallIdeal.nD Cert.KernelAdamwSmallIdeal.τ).loc Cert.KernelAdamwSmallIdeal.main_arg35)
          ∧ r.2.mem ((c.tc : Thread Cert.KernelAdamwSmallIdeal.nD Cert.KernelAdamwSmallIdeal.τ).loc Cert.KernelAdamwSmallIdeal.main_arg36) = m ((c.tc : Thread Cert.KernelAdamwSmallIdeal.nD Cert.KernelAdamwSmallIdeal.τ).loc Cert.KernelAdamwSmallIdeal.main_arg36)
          ∧ r.2.mem ((c.tc : Thread Cert.KernelAdamwSmallIdeal.nD Cert.KernelAdamwSmallIdeal.τ).loc Cert.KernelAdamwSmallIdeal.main_arg37) = m ((c.tc : Thread Cert.KernelAdamwSmallIdeal.nD Cert.KernelAdamwSmallIdeal.τ).loc Cert.KernelAdamwSmallIdeal.main_arg37)
          ∧ r.2.mem ((c.tc : Thread Cert.KernelAdamwSmallIdeal.nD Cert.KernelAdamwSmallIdeal.τ).loc Cert.KernelAdamwSmallIdeal.main_arg38) = m ((c.tc : Thread Cert.KernelAdamwSmallIdeal.nD Cert.KernelAdamwSmallIdeal.τ).loc Cert.KernelAdamwSmallIdeal.main_arg38)
          ∧ r.2.mem ((c.tc : Thread Cert.KernelAdamwSmallIdeal.nD Cert.KernelAdamwSmallIdeal.τ).loc Cert.KernelAdamwSmallIdeal.main_arg39) = m ((c.tc : Thread Cert.KernelAdamwSmallIdeal.nD Cert.KernelAdamwSmallIdeal.τ).loc Cert.KernelAdamwSmallIdeal.main_arg39)
          ∧ r.2.mem ((c.tc : Thread Cert.KernelAdamwSmallIdeal.nD Cert.KernelAdamwSmallIdeal.τ).loc Cert.KernelAdamwSmallIdeal.main_arg40) = m ((c.tc : Thread Cert.KernelAdamwSmallIdeal.nD Cert.KernelAdamwSmallIdeal.τ).loc Cert.KernelAdamwSmallIdeal.main_arg40)
          ∧ r.2.mem ((c.tc : Thread Cert.KernelAdamwSmallIdeal.nD Cert.KernelAdamwSmallIdeal.τ).loc Cert.KernelAdamwSmallIdeal.main_arg41) = m ((c.tc : Thread Cert.KernelAdamwSmallIdeal.nD Cert.KernelAdamwSmallIdeal.τ).loc Cert.KernelAdamwSmallIdeal.main_arg41)
          ∧ r.2.mem ((c.tc : Thread Cert.KernelAdamwSmallIdeal.nD Cert.KernelAdamwSmallIdeal.τ).loc Cert.KernelAdamwSmallIdeal.main_arg42) = m ((c.tc : Thread Cert.KernelAdamwSmallIdeal.nD Cert.KernelAdamwSmallIdeal.τ).loc Cert.KernelAdamwSmallIdeal.main_arg42)
          ∧ r.2.mem ((c.tc : Thread Cert.KernelAdamwSmallIdeal.nD Cert.KernelAdamwSmallIdeal.τ).loc Cert.KernelAdamwSmallIdeal.main_arg43) = m ((c.tc : Thread Cert.KernelAdamwSmallIdeal.nD Cert.KernelAdamwSmallIdeal.τ).loc Cert.KernelAdamwSmallIdeal.main_arg43))
      ∧ θ_run (Cert.ReferenceAdamwSmallIdeal.defs (F := Ideal)) (onTc (τ := Cert.ReferenceAdamwSmallIdeal.τ) (Cert.ReferenceAdamwSmallIdeal.main (F := Ideal))) ⟨m', fun _ => 0, g'⟩ (fun r => ∀ c : Dev Cert.ReferenceAdamwSmallIdeal.nD,
          r.2.mem ((c.tc : Thread Cert.ReferenceAdamwSmallIdeal.nD Cert.ReferenceAdamwSmallIdeal.τ).loc Cert.ReferenceAdamwSmallIdeal.main_v277) = v0 c
          ∧ r.2.mem ((c.tc : Thread Cert.ReferenceAdamwSmallIdeal.nD Cert.ReferenceAdamwSmallIdeal.τ).loc Cert.ReferenceAdamwSmallIdeal.main_v291) = v1 c
          ∧ r.2.mem ((c.tc : Thread Cert.ReferenceAdamwSmallIdeal.nD Cert.ReferenceAdamwSmallIdeal.τ).loc Cert.ReferenceAdamwSmallIdeal.main_v305) = v2 c
          ∧ r.2.mem ((c.tc : Thread Cert.ReferenceAdamwSmallIdeal.nD Cert.ReferenceAdamwSmallIdeal.τ).loc Cert.ReferenceAdamwSmallIdeal.main_v319) = v3 c
          ∧ r.2.mem ((c.tc : Thread Cert.ReferenceAdamwSmallIdeal.nD Cert.ReferenceAdamwSmallIdeal.τ).loc Cert.ReferenceAdamwSmallIdeal.main_arg0) = m' ((c.tc : Thread Cert.ReferenceAdamwSmallIdeal.nD Cert.ReferenceAdamwSmallIdeal.τ).loc Cert.ReferenceAdamwSmallIdeal.main_arg0)
          ∧ r.2.mem ((c.tc : Thread Cert.ReferenceAdamwSmallIdeal.nD Cert.ReferenceAdamwSmallIdeal.τ).loc Cert.ReferenceAdamwSmallIdeal.main_arg1) = m' ((c.tc : Thread Cert.ReferenceAdamwSmallIdeal.nD Cert.ReferenceAdamwSmallIdeal.τ).loc Cert.ReferenceAdamwSmallIdeal.main_arg1)
          ∧ r.2.mem ((c.tc : Thread Cert.ReferenceAdamwSmallIdeal.nD Cert.ReferenceAdamwSmallIdeal.τ).loc Cert.ReferenceAdamwSmallIdeal.main_arg2) = m' ((c.tc : Thread Cert.ReferenceAdamwSmallIdeal.nD Cert.ReferenceAdamwSmallIdeal.τ).loc Cert.ReferenceAdamwSmallIdeal.main_arg2)
          ∧ r.2.mem ((c.tc : Thread Cert.ReferenceAdamwSmallIdeal.nD Cert.ReferenceAdamwSmallIdeal.τ).loc Cert.ReferenceAdamwSmallIdeal.main_arg3) = m' ((c.tc : Thread Cert.ReferenceAdamwSmallIdeal.nD Cert.ReferenceAdamwSmallIdeal.τ).loc Cert.ReferenceAdamwSmallIdeal.main_arg3)
          ∧ r.2.mem ((c.tc : Thread Cert.ReferenceAdamwSmallIdeal.nD Cert.ReferenceAdamwSmallIdeal.τ).loc Cert.ReferenceAdamwSmallIdeal.main_arg4) = m' ((c.tc : Thread Cert.ReferenceAdamwSmallIdeal.nD Cert.ReferenceAdamwSmallIdeal.τ).loc Cert.ReferenceAdamwSmallIdeal.main_arg4)
          ∧ r.2.mem ((c.tc : Thread Cert.ReferenceAdamwSmallIdeal.nD Cert.ReferenceAdamwSmallIdeal.τ).loc Cert.ReferenceAdamwSmallIdeal.main_arg5) = m' ((c.tc : Thread Cert.ReferenceAdamwSmallIdeal.nD Cert.ReferenceAdamwSmallIdeal.τ).loc Cert.ReferenceAdamwSmallIdeal.main_arg5)
          ∧ r.2.mem ((c.tc : Thread Cert.ReferenceAdamwSmallIdeal.nD Cert.ReferenceAdamwSmallIdeal.τ).loc Cert.ReferenceAdamwSmallIdeal.main_arg6) = m' ((c.tc : Thread Cert.ReferenceAdamwSmallIdeal.nD Cert.ReferenceAdamwSmallIdeal.τ).loc Cert.ReferenceAdamwSmallIdeal.main_arg6)
          ∧ r.2.mem ((c.tc : Thread Cert.ReferenceAdamwSmallIdeal.nD Cert.ReferenceAdamwSmallIdeal.τ).loc Cert.ReferenceAdamwSmallIdeal.main_arg7) = m' ((c.tc : Thread Cert.ReferenceAdamwSmallIdeal.nD Cert.ReferenceAdamwSmallIdeal.τ).loc Cert.ReferenceAdamwSmallIdeal.main_arg7)
          ∧ r.2.mem ((c.tc : Thread Cert.ReferenceAdamwSmallIdeal.nD Cert.ReferenceAdamwSmallIdeal.τ).loc Cert.ReferenceAdamwSmallIdeal.main_arg8) = m' ((c.tc : Thread Cert.ReferenceAdamwSmallIdeal.nD Cert.ReferenceAdamwSmallIdeal.τ).loc Cert.ReferenceAdamwSmallIdeal.main_arg8)
          ∧ r.2.mem ((c.tc : Thread Cert.ReferenceAdamwSmallIdeal.nD Cert.ReferenceAdamwSmallIdeal.τ).loc Cert.ReferenceAdamwSmallIdeal.main_arg9) = m' ((c.tc : Thread Cert.ReferenceAdamwSmallIdeal.nD Cert.ReferenceAdamwSmallIdeal.τ).loc Cert.ReferenceAdamwSmallIdeal.main_arg9)
          ∧ r.2.mem ((c.tc : Thread Cert.ReferenceAdamwSmallIdeal.nD Cert.ReferenceAdamwSmallIdeal.τ).loc Cert.ReferenceAdamwSmallIdeal.main_arg10) = m' ((c.tc : Thread Cert.ReferenceAdamwSmallIdeal.nD Cert.ReferenceAdamwSmallIdeal.τ).loc Cert.ReferenceAdamwSmallIdeal.main_arg10)
          ∧ r.2.mem ((c.tc : Thread Cert.ReferenceAdamwSmallIdeal.nD Cert.ReferenceAdamwSmallIdeal.τ).loc Cert.ReferenceAdamwSmallIdeal.main_arg11) = m' ((c.tc : Thread Cert.ReferenceAdamwSmallIdeal.nD Cert.ReferenceAdamwSmallIdeal.τ).loc Cert.ReferenceAdamwSmallIdeal.main_arg11)
          ∧ r.2.mem ((c.tc : Thread Cert.ReferenceAdamwSmallIdeal.nD Cert.ReferenceAdamwSmallIdeal.τ).loc Cert.ReferenceAdamwSmallIdeal.main_arg12) = m' ((c.tc : Thread Cert.ReferenceAdamwSmallIdeal.nD Cert.ReferenceAdamwSmallIdeal.τ).loc Cert.ReferenceAdamwSmallIdeal.main_arg12)
          ∧ r.2.mem ((c.tc : Thread Cert.ReferenceAdamwSmallIdeal.nD Cert.ReferenceAdamwSmallIdeal.τ).loc Cert.ReferenceAdamwSmallIdeal.main_arg13) = m' ((c.tc : Thread Cert.ReferenceAdamwSmallIdeal.nD Cert.ReferenceAdamwSmallIdeal.τ).loc Cert.ReferenceAdamwSmallIdeal.main_arg13)
          ∧ r.2.mem ((c.tc : Thread Cert.ReferenceAdamwSmallIdeal.nD Cert.ReferenceAdamwSmallIdeal.τ).loc Cert.ReferenceAdamwSmallIdeal.main_arg14) = m' ((c.tc : Thread Cert.ReferenceAdamwSmallIdeal.nD Cert.ReferenceAdamwSmallIdeal.τ).loc Cert.ReferenceAdamwSmallIdeal.main_arg14)
          ∧ r.2.mem ((c.tc : Thread Cert.ReferenceAdamwSmallIdeal.nD Cert.ReferenceAdamwSmallIdeal.τ).loc Cert.ReferenceAdamwSmallIdeal.main_arg15) = m' ((c.tc : Thread Cert.ReferenceAdamwSmallIdeal.nD Cert.ReferenceAdamwSmallIdeal.τ).loc Cert.ReferenceAdamwSmallIdeal.main_arg15)
          ∧ r.2.mem ((c.tc : Thread Cert.ReferenceAdamwSmallIdeal.nD Cert.ReferenceAdamwSmallIdeal.τ).loc Cert.ReferenceAdamwSmallIdeal.main_arg16) = m' ((c.tc : Thread Cert.ReferenceAdamwSmallIdeal.nD Cert.ReferenceAdamwSmallIdeal.τ).loc Cert.ReferenceAdamwSmallIdeal.main_arg16)
          ∧ r.2.mem ((c.tc : Thread Cert.ReferenceAdamwSmallIdeal.nD Cert.ReferenceAdamwSmallIdeal.τ).loc Cert.ReferenceAdamwSmallIdeal.main_arg17) = m' ((c.tc : Thread Cert.ReferenceAdamwSmallIdeal.nD Cert.ReferenceAdamwSmallIdeal.τ).loc Cert.ReferenceAdamwSmallIdeal.main_arg17)
          ∧ r.2.mem ((c.tc : Thread Cert.ReferenceAdamwSmallIdeal.nD Cert.ReferenceAdamwSmallIdeal.τ).loc Cert.ReferenceAdamwSmallIdeal.main_arg18) = m' ((c.tc : Thread Cert.ReferenceAdamwSmallIdeal.nD Cert.ReferenceAdamwSmallIdeal.τ).loc Cert.ReferenceAdamwSmallIdeal.main_arg18)
          ∧ r.2.mem ((c.tc : Thread Cert.ReferenceAdamwSmallIdeal.nD Cert.ReferenceAdamwSmallIdeal.τ).loc Cert.ReferenceAdamwSmallIdeal.main_arg19) = m' ((c.tc : Thread Cert.ReferenceAdamwSmallIdeal.nD Cert.ReferenceAdamwSmallIdeal.τ).loc Cert.ReferenceAdamwSmallIdeal.main_arg19)
          ∧ r.2.mem ((c.tc : Thread Cert.ReferenceAdamwSmallIdeal.nD Cert.ReferenceAdamwSmallIdeal.τ).loc Cert.ReferenceAdamwSmallIdeal.main_arg20) = m' ((c.tc : Thread Cert.ReferenceAdamwSmallIdeal.nD Cert.ReferenceAdamwSmallIdeal.τ).loc Cert.ReferenceAdamwSmallIdeal.main_arg20)
          ∧ r.2.mem ((c.tc : Thread Cert.ReferenceAdamwSmallIdeal.nD Cert.ReferenceAdamwSmallIdeal.τ).loc Cert.ReferenceAdamwSmallIdeal.main_arg21) = m' ((c.tc : Thread Cert.ReferenceAdamwSmallIdeal.nD Cert.ReferenceAdamwSmallIdeal.τ).loc Cert.ReferenceAdamwSmallIdeal.main_arg21)
          ∧ r.2.mem ((c.tc : Thread Cert.ReferenceAdamwSmallIdeal.nD Cert.ReferenceAdamwSmallIdeal.τ).loc Cert.ReferenceAdamwSmallIdeal.main_arg22) = m' ((c.tc : Thread Cert.ReferenceAdamwSmallIdeal.nD Cert.ReferenceAdamwSmallIdeal.τ).loc Cert.ReferenceAdamwSmallIdeal.main_arg22)
          ∧ r.2.mem ((c.tc : Thread Cert.ReferenceAdamwSmallIdeal.nD Cert.ReferenceAdamwSmallIdeal.τ).loc Cert.ReferenceAdamwSmallIdeal.main_arg23) = m' ((c.tc : Thread Cert.ReferenceAdamwSmallIdeal.nD Cert.ReferenceAdamwSmallIdeal.τ).loc Cert.ReferenceAdamwSmallIdeal.main_arg23)
          ∧ r.2.mem ((c.tc : Thread Cert.ReferenceAdamwSmallIdeal.nD Cert.ReferenceAdamwSmallIdeal.τ).loc Cert.ReferenceAdamwSmallIdeal.main_arg24) = m' ((c.tc : Thread Cert.ReferenceAdamwSmallIdeal.nD Cert.ReferenceAdamwSmallIdeal.τ).loc Cert.ReferenceAdamwSmallIdeal.main_arg24)
          ∧ r.2.mem ((c.tc : Thread Cert.ReferenceAdamwSmallIdeal.nD Cert.ReferenceAdamwSmallIdeal.τ).loc Cert.ReferenceAdamwSmallIdeal.main_arg25) = m' ((c.tc : Thread Cert.ReferenceAdamwSmallIdeal.nD Cert.ReferenceAdamwSmallIdeal.τ).loc Cert.ReferenceAdamwSmallIdeal.main_arg25)
          ∧ r.2.mem ((c.tc : Thread Cert.ReferenceAdamwSmallIdeal.nD Cert.ReferenceAdamwSmallIdeal.τ).loc Cert.ReferenceAdamwSmallIdeal.main_arg26) = m' ((c.tc : Thread Cert.ReferenceAdamwSmallIdeal.nD Cert.ReferenceAdamwSmallIdeal.τ).loc Cert.ReferenceAdamwSmallIdeal.main_arg26)
          ∧ r.2.mem ((c.tc : Thread Cert.ReferenceAdamwSmallIdeal.nD Cert.ReferenceAdamwSmallIdeal.τ).loc Cert.ReferenceAdamwSmallIdeal.main_arg27) = m' ((c.tc : Thread Cert.ReferenceAdamwSmallIdeal.nD Cert.ReferenceAdamwSmallIdeal.τ).loc Cert.ReferenceAdamwSmallIdeal.main_arg27)
          ∧ r.2.mem ((c.tc : Thread Cert.ReferenceAdamwSmallIdeal.nD Cert.ReferenceAdamwSmallIdeal.τ).loc Cert.ReferenceAdamwSmallIdeal.main_arg28) = m' ((c.tc : Thread Cert.ReferenceAdamwSmallIdeal.nD Cert.ReferenceAdamwSmallIdeal.τ).loc Cert.ReferenceAdamwSmallIdeal.main_arg28)
          ∧ r.2.mem ((c.tc : Thread Cert.ReferenceAdamwSmallIdeal.nD Cert.ReferenceAdamwSmallIdeal.τ).loc Cert.ReferenceAdamwSmallIdeal.main_arg29) = m' ((c.tc : Thread Cert.ReferenceAdamwSmallIdeal.nD Cert.ReferenceAdamwSmallIdeal.τ).loc Cert.ReferenceAdamwSmallIdeal.main_arg29)
          ∧ r.2.mem ((c.tc : Thread Cert.ReferenceAdamwSmallIdeal.nD Cert.ReferenceAdamwSmallIdeal.τ).loc Cert.ReferenceAdamwSmallIdeal.main_arg30) = m' ((c.tc : Thread Cert.ReferenceAdamwSmallIdeal.nD Cert.ReferenceAdamwSmallIdeal.τ).loc Cert.ReferenceAdamwSmallIdeal.main_arg30)
          ∧ r.2.mem ((c.tc : Thread Cert.ReferenceAdamwSmallIdeal.nD Cert.ReferenceAdamwSmallIdeal.τ).loc Cert.ReferenceAdamwSmallIdeal.main_arg31) = m' ((c.tc : Thread Cert.ReferenceAdamwSmallIdeal.nD Cert.ReferenceAdamwSmallIdeal.τ).loc Cert.ReferenceAdamwSmallIdeal.main_arg31)
          ∧ r.2.mem ((c.tc : Thread Cert.ReferenceAdamwSmallIdeal.nD Cert.ReferenceAdamwSmallIdeal.τ).loc Cert.ReferenceAdamwSmallIdeal.main_arg32) = m' ((c.tc : Thread Cert.ReferenceAdamwSmallIdeal.nD Cert.ReferenceAdamwSmallIdeal.τ).loc Cert.ReferenceAdamwSmallIdeal.main_arg32)
          ∧ r.2.mem ((c.tc : Thread Cert.ReferenceAdamwSmallIdeal.nD Cert.ReferenceAdamwSmallIdeal.τ).loc Cert.ReferenceAdamwSmallIdeal.main_arg33) = m' ((c.tc : Thread Cert.ReferenceAdamwSmallIdeal.nD Cert.ReferenceAdamwSmallIdeal.τ).loc Cert.ReferenceAdamwSmallIdeal.main_arg33)
          ∧ r.2.mem ((c.tc : Thread Cert.ReferenceAdamwSmallIdeal.nD Cert.ReferenceAdamwSmallIdeal.τ).loc Cert.ReferenceAdamwSmallIdeal.main_arg34) = m' ((c.tc : Thread Cert.ReferenceAdamwSmallIdeal.nD Cert.ReferenceAdamwSmallIdeal.τ).loc Cert.ReferenceAdamwSmallIdeal.main_arg34)
          ∧ r.2.mem ((c.tc : Thread Cert.ReferenceAdamwSmallIdeal.nD Cert.ReferenceAdamwSmallIdeal.τ).loc Cert.ReferenceAdamwSmallIdeal.main_arg35) = m' ((c.tc : Thread Cert.ReferenceAdamwSmallIdeal.nD Cert.ReferenceAdamwSmallIdeal.τ).loc Cert.ReferenceAdamwSmallIdeal.main_arg35)
          ∧ r.2.mem ((c.tc : Thread Cert.ReferenceAdamwSmallIdeal.nD Cert.ReferenceAdamwSmallIdeal.τ).loc Cert.ReferenceAdamwSmallIdeal.main_arg36) = m' ((c.tc : Thread Cert.ReferenceAdamwSmallIdeal.nD Cert.ReferenceAdamwSmallIdeal.τ).loc Cert.ReferenceAdamwSmallIdeal.main_arg36)
          ∧ r.2.mem ((c.tc : Thread Cert.ReferenceAdamwSmallIdeal.nD Cert.ReferenceAdamwSmallIdeal.τ).loc Cert.ReferenceAdamwSmallIdeal.main_arg37) = m' ((c.tc : Thread Cert.ReferenceAdamwSmallIdeal.nD Cert.ReferenceAdamwSmallIdeal.τ).loc Cert.ReferenceAdamwSmallIdeal.main_arg37)
          ∧ r.2.mem ((c.tc : Thread Cert.ReferenceAdamwSmallIdeal.nD Cert.ReferenceAdamwSmallIdeal.τ).loc Cert.ReferenceAdamwSmallIdeal.main_arg38) = m' ((c.tc : Thread Cert.ReferenceAdamwSmallIdeal.nD Cert.ReferenceAdamwSmallIdeal.τ).loc Cert.ReferenceAdamwSmallIdeal.main_arg38)
          ∧ r.2.mem ((c.tc : Thread Cert.ReferenceAdamwSmallIdeal.nD Cert.ReferenceAdamwSmallIdeal.τ).loc Cert.ReferenceAdamwSmallIdeal.main_arg39) = m' ((c.tc : Thread Cert.ReferenceAdamwSmallIdeal.nD Cert.ReferenceAdamwSmallIdeal.τ).loc Cert.ReferenceAdamwSmallIdeal.main_arg39)
          ∧ r.2.mem ((c.tc : Thread Cert.ReferenceAdamwSmallIdeal.nD Cert.ReferenceAdamwSmallIdeal.τ).loc Cert.ReferenceAdamwSmallIdeal.main_arg40) = m' ((c.tc : Thread Cert.ReferenceAdamwSmallIdeal.nD Cert.ReferenceAdamwSmallIdeal.τ).loc Cert.ReferenceAdamwSmallIdeal.main_arg40)
          ∧ r.2.mem ((c.tc : Thread Cert.ReferenceAdamwSmallIdeal.nD Cert.ReferenceAdamwSmallIdeal.τ).loc Cert.ReferenceAdamwSmallIdeal.main_arg41) = m' ((c.tc : Thread Cert.ReferenceAdamwSmallIdeal.nD Cert.ReferenceAdamwSmallIdeal.τ).loc Cert.ReferenceAdamwSmallIdeal.main_arg41)
          ∧ r.2.mem ((c.tc : Thread Cert.ReferenceAdamwSmallIdeal.nD Cert.ReferenceAdamwSmallIdeal.τ).loc Cert.ReferenceAdamwSmallIdeal.main_arg42) = m' ((c.tc : Thread Cert.ReferenceAdamwSmallIdeal.nD Cert.ReferenceAdamwSmallIdeal.τ).loc Cert.ReferenceAdamwSmallIdeal.main_arg42)
          ∧ r.2.mem ((c.tc : Thread Cert.ReferenceAdamwSmallIdeal.nD Cert.ReferenceAdamwSmallIdeal.τ).loc Cert.ReferenceAdamwSmallIdeal.main_arg43) = m' ((c.tc : Thread Cert.ReferenceAdamwSmallIdeal.nD Cert.ReferenceAdamwSmallIdeal.τ).loc Cert.ReferenceAdamwSmallIdeal.main_arg43))

def Claim : Prop :=
  ∃ (hKernel : Cert.Kernel.Facts) (hKernelIdeal : Cert.KernelIdeal.Facts) (hReferenceIdeal : Cert.ReferenceIdeal.Facts) (hKernelDh : Cert.KernelDh.Facts) (hKernelDhIdeal : Cert.KernelDhIdeal.Facts) (hReferenceDhIdeal : Cert.ReferenceDhIdeal.Facts) (hKernelDw2 : Cert.KernelDw2.Facts) (hKernelDw2Ideal : Cert.KernelDw2Ideal.Facts) (hReferenceDw2Ideal : Cert.ReferenceDw2Ideal.Facts) (hKernelDw1 : Cert.KernelDw1.Facts) (hKernelDw1Ideal : Cert.KernelDw1Ideal.Facts) (hReferenceDw1Ideal : Cert.ReferenceDw1Ideal.Facts) (hKernelDx : Cert.KernelDx.Facts) (hKernelDxIdeal : Cert.KernelDxIdeal.Facts) (hReferenceDxIdeal : Cert.ReferenceDxIdeal.Facts) (hKernelGdnDw : Cert.KernelGdnDw.Facts) (hKernelGdnDwIdeal : Cert.KernelGdnDwIdeal.Facts) (hReferenceGdnDwIdeal : Cert.ReferenceGdnDwIdeal.Facts) (hKernelGdnDx : Cert.KernelGdnDx.Facts) (hKernelGdnDxIdeal : Cert.KernelGdnDxIdeal.Facts) (hReferenceGdnDxIdeal : Cert.ReferenceGdnDxIdeal.Facts) (hKernelGlaDw : Cert.KernelGlaDw.Facts) (hKernelGlaDwIdeal : Cert.KernelGlaDwIdeal.Facts) (hReferenceGlaDwIdeal : Cert.ReferenceGlaDwIdeal.Facts) (hKernelGlaDx : Cert.KernelGlaDx.Facts) (hKernelGlaDxIdeal : Cert.KernelGlaDxIdeal.Facts) (hReferenceGlaDxIdeal : Cert.ReferenceGlaDxIdeal.Facts) (hKernelOutDw : Cert.KernelOutDw.Facts) (hKernelOutDwIdeal : Cert.KernelOutDwIdeal.Facts) (hReferenceOutDwIdeal : Cert.ReferenceOutDwIdeal.Facts) (hKernelOutDy : Cert.KernelOutDy.Facts) (hKernelOutDyIdeal : Cert.KernelOutDyIdeal.Facts) (hReferenceOutDyIdeal : Cert.ReferenceOutDyIdeal.Facts) (hKernelGateDw : Cert.KernelGateDw.Facts) (hKernelGateDwIdeal : Cert.KernelGateDwIdeal.Facts) (hReferenceGateDwIdeal : Cert.ReferenceGateDwIdeal.Facts) (hKernelGateDx : Cert.KernelGateDx.Facts) (hKernelGateDxIdeal : Cert.KernelGateDxIdeal.Facts) (hReferenceGateDxIdeal : Cert.ReferenceGateDxIdeal.Facts) (hKernelGateDw2 : Cert.KernelGateDw2.Facts) (hKernelGateDw2Ideal : Cert.KernelGateDw2Ideal.Facts) (hReferenceGateDw2Ideal : Cert.ReferenceGateDw2Ideal.Facts) (hKernelMlpUp : Cert.KernelMlpUp.Facts) (hKernelMlpUpIdeal : Cert.KernelMlpUpIdeal.Facts) (hReferenceMlpUpIdeal : Cert.ReferenceMlpUpIdeal.Facts) (hKernelMlpDown : Cert.KernelMlpDown.Facts) (hKernelMlpDownIdeal : Cert.KernelMlpDownIdeal.Facts) (hReferenceMlpDownIdeal : Cert.ReferenceMlpDownIdeal.Facts) (hKernelGdnProj : Cert.KernelGdnProj.Facts) (hKernelGdnProjIdeal : Cert.KernelGdnProjIdeal.Facts) (hReferenceGdnProjIdeal : Cert.ReferenceGdnProjIdeal.Facts) (hKernelGlaProj : Cert.KernelGlaProj.Facts) (hKernelGlaProjIdeal : Cert.KernelGlaProjIdeal.Facts) (hReferenceGlaProjIdeal : Cert.ReferenceGlaProjIdeal.Facts) (hKernelGateProj : Cert.KernelGateProj.Facts) (hKernelGateProjIdeal : Cert.KernelGateProjIdeal.Facts) (hReferenceGateProjIdeal : Cert.ReferenceGateProjIdeal.Facts) (hKernelOutProj : Cert.KernelOutProj.Facts) (hKernelOutProjIdeal : Cert.KernelOutProjIdeal.Facts) (hReferenceOutProjIdeal : Cert.ReferenceOutProjIdeal.Facts) (hKernelAdamwMlpW1 : Cert.KernelAdamwMlpW1.Facts) (hKernelAdamwMlpW1Ideal : Cert.KernelAdamwMlpW1Ideal.Facts) (hReferenceAdamwMlpW1Ideal : Cert.ReferenceAdamwMlpW1Ideal.Facts) (hKernelAdamwMlpW2 : Cert.KernelAdamwMlpW2.Facts) (hKernelAdamwMlpW2Ideal : Cert.KernelAdamwMlpW2Ideal.Facts) (hReferenceAdamwMlpW2Ideal : Cert.ReferenceAdamwMlpW2Ideal.Facts) (hKernelAdamwAWOut : Cert.KernelAdamwAWOut.Facts) (hKernelAdamwAWOutIdeal : Cert.KernelAdamwAWOutIdeal.Facts) (hReferenceAdamwAWOutIdeal : Cert.ReferenceAdamwAWOutIdeal.Facts) (hKernelAdamwBWOut : Cert.KernelAdamwBWOut.Facts) (hKernelAdamwBWOutIdeal : Cert.KernelAdamwBWOutIdeal.Facts) (hReferenceAdamwBWOutIdeal : Cert.ReferenceAdamwBWOutIdeal.Facts) (hKernelAdamwAWIn : Cert.KernelAdamwAWIn.Facts) (hKernelAdamwAWInIdeal : Cert.KernelAdamwAWInIdeal.Facts) (hReferenceAdamwAWInIdeal : Cert.ReferenceAdamwAWInIdeal.Facts) (hKernelAdamwBWIn : Cert.KernelAdamwBWIn.Facts) (hKernelAdamwBWInIdeal : Cert.KernelAdamwBWInIdeal.Facts) (hReferenceAdamwBWInIdeal : Cert.ReferenceAdamwBWInIdeal.Facts) (hKernelAdamwSmall : Cert.KernelAdamwSmall.Facts) (hKernelAdamwSmallIdeal : Cert.KernelAdamwSmallIdeal.Facts) (hReferenceAdamwSmallIdeal : Cert.ReferenceAdamwSmallIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDw2 (hKernelDw2 := hKernelDw2)
    ∧ quiescent_KernelDw2Ideal (hKernelDw2Ideal := hKernelDw2Ideal)
    ∧ quiescent_ReferenceDw2Ideal (hReferenceDw2Ideal := hReferenceDw2Ideal)
    ∧ quiescent_KernelDw1 (hKernelDw1 := hKernelDw1)
    ∧ quiescent_KernelDw1Ideal (hKernelDw1Ideal := hKernelDw1Ideal)
    ∧ quiescent_ReferenceDw1Ideal (hReferenceDw1Ideal := hReferenceDw1Ideal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelGdnDw (hKernelGdnDw := hKernelGdnDw)
    ∧ quiescent_KernelGdnDwIdeal (hKernelGdnDwIdeal := hKernelGdnDwIdeal)
    ∧ quiescent_ReferenceGdnDwIdeal (hReferenceGdnDwIdeal := hReferenceGdnDwIdeal)
    ∧ quiescent_KernelGdnDx (hKernelGdnDx := hKernelGdnDx)
    ∧ quiescent_KernelGdnDxIdeal (hKernelGdnDxIdeal := hKernelGdnDxIdeal)
    ∧ quiescent_ReferenceGdnDxIdeal (hReferenceGdnDxIdeal := hReferenceGdnDxIdeal)
    ∧ quiescent_KernelGlaDw (hKernelGlaDw := hKernelGlaDw)
    ∧ quiescent_KernelGlaDwIdeal (hKernelGlaDwIdeal := hKernelGlaDwIdeal)
    ∧ quiescent_ReferenceGlaDwIdeal (hReferenceGlaDwIdeal := hReferenceGlaDwIdeal)
    ∧ quiescent_KernelGlaDx (hKernelGlaDx := hKernelGlaDx)
    ∧ quiescent_KernelGlaDxIdeal (hKernelGlaDxIdeal := hKernelGlaDxIdeal)
    ∧ quiescent_ReferenceGlaDxIdeal (hReferenceGlaDxIdeal := hReferenceGlaDxIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelOutDy (hKernelOutDy := hKernelOutDy)
    ∧ quiescent_KernelOutDyIdeal (hKernelOutDyIdeal := hKernelOutDyIdeal)
    ∧ quiescent_ReferenceOutDyIdeal (hReferenceOutDyIdeal := hReferenceOutDyIdeal)
    ∧ quiescent_KernelGateDw (hKernelGateDw := hKernelGateDw)
    ∧ quiescent_KernelGateDwIdeal (hKernelGateDwIdeal := hKernelGateDwIdeal)
    ∧ quiescent_ReferenceGateDwIdeal (hReferenceGateDwIdeal := hReferenceGateDwIdeal)
    ∧ quiescent_KernelGateDx (hKernelGateDx := hKernelGateDx)
    ∧ quiescent_KernelGateDxIdeal (hKernelGateDxIdeal := hKernelGateDxIdeal)
    ∧ quiescent_ReferenceGateDxIdeal (hReferenceGateDxIdeal := hReferenceGateDxIdeal)
    ∧ quiescent_KernelGateDw2 (hKernelGateDw2 := hKernelGateDw2)
    ∧ quiescent_KernelGateDw2Ideal (hKernelGateDw2Ideal := hKernelGateDw2Ideal)
    ∧ quiescent_ReferenceGateDw2Ideal (hReferenceGateDw2Ideal := hReferenceGateDw2Ideal)
    ∧ quiescent_KernelMlpUp (hKernelMlpUp := hKernelMlpUp)
    ∧ quiescent_KernelMlpUpIdeal (hKernelMlpUpIdeal := hKernelMlpUpIdeal)
    ∧ quiescent_ReferenceMlpUpIdeal (hReferenceMlpUpIdeal := hReferenceMlpUpIdeal)
    ∧ quiescent_KernelMlpDown (hKernelMlpDown := hKernelMlpDown)
    ∧ quiescent_KernelMlpDownIdeal (hKernelMlpDownIdeal := hKernelMlpDownIdeal)
    ∧ quiescent_ReferenceMlpDownIdeal (hReferenceMlpDownIdeal := hReferenceMlpDownIdeal)
    ∧ quiescent_KernelGdnProj (hKernelGdnProj := hKernelGdnProj)
    ∧ quiescent_KernelGdnProjIdeal (hKernelGdnProjIdeal := hKernelGdnProjIdeal)
    ∧ quiescent_ReferenceGdnProjIdeal (hReferenceGdnProjIdeal := hReferenceGdnProjIdeal)
    ∧ quiescent_KernelGlaProj (hKernelGlaProj := hKernelGlaProj)
    ∧ quiescent_KernelGlaProjIdeal (hKernelGlaProjIdeal := hKernelGlaProjIdeal)
    ∧ quiescent_ReferenceGlaProjIdeal (hReferenceGlaProjIdeal := hReferenceGlaProjIdeal)
    ∧ quiescent_KernelGateProj (hKernelGateProj := hKernelGateProj)
    ∧ quiescent_KernelGateProjIdeal (hKernelGateProjIdeal := hKernelGateProjIdeal)
    ∧ quiescent_ReferenceGateProjIdeal (hReferenceGateProjIdeal := hReferenceGateProjIdeal)
    ∧ quiescent_KernelOutProj (hKernelOutProj := hKernelOutProj)
    ∧ quiescent_KernelOutProjIdeal (hKernelOutProjIdeal := hKernelOutProjIdeal)
    ∧ quiescent_ReferenceOutProjIdeal (hReferenceOutProjIdeal := hReferenceOutProjIdeal)
    ∧ quiescent_KernelAdamwMlpW1 (hKernelAdamwMlpW1 := hKernelAdamwMlpW1)
    ∧ quiescent_KernelAdamwMlpW1Ideal (hKernelAdamwMlpW1Ideal := hKernelAdamwMlpW1Ideal)
    ∧ quiescent_ReferenceAdamwMlpW1Ideal (hReferenceAdamwMlpW1Ideal := hReferenceAdamwMlpW1Ideal)
    ∧ quiescent_KernelAdamwMlpW2 (hKernelAdamwMlpW2 := hKernelAdamwMlpW2)
    ∧ quiescent_KernelAdamwMlpW2Ideal (hKernelAdamwMlpW2Ideal := hKernelAdamwMlpW2Ideal)
    ∧ quiescent_ReferenceAdamwMlpW2Ideal (hReferenceAdamwMlpW2Ideal := hReferenceAdamwMlpW2Ideal)
    ∧ quiescent_KernelAdamwAWOut (hKernelAdamwAWOut := hKernelAdamwAWOut)
    ∧ quiescent_KernelAdamwAWOutIdeal (hKernelAdamwAWOutIdeal := hKernelAdamwAWOutIdeal)
    ∧ quiescent_ReferenceAdamwAWOutIdeal (hReferenceAdamwAWOutIdeal := hReferenceAdamwAWOutIdeal)
    ∧ quiescent_KernelAdamwBWOut (hKernelAdamwBWOut := hKernelAdamwBWOut)
    ∧ quiescent_KernelAdamwBWOutIdeal (hKernelAdamwBWOutIdeal := hKernelAdamwBWOutIdeal)
    ∧ quiescent_ReferenceAdamwBWOutIdeal (hReferenceAdamwBWOutIdeal := hReferenceAdamwBWOutIdeal)
    ∧ quiescent_KernelAdamwAWIn (hKernelAdamwAWIn := hKernelAdamwAWIn)
    ∧ quiescent_KernelAdamwAWInIdeal (hKernelAdamwAWInIdeal := hKernelAdamwAWInIdeal)
    ∧ quiescent_ReferenceAdamwAWInIdeal (hReferenceAdamwAWInIdeal := hReferenceAdamwAWInIdeal)
    ∧ quiescent_KernelAdamwBWIn (hKernelAdamwBWIn := hKernelAdamwBWIn)
    ∧ quiescent_KernelAdamwBWInIdeal (hKernelAdamwBWInIdeal := hKernelAdamwBWInIdeal)
    ∧ quiescent_ReferenceAdamwBWInIdeal (hReferenceAdamwBWInIdeal := hReferenceAdamwBWInIdeal)
    ∧ quiescent_KernelAdamwSmall (hKernelAdamwSmall := hKernelAdamwSmall)
    ∧ quiescent_KernelAdamwSmallIdeal (hKernelAdamwSmallIdeal := hKernelAdamwSmallIdeal)
    ∧ quiescent_ReferenceAdamwSmallIdeal (hReferenceAdamwSmallIdeal := hReferenceAdamwSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDh_KernelDhIdeal
    ∧ algebraic_KernelDhIdeal_ReferenceDhIdeal (hKernelDhIdeal := hKernelDhIdeal) (hReferenceDhIdeal := hReferenceDhIdeal)
    ∧ preserves_KernelDw2_KernelDw2Ideal
    ∧ algebraic_KernelDw2Ideal_ReferenceDw2Ideal (hKernelDw2Ideal := hKernelDw2Ideal) (hReferenceDw2Ideal := hReferenceDw2Ideal)
    ∧ preserves_KernelDw1_KernelDw1Ideal
    ∧ algebraic_KernelDw1Ideal_ReferenceDw1Ideal (hKernelDw1Ideal := hKernelDw1Ideal) (hReferenceDw1Ideal := hReferenceDw1Ideal)
    ∧ preserves_KernelDx_KernelDxIdeal
    ∧ algebraic_KernelDxIdeal_ReferenceDxIdeal (hKernelDxIdeal := hKernelDxIdeal) (hReferenceDxIdeal := hReferenceDxIdeal)
    ∧ preserves_KernelGdnDw_KernelGdnDwIdeal
    ∧ algebraic_KernelGdnDwIdeal_ReferenceGdnDwIdeal (hKernelGdnDwIdeal := hKernelGdnDwIdeal) (hReferenceGdnDwIdeal := hReferenceGdnDwIdeal)
    ∧ preserves_KernelGdnDx_KernelGdnDxIdeal
    ∧ algebraic_KernelGdnDxIdeal_ReferenceGdnDxIdeal (hKernelGdnDxIdeal := hKernelGdnDxIdeal) (hReferenceGdnDxIdeal := hReferenceGdnDxIdeal)
    ∧ preserves_KernelGlaDw_KernelGlaDwIdeal
    ∧ algebraic_KernelGlaDwIdeal_ReferenceGlaDwIdeal (hKernelGlaDwIdeal := hKernelGlaDwIdeal) (hReferenceGlaDwIdeal := hReferenceGlaDwIdeal)
    ∧ preserves_KernelGlaDx_KernelGlaDxIdeal
    ∧ algebraic_KernelGlaDxIdeal_ReferenceGlaDxIdeal (hKernelGlaDxIdeal := hKernelGlaDxIdeal) (hReferenceGlaDxIdeal := hReferenceGlaDxIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelOutDy_KernelOutDyIdeal
    ∧ algebraic_KernelOutDyIdeal_ReferenceOutDyIdeal (hKernelOutDyIdeal := hKernelOutDyIdeal) (hReferenceOutDyIdeal := hReferenceOutDyIdeal)
    ∧ preserves_KernelGateDw_KernelGateDwIdeal
    ∧ algebraic_KernelGateDwIdeal_ReferenceGateDwIdeal (hKernelGateDwIdeal := hKernelGateDwIdeal) (hReferenceGateDwIdeal := hReferenceGateDwIdeal)
    ∧ preserves_KernelGateDx_KernelGateDxIdeal
    ∧ algebraic_KernelGateDxIdeal_ReferenceGateDxIdeal (hKernelGateDxIdeal := hKernelGateDxIdeal) (hReferenceGateDxIdeal := hReferenceGateDxIdeal)
    ∧ preserves_KernelGateDw2_KernelGateDw2Ideal
    ∧ algebraic_KernelGateDw2Ideal_ReferenceGateDw2Ideal (hKernelGateDw2Ideal := hKernelGateDw2Ideal) (hReferenceGateDw2Ideal := hReferenceGateDw2Ideal)
    ∧ preserves_KernelMlpUp_KernelMlpUpIdeal
    ∧ algebraic_KernelMlpUpIdeal_ReferenceMlpUpIdeal (hKernelMlpUpIdeal := hKernelMlpUpIdeal) (hReferenceMlpUpIdeal := hReferenceMlpUpIdeal)
    ∧ preserves_KernelMlpDown_KernelMlpDownIdeal
    ∧ algebraic_KernelMlpDownIdeal_ReferenceMlpDownIdeal (hKernelMlpDownIdeal := hKernelMlpDownIdeal) (hReferenceMlpDownIdeal := hReferenceMlpDownIdeal)
    ∧ preserves_KernelGdnProj_KernelGdnProjIdeal
    ∧ algebraic_KernelGdnProjIdeal_ReferenceGdnProjIdeal (hKernelGdnProjIdeal := hKernelGdnProjIdeal) (hReferenceGdnProjIdeal := hReferenceGdnProjIdeal)
    ∧ preserves_KernelGlaProj_KernelGlaProjIdeal
    ∧ algebraic_KernelGlaProjIdeal_ReferenceGlaProjIdeal (hKernelGlaProjIdeal := hKernelGlaProjIdeal) (hReferenceGlaProjIdeal := hReferenceGlaProjIdeal)
    ∧ preserves_KernelGateProj_KernelGateProjIdeal
    ∧ algebraic_KernelGateProjIdeal_ReferenceGateProjIdeal (hKernelGateProjIdeal := hKernelGateProjIdeal) (hReferenceGateProjIdeal := hReferenceGateProjIdeal)
    ∧ preserves_KernelOutProj_KernelOutProjIdeal
    ∧ algebraic_KernelOutProjIdeal_ReferenceOutProjIdeal (hKernelOutProjIdeal := hKernelOutProjIdeal) (hReferenceOutProjIdeal := hReferenceOutProjIdeal)
    ∧ preserves_KernelAdamwMlpW1_KernelAdamwMlpW1Ideal
    ∧ algebraic_KernelAdamwMlpW1Ideal_ReferenceAdamwMlpW1Ideal (hKernelAdamwMlpW1Ideal := hKernelAdamwMlpW1Ideal) (hReferenceAdamwMlpW1Ideal := hReferenceAdamwMlpW1Ideal)
    ∧ preserves_KernelAdamwMlpW2_KernelAdamwMlpW2Ideal
    ∧ algebraic_KernelAdamwMlpW2Ideal_ReferenceAdamwMlpW2Ideal (hKernelAdamwMlpW2Ideal := hKernelAdamwMlpW2Ideal) (hReferenceAdamwMlpW2Ideal := hReferenceAdamwMlpW2Ideal)
    ∧ preserves_KernelAdamwAWOut_KernelAdamwAWOutIdeal
    ∧ algebraic_KernelAdamwAWOutIdeal_ReferenceAdamwAWOutIdeal (hKernelAdamwAWOutIdeal := hKernelAdamwAWOutIdeal) (hReferenceAdamwAWOutIdeal := hReferenceAdamwAWOutIdeal)
    ∧ preserves_KernelAdamwBWOut_KernelAdamwBWOutIdeal
    ∧ algebraic_KernelAdamwBWOutIdeal_ReferenceAdamwBWOutIdeal (hKernelAdamwBWOutIdeal := hKernelAdamwBWOutIdeal) (hReferenceAdamwBWOutIdeal := hReferenceAdamwBWOutIdeal)
    ∧ preserves_KernelAdamwAWIn_KernelAdamwAWInIdeal
    ∧ algebraic_KernelAdamwAWInIdeal_ReferenceAdamwAWInIdeal (hKernelAdamwAWInIdeal := hKernelAdamwAWInIdeal) (hReferenceAdamwAWInIdeal := hReferenceAdamwAWInIdeal)
    ∧ preserves_KernelAdamwBWIn_KernelAdamwBWInIdeal
    ∧ algebraic_KernelAdamwBWInIdeal_ReferenceAdamwBWInIdeal (hKernelAdamwBWInIdeal := hKernelAdamwBWInIdeal) (hReferenceAdamwBWInIdeal := hReferenceAdamwBWInIdeal)
    ∧ preserves_KernelAdamwSmall_KernelAdamwSmallIdeal
    ∧ algebraic_KernelAdamwSmallIdeal_ReferenceAdamwSmallIdeal (hKernelAdamwSmallIdeal := hKernelAdamwSmallIdeal) (hReferenceAdamwSmallIdeal := hReferenceAdamwSmallIdeal)
-- ==== Pre_finite.lean ====
abbrev S2048x3072 : Shape := ⟨2, ![2048, 3072]⟩
abbrev S2x2048x512 : Shape := ⟨3, ![2, 2048, 512]⟩
abbrev S2x4x32x256x128 : Shape := ⟨5, ![2, 4, 32, 256, 128]⟩
abbrev S2048x1024 : Shape := ⟨2, ![2048, 1024]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S2x4x32x256x128 : S_.BroadcastsInDim S2x4x32x256x128 (![] : Fin 0 → Fin S2x4x32x256x128.rank)
  reducesTo_S2x4x32x256x128_S_d0_1_2_3_4 : S2x4x32x256x128.ReducesTo [0, 1, 2, 3, 4] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x3072 .f32) (main_arg1 : FVec F S2x2048x512 .f32) (main_arg2 : FVec F S2x4x32x256x128 .f32) (main_arg3 : FVec F S2048x1024 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x4x32x256x128 .f32 := Host.absf main_arg2
  let main_cst_2 : FVec F S_ .f32 := constant S_ .f32 0x7F800000#32
  let main_v10 : FVec F S2x4x32x256x128 .f32 := broadcastInDim S2x4x32x256x128 ![] bcast_S_S2x4x32x256x128 main_cst_2
  let main_v11 : IVec S2x4x32x256x128 1 := cmpf .olt main_v9 main_v10
  let main_c_3 : IVec S_ 1 := constantI S_ 1 1#1
  let main_v12 : IVec S_ 1 := (fun x v => Host.reduce IntOp.andi x v reducesTo_S2x4x32x256x128_S_d0_1_2_3_4 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Kernel.lean ====
abbrev S2048x3072 : Shape := ⟨2, ![2048, 3072]⟩
abbrev S2x2048x512 : Shape := ⟨3, ![2, 2048, 512]⟩
abbrev S2x4x32x256x128 : Shape := ⟨5, ![2, 4, 32, 256, 128]⟩
abbrev S2048x1024 : Shape := ⟨2, ![2048, 1024]⟩
abbrev S2x2048x1024 : Shape := ⟨3, ![2, 2048, 1024]⟩
abbrev S64x512 : Shape := ⟨2, ![64, 512]⟩
abbrev S64x1024 : Shape := ⟨2, ![64, 1024]⟩
abbrev S1x64x512 : Shape := ⟨3, ![1, 64, 512]⟩
abbrev S1x4x1x256x128 : Shape := ⟨5, ![1, 4, 1, 256, 128]⟩
abbrev S1x64x1024 : Shape := ⟨3, ![1, 64, 1024]⟩
abbrev S4x256x128 : Shape := ⟨3, ![4, 256, 128]⟩
abbrev S1x1x1x256x128 : Shape := ⟨5, ![1, 1, 1, 256, 128]⟩
abbrev S256x128 : Shape := ⟨2, ![256, 128]⟩
abbrev S64x128 : Shape := ⟨2, ![64, 128]⟩
abbrev S64x256 : Shape := ⟨2, ![64, 256]⟩
abbrev S1x64x128 : Shape := ⟨3, ![1, 64, 128]⟩
abbrev S64x64 : Shape := ⟨2, ![64, 64]⟩
abbrev S128 : Shape := ⟨1, ![128]⟩
abbrev S1x128 : Shape := ⟨2, ![1, 128]⟩
abbrev S16x128 : Shape := ⟨2, ![16, 128]⟩
abbrev S16x64 : Shape := ⟨2, ![16, 64]⟩
abbrev S16x16x128 : Shape := ⟨3, ![16, 16, 128]⟩
abbrev S16x1x128 : Shape := ⟨3, ![16, 1, 128]⟩
abbrev S1x16x128 : Shape := ⟨3, ![1, 16, 128]⟩
abbrev S16x16 : Shape := ⟨2, ![16, 16]⟩
abbrev S1x256x128 : Shape := ⟨3, ![1, 256, 128]⟩
abbrev S16x16x1 : Shape := ⟨3, ![16, 16, 1]⟩
abbrev S48x128 : Shape := ⟨2, ![48, 128]⟩
abbrev S32x128 : Shape := ⟨2, ![32, 128]⟩
abbrev S1x64x256 : Shape := ⟨3, ![1, 64, 256]⟩

abbrev nBuf : Space → Nat
  | .hbm => 8
  | .vmem => 21
  | .smem => 0
  | _ => 0

abbrev bufTy : (tb : Table) → Fin (tcTables nBuf tb) → BufTy
  | .hbm, ⟨0, _⟩ => ⟨S2048x3072, .f32⟩
  | .hbm, ⟨1, _⟩ => ⟨S2x2048x512, .f32⟩
  | .hbm, ⟨2, _⟩ => ⟨S2x4x32x256x128, .f32⟩
  | .hbm, ⟨3, _⟩ => ⟨S2048x1024, .f32⟩
  | .hbm, ⟨4, _⟩ => ⟨S2x2048x512, .f32⟩
  | .hbm, ⟨5, _⟩ => ⟨S2x2048x512, .f32⟩
  | .hbm, ⟨6, _⟩ => ⟨S2x2048x1024, .f32⟩
  | .hbm, ⟨7, _⟩ => ⟨S2x2048x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S1x64x512, .f32⟩
  | .local _ .vmem, ⟨7, _⟩ => ⟨S1x64x512, .f32⟩
  | .local _ .vmem, ⟨8, _⟩ => ⟨S1x4x1x256x128, .f32⟩
  | .local _ .vmem, ⟨9, _⟩ => ⟨S1x4x1x256x128, .f32⟩
  | .local _ .vmem, ⟨10, _⟩ => ⟨S64x1024, .f32⟩
  | .local _ .vmem, ⟨11, _⟩ => ⟨S64x1024, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x1024, .f32⟩
  | .local _ .vmem, ⟨17, _⟩ => ⟨S1x64x1024, .f32⟩
  | .local _ .vmem, ⟨18, _⟩ => ⟨S1x64x512, .f32⟩
  | .local _ .vmem, ⟨19, _⟩ => ⟨S1x64x512, .f32⟩
  | .local _ .vmem, ⟨20, _⟩ => ⟨S4x256x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c1_i32_0 : BitVec 32 := 1#32
  let c0_i32 : BitVec 32 := 0#32
  ![v4.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c1_i32_0 : BitVec 32 := 1#32
  let c0_i32 : BitVec 32 := 0#32
  ![v4.toNat, c1_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c0_i32 : BitVec 32 := 0#32
  let c0_i32_0 : BitVec 32 := 0#32
  ![arg0.toNat, v4.toNat, c0_i32.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c0_i32 : BitVec 32 := 0#32
  let c0_i32_0 : BitVec 32 := 0#32
  let c0_i32_1 : BitVec 32 := 0#32
  let c0_i32_2 : BitVec 32 := 0#32
  ![arg0.toNat, c0_i32.toNat, v4.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c0_i32 : BitVec 32 := 0#32
  let c0_i32_0 : BitVec 32 := 0#32
  ![v4.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c0_i32 : BitVec 32 := 0#32
  let c0_i32_0 : BitVec 32 := 0#32
  ![arg0.toNat, v4.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c0_i32 : BitVec 32 := 0#32
  let c0_i32_0 : BitVec 32 := 0#32
  ![arg0.toNat, v4.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c0_i32 : BitVec 32 := 0#32
  let c0_i32_0 : BitVec 32 := 0#32
  ![arg0.toNat, v4.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c2_i32 : BitVec 32 := 2#32
  let v1 : BitVec 32 := Scalar.muli c2_i32 arg1
  let c31_i32 : BitVec 32 := 31#32
  let v2 : BitVec 32 := Scalar.subi c31_i32 v1
  let v3 : BitVec 32 := Scalar.muli v0 v2
  let v4 : BitVec 32 := Scalar.addi arg1 v3
  let c0_i32 : BitVec 32 := 0#32
  let c0_i32_0 : BitVec 32 := 0#32
  ![arg0.toNat, v4.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2048x3072 : Shape := ⟨2, ![2048, 3072]⟩
abbrev S2x2048x512 : Shape := ⟨3, ![2, 2048, 512]⟩
abbrev S2x4x32x256x128 : Shape := ⟨5, ![2, 4, 32, 256, 128]⟩
abbrev S2048x1024 : Shape := ⟨2, ![2048, 1024]⟩
abbrev S2048x512 : Shape := ⟨2, ![2048, 512]⟩
abbrev S1x2048x4x128 : Shape := ⟨4, ![1, 2048, 4, 128]⟩
abbrev S1x4x2048x128 : Shape := ⟨4, ![1, 4, 2048, 128]⟩
abbrev S2x4x2048x128 : Shape := ⟨4, ![2, 4, 2048, 128]⟩
abbrev S1x2048x4x256 : Shape := ⟨4, ![1, 2048, 4, 256]⟩
abbrev S1x4x2048x256 : Shape := ⟨4, ![1, 4, 2048, 256]⟩
abbrev S2x4x2048x256 : Shape := ⟨4, ![2, 4, 2048, 256]⟩
abbrev S1x2048x512 : Shape := ⟨3, ![1, 2048, 512]⟩
abbrev S1x4x32x256x128 : Shape := ⟨5, ![1, 4, 32, 256, 128]⟩
abbrev S2x4x32x128x256 : Shape := ⟨5, ![2, 4, 32, 128, 256]⟩
abbrev S32x2x4x128x256 : Shape := ⟨5, ![32, 2, 4, 128, 256]⟩
abbrev S_ : Shape := ⟨0, ![]⟩
abbrev S64x64 : Shape := ⟨2, ![64, 64]⟩
abbrev S64x64x1 : Shape := ⟨3, ![64, 64, 1]⟩
abbrev S2x4x32x64x128 : Shape := ⟨5, ![2, 4, 32, 64, 128]⟩
abbrev S32x2x4x64x128 : Shape := ⟨5, ![32, 2, 4, 64, 128]⟩
abbrev S2x4x32x64x256 : Shape := ⟨5, ![2, 4, 32, 64, 256]⟩
abbrev S32x2x4x64x256 : Shape := ⟨5, ![32, 2, 4, 64, 256]⟩
abbrev S2x4x128x256 : Shape := ⟨4, ![2, 4, 128, 256]⟩
abbrev S32 : Shape := ⟨1, ![32]⟩
abbrev S1 : Shape := ⟨1, ![1]⟩
abbrev S1x2x4x128x256 : Shape := ⟨5, ![1, 2, 4, 128, 256]⟩
abbrev S1x2x4x64x128 : Shape := ⟨5, ![1, 2, 4, 64, 128]⟩
abbrev S2x4x64x128 : Shape := ⟨4, ![2, 4, 64, 128]⟩
abbrev S1x2x4x64x256 : Shape := ⟨5, ![1, 2, 4, 64, 256]⟩
abbrev S2x4x64x256 : Shape := ⟨4, ![2, 4, 64, 256]⟩
abbrev S2x4x1x64x128 : Shape := ⟨5, ![2, 4, 1, 64, 128]⟩
abbrev S2x4x64x64x128 : Shape := ⟨5, ![2, 4, 64, 64, 128]⟩
abbrev S2x4x64x1x128 : Shape := ⟨5, ![2, 4, 64, 1, 128]⟩
abbrev S2x4x64x64 : Shape := ⟨4, ![2, 4, 64, 64]⟩
abbrev S2x4x1x128 : Shape := ⟨4, ![2, 4, 1, 128]⟩
abbrev S2x4x128 : Shape := ⟨3, ![2, 4, 128]⟩
abbrev S2x4x128x1 : Shape := ⟨4, ![2, 4, 128, 1]⟩
abbrev S2x4x256x64 : Shape := ⟨4, ![2, 4, 256, 64]⟩
abbrev S2x4x128x64 : Shape := ⟨4, ![2, 4, 128, 64]⟩
abbrev S2x4x256x128 : Shape := ⟨4, ![2, 4, 256, 128]⟩
abbrev S32x1x1x1x1 : Shape := ⟨5, ![32, 1, 1, 1, 1]⟩
abbrev S2x2048x4x128 : Shape := ⟨4, ![2, 2048, 4, 128]⟩
abbrev S2x2048x4x256 : Shape := ⟨4, ![2, 2048, 4, 256]⟩
abbrev S2x2048x1024 : Shape := ⟨3, ![2, 2048, 1024]⟩

abbrev nBuf : Space → Nat
  | .hbm => 338
  | .vmem => 0
  | .smem => 0
  | _ => 0

abbrev hbmTy0_0 (i : Nat) : BufTy := match i % 128 with
  | 0 => ⟨S2048x3072, .f32⟩
  | 1 => ⟨S2x2048x512, .f32⟩
  | 2 => ⟨S2x4x32x256x128, .f32⟩
  | 3 => ⟨S2048x1024, .f32⟩
  | 4 => ⟨S2048x512, .f32⟩
  | 5 => ⟨S1x2048x4x128, .f32⟩
  | 6 => ⟨S1x4x2048x128, .f32⟩
  | 7 => ⟨S1x4x2048x128, .f32⟩
  | 8 => ⟨S2x4x2048x128, .f32⟩
  | 9 => ⟨S2048x512, .f32⟩
  | 10 => ⟨S1x2048x4x128, .f32⟩
  | 11 => ⟨S1x4x2048x128, .f32⟩
  | 12 => ⟨S1x4x2048x128, .f32⟩
  | 13 => ⟨S2x4x2048x128, .f32⟩
  | 14 => ⟨S2048x1024, .f32⟩
  | 15 => ⟨S1x2048x4x256, .f32⟩
  | 16 => ⟨S1x4x2048x256, .f32⟩
  | 17 => ⟨S1x4x2048x256, .f32⟩
  | 18 => ⟨S2x4x2048x256, .f32⟩
  | 19 => ⟨S1x2048x4x256, .f32⟩
  | 20 => ⟨S1x4x2048x256, .f32⟩
  | 21 => ⟨S1x4x2048x256, .f32⟩
  | 22 => ⟨S2x4x2048x256, .f32⟩
  | 23 => ⟨S1x2048x512, .f32⟩
  | 24 => ⟨S2048x512, .f32⟩
  | 25 => ⟨S1x2048x4x128, .f32⟩
  | 26 => ⟨S1x4x2048x128, .f32⟩
  | 27 => ⟨S1x2048x512, .f32⟩
  | 28 => ⟨S2048x512, .f32⟩
  | 29 => ⟨S1x2048x4x128, .f32⟩
  | 30 => ⟨S1x4x2048x128, .f32⟩
  | 31 => ⟨S1x4x2048x128, .f32⟩
  | 32 => ⟨S2x4x2048x128, .f32⟩
  | 33 => ⟨S1x4x32x256x128, .f32⟩
  | 34 => ⟨S1x4x32x256x128, .f32⟩
  | 35 => ⟨S1x4x32x256x128, .f32⟩
  | 36 => ⟨S2x4x32x256x128, .f32⟩
  | 37 => ⟨S2x4x32x128x256, .f32⟩
  | 38 => ⟨S32x2x4x128x256, .f32⟩
  | 39 => ⟨S_, .i1⟩
  | 40 => ⟨S64x64, .i1⟩
  | 41 => ⟨S64x64, .i32⟩
  | 42 => ⟨S_, .i32⟩
  | 43 => ⟨S64x64, .i32⟩
  | 44 => ⟨S64x64, .i32⟩
  | 45 => ⟨S64x64, .i32⟩
  | 46 => ⟨S64x64, .i1⟩
  | 47 => ⟨S_, .i1⟩
  | 48 => ⟨S64x64, .i1⟩
  | 49 => ⟨S64x64, .i1⟩
  | 50 => ⟨S64x64x1, .i1⟩
  | 51 => ⟨S2x4x32x64x128, .f32⟩
  | 52 => ⟨S32x2x4x64x128, .f32⟩
  | 53 => ⟨S2x4x32x64x128, .f32⟩
  | 54 => ⟨S32x2x4x64x128, .f32⟩
  | 55 => ⟨S2x4x32x64x256, .f32⟩
  | 56 => ⟨S32x2x4x64x256, .f32⟩
  | 57 => ⟨S2x4x32x64x128, .f32⟩
  | 58 => ⟨S32x2x4x64x128, .f32⟩
  | 59 => ⟨S2x4x32x64x256, .f32⟩
  | 60 => ⟨S32x2x4x64x256, .f32⟩
  | 61 => ⟨S_, .f32⟩
  | 62 => ⟨S2x4x128x256, .f32⟩
  | 63 => ⟨S_, .f32⟩
  | 64 => ⟨S32x2x4x64x128, .f32⟩
  | 65 => ⟨S_, .f32⟩
  | 66 => ⟨S32x2x4x64x128, .f32⟩
  | 67 => ⟨S_, .f32⟩
  | 68 => ⟨S32x2x4x64x256, .f32⟩
  | 69 => ⟨S_, .f32⟩
  | 70 => ⟨S32x2x4x64x128, .f32⟩
  | 71 => ⟨S32, .i32⟩
  | 72 => ⟨S_, .i32⟩
  | 73 => ⟨S32, .i32⟩
  | 74 => ⟨S32x2x4x128x256, .f32⟩
  | 75 => ⟨S32x2x4x64x128, .f32⟩
  | 76 => ⟨S32x2x4x64x128, .f32⟩
  | 77 => ⟨S32x2x4x64x256, .f32⟩
  | 78 => ⟨S32x2x4x64x128, .f32⟩
  | 79 => ⟨S32x2x4x64x256, .f32⟩
  | 80 => ⟨S64x64x1, .i1⟩
  | 81 => ⟨S_, .i32⟩
  | 82 => ⟨S2x4x128x256, .f32⟩
  | 83 => ⟨S32x2x4x64x128, .f32⟩
  | 84 => ⟨S32x2x4x64x128, .f32⟩
  | 85 => ⟨S32x2x4x64x256, .f32⟩
  | 86 => ⟨S32x2x4x64x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1, .i32⟩
  | 94 => ⟨S_, .i32⟩
  | 95 => ⟨S_, .i32⟩
  | 96 => ⟨S_, .i32⟩
  | 97 => ⟨S_, .i32⟩
  | 98 => ⟨S_, .i32⟩
  | 99 => ⟨S1x2x4x128x256, .f32⟩
  | 100 => ⟨S2x4x128x256, .f32⟩
  | 101 => ⟨S_, .i32⟩
  | 102 => ⟨S_, .i32⟩
  | 103 => ⟨S_, .i32⟩
  | 104 => ⟨S_, .i32⟩
  | 105 => ⟨S1x2x4x64x128, .f32⟩
  | 106 => ⟨S2x4x64x128, .f32⟩
  | 107 => ⟨S_, .i32⟩
  | 108 => ⟨S_, .i32⟩
  | 109 => ⟨S_, .i32⟩
  | 110 => ⟨S_, .i32⟩
  | 111 => ⟨S1x2x4x64x128, .f32⟩
  | 112 => ⟨S2x4x64x128, .f32⟩
  | 113 => ⟨S_, .i32⟩
  | 114 => ⟨S_, .i32⟩
  | 115 => ⟨S_, .i32⟩
  | 116 => ⟨S_, .i32⟩
  | 117 => ⟨S1x2x4x64x256, .f32⟩
  | 118 => ⟨S2x4x64x256, .f32⟩
  | 119 => ⟨S_, .i32⟩
  | 120 => ⟨S_, .i32⟩
  | 121 => ⟨S_, .i32⟩
  | 122 => ⟨S_, .i32⟩
  | 123 => ⟨S1x2x4x64x128, .f32⟩
  | 124 => ⟨S2x4x64x128, .f32⟩
  | 125 => ⟨S_, .i32⟩
  | 126 => ⟨S_, .i32⟩
  | 127 => ⟨S_, .i32⟩
  | _ => ⟨S2048x3072, .f32⟩

abbrev hbmTy0_1 (i : Nat) : BufTy := match i % 128 with
  | 0 => ⟨S_, .i32⟩
  | 1 => ⟨S1x2x4x64x256, .f32⟩
  | 2 => ⟨S2x4x64x256, .f32⟩
  | 3 => ⟨S_, .f32⟩
  | 4 => ⟨S2x4x64x128, .f32⟩
  | 5 => ⟨S2x4x64x128, .f32⟩
  | 6 => ⟨S2x4x1x64x128, .f32⟩
  | 7 => ⟨S_, .f32⟩
  | 8 => ⟨S_, .f32⟩
  | 9 => ⟨S2x4x64x64x128, .i1⟩
  | 10 => ⟨S2x4x64x64x128, .f32⟩
  | 11 => ⟨S2x4x64x64x128, .f32⟩
  | 12 => ⟨S2x4x64x64x128, .f32⟩
  | 13 => ⟨S_, .f32⟩
  | 14 => ⟨S2x4x64x64x128, .f32⟩
  | 15 => ⟨S_, .f32⟩
  | 16 => ⟨S2x4x64x128, .f32⟩
  | 17 => ⟨S2x4x64x1x128, .f32⟩
  | 18 => ⟨S2x4x1x64x128, .f32⟩
  | 19 => ⟨S2x4x64x64x128, .f32⟩
  | 20 => ⟨S2x4x64x64x128, .f32⟩
  | 21 => ⟨S2x4x64x64x128, .f32⟩
  | 22 => ⟨S_, .f32⟩
  | 23 => ⟨S_, .f32⟩
  | 24 => ⟨S2x4x64x64x128, .i1⟩
  | 25 => ⟨S2x4x64x64x128, .f32⟩
  | 26 => ⟨S2x4x64x64x128, .f32⟩
  | 27 => ⟨S_, .f32⟩
  | 28 => ⟨S2x4x64x64x128, .f32⟩
  | 29 => ⟨S2x4x64x64x128, .f32⟩
  | 30 => ⟨S2x4x64x1x128, .f32⟩
  | 31 => ⟨S2x4x1x64x128, .f32⟩
  | 32 => ⟨S2x4x64x64x128, .f32⟩
  | 33 => ⟨S2x4x64x64x128, .f32⟩
  | 34 => ⟨S2x4x64x64x128, .f32⟩
  | 35 => ⟨S2x4x64x64x128, .f32⟩
  | 36 => ⟨S_, .f32⟩
  | 37 => ⟨S2x4x64x64, .f32⟩
  | 38 => ⟨S2x4x64x128, .f32⟩
  | 39 => ⟨S2x4x64x128, .f32⟩
  | 40 => ⟨S2x4x64x256, .f32⟩
  | 41 => ⟨S2x4x64x256, .f32⟩
  | 42 => ⟨S2x4x64x256, .f32⟩
  | 43 => ⟨S2x4x1x128, .f32⟩
  | 44 => ⟨S2x4x128, .f32⟩
  | 45 => ⟨S2x4x128, .f32⟩
  | 46 => ⟨S2x4x128x1, .f32⟩
  | 47 => ⟨S2x4x128x256, .f32⟩
  | 48 => ⟨S2x4x128x256, .f32⟩
  | 49 => ⟨S2x4x64x128, .f32⟩
  | 50 => ⟨S2x4x64x128, .f32⟩
  | 51 => ⟨S2x4x64x128, .f32⟩
  | 52 => ⟨S2x4x64x128, .f32⟩
  | 53 => ⟨S2x4x128x256, .f32⟩
  | 54 => ⟨S2x4x128x256, .f32⟩
  | 55 => ⟨S2x4x256x64, .f32⟩
  | 56 => ⟨S2x4x64x256, .f32⟩
  | 57 => ⟨S2x4x128x64, .f32⟩
  | 58 => ⟨S2x4x64x128, .f32⟩
  | 59 => ⟨S2x4x64x128, .f32⟩
  | 60 => ⟨S2x4x64x128, .f32⟩
  | 61 => ⟨S2x4x64x128, .f32⟩
  | 62 => ⟨S_, .f32⟩
  | 63 => ⟨S2x4x128, .f32⟩
  | 64 => ⟨S2x4x1x128, .f32⟩
  | 65 => ⟨S2x4x64x128, .f32⟩
  | 66 => ⟨S2x4x128x256, .f32⟩
  | 67 => ⟨S2x4x128x256, .f32⟩
  | 68 => ⟨S2x4x128x256, .f32⟩
  | 69 => ⟨S_, .f32⟩
  | 70 => ⟨S2x4x128, .f32⟩
  | 71 => ⟨S2x4x128x1, .f32⟩
  | 72 => ⟨S_, .f32⟩
  | 73 => ⟨S2x4x128, .f32⟩
  | 74 => ⟨S2x4x128, .f32⟩
  | 75 => ⟨S2x4x1x128, .f32⟩
  | 76 => ⟨S2x4x1x128, .f32⟩
  | 77 => ⟨S_, .f32⟩
  | 78 => ⟨S2x4x64x128, .f32⟩
  | 79 => ⟨S2x4x64x128, .f32⟩
  | 80 => ⟨S2x4x256x64, .f32⟩
  | 81 => ⟨S2x4x64x256, .f32⟩
  | 82 => ⟨S2x4x64x256, .f32⟩
  | 83 => ⟨S2x4x64x64, .f32⟩
  | 84 => ⟨S2x4x256x128, .f32⟩
  | 85 => ⟨S2x4x128x256, .f32⟩
  | 86 => ⟨S2x4x128x256, .f32⟩
  | 87 => ⟨S2x4x64x128, .f32⟩
  | 88 => ⟨S2x4x64x128, .f32⟩
  | 89 => ⟨S2x4x64x128, .f32⟩
  | 90 => ⟨S2x4x64x128, .f32⟩
  | 91 => ⟨S2x4x64x128, .f32⟩
  | 92 => ⟨S2x4x64x64x128, .f32⟩
  | 93 => ⟨S2x4x64x64x128, .f32⟩
  | 94 => ⟨S2x4x64x64x128, .f32⟩
  | 95 => ⟨S2x4x64x64x128, .f32⟩
  | 96 => ⟨S2x4x64x64x128, .f32⟩
  | 97 => ⟨S_, .f32⟩
  | 98 => ⟨S2x4x64x128, .f32⟩
  | 99 => ⟨S2x4x1x64x128, .f32⟩
  | 100 => ⟨S2x4x64x64x128, .f32⟩
  | 101 => ⟨S2x4x64x64x128, .f32⟩
  | 102 => ⟨S_, .f32⟩
  | 103 => ⟨S2x4x64x128, .f32⟩
  | 104 => ⟨S2x4x64x1x128, .f32⟩
  | 105 => ⟨S_, .f32⟩
  | 106 => ⟨S2x4x64x128, .f32⟩
  | 107 => ⟨S2x4x64x128, .f32⟩
  | 108 => ⟨S_, .f32⟩
  | 109 => ⟨S2x4x64x128, .f32⟩
  | 110 => ⟨S2x4x64x128, .f32⟩
  | 111 => ⟨S2x4x64x64x128, .f32⟩
  | 112 => ⟨S_, .f32⟩
  | 113 => ⟨S2x4x64x64x128, .f32⟩
  | 114 => ⟨S2x4x64x64x128, .f32⟩
  | 115 => ⟨S_, .f32⟩
  | 116 => ⟨S2x4x64x128, .f32⟩
  | 117 => ⟨S2x4x64x1x128, .f32⟩
  | 118 => ⟨S2x4x64x64x128, .f32⟩
  | 119 => ⟨S_, .f32⟩
  | 120 => ⟨S2x4x64x128, .f32⟩
  | 121 => ⟨S2x4x1x64x128, .f32⟩
  | 122 => ⟨S_, .f32⟩
  | 123 => ⟨S2x4x64x128, .f32⟩
  | 124 => ⟨S2x4x64x128, .f32⟩
  | 125 => ⟨S_, .f32⟩
  | 126 => ⟨S2x4x64x128, .f32⟩
  | 127 => ⟨S2x4x64x128, .f32⟩
  | _ => ⟨S2048x3072, .f32⟩

abbrev hbmTy0_2 (i : Nat) : BufTy := match i % 128 with
  | 0 => ⟨S2x4x64x64x128, .f32⟩
  | 1 => ⟨S_, .f32⟩
  | 2 => ⟨S2x4x64x64x128, .f32⟩
  | 3 => ⟨S2x4x64x64x128, .f32⟩
  | 4 => ⟨S_, .f32⟩
  | 5 => ⟨S2x4x64x128, .f32⟩
  | 6 => ⟨S2x4x1x64x128, .f32⟩
  | 7 => ⟨S_, .f32⟩
  | 8 => ⟨S2x4x64x128, .f32⟩
  | 9 => ⟨S_, .f32⟩
  | 10 => ⟨S2x4x64x128, .f32⟩
  | 11 => ⟨S2x4x64x128, .f32⟩
  | 12 => ⟨S32, .i32⟩
  | 13 => ⟨S32, .i32⟩
  | 14 => ⟨S32, .i1⟩
  | 15 => ⟨S32x1x1x1x1, .i1⟩
  | 16 => ⟨S1x2x4x64x128, .f32⟩
  | 17 => ⟨S_, .f32⟩
  | 18 => ⟨S_, .f32⟩
  | 19 => ⟨S32x2x4x64x128, .i1⟩
  | 20 => ⟨S32x2x4x64x128, .f32⟩
  | 21 => ⟨S32x2x4x64x128, .f32⟩
  | 22 => ⟨S32x2x4x64x128, .f32⟩
  | 23 => ⟨S32x2x4x64x128, .f32⟩
  | 24 => ⟨S1x2x4x64x128, .f32⟩
  | 25 => ⟨S_, .f32⟩
  | 26 => ⟨S_, .f32⟩
  | 27 => ⟨S32x2x4x64x128, .i1⟩
  | 28 => ⟨S32x2x4x64x128, .f32⟩
  | 29 => ⟨S32x2x4x64x128, .f32⟩
  | 30 => ⟨S32x2x4x64x128, .f32⟩
  | 31 => ⟨S32x2x4x64x128, .f32⟩
  | 32 => ⟨S1x2x4x64x256, .f32⟩
  | 33 => ⟨S_, .f32⟩
  | 34 => ⟨S_, .f32⟩
  | 35 => ⟨S32x2x4x64x256, .i1⟩
  | 36 => ⟨S32x2x4x64x256, .f32⟩
  | 37 => ⟨S32x2x4x64x256, .f32⟩
  | 38 => ⟨S32x2x4x64x256, .f32⟩
  | 39 => ⟨S32x2x4x64x256, .f32⟩
  | 40 => ⟨S1x2x4x64x128, .f32⟩
  | 41 => ⟨S_, .f32⟩
  | 42 => ⟨S_, .f32⟩
  | 43 => ⟨S32x2x4x64x128, .i1⟩
  | 44 => ⟨S32x2x4x64x128, .f32⟩
  | 45 => ⟨S32x2x4x64x128, .f32⟩
  | 46 => ⟨S32x2x4x64x128, .f32⟩
  | 47 => ⟨S32x2x4x64x128, .f32⟩
  | 48 => ⟨S_, .i32⟩
  | 49 => ⟨S_, .i32⟩
  | 50 => ⟨S2x4x32x64x128, .f32⟩
  | 51 => ⟨S2x4x2048x128, .f32⟩
  | 52 => ⟨S1x4x2048x128, .f32⟩
  | 53 => ⟨S1x4x2048x128, .f32⟩
  | 54 => ⟨S1x4x2048x128, .f32⟩
  | 55 => ⟨S2x4x2048x128, .f32⟩
  | 56 => ⟨S2x2048x4x128, .f32⟩
  | 57 => ⟨S2x2048x512, .f32⟩
  | 58 => ⟨S2x4x32x64x128, .f32⟩
  | 59 => ⟨S2x4x2048x128, .f32⟩
  | 60 => ⟨S1x4x2048x128, .f32⟩
  | 61 => ⟨S1x4x2048x128, .f32⟩
  | 62 => ⟨S1x4x2048x128, .f32⟩
  | 63 => ⟨S2x4x2048x128, .f32⟩
  | 64 => ⟨S2x2048x4x128, .f32⟩
  | 65 => ⟨S2x2048x512, .f32⟩
  | 66 => ⟨S2x4x32x64x256, .f32⟩
  | 67 => ⟨S2x4x2048x256, .f32⟩
  | 68 => ⟨S1x4x2048x256, .f32⟩
  | 69 => ⟨S1x4x2048x256, .f32⟩
  | 70 => ⟨S1x4x2048x256, .f32⟩
  | 71 => ⟨S2x4x2048x256, .f32⟩
  | 72 => ⟨S2x2048x4x256, .f32⟩
  | 73 => ⟨S2x2048x1024, .f32⟩
  | 74 => ⟨S2x4x32x64x128, .f32⟩
  | 75 => ⟨S2x4x2048x128, .f32⟩
  | 76 => ⟨S1x4x2048x128, .f32⟩
  | 77 => ⟨S1x4x2048x128, .f32⟩
  | 78 => ⟨S1x4x2048x128, .f32⟩
  | 79 => ⟨S2x4x2048x128, .f32⟩
  | 80 => ⟨S2x2048x4x128, .f32⟩
  | 81 => ⟨S2x2048x512, .f32⟩
  | _ => ⟨S2048x3072, .f32⟩

abbrev hbmTy (i : Nat) : BufTy := match i / 128 with
  | 0 => hbmTy0_0 i
  | 1 => hbmTy0_1 i
  | 2 => hbmTy0_2 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_c : Ref sig .tc := ⟨.hbm, 39, rfl⟩
abbrev main_v35 : Ref sig .tc := ⟨.hbm, 40, rfl⟩
abbrev main_call6_v0 : Ref sig .tc := ⟨.hbm, 41, rfl⟩
abbrev main_call6_c : Ref sig .tc := ⟨.hbm, 42, rfl⟩
abbrev main_call6_v1 : Ref sig .tc := ⟨.hbm, 43, rfl⟩
abbrev main_call6_v2 : Ref sig .tc := ⟨.hbm, 44, rfl⟩
abbrev main_call6_v3 : Ref sig .tc := ⟨.hbm, 45, rfl⟩
abbrev main_call6_v4 : Ref sig .tc := ⟨.hbm, 46, rfl⟩
abbrev main_call6_c_0 : Ref sig .tc := ⟨.hbm, 47, rfl⟩
abbrev main_call6_v5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst : Ref sig .tc := ⟨.hbm, 61, rfl⟩
abbrev main_v48 : Ref sig .tc := ⟨.hbm, 62, rfl⟩
abbrev main_cst_0 : Ref sig .tc := ⟨.hbm, 63, rfl⟩
abbrev main_v49 : Ref sig .tc := ⟨.hbm, 64, rfl⟩
abbrev main_cst_1 : Ref sig .tc := ⟨.hbm, 65, rfl⟩
abbrev main_v50 : Ref sig .tc := ⟨.hbm, 66, rfl⟩
abbrev main_cst_2 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_c_4 : Ref sig .tc := ⟨.hbm, 72, rfl⟩
abbrev main_v54_0 : Ref sig .tc := ⟨.hbm, 73, rfl⟩
abbrev main_v54_1 : Ref sig .tc := ⟨.hbm, 74, rfl⟩
abbrev main_v54_2 : Ref sig .tc := ⟨.hbm, 75, rfl⟩
abbrev main_v54_3 : Ref sig .tc := ⟨.hbm, 76, rfl⟩
abbrev main_v54_4 : Ref sig .tc := ⟨.hbm, 77, rfl⟩
abbrev main_v54_5 : Ref sig .tc := ⟨.hbm, 78, rfl⟩
abbrev main_v54_6 : Ref sig .tc := ⟨.hbm, 79, rfl⟩
abbrev main_v54_7 : Ref sig .tc := ⟨.hbm, 80, rfl⟩
abbrev main_v54_8 : Ref sig .tc := ⟨.hbm, 81, rfl⟩
abbrev main_v54_9 : Ref sig .tc := ⟨.hbm, 82, rfl⟩
abbrev main_v54_10 : Ref sig .tc := ⟨.hbm, 83, rfl⟩
abbrev main_v54_11 : Ref sig .tc := ⟨.hbm, 84, rfl⟩
abbrev main_v54_12 : Ref sig .tc := ⟨.hbm, 85, rfl⟩
abbrev main_v54_13 : Ref sig .tc := ⟨.hbm, 86, rfl⟩
abbrev main_while0c_c_18 : Ref sig .tc := ⟨.hbm, 87, rfl⟩
abbrev main_while0c_v87 : Ref sig .tc := ⟨.hbm, 88, rfl⟩
abbrev main_while0b_c_18 : Ref sig .tc := ⟨.hbm, 89, rfl⟩
abbrev main_while0b_v87 : Ref sig .tc := ⟨.hbm, 90, rfl⟩
abbrev main_while0b_c_19 : Ref sig .tc := ⟨.hbm, 91, rfl⟩
abbrev main_while0b_v88 : Ref sig .tc := ⟨.hbm, 92, rfl⟩
abbrev main_while0b_call7_v0 : Ref sig .tc := ⟨.hbm, 93, rfl⟩
abbrev main_while0b_v89 : Ref sig .tc := ⟨.hbm, 94, rfl⟩
abbrev main_while0b_call8_c : Ref sig .tc := ⟨.hbm, 95, rfl⟩
abbrev main_while0b_call8_c_0 : Ref sig .tc := ⟨.hbm, 96, rfl⟩
abbrev main_while0b_call8_c_1 : Ref sig .tc := ⟨.hbm, 97, rfl⟩
abbrev main_while0b_call8_c_2 : Ref sig .tc := ⟨.hbm, 98, rfl⟩
abbrev main_while0b_call8_v0 : Ref sig .tc := ⟨.hbm, 99, rfl⟩
abbrev main_while0b_v90 : Ref sig .tc := ⟨.hbm, 100, rfl⟩
abbrev main_while0b_call9_c : Ref sig .tc := ⟨.hbm, 101, rfl⟩
abbrev main_while0b_call9_c_0 : Ref sig .tc := ⟨.hbm, 102, rfl⟩
abbrev main_while0b_call9_c_1 : Ref sig .tc := ⟨.hbm, 103, rfl⟩
abbrev main_while0b_call9_c_2 : Ref sig .tc := ⟨.hbm, 104, rfl⟩
abbrev main_while0b_call9_v0 : Ref sig .tc := ⟨.hbm, 105, rfl⟩
abbrev main_while0b_v91 : Ref sig .tc := ⟨.hbm, 106, rfl⟩
abbrev main_while0b_call10_c : Ref sig .tc := ⟨.hbm, 107, rfl⟩
abbrev main_while0b_call10_c_0 : Ref sig .tc := ⟨.hbm, 108, rfl⟩
abbrev main_while0b_call10_c_1 : Ref sig .tc := ⟨.hbm, 109, rfl⟩
abbrev main_while0b_call10_c_2 : Ref sig .tc := ⟨.hbm, 110, rfl⟩
abbrev main_while0b_call10_v0 : Ref sig .tc := ⟨.hbm, 111, rfl⟩
abbrev main_while0b_v92 : Ref sig .tc := ⟨.hbm, 112, rfl⟩
abbrev main_while0b_call11_c : Ref sig .tc := ⟨.hbm, 113, rfl⟩
abbrev main_while0b_call11_c_0 : Ref sig .tc := ⟨.hbm, 114, rfl⟩
abbrev main_while0b_call11_c_1 : Ref sig .tc := ⟨.hbm, 115, rfl⟩
abbrev main_while0b_call11_c_2 : Ref sig .tc := ⟨.hbm, 116, rfl⟩
abbrev main_while0b_call11_v0 : Ref sig .tc := ⟨.hbm, 117, rfl⟩
abbrev main_while0b_v93 : Ref sig .tc := ⟨.hbm, 118, rfl⟩
abbrev main_while0b_call12_c : Ref sig .tc := ⟨.hbm, 119, rfl⟩
abbrev main_while0b_call12_c_0 : Ref sig .tc := ⟨.hbm, 120, rfl⟩
abbrev main_while0b_call12_c_1 : Ref sig .tc := ⟨.hbm, 121, rfl⟩
abbrev main_while0b_call12_c_2 : Ref sig .tc := ⟨.hbm, 122, rfl⟩
abbrev main_while0b_call12_v0 : Ref sig .tc := ⟨.hbm, 123, rfl⟩
abbrev main_while0b_v94 : Ref sig .tc := ⟨.hbm, 124, rfl⟩
abbrev main_while0b_call13_c : Ref sig .tc := ⟨.hbm, 125, rfl⟩
abbrev main_while0b_call13_c_0 : Ref sig .tc := ⟨.hbm, 126, rfl⟩
abbrev main_while0b_call13_c_1 : Ref sig .tc := ⟨.hbm, 127, rfl⟩
abbrev main_while0b_call13_c_2 : Ref sig .tc := ⟨.hbm, 128, rfl⟩
abbrev main_while0b_call13_v0 : Ref sig .tc := ⟨.hbm, 129, rfl⟩
abbrev main_while0b_v95 : Ref sig .tc := ⟨.hbm, 130, rfl⟩
abbrev main_while0b_cst_20 : Ref sig .tc := ⟨.hbm, 131, rfl⟩
abbrev main_while0b_v96 : Ref sig .tc := ⟨.hbm, 132, rfl⟩
abbrev main_while0b_v97 : Ref sig .tc := ⟨.hbm, 133, rfl⟩
abbrev main_while0b_v98 : Ref sig .tc := ⟨.hbm, 134, rfl⟩
abbrev main_while0b_cst_21 : Ref sig .tc := ⟨.hbm, 135, rfl⟩
abbrev main_while0b_call14_v0 : Ref sig .tc := ⟨.hbm, 136, rfl⟩
abbrev main_while0b_v99_1 : Ref sig .tc := ⟨.hbm, 137, rfl⟩
abbrev main_while0b_call14_v2 : Ref sig .tc := ⟨.hbm, 138, rfl⟩
abbrev main_while0b_call14_v3 : Ref sig .tc := ⟨.hbm, 139, rfl⟩
abbrev main_while0b_v99_0 : Ref sig .tc := ⟨.hbm, 140, rfl⟩
abbrev main_while0b_call14_cst : Ref sig .tc := ⟨.hbm, 141, rfl⟩
abbrev main_while0b_v99_2 : Ref sig .tc := ⟨.hbm, 142, rfl⟩
abbrev main_while0b_cst_22 : Ref sig .tc := ⟨.hbm, 143, rfl⟩
abbrev main_while0b_v100 : Ref sig .tc := ⟨.hbm, 144, rfl⟩
abbrev main_while0b_v101 : Ref sig .tc := ⟨.hbm, 145, rfl⟩
abbrev main_while0b_v102 : Ref sig .tc := ⟨.hbm, 146, rfl⟩
abbrev main_while0b_v103 : Ref sig .tc := ⟨.hbm, 147, rfl⟩
abbrev main_while0b_v104 : Ref sig .tc := ⟨.hbm, 148, rfl⟩
abbrev main_while0b_v105 : Ref sig .tc := ⟨.hbm, 149, rfl⟩
abbrev main_while0b_cst_23 : Ref sig .tc := ⟨.hbm, 150, rfl⟩
abbrev main_while0b_call15_v0 : Ref sig .tc := ⟨.hbm, 151, rfl⟩
abbrev main_while0b_v106_1 : Ref sig .tc := ⟨.hbm, 152, rfl⟩
abbrev main_while0b_call15_v2 : Ref sig .tc := ⟨.hbm, 153, rfl⟩
abbrev main_while0b_v106_0 : Ref sig .tc := ⟨.hbm, 154, rfl⟩
abbrev main_while0b_call15_cst : Ref sig .tc := ⟨.hbm, 155, rfl⟩
abbrev main_while0b_v106_2 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_cst_24 : Ref sig .tc := ⟨.hbm, 164, rfl⟩
abbrev main_while0b_v114 : Ref sig .tc := ⟨.hbm, 165, rfl⟩
abbrev main_while0b_v115 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_v122 : Ref sig .tc := ⟨.hbm, 173, rfl⟩
abbrev main_while0b_v123 : Ref sig .tc := ⟨.hbm, 174, rfl⟩
abbrev main_while0b_v124 : Ref sig .tc := ⟨.hbm, 175, rfl⟩
abbrev main_while0b_v125 : Ref sig .tc := ⟨.hbm, 176, rfl⟩
abbrev main_while0b_v126 : Ref sig .tc := ⟨.hbm, 177, rfl⟩
abbrev main_while0b_v127 : Ref sig .tc := ⟨.hbm, 178, rfl⟩
abbrev main_while0b_v128 : Ref sig .tc := ⟨.hbm, 179, rfl⟩
abbrev main_while0b_v129 : Ref sig .tc := ⟨.hbm, 180, rfl⟩
abbrev main_while0b_v130 : Ref sig .tc := ⟨.hbm, 181, rfl⟩
abbrev main_while0b_v131 : Ref sig .tc := ⟨.hbm, 182, rfl⟩
abbrev main_while0b_v132 : Ref sig .tc := ⟨.hbm, 183, rfl⟩
abbrev main_while0b_v133 : Ref sig .tc := ⟨.hbm, 184, rfl⟩
abbrev main_while0b_v134 : Ref sig .tc := ⟨.hbm, 185, rfl⟩
abbrev main_while0b_v135 : Ref sig .tc := ⟨.hbm, 186, rfl⟩
abbrev main_while0b_v136 : Ref sig .tc := ⟨.hbm, 187, rfl⟩
abbrev main_while0b_v137 : Ref sig .tc := ⟨.hbm, 188, rfl⟩
abbrev main_while0b_v138 : Ref sig .tc := ⟨.hbm, 189, rfl⟩
abbrev main_while0b_cst_25 : Ref sig .tc := ⟨.hbm, 190, rfl⟩
abbrev main_while0b_v139 : Ref sig .tc := ⟨.hbm, 191, rfl⟩
abbrev main_while0b_v140 : Ref sig .tc := ⟨.hbm, 192, rfl⟩
abbrev main_while0b_v141 : Ref sig .tc := ⟨.hbm, 193, rfl⟩
abbrev main_while0b_v142 : Ref sig .tc := ⟨.hbm, 194, rfl⟩
abbrev main_while0b_v143 : Ref sig .tc := ⟨.hbm, 195, rfl⟩
abbrev main_while0b_v144 : Ref sig .tc := ⟨.hbm, 196, rfl⟩
abbrev main_while0b_cst_26 : Ref sig .tc := ⟨.hbm, 197, rfl⟩
abbrev main_while0b_v145 : Ref sig .tc := ⟨.hbm, 198, rfl⟩
abbrev main_while0b_v146 : Ref sig .tc := ⟨.hbm, 199, rfl⟩
abbrev main_while0b_cst_27 : Ref sig .tc := ⟨.hbm, 200, rfl⟩
abbrev main_while0b_v147 : Ref sig .tc := ⟨.hbm, 201, rfl⟩
abbrev main_while0b_v148 : Ref sig .tc := ⟨.hbm, 202, rfl⟩
abbrev main_while0b_v149 : Ref sig .tc := ⟨.hbm, 203, rfl⟩
abbrev main_while0b_v150 : Ref sig .tc := ⟨.hbm, 204, rfl⟩
abbrev main_while0b_cst_28 : Ref sig .tc := ⟨.hbm, 205, rfl⟩
abbrev main_while0b_v151 : Ref sig .tc := ⟨.hbm, 206, rfl⟩
abbrev main_while0b_v152 : Ref sig .tc := ⟨.hbm, 207, rfl⟩
abbrev main_while0b_v153 : Ref sig .tc := ⟨.hbm, 208, rfl⟩
abbrev main_while0b_v154 : Ref sig .tc := ⟨.hbm, 209, rfl⟩
abbrev main_while0b_v155 : Ref sig .tc := ⟨.hbm, 210, rfl⟩
abbrev main_while0b_v156 : Ref sig .tc := ⟨.hbm, 211, rfl⟩
abbrev main_while0b_v157 : Ref sig .tc := ⟨.hbm, 212, rfl⟩
abbrev main_while0b_v158 : Ref sig .tc := ⟨.hbm, 213, rfl⟩
abbrev main_while0b_v159 : Ref sig .tc := ⟨.hbm, 214, rfl⟩
abbrev main_while0b_v160 : Ref sig .tc := ⟨.hbm, 215, rfl⟩
abbrev main_while0b_v161 : Ref sig .tc := ⟨.hbm, 216, rfl⟩
abbrev main_while0b_v162 : Ref sig .tc := ⟨.hbm, 217, rfl⟩
abbrev main_while0b_v163 : Ref sig .tc := ⟨.hbm, 218, rfl⟩
abbrev main_while0b_v164 : Ref sig .tc := ⟨.hbm, 219, rfl⟩
abbrev main_while0b_v165 : Ref sig .tc := ⟨.hbm, 220, rfl⟩
abbrev main_while0b_v166 : Ref sig .tc := ⟨.hbm, 221, rfl⟩
abbrev main_while0b_v167 : Ref sig .tc := ⟨.hbm, 222, rfl⟩
abbrev main_while0b_v168 : Ref sig .tc := ⟨.hbm, 223, rfl⟩
abbrev main_while0b_v169 : Ref sig .tc := ⟨.hbm, 224, rfl⟩
abbrev main_while0b_cst_29 : Ref sig .tc := ⟨.hbm, 225, rfl⟩
abbrev main_while0b_v170 : Ref sig .tc := ⟨.hbm, 226, rfl⟩
abbrev main_while0b_v171 : Ref sig .tc := ⟨.hbm, 227, rfl⟩
abbrev main_while0b_v172 : Ref sig .tc := ⟨.hbm, 228, rfl⟩
abbrev main_while0b_v173 : Ref sig .tc := ⟨.hbm, 229, rfl⟩
abbrev main_while0b_cst_30 : Ref sig .tc := ⟨.hbm, 230, rfl⟩
abbrev main_while0b_v174 : Ref sig .tc := ⟨.hbm, 231, rfl⟩
abbrev main_while0b_v175 : Ref sig .tc := ⟨.hbm, 232, rfl⟩
abbrev main_while0b_cst_31 : Ref sig .tc := ⟨.hbm, 233, rfl⟩
abbrev main_while0b_v176 : Ref sig .tc := ⟨.hbm, 234, rfl⟩
abbrev main_while0b_v177 : Ref sig .tc := ⟨.hbm, 235, rfl⟩
abbrev main_while0b_cst_32 : Ref sig .tc := ⟨.hbm, 236, rfl⟩
abbrev main_while0b_v178 : Ref sig .tc := ⟨.hbm, 237, rfl⟩
abbrev main_while0b_v179 : Ref sig .tc := ⟨.hbm, 238, rfl⟩
abbrev main_while0b_v180 : Ref sig .tc := ⟨.hbm, 239, rfl⟩
abbrev main_while0b_call16_cst : Ref sig .tc := ⟨.hbm, 240, rfl⟩
abbrev main_while0b_call16_v0 : Ref sig .tc := ⟨.hbm, 241, rfl⟩
abbrev main_while0b_v181 : Ref sig .tc := ⟨.hbm, 242, rfl⟩
abbrev main_while0b_cst_33 : Ref sig .tc := ⟨.hbm, 243, rfl⟩
abbrev main_while0b_v182 : Ref sig .tc := ⟨.hbm, 244, rfl⟩
abbrev main_while0b_v183 : Ref sig .tc := ⟨.hbm, 245, rfl⟩
abbrev main_while0b_v184 : Ref sig .tc := ⟨.hbm, 246, rfl⟩
abbrev main_while0b_cst_34 : Ref sig .tc := ⟨.hbm, 247, rfl⟩
abbrev main_while0b_v185 : Ref sig .tc := ⟨.hbm, 248, rfl⟩
abbrev main_while0b_v186 : Ref sig .tc := ⟨.hbm, 249, rfl⟩
abbrev main_while0b_cst_35 : Ref sig .tc := ⟨.hbm, 250, rfl⟩
abbrev main_while0b_v187 : Ref sig .tc := ⟨.hbm, 251, rfl⟩
abbrev main_while0b_v188 : Ref sig .tc := ⟨.hbm, 252, rfl⟩
abbrev main_while0b_cst_36 : Ref sig .tc := ⟨.hbm, 253, rfl⟩
abbrev main_while0b_v189 : Ref sig .tc := ⟨.hbm, 254, rfl⟩
abbrev main_while0b_v190 : Ref sig .tc := ⟨.hbm, 255, rfl⟩
abbrev main_while0b_v191 : Ref sig .tc := ⟨.hbm, 256, rfl⟩
abbrev main_while0b_call17_cst : Ref sig .tc := ⟨.hbm, 257, rfl⟩
abbrev main_while0b_call17_v0 : Ref sig .tc := ⟨.hbm, 258, rfl⟩
abbrev main_while0b_call17_v1 : Ref sig .tc := ⟨.hbm, 259, rfl⟩
abbrev main_while0b_call17_cst_0 : Ref sig .tc := ⟨.hbm, 260, rfl⟩
abbrev main_while0b_call17_v2 : Ref sig .tc := ⟨.hbm, 261, rfl⟩
abbrev main_while0b_v192 : Ref sig .tc := ⟨.hbm, 262, rfl⟩
abbrev main_while0b_cst_37 : Ref sig .tc := ⟨.hbm, 263, rfl⟩
abbrev main_while0b_v193 : Ref sig .tc := ⟨.hbm, 264, rfl⟩
abbrev main_while0b_cst_38 : Ref sig .tc := ⟨.hbm, 265, rfl⟩
abbrev main_while0b_v194 : Ref sig .tc := ⟨.hbm, 266, rfl⟩
abbrev main_while0b_v195 : Ref sig .tc := ⟨.hbm, 267, rfl⟩
abbrev main_while0b_v196 : Ref sig .tc := ⟨.hbm, 268, rfl⟩
abbrev main_while0b_v197 : Ref sig .tc := ⟨.hbm, 269, rfl⟩
abbrev main_while0b_v198 : Ref sig .tc := ⟨.hbm, 270, rfl⟩
abbrev main_while0b_v199 : Ref sig .tc := ⟨.hbm, 271, rfl⟩
abbrev main_while0b_v200 : Ref sig .tc := ⟨.hbm, 272, rfl⟩
abbrev main_while0b_cst_39 : Ref sig .tc := ⟨.hbm, 273, rfl⟩
abbrev main_while0b_call18_v0 : Ref sig .tc := ⟨.hbm, 274, rfl⟩
abbrev main_while0b_call18_v1 : Ref sig .tc := ⟨.hbm, 275, rfl⟩
abbrev main_while0b_call18_v2 : Ref sig .tc := ⟨.hbm, 276, rfl⟩
abbrev main_while0b_call18_v3 : Ref sig .tc := ⟨.hbm, 277, rfl⟩
abbrev main_while0b_v201 : Ref sig .tc := ⟨.hbm, 278, rfl⟩
abbrev main_while0b_v202 : Ref sig .tc := ⟨.hbm, 279, rfl⟩
abbrev main_while0b_v203 : Ref sig .tc := ⟨.hbm, 280, rfl⟩
abbrev main_while0b_cst_40 : Ref sig .tc := ⟨.hbm, 281, rfl⟩
abbrev main_while0b_call19_v0 : Ref sig .tc := ⟨.hbm, 282, rfl⟩
abbrev main_while0b_call19_v1 : Ref sig .tc := ⟨.hbm, 283, rfl⟩
abbrev main_while0b_call19_v2 : Ref sig .tc := ⟨.hbm, 284, rfl⟩
abbrev main_while0b_call19_v3 : Ref sig .tc := ⟨.hbm, 285, rfl⟩
abbrev main_while0b_v204 : Ref sig .tc := ⟨.hbm, 286, rfl⟩
abbrev main_while0b_v205 : Ref sig .tc := ⟨.hbm, 287, rfl⟩
abbrev main_while0b_v206 : Ref sig .tc := ⟨.hbm, 288, rfl⟩
abbrev main_while0b_cst_41 : Ref sig .tc := ⟨.hbm, 289, rfl⟩
abbrev main_while0b_call20_v0 : Ref sig .tc := ⟨.hbm, 290, rfl⟩
abbrev main_while0b_call20_v1 : Ref sig .tc := ⟨.hbm, 291, rfl⟩
abbrev main_while0b_call20_v2 : Ref sig .tc := ⟨.hbm, 292, rfl⟩
abbrev main_while0b_call20_v3 : Ref sig .tc := ⟨.hbm, 293, rfl⟩
abbrev main_while0b_v207 : Ref sig .tc := ⟨.hbm, 294, rfl⟩
abbrev main_while0b_v208 : Ref sig .tc := ⟨.hbm, 295, rfl⟩
abbrev main_while0b_v209 : Ref sig .tc := ⟨.hbm, 296, rfl⟩
abbrev main_while0b_cst_42 : Ref sig .tc := ⟨.hbm, 297, rfl⟩
abbrev main_while0b_call21_v0 : Ref sig .tc := ⟨.hbm, 298, rfl⟩
abbrev main_while0b_call21_v1 : Ref sig .tc := ⟨.hbm, 299, rfl⟩
abbrev main_while0b_call21_v2 : Ref sig .tc := ⟨.hbm, 300, rfl⟩
abbrev main_while0b_call21_v3 : Ref sig .tc := ⟨.hbm, 301, rfl⟩
abbrev main_while0b_v210 : Ref sig .tc := ⟨.hbm, 302, rfl⟩
abbrev main_while0b_v211 : Ref sig .tc := ⟨.hbm, 303, rfl⟩
abbrev main_while0b_c_43 : Ref sig .tc := ⟨.hbm, 304, rfl⟩
abbrev main_while0b_v212 : Ref sig .tc := ⟨.hbm, 305, rfl⟩
abbrev main_v55 : Ref sig .tc := ⟨.hbm, 306, rfl⟩
abbrev main_v56 : Ref sig .tc := ⟨.hbm, 307, rfl⟩
abbrev main_v57 : Ref sig .tc := ⟨.hbm, 308, rfl⟩
abbrev main_v58 : Ref sig .tc := ⟨.hbm, 309, rfl⟩
abbrev main_v59 : Ref sig .tc := ⟨.hbm, 310, rfl⟩
abbrev main_v60 : Ref sig .tc := ⟨.hbm, 311, rfl⟩
abbrev main_v61 : Ref sig .tc := ⟨.hbm, 312, rfl⟩
abbrev main_v62 : Ref sig .tc := ⟨.hbm, 313, rfl⟩
abbrev main_v63 : Ref sig .tc := ⟨.hbm, 314, rfl⟩
abbrev main_v64 : Ref sig .tc := ⟨.hbm, 315, rfl⟩
abbrev main_v65 : Ref sig .tc := ⟨.hbm, 316, rfl⟩
abbrev main_v66 : Ref sig .tc := ⟨.hbm, 317, rfl⟩
abbrev main_v67 : Ref sig .tc := ⟨.hbm, 318, rfl⟩
abbrev main_v68 : Ref sig .tc := ⟨.hbm, 319, rfl⟩
abbrev main_v69 : Ref sig .tc := ⟨.hbm, 320, rfl⟩
abbrev main_v70 : Ref sig .tc := ⟨.hbm, 321, rfl⟩
abbrev main_v71 : Ref sig .tc := ⟨.hbm, 322, rfl⟩
abbrev main_v72 : Ref sig .tc := ⟨.hbm, 323, rfl⟩
abbrev main_v73 : Ref sig .tc := ⟨.hbm, 324, rfl⟩
abbrev main_v74 : Ref sig .tc := ⟨.hbm, 325, rfl⟩
abbrev main_v75 : Ref sig .tc := ⟨.hbm, 326, rfl⟩
abbrev main_v76 : Ref sig .tc := ⟨.hbm, 327, rfl⟩
abbrev main_v77 : Ref sig .tc := ⟨.hbm, 328, rfl⟩
abbrev main_v78 : Ref sig .tc := ⟨.hbm, 329, rfl⟩
abbrev main_v79 : Ref sig .tc := ⟨.hbm, 330, rfl⟩
abbrev main_v80 : Ref sig .tc := ⟨.hbm, 331, rfl⟩
abbrev main_v81 : Ref sig .tc := ⟨.hbm, 332, rfl⟩
abbrev main_v82 : Ref sig .tc := ⟨.hbm, 333, rfl⟩
abbrev main_v83 : Ref sig .tc := ⟨.hbm, 334, rfl⟩
abbrev main_v84 : Ref sig .tc := ⟨.hbm, 335, rfl⟩
abbrev main_v85 : Ref sig .tc := ⟨.hbm, 336, rfl⟩
abbrev main_v86 : Ref sig .tc := ⟨.hbm, 337, rfl⟩

abbrev nD : Nat := 1
abbrev τ : Topo := Topo.v7x

variable {F : FTy → Type} [FloatOps F]

abbrev main_while0_count : Scf.Loop 32 := ⟨0#32, 32#32, 1#32⟩
-- ==== KernelDh.lean ====
abbrev S2048x4096 : Shape := ⟨2, ![2048, 4096]⟩
abbrev S4096x1024 : Shape := ⟨2, ![4096, 1024]⟩
abbrev S2048x1024 : Shape := ⟨2, ![2048, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S4x1024x1024, .f32⟩
  | .hbm, ⟨4, _⟩ => ⟨S4x1024x1024, .bf16⟩
  | .hbm, ⟨5, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def k0_cond3 (i : grid0.Coords) : BitVec 1 :=
  let arg2 : BitVec 32 := BitVec.ofNat 32 (i 2).val
  let c0_i32_7 : BitVec 32 := 0#32
  let v11 : BitVec 1 := Scalar.cmpi .eq arg2 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDhIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x1024, .f32⟩
  | .hbm, ⟨13, _⟩ => ⟨S1024x4096, .f32⟩
  | .hbm, ⟨14, _⟩ => ⟨S4096x1024, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== KernelDw2.lean ====
abbrev S2048x4096 : Shape := ⟨2, ![2048, 4096]⟩
abbrev S2048x1024 : Shape := ⟨2, ![2048, 1024]⟩
abbrev S_ : Shape := ⟨0, ![]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceDw2Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .i1⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x1024, .f32⟩
  | .hbm, ⟨14, _⟩ => ⟨S1024x4096, .f32⟩
  | .hbm, ⟨15, _⟩ => ⟨S4096x1024, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S4x1024x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== KernelDw1.lean ====
abbrev S2048x1024 : Shape := ⟨2, ![2048, 1024]⟩
abbrev S2048x4096 : Shape := ⟨2, ![2048, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceDw1Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S2048x1024, .f32⟩
  | .hbm, ⟨8, _⟩ => ⟨S1024x4x1024, .f32⟩
  | .hbm, ⟨9, _⟩ => ⟨S4x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDx.lean ====
abbrev S1024x4096 : Shape := ⟨2, ![1024, 4096]⟩
abbrev S2048x4096 : Shape := ⟨2, ![2048, 4096]⟩
abbrev S2048x1024 : Shape := ⟨2, ![2048, 1024]⟩
abbrev S1024x4x1024 : Shape := ⟨3, ![1024, 4, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S2048x1024, .f32⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDxIdeal.lean ====
abbrev S1024x4096 : Shape := ⟨2, ![1024, 4096]⟩
abbrev S2048x4096 : Shape := ⟨2, ![2048, 4096]⟩
abbrev S2048x1024 : Shape := ⟨2, ![2048, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x4096, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== KernelGdnDw.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGdnDwIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGdnDx.lean ====
abbrev S1024x4096 : Shape := ⟨2, ![1024, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S2048x1024, .f32⟩
  | .hbm, ⟨3, _⟩ => ⟨S1024x4096, .bf16⟩
  | .hbm, ⟨4, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGdnDxIdeal.lean ====
abbrev S1024x4096 : Shape := ⟨2, ![1024, 4096]⟩
abbrev S2048x4096 : Shape := ⟨2, ![2048, 4096]⟩
abbrev S2048x1024 : Shape := ⟨2, ![2048, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x4096, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== KernelGlaDw.lean ====
abbrev S2048x1024 : Shape := ⟨2, ![2048, 1024]⟩
abbrev S2048x3072 : Shape := ⟨2, ![2048, 3072]⟩
abbrev S1024x3072 : Shape := ⟨2, ![1024, 3072]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S2048x1024, .bf16⟩
  | .hbm, ⟨3, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGlaDwIdeal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S_, .f32⟩
  | .hbm, ⟨3, _⟩ => ⟨S1024x3072, .f32⟩
  | .hbm, ⟨4, _⟩ => ⟨S2048x3072, .f32⟩
  | .hbm, ⟨5, _⟩ => ⟨S3072x1024, .f32⟩
  | .hbm, ⟨6, _⟩ => ⟨S1024x3072, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGlaDx.lean ====
abbrev S1024x3072 : Shape := ⟨2, ![1024, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x3072, .f32⟩
  | .hbm, ⟨1, _⟩ => ⟨S2048x3072, .f32⟩
  | .hbm, ⟨2, _⟩ => ⟨S2048x1024, .f32⟩
  | .hbm, ⟨3, _⟩ => ⟨S1024x3072, .bf16⟩
  | .hbm, ⟨4, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGlaDxIdeal.lean ====
abbrev S1024x3072 : Shape := ⟨2, ![1024, 3072]⟩
abbrev S2048x3072 : Shape := ⟨2, ![2048, 3072]⟩
abbrev S2048x1024 : Shape := ⟨2, ![2048, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S2048x3072, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x3072, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== KernelOutDw.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutDwIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOutDy.lean ====
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S1024x1024, .bf16⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDyIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelGateDw.lean ====
abbrev S2048x1024 : Shape := ⟨2, ![2048, 1024]⟩
abbrev S2048x128 : Shape := ⟨2, ![2048, 128]⟩
abbrev S1024x128 : Shape := ⟨2, ![1024, 128]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S2048x1024, .bf16⟩
  | .hbm, ⟨3, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGateDwIdeal.lean ====
abbrev S2048x1024 : Shape := ⟨2, ![2048, 1024]⟩
abbrev S2048x128 : Shape := ⟨2, ![2048, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S_, .f32⟩
  | .hbm, ⟨3, _⟩ => ⟨S1024x128, .f32⟩
  | .hbm, ⟨4, _⟩ => ⟨S2048x128, .f32⟩
  | .hbm, ⟨5, _⟩ => ⟨S128x1024, .f32⟩
  | .hbm, ⟨6, _⟩ => ⟨S1024x128, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGateDx.lean ====
abbrev S1024x128 : Shape := ⟨2, ![1024, 128]⟩
abbrev S2048x128 : Shape := ⟨2, ![2048, 128]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S2048x128, .f32⟩
  | .hbm, ⟨2, _⟩ => ⟨S2048x1024, .f32⟩
  | .hbm, ⟨3, _⟩ => ⟨S1024x128, .bf16⟩
  | .hbm, ⟨4, _⟩ => ⟨S2048x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGateDxIdeal.lean ====
abbrev S1024x128 : Shape := ⟨2, ![1024, 128]⟩
abbrev S2048x128 : Shape := ⟨2, ![2048, 128]⟩
abbrev S2048x1024 : Shape := ⟨2, ![2048, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S2048x128, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x128, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== KernelGateDw2.lean ====
abbrev S2048x128 : Shape := ⟨2, ![2048, 128]⟩
abbrev S2048x512 : Shape := ⟨2, ![2048, 512]⟩
abbrev S128x512 : Shape := ⟨2, ![128, 512]⟩
abbrev S1024x128 : Shape := ⟨2, ![1024, 128]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S2048x512, .f32⟩
  | .hbm, ⟨2, _⟩ => ⟨S128x512, .f32⟩
  | .local _ .vmem, ⟨0, _⟩ => ⟨S1024x128, .f32⟩
  | .local _ .vmem, ⟨1, _⟩ => ⟨S1024x128, .f32⟩
  | .local _ .vmem, ⟨2, _⟩ => ⟨S1024x512, .f32⟩
  | .local _ .vmem, ⟨3, _⟩ => ⟨S1024x512, .f32⟩
  | .local _ .vmem, ⟨4, _⟩ => ⟨S128x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGateDw2Ideal.lean ====
abbrev S2048x128 : Shape := ⟨2, ![2048, 128]⟩
abbrev S2048x512 : Shape := ⟨2, ![2048, 512]⟩
abbrev S_ : Shape := ⟨0, ![]⟩
abbrev S128x512 : Shape := ⟨2, ![128, 512]⟩
abbrev S512x128 : Shape := ⟨2, ![512, 128]⟩

abbrev nBuf : Space → Nat
  | .hbm => 8
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x512, .f32⟩
  | .hbm, ⟨2, _⟩ => ⟨S_, .f32⟩
  | .hbm, ⟨3, _⟩ => ⟨S128x512, .f32⟩
  | .hbm, ⟨4, _⟩ => ⟨S2048x512, .f32⟩
  | .hbm, ⟨5, _⟩ => ⟨S512x128, .f32⟩
  | .hbm, ⟨6, _⟩ => ⟨S128x512, .f32⟩
  | .hbm, ⟨7, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelMlpUp.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S2048x4096, .f32⟩
  | .hbm, ⟨7, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v10 : BitVec 1 := Scalar.cmpi .eq arg2 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg2 : BitVec 32 := BitVec.ofNat 32 (i 2).val
  let c0_i32_8 : BitVec 32 := 0#32
  let v13 : BitVec 1 := Scalar.cmpi .sgt arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceMlpUpIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelMlpDown.lean ====
abbrev S2048x4096 : Shape := ⟨2, ![2048, 4096]⟩
abbrev S4096x1024 : Shape := ⟨2, ![4096, 1024]⟩
abbrev S_ : Shape := ⟨0, ![]⟩
abbrev S4x1024x1024 : Shape := ⟨3, ![4, 1024, 1024]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S4x1024x1024, .f32⟩
  | .hbm, ⟨8, _⟩ => ⟨S4x1024x1024, .bf16⟩
  | .hbm, ⟨9, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceMlpDownIdeal.lean ====
abbrev S2048x4096 : Shape := ⟨2, ![2048, 4096]⟩
abbrev S4096x1024 : Shape := ⟨2, ![4096, 1024]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KernelGdnProj.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4096, .bf16⟩
  | .hbm, ⟨4, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGdnProjIdeal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelGlaProj.lean ====
abbrev S2048x1024 : Shape := ⟨2, ![2048, 1024]⟩
abbrev S1024x3072 : Shape := ⟨2, ![1024, 3072]⟩
abbrev S2048x3072 : Shape := ⟨2, ![2048, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x1024, .bf16⟩
  | .hbm, ⟨3, _⟩ => ⟨S1024x3072, .bf16⟩
  | .hbm, ⟨4, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGlaProjIdeal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelGateProj.lean ====
abbrev S2048x1024 : Shape := ⟨2, ![2048, 1024]⟩
abbrev S1024x128 : Shape := ⟨2, ![1024, 128]⟩
abbrev S2048x128 : Shape := ⟨2, ![2048, 128]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S2048x1024, .bf16⟩
  | .hbm, ⟨3, _⟩ => ⟨S1024x128, .bf16⟩
  | .hbm, ⟨4, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateProjIdeal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOutProj.lean ====
abbrev S2048x1024 : Shape := ⟨2, ![2048, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutProjIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAdamwMlpW1.lean ====
abbrev S4x1024x1024 : Shape := ⟨3, ![4, 1024, 1024]⟩
abbrev S13312x1024 : Shape := ⟨2, ![13312, 1024]⟩
abbrev S4096x1024 : Shape := ⟨2, ![4096, 1024]⟩
abbrev S512x1024 : Shape := ⟨2, ![512, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S13312x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwMlpW1Ideal.lean ====
abbrev S4x1024x1024 : Shape := ⟨3, ![4, 1024, 1024]⟩
abbrev S13312x1024 : Shape := ⟨2, ![13312, 1024]⟩
abbrev S4096x1024 : Shape := ⟨2, ![4096, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S13312x1024, .f32⟩
  | .hbm, ⟨4, _⟩ => ⟨S4096x1024, .f32⟩
  | .hbm, ⟨5, _⟩ => ⟨S4x1024x1024, .f32⟩
  | .hbm, ⟨6, _⟩ => ⟨S_, .f32⟩
  | .hbm, ⟨7, _⟩ => ⟨S4x1024x1024, .f32⟩
  | .hbm, ⟨8, _⟩ => ⟨S4x1024x1024, .f32⟩
  | .hbm, ⟨9, _⟩ => ⟨S_, .f32⟩
  | .hbm, ⟨10, _⟩ => ⟨S4x1024x1024, .f32⟩
  | .hbm, ⟨11, _⟩ => ⟨S4x1024x1024, .f32⟩
  | .hbm, ⟨12, _⟩ => ⟨S4x1024x1024, .f32⟩
  | .hbm, ⟨13, _⟩ => ⟨S_, .f32⟩
  | .hbm, ⟨14, _⟩ => ⟨S4x1024x1024, .f32⟩
  | .hbm, ⟨15, _⟩ => ⟨S4x1024x1024, .f32⟩
  | .hbm, ⟨16, _⟩ => ⟨S4x1024x1024, .f32⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S_, .f32⟩
  | .hbm, ⟨22, _⟩ => ⟨S4x1024x1024, .f32⟩
  | .hbm, ⟨23, _⟩ => ⟨S4x1024x1024, .f32⟩
  | .hbm, ⟨24, _⟩ => ⟨S_, .f32⟩
  | .hbm, ⟨25, _⟩ => ⟨S4x1024x1024, .f32⟩
  | .hbm, ⟨26, _⟩ => ⟨S4x1024x1024, .f32⟩
  | .hbm, ⟨27, _⟩ => ⟨S4x1024x1024, .f32⟩
  | .hbm, ⟨28, _⟩ => ⟨S_, .f32⟩
  | .hbm, ⟨29, _⟩ => ⟨S4x1024x1024, .f32⟩
  | .hbm, ⟨30, _⟩ => ⟨S4x1024x1024, .f32⟩
  | .hbm, ⟨31, _⟩ => ⟨S4x1024x1024, .f32⟩
  | .hbm, ⟨32, _⟩ => ⟨S_, .f32⟩
  | .hbm, ⟨33, _⟩ => ⟨S4x1024x1024, .f32⟩
  | .hbm, ⟨34, _⟩ => ⟨S4x1024x1024, .f32⟩
  | .hbm, ⟨35, _⟩ => ⟨S4x1024x1024, .f32⟩
  | .hbm, ⟨36, _⟩ => ⟨S_, .f32⟩
  | .hbm, ⟨37, _⟩ => ⟨S4x1024x1024, .f32⟩
  | .hbm, ⟨38, _⟩ => ⟨S4x1024x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KernelAdamwMlpW2.lean ====
abbrev S4x1024x1024 : Shape := ⟨3, ![4, 1024, 1024]⟩
abbrev S13312x1024 : Shape := ⟨2, ![13312, 1024]⟩
abbrev S4096x1024 : Shape := ⟨2, ![4096, 1024]⟩
abbrev S512x1024 : Shape := ⟨2, ![512, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S13312x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwMlpW2Ideal.lean ====
abbrev S4x1024x1024 : Shape := ⟨3, ![4, 1024, 1024]⟩
abbrev S13312x1024 : Shape := ⟨2, ![13312, 1024]⟩
abbrev S4096x1024 : Shape := ⟨2, ![4096, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S13312x1024, .f32⟩
  | .hbm, ⟨4, _⟩ => ⟨S4096x1024, .f32⟩
  | .hbm, ⟨5, _⟩ => ⟨S4x1024x1024, .f32⟩
  | .hbm, ⟨6, _⟩ => ⟨S_, .f32⟩
  | .hbm, ⟨7, _⟩ => ⟨S4x1024x1024, .f32⟩
  | .hbm, ⟨8, _⟩ => ⟨S4x1024x1024, .f32⟩
  | .hbm, ⟨9, _⟩ => ⟨S_, .f32⟩
  | .hbm, ⟨10, _⟩ => ⟨S4x1024x1024, .f32⟩
  | .hbm, ⟨11, _⟩ => ⟨S4x1024x1024, .f32⟩
  | .hbm, ⟨12, _⟩ => ⟨S4x1024x1024, .f32⟩
  | .hbm, ⟨13, _⟩ => ⟨S_, .f32⟩
  | .hbm, ⟨14, _⟩ => ⟨S4x1024x1024, .f32⟩
  | .hbm, ⟨15, _⟩ => ⟨S4x1024x1024, .f32⟩
  | .hbm, ⟨16, _⟩ => ⟨S4x1024x1024, .f32⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S_, .f32⟩
  | .hbm, ⟨22, _⟩ => ⟨S4x1024x1024, .f32⟩
  | .hbm, ⟨23, _⟩ => ⟨S4x1024x1024, .f32⟩
  | .hbm, ⟨24, _⟩ => ⟨S_, .f32⟩
  | .hbm, ⟨25, _⟩ => ⟨S4x1024x1024, .f32⟩
  | .hbm, ⟨26, _⟩ => ⟨S4x1024x1024, .f32⟩
  | .hbm, ⟨27, _⟩ => ⟨S4x1024x1024, .f32⟩
  | .hbm, ⟨28, _⟩ => ⟨S_, .f32⟩
  | .hbm, ⟨29, _⟩ => ⟨S4x1024x1024, .f32⟩
  | .hbm, ⟨30, _⟩ => ⟨S4x1024x1024, .f32⟩
  | .hbm, ⟨31, _⟩ => ⟨S4x1024x1024, .f32⟩
  | .hbm, ⟨32, _⟩ => ⟨S_, .f32⟩
  | .hbm, ⟨33, _⟩ => ⟨S4x1024x1024, .f32⟩
  | .hbm, ⟨34, _⟩ => ⟨S4x1024x1024, .f32⟩
  | .hbm, ⟨35, _⟩ => ⟨S4x1024x1024, .f32⟩
  | .hbm, ⟨36, _⟩ => ⟨S_, .f32⟩
  | .hbm, ⟨37, _⟩ => ⟨S4x1024x1024, .f32⟩
  | .hbm, ⟨38, _⟩ => ⟨S4x1024x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KernelAdamwAWOut.lean ====
abbrev S2x256x1024 : Shape := ⟨3, ![2, 256, 1024]⟩
abbrev S13312x1024 : Shape := ⟨2, ![13312, 1024]⟩
abbrev S512x1024 : Shape := ⟨2, ![512, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S13312x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwAWOutIdeal.lean ====
abbrev S2x256x1024 : Shape := ⟨3, ![2, 256, 1024]⟩
abbrev S13312x1024 : Shape := ⟨2, ![13312, 1024]⟩
abbrev S512x1024 : Shape := ⟨2, ![512, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S13312x1024, .f32⟩
  | .hbm, ⟨4, _⟩ => ⟨S512x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KernelAdamwBWOut.lean ====
abbrev S2x256x1024 : Shape := ⟨3, ![2, 256, 1024]⟩
abbrev S13312x1024 : Shape := ⟨2, ![13312, 1024]⟩
abbrev S512x1024 : Shape := ⟨2, ![512, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S13312x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c17_i32 : BitVec 32 := 17#32
  let v0 : BitVec 32 := Scalar.addi arg0 c17_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwBWOutIdeal.lean ====
abbrev S2x256x1024 : Shape := ⟨3, ![2, 256, 1024]⟩
abbrev S13312x1024 : Shape := ⟨2, ![13312, 1024]⟩
abbrev S512x1024 : Shape := ⟨2, ![512, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S13312x1024, .f32⟩
  | .hbm, ⟨4, _⟩ => ⟨S512x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KernelAdamwAWIn.lean ====
abbrev S2x1024x1028 : Shape := ⟨3, ![2, 1024, 1028]⟩
abbrev S13312x1024 : Shape := ⟨2, ![13312, 1024]⟩
abbrev S2048x1028 : Shape := ⟨2, ![2048, 1028]⟩
abbrev S2056x1024 : Shape := ⟨2, ![2056, 1024]⟩
abbrev S512x1028 : Shape := ⟨2, ![512, 1028]⟩

abbrev nBuf : Space → Nat
  | .hbm => 13
  | .vmem => 16
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S13312x1024, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2056x1024, .f32⟩
  | .hbm, ⟨8, _⟩ => ⟨S2048x1028, .f32⟩
  | .hbm, ⟨9, _⟩ => ⟨S2048x1028, .f32⟩
  | .hbm, ⟨10, _⟩ => ⟨S2048x1028, .f32⟩
  | .hbm, ⟨11, _⟩ => ⟨S2048x1028, .f32⟩
  | .hbm, ⟨12, _⟩ => ⟨S2048x1028, .f32⟩
  | .local _ .vmem, ⟨0, _⟩ => ⟨S512x1028, .f32⟩
  | .local _ .vmem, ⟨1, _⟩ => ⟨S512x1028, .f32⟩
  | .local _ .vmem, ⟨2, _⟩ => ⟨S512x1028, .f32⟩
  | .local _ .vmem, ⟨3, _⟩ => ⟨S512x1028, .f32⟩
  | .local _ .vmem, ⟨4, _⟩ => ⟨S512x1028, .f32⟩
  | .local _ .vmem, ⟨5, _⟩ => ⟨S512x1028, .f32⟩
  | .local _ .vmem, ⟨6, _⟩ => ⟨S512x1028, .f32⟩
  | .local _ .vmem, ⟨7, _⟩ => ⟨S512x1028, .f32⟩
  | .local _ .vmem, ⟨8, _⟩ => ⟨S512x1028, .f32⟩
  | .local _ .vmem, ⟨9, _⟩ => ⟨S512x1028, .f32⟩
  | .local _ .vmem, ⟨10, _⟩ => ⟨S512x1028, .f32⟩
  | .local _ .vmem, ⟨11, _⟩ => ⟨S512x1028, .f32⟩
  | .local _ .vmem, ⟨12, _⟩ => ⟨S512x1028, .f32⟩
  | .local _ .vmem, ⟨13, _⟩ => ⟨S512x1028, .f32⟩
  | .local _ .vmem, ⟨14, _⟩ => ⟨S512x1028, .f32⟩
  | .local _ .vmem, ⟨15, _⟩ => ⟨S512x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwAWInIdeal.lean ====
abbrev S2x1024x1028 : Shape := ⟨3, ![2, 1024, 1028]⟩
abbrev S13312x1024 : Shape := ⟨2, ![13312, 1024]⟩
abbrev S2056x1024 : Shape := ⟨2, ![2056, 1024]⟩
abbrev S_ : Shape := ⟨0, ![]⟩
abbrev S2048x1028 : Shape := ⟨2, ![2048, 1028]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S13312x1024, .f32⟩
  | .hbm, ⟨4, _⟩ => ⟨S2056x1024, .f32⟩
  | .hbm, ⟨5, _⟩ => ⟨S2x1024x1028, .f32⟩
  | .hbm, ⟨6, _⟩ => ⟨S_, .f32⟩
  | .hbm, ⟨7, _⟩ => ⟨S2x1024x1028, .f32⟩
  | .hbm, ⟨8, _⟩ => ⟨S2x1024x1028, .f32⟩
  | .hbm, ⟨9, _⟩ => ⟨S_, .f32⟩
  | .hbm, ⟨10, _⟩ => ⟨S2x1024x1028, .f32⟩
  | .hbm, ⟨11, _⟩ => ⟨S2x1024x1028, .f32⟩
  | .hbm, ⟨12, _⟩ => ⟨S2x1024x1028, .f32⟩
  | .hbm, ⟨13, _⟩ => ⟨S_, .f32⟩
  | .hbm, ⟨14, _⟩ => ⟨S2x1024x1028, .f32⟩
  | .hbm, ⟨15, _⟩ => ⟨S2x1024x1028, .f32⟩
  | .hbm, ⟨16, _⟩ => ⟨S2x1024x1028, .f32⟩
  | .hbm, ⟨17, _⟩ => ⟨S_, .f32⟩
  | .hbm, ⟨18, _⟩ => ⟨S2x1024x1028, .f32⟩
  | .hbm, ⟨19, _⟩ => ⟨S2x1024x1028, .f32⟩
  | .hbm, ⟨20, _⟩ => ⟨S2x1024x1028, .f32⟩
  | .hbm, ⟨21, _⟩ => ⟨S_, .f32⟩
  | .hbm, ⟨22, _⟩ => ⟨S2x1024x1028, .f32⟩
  | .hbm, ⟨23, _⟩ => ⟨S2x1024x1028, .f32⟩
  | .hbm, ⟨24, _⟩ => ⟨S_, .f32⟩
  | .hbm, ⟨25, _⟩ => ⟨S2x1024x1028, .f32⟩
  | .hbm, ⟨26, _⟩ => ⟨S2x1024x1028, .f32⟩
  | .hbm, ⟨27, _⟩ => ⟨S2x1024x1028, .f32⟩
  | .hbm, ⟨28, _⟩ => ⟨S_, .f32⟩
  | .hbm, ⟨29, _⟩ => ⟨S2x1024x1028, .f32⟩
  | .hbm, ⟨30, _⟩ => ⟨S2x1024x1028, .f32⟩
  | .hbm, ⟨31, _⟩ => ⟨S2x1024x1028, .f32⟩
  | .hbm, ⟨32, _⟩ => ⟨S_, .f32⟩
  | .hbm, ⟨33, _⟩ => ⟨S2x1024x1028, .f32⟩
  | .hbm, ⟨34, _⟩ => ⟨S2x1024x1028, .f32⟩
  | .hbm, ⟨35, _⟩ => ⟨S2x1024x1028, .f32⟩
  | .hbm, ⟨36, _⟩ => ⟨S_, .f32⟩
  | .hbm, ⟨37, _⟩ => ⟨S2x1024x1028, .f32⟩
  | .hbm, ⟨38, _⟩ => ⟨S2x1024x1028, .f32⟩
  | .hbm, ⟨39, _⟩ => ⟨S2048x1028, .f32⟩
  | .hbm, ⟨40, _⟩ => ⟨S2048x1028, .f32⟩
  | .hbm, ⟨41, _⟩ => ⟨S2048x1028, .f32⟩
  | .hbm, ⟨42, _⟩ => ⟨S2048x1028, .f32⟩
  | _, _ => ⟨S2x1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KernelAdamwBWIn.lean ====
abbrev S2x1024x772 : Shape := ⟨3, ![2, 1024, 772]⟩
abbrev S13312x1024 : Shape := ⟨2, ![13312, 1024]⟩
abbrev S2048x772 : Shape := ⟨2, ![2048, 772]⟩
abbrev S1544x1024 : Shape := ⟨2, ![1544, 1024]⟩
abbrev S512x772 : Shape := ⟨2, ![512, 772]⟩

abbrev nBuf : Space → Nat
  | .hbm => 13
  | .vmem => 16
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S13312x1024, .f32⟩
  | .hbm, ⟨4, _⟩ => ⟨S2048x772, .f32⟩
  | .hbm, ⟨5, _⟩ => ⟨S2048x772, .f32⟩
  | .hbm, ⟨6, _⟩ => ⟨S2048x772, .f32⟩
  | .hbm, ⟨7, _⟩ => ⟨S1544x1024, .f32⟩
  | .hbm, ⟨8, _⟩ => ⟨S2048x772, .f32⟩
  | .hbm, ⟨9, _⟩ => ⟨S2048x772, .f32⟩
  | .hbm, ⟨10, _⟩ => ⟨S2048x772, .f32⟩
  | .hbm, ⟨11, _⟩ => ⟨S2048x772, .f32⟩
  | .hbm, ⟨12, _⟩ => ⟨S2048x772, .f32⟩
  | .local _ .vmem, ⟨0, _⟩ => ⟨S512x772, .f32⟩
  | .local _ .vmem, ⟨1, _⟩ => ⟨S512x772, .f32⟩
  | .local _ .vmem, ⟨2, _⟩ => ⟨S512x772, .f32⟩
  | .local _ .vmem, ⟨3, _⟩ => ⟨S512x772, .f32⟩
  | .local _ .vmem, ⟨4, _⟩ => ⟨S512x772, .f32⟩
  | .local _ .vmem, ⟨5, _⟩ => ⟨S512x772, .f32⟩
  | .local _ .vmem, ⟨6, _⟩ => ⟨S512x772, .f32⟩
  | .local _ .vmem, ⟨7, _⟩ => ⟨S512x772, .f32⟩
  | .local _ .vmem, ⟨8, _⟩ => ⟨S512x772, .f32⟩
  | .local _ .vmem, ⟨9, _⟩ => ⟨S512x772, .f32⟩
  | .local _ .vmem, ⟨10, _⟩ => ⟨S512x772, .f32⟩
  | .local _ .vmem, ⟨11, _⟩ => ⟨S512x772, .f32⟩
  | .local _ .vmem, ⟨12, _⟩ => ⟨S512x772, .f32⟩
  | .local _ .vmem, ⟨13, _⟩ => ⟨S512x772, .f32⟩
  | .local _ .vmem, ⟨14, _⟩ => ⟨S512x772, .f32⟩
  | .local _ .vmem, ⟨15, _⟩ => ⟨S512x772, .f32⟩
  | _, _ => ⟨S2x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x772 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwBWInIdeal.lean ====
abbrev S2x1024x772 : Shape := ⟨3, ![2, 1024, 772]⟩
abbrev S13312x1024 : Shape := ⟨2, ![13312, 1024]⟩
abbrev S1544x1024 : Shape := ⟨2, ![1544, 1024]⟩
abbrev S_ : Shape := ⟨0, ![]⟩
abbrev S2048x772 : Shape := ⟨2, ![2048, 772]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S13312x1024, .f32⟩
  | .hbm, ⟨4, _⟩ => ⟨S1544x1024, .f32⟩
  | .hbm, ⟨5, _⟩ => ⟨S2x1024x772, .f32⟩
  | .hbm, ⟨6, _⟩ => ⟨S_, .f32⟩
  | .hbm, ⟨7, _⟩ => ⟨S2x1024x772, .f32⟩
  | .hbm, ⟨8, _⟩ => ⟨S2x1024x772, .f32⟩
  | .hbm, ⟨9, _⟩ => ⟨S_, .f32⟩
  | .hbm, ⟨10, _⟩ => ⟨S2x1024x772, .f32⟩
  | .hbm, ⟨11, _⟩ => ⟨S2x1024x772, .f32⟩
  | .hbm, ⟨12, _⟩ => ⟨S2x1024x772, .f32⟩
  | .hbm, ⟨13, _⟩ => ⟨S_, .f32⟩
  | .hbm, ⟨14, _⟩ => ⟨S2x1024x772, .f32⟩
  | .hbm, ⟨15, _⟩ => ⟨S2x1024x772, .f32⟩
  | .hbm, ⟨16, _⟩ => ⟨S2x1024x772, .f32⟩
  | .hbm, ⟨17, _⟩ => ⟨S_, .f32⟩
  | .hbm, ⟨18, _⟩ => ⟨S2x1024x772, .f32⟩
  | .hbm, ⟨19, _⟩ => ⟨S2x1024x772, .f32⟩
  | .hbm, ⟨20, _⟩ => ⟨S2x1024x772, .f32⟩
  | .hbm, ⟨21, _⟩ => ⟨S_, .f32⟩
  | .hbm, ⟨22, _⟩ => ⟨S2x1024x772, .f32⟩
  | .hbm, ⟨23, _⟩ => ⟨S2x1024x772, .f32⟩
  | .hbm, ⟨24, _⟩ => ⟨S_, .f32⟩
  | .hbm, ⟨25, _⟩ => ⟨S2x1024x772, .f32⟩
  | .hbm, ⟨26, _⟩ => ⟨S2x1024x772, .f32⟩
  | .hbm, ⟨27, _⟩ => ⟨S2x1024x772, .f32⟩
  | .hbm, ⟨28, _⟩ => ⟨S_, .f32⟩
  | .hbm, ⟨29, _⟩ => ⟨S2x1024x772, .f32⟩
  | .hbm, ⟨30, _⟩ => ⟨S2x1024x772, .f32⟩
  | .hbm, ⟨31, _⟩ => ⟨S2x1024x772, .f32⟩
  | .hbm, ⟨32, _⟩ => ⟨S_, .f32⟩
  | .hbm, ⟨33, _⟩ => ⟨S2x1024x772, .f32⟩
  | .hbm, ⟨34, _⟩ => ⟨S2x1024x772, .f32⟩
  | .hbm, ⟨35, _⟩ => ⟨S2x1024x772, .f32⟩
  | .hbm, ⟨36, _⟩ => ⟨S_, .f32⟩
  | .hbm, ⟨37, _⟩ => ⟨S2x1024x772, .f32⟩
  | .hbm, ⟨38, _⟩ => ⟨S2x1024x772, .f32⟩
  | .hbm, ⟨39, _⟩ => ⟨S2048x772, .f32⟩
  | .hbm, ⟨40, _⟩ => ⟨S2048x772, .f32⟩
  | .hbm, ⟨41, _⟩ => ⟨S2048x772, .f32⟩
  | .hbm, ⟨42, _⟩ => ⟨S2048x772, .f32⟩
  | _, _ => ⟨S2x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KernelAdamwSmall.lean ====
abbrev S2x5x768 : Shape := ⟨3, ![2, 5, 768]⟩
abbrev S2x2x8 : Shape := ⟨3, ![2, 2, 8]⟩
abbrev S2x128 : Shape := ⟨2, ![2, 128]⟩
abbrev S2x2x16x128 : Shape := ⟨4, ![2, 2, 16, 128]⟩
abbrev S2x2x128 : Shape := ⟨3, ![2, 2, 128]⟩
abbrev S2x64 : Shape := ⟨2, ![2, 64]⟩
abbrev S4x1024 : Shape := ⟨2, ![4, 1024]⟩
abbrev S60x128 : Shape := ⟨2, ![60, 128]⟩
abbrev S1x32 : Shape := ⟨2, ![1, 32]⟩
abbrev S_ : Shape := ⟨0, ![]⟩
abbrev S1x128 : Shape := ⟨2, ![1, 128]⟩
abbrev S64x128 : Shape := ⟨2, ![64, 128]⟩
abbrev S4x128 : Shape := ⟨2, ![4, 128]⟩
abbrev S32x128 : Shape := ⟨2, ![32, 128]⟩
abbrev S3x128 : Shape := ⟨2, ![3, 128]⟩
abbrev S264x128 : Shape := ⟨2, ![264, 128]⟩

abbrev nBuf : Space → Nat
  | .hbm => 124
  | .vmem => 8
  | .smem => 0
  | _ => 0

abbrev bufTy : (tb : Table) → Fin (tcTables nBuf tb) → BufTy
  | .hbm, ⟨0, _⟩ => ⟨S2x5x768, .f32⟩
  | .hbm, ⟨1, _⟩ => ⟨S2x2x8, .f32⟩
  | .hbm, ⟨2, _⟩ => ⟨S2x2x8, .f32⟩
  | .hbm, ⟨3, _⟩ => ⟨S2x128, .f32⟩
  | .hbm, ⟨4, _⟩ => ⟨S2x2x16x128, .f32⟩
  | .hbm, ⟨5, _⟩ => ⟨S2x2x128, .f32⟩
  | .hbm, ⟨6, _⟩ => ⟨S2x64, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S2x5x768, .f32⟩
  | .hbm, ⟨12, _⟩ => ⟨S2x2x8, .f32⟩
  | .hbm, ⟨13, _⟩ => ⟨S2x2x8, .f32⟩
  | .hbm, ⟨14, _⟩ => ⟨S2x128, .f32⟩
  | .hbm, ⟨15, _⟩ => ⟨S2x2x16x128, .f32⟩
  | .hbm, ⟨16, _⟩ => ⟨S2x2x128, .f32⟩
  | .hbm, ⟨17, _⟩ => ⟨S2x64, .f32⟩
  | .hbm, ⟨18, _⟩ => ⟨S4x1024, .f32⟩
  | .hbm, ⟨19, _⟩ => ⟨S4x1024, .f32⟩
  | .hbm, ⟨20, _⟩ => ⟨S4x1024, .f32⟩
  | .hbm, ⟨21, _⟩ => ⟨S4x1024, .f32⟩
  | .hbm, ⟨22, _⟩ => ⟨S2x5x768, .f32⟩
  | .hbm, ⟨23, _⟩ => ⟨S2x2x8, .f32⟩
  | .hbm, ⟨24, _⟩ => ⟨S2x2x8, .f32⟩
  | .hbm, ⟨25, _⟩ => ⟨S2x128, .f32⟩
  | .hbm, ⟨26, _⟩ => ⟨S2x2x16x128, .f32⟩
  | .hbm, ⟨27, _⟩ => ⟨S2x2x128, .f32⟩
  | .hbm, ⟨28, _⟩ => ⟨S2x64, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S4x1024, .f32⟩
  | .hbm, ⟨33, _⟩ => ⟨S2x5x768, .f32⟩
  | .hbm, ⟨34, _⟩ => ⟨S2x2x8, .f32⟩
  | .hbm, ⟨35, _⟩ => ⟨S2x2x8, .f32⟩
  | .hbm, ⟨36, _⟩ => ⟨S2x128, .f32⟩
  | .hbm, ⟨37, _⟩ => ⟨S2x2x16x128, .f32⟩
  | .hbm, ⟨38, _⟩ => ⟨S2x2x128, .f32⟩
  | .hbm, ⟨39, _⟩ => ⟨S2x64, .f32⟩
  | .hbm, ⟨40, _⟩ => ⟨S4x1024, .f32⟩
  | .hbm, ⟨41, _⟩ => ⟨S4x1024, .f32⟩
  | .hbm, ⟨42, _⟩ => ⟨S4x1024, .f32⟩
  | .hbm, ⟨43, _⟩ => ⟨S4x1024, .f32⟩
  | .hbm, ⟨44, _⟩ => ⟨S60x128, .f32⟩
  | .hbm, ⟨45, _⟩ => ⟨S1x32, .f32⟩
  | .hbm, ⟨46, _⟩ => ⟨S_, .i32⟩
  | .hbm, ⟨47, _⟩ => ⟨S_, .f32⟩
  | .hbm, ⟨48, _⟩ => ⟨S1x128, .f32⟩
  | .hbm, ⟨49, _⟩ => ⟨S1x32, .f32⟩
  | .hbm, ⟨50, _⟩ => ⟨S_, .i32⟩
  | .hbm, ⟨51, _⟩ => ⟨S_, .f32⟩
  | .hbm, ⟨52, _⟩ => ⟨S1x128, .f32⟩
  | .hbm, ⟨53, _⟩ => ⟨S64x128, .f32⟩
  | .hbm, ⟨54, _⟩ => ⟨S4x128, .f32⟩
  | .hbm, ⟨55, _⟩ => ⟨S1x128, .f32⟩
  | .hbm, ⟨56, _⟩ => ⟨S32x128, .f32⟩
  | .hbm, ⟨57, _⟩ => ⟨S32x128, .f32⟩
  | .hbm, ⟨58, _⟩ => ⟨S32x128, .f32⟩
  | .hbm, ⟨59, _⟩ => ⟨S32x128, .f32⟩
  | .hbm, ⟨60, _⟩ => ⟨S_, .f32⟩
  | .hbm, ⟨61, _⟩ => ⟨S3x128, .f32⟩
  | .hbm, ⟨62, _⟩ => ⟨S264x128, .f32⟩
  | .hbm, ⟨63, _⟩ => ⟨S60x128, .f32⟩
  | .hbm, ⟨64, _⟩ => ⟨S1x32, .f32⟩
  | .hbm, ⟨65, _⟩ => ⟨S_, .i32⟩
  | .hbm, ⟨66, _⟩ => ⟨S_, .f32⟩
  | .hbm, ⟨67, _⟩ => ⟨S1x128, .f32⟩
  | .hbm, ⟨68, _⟩ => ⟨S1x32, .f32⟩
  | .hbm, ⟨69, _⟩ => ⟨S_, .i32⟩
  | .hbm, ⟨70, _⟩ => ⟨S_, .f32⟩
  | .hbm, ⟨71, _⟩ => ⟨S1x128, .f32⟩
  | .hbm, ⟨72, _⟩ => ⟨S64x128, .f32⟩
  | .hbm, ⟨73, _⟩ => ⟨S4x128, .f32⟩
  | .hbm, ⟨74, _⟩ => ⟨S1x128, .f32⟩
  | .hbm, ⟨75, _⟩ => ⟨S32x128, .f32⟩
  | .hbm, ⟨76, _⟩ => ⟨S32x128, .f32⟩
  | .hbm, ⟨77, _⟩ => ⟨S32x128, .f32⟩
  | .hbm, ⟨78, _⟩ => ⟨S32x128, .f32⟩
  | .hbm, ⟨79, _⟩ => ⟨S_, .f32⟩
  | .hbm, ⟨80, _⟩ => ⟨S3x128, .f32⟩
  | .hbm, ⟨81, _⟩ => ⟨S264x128, .f32⟩
  | .hbm, ⟨82, _⟩ => ⟨S60x128, .f32⟩
  | .hbm, ⟨83, _⟩ => ⟨S1x32, .f32⟩
  | .hbm, ⟨84, _⟩ => ⟨S_, .i32⟩
  | .hbm, ⟨85, _⟩ => ⟨S_, .f32⟩
  | .hbm, ⟨86, _⟩ => ⟨S1x128, .f32⟩
  | .hbm, ⟨87, _⟩ => ⟨S1x32, .f32⟩
  | .hbm, ⟨88, _⟩ => ⟨S_, .i32⟩
  | .hbm, ⟨89, _⟩ => ⟨S_, .f32⟩
  | .hbm, ⟨90, _⟩ => ⟨S1x128, .f32⟩
  | .hbm, ⟨91, _⟩ => ⟨S64x128, .f32⟩
  | .hbm, ⟨92, _⟩ => ⟨S4x128, .f32⟩
  | .hbm, ⟨93, _⟩ => ⟨S1x128, .f32⟩
  | .hbm, ⟨94, _⟩ => ⟨S32x128, .f32⟩
  | .hbm, ⟨95, _⟩ => ⟨S32x128, .f32⟩
  | .hbm, ⟨96, _⟩ => ⟨S32x128, .f32⟩
  | .hbm, ⟨97, _⟩ => ⟨S32x128, .f32⟩
  | .hbm, ⟨98, _⟩ => ⟨S_, .f32⟩
  | .hbm, ⟨99, _⟩ => ⟨S3x128, .f32⟩
  | .hbm, ⟨100, _⟩ => ⟨S264x128, .f32⟩
  | .hbm, ⟨101, _⟩ => ⟨S60x128, .f32⟩
  | .hbm, ⟨102, _⟩ => ⟨S1x32, .f32⟩
  | .hbm, ⟨103, _⟩ => ⟨S_, .i32⟩
  | .hbm, ⟨104, _⟩ => ⟨S_, .f32⟩
  | .hbm, ⟨105, _⟩ => ⟨S1x128, .f32⟩
  | .hbm, ⟨106, _⟩ => ⟨S1x32, .f32⟩
  | .hbm, ⟨107, _⟩ => ⟨S_, .i32⟩
  | .hbm, ⟨108, _⟩ => ⟨S_, .f32⟩
  | .hbm, ⟨109, _⟩ => ⟨S1x128, .f32⟩
  | .hbm, ⟨110, _⟩ => ⟨S64x128, .f32⟩
  | .hbm, ⟨111, _⟩ => ⟨S4x128, .f32⟩
  | .hbm, ⟨112, _⟩ => ⟨S1x128, .f32⟩
  | .hbm, ⟨113, _⟩ => ⟨S32x128, .f32⟩
  | .hbm, ⟨114, _⟩ => ⟨S32x128, .f32⟩
  | .hbm, ⟨115, _⟩ => ⟨S32x128, .f32⟩
  | .hbm, ⟨116, _⟩ => ⟨S32x128, .f32⟩
  | .hbm, ⟨117, _⟩ => ⟨S_, .f32⟩
  | .hbm, ⟨118, _⟩ => ⟨S3x128, .f32⟩
  | .hbm, ⟨119, _⟩ => ⟨S264x128, .f32⟩
  | .hbm, ⟨120, _⟩ => ⟨S264x128, .f32⟩
  | .hbm, ⟨121, _⟩ => ⟨S264x128, .f32⟩
  | .hbm, ⟨122, _⟩ => ⟨S264x128, .f32⟩
  | .hbm, ⟨123, _⟩ => ⟨S264x128, .f32⟩
  | .local _ .vmem, ⟨0, _⟩ => ⟨S264x128, .f32⟩
  | .local _ .vmem, ⟨1, _⟩ => ⟨S264x128, .f32⟩
  | .local _ .vmem, ⟨2, _⟩ => ⟨S264x128, .f32⟩
  | .local _ .vmem, ⟨3, _⟩ => ⟨S264x128, .f32⟩
  | .local _ .vmem, ⟨4, _⟩ => ⟨S264x128, .f32⟩
  | .local _ .vmem, ⟨5, _⟩ => ⟨S264x128, .f32⟩
  | .local _ .vmem, ⟨6, _⟩ => ⟨S264x128, .f32⟩
  | .local _ .vmem, ⟨7, _⟩ => ⟨S264x128, .f32⟩
  | _, _ => ⟨S2x5x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_c : Ref sig .tc := ⟨.hbm, 46, rfl⟩
abbrev main_call0_v0 : Ref sig .tc := ⟨.hbm, 47, rfl⟩
abbrev main_v2 : Ref sig .tc := ⟨.hbm, 48, rfl⟩
abbrev main_v3 : Ref sig .tc := ⟨.hbm, 49, rfl⟩
abbrev main_c_0 : Ref sig .tc := ⟨.hbm, 50, rfl⟩
abbrev main_call1_v0 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_1 : Ref sig .tc := ⟨.hbm, 65, rfl⟩
abbrev main_call2_v0 : Ref sig .tc := ⟨.hbm, 66, rfl⟩
abbrev main_v16 : Ref sig .tc := ⟨.hbm, 67, rfl⟩
abbrev main_v17 : Ref sig .tc := ⟨.hbm, 68, rfl⟩
abbrev main_c_2 : Ref sig .tc := ⟨.hbm, 69, rfl⟩
abbrev main_call3_v0 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_cst_3 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_4 : Ref sig .tc := ⟨.hbm, 84, rfl⟩
abbrev main_call4_v0 : Ref sig .tc := ⟨.hbm, 85, rfl⟩
abbrev main_v30 : Ref sig .tc := ⟨.hbm, 86, rfl⟩
abbrev main_v31 : Ref sig .tc := ⟨.hbm, 87, rfl⟩
abbrev main_c_5 : Ref sig .tc := ⟨.hbm, 88, rfl⟩
abbrev main_call5_v0 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_cst_6 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_c_7 : Ref sig .tc := ⟨.hbm, 103, rfl⟩
abbrev main_call6_v0 : Ref sig .tc := ⟨.hbm, 104, rfl⟩
abbrev main_v44 : Ref sig .tc := ⟨.hbm, 105, rfl⟩
abbrev main_v45 : Ref sig .tc := ⟨.hbm, 106, rfl⟩
abbrev main_c_8 : Ref sig .tc := ⟨.hbm, 107, rfl⟩
abbrev main_call7_v0 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_cst_9 : Ref sig .tc := ⟨.hbm, 117, rfl⟩
abbrev main_v54 : Ref sig .tc := ⟨.hbm, 118, rfl⟩
abbrev main_v55 : Ref sig .tc := ⟨.hbm, 119, rfl⟩
abbrev main_v56_0 : Ref sig .tc := ⟨.hbm, 120, rfl⟩
abbrev main_v56_1 : Ref sig .tc := ⟨.hbm, 121, rfl⟩
abbrev main_v56_2 : Ref sig .tc := ⟨.hbm, 122, rfl⟩
abbrev main_v56_3 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S264x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S264x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S264x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S264x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S264x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S264x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S264x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamwSmallIdeal.lean ====
abbrev S2x5x768 : Shape := ⟨3, ![2, 5, 768]⟩
abbrev S2x2x8 : Shape := ⟨3, ![2, 2, 8]⟩
abbrev S2x128 : Shape := ⟨2, ![2, 128]⟩
abbrev S2x2x16x128 : Shape := ⟨4, ![2, 2, 16, 128]⟩
abbrev S2x2x128 : Shape := ⟨3, ![2, 2, 128]⟩
abbrev S2x64 : Shape := ⟨2, ![2, 64]⟩
abbrev S4x1024 : Shape := ⟨2, ![4, 1024]⟩
abbrev S_ : Shape := ⟨0, ![]⟩
abbrev S60x128 : Shape := ⟨2, ![60, 128]⟩
abbrev S1x32 : Shape := ⟨2, ![1, 32]⟩
abbrev S1x128 : Shape := ⟨2, ![1, 128]⟩
abbrev S64x128 : Shape := ⟨2, ![64, 128]⟩
abbrev S4x128 : Shape := ⟨2, ![4, 128]⟩
abbrev S32x128 : Shape := ⟨2, ![32, 128]⟩
abbrev S3x128 : Shape := ⟨2, ![3, 128]⟩
abbrev S264x128 : Shape := ⟨2, ![264, 128]⟩

abbrev nBuf : Space → Nat
  | .hbm => 483
  | .vmem => 0
  | .smem => 0
  | _ => 0

abbrev hbmTy0_0 (i : Nat) : BufTy := match i % 128 with
  | 0 => ⟨S2x5x768, .f32⟩
  | 1 => ⟨S2x2x8, .f32⟩
  | 2 => ⟨S2x2x8, .f32⟩
  | 3 => ⟨S2x128, .f32⟩
  | 4 => ⟨S2x2x16x128, .f32⟩
  | 5 => ⟨S2x2x128, .f32⟩
  | 6 => ⟨S2x64, .f32⟩
  | 7 => ⟨S4x1024, .f32⟩
  | 8 => ⟨S4x1024, .f32⟩
  | 9 => ⟨S4x1024, .f32⟩
  | 10 => ⟨S4x1024, .f32⟩
  | 11 => ⟨S2x5x768, .f32⟩
  | 12 => ⟨S2x2x8, .f32⟩
  | 13 => ⟨S2x2x8, .f32⟩
  | 14 => ⟨S2x128, .f32⟩
  | 15 => ⟨S2x2x16x128, .f32⟩
  | 16 => ⟨S2x2x128, .f32⟩
  | 17 => ⟨S2x64, .f32⟩
  | 18 => ⟨S4x1024, .f32⟩
  | 19 => ⟨S4x1024, .f32⟩
  | 20 => ⟨S4x1024, .f32⟩
  | 21 => ⟨S4x1024, .f32⟩
  | 22 => ⟨S2x5x768, .f32⟩
  | 23 => ⟨S2x2x8, .f32⟩
  | 24 => ⟨S2x2x8, .f32⟩
  | 25 => ⟨S2x128, .f32⟩
  | 26 => ⟨S2x2x16x128, .f32⟩
  | 27 => ⟨S2x2x128, .f32⟩
  | 28 => ⟨S2x64, .f32⟩
  | 29 => ⟨S4x1024, .f32⟩
  | 30 => ⟨S4x1024, .f32⟩
  | 31 => ⟨S4x1024, .f32⟩
  | 32 => ⟨S4x1024, .f32⟩
  | 33 => ⟨S2x5x768, .f32⟩
  | 34 => ⟨S2x2x8, .f32⟩
  | 35 => ⟨S2x2x8, .f32⟩
  | 36 => ⟨S2x128, .f32⟩
  | 37 => ⟨S2x2x16x128, .f32⟩
  | 38 => ⟨S2x2x128, .f32⟩
  | 39 => ⟨S2x64, .f32⟩
  | 40 => ⟨S4x1024, .f32⟩
  | 41 => ⟨S4x1024, .f32⟩
  | 42 => ⟨S4x1024, .f32⟩
  | 43 => ⟨S4x1024, .f32⟩
  | 44 => ⟨S_, .f32⟩
  | 45 => ⟨S2x5x768, .f32⟩
  | 46 => ⟨S2x5x768, .f32⟩
  | 47 => ⟨S_, .f32⟩
  | 48 => ⟨S2x5x768, .f32⟩
  | 49 => ⟨S2x5x768, .f32⟩
  | 50 => ⟨S2x5x768, .f32⟩
  | 51 => ⟨S_, .f32⟩
  | 52 => ⟨S2x5x768, .f32⟩
  | 53 => ⟨S2x5x768, .f32⟩
  | 54 => ⟨S2x5x768, .f32⟩
  | 55 => ⟨S_, .f32⟩
  | 56 => ⟨S2x5x768, .f32⟩
  | 57 => ⟨S2x5x768, .f32⟩
  | 58 => ⟨S2x5x768, .f32⟩
  | 59 => ⟨S_, .f32⟩
  | 60 => ⟨S2x5x768, .f32⟩
  | 61 => ⟨S2x5x768, .f32⟩
  | 62 => ⟨S_, .f32⟩
  | 63 => ⟨S2x5x768, .f32⟩
  | 64 => ⟨S2x5x768, .f32⟩
  | 65 => ⟨S2x5x768, .f32⟩
  | 66 => ⟨S_, .f32⟩
  | 67 => ⟨S2x5x768, .f32⟩
  | 68 => ⟨S2x5x768, .f32⟩
  | 69 => ⟨S2x5x768, .f32⟩
  | 70 => ⟨S_, .f32⟩
  | 71 => ⟨S2x5x768, .f32⟩
  | 72 => ⟨S2x5x768, .f32⟩
  | 73 => ⟨S2x5x768, .f32⟩
  | 74 => ⟨S_, .f32⟩
  | 75 => ⟨S2x5x768, .f32⟩
  | 76 => ⟨S2x5x768, .f32⟩
  | 77 => ⟨S_, .f32⟩
  | 78 => ⟨S2x2x8, .f32⟩
  | 79 => ⟨S2x2x8, .f32⟩
  | 80 => ⟨S_, .f32⟩
  | 81 => ⟨S2x2x8, .f32⟩
  | 82 => ⟨S2x2x8, .f32⟩
  | 83 => ⟨S2x2x8, .f32⟩
  | 84 => ⟨S_, .f32⟩
  | 85 => ⟨S2x2x8, .f32⟩
  | 86 => ⟨S2x2x8, .f32⟩
  | 87 => ⟨S2x2x8, .f32⟩
  | 88 => ⟨S_, .f32⟩
  | 89 => ⟨S2x2x8, .f32⟩
  | 90 => ⟨S2x2x8, .f32⟩
  | 91 => ⟨S2x2x8, .f32⟩
  | 92 => ⟨S_, .f32⟩
  | 93 => ⟨S2x2x8, .f32⟩
  | 94 => ⟨S2x2x8, .f32⟩
  | 95 => ⟨S_, .f32⟩
  | 96 => ⟨S2x2x8, .f32⟩
  | 97 => ⟨S2x2x8, .f32⟩
  | 98 => ⟨S2x2x8, .f32⟩
  | 99 => ⟨S_, .f32⟩
  | 100 => ⟨S2x2x8, .f32⟩
  | 101 => ⟨S2x2x8, .f32⟩
  | 102 => ⟨S2x2x8, .f32⟩
  | 103 => ⟨S_, .f32⟩
  | 104 => ⟨S2x2x8, .f32⟩
  | 105 => ⟨S2x2x8, .f32⟩
  | 106 => ⟨S2x2x8, .f32⟩
  | 107 => ⟨S_, .f32⟩
  | 108 => ⟨S2x2x8, .f32⟩
  | 109 => ⟨S2x2x8, .f32⟩
  | 110 => ⟨S_, .f32⟩
  | 111 => ⟨S2x2x8, .f32⟩
  | 112 => ⟨S2x2x8, .f32⟩
  | 113 => ⟨S_, .f32⟩
  | 114 => ⟨S2x2x8, .f32⟩
  | 115 => ⟨S2x2x8, .f32⟩
  | 116 => ⟨S2x2x8, .f32⟩
  | 117 => ⟨S_, .f32⟩
  | 118 => ⟨S2x2x8, .f32⟩
  | 119 => ⟨S2x2x8, .f32⟩
  | 120 => ⟨S2x2x8, .f32⟩
  | 121 => ⟨S_, .f32⟩
  | 122 => ⟨S2x2x8, .f32⟩
  | 123 => ⟨S2x2x8, .f32⟩
  | 124 => ⟨S2x2x8, .f32⟩
  | 125 => ⟨S_, .f32⟩
  | 126 => ⟨S2x2x8, .f32⟩
  | 127 => ⟨S2x2x8, .f32⟩
  | _ => ⟨S2x5x768, .f32⟩

abbrev hbmTy0_1 (i : Nat) : BufTy := match i % 128 with
  | 0 => ⟨S_, .f32⟩
  | 1 => ⟨S2x2x8, .f32⟩
  | 2 => ⟨S2x2x8, .f32⟩
  | 3 => ⟨S2x2x8, .f32⟩
  | 4 => ⟨S_, .f32⟩
  | 5 => ⟨S2x2x8, .f32⟩
  | 6 => ⟨S2x2x8, .f32⟩
  | 7 => ⟨S2x2x8, .f32⟩
  | 8 => ⟨S_, .f32⟩
  | 9 => ⟨S2x2x8, .f32⟩
  | 10 => ⟨S2x2x8, .f32⟩
  | 11 => ⟨S2x2x8, .f32⟩
  | 12 => ⟨S_, .f32⟩
  | 13 => ⟨S2x2x8, .f32⟩
  | 14 => ⟨S2x2x8, .f32⟩
  | 15 => ⟨S_, .f32⟩
  | 16 => ⟨S2x128, .f32⟩
  | 17 => ⟨S2x128, .f32⟩
  | 18 => ⟨S_, .f32⟩
  | 19 => ⟨S2x128, .f32⟩
  | 20 => ⟨S2x128, .f32⟩
  | 21 => ⟨S2x128, .f32⟩
  | 22 => ⟨S_, .f32⟩
  | 23 => ⟨S2x128, .f32⟩
  | 24 => ⟨S2x128, .f32⟩
  | 25 => ⟨S2x128, .f32⟩
  | 26 => ⟨S_, .f32⟩
  | 27 => ⟨S2x128, .f32⟩
  | 28 => ⟨S2x128, .f32⟩
  | 29 => ⟨S2x128, .f32⟩
  | 30 => ⟨S_, .f32⟩
  | 31 => ⟨S2x128, .f32⟩
  | 32 => ⟨S2x128, .f32⟩
  | 33 => ⟨S_, .f32⟩
  | 34 => ⟨S2x128, .f32⟩
  | 35 => ⟨S2x128, .f32⟩
  | 36 => ⟨S2x128, .f32⟩
  | 37 => ⟨S_, .f32⟩
  | 38 => ⟨S2x128, .f32⟩
  | 39 => ⟨S2x128, .f32⟩
  | 40 => ⟨S2x128, .f32⟩
  | 41 => ⟨S_, .f32⟩
  | 42 => ⟨S2x128, .f32⟩
  | 43 => ⟨S2x128, .f32⟩
  | 44 => ⟨S2x128, .f32⟩
  | 45 => ⟨S_, .f32⟩
  | 46 => ⟨S2x128, .f32⟩
  | 47 => ⟨S2x128, .f32⟩
  | 48 => ⟨S_, .f32⟩
  | 49 => ⟨S2x2x16x128, .f32⟩
  | 50 => ⟨S2x2x16x128, .f32⟩
  | 51 => ⟨S_, .f32⟩
  | 52 => ⟨S2x2x16x128, .f32⟩
  | 53 => ⟨S2x2x16x128, .f32⟩
  | 54 => ⟨S2x2x16x128, .f32⟩
  | 55 => ⟨S_, .f32⟩
  | 56 => ⟨S2x2x16x128, .f32⟩
  | 57 => ⟨S2x2x16x128, .f32⟩
  | 58 => ⟨S2x2x16x128, .f32⟩
  | 59 => ⟨S_, .f32⟩
  | 60 => ⟨S2x2x16x128, .f32⟩
  | 61 => ⟨S2x2x16x128, .f32⟩
  | 62 => ⟨S2x2x16x128, .f32⟩
  | 63 => ⟨S_, .f32⟩
  | 64 => ⟨S2x2x16x128, .f32⟩
  | 65 => ⟨S2x2x16x128, .f32⟩
  | 66 => ⟨S_, .f32⟩
  | 67 => ⟨S2x2x16x128, .f32⟩
  | 68 => ⟨S2x2x16x128, .f32⟩
  | 69 => ⟨S2x2x16x128, .f32⟩
  | 70 => ⟨S_, .f32⟩
  | 71 => ⟨S2x2x16x128, .f32⟩
  | 72 => ⟨S2x2x16x128, .f32⟩
  | 73 => ⟨S2x2x16x128, .f32⟩
  | 74 => ⟨S_, .f32⟩
  | 75 => ⟨S2x2x16x128, .f32⟩
  | 76 => ⟨S2x2x16x128, .f32⟩
  | 77 => ⟨S2x2x16x128, .f32⟩
  | 78 => ⟨S_, .f32⟩
  | 79 => ⟨S2x2x16x128, .f32⟩
  | 80 => ⟨S2x2x16x128, .f32⟩
  | 81 => ⟨S_, .f32⟩
  | 82 => ⟨S2x2x128, .f32⟩
  | 83 => ⟨S2x2x128, .f32⟩
  | 84 => ⟨S_, .f32⟩
  | 85 => ⟨S2x2x128, .f32⟩
  | 86 => ⟨S2x2x128, .f32⟩
  | 87 => ⟨S2x2x128, .f32⟩
  | 88 => ⟨S_, .f32⟩
  | 89 => ⟨S2x2x128, .f32⟩
  | 90 => ⟨S2x2x128, .f32⟩
  | 91 => ⟨S2x2x128, .f32⟩
  | 92 => ⟨S_, .f32⟩
  | 93 => ⟨S2x2x128, .f32⟩
  | 94 => ⟨S2x2x128, .f32⟩
  | 95 => ⟨S2x2x128, .f32⟩
  | 96 => ⟨S_, .f32⟩
  | 97 => ⟨S2x2x128, .f32⟩
  | 98 => ⟨S2x2x128, .f32⟩
  | 99 => ⟨S_, .f32⟩
  | 100 => ⟨S2x2x128, .f32⟩
  | 101 => ⟨S2x2x128, .f32⟩
  | 102 => ⟨S2x2x128, .f32⟩
  | 103 => ⟨S_, .f32⟩
  | 104 => ⟨S2x2x128, .f32⟩
  | 105 => ⟨S2x2x128, .f32⟩
  | 106 => ⟨S2x2x128, .f32⟩
  | 107 => ⟨S_, .f32⟩
  | 108 => ⟨S2x2x128, .f32⟩
  | 109 => ⟨S2x2x128, .f32⟩
  | 110 => ⟨S2x2x128, .f32⟩
  | 111 => ⟨S_, .f32⟩
  | 112 => ⟨S2x2x128, .f32⟩
  | 113 => ⟨S2x2x128, .f32⟩
  | 114 => ⟨S_, .f32⟩
  | 115 => ⟨S2x64, .f32⟩
  | 116 => ⟨S2x64, .f32⟩
  | 117 => ⟨S_, .f32⟩
  | 118 => ⟨S2x64, .f32⟩
  | 119 => ⟨S2x64, .f32⟩
  | 120 => ⟨S2x64, .f32⟩
  | 121 => ⟨S_, .f32⟩
  | 122 => ⟨S2x64, .f32⟩
  | 123 => ⟨S2x64, .f32⟩
  | 124 => ⟨S2x64, .f32⟩
  | 125 => ⟨S_, .f32⟩
  | 126 => ⟨S2x64, .f32⟩
  | 127 => ⟨S2x64, .f32⟩
  | _ => ⟨S2x5x768, .f32⟩

abbrev hbmTy0_2 (i : Nat) : BufTy := match i % 128 with
  | 0 => ⟨S2x64, .f32⟩
  | 1 => ⟨S_, .f32⟩
  | 2 => ⟨S2x64, .f32⟩
  | 3 => ⟨S2x64, .f32⟩
  | 4 => ⟨S_, .f32⟩
  | 5 => ⟨S2x64, .f32⟩
  | 6 => ⟨S2x64, .f32⟩
  | 7 => ⟨S2x64, .f32⟩
  | 8 => ⟨S_, .f32⟩
  | 9 => ⟨S2x64, .f32⟩
  | 10 => ⟨S2x64, .f32⟩
  | 11 => ⟨S2x64, .f32⟩
  | 12 => ⟨S_, .f32⟩
  | 13 => ⟨S2x64, .f32⟩
  | 14 => ⟨S2x64, .f32⟩
  | 15 => ⟨S2x64, .f32⟩
  | 16 => ⟨S_, .f32⟩
  | 17 => ⟨S2x64, .f32⟩
  | 18 => ⟨S2x64, .f32⟩
  | 19 => ⟨S_, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S4x1024, .f32⟩
  | 26 => ⟨S_, .f32⟩
  | 27 => ⟨S4x1024, .f32⟩
  | 28 => ⟨S4x1024, .f32⟩
  | 29 => ⟨S4x1024, .f32⟩
  | 30 => ⟨S_, .f32⟩
  | 31 => ⟨S4x1024, .f32⟩
  | 32 => ⟨S4x1024, .f32⟩
  | 33 => ⟨S4x1024, .f32⟩
  | 34 => ⟨S_, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S4x1024, .f32⟩
  | 41 => ⟨S_, .f32⟩
  | 42 => ⟨S4x1024, .f32⟩
  | 43 => ⟨S4x1024, .f32⟩
  | 44 => ⟨S4x1024, .f32⟩
  | 45 => ⟨S_, .f32⟩
  | 46 => ⟨S4x1024, .f32⟩
  | 47 => ⟨S4x1024, .f32⟩
  | 48 => ⟨S4x1024, .f32⟩
  | 49 => ⟨S_, .f32⟩
  | 50 => ⟨S4x1024, .f32⟩
  | 51 => ⟨S4x1024, .f32⟩
  | 52 => ⟨S_, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S4x1024, .f32⟩
  | 63 => ⟨S_, .f32⟩
  | 64 => ⟨S4x1024, .f32⟩
  | 65 => ⟨S4x1024, .f32⟩
  | 66 => ⟨S4x1024, .f32⟩
  | 67 => ⟨S_, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S_, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S4x1024, .f32⟩
  | 92 => ⟨S_, .f32⟩
  | 93 => ⟨S4x1024, .f32⟩
  | 94 => ⟨S4x1024, .f32⟩
  | 95 => ⟨S4x1024, .f32⟩
  | 96 => ⟨S_, .f32⟩
  | 97 => ⟨S4x1024, .f32⟩
  | 98 => ⟨S4x1024, .f32⟩
  | 99 => ⟨S4x1024, .f32⟩
  | 100 => ⟨S_, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S4x1024, .f32⟩
  | 107 => ⟨S_, .f32⟩
  | 108 => ⟨S4x1024, .f32⟩
  | 109 => ⟨S4x1024, .f32⟩
  | 110 => ⟨S4x1024, .f32⟩
  | 111 => ⟨S_, .f32⟩
  | 112 => ⟨S4x1024, .f32⟩
  | 113 => ⟨S4x1024, .f32⟩
  | 114 => ⟨S4x1024, .f32⟩
  | 115 => ⟨S_, .f32⟩
  | 116 => ⟨S4x1024, .f32⟩
  | 117 => ⟨S4x1024, .f32⟩
  | 118 => ⟨S_, .f32⟩
  | 119 => ⟨S4x1024, .f32⟩
  | 120 => ⟨S4x1024, .f32⟩
  | 121 => ⟨S_, .f32⟩
  | 122 => ⟨S4x1024, .f32⟩
  | 123 => ⟨S4x1024, .f32⟩
  | 124 => ⟨S4x1024, .f32⟩
  | 125 => ⟨S_, .f32⟩
  | 126 => ⟨S4x1024, .f32⟩
  | 127 => ⟨S4x1024, .f32⟩
  | _ => ⟨S2x5x768, .f32⟩

abbrev hbmTy0_3 (i : Nat) : BufTy := match i % 128 with
  | 0 => ⟨S4x1024, .f32⟩
  | 1 => ⟨S_, .f32⟩
  | 2 => ⟨S4x1024, .f32⟩
  | 3 => ⟨S4x1024, .f32⟩
  | 4 => ⟨S4x1024, .f32⟩
  | 5 => ⟨S_, .f32⟩
  | 6 => ⟨S4x1024, .f32⟩
  | 7 => ⟨S4x1024, .f32⟩
  | 8 => ⟨S_, .f32⟩
  | 9 => ⟨S4x1024, .f32⟩
  | 10 => ⟨S4x1024, .f32⟩
  | 11 => ⟨S4x1024, .f32⟩
  | 12 => ⟨S_, .f32⟩
  | 13 => ⟨S4x1024, .f32⟩
  | 14 => ⟨S4x1024, .f32⟩
  | 15 => ⟨S4x1024, .f32⟩
  | 16 => ⟨S_, .f32⟩
  | 17 => ⟨S4x1024, .f32⟩
  | 18 => ⟨S4x1024, .f32⟩
  | 19 => ⟨S4x1024, .f32⟩
  | 20 => ⟨S_, .f32⟩
  | 21 => ⟨S4x1024, .f32⟩
  | 22 => ⟨S4x1024, .f32⟩
  | 23 => ⟨S60x128, .f32⟩
  | 24 => ⟨S1x32, .f32⟩
  | 25 => ⟨S_, .i32⟩
  | 26 => ⟨S_, .f32⟩
  | 27 => ⟨S1x128, .f32⟩
  | 28 => ⟨S1x32, .f32⟩
  | 29 => ⟨S_, .i32⟩
  | 30 => ⟨S_, .f32⟩
  | 31 => ⟨S1x128, .f32⟩
  | 32 => ⟨S64x128, .f32⟩
  | 33 => ⟨S4x128, .f32⟩
  | 34 => ⟨S1x128, .f32⟩
  | 35 => ⟨S32x128, .f32⟩
  | 36 => ⟨S32x128, .f32⟩
  | 37 => ⟨S32x128, .f32⟩
  | 38 => ⟨S32x128, .f32⟩
  | 39 => ⟨S_, .f32⟩
  | 40 => ⟨S3x128, .f32⟩
  | 41 => ⟨S264x128, .f32⟩
  | 42 => ⟨S60x128, .f32⟩
  | 43 => ⟨S1x32, .f32⟩
  | 44 => ⟨S_, .i32⟩
  | 45 => ⟨S_, .f32⟩
  | 46 => ⟨S1x128, .f32⟩
  | 47 => ⟨S1x32, .f32⟩
  | 48 => ⟨S_, .i32⟩
  | 49 => ⟨S_, .f32⟩
  | 50 => ⟨S1x128, .f32⟩
  | 51 => ⟨S64x128, .f32⟩
  | 52 => ⟨S4x128, .f32⟩
  | 53 => ⟨S1x128, .f32⟩
  | 54 => ⟨S32x128, .f32⟩
  | 55 => ⟨S32x128, .f32⟩
  | 56 => ⟨S32x128, .f32⟩
  | 57 => ⟨S32x128, .f32⟩
  | 58 => ⟨S_, .f32⟩
  | 59 => ⟨S3x128, .f32⟩
  | 60 => ⟨S264x128, .f32⟩
  | 61 => ⟨S60x128, .f32⟩
  | 62 => ⟨S1x32, .f32⟩
  | 63 => ⟨S_, .i32⟩
  | 64 => ⟨S_, .f32⟩
  | 65 => ⟨S1x128, .f32⟩
  | 66 => ⟨S1x32, .f32⟩
  | 67 => ⟨S_, .i32⟩
  | 68 => ⟨S_, .f32⟩
  | 69 => ⟨S1x128, .f32⟩
  | 70 => ⟨S64x128, .f32⟩
  | 71 => ⟨S4x128, .f32⟩
  | 72 => ⟨S1x128, .f32⟩
  | 73 => ⟨S32x128, .f32⟩
  | 74 => ⟨S32x128, .f32⟩
  | 75 => ⟨S32x128, .f32⟩
  | 76 => ⟨S32x128, .f32⟩
  | 77 => ⟨S_, .f32⟩
  | 78 => ⟨S3x128, .f32⟩
  | 79 => ⟨S264x128, .f32⟩
  | 80 => ⟨S60x128, .f32⟩
  | 81 => ⟨S1x32, .f32⟩
  | 82 => ⟨S_, .i32⟩
  | 83 => ⟨S_, .f32⟩
  | 84 => ⟨S1x128, .f32⟩
  | 85 => ⟨S1x32, .f32⟩
  | 86 => ⟨S_, .i32⟩
  | 87 => ⟨S_, .f32⟩
  | 88 => ⟨S1x128, .f32⟩
  | 89 => ⟨S64x128, .f32⟩
  | 90 => ⟨S4x128, .f32⟩
  | 91 => ⟨S1x128, .f32⟩
  | 92 => ⟨S32x128, .f32⟩
  | 93 => ⟨S32x128, .f32⟩
  | 94 => ⟨S32x128, .f32⟩
  | 95 => ⟨S32x128, .f32⟩
  | 96 => ⟨S_, .f32⟩
  | 97 => ⟨S3x128, .f32⟩
  | 98 => ⟨S264x128, .f32⟩
  | _ => ⟨S2x5x768, .f32⟩

abbrev hbmTy (i : Nat) : BufTy := match i / 128 with
  | 0 => hbmTy0_0 i
  | 1 => hbmTy0_1 i
  | 2 => hbmTy0_2 i
  | 3 => hbmTy0_3 i
  | _ => ⟨S2x5x768, .f32⟩

abbrev bufTy : (tb : Table) → Fin (tcTables nBuf tb) → BufTy
  | .hbm, ⟨i, _⟩ => hbmTy i
  | _, _ => ⟨S2x5x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_c : Ref sig .tc := ⟨.hbm, 409, rfl⟩
abbrev main_call0_v0 : Ref sig .tc := ⟨.hbm, 410, rfl⟩
abbrev main_v266 : Ref sig .tc := ⟨.hbm, 411, rfl⟩
abbrev main_v267 : Ref sig .tc := ⟨.hbm, 412, rfl⟩
abbrev main_c_98 : Ref sig .tc := ⟨.hbm, 413, rfl⟩
abbrev main_call1_v0 : Ref sig .tc := ⟨.hbm, 414, rfl⟩
abbrev main_v268 : Ref sig .tc := ⟨.hbm, 415, rfl⟩
abbrev main_v269 : Ref sig .tc := ⟨.hbm, 416, rfl⟩
abbrev main_v270 : Ref sig .tc := ⟨.hbm, 417, rfl⟩
abbrev main_v271 : Ref sig .tc := ⟨.hbm, 418, rfl⟩
abbrev main_v272 : Ref sig .tc := ⟨.hbm, 419, rfl⟩
abbrev main_v273 : Ref sig .tc := ⟨.hbm, 420, rfl⟩
abbrev main_v274 : Ref sig .tc := ⟨.hbm, 421, rfl⟩
abbrev main_v275 : Ref sig .tc := ⟨.hbm, 422, rfl⟩
abbrev main_cst_99 : Ref sig .tc := ⟨.hbm, 423, rfl⟩
abbrev main_v276 : Ref sig .tc := ⟨.hbm, 424, rfl⟩
abbrev main_v277 : Ref sig .tc := ⟨.hbm, 425, rfl⟩
abbrev main_v278 : Ref sig .tc := ⟨.hbm, 426, rfl⟩
abbrev main_v279 : Ref sig .tc := ⟨.hbm, 427, rfl⟩
abbrev main_c_100 : Ref sig .tc := ⟨.hbm, 428, rfl⟩
abbrev main_call2_v0 : Ref sig .tc := ⟨.hbm, 429, rfl⟩
abbrev main_v280 : Ref sig .tc := ⟨.hbm, 430, rfl⟩
abbrev main_v281 : Ref sig .tc := ⟨.hbm, 431, rfl⟩
abbrev main_c_101 : Ref sig .tc := ⟨.hbm, 432, rfl⟩
abbrev main_call3_v0 : Ref sig .tc := ⟨.hbm, 433, rfl⟩
abbrev main_v282 : Ref sig .tc := ⟨.hbm, 434, rfl⟩
abbrev main_v283 : Ref sig .tc := ⟨.hbm, 435, rfl⟩
abbrev main_v284 : Ref sig .tc := ⟨.hbm, 436, rfl⟩
abbrev main_v285 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_cst_102 : Ref sig .tc := ⟨.hbm, 442, rfl⟩
abbrev main_v290 : Ref sig .tc := ⟨.hbm, 443, rfl⟩
abbrev main_v291 : Ref sig .tc := ⟨.hbm, 444, rfl⟩
abbrev main_v292 : Ref sig .tc := ⟨.hbm, 445, rfl⟩
abbrev main_v293 : Ref sig .tc := ⟨.hbm, 446, rfl⟩
abbrev main_c_103 : Ref sig .tc := ⟨.hbm, 447, rfl⟩
abbrev main_call4_v0 : Ref sig .tc := ⟨.hbm, 448, rfl⟩
abbrev main_v294 : Ref sig .tc := ⟨.hbm, 449, rfl⟩
abbrev main_v295 : Ref sig .tc := ⟨.hbm, 450, rfl⟩
abbrev main_c_104 : Ref sig .tc := ⟨.hbm, 451, rfl⟩
abbrev main_call5_v0 : Ref sig .tc := ⟨.hbm, 452, rfl⟩
abbrev main_v296 : Ref sig .tc := ⟨.hbm, 453, rfl⟩
abbrev main_v297 : Ref sig .tc := ⟨.hbm, 454, rfl⟩
abbrev main_v298 : Ref sig .tc := ⟨.hbm, 455, rfl⟩
abbrev main_v299 : Ref sig .tc := ⟨.hbm, 456, rfl⟩
abbrev main_v300 : Ref sig .tc := ⟨.hbm, 457, rfl⟩
abbrev main_v301 : Ref sig .tc := ⟨.hbm, 458, rfl⟩
abbrev main_v302 : Ref sig .tc := ⟨.hbm, 459, rfl⟩
abbrev main_v303 : Ref sig .tc := ⟨.hbm, 460, rfl⟩
abbrev main_cst_105 : Ref sig .tc := ⟨.hbm, 461, rfl⟩
abbrev main_v304 : Ref sig .tc := ⟨.hbm, 462, rfl⟩
abbrev main_v305 : Ref sig .tc := ⟨.hbm, 463, rfl⟩
abbrev main_v306 : Ref sig .tc := ⟨.hbm, 464, rfl⟩
abbrev main_v307 : Ref sig .tc := ⟨.hbm, 465, rfl⟩
abbrev main_c_106 : Ref sig .tc := ⟨.hbm, 466, rfl⟩
abbrev main_call6_v0 : Ref sig .tc := ⟨.hbm, 467, rfl⟩
abbrev main_v308 : Ref sig .tc := ⟨.hbm, 468, rfl⟩
abbrev main_v309 : Ref sig .tc := ⟨.hbm, 469, rfl⟩
abbrev main_c_107 : Ref sig .tc := ⟨.hbm, 470, rfl⟩
abbrev main_call7_v0 : Ref sig .tc := ⟨.hbm, 471, rfl⟩
abbrev main_v310 : Ref sig .tc := ⟨.hbm, 472, rfl⟩
abbrev main_v311 : Ref sig .tc := ⟨.hbm, 473, rfl⟩
abbrev main_v312 : Ref sig .tc := ⟨.hbm, 474, rfl⟩
abbrev main_v313 : Ref sig .tc := ⟨.hbm, 475, rfl⟩
abbrev main_v314 : Ref sig .tc := ⟨.hbm, 476, rfl⟩
abbrev main_v315 : Ref sig .tc := ⟨.hbm, 477, rfl⟩
abbrev main_v316 : Ref sig .tc := ⟨.hbm, 478, rfl⟩
abbrev main_v317 : Ref sig .tc := ⟨.hbm, 479, rfl⟩
abbrev main_cst_108 : Ref sig .tc := ⟨.hbm, 480, rfl⟩
abbrev main_v318 : Ref sig .tc := ⟨.hbm, 481, rfl⟩
abbrev main_v319 : Ref sig .tc := ⟨.hbm, 482, rfl⟩

abbrev nD : Nat := 1
abbrev τ : Topo := Topo.v7x

variable {F : FTy → Type} [FloatOps F]
-- ==== Proof.Head.lean ====
/- The body of the gradient kernel for ONE head, as functions of that head's tiles: the same operations as the printed body,
   cut into the pieces the mathematics speaks of. The four heads of a grid point run the same text on different lanes. -/
module

public import proofs.«01_k».proof.Proof.Gen.KernelIdeal.Value

@[expose] public section

noncomputable section

namespace Cert.KernelIdeal.Head

open Cert.KernelIdeal Cert.KernelIdeal.Gen Idealize.ShloMosaic Idealize.ShloMosaic.TcCoe Idealize.SL.Sem

variable {F : FTy → Type} [FloatOps F]

/-! ## Products -/

/-- The leading half of a split operand. -/
def hi {s : Shape} (x : FVec F s .f32) : FVec F s .bf16 := truncf .bf16 x bitsLt_bf16_f32
/-- The rest of a split operand. -/
def lo {s : Shape} (x : FVec F s .f32) : FVec F s .bf16 := truncf .bf16 (subf x (extf .f32 (hi x) bitsLt_bf16_f32)) bitsLt_bf16_f32
/-- A product on the matrix unit of two narrowed operands. -/
def mm {a b c : Shape} (d : DotDims a b c) (x : FVec F a .f32) (y : FVec F b .f32) : FVec F c .f32 :=
  matmul d none (hi x) (hi y) (constant c .f32 0x00000000#32)
/-- A product in three passes, of split operands. -/
def x3 {a b c : Shape} (d : DotDims a b c) (x : FVec F a .f32) (y : FVec F b .f32) : FVec F c .f32 :=
  addf (addf (matmul d none (hi x) (lo y) (constant c .f32 0x00000000#32))
    (matmul d none (lo x) (hi y) (constant c .f32 0x00000000#32))) (matmul d none (hi x) (hi y) (constant c .f32 0x00000000#32))

/-- A vector of zeros. -/
def zer (s : Shape) : FVec F s .f32 := broadcast s (Scalar.ofBits .f32 0x00000000#32)
/-- A vector of minus infinities. -/
def ninf (s : Shape) : FVec F s .f32 := broadcast s (Scalar.ofBits .f32 0xFF800000#32)

/-- The sum over the rows, as a row. -/
def rsum (x : FVec F S64x128 .f32) : FVec F S1x128 .f32 :=
  shapeCast S1x128 (multiReduction .add [0] S128 x 0x00000000#32 reduces_S64x128_S128 (.inl rfl) rfl) shapeCasts_S128_S1x128

/-! ## Masks -/

section masks
variable (arg0 : BitVec 32)

/-- The direction's sign: 1 forward, −1 backward. -/
def sg : BitVec 32 := Scalar.subi 1#32 (Scalar.muli 2#32 arg0)

/-- The rows at or before a row, in the direction's order, as zeros and ones. -/
def low : FVec F S64x64 .f32 :=
  sitofp .f32 (extui 32 (cmpi .sge (muli (subi (iota .tc S64x64 32 [0] iota_S64x64_d0_w32) (iota .tc S64x64 32 [1] iota_S64x64_d1_w32))
    (broadcast S64x64 (sg arg0))) (broadcast S64x64 0#32)) natLt_1_32)

/-- The row number. -/
def row : IVec S64x128 32 := iota .tc S64x128 32 [0] iota_S64x128_d0_w32

/-- The sub-block of sixteen rows a row lies in. -/
def sub : IVec S64x128 32 :=
  select (andi
      (cmpi .ne (subi (extui 32 (cmpi .sgt row (broadcast S64x128 0#32)) natLt_1_32) (extui 32 (cmpi .slt row (broadcast S64x128 0#32)) natLt_1_32))
        (broadcast S64x128 (Scalar.subi (Scalar.extui (Scalar.cmpi .sgt 16#32 0#32)) (Scalar.extui (Scalar.cmpi .slt 16#32 0#32)))))
      (cmpi .ne (remsi row (broadcast S64x128 16#32)) (broadcast S64x128 0#32)))
    (subi (divsi row (broadcast S64x128 16#32)) (broadcast S64x128 1#32)) (divsi row (broadcast S64x128 16#32))

/-- The row just before a sub-block, in the direction's order: `y` forward, `x` backward. -/
def refRow (x y : BitVec 32) : IVec S64x128 1 :=
  cmpi .eq row (broadcast S64x128 (Scalar.select (Scalar.cmpi .eq arg0 1#32) x y))

/-- The rows of the sub-blocks before sub-block `n`, in the direction's order. -/
def past (n : BitVec 32) : IVec S64x128 1 :=
  cmpi .slt (muli (subi sub (broadcast S64x128 n)) (broadcast S64x128 (sg arg0))) (broadcast S64x128 0#32)

/-- The pairs of rows of a sub-block of which the second is at or before the first. -/
def own : IVec S16x16x128 1 :=
  cmpi .sge (muli (subi (iota .tc S16x16x128 32 [0] iota_S16x16x128_d0_w32) (iota .tc S16x16x128 32 [1] iota_S16x16x128_d1_w32))
    (broadcast S16x16x128 (sg arg0))) (broadcast S16x16x128 0#32)

end masks

/-- Where a sub-block's columns lie among the sixty-four, as zeros and ones. -/
def place (o : BitVec 32) : FVec F S16x64 .f32 :=
  sitofp .f32 (extui 32 (cmpi .eq (iota .tc S16x64 32 [1] iota_S16x64_d1_w32)
    (addi (iota .tc S16x64 32 [0] iota_S16x64_d0_w32) (broadcast S16x64 o))) natLt_1_32)

/-! ## The forward quantities -/

/-- The running sum of the log-decays. -/
def cum (arg0 : BitVec 32) (la : FVec F S64x128 .f32) : FVec F S64x128 .f32 := x3 dot_S64x64_S64x128_S64x128_1_0_0_1_n_n (low arg0) la

/-- The scaled queries. -/
def scl (q : FVec F S64x128 .f32) : FVec F S64x128 .f32 := mulf q (broadcast S64x128 (Scalar.ofBits .f32 0x3DB504F3#32))

/-- The running sum at the reference row of a sub-block. -/
def rref (arg0 x y : BitVec 32) (b : FVec F S64x128 .f32) : FVec F S1x128 .f32 := rsum (select (refRow arg0 x y) b (zer S64x128))

section blk
variable (o : Fin 2 → ℕ) (h : S64x128.Slices o S16x128)

/-- A sub-block's rows. -/
def sl (x : FVec F S64x128 .f32) : FVec F S16x128 .f32 := extractStridedSlice S16x128 o x h

/-- The decay from the reference row to a sub-block's rows. -/
def qe (b : FVec F S64x128 .f32) (r : FVec F S1x128 .f32) : FVec F S16x128 .f32 :=
  exp (subf (sl o h b) (broadcastTo S16x128 r broadcasts_S1x128_S16x128))

/-- The decay from the earlier rows to the reference row. -/
def ke (arg0 n : BitVec 32) (b : FVec F S64x128 .f32) (r : FVec F S1x128 .f32) : FVec F S64x128 .f32 :=
  exp (select (past arg0 n) (subf (broadcastTo S64x128 r broadcasts_S1x128_S64x128) b) (ninf S64x128))

/-- The scores of a sub-block with the earlier sub-blocks. -/
def scOff (qb : FVec F S16x128 .f32) (kp : FVec F S64x128 .f32) : FVec F S16x64 .f32 := x3 dot_S16x128_S64x128_S16x64_1_1_0_0_n_n qb kp

/-- A row index spread over pairs, on the first place. -/
def fst3 (x : FVec F S16x128 .f32) : FVec F S16x16x128 .f32 :=
  broadcastTo S16x16x128 (shapeCast S16x1x128 x shapeCasts_S16x128_S16x1x128) broadcasts_S16x1x128_S16x16x128
/-- A row index spread over pairs, on the second place. -/
def snd3 (x : FVec F S16x128 .f32) : FVec F S16x16x128 .f32 :=
  broadcastTo S16x16x128 (shapeCast S1x16x128 x shapeCasts_S16x128_S1x16x128) broadcasts_S1x16x128_S16x16x128

/-- The decay between two rows of a sub-block. -/
def dec (arg0 : BitVec 32) (b : FVec F S64x128 .f32) : FVec F S16x16x128 .f32 :=
  exp (select (own arg0) (subf (fst3 (sl o h b)) (snd3 (sl o h b))) (ninf S16x16x128))

/-- The product of query and key over pairs of a sub-block's rows. -/
def qk (qs k : FVec F S64x128 .f32) : FVec F S16x16x128 .f32 := mulf (fst3 (sl o h qs)) (snd3 (sl o h k))

/-- The scores of a sub-block with itself, at their place. -/
def scOwn (arg0 p : BitVec 32) (qs k b : FVec F S64x128 .f32) : FVec F S16x64 .f32 :=
  x3 dot_S16x16_S16x64_S16x64_1_0_0_1_n_n
    (multiReduction .add [2] S16x16 (mulf (qk o h qs k) (dec o h arg0 b)) 0x00000000#32 reduces_S16x16x128_S16x16 (.inl rfl) rfl) (place p)

end blk

/-- Four sub-blocks' rows of scores, stacked. -/
def cat4 (x y z w : FVec F S16x64 .f32) : FVec F S64x64 .f32 :=
  concatenate S64x64 0 [⟨S16x64, x⟩, ⟨S16x64, y⟩, ⟨S16x64, z⟩, ⟨S16x64, w⟩] concatenates_S16x64_S16x64_S16x64_S16x64_S64x64_d0

section fwd
variable (arg0 : BitVec 32) (qs k b : FVec F S64x128 .f32)

def r0 := rref arg0 16#32 4294967295#32 b
def r1 := rref arg0 32#32 15#32 b
def r2 := rref arg0 48#32 31#32 b
def r3 := rref arg0 64#32 47#32 b
def qe0 := qe ![0, 0] slices_S64x128_o0_0_S16x128 b (r0 arg0 b)
def qe1 := qe ![16, 0] slices_S64x128_o16_0_S16x128 b (r1 arg0 b)
def qe2 := qe ![32, 0] slices_S64x128_o32_0_S16x128 b (r2 arg0 b)
def qe3 := qe ![48, 0] slices_S64x128_o48_0_S16x128 b (r3 arg0 b)
def ke0 := ke arg0 0#32 b (r0 arg0 b)
def ke1 := ke arg0 1#32 b (r1 arg0 b)
def ke2 := ke arg0 2#32 b (r2 arg0 b)
def ke3 := ke arg0 3#32 b (r3 arg0 b)
def qb0 := mulf (sl ![0, 0] slices_S64x128_o0_0_S16x128 qs) (qe0 arg0 b)
def qb1 := mulf (sl ![16, 0] slices_S64x128_o16_0_S16x128 qs) (qe1 arg0 b)
def qb2 := mulf (sl ![32, 0] slices_S64x128_o32_0_S16x128 qs) (qe2 arg0 b)
def qb3 := mulf (sl ![48, 0] slices_S64x128_o48_0_S16x128 qs) (qe3 arg0 b)
def kp0 := mulf k (ke0 arg0 b)
def kp1 := mulf k (ke1 arg0 b)
def kp2 := mulf k (ke2 arg0 b)
def kp3 := mulf k (ke3 arg0 b)

/-- The scores. -/
def scores : FVec F S64x64 .f32 :=
  addf (cat4 (scOff (qb0 arg0 qs b) (kp0 arg0 k b)) (scOff (qb1 arg0 qs b) (kp1 arg0 k b)) (scOff (qb2 arg0 qs b) (kp2 arg0 k b))
      (scOff (qb3 arg0 qs b) (kp3 arg0 k b)))
    (cat4 (scOwn ![0, 0] slices_S64x128_o0_0_S16x128 arg0 0#32 qs k b) (scOwn ![16, 0] slices_S64x128_o16_0_S16x128 arg0 16#32 qs k b)
      (scOwn ![32, 0] slices_S64x128_o32_0_S16x128 arg0 32#32 qs k b) (scOwn ![48, 0] slices_S64x128_o48_0_S16x128 arg0 48#32 qs k b))

end fwd

/-! ## The gradient -/

/-- Sixteen rows put at a sub-block's place among zeros. -/
def pad0 (x : FVec F S16x128 .f32) : FVec F S64x128 .f32 :=
  concatenate S64x128 0 [⟨S16x128, x⟩, ⟨S48x128, zer S48x128⟩] concatenates_S16x128_S48x128_S64x128_d0
def pad1 (x : FVec F S16x128 .f32) : FVec F S64x128 .f32 :=
  concatenate S64x128 0 [⟨S32x128, concatenate S32x128 0 [⟨S16x128, zer S16x128⟩, ⟨S16x128, x⟩] concatenates_S16x128_S16x128_S32x128_d0⟩,
    ⟨S32x128, zer S32x128⟩] concatenates_S32x128_S32x128_S64x128_d0
def pad2 (x : FVec F S16x128 .f32) : FVec F S64x128 .f32 :=
  concatenate S64x128 0 [⟨S48x128, concatenate S48x128 0 [⟨S32x128, zer S32x128⟩, ⟨S16x128, x⟩] concatenates_S32x128_S16x128_S48x128_d0⟩,
    ⟨S16x128, zer S16x128⟩] concatenates_S48x128_S16x128_S64x128_d0
def pad3 (x : FVec F S16x128 .f32) : FVec F S64x128 .f32 :=
  concatenate S64x128 0 [⟨S48x128, zer S48x128⟩, ⟨S16x128, x⟩] concatenates_S48x128_S16x128_S64x128_d0

/-- The sum over the second of a pair of rows. -/
def sumSnd (x : FVec F S16x16x128 .f32) : FVec F S16x128 .f32 :=
  multiReduction .add [1] S16x128 (shapeCast S16x1x128 (multiReduction .add [1] S16x128 x 0x00000000#32 reduces_S16x16x128_S16x128_2 (.inl rfl) rfl)
    shapeCasts_S16x128_S16x1x128) 0x00000000#32 reduces_S16x1x128_S16x128 (.inl rfl) rfl
/-- The sum over the first of a pair of rows. -/
def sumFst (x : FVec F S16x16x128 .f32) : FVec F S16x128 .f32 :=
  multiReduction .add [0] S16x128 (shapeCast S1x16x128 (multiReduction .add [0] S16x128 x 0x00000000#32 reduces_S16x16x128_S16x128 (.inl rfl) rfl)
    shapeCasts_S16x128_S1x16x128) 0x00000000#32 reduces_S1x16x128_S16x128 (.inl rfl) rfl

/-- The sum over a one-row vector's row, as a row. -/
def rsum1 (x : FVec F S1x128 .f32) : FVec F S1x128 .f32 :=
  shapeCast S1x128 (multiReduction .add [0] S128 x 0x00000000#32 reduces_S1x128_S128 (.inl rfl) rfl) shapeCasts_S128_S1x128

section ownBack
variable (o : Fin 2 → ℕ) (h : S64x128.Slices o S16x128) (h' : S64x64.Slices o S16x64) (arg0 p : BitVec 32) (qs k b : FVec F S64x128 .f32) (D : FVec F S64x64 .f32)

/-- The scores' gradient within a sub-block, spread over the lanes. -/
def dP : FVec F S16x16x128 .f32 :=
  broadcastTo S16x16x128 (shapeCast S16x16x1 (x3 dot_S16x64_S16x64_S16x16_1_1_0_0_n_n (extractStridedSlice S16x64 o D h') (place p))
    shapeCasts_S16x16_S16x16x1) broadcasts_S16x16x1_S16x16x128
def dPdec : FVec F S16x16x128 .f32 := mulf (dP o h' p D) (dec o h arg0 b)
def dkOwn : FVec F S16x128 .f32 := sumFst (mulf (fst3 (sl o h qs)) (dPdec o h h' arg0 p b D))
def dqOwn : FVec F S16x128 .f32 := sumSnd (mulf (dPdec o h h' arg0 p b D) (snd3 (sl o h k)))
def dDec : FVec F S16x16x128 .f32 := select (own arg0) (mulf (mulf (qk o h qs k) (dP o h' p D)) (dec o h arg0 b)) (zer S16x16x128)
def dbOwn : FVec F S16x128 .f32 :=
  addf (sumFst (subf (zer S16x16x128) (dDec o h h' arg0 p qs k b D))) (sumSnd (dDec o h h' arg0 p qs k b D))

end ownBack

section offBack
variable (o : Fin 2 → ℕ) (h : S64x128.Slices o S16x128) (h' : S64x64.Slices o S16x64)

def dqb (D : FVec F S64x64 .f32) (kp : FVec F S64x128 .f32) : FVec F S16x128 .f32 :=
  x3 dot_S16x64_S64x128_S16x128_1_0_0_1_n_n (extractStridedSlice S16x64 o D h') kp
def dkp (D : FVec F S64x64 .f32) (qb : FVec F S16x128 .f32) : FVec F S64x128 .f32 :=
  x3 dot_S16x64_S16x128_S64x128_0_0_1_1_n_n (extractStridedSlice S16x64 o D h') qb
/-- What the earlier rows' decay receives. -/
def dke (arg0 n : BitVec 32) (k dkp ke : FVec F S64x128 .f32) : FVec F S64x128 .f32 := select (past arg0 n) (mulf (mulf k dkp) ke) (zer S64x128)
/-- What a sub-block's own decay receives. -/
def dqe (qs : FVec F S64x128 .f32) (dqb qe : FVec F S16x128 .f32) : FVec F S16x128 .f32 := mulf (mulf (sl o h qs) dqb) qe
/-- What the reference row's running sum receives. -/
def drow (m : FVec F S64x128 .f32) (q : FVec F S16x128 .f32) : FVec F S1x128 .f32 :=
  addf (rsum m) (shapeCast S1x128 (multiReduction .add [0] S128 (subf (zer S16x128) q) 0x00000000#32 reduces_S16x128_S128 (.inl rfl) rfl) shapeCasts_S128_S1x128)
def drefs (arg0 x y : BitVec 32) (d : FVec F S1x128 .f32) : FVec F S64x128 .f32 :=
  select (refRow arg0 x y) (broadcastTo S64x128 (rsum1 d) broadcasts_S1x128_S64x128) (zer S64x128)

end offBack

section all
variable (arg0 : BitVec 32) (q k : FVec F S64x128 .f32) (v : FVec F S64x256 .f32) (la : FVec F S64x128 .f32) (S : FVec F S256x128 .f32)
  (g : FVec F S64x256 .f32) (G : FVec F S256x128 .f32)

/-- The whole chunk's decay, as a row. -/
def bl : FVec F S1x128 .f32 := rsum la
def ekl : FVec F S64x128 .f32 := exp (subf (broadcastTo S64x128 (bl la) broadcasts_S1x128_S64x128) (cum arg0 la))
def qeb : FVec F S64x128 .f32 := mulf (scl q) (exp (cum arg0 la))
def g1 : FVec F S64x256 .f32 := shapeCast S64x256 g shapeCasts_S64x256_S64x256
def G1 : FVec F S256x128 .f32 := shapeCast S256x128 G shapeCasts_S256x128_S256x128
def D : FVec F S64x64 .f32 := mm dot_S64x256_S64x256_S64x64_1_1_0_0_n_n (g1 g) v
def vG : FVec F S64x128 .f32 := mm dot_S64x256_S256x128_S64x128_1_0_0_1_n_n v (G1 G)
def gS : FVec F S64x128 .f32 := mm dot_S64x256_S256x128_S64x128_1_0_0_1_n_n (g1 g) S

/-- The values' gradient. -/
def outV : FVec F S64x256 .f32 :=
  addf (mm dot_S64x128_S256x128_S64x256_1_1_0_0_n_n (mulf k (ekl arg0 la)) (G1 G))
    (mm dot_S64x64_S64x256_S64x256_0_0_1_1_n_n (scores arg0 (scl q) k (cum arg0 la)) (g1 g))
/-- The state's gradient, handed to the chunk before. -/
def outS : FVec F S256x128 .f32 :=
  addf (mulf (broadcastTo S256x128 (exp (bl la)) broadcasts_S1x128_S256x128) (G1 G)) (mm dot_S64x256_S64x128_S256x128_0_0_1_1_n_n (g1 g) (qeb arg0 q la))

def vGk : FVec F S64x128 .f32 := mulf (mulf k (vG v G)) (ekl arg0 la)
def dbl : FVec F S1x128 .f32 :=
  addf (mulf (shapeCast S1x128 (multiReduction .add [0] S128 (mulf (G1 G) S) 0x00000000#32 reduces_S256x128_S128 (.inl rfl) rfl) shapeCasts_S128_S1x128)
    (exp (bl la))) (rsum (vGk arg0 k v la G))

/-- The four sub-blocks' contributions `x₃ … x₀` added to `a`, the last first. -/
def add4 (a x y z w : FVec F S64x128 .f32) : FVec F S64x128 .f32 := addf (addf (addf (addf a x) y) z) w

abbrev dqb0 := dqb ![0, 0] slices_S64x64_o0_0_S16x64 (D v g) (kp0 arg0 k (cum arg0 la))
abbrev dqb1 := dqb ![16, 0] slices_S64x64_o16_0_S16x64 (D v g) (kp1 arg0 k (cum arg0 la))
abbrev dqb2 := dqb ![32, 0] slices_S64x64_o32_0_S16x64 (D v g) (kp2 arg0 k (cum arg0 la))
abbrev dqb3 := dqb ![48, 0] slices_S64x64_o48_0_S16x64 (D v g) (kp3 arg0 k (cum arg0 la))
abbrev dkp0 := dkp ![0, 0] slices_S64x64_o0_0_S16x64 (D v g) (qb0 arg0 (scl q) (cum arg0 la))
abbrev dkp1 := dkp ![16, 0] slices_S64x64_o16_0_S16x64 (D v g) (qb1 arg0 (scl q) (cum arg0 la))
abbrev dkp2 := dkp ![32, 0] slices_S64x64_o32_0_S16x64 (D v g) (qb2 arg0 (scl q) (cum arg0 la))
abbrev dkp3 := dkp ![48, 0] slices_S64x64_o48_0_S16x64 (D v g) (qb3 arg0 (scl q) (cum arg0 la))

def dqAll : FVec F S64x128 .f32 :=
  add4 (add4 (mulf (gS S g) (exp (cum arg0 la)))
      (pad3 (dqOwn ![48, 0] slices_S64x128_o48_0_S16x128 slices_S64x64_o48_0_S16x64 arg0 48#32 k (cum arg0 la) (D v g)))
      (pad2 (dqOwn ![32, 0] slices_S64x128_o32_0_S16x128 slices_S64x64_o32_0_S16x64 arg0 32#32 k (cum arg0 la) (D v g)))
      (pad1 (dqOwn ![16, 0] slices_S64x128_o16_0_S16x128 slices_S64x64_o16_0_S16x64 arg0 16#32 k (cum arg0 la) (D v g)))
      (pad0 (dqOwn ![0, 0] slices_S64x128_o0_0_S16x128 slices_S64x64_o0_0_S16x64 arg0 0#32 k (cum arg0 la) (D v g))))
    (pad3 (mulf (dqb3 arg0 k v la g) (qe3 arg0 (cum arg0 la)))) (pad2 (mulf (dqb2 arg0 k v la g) (qe2 arg0 (cum arg0 la))))
    (pad1 (mulf (dqb1 arg0 k v la g) (qe1 arg0 (cum arg0 la)))) (pad0 (mulf (dqb0 arg0 k v la g) (qe0 arg0 (cum arg0 la))))

/-- The queries' gradient. -/
def outQ : FVec F S64x128 .f32 := scl (dqAll arg0 k v la S g)

/-- The keys' gradient. -/
def outK : FVec F S64x128 .f32 :=
  add4 (add4 (mulf (vG v G) (ekl arg0 la))
      (pad3 (dkOwn ![48, 0] slices_S64x128_o48_0_S16x128 slices_S64x64_o48_0_S16x64 arg0 48#32 (scl q) (cum arg0 la) (D v g)))
      (pad2 (dkOwn ![32, 0] slices_S64x128_o32_0_S16x128 slices_S64x64_o32_0_S16x64 arg0 32#32 (scl q) (cum arg0 la) (D v g)))
      (pad1 (dkOwn ![16, 0] slices_S64x128_o16_0_S16x128 slices_S64x64_o16_0_S16x64 arg0 16#32 (scl q) (cum arg0 la) (D v g)))
      (pad0 (dkOwn ![0, 0] slices_S64x128_o0_0_S16x128 slices_S64x64_o0_0_S16x64 arg0 0#32 (scl q) (cum arg0 la) (D v g))))
    (mulf (dkp3 arg0 q v la g) (ke3 arg0 (cum arg0 la))) (mulf (dkp2 arg0 q v la g) (ke2 arg0 (cum arg0 la)))
    (mulf (dkp1 arg0 q v la g) (ke1 arg0 (cum arg0 la))) (mulf (dkp0 arg0 q v la g) (ke0 arg0 (cum arg0 la)))

def dke0 := dke arg0 0#32 k (dkp0 arg0 q v la g) (ke0 arg0 (cum arg0 la))
def dke1 := dke arg0 1#32 k (dkp1 arg0 q v la g) (ke1 arg0 (cum arg0 la))
def dke2 := dke arg0 2#32 k (dkp2 arg0 q v la g) (ke2 arg0 (cum arg0 la))
def dke3 := dke arg0 3#32 k (dkp3 arg0 q v la g) (ke3 arg0 (cum arg0 la))
def dqe0 := dqe ![0, 0] slices_S64x128_o0_0_S16x128 (scl q) (dqb0 arg0 k v la g) (qe0 arg0 (cum arg0 la))
def dqe1 := dqe ![16, 0] slices_S64x128_o16_0_S16x128 (scl q) (dqb1 arg0 k v la g) (qe1 arg0 (cum arg0 la))
def dqe2 := dqe ![32, 0] slices_S64x128_o32_0_S16x128 (scl q) (dqb2 arg0 k v la g) (qe2 arg0 (cum arg0 la))
def dqe3 := dqe ![48, 0] slices_S64x128_o48_0_S16x128 (scl q) (dqb3 arg0 k v la g) (qe3 arg0 (cum arg0 la))

/-- One sub-block's contribution to the running sums' gradient. -/
def offB (acc m q w : FVec F S64x128 .f32) : FVec F S64x128 .f32 := addf (addf (addf acc (subf (zer S64x128) m)) q) w

/-- The running sums' gradient. -/
def db : FVec F S64x128 .f32 :=
  offB (offB (offB (offB
    (add4 (addf (subf (zer S64x128) (vGk arg0 k v la G)) (mulf (mulf (scl q) (gS S g)) (exp (cum arg0 la))))
      (pad3 (dbOwn ![48, 0] slices_S64x128_o48_0_S16x128 slices_S64x64_o48_0_S16x64 arg0 48#32 (scl q) k (cum arg0 la) (D v g)))
      (pad2 (dbOwn ![32, 0] slices_S64x128_o32_0_S16x128 slices_S64x64_o32_0_S16x64 arg0 32#32 (scl q) k (cum arg0 la) (D v g)))
      (pad1 (dbOwn ![16, 0] slices_S64x128_o16_0_S16x128 slices_S64x64_o16_0_S16x64 arg0 16#32 (scl q) k (cum arg0 la) (D v g)))
      (pad0 (dbOwn ![0, 0] slices_S64x128_o0_0_S16x128 slices_S64x64_o0_0_S16x64 arg0 0#32 (scl q) k (cum arg0 la) (D v g))))
    (dke3 arg0 q k v la g) (pad3 (dqe3 arg0 q k v la g)) (drefs arg0 64#32 47#32 (drow (dke3 arg0 q k v la g) (dqe3 arg0 q k v la g))))
    (dke2 arg0 q k v la g) (pad2 (dqe2 arg0 q k v la g)) (drefs arg0 48#32 31#32 (drow (dke2 arg0 q k v la g) (dqe2 arg0 q k v la g))))
    (dke1 arg0 q k v la g) (pad1 (dqe1 arg0 q k v la g)) (drefs arg0 32#32 15#32 (drow (dke1 arg0 q k v la g) (dqe1 arg0 q k v la g))))
    (dke0 arg0 q k v la g) (pad0 (dqe0 arg0 q k v la g)) (drefs arg0 16#32 4294967295#32 (drow (dke0 arg0 q k v la g) (dqe0 arg0 q k v la g)))

/-- The log-decays' gradient. -/
def outA : FVec F S64x128 .f32 :=
  addf (broadcastTo S64x128 (rsum1 (dbl arg0 k v la S G)) broadcasts_S1x128_S64x128)
    (x3 dot_S64x64_S64x128_S64x128_0_0_1_1_n_n (low arg0) (db arg0 q k v la S g G))

end all

/-! The five results with the same arguments. -/

def resQ (arg0 : BitVec 32) (q k : FVec F S64x128 .f32) (v : FVec F S64x256 .f32) (la : FVec F S64x128 .f32) (S : FVec F S256x128 .f32)
    (g : FVec F S64x256 .f32) (G : FVec F S256x128 .f32) : FVec F S64x128 .f32 := outQ arg0 k v la S g
def resK (arg0 : BitVec 32) (q k : FVec F S64x128 .f32) (v : FVec F S64x256 .f32) (la : FVec F S64x128 .f32) (S : FVec F S256x128 .f32)
    (g : FVec F S64x256 .f32) (G : FVec F S256x128 .f32) : FVec F S64x128 .f32 := outK arg0 q v la g G
def resV (arg0 : BitVec 32) (q k : FVec F S64x128 .f32) (v : FVec F S64x256 .f32) (la : FVec F S64x128 .f32) (S : FVec F S256x128 .f32)
    (g : FVec F S64x256 .f32) (G : FVec F S256x128 .f32) : FVec F S64x256 .f32 := outV arg0 q k la g G
def resS (arg0 : BitVec 32) (q k : FVec F S64x128 .f32) (v : FVec F S64x256 .f32) (la : FVec F S64x128 .f32) (S : FVec F S256x128 .f32)
    (g : FVec F S64x256 .f32) (G : FVec F S256x128 .f32) : FVec F S256x128 .f32 := outS arg0 q la g G
def resA (arg0 : BitVec 32) (q k : FVec F S64x128 .f32) (v : FVec F S64x256 .f32) (la : FVec F S64x128 .f32) (S : FVec F S256x128 .f32)
    (g : FVec F S64x256 .f32) (G : FVec F S256x128 .f32) : FVec F S64x128 .f32 := outA arg0 q k v la S g G

end Cert.KernelIdeal.Head

end
-- ==== Proof.Spec.lean ====
/- The gradient of one chunk of the gated recurrence over the reals, for one direction and one head: the formulas that both the
   kernel's chunk and the reference's step compute. -/
module

public import Mathlib.Analysis.SpecialFunctions.Exp

@[expose] public section

noncomputable section

namespace Cert.Chunk

/-- Row `j` is at or before row `i`, in the order of direction `d`. -/
def le (d : Fin 2) {n : ℕ} (j i : Fin n) : Prop := if d = 0 then j ≤ i else i ≤ j
instance (d : Fin 2) {n : ℕ} (j i : Fin n) : Decidable (le d j i) := by unfold le; infer_instance

/-- A real matrix. -/
abbrev M (n m : ℕ) := Fin n → Fin m → ℝ

section
variable (d : Fin 2) (qs k : M 64 128) (v : M 64 256) (la : M 64 128) (S : M 256 128) (g : M 64 256) (G : M 256 128)

/-- The running sum of the log-decays. -/
def cumr : M 64 128 := fun i l => ∑ j, if le d j i then la j l else 0
/-- The whole chunk's log-decay. -/
def tot (l : Fin 128) : ℝ := ∑ j, la j l
/-- The scores. -/
def score (b : M 64 128) : M 64 64 := fun i j => if le d j i then ∑ l, qs i l * k j l * Real.exp (b i l - b j l) else 0
/-- The scores' gradient, before the mask. -/
def dscore : M 64 64 := fun i j => ∑ e, g i e * v j e
def gS : M 64 128 := fun i l => ∑ e, g i e * S e l
def vG : M 64 128 := fun j l => ∑ e, v j e * G e l

/-- The scaled queries' gradient. -/
def dqs (b : M 64 128) : M 64 128 := fun i l =>
  gS S g i l * Real.exp (b i l) + ∑ j, if le d j i then dscore v g i j * Real.exp (b i l - b j l) * k j l else 0
/-- The keys' gradient. -/
def dk (b : M 64 128) : M 64 128 := fun j l =>
  vG v G j l * Real.exp (tot la l - b j l) + ∑ i, if le d j i then qs i l * (dscore v g i j * Real.exp (b i l - b j l)) else 0
/-- The values' gradient. -/
def dv (b : M 64 128) : M 64 256 := fun j e =>
  (∑ l, k j l * Real.exp (tot la l - b j l) * G e l) + ∑ i, score d qs k b i j * g i e
/-- The state's gradient. -/
def dS (b : M 64 128) : M 256 128 := fun e l =>
  Real.exp (tot la l) * G e l + ∑ i, g i e * (qs i l * Real.exp (b i l))
/-- The whole chunk's log-decay's gradient. -/
def dtot (b : M 64 128) (l : Fin 128) : ℝ :=
  (∑ e, G e l * S e l) * Real.exp (tot la l) + ∑ j, k j l * vG v G j l * Real.exp (tot la l - b j l)
/-- The log-decays' gradient. -/
def dla (b : M 64 128) : M 64 128 := fun t l =>
  dtot k v la S G b l + ∑ i, if le d t i then qs i l * dqs d k v S g b i l - k i l * dk d qs v la g G b i l else 0

end

end Cert.Chunk

end
-- ==== Proof.Reals.lean ====
/- Real numbers among the extended reals: sums, selections, masked exponentials, the queries' scale. -/
module

public import proofs.«01_k».proof.Proof.Spec
public import Idealize.ShloMosaic.Lib.Pointwise

@[expose] public section

noncomputable section

namespace Cert.Chunk

open Idealize.ShloMosaic Idealize.ShloMosaic.TcCoe Idealize.SL.Sem

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_ite (p : Prop) [Decidable p] (x y : ℝ) : (((if p then x else y : ℝ)) : EReal) = if p then (x : EReal) else (y : EReal) := by
  split <;> rfl

theorem exp_sub_coe (x y : ℝ) : Ideal.exp ((x : EReal) - (y : EReal)) = ((Real.exp (x - y) : ℝ) : EReal) := by
  rw [← EReal.coe_sub]; rfl

theorem ninf_eq : Ideal.ofBits .f32 4286578688#32 = ⊥ := by
  simp [Ideal.ofBits, Ideal.ieee]

theorem exp_mask (p : Prop) [Decidable p] (x y : ℝ) :
    Ideal.exp (Scalar.select (if p then 1#1 else 0#1) ((x : EReal) - (y : EReal)) (Ideal.ofBits .f32 4286578688#32)) =
      ((if p then Real.exp (x - y) else 0 : ℝ) : EReal) := by
  rw [ninf_eq]
  by_cases h : p
  · simp only [h, if_true]; exact exp_sub_coe x y
  · simp only [h, if_false]; rfl

theorem sc_real : ∃ r : ℝ, Ideal.ofBits .f32 0x3DB504F3#32 = ((r : ℝ) : EReal) := by
  simp only [Ideal.ofBits, Ideal.ieee]
  rw [if_neg (by decide), if_neg (by decide)]
  exact ⟨_, rfl⟩
/-- The queries' scale. -/
def sc : ℝ := sc_real.choose
theorem sc_eq : Ideal.ofBits .f32 0x3DB504F3#32 = ((sc : ℝ) : EReal) := sc_real.choose_spec

/-- A real array as an array of extended reals. -/
def A2 {a b : ℕ} (f : M a b) : FVec Ideal ⟨2, ![a, b]⟩ .f32 := fun j => ((f (j 0) (j 1) : ℝ) : EReal)
def A3 {a b c : ℕ} (f : Fin a → M b c) : FVec Ideal ⟨3, ![a, b, c]⟩ .f32 := fun j => ((f (j 0) (j 1) (j 2) : ℝ) : EReal)
def A4 {a b c d : ℕ} (f : Fin a → Fin b → M c d) : FVec Ideal ⟨4, ![a, b, c, d]⟩ .f32 := fun j => ((f (j 0) (j 1) (j 2) (j 3) : ℝ) : EReal)
def A5 {a b c d e : ℕ} (f : Fin a → Fin b → Fin c → M d e) : FVec Ideal ⟨5, ![a, b, c, d, e]⟩ .f32 :=
  fun j => ((f (j 0) (j 1) (j 2) (j 3) (j 4) : ℝ) : EReal)

end Cert.Chunk

end
-- ==== Proof.Tiles.lean ====
/- A head's pieces on real-valued tiles, read over the reals: masks, products, sums and the pieces of one sub-block. -/
module

public import proofs.«01_k».proof.Proof.Head
public import proofs.«01_k».proof.Proof.Reals
public import Idealize.ShloMosaic.Lib.Pointwise

@[expose] public section

noncomputable section

namespace Cert.KernelIdeal.Head

open Cert.Chunk Cert.KernelIdeal Cert.KernelIdeal.Gen Idealize.ShloMosaic Idealize.ShloMosaic.TcCoe Idealize.SL.Sem

/-! ## Real tiles -/

/-- A real matrix as a tile. -/
def C2 {n m : ℕ} {φ : FTy} (f : Fin n → Fin m → ℝ) : FVec Ideal ⟨2, ![n, m]⟩ φ := fun j => ((f (j 0) (j 1) : ℝ) : EReal)
/-- A real row as a one-row tile. -/
def C1 {m : ℕ} {φ : FTy} (f : Fin m → ℝ) : FVec Ideal ⟨2, ![1, m]⟩ φ := fun j => ((f (j 1) : ℝ) : EReal)
/-- A real array over pairs of rows. -/
def C3 {n m k : ℕ} {φ : FTy} (f : Fin n → Fin m → Fin k → ℝ) : FVec Ideal ⟨3, ![n, m, k]⟩ φ := fun j => ((f (j 0) (j 1) (j 2) : ℝ) : EReal)

theorem C2_at {n m : ℕ} {φ : FTy} (f : Fin n → Fin m → ℝ) (i : Fin n) (j : Fin m) : C2 (φ := φ) f (ix2 i j) = ((f i j : ℝ) : EReal) := rfl
theorem C1_at {m : ℕ} {φ : FTy} (f : Fin m → ℝ) (i : Fin 1) (j : Fin m) : C1 (φ := φ) f (ix2 i j) = ((f j : ℝ) : EReal) := rfl
theorem C3_at {n m k : ℕ} {φ : FTy} (f : Fin n → Fin m → Fin k → ℝ) (i : Fin n) (j : Fin m) (l : Fin k) :
    C3 (φ := φ) f (ix3 i j l) = ((f i j l : ℝ) : EReal) := rfl

theorem sub_self_coe (x : ℝ) : (x : EReal) - (x : EReal) = 0 := by rw [← EReal.coe_sub, sub_self]; rfl

/-- The terms of the two small passes vanish on real tiles. -/
theorem three {n : ℕ} (f g : Fin n → ℝ) :
    ∑ x, (f x : EReal) * ((g x : EReal) - (g x : EReal)) + ∑ x, ((f x : EReal) - (f x : EReal)) * (g x : EReal) + ∑ x, (f x : EReal) * (g x : EReal) =
      ((∑ x, f x * g x : ℝ) : EReal) := by
  simp only [sub_self_coe, mul_zero, zero_mul, Finset.sum_const_zero, zero_add, coe_sum, EReal.coe_mul]

theorem one {n : ℕ} (f g : Fin n → ℝ) : ∑ x, (f x : EReal) * (g x : EReal) = ((∑ x, f x * g x : ℝ) : EReal) := by
  simp only [coe_sum, EReal.coe_mul]

theorem x3_sum (f : Fin 64 → Fin 64 → ℝ) (g : Fin 64 → Fin 128 → ℝ) :
    x3 (F := Ideal) dot_S64x64_S64x128_S64x128_1_0_0_1_n_n (C2 f) (C2 g) = C2 fun i l => ∑ j, f i j * g j l := by
  funext j; idx_vars j; pointwise [x3, hi, lo, C2]; exact three _ _
theorem x3_sumT (f : Fin 64 → Fin 64 → ℝ) (g : Fin 64 → Fin 128 → ℝ) :
    x3 (F := Ideal) dot_S64x64_S64x128_S64x128_0_0_1_1_n_n (C2 f) (C2 g) = C2 fun i l => ∑ j, f j i * g j l := by
  funext j; idx_vars j; pointwise [x3, hi, lo, C2]; exact three _ _
theorem x3_score (f : Fin 16 → Fin 128 → ℝ) (g : Fin 64 → Fin 128 → ℝ) :
    x3 (F := Ideal) dot_S16x128_S64x128_S16x64_1_1_0_0_n_n (C2 f) (C2 g) = C2 fun i j => ∑ l, f i l * g j l := by
  funext j; idx_vars j; pointwise [x3, hi, lo, C2]; exact three _ _
theorem x3_put (f : Fin 16 → Fin 16 → ℝ) (g : Fin 16 → Fin 64 → ℝ) :
    x3 (F := Ideal) dot_S16x16_S16x64_S16x64_1_0_0_1_n_n (C2 f) (C2 g) = C2 fun i j => ∑ c, f i c * g c j := by
  funext j; idx_vars j; pointwise [x3, hi, lo, C2]; exact three _ _
theorem x3_get (f g : Fin 16 → Fin 64 → ℝ) :
    x3 (F := Ideal) dot_S16x64_S16x64_S16x16_1_1_0_0_n_n (C2 f) (C2 g) = C2 fun i c => ∑ j, f i j * g c j := by
  funext j; idx_vars j; pointwise [x3, hi, lo, C2]; exact three _ _
theorem x3_dq (f : Fin 16 → Fin 64 → ℝ) (g : Fin 64 → Fin 128 → ℝ) :
    x3 (F := Ideal) dot_S16x64_S64x128_S16x128_1_0_0_1_n_n (C2 f) (C2 g) = C2 fun i l => ∑ j, f i j * g j l := by
  funext j; idx_vars j; pointwise [x3, hi, lo, C2]; exact three _ _
theorem x3_dk (f : Fin 16 → Fin 64 → ℝ) (g : Fin 16 → Fin 128 → ℝ) :
    x3 (F := Ideal) dot_S16x64_S16x128_S64x128_0_0_1_1_n_n (C2 f) (C2 g) = C2 fun j l => ∑ a, f a j * g a l := by
  funext j; idx_vars j; pointwise [x3, hi, lo, C2]; exact three _ _

theorem mm_D (f g : Fin 64 → Fin 256 → ℝ) :
    mm (F := Ideal) dot_S64x256_S64x256_S64x64_1_1_0_0_n_n (C2 f) (C2 g) = C2 fun i j => ∑ e, f i e * g j e := by
  funext j; idx_vars j; pointwise [mm, hi, lo, C2]; exact one _ _
theorem mm_G (f : Fin 64 → Fin 256 → ℝ) (g : Fin 256 → Fin 128 → ℝ) :
    mm (F := Ideal) dot_S64x256_S256x128_S64x128_1_0_0_1_n_n (C2 f) (C2 g) = C2 fun i l => ∑ e, f i e * g e l := by
  funext j; idx_vars j; pointwise [mm, hi, lo, C2]; exact one _ _
theorem mm_kG (f : Fin 64 → Fin 128 → ℝ) (g : Fin 256 → Fin 128 → ℝ) :
    mm (F := Ideal) dot_S64x128_S256x128_S64x256_1_1_0_0_n_n (C2 f) (C2 g) = C2 fun i e => ∑ l, f i l * g e l := by
  funext j; idx_vars j; pointwise [mm, hi, lo, C2]; exact one _ _
theorem mm_PT (f : Fin 64 → Fin 64 → ℝ) (g : Fin 64 → Fin 256 → ℝ) :
    mm (F := Ideal) dot_S64x64_S64x256_S64x256_0_0_1_1_n_n (C2 f) (C2 g) = C2 fun j e => ∑ i, f i j * g i e := by
  funext j; idx_vars j; pointwise [mm, hi, lo, C2]; exact one _ _
theorem mm_gq (f : Fin 64 → Fin 256 → ℝ) (g : Fin 64 → Fin 128 → ℝ) :
    mm (F := Ideal) dot_S64x256_S64x128_S256x128_0_0_1_1_n_n (C2 f) (C2 g) = C2 fun e l => ∑ i, f i e * g i l := by
  funext j; idx_vars j; pointwise [mm, hi, lo, C2]; exact one _ _

/-! ## Masks -/

/-- Row `j` lies in a sub-block before sub-block `n`, in the order of direction `d`. -/
def pst (d : Fin 2) (n : Fin 4) (j : Fin 64) : Prop := if d = 0 then (j : ℕ) / 16 < n else (n : ℕ) < (j : ℕ) / 16
instance (d : Fin 2) (n : Fin 4) (j : Fin 64) : Decidable (pst d n j) := by unfold pst; infer_instance

/-- Row `a` of sub-block `n`. -/
def bk (n : Fin 4) (a : Fin 16) : Fin 64 := ⟨16 * n + a, by omega⟩

theorem past_at (d : Fin 2) (n : Fin 4) (j : Fin 64) (l : Fin 128) :
    past (BitVec.ofNat 32 d) (BitVec.ofNat 32 n) (ix2 j l) = if pst d n j then 1#1 else 0#1 := by
  pointwise [past, sub, row, sg]
  revert d n j; decide +kernel

theorem own_at (d : Fin 2) (i j : Fin 16) (l : Fin 128) :
    own (BitVec.ofNat 32 d) (ix3 i j l) = if le d j i then 1#1 else 0#1 := by
  pointwise [own, sg]
  revert d i j; decide +kernel

theorem sitofp_bit (b : BitVec 1) : (FloatOps.sitofp (F := Ideal) .f32 (BitVec.setWidth 32 b) : EReal) = if b = 1#1 then 1 else 0 := by
  rcases eq_or_ne b 1#1 with rfl | hb
  · simp [FloatOps.sitofp]
  · obtain rfl : b = 0#1 := by revert b; decide
    simp [FloatOps.sitofp]

theorem low_bit (d : Fin 2) (i j : Fin 64) : (IntOp.cmpi CmpIPredicate.sge (IntOp.muli (IntOp.subi (BitVec.ofNat 32 i) (BitVec.ofNat 32 j))
    (Scalar.subi (1#32) (Scalar.muli (2#32) (BitVec.ofNat 32 d)))) 0#32 = 1#1) = (le d j i) := by
  apply propext; revert d i j; decide +kernel

theorem place_bit (n : Fin 4) (a : Fin 16) (t : Fin 64) :
    (IntOp.cmpi CmpIPredicate.eq (BitVec.ofNat 32 t) (IntOp.addi (BitVec.ofNat 32 a) (BitVec.ofNat 32 (16 * n))) = 1#1) = (t = bk n a) := by
  apply propext; revert n a t; decide +kernel

theorem low_eq (d : Fin 2) : low (F := Ideal) (BitVec.ofNat 32 d) = C2 fun i j => if le d j i then 1 else 0 := by
  funext j; idx_vars j
  pointwise [low, sg, C2]
  rw [sitofp_bit]
  simp only [low_bit]
  by_cases h : le d j1 j0 <;> simp [h]

theorem place_eq (n : Fin 4) : place (F := Ideal) (BitVec.ofNat 32 (16 * n)) = C2 fun a t => if t = bk n a then 1 else 0 := by
  funext j; idx_vars j
  pointwise [place, C2]
  rw [sitofp_bit]
  simp only [place_bit]
  by_cases h : j1 = bk n j0 <;> simp [h]

/-! ## The pieces -/

theorem rsum_eq (f : Fin 64 → Fin 128 → ℝ) : rsum (F := Ideal) (C2 f) = C1 fun l => ∑ i, f i l := by
  funext j; idx_vars j; pointwise [rsum, C1, C2]; exact (coe_sum _ _).symm

theorem rsum1_eq (f : Fin 128 → ℝ) : rsum1 (F := Ideal) (C1 f) = C1 f := by
  funext j; idx_vars j; pointwise [rsum1, C1]
  simp

/-- The running sum at the reference row, zero where there is none. -/
def rf (arg0 x y : BitVec 32) (b : Fin 64 → Fin 128 → ℝ) (l : Fin 128) : ℝ := ∑ i, if refRow arg0 x y (ix2 i l) = 1#1 then b i l else 0

theorem rref_eq (arg0 x y : BitVec 32) (b : Fin 64 → Fin 128 → ℝ) : rref (F := Ideal) arg0 x y (C2 b) = C1 (rf arg0 x y b) := by
  have e : select (refRow arg0 x y) (C2 b) (zer (F := Ideal) S64x128) = C2 fun i l => if refRow arg0 x y (ix2 i l) = 1#1 then b i l else 0 := by
    funext j; idx_vars j; pointwise [zer, C2]
    unfold Scalar.select
    rw [coe_ite]; rfl
  exact (congrArg rsum e).trans (rsum_eq _)

theorem bl_eq (la : Fin 64 → Fin 128 → ℝ) : bl (F := Ideal) (C2 la) = C1 fun l => ∑ i, la i l := rsum_eq la

section blk
variable (n : Fin 4) (o : Fin 2 → ℕ) (h : S64x128.Slices o S16x128) (h' : S64x64.Slices o S16x64) (ho : o = ![16 * (n : ℕ), 0])
include ho

theorem sl_eq (f : Fin 64 → Fin 128 → ℝ) : sl (F := Ideal) o h (C2 f) = C2 fun a l => f (bk n a) l := by
  subst ho
  funext j; idx_vars j; pointwise [sl, C2]; rfl

theorem sl64_eq (f : Fin 64 → Fin 64 → ℝ) : extractStridedSlice S16x64 o (C2 (φ := .f32) f) h' = (C2 fun a l => f (bk n a) l : FVec Ideal S16x64 .f32) := by
  subst ho
  funext j; idx_vars j; pointwise [C2]; rfl

theorem qe_eq (b : Fin 64 → Fin 128 → ℝ) (r : Fin 128 → ℝ) : qe (F := Ideal) o h (C2 b) (C1 r) = C2 fun a l => Real.exp (b (bk n a) l - r l) := by
  unfold qe; rw [sl_eq n o h ho]
  funext j; idx_vars j; pointwise [C2, C1]
  exact exp_sub_coe _ _

theorem ke_eq (d : Fin 2) (b : Fin 64 → Fin 128 → ℝ) (r : Fin 128 → ℝ) :
    ke (F := Ideal) (BitVec.ofNat 32 d) (BitVec.ofNat 32 n) (C2 b) (C1 r) = C2 fun j l => if pst d n j then Real.exp (r l - b j l) else 0 := by
  funext j; idx_vars j; pointwise [ke, C2, C1, ninf, past_at]
  exact exp_mask _ _ _

theorem dec_eq (d : Fin 2) (b : Fin 64 → Fin 128 → ℝ) :
    dec (F := Ideal) o h (BitVec.ofNat 32 d) (C2 b) = C3 fun a c l => if le d c a then Real.exp (b (bk n a) l - b (bk n c) l) else 0 := by
  unfold dec; rw [sl_eq n o h ho]
  funext j; idx_vars j; pointwise [C2, C3, fst3, snd3, ninf, own_at]
  exact exp_mask _ _ _

theorem qk_eq (qs k : Fin 64 → Fin 128 → ℝ) :
    qk (F := Ideal) o h (C2 qs) (C2 k) = C3 fun a c l => qs (bk n a) l * k (bk n c) l := by
  unfold qk; rw [sl_eq n o h ho, sl_eq n o h ho]
  funext j; idx_vars j; pointwise [C2, C3, fst3, snd3]
  exact (EReal.coe_mul _ _).symm

end blk

theorem sumL_eq (f : Fin 16 → Fin 16 → Fin 128 → ℝ) :
    multiReduction (F := Ideal) .add [2] S16x16 (C3 (φ := .f32) f) 0x00000000#32 reduces_S16x16x128_S16x16 (.inl rfl) rfl = C2 fun a c => ∑ l, f a c l := by
  funext j; idx_vars j; pointwise [C2, C3]; exact (coe_sum _ _).symm

theorem sumSnd_eq (f : Fin 16 → Fin 16 → Fin 128 → ℝ) : sumSnd (F := Ideal) (C3 f) = C2 fun a l => ∑ c, f a c l := by
  funext j; idx_vars j; pointwise [C2, C3, sumSnd]
  simp [coe_sum]

theorem sumFst_eq (f : Fin 16 → Fin 16 → Fin 128 → ℝ) : sumFst (F := Ideal) (C3 f) = C2 fun c l => ∑ a, f a c l := by
  funext j; idx_vars j; pointwise [C2, C3, sumFst]
  simp [coe_sum]

/-- Sixteen rows at sub-block `n`. -/
def pd (n : Fin 4) (x : Fin 16 → Fin 128 → ℝ) (i : Fin 64) (l : Fin 128) : ℝ := if (i : ℕ) / 16 = n then x ⟨i % 16, by omega⟩ l else 0

theorem pd_eq (n : Fin 4) (x : Fin 16 → Fin 128 → ℝ) (i : Fin 64) (a : Fin 16) (h : i = bk n a) (l : Fin 128) : pd n x i l = x a l := by
  subst h
  have e : ((bk n a : Fin 64) : ℕ) / 16 = n := by simp only [bk]; omega
  have e' : (⟨(bk n a : Fin 64) % 16, by omega⟩ : Fin 16) = a := by ext; simp only [bk]; omega
  rw [pd, if_pos e, e']
theorem pd_ne (n : Fin 4) (x : Fin 16 → Fin 128 → ℝ) (i : Fin 64) (h : (i : ℕ) / 16 ≠ n) (l : Fin 128) : pd n x i l = 0 := if_neg h

theorem pad0_eq (x : Fin 16 → Fin 128 → ℝ) : pad0 (F := Ideal) (C2 x) = C2 (pd 0 x) := by
  funext j; idx_vars j; pointwise [pad0, zer, C2_at]
  split_ifs <;> first
    | (rw [pd_ne 0 x _ (by simp <;> omega)]; rfl)
    | exact congrArg _ (pd_eq 0 x _ _ (by ext; simp only [bk]; simp <;> omega) _).symm
theorem pad1_eq (x : Fin 16 → Fin 128 → ℝ) : pad1 (F := Ideal) (C2 x) = C2 (pd 1 x) := by
  funext j; idx_vars j; pointwise [pad1, zer, C2_at]
  split_ifs <;> first
    | (rw [pd_ne 1 x _ (by simp <;> omega)]; rfl)
    | exact congrArg _ (pd_eq 1 x _ _ (by ext; simp only [bk]; simp <;> omega) _).symm
theorem pad2_eq (x : Fin 16 → Fin 128 → ℝ) : pad2 (F := Ideal) (C2 x) = C2 (pd 2 x) := by
  funext j; idx_vars j; pointwise [pad2, zer, C2_at]
  split_ifs <;> first
    | (rw [pd_ne 2 x _ (by simp <;> omega)]; rfl)
    | exact congrArg _ (pd_eq 2 x _ _ (by ext; simp only [bk]; simp <;> omega) _).symm
theorem pad3_eq (x : Fin 16 → Fin 128 → ℝ) : pad3 (F := Ideal) (C2 x) = C2 (pd 3 x) := by
  funext j; idx_vars j; pointwise [pad3, zer, C2_at]
  split_ifs <;> first
    | (rw [pd_ne 3 x _ (by simp <;> omega)]; rfl)
    | exact congrArg _ (pd_eq 3 x _ _ (by ext; simp only [bk]; simp <;> omega) _).symm
theorem cat4_eq (x : Fin 4 → Fin 16 → Fin 64 → ℝ) : cat4 (F := Ideal) (C2 (x 0)) (C2 (x 1)) (C2 (x 2)) (C2 (x 3)) =
    C2 fun i j => x ⟨i / 16, by omega⟩ ⟨i % 16, by omega⟩ j := by
  funext j; idx_vars j; pointwise [cat4, C2_at]
  split_ifs <;> exact congrArg _ (congrArg₂ (fun n a => x n a _) (by ext; simp <;> omega) (by ext; simp <;> omega))

end Cert.KernelIdeal.Head

end
-- ==== Proof.HeadReal.lean ====
/- The head functions on real tiles are the chunk's formulas over the reals. -/
module

public import proofs.«01_k».proof.Proof.Tiles

@[expose] public section

noncomputable section

namespace Cert.KernelIdeal.Head

open Cert.Chunk Cert.KernelIdeal Cert.KernelIdeal.Gen Idealize.ShloMosaic Idealize.ShloMosaic.TcCoe Idealize.SL.Sem

/-! ## Elementwise operations on real tiles -/

theorem mul2 {n m : ℕ} (f g : M n m) : mulf (F := Ideal) (C2 (φ := .f32) f) (C2 g) = C2 fun i l => f i l * g i l := by
  funext j; exact (EReal.coe_mul _ _).symm
theorem add2 {n m : ℕ} (f g : M n m) : addf (F := Ideal) (C2 (φ := .f32) f) (C2 g) = C2 fun i l => f i l + g i l := by
  funext j; exact (EReal.coe_add _ _).symm
theorem sub2 {n m : ℕ} (f g : M n m) : subf (F := Ideal) (C2 (φ := .f32) f) (C2 g) = C2 fun i l => f i l - g i l := by
  funext j; exact (EReal.coe_sub _ _).symm
theorem exp2 {n m : ℕ} (f : M n m) : exp (F := Ideal) (C2 (φ := .f32) f) = C2 fun i l => Real.exp (f i l) := rfl
theorem mul1 {m : ℕ} (f g : Fin m → ℝ) : mulf (F := Ideal) (C1 (φ := .f32) f) (C1 g) = C1 fun l => f l * g l := by
  funext j; exact (EReal.coe_mul _ _).symm
theorem add1 {m : ℕ} (f g : Fin m → ℝ) : addf (F := Ideal) (C1 (φ := .f32) f) (C1 g) = C1 fun l => f l + g l := by
  funext j; exact (EReal.coe_add _ _).symm
theorem exp1 {m : ℕ} (f : Fin m → ℝ) : exp (F := Ideal) (C1 (φ := .f32) f) = C1 fun l => Real.exp (f l) := rfl
theorem mul3 {n m k : ℕ} (f g : Fin n → M m k) : mulf (F := Ideal) (C3 (φ := .f32) f) (C3 g) = C3 fun i a l => f i a l * g i a l := by
  funext j; exact (EReal.coe_mul _ _).symm
theorem sub3 {n m k : ℕ} (f g : Fin n → M m k) : subf (F := Ideal) (C3 (φ := .f32) f) (C3 g) = C3 fun i a l => f i a l - g i a l := by
  funext j; exact (EReal.coe_sub _ _).symm
theorem zer3 {n m k : ℕ} : zer (F := Ideal) ⟨3, ![n, m, k]⟩ = C3 fun _ _ _ => 0 := by
  funext j; pointwise [zer, C3]; rfl

theorem fst3_eq (f : M 16 128) : fst3 (F := Ideal) (C2 f) = C3 fun a c l => f a l := by
  funext j; idx_vars j; pointwise [fst3, C2, C3]
theorem snd3_eq (f : M 16 128) : snd3 (F := Ideal) (C2 f) = C3 fun a c l => f c l := by
  funext j; idx_vars j; pointwise [snd3, C2, C3]
theorem row64 (f : Fin 128 → ℝ) : broadcastTo S64x128 (C1 (φ := .f32) f) broadcasts_S1x128_S64x128 = (C2 fun i l => f l : FVec Ideal S64x128 .f32) := by
  funext j; idx_vars j; pointwise [C1, C2]
theorem row256 (f : Fin 128 → ℝ) : broadcastTo S256x128 (C1 (φ := .f32) f) broadcasts_S1x128_S256x128 = (C2 fun i l => f l : FVec Ideal S256x128 .f32) := by
  funext j; idx_vars j; pointwise [C1, C2]

/-! ## Rows and sub-blocks -/

theorem bk_div (n : Fin 4) (a : Fin 16) : ((bk n a : Fin 64) : ℕ) / 16 = n := by simp only [bk]; omega
theorem bk_mod (n : Fin 4) (a : Fin 16) : ((bk n a : Fin 64) : ℕ) % 16 = a := by simp only [bk]; omega
theorem bk_self (i : Fin 64) : bk ⟨i / 16, by omega⟩ ⟨i % 16, by omega⟩ = i := by ext; simp only [bk]; omega
theorem ex_bk (i : Fin 64) : ∃ n a, i = bk n a := ⟨_, _, (bk_self i).symm⟩

theorem le_bk (d : Fin 2) (n : Fin 4) (c a : Fin 16) : le d (bk n c) (bk n a) ↔ le d c a := by
  unfold le; split <;> simp only [bk, Fin.le_def] <;> omega

/-- A row is at or before a row of sub-block `n`, where it lies in an earlier sub-block or in this one and at or before it there. -/
theorem le_split (d : Fin 2) (n : Fin 4) (a : Fin 16) (j : Fin 64) :
    le d j (bk n a) ↔ pst d n j ∨ ((j : ℕ) / 16 = n ∧ le d j (bk n a)) := by
  unfold le pst; split <;> simp only [bk, Fin.le_def] <;> omega
theorem pst_ne (d : Fin 2) (n : Fin 4) (j : Fin 64) (h : pst d n j) : (j : ℕ) / 16 ≠ n := by
  unfold pst at h; split at h <;> omega

theorem sum_bk (f : Fin 64 → ℝ) : ∑ i, f i = ∑ n, ∑ a, f (bk n a) := by
  rw [← Fintype.sum_prod_type']
  refine (Fintype.sum_equiv (finProdFinEquiv (m := 4) (n := 16)) _ _ ?_).symm
  rintro ⟨n, a⟩
  congr 1
  ext; simp only [bk, finProdFinEquiv_apply_val]; omega

theorem sum_in (n : Fin 4) (f : Fin 64 → ℝ) : (∑ i : Fin 64, if (i : ℕ) / 16 = n then f i else 0) = ∑ a, f (bk n a) := by
  rw [sum_bk, Finset.sum_eq_single n]
  · exact Finset.sum_congr rfl fun a _ => if_pos (bk_div n a)
  · intro m _ hm
    refine Finset.sum_eq_zero fun a _ => if_neg ?_
    rw [bk_div]; exact fun h => hm (Fin.ext h)
  · exact fun h => absurd (Finset.mem_univ _) h

/-- A sum over the rows at or before a row, by sub-blocks. -/
theorem sum_le (d : Fin 2) (n : Fin 4) (a : Fin 16) (f : Fin 64 → ℝ) :
    (∑ j, if le d j (bk n a) then f j else 0) = (∑ j, if pst d n j then f j else 0) + ∑ c, if le d c a then f (bk n c) else 0 := by
  have e : (∑ c, if le d c a then f (bk n c) else 0) = ∑ c, (fun j => if le d j (bk n a) then f j else 0) (bk n c) :=
    Finset.sum_congr rfl fun c _ => by simp only [le_bk]
  rw [e, ← sum_in n (fun j => if le d j (bk n a) then f j else 0), ← Finset.sum_add_distrib]
  refine Finset.sum_congr rfl fun j _ => ?_
  by_cases h : pst d n j
  · rw [if_pos ((le_split d n a j).2 (.inl h)), if_pos h, if_neg (pst_ne d n j h), add_zero]
  · rw [if_neg h, zero_add]
    by_cases h2 : (j : ℕ) / 16 = n
    · rw [if_pos h2]
    · rw [if_neg h2, if_neg]
      rw [le_split]; tauto

/-- A row of sub-block `n` is at or before row `i`. -/
theorem le_split' (d : Fin 2) (m n : Fin 4) (c a : Fin 16) :
    le d (bk m c) (bk n a) ↔ pst d n (bk m c) ∨ (m = n ∧ le d c a) := by
  rw [le_split, bk_div]
  constructor
  · rintro (h | ⟨h, h'⟩)
    · exact .inl h
    · obtain rfl : m = n := Fin.ext h
      exact .inr ⟨rfl, (le_bk d m c a).1 h'⟩
  · rintro (h | ⟨rfl, h⟩)
    · exact .inl h
    · exact .inr ⟨rfl, (le_bk d m c a).2 h⟩

/-- A sum over the rows that a row is at or before, by sub-blocks. -/
theorem sum_ge (d : Fin 2) (m : Fin 4) (c : Fin 16) (f : Fin 64 → ℝ) :
    (∑ i, if le d (bk m c) i then f i else 0) =
      (∑ n, if pst d n (bk m c) then ∑ a, f (bk n a) else 0) + ∑ a, if le d c a then f (bk m a) else 0 := by
  rw [sum_bk]
  have e : (∑ a, if le d c a then f (bk m a) else 0) = ∑ n, if m = n then ∑ a, (if le d c a then f (bk n a) else 0) else 0 := by
    rw [Finset.sum_ite_eq]; simp
  rw [e, ← Finset.sum_add_distrib]
  refine Finset.sum_congr rfl fun n _ => ?_
  by_cases h : pst d n (bk m c)
  · have hn : m ≠ n := by rintro rfl; exact pst_ne d m _ h (bk_div m c)
    rw [if_pos h, if_neg hn, add_zero]
    exact Finset.sum_congr rfl fun a _ => if_pos ((le_split' d m n c a).2 (.inl h))
  · rw [if_neg h, zero_add]
    by_cases h2 : m = n
    · rw [if_pos h2]
      refine Finset.sum_congr rfl fun a _ => ?_
      subst h2
      simp only [le_split', h, false_or, true_and]
    · rw [if_neg h2]
      exact Finset.sum_eq_zero fun a _ => if_neg (by rw [le_split']; tauto)

theorem sum_at (n : Fin 4) (c : Fin 16) (f : Fin 64 → ℝ) : (∑ j, f j * if j = bk n c then 1 else 0) = f (bk n c) := by
  simp

theorem sum_put (n m : Fin 4) (c : Fin 16) (f : Fin 16 → ℝ) :
    (∑ a, f a * if bk m c = bk n a then 1 else 0) = if m = n then f c else 0 := by
  by_cases h : m = n
  · subst h
    rw [if_pos rfl, Finset.sum_eq_single c]
    · simp
    · intro a _ ha
      rw [if_neg, mul_zero]
      intro e; apply ha; have := congrArg (fun i : Fin 64 => (i : ℕ) % 16) e; simp only [bk_mod] at this; exact (Fin.ext this).symm
    · simp
  · rw [if_neg h]
    refine Finset.sum_eq_zero fun a _ => ?_
    rw [if_neg, mul_zero]
    intro e; apply h; have := congrArg (fun i : Fin 64 => (i : ℕ) / 16) e; simp only [bk_div] at this; exact Fin.ext this

/-! ## The quantities of the sub-blocks -/

section real
variable (d : Fin 2) (qs k b : M 64 128) (D : M 64 64) (r : Fin 4 → Fin 128 → ℝ)

def rQE (n : Fin 4) : M 16 128 := fun a l => Real.exp (b (bk n a) l - r n l)
def rKE (n : Fin 4) : M 64 128 := fun j l => if pst d n j then Real.exp (r n l - b j l) else 0
def rQB (n : Fin 4) : M 16 128 := fun a l => qs (bk n a) l * rQE b r n a l
def rKP (n : Fin 4) : M 64 128 := fun j l => k j l * rKE d b r n j l
def rDEC (n : Fin 4) : Fin 16 → M 16 128 := fun a c l => if le d c a then Real.exp (b (bk n a) l - b (bk n c) l) else 0
def rDQB (n : Fin 4) : M 16 128 := fun a l => ∑ j, D (bk n a) j * rKP d k b r n j l
def rDKP (n : Fin 4) : M 64 128 := fun j l => ∑ a, D (bk n a) j * rQB qs b r n a l
def rDQO (n : Fin 4) : M 16 128 := fun a l => ∑ c, D (bk n a) (bk n c) * rDEC d b n a c l * k (bk n c) l
def rDKO (n : Fin 4) : M 16 128 := fun c l => ∑ a, qs (bk n a) l * (D (bk n a) (bk n c) * rDEC d b n a c l)
def rDD (n : Fin 4) : Fin 16 → M 16 128 := fun a c l => if le d c a then qs (bk n a) l * k (bk n c) l * D (bk n a) (bk n c) * rDEC d b n a c l else 0
def rDBO (n : Fin 4) : M 16 128 := fun c l => (∑ a, (0 - rDD d qs k b D n a c l)) + ∑ c', rDD d qs k b D n c c' l
def rDKE (n : Fin 4) : M 64 128 := fun j l => if pst d n j then k j l * rDKP qs b D r n j l * rKE d b r n j l else 0
def rDQE (n : Fin 4) : M 16 128 := fun a l => qs (bk n a) l * rDQB d k b D r n a l * rQE b r n a l

theorem exp_via (x y z : ℝ) : Real.exp (x - z) * Real.exp (z - y) = Real.exp (x - y) := by rw [← Real.exp_add]; congr 1; ring

/-- The scores of a sub-block with the earlier rows: the reference row cancels. -/
theorem r_scOff (n : Fin 4) (a : Fin 16) (j : Fin 64) :
    ∑ l, rQB qs b r n a l * rKP d k b r n j l = if pst d n j then ∑ l, qs (bk n a) l * k j l * Real.exp (b (bk n a) l - b j l) else 0 := by
  unfold rQB rKP rQE rKE
  split
  · refine Finset.sum_congr rfl fun l _ => ?_
    rw [← exp_via (b (bk n a) l) (b j l) (r n l)]; ring
  · simp

theorem r_score (n : Fin 4) (a : Fin 16) (j : Fin 64) :
    (∑ l, rQB qs b r n a l * rKP d k b r n j l) +
      (∑ c, (∑ l, qs (bk n a) l * k (bk n c) l * rDEC d b n a c l) * if j = bk n c then 1 else 0) = score d qs k b (bk n a) j := by
  obtain ⟨m, c, rfl⟩ := ex_bk j
  rw [r_scOff, sum_put]
  unfold score rDEC
  simp only [le_split']
  by_cases h : pst d n (bk m c)
  · have hn : m ≠ n := by rintro rfl; exact pst_ne d m _ h (bk_div m c)
    simp [h, hn]
  · by_cases h2 : m = n
    · subst h2
      by_cases h3 : le d c a <;> simp [h, h3]
    · simp [h, h2]

theorem r_dqO (n : Fin 4) (a : Fin 16) (l : Fin 128) :
    rDQO d k b D n a l + rDQB d k b D r n a l * rQE b r n a l =
      ∑ j, if le d j (bk n a) then D (bk n a) j * Real.exp (b (bk n a) l - b j l) * k j l else 0 := by
  rw [sum_le, add_comm]
  congr 1
  · unfold rDQB rKP rQE rKE
    rw [Finset.sum_mul]
    refine Finset.sum_congr rfl fun j _ => ?_
    split
    · rw [← exp_via (b (bk n a) l) (b j l) (r n l)]; ring
    · simp
  · unfold rDQO rDEC
    exact Finset.sum_congr rfl fun c _ => by split <;> simp

theorem r_dkO (m : Fin 4) (c : Fin 16) (l : Fin 128) :
    rDKO d qs b D m c l + ∑ n, rDKP qs b D r n (bk m c) l * rKE d b r n (bk m c) l =
      ∑ i, if le d (bk m c) i then qs i l * (D i (bk m c) * Real.exp (b i l - b (bk m c) l)) else 0 := by
  rw [sum_ge, add_comm]
  congr 1
  · refine Finset.sum_congr rfl fun n _ => ?_
    unfold rDKP rQB rQE rKE
    split
    · rw [Finset.sum_mul]
      refine Finset.sum_congr rfl fun a _ => ?_
      rw [← exp_via (b (bk n a) l) (b (bk m c) l) (r n l)]; ring
    · simp
  · unfold rDKO rDEC
    exact Finset.sum_congr rfl fun c _ => by split <;> simp

theorem r_dbo (n : Fin 4) (c : Fin 16) (l : Fin 128) :
    rDBO d qs k b D n c l = qs (bk n c) l * rDQO d k b D n c l - k (bk n c) l * rDKO d qs b D n c l := by
  have e : ∀ a c, rDD d qs k b D n a c l = qs (bk n a) l * k (bk n c) l * D (bk n a) (bk n c) * rDEC d b n a c l := by
    intro a c; unfold rDD rDEC; split <;> simp
  unfold rDBO rDQO rDKO
  simp only [e, zero_sub, Finset.sum_neg_distrib, Finset.mul_sum]
  rw [add_comm, ← sub_eq_add_neg]
  congr 1 <;> exact Finset.sum_congr rfl fun a _ => by ring

theorem r_dke (n : Fin 4) (j : Fin 64) (l : Fin 128) : rDKE d qs k b D r n j l = k j l * (rDKP qs b D r n j l * rKE d b r n j l) := by
  unfold rDKE
  by_cases h : pst d n j
  · rw [if_pos h]; ring
  · rw [if_neg h]; simp [rKE, h]

/-- What the reference row receives cancels. -/
theorem r_drow (n : Fin 4) (l : Fin 128) : (∑ j, rDKE d qs k b D r n j l) + ∑ a, (0 - rDQE d qs k b D r n a l) = 0 := by
  simp only [zero_sub, Finset.sum_neg_distrib, r_dke]
  unfold rDQE rDKP rDQB
  simp only [Finset.mul_sum, Finset.sum_mul]
  rw [Finset.sum_comm, ← sub_eq_add_neg, sub_eq_zero]
  refine Finset.sum_congr rfl fun a _ => Finset.sum_congr rfl fun j _ => ?_
  unfold rQB rKP; ring

end real

end Cert.KernelIdeal.Head

end
-- ==== Proof.HeadOut.lean ====
/- The head's five results on real tiles are the chunk's gradients. -/
module

public import proofs.«01_k».proof.Proof.HeadReal

@[expose] public section

noncomputable section

namespace Cert.KernelIdeal.Head

open Cert.Chunk Cert.KernelIdeal Cert.KernelIdeal.Gen Idealize.ShloMosaic Idealize.ShloMosaic.TcCoe Idealize.SL.Sem

/-! ## Pieces on real tiles -/

theorem zer2 {n m : ℕ} : zer (F := Ideal) ⟨2, ![n, m]⟩ = C2 fun _ _ => 0 := by
  funext j; pointwise [zer, C2]; rfl

theorem bc3_eq (f : M 16 16) : broadcastTo S16x16x128 (shapeCast S16x16x1 (C2 (φ := .f32) f) shapeCasts_S16x16_S16x16x1) broadcasts_S16x16x1_S16x16x128 =
    (C3 fun a c l => f a c : FVec Ideal S16x16x128 .f32) := by
  funext j; idx_vars j; pointwise [C2, C3]

theorem own_sel (d : Fin 2) (f : Fin 16 → M 16 128) : select (own (BitVec.ofNat 32 d)) (C3 f) (zer (F := Ideal) S16x16x128) =
    C3 fun a c l => if le d c a then f a c l else 0 := by
  funext j; idx_vars j; pointwise [C3, zer, own_at]
  by_cases h : le d j1 j0 <;> simp [h, Scalar.select]

theorem past_sel (d : Fin 2) (n : Fin 4) (f : M 64 128) : select (past (BitVec.ofNat 32 d) (BitVec.ofNat 32 n)) (C2 f) (zer (F := Ideal) S64x128) =
    C2 fun j l => if pst d n j then f j l else 0 := by
  funext j; idx_vars j; pointwise [C2, zer, past_at]
  by_cases h : pst d n j0 <;> simp [h, Scalar.select]

theorem drefs_zero (arg0 x y : BitVec 32) : drefs (F := Ideal) arg0 x y (C1 fun _ => 0) = C2 fun _ _ => 0 := by
  unfold drefs; rw [rsum1_eq, row64, zer2]
  funext j; simp only [select, Scalar.select, C2]; split <;> rfl

theorem red16 (f : M 16 128) : (shapeCast S1x128 (multiReduction (F := Ideal) .add [0] S128 (C2 (φ := .f32) f) 0x00000000#32 reduces_S16x128_S128 (.inl rfl) rfl) shapeCasts_S128_S1x128 : FVec Ideal S1x128 .f32) =
    C1 fun l => ∑ a, f a l := by
  funext j; idx_vars j; pointwise [C1, C2]; exact (coe_sum _ _).symm
theorem red256 (f : M 256 128) : (shapeCast S1x128 (multiReduction (F := Ideal) .add [0] S128 (C2 (φ := .f32) f) 0x00000000#32 reduces_S256x128_S128 (.inl rfl) rfl) shapeCasts_S128_S1x128 : FVec Ideal S1x128 .f32) =
    C1 fun l => ∑ a, f a l := by
  funext j; idx_vars j; pointwise [C1, C2]; exact (coe_sum _ _).symm

theorem drow_eq (m : M 64 128) (q : M 16 128) : drow (F := Ideal) (C2 m) (C2 q) = C1 fun l => (∑ j, m j l) + ∑ a, (0 - q a l) := by
  unfold drow; rw [rsum_eq, zer2, sub2, red16, add1]

theorem g1_eq (g : M 64 256) : g1 (F := Ideal) (C2 g) = C2 g := by
  funext j; idx_vars j; pointwise [g1, C2]
theorem G1_eq (G : M 256 128) : G1 (F := Ideal) (C2 G) = C2 G := by
  funext j; idx_vars j; pointwise [G1, C2]

section blk
variable (n : Fin 4) (o : Fin 2 → ℕ) (h : S64x128.Slices o S16x128) (h' : S64x64.Slices o S16x64) (ho : o = ![16 * (n : ℕ), 0])
  (p : BitVec 32) (hp : p = BitVec.ofNat 32 (16 * n)) (d : Fin 2) (qs k b : M 64 128) (D : M 64 64)
include ho

theorem dqb_eq (f : M 64 128) : dqb (F := Ideal) o h' (C2 D) (C2 f) = C2 fun a l => ∑ j, D (bk n a) j * f j l := by
  unfold dqb; rw [sl64_eq n o h' ho, x3_dq]
theorem dkp_eq (f : M 16 128) : dkp (F := Ideal) o h' (C2 D) (C2 f) = C2 fun j l => ∑ a, D (bk n a) j * f a l := by
  unfold dkp; rw [sl64_eq n o h' ho, x3_dk]
theorem dqe_eq (x y : M 16 128) : dqe (F := Ideal) o h (C2 qs) (C2 x) (C2 y) = C2 fun a l => qs (bk n a) l * x a l * y a l := by
  unfold dqe; rw [sl_eq n o h ho, mul2, mul2]

include hp

theorem scOwn_eq : scOwn (F := Ideal) o h (BitVec.ofNat 32 d) p (C2 qs) (C2 k) (C2 b) =
    C2 fun a t => ∑ c, (∑ l, qs (bk n a) l * k (bk n c) l * rDEC d b n a c l) * if t = bk n c then 1 else 0 := by
  unfold scOwn; rw [qk_eq n o h ho, dec_eq n o h ho, mul3, sumL_eq, hp, place_eq, x3_put]; rfl

theorem dP_eq : dP (F := Ideal) o h' p (C2 D) = C3 fun a c l => D (bk n a) (bk n c) := by
  unfold dP; rw [sl64_eq n o h' ho, hp, place_eq, x3_get]; simp only [sum_at]; exact bc3_eq _

theorem dPdec_eq : dPdec (F := Ideal) o h h' (BitVec.ofNat 32 d) p (C2 b) (C2 D) = C3 fun a c l => D (bk n a) (bk n c) * rDEC d b n a c l := by
  unfold dPdec; rw [dP_eq n o h' ho p hp, dec_eq n o h ho, mul3]; rfl

theorem dkOwn_eq : dkOwn (F := Ideal) o h h' (BitVec.ofNat 32 d) p (C2 qs) (C2 b) (C2 D) = C2 (rDKO d qs b D n) := by
  unfold dkOwn; rw [dPdec_eq n o h h' ho p hp, sl_eq n o h ho, fst3_eq, mul3, sumFst_eq]; rfl

theorem dqOwn_eq : dqOwn (F := Ideal) o h h' (BitVec.ofNat 32 d) p (C2 k) (C2 b) (C2 D) = C2 (rDQO d k b D n) := by
  unfold dqOwn; rw [dPdec_eq n o h h' ho p hp, sl_eq n o h ho, snd3_eq, mul3, sumSnd_eq]; rfl

theorem dDec_eq : dDec (F := Ideal) o h h' (BitVec.ofNat 32 d) p (C2 qs) (C2 k) (C2 b) (C2 D) = C3 (rDD d qs k b D n) := by
  unfold dDec; rw [qk_eq n o h ho, dP_eq n o h' ho p hp, dec_eq n o h ho, mul3, mul3, own_sel]; rfl

theorem dbOwn_eq : dbOwn (F := Ideal) o h h' (BitVec.ofNat 32 d) p (C2 qs) (C2 k) (C2 b) (C2 D) = C2 (rDBO d qs k b D n) := by
  unfold dbOwn; rw [dDec_eq n o h h' ho p hp, zer3, sub3, sumFst_eq, sumSnd_eq, add2]; rfl

end blk

/-! ## The four sub-blocks -/

section four
variable (d : Fin 2) (qs k b : M 64 128)

/-- The running sums at the four reference rows. -/
def R : Fin 4 → Fin 128 → ℝ :=
  ![rf (BitVec.ofNat 32 d) 16#32 4294967295#32 b, rf (BitVec.ofNat 32 d) 32#32 15#32 b, rf (BitVec.ofNat 32 d) 48#32 31#32 b, rf (BitVec.ofNat 32 d) 64#32 47#32 b]

theorem qe0_eq : qe0 (F := Ideal) (BitVec.ofNat 32 (Fin.val d)) (C2 b) = C2 (rQE b (R d b) 0) := by unfold qe0 r0; rw [rref_eq, qe_eq 0 _ _ (by decide)]; rfl
theorem qe1_eq : qe1 (F := Ideal) (BitVec.ofNat 32 (Fin.val d)) (C2 b) = C2 (rQE b (R d b) 1) := by unfold qe1 r1; rw [rref_eq, qe_eq 1 _ _ (by decide)]; rfl
theorem qe2_eq : qe2 (F := Ideal) (BitVec.ofNat 32 (Fin.val d)) (C2 b) = C2 (rQE b (R d b) 2) := by unfold qe2 r2; rw [rref_eq, qe_eq 2 _ _ (by decide)]; rfl
theorem qe3_eq : qe3 (F := Ideal) (BitVec.ofNat 32 (Fin.val d)) (C2 b) = C2 (rQE b (R d b) 3) := by unfold qe3 r3; rw [rref_eq, qe_eq 3 _ _ (by decide)]; rfl
theorem ke0_eq : ke0 (F := Ideal) (BitVec.ofNat 32 (Fin.val d)) (C2 b) = C2 (rKE d b (R d b) 0) := by unfold ke0 r0; rw [rref_eq]; exact ke_eq 0 _ rfl d b _
theorem ke1_eq : ke1 (F := Ideal) (BitVec.ofNat 32 (Fin.val d)) (C2 b) = C2 (rKE d b (R d b) 1) := by unfold ke1 r1; rw [rref_eq]; exact ke_eq 1 _ rfl d b _
theorem ke2_eq : ke2 (F := Ideal) (BitVec.ofNat 32 (Fin.val d)) (C2 b) = C2 (rKE d b (R d b) 2) := by unfold ke2 r2; rw [rref_eq]; exact ke_eq 2 _ rfl d b _
theorem ke3_eq : ke3 (F := Ideal) (BitVec.ofNat 32 (Fin.val d)) (C2 b) = C2 (rKE d b (R d b) 3) := by unfold ke3 r3; rw [rref_eq]; exact ke_eq 3 _ rfl d b _
theorem qb0_eq : qb0 (F := Ideal) (BitVec.ofNat 32 (Fin.val d)) (C2 qs) (C2 b) = C2 (rQB qs b (R d b) 0) := by unfold qb0; rw [qe0_eq, sl_eq 0 _ _ (by decide), mul2]; rfl
theorem qb1_eq : qb1 (F := Ideal) (BitVec.ofNat 32 (Fin.val d)) (C2 qs) (C2 b) = C2 (rQB qs b (R d b) 1) := by unfold qb1; rw [qe1_eq, sl_eq 1 _ _ (by decide), mul2]; rfl
theorem qb2_eq : qb2 (F := Ideal) (BitVec.ofNat 32 (Fin.val d)) (C2 qs) (C2 b) = C2 (rQB qs b (R d b) 2) := by unfold qb2; rw [qe2_eq, sl_eq 2 _ _ (by decide), mul2]; rfl
theorem qb3_eq : qb3 (F := Ideal) (BitVec.ofNat 32 (Fin.val d)) (C2 qs) (C2 b) = C2 (rQB qs b (R d b) 3) := by unfold qb3; rw [qe3_eq, sl_eq 3 _ _ (by decide), mul2]; rfl
theorem kp0_eq : kp0 (F := Ideal) (BitVec.ofNat 32 (Fin.val d)) (C2 k) (C2 b) = C2 (rKP d k b (R d b) 0) := by unfold kp0; rw [ke0_eq, mul2]; rfl
theorem kp1_eq : kp1 (F := Ideal) (BitVec.ofNat 32 (Fin.val d)) (C2 k) (C2 b) = C2 (rKP d k b (R d b) 1) := by unfold kp1; rw [ke1_eq, mul2]; rfl
theorem kp2_eq : kp2 (F := Ideal) (BitVec.ofNat 32 (Fin.val d)) (C2 k) (C2 b) = C2 (rKP d k b (R d b) 2) := by unfold kp2; rw [ke2_eq, mul2]; rfl
theorem kp3_eq : kp3 (F := Ideal) (BitVec.ofNat 32 (Fin.val d)) (C2 k) (C2 b) = C2 (rKP d k b (R d b) 3) := by unfold kp3; rw [ke3_eq, mul2]; rfl

theorem scores_eq : scores (F := Ideal) (BitVec.ofNat 32 (Fin.val d)) (C2 qs) (C2 k) (C2 b) = C2 (score d qs k b) := by
  unfold scores
  rw [qb0_eq, qb1_eq, qb2_eq, qb3_eq, kp0_eq, kp1_eq, kp2_eq, kp3_eq]
  unfold scOff
  rw [x3_score, x3_score, x3_score, x3_score, scOwn_eq 0 _ _ (by decide) 0#32 rfl, scOwn_eq 1 _ _ (by decide) 16#32 rfl,
    scOwn_eq 2 _ _ (by decide) 32#32 rfl, scOwn_eq 3 _ _ (by decide) 48#32 rfl]
  rw [cat4_eq (fun n a j => ∑ l, rQB qs b (R d b) n a l * rKP d k b (R d b) n j l),
    cat4_eq (fun n a t => ∑ c, (∑ l, qs (bk n a) l * k (bk n c) l * rDEC d b n a c l) * if t = bk n c then 1 else 0), add2]
  refine congrArg C2 (funext fun i => funext fun j => ?_)
  rw [r_score, bk_self]

end four

/-! ## The gradients -/

section out
variable (d : Fin 2) (q k : M 64 128) (v : M 64 256) (la : M 64 128) (S : M 256 128) (g : M 64 256) (G : M 256 128)

theorem scl_eq : scl (F := Ideal) (C2 q) = C2 fun i l => q i l * sc := by
  funext j; idx_vars j; pointwise [scl, C2]; rw [sc_eq]; exact (EReal.coe_mul _ _).symm

theorem cum_eq : cum (F := Ideal) (BitVec.ofNat 32 (Fin.val d)) (C2 la) = C2 (cumr d la) := by
  unfold cum; rw [low_eq, x3_sum]
  refine congrArg C2 (funext fun i => funext fun l => Finset.sum_congr rfl fun j _ => ?_)
  split <;> simp

theorem ekl_eq : ekl (F := Ideal) (BitVec.ofNat 32 (Fin.val d)) (C2 la) = C2 fun j l => Real.exp (tot la l - cumr d la j l) := by
  unfold ekl; rw [bl_eq, cum_eq, row64, sub2, exp2]; rfl
theorem D_eq : D (F := Ideal) (C2 v) (C2 g) = C2 (dscore v g) := by unfold D; rw [g1_eq, mm_D]; rfl
theorem vG_eq : vG (F := Ideal) (C2 v) (C2 G) = C2 (Chunk.vG v G) := by unfold vG; rw [G1_eq, mm_G]; rfl
theorem gS_eq : gS (F := Ideal) (C2 S) (C2 g) = C2 (Chunk.gS S g) := by unfold gS; rw [g1_eq, mm_G]; rfl

theorem outV_eq : outV (F := Ideal) (BitVec.ofNat 32 (Fin.val d)) (C2 q) (C2 k) (C2 la) (C2 g) (C2 G) = C2 (dv d (fun i l => q i l * sc) k la g G (cumr d la)) := by
  unfold outV; rw [ekl_eq, mul2, G1_eq, mm_kG, scl_eq, cum_eq, scores_eq, g1_eq, mm_PT, add2]; rfl

theorem outS_eq : outS (F := Ideal) (BitVec.ofNat 32 (Fin.val d)) (C2 q) (C2 la) (C2 g) (C2 G) = C2 (dS (fun i l => q i l * sc) la g G (cumr d la)) := by
  unfold outS qeb; rw [bl_eq, exp1, row256, G1_eq, mul2, g1_eq, scl_eq, cum_eq, exp2, mul2, mm_gq, add2]; rfl

theorem add4_eq (a x y z w : M 64 128) : add4 (F := Ideal) (C2 a) (C2 x) (C2 y) (C2 z) (C2 w) = C2 fun i l => a i l + x i l + y i l + z i l + w i l := by
  unfold add4; simp only [add2]

theorem pad4 (A : ℝ) (x : Fin 4 → M 16 128) (n : Fin 4) (a : Fin 16) (l : Fin 128) :
    A + pd 3 (x 3) (bk n a) l + pd 2 (x 2) (bk n a) l + pd 1 (x 1) (bk n a) l + pd 0 (x 0) (bk n a) l = A + x n a l := by
  have e : ∀ m, pd m (x m) (bk n a) l = if n = m then x n a l else 0 := by
    intro m
    by_cases h : n = m
    · subst h; rw [if_pos rfl]; exact pd_eq n _ _ a rfl l
    · rw [if_neg h]; exact pd_ne m _ _ (by rw [bk_div]; exact fun h' => h (Fin.ext h')) l
  simp only [e]
  fin_cases n <;> simp

theorem ext_bk {m : ℕ} {f f' : M 64 m} (h : ∀ n a l, f (bk n a) l = f' (bk n a) l) : f = f' := by
  funext i l; obtain ⟨n, a, rfl⟩ := ex_bk i; exact h n a l

theorem dqb0_eq : dqb0 (F := Ideal) (BitVec.ofNat 32 (Fin.val d)) (C2 k) (C2 v) (C2 la) (C2 g) = C2 (rDQB d k (cumr d la) (dscore v g) (R d (cumr d la)) 0) := by
  unfold dqb0; rw [D_eq, cum_eq, kp0_eq, dqb_eq 0 _ _ (by decide)]; rfl
theorem dqb1_eq : dqb1 (F := Ideal) (BitVec.ofNat 32 (Fin.val d)) (C2 k) (C2 v) (C2 la) (C2 g) = C2 (rDQB d k (cumr d la) (dscore v g) (R d (cumr d la)) 1) := by
  unfold dqb1; rw [D_eq, cum_eq, kp1_eq, dqb_eq 1 _ _ (by decide)]; rfl
theorem dqb2_eq : dqb2 (F := Ideal) (BitVec.ofNat 32 (Fin.val d)) (C2 k) (C2 v) (C2 la) (C2 g) = C2 (rDQB d k (cumr d la) (dscore v g) (R d (cumr d la)) 2) := by
  unfold dqb2; rw [D_eq, cum_eq, kp2_eq, dqb_eq 2 _ _ (by decide)]; rfl
theorem dqb3_eq : dqb3 (F := Ideal) (BitVec.ofNat 32 (Fin.val d)) (C2 k) (C2 v) (C2 la) (C2 g) = C2 (rDQB d k (cumr d la) (dscore v g) (R d (cumr d la)) 3) := by
  unfold dqb3; rw [D_eq, cum_eq, kp3_eq, dqb_eq 3 _ _ (by decide)]; rfl
theorem dkp0_eq : dkp0 (F := Ideal) (BitVec.ofNat 32 (Fin.val d)) (C2 q) (C2 v) (C2 la) (C2 g) = C2 (rDKP (fun i l => q i l * sc) (cumr d la) (dscore v g) (R d (cumr d la)) 0) := by
  unfold dkp0; rw [D_eq, cum_eq, scl_eq, qb0_eq, dkp_eq 0 _ _ (by decide)]; rfl
theorem dkp1_eq : dkp1 (F := Ideal) (BitVec.ofNat 32 (Fin.val d)) (C2 q) (C2 v) (C2 la) (C2 g) = C2 (rDKP (fun i l => q i l * sc) (cumr d la) (dscore v g) (R d (cumr d la)) 1) := by
  unfold dkp1; rw [D_eq, cum_eq, scl_eq, qb1_eq, dkp_eq 1 _ _ (by decide)]; rfl
theorem dkp2_eq : dkp2 (F := Ideal) (BitVec.ofNat 32 (Fin.val d)) (C2 q) (C2 v) (C2 la) (C2 g) = C2 (rDKP (fun i l => q i l * sc) (cumr d la) (dscore v g) (R d (cumr d la)) 2) := by
  unfold dkp2; rw [D_eq, cum_eq, scl_eq, qb2_eq, dkp_eq 2 _ _ (by decide)]; rfl
theorem dkp3_eq : dkp3 (F := Ideal) (BitVec.ofNat 32 (Fin.val d)) (C2 q) (C2 v) (C2 la) (C2 g) = C2 (rDKP (fun i l => q i l * sc) (cumr d la) (dscore v g) (R d (cumr d la)) 3) := by
  unfold dkp3; rw [D_eq, cum_eq, scl_eq, qb3_eq, dkp_eq 3 _ _ (by decide)]; rfl

theorem dqAll_eq : dqAll (F := Ideal) (BitVec.ofNat 32 (Fin.val d)) (C2 k) (C2 v) (C2 la) (C2 S) (C2 g) = C2 (dqs d k v S g (cumr d la)) := by
  unfold dqAll
  rw [dqb0_eq, dqb1_eq, dqb2_eq, dqb3_eq, D_eq, cum_eq, gS_eq, exp2, mul2, qe0_eq, qe1_eq, qe2_eq, qe3_eq, mul2, mul2, mul2, mul2,
    dqOwn_eq 0 _ _ _ (by decide) 0#32 rfl, dqOwn_eq 1 _ _ _ (by decide) 16#32 rfl, dqOwn_eq 2 _ _ _ (by decide) 32#32 rfl,
    dqOwn_eq 3 _ _ _ (by decide) 48#32 rfl, pad0_eq, pad1_eq, pad2_eq, pad3_eq, pad0_eq, pad1_eq, pad2_eq, pad3_eq, add4_eq, add4_eq]
  refine congrArg C2 (ext_bk fun n a l => ?_)
  rw [pad4 _ (rDQO d k (cumr d la) (dscore v g)), pad4 _ (fun n a l => rDQB d k (cumr d la) (dscore v g) (R d (cumr d la)) n a l * rQE (cumr d la) (R d (cumr d la)) n a l), add_assoc, r_dqO]; rfl

theorem outQ_eq : outQ (F := Ideal) (BitVec.ofNat 32 (Fin.val d)) (C2 k) (C2 v) (C2 la) (C2 S) (C2 g) = C2 fun i l => dqs d k v S g (cumr d la) i l * sc := by
  unfold outQ; rw [dqAll_eq, scl_eq]

theorem outK_eq : outK (F := Ideal) (BitVec.ofNat 32 (Fin.val d)) (C2 q) (C2 v) (C2 la) (C2 g) (C2 G) = C2 (dk d (fun i l => q i l * sc) v la g G (cumr d la)) := by
  unfold outK
  rw [dkp0_eq, dkp1_eq, dkp2_eq, dkp3_eq, D_eq, cum_eq, scl_eq, vG_eq, ekl_eq, mul2, ke0_eq, ke1_eq, ke2_eq, ke3_eq, mul2, mul2, mul2, mul2,
    dkOwn_eq 0 _ _ _ (by decide) 0#32 rfl, dkOwn_eq 1 _ _ _ (by decide) 16#32 rfl, dkOwn_eq 2 _ _ _ (by decide) 32#32 rfl,
    dkOwn_eq 3 _ _ _ (by decide) 48#32 rfl, pad0_eq, pad1_eq, pad2_eq, pad3_eq, add4_eq, add4_eq]
  refine congrArg C2 (ext_bk fun n a l => ?_)
  have h := r_dkO d (fun i l => q i l * sc) (cumr d la) (dscore v g) (R d (cumr d la)) n a l
  rw [Fin.sum_univ_four] at h
  rw [pad4 _ (rDKO d (fun i l => q i l * sc) (cumr d la) (dscore v g))]
  unfold dk
  rw [← h]; ring

theorem dke0_eq : dke0 (F := Ideal) (BitVec.ofNat 32 (Fin.val d)) (C2 q) (C2 k) (C2 v) (C2 la) (C2 g) = C2 (rDKE d (fun i l => q i l * sc) k (cumr d la) (dscore v g) (R d (cumr d la)) 0) := by
  unfold dke0 dke; rw [dkp0_eq, cum_eq, ke0_eq, mul2, mul2]; exact past_sel d 0 _
theorem dke1_eq : dke1 (F := Ideal) (BitVec.ofNat 32 (Fin.val d)) (C2 q) (C2 k) (C2 v) (C2 la) (C2 g) = C2 (rDKE d (fun i l => q i l * sc) k (cumr d la) (dscore v g) (R d (cumr d la)) 1) := by
  unfold dke1 dke; rw [dkp1_eq, cum_eq, ke1_eq, mul2, mul2]; exact past_sel d 1 _
theorem dke2_eq : dke2 (F := Ideal) (BitVec.ofNat 32 (Fin.val d)) (C2 q) (C2 k) (C2 v) (C2 la) (C2 g) = C2 (rDKE d (fun i l => q i l * sc) k (cumr d la) (dscore v g) (R d (cumr d la)) 2) := by
  unfold dke2 dke; rw [dkp2_eq, cum_eq, ke2_eq, mul2, mul2]; exact past_sel d 2 _
theorem dke3_eq : dke3 (F := Ideal) (BitVec.ofNat 32 (Fin.val d)) (C2 q) (C2 k) (C2 v) (C2 la) (C2 g) = C2 (rDKE d (fun i l => q i l * sc) k (cumr d la) (dscore v g) (R d (cumr d la)) 3) := by
  unfold dke3 dke; rw [dkp3_eq, cum_eq, ke3_eq, mul2, mul2]; exact past_sel d 3 _
theorem dqe0_eq : dqe0 (F := Ideal) (BitVec.ofNat 32 (Fin.val d)) (C2 q) (C2 k) (C2 v) (C2 la) (C2 g) = C2 (rDQE d (fun i l => q i l * sc) k (cumr d la) (dscore v g) (R d (cumr d la)) 0) := by
  unfold dqe0; rw [dqb0_eq, cum_eq, scl_eq, qe0_eq, dqe_eq 0 _ _ (by decide)]; rfl
theorem dqe1_eq : dqe1 (F := Ideal) (BitVec.ofNat 32 (Fin.val d)) (C2 q) (C2 k) (C2 v) (C2 la) (C2 g) = C2 (rDQE d (fun i l => q i l * sc) k (cumr d la) (dscore v g) (R d (cumr d la)) 1) := by
  unfold dqe1; rw [dqb1_eq, cum_eq, scl_eq, qe1_eq, dqe_eq 1 _ _ (by decide)]; rfl
theorem dqe2_eq : dqe2 (F := Ideal) (BitVec.ofNat 32 (Fin.val d)) (C2 q) (C2 k) (C2 v) (C2 la) (C2 g) = C2 (rDQE d (fun i l => q i l * sc) k (cumr d la) (dscore v g) (R d (cumr d la)) 2) := by
  unfold dqe2; rw [dqb2_eq, cum_eq, scl_eq, qe2_eq, dqe_eq 2 _ _ (by decide)]; rfl
theorem dqe3_eq : dqe3 (F := Ideal) (BitVec.ofNat 32 (Fin.val d)) (C2 q) (C2 k) (C2 v) (C2 la) (C2 g) = C2 (rDQE d (fun i l => q i l * sc) k (cumr d la) (dscore v g) (R d (cumr d la)) 3) := by
  unfold dqe3; rw [dqb3_eq, cum_eq, scl_eq, qe3_eq, dqe_eq 3 _ _ (by decide)]; rfl

theorem drow_zero (n : Fin 4) : drow (F := Ideal) (C2 (rDKE d (fun i l => q i l * sc) k (cumr d la) (dscore v g) (R d (cumr d la)) n)) (C2 (rDQE d (fun i l => q i l * sc) k (cumr d la) (dscore v g) (R d (cumr d la)) n)) = C1 fun _ => 0 := by
  rw [drow_eq]; exact congrArg C1 (funext fun l => r_drow d (fun i l => q i l * sc) k (cumr d la) (dscore v g) (R d (cumr d la)) n l)

theorem offB_eq (acc m x w : M 64 128) : offB (F := Ideal) (C2 acc) (C2 m) (C2 x) (C2 w) = C2 fun i l => acc i l + (0 - m i l) + x i l + w i l := by
  unfold offB; rw [zer2, sub2, add2, add2, add2]

theorem vGk_eq : vGk (F := Ideal) (BitVec.ofNat 32 (Fin.val d)) (C2 k) (C2 v) (C2 la) (C2 G) = C2 fun j l => k j l * Chunk.vG v G j l * Real.exp (tot la l - (cumr d la) j l) := by
  unfold vGk; rw [vG_eq, ekl_eq, mul2, mul2]

theorem db_eq : db (F := Ideal) (BitVec.ofNat 32 (Fin.val d)) (C2 q) (C2 k) (C2 v) (C2 la) (C2 S) (C2 g) (C2 G) =
    C2 fun i l => (fun i l => q i l * sc) i l * dqs d k v S g (cumr d la) i l - k i l * dk d (fun i l => q i l * sc) v la g G (cumr d la) i l := by
  unfold db
  rw [dke0_eq, dke1_eq, dke2_eq, dke3_eq, dqe0_eq, dqe1_eq, dqe2_eq, dqe3_eq, drow_zero, drow_zero, drow_zero, drow_zero,
    drefs_zero, drefs_zero, drefs_zero, drefs_zero, D_eq, cum_eq, scl_eq, gS_eq, vGk_eq, zer2, sub2, exp2, mul2, mul2, add2,
    dbOwn_eq 0 _ _ _ (by decide) 0#32 rfl, dbOwn_eq 1 _ _ _ (by decide) 16#32 rfl, dbOwn_eq 2 _ _ _ (by decide) 32#32 rfl,
    dbOwn_eq 3 _ _ _ (by decide) 48#32 rfl, pad0_eq, pad1_eq, pad2_eq, pad3_eq, pad0_eq, pad1_eq, pad2_eq, pad3_eq, add4_eq,
    offB_eq, offB_eq, offB_eq, offB_eq]
  refine congrArg C2 (ext_bk fun n a l => ?_)
  have h := r_dkO d (fun i l => q i l * sc) (cumr d la) (dscore v g) (R d (cumr d la)) n a l
  have h' := r_dqO d k (cumr d la) (dscore v g) (R d (cumr d la)) n a l
  rw [Fin.sum_univ_four] at h
  have p := pad4 0 (rDQE d (fun i l => q i l * sc) k (cumr d la) (dscore v g) (R d (cumr d la))) n a l
  rw [pad4 _ (rDBO d (fun i l => q i l * sc) k (cumr d la) (dscore v g)), r_dbo]
  unfold dk dqs
  rw [← h, ← h']
  simp only [r_dke]
  rw [zero_add] at p
  have p' : rDQE d (fun i l => q i l * sc) k (cumr d la) (dscore v g) (R d (cumr d la)) n a l = q (bk n a) l * sc * (rDQB d k (cumr d la) (dscore v g) (R d (cumr d la)) n a l * rQE (cumr d la) (R d (cumr d la)) n a l) := by
    unfold rDQE; ring
  rw [p'] at p
  linear_combination p

theorem dbl_eq : dbl (F := Ideal) (BitVec.ofNat 32 (Fin.val d)) (C2 k) (C2 v) (C2 la) (C2 S) (C2 G) = C1 (dtot k v la S G (cumr d la)) := by
  unfold dbl; rw [G1_eq, mul2, red256, bl_eq, exp1, mul1, vGk_eq, rsum_eq, add1]; rfl

theorem outA_eq : outA (F := Ideal) (BitVec.ofNat 32 (Fin.val d)) (C2 q) (C2 k) (C2 v) (C2 la) (C2 S) (C2 g) (C2 G) = C2 (dla d (fun i l => q i l * sc) k v la S g G (cumr d la)) := by
  unfold outA
  rw [dbl_eq, rsum1_eq, row64, low_eq, db_eq, x3_sumT, add2]
  refine congrArg C2 (funext fun t => funext fun l => congrArg _ (Finset.sum_congr rfl fun i _ => ?_))
  split <;> simp

end out

end Cert.KernelIdeal.Head

end
-- ==== Proof.Blocks.lean ====
/- What each grid point leaves in its output blocks and its carried state, head by head, as the head functions of `Head`. -/
module

public import proofs.«01_k».proof.Proof.Head
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Head

open Cert.KernelIdeal Cert.KernelIdeal.Gen Idealize.ShloMosaic Idealize.ShloMosaic.TcCoe Idealize.SL.Sem

variable {F : FTy → Type} [FloatOps F]

/-- The type of a head's results, over the head's tiles: query, key, value, log-decay, state, output gradient, state gradient. -/
abbrev HeadFn (F : FTy → Type) (s : Shape) :=
  FVec F S64x128 .f32 → FVec F S64x128 .f32 → FVec F S64x256 .f32 → FVec F S64x128 .f32 → FVec F S256x128 .f32 → FVec F S64x256 .f32 → FVec F S256x128 .f32 → FVec F s .f32

/-- A head function at head 0's lanes of a point's blocks. -/
def at0 {s : Shape} (f : HeadFn F s) (x0 x1 : Vec F S64x512 .f32) (x2 : Vec F S64x1024 .f32) (x3 : Vec F S1x64x512 .f32) (x4 : Vec F S1x4x1x256x128 .f32) (x5 : Vec F S64x1024 .f32) (G : FVec F S256x128 .f32) : FVec F s .f32 :=
  f (View.ld x0 (Rect.unit ![0, 0] ![64, 128] inb_S64x512_S64x128_0_0)) (View.ld x1 (Rect.unit ![0, 0] ![64, 128] inb_S64x512_S64x128_0_0))
    (View.ld x2 (Rect.unit ![0, 0] ![64, 256] inb_S64x1024_S64x256_0_0))
    (shapeCast S64x128 (View.ld x3 (Rect.unit ![0, 0, 0] ![1, 64, 128] inb_S1x64x512_S1x64x128_0_0_0)) shapeCasts_S1x64x128_S64x128)
    (shapeCast S256x128 (View.ld x4 (Rect.unit ![0, 0, 0, 0, 0] ![1, 1, 1, 256, 128] inb_S1x4x1x256x128_S1x1x1x256x128_0_0_0_0_0)) shapeCasts_S1x1x1x256x128_S256x128)
    (View.ld x5 (Rect.unit ![0, 0] ![64, 256] inb_S64x1024_S64x256_0_0)) G

/-- The carried state gradient of head 0. -/
def car0 (xs0 : Vec F S4x256x128 .f32) : FVec F S256x128 .f32 :=
  shapeCast S256x128 (View.ld xs0 (Rect.unit ![0, 0, 0] ![1, 256, 128] inb_S4x256x128_S1x256x128_0_0_0)) shapeCasts_S1x256x128_S256x128

/-- A head function at head 1's lanes of a point's blocks. -/
def at1 {s : Shape} (f : HeadFn F s) (x0 x1 : Vec F S64x512 .f32) (x2 : Vec F S64x1024 .f32) (x3 : Vec F S1x64x512 .f32) (x4 : Vec F S1x4x1x256x128 .f32) (x5 : Vec F S64x1024 .f32) (G : FVec F S256x128 .f32) : FVec F s .f32 :=
  f (View.ld x0 (Rect.unit ![0, 128] ![64, 128] inb_S64x512_S64x128_0_128)) (View.ld x1 (Rect.unit ![0, 128] ![64, 128] inb_S64x512_S64x128_0_128))
    (View.ld x2 (Rect.unit ![0, 256] ![64, 256] inb_S64x1024_S64x256_0_256))
    (shapeCast S64x128 (View.ld x3 (Rect.unit ![0, 0, 128] ![1, 64, 128] inb_S1x64x512_S1x64x128_0_0_128)) shapeCasts_S1x64x128_S64x128)
    (shapeCast S256x128 (View.ld x4 (Rect.unit ![0, 1, 0, 0, 0] ![1, 1, 1, 256, 128] inb_S1x4x1x256x128_S1x1x1x256x128_0_1_0_0_0)) shapeCasts_S1x1x1x256x128_S256x128)
    (View.ld x5 (Rect.unit ![0, 256] ![64, 256] inb_S64x1024_S64x256_0_256)) G

/-- The carried state gradient of head 1. -/
def car1 (xs0 : Vec F S4x256x128 .f32) : FVec F S256x128 .f32 :=
  shapeCast S256x128 (View.ld xs0 (Rect.unit ![1, 0, 0] ![1, 256, 128] inb_S4x256x128_S1x256x128_1_0_0)) shapeCasts_S1x256x128_S256x128

/-- A head function at head 2's lanes of a point's blocks. -/
def at2 {s : Shape} (f : HeadFn F s) (x0 x1 : Vec F S64x512 .f32) (x2 : Vec F S64x1024 .f32) (x3 : Vec F S1x64x512 .f32) (x4 : Vec F S1x4x1x256x128 .f32) (x5 : Vec F S64x1024 .f32) (G : FVec F S256x128 .f32) : FVec F s .f32 :=
  f (View.ld x0 (Rect.unit ![0, 256] ![64, 128] inb_S64x512_S64x128_0_256)) (View.ld x1 (Rect.unit ![0, 256] ![64, 128] inb_S64x512_S64x128_0_256))
    (View.ld x2 (Rect.unit ![0, 512] ![64, 256] inb_S64x1024_S64x256_0_512))
    (shapeCast S64x128 (View.ld x3 (Rect.unit ![0, 0, 256] ![1, 64, 128] inb_S1x64x512_S1x64x128_0_0_256)) shapeCasts_S1x64x128_S64x128)
    (shapeCast S256x128 (View.ld x4 (Rect.unit ![0, 2, 0, 0, 0] ![1, 1, 1, 256, 128] inb_S1x4x1x256x128_S1x1x1x256x128_0_2_0_0_0)) shapeCasts_S1x1x1x256x128_S256x128)
    (View.ld x5 (Rect.unit ![0, 512] ![64, 256] inb_S64x1024_S64x256_0_512)) G

/-- The carried state gradient of head 2. -/
def car2 (xs0 : Vec F S4x256x128 .f32) : FVec F S256x128 .f32 :=
  shapeCast S256x128 (View.ld xs0 (Rect.unit ![2, 0, 0] ![1, 256, 128] inb_S4x256x128_S1x256x128_2_0_0)) shapeCasts_S1x256x128_S256x128

/-- A head function at head 3's lanes of a point's blocks. -/
def at3 {s : Shape} (f : HeadFn F s) (x0 x1 : Vec F S64x512 .f32) (x2 : Vec F S64x1024 .f32) (x3 : Vec F S1x64x512 .f32) (x4 : Vec F S1x4x1x256x128 .f32) (x5 : Vec F S64x1024 .f32) (G : FVec F S256x128 .f32) : FVec F s .f32 :=
  f (View.ld x0 (Rect.unit ![0, 384] ![64, 128] inb_S64x512_S64x128_0_384)) (View.ld x1 (Rect.unit ![0, 384] ![64, 128] inb_S64x512_S64x128_0_384))
    (View.ld x2 (Rect.unit ![0, 768] ![64, 256] inb_S64x1024_S64x256_0_768))
    (shapeCast S64x128 (View.ld x3 (Rect.unit ![0, 0, 384] ![1, 64, 128] inb_S1x64x512_S1x64x128_0_0_384)) shapeCasts_S1x64x128_S64x128)
    (shapeCast S256x128 (View.ld x4 (Rect.unit ![0, 3, 0, 0, 0] ![1, 1, 1, 256, 128] inb_S1x4x1x256x128_S1x1x1x256x128_0_3_0_0_0)) shapeCasts_S1x1x1x256x128_S256x128)
    (View.ld x5 (Rect.unit ![0, 768] ![64, 256] inb_S64x1024_S64x256_0_768)) G

/-- The carried state gradient of head 3. -/
def car3 (xs0 : Vec F S4x256x128 .f32) : FVec F S256x128 .f32 :=
  shapeCast S256x128 (View.ld xs0 (Rect.unit ![3, 0, 0] ![1, 256, 128] inb_S4x256x128_S1x256x128_3_0_0)) shapeCasts_S1x256x128_S256x128

/-- A block of 128-lane results, the four heads' pieces from a head function, the heads' carried states given. -/
def blkL (f : HeadFn F S64x128) (x0 x1 : Vec F S64x512 .f32) (x2 : Vec F S64x1024 .f32) (x3 : Vec F S1x64x512 .f32) (x4 : Vec F S1x4x1x256x128 .f32) (x5 : Vec F S64x1024 .f32)
    (G0 G1 G2 G3 : FVec F S256x128 .f32) : Vec F S1x64x512 .f32 :=
    View.canon [⟨Rect.unit ![0, 0, 384] ![1, 64, 128] inb_S1x64x512_S1x64x128_0_0_384, shapeCast S1x64x128 (at3 f x0 x1 x2 x3 x4 x5 (G3)) shapeCasts_S64x128_S1x64x128⟩,
      ⟨Rect.unit ![0, 0, 256] ![1, 64, 128] inb_S1x64x512_S1x64x128_0_0_256, shapeCast S1x64x128 (at2 f x0 x1 x2 x3 x4 x5 (G2)) shapeCasts_S64x128_S1x64x128⟩,
      ⟨Rect.unit ![0, 0, 128] ![1, 64, 128] inb_S1x64x512_S1x64x128_0_0_128, shapeCast S1x64x128 (at1 f x0 x1 x2 x3 x4 x5 (G1)) shapeCasts_S64x128_S1x64x128⟩,
      ⟨Rect.unit ![0, 0, 0] ![1, 64, 128] inb_S1x64x512_S1x64x128_0_0_0, shapeCast S1x64x128 (at0 f x0 x1 x2 x3 x4 x5 (G0)) shapeCasts_S64x128_S1x64x128⟩]

/-- A block of 256-lane results, the four heads' pieces from a head function, the heads' carried states given. -/
def blkE (f : HeadFn F S64x256) (x0 x1 : Vec F S64x512 .f32) (x2 : Vec F S64x1024 .f32) (x3 : Vec F S1x64x512 .f32) (x4 : Vec F S1x4x1x256x128 .f32) (x5 : Vec F S64x1024 .f32)
    (G0 G1 G2 G3 : FVec F S256x128 .f32) : Vec F S1x64x1024 .f32 :=
    View.canon [⟨Rect.unit ![0, 0, 768] ![1, 64, 256] inb_S1x64x1024_S1x64x256_0_0_768, shapeCast S1x64x256 (at3 f x0 x1 x2 x3 x4 x5 (G3)) shapeCasts_S64x256_S1x64x256⟩,
      ⟨Rect.unit ![0, 0, 512] ![1, 64, 256] inb_S1x64x1024_S1x64x256_0_0_512, shapeCast S1x64x256 (at2 f x0 x1 x2 x3 x4 x5 (G2)) shapeCasts_S64x256_S1x64x256⟩,
      ⟨Rect.unit ![0, 0, 256] ![1, 64, 256] inb_S1x64x1024_S1x64x256_0_0_256, shapeCast S1x64x256 (at1 f x0 x1 x2 x3 x4 x5 (G1)) shapeCasts_S64x256_S1x64x256⟩,
      ⟨Rect.unit ![0, 0, 0] ![1, 64, 256] inb_S1x64x1024_S1x64x256_0_0_0, shapeCast S1x64x256 (at0 f x0 x1 x2 x3 x4 x5 (G0)) shapeCasts_S64x256_S1x64x256⟩]

/-- The four heads' pieces of the carried states. -/
def pcsS (f : HeadFn F S256x128) (x0 x1 : Vec F S64x512 .f32) (x2 : Vec F S64x1024 .f32) (x3 : Vec F S1x64x512 .f32) (x4 : Vec F S1x4x1x256x128 .f32) (x5 : Vec F S64x1024 .f32)
    (G0 G1 G2 G3 : FVec F S256x128 .f32) : List (View.Piece (Elt F) S4x256x128 .f32) :=
    [⟨Rect.unit ![3, 0, 0] ![1, 256, 128] inb_S4x256x128_S1x256x128_3_0_0, shapeCast S1x256x128 (at3 f x0 x1 x2 x3 x4 x5 (G3)) shapeCasts_S256x128_S1x256x128⟩,
      ⟨Rect.unit ![2, 0, 0] ![1, 256, 128] inb_S4x256x128_S1x256x128_2_0_0, shapeCast S1x256x128 (at2 f x0 x1 x2 x3 x4 x5 (G2)) shapeCasts_S256x128_S1x256x128⟩,
      ⟨Rect.unit ![1, 0, 0] ![1, 256, 128] inb_S4x256x128_S1x256x128_1_0_0, shapeCast S1x256x128 (at1 f x0 x1 x2 x3 x4 x5 (G1)) shapeCasts_S256x128_S1x256x128⟩,
      ⟨Rect.unit ![0, 0, 0] ![1, 256, 128] inb_S4x256x128_S1x256x128_0_0_0, shapeCast S1x256x128 (at0 f x0 x1 x2 x3 x4 x5 (G0)) shapeCasts_S256x128_S1x256x128⟩]

/-- The carried states, the four heads' pieces from a head function, the heads' carried states given. -/
def blkS (f : HeadFn F S256x128) (x0 x1 : Vec F S64x512 .f32) (x2 : Vec F S64x1024 .f32) (x3 : Vec F S1x64x512 .f32) (x4 : Vec F S1x4x1x256x128 .f32) (x5 : Vec F S64x1024 .f32)
    (G0 G1 G2 G3 : FVec F S256x128 .f32) : Vec F S4x256x128 .f32 := View.canon (pcsS f x0 x1 x2 x3 x4 x5 G0 G1 G2 G3)

/-- The carried states over a fill. -/
def blkSA (f : HeadFn F S256x128) (x0 x1 : Vec F S64x512 .f32) (x2 : Vec F S64x1024 .f32) (x3 : Vec F S1x64x512 .f32) (x4 : Vec F S1x4x1x256x128 .f32) (x5 : Vec F S64x1024 .f32)
    (G0 G1 G2 G3 : FVec F S256x128 .f32) : Vec F S4x256x128 .f32 :=
  View.canon (pcsS f x0 x1 x2 x3 x4 x5 G0 G1 G2 G3 ++ [⟨Rect.unit ![0, 0, 0] ![4, 256, 128] inb_S4x256x128_S4x256x128_0_0_0, k0_pay8⟩])

section caseB
variable (c : Dev nD) (i : grid0.Coords)
  (arg2 : Memref sig .tc .vmem S64x512 .f32) (harg2 : arg2.IsWhole)
  (arg3 : Memref sig .tc .vmem S64x512 .f32) (harg3 : arg3.IsWhole)
  (arg4 : Memref sig .tc .vmem S64x1024 .f32) (harg4 : arg4.IsWhole)
  (arg5 : Memref sig .tc .vmem S1x64x512 .f32) (harg5 : arg5.IsWhole)
  (arg6 : Memref sig .tc .vmem S1x4x1x256x128 .f32) (harg6 : arg6.IsWhole)
  (arg7 : Memref sig .tc .vmem S64x1024 .f32) (harg7 : arg7.IsWhole)
  (arg8 : Memref sig .tc .vmem S1x64x512 .f32) (harg8 : arg8.IsWhole)
  (arg9 : Memref sig .tc .vmem S1x64x512 .f32) (harg9 : arg9.IsWhole)
  (arg10 : Memref sig .tc .vmem S1x64x1024 .f32) (harg10 : arg10.IsWhole)
  (arg11 : Memref sig .tc .vmem S1x64x512 .f32) (harg11 : arg11.IsWhole)
  (arg12 : Memref sig .tc .vmem S4x256x128 .f32) (harg12 : arg12.IsWhole) (hc0 : ¬cond0_0 i)
    (x0 : Vec F S64x512 .f32) (x1 : Vec F S64x512 .f32) (x2 : Vec F S64x1024 .f32) (x3 : Vec F S1x64x512 .f32) (x4 : Vec F S1x4x1x256x128 .f32) (x5 : Vec F S64x1024 .f32) (xs0 : Vec F S4x256x128 .f32)

theorem out0_B_6_eq : out0_B_6 c i arg2 harg2 arg3 harg3 arg4 harg4 arg5 harg5 arg6 harg6 arg7 harg7 arg8 harg8 arg9 harg9 arg10 harg10 arg11 harg11 arg12 harg12 hc0 x0 x1 x2 x3 x4 x5 xs0 =
    blkL (resQ (BitVec.ofNat 32 (i 0 : ℕ))) x0 x1 x2 x3 x4 x5 (car0 xs0) (car1 xs0) (car2 xs0) (car3 xs0) := by
  frame_out
  rfl

theorem out0_B_7_eq : out0_B_7 c i arg2 harg2 arg3 harg3 arg4 harg4 arg5 harg5 arg6 harg6 arg7 harg7 arg8 harg8 arg9 harg9 arg10 harg10 arg11 harg11 arg12 harg12 hc0 x0 x1 x2 x3 x4 x5 xs0 =
    blkL (resK (BitVec.ofNat 32 (i 0 : ℕ))) x0 x1 x2 x3 x4 x5 (car0 xs0) (car1 xs0) (car2 xs0) (car3 xs0) := by
  frame_out
  rfl

theorem out0_B_8_eq : out0_B_8 c i arg2 harg2 arg3 harg3 arg4 harg4 arg5 harg5 arg6 harg6 arg7 harg7 arg8 harg8 arg9 harg9 arg10 harg10 arg11 harg11 arg12 harg12 hc0 x0 x1 x2 x3 x4 x5 xs0 =
    blkE (resV (BitVec.ofNat 32 (i 0 : ℕ))) x0 x1 x2 x3 x4 x5 (car0 xs0) (car1 xs0) (car2 xs0) (car3 xs0) := by
  frame_out
  rfl

theorem out0_B_9_eq : out0_B_9 c i arg2 harg2 arg3 harg3 arg4 harg4 arg5 harg5 arg6 harg6 arg7 harg7 arg8 harg8 arg9 harg9 arg10 harg10 arg11 harg11 arg12 harg12 hc0 x0 x1 x2 x3 x4 x5 xs0 =
    blkL (resA (BitVec.ofNat 32 (i 0 : ℕ))) x0 x1 x2 x3 x4 x5 (car0 xs0) (car1 xs0) (car2 xs0) (car3 xs0) := by
  frame_out
  rfl

theorem sout0_B_0_eq : sout0_B_0 c i arg2 harg2 arg3 harg3 arg4 harg4 arg5 harg5 arg6 harg6 arg7 harg7 arg8 harg8 arg9 harg9 arg10 harg10 arg11 harg11 arg12 harg12 hc0 x0 x1 x2 x3 x4 x5 xs0 =
    blkS (resS (BitVec.ofNat 32 (i 0 : ℕ))) x0 x1 x2 x3 x4 x5 (car0 xs0) (car1 xs0) (car2 xs0) (car3 xs0) := by
  frame_out
  rfl

end caseB

/-! At the first point of a direction the carried states are filled with zeros first, and each is loaded after the fill. -/

theorem fillG (arg12 : Memref sig .tc .vmem S4x256x128 .f32) (Z : Vec F S4x256x128 .f32) (r : Rect S4x256x128) :
    arg12.view.readCov (Val := Elt F) [⟨Rect.unit (s := S4x256x128) ![0, 0, 0] S4x256x128.size inb_S4x256x128_S4x256x128_0_0_0, Z⟩] r.toLoadRect = View.ld Z r := by
  rw [View.readCov_eq_canon', View.canon_cons_unit_lit inb_S4x256x128_S4x256x128_0_0_0 Z [] (by decide)]

theorem fill0 (arg12 : Memref sig .tc .vmem S4x256x128 .f32) (Z : Vec F S4x256x128 .f32) :
    (shapeCast S256x128 (arg12.view.readCov (Val := Elt F) [⟨Rect.unit (s := S4x256x128) ![0, 0, 0] ![4, 256, 128] inb_S4x256x128_S4x256x128_0_0_0, Z⟩]
      (Rect.unit (s := S4x256x128) ![0, 0, 0] ![1, 256, 128] inb_S4x256x128_S1x256x128_0_0_0).toLoadRect : Vec F S1x256x128 .f32) shapeCasts_S1x256x128_S256x128 : FVec F S256x128 .f32) = car0 Z :=
  congrArg (fun z : Vec F S1x256x128 .f32 => (shapeCast S256x128 z shapeCasts_S1x256x128_S256x128 : FVec F S256x128 .f32))
    (fillG arg12 Z (Rect.unit (s := S4x256x128) ![0, 0, 0] ![1, 256, 128] inb_S4x256x128_S1x256x128_0_0_0))

theorem fill1 (arg12 : Memref sig .tc .vmem S4x256x128 .f32) (Z : Vec F S4x256x128 .f32) :
    (shapeCast S256x128 (arg12.view.readCov (Val := Elt F) [⟨Rect.unit (s := S4x256x128) ![0, 0, 0] ![4, 256, 128] inb_S4x256x128_S4x256x128_0_0_0, Z⟩]
      (Rect.unit (s := S4x256x128) ![1, 0, 0] ![1, 256, 128] inb_S4x256x128_S1x256x128_1_0_0).toLoadRect : Vec F S1x256x128 .f32) shapeCasts_S1x256x128_S256x128 : FVec F S256x128 .f32) = car1 Z :=
  congrArg (fun z : Vec F S1x256x128 .f32 => (shapeCast S256x128 z shapeCasts_S1x256x128_S256x128 : FVec F S256x128 .f32))
    (fillG arg12 Z (Rect.unit (s := S4x256x128) ![1, 0, 0] ![1, 256, 128] inb_S4x256x128_S1x256x128_1_0_0))

theorem fill2 (arg12 : Memref sig .tc .vmem S4x256x128 .f32) (Z : Vec F S4x256x128 .f32) :
    (shapeCast S256x128 (arg12.view.readCov (Val := Elt F) [⟨Rect.unit (s := S4x256x128) ![0, 0, 0] ![4, 256, 128] inb_S4x256x128_S4x256x128_0_0_0, Z⟩]
      (Rect.unit (s := S4x256x128) ![2, 0, 0] ![1, 256, 128] inb_S4x256x128_S1x256x128_2_0_0).toLoadRect : Vec F S1x256x128 .f32) shapeCasts_S1x256x128_S256x128 : FVec F S256x128 .f32) = car2 Z :=
  congrArg (fun z : Vec F S1x256x128 .f32 => (shapeCast S256x128 z shapeCasts_S1x256x128_S256x128 : FVec F S256x128 .f32))
    (fillG arg12 Z (Rect.unit (s := S4x256x128) ![2, 0, 0] ![1, 256, 128] inb_S4x256x128_S1x256x128_2_0_0))

theorem fill3 (arg12 : Memref sig .tc .vmem S4x256x128 .f32) (Z : Vec F S4x256x128 .f32) :
    (shapeCast S256x128 (arg12.view.readCov (Val := Elt F) [⟨Rect.unit (s := S4x256x128) ![0, 0, 0] ![4, 256, 128] inb_S4x256x128_S4x256x128_0_0_0, Z⟩]
      (Rect.unit (s := S4x256x128) ![3, 0, 0] ![1, 256, 128] inb_S4x256x128_S1x256x128_3_0_0).toLoadRect : Vec F S1x256x128 .f32) shapeCasts_S1x256x128_S256x128 : FVec F S256x128 .f32) = car3 Z :=
  congrArg (fun z : Vec F S1x256x128 .f32 => (shapeCast S256x128 z shapeCasts_S1x256x128_S256x128 : FVec F S256x128 .f32))
    (fillG arg12 Z (Rect.unit (s := S4x256x128) ![3, 0, 0] ![1, 256, 128] inb_S4x256x128_S1x256x128_3_0_0))

section caseA
variable (c : Dev nD) (i : grid0.Coords)
  (arg2 : Memref sig .tc .vmem S64x512 .f32) (harg2 : arg2.IsWhole)
  (arg3 : Memref sig .tc .vmem S64x512 .f32) (harg3 : arg3.IsWhole)
  (arg4 : Memref sig .tc .vmem S64x1024 .f32) (harg4 : arg4.IsWhole)
  (arg5 : Memref sig .tc .vmem S1x64x512 .f32) (harg5 : arg5.IsWhole)
  (arg6 : Memref sig .tc .vmem S1x4x1x256x128 .f32) (harg6 : arg6.IsWhole)
  (arg7 : Memref sig .tc .vmem S64x1024 .f32) (harg7 : arg7.IsWhole)
  (arg8 : Memref sig .tc .vmem S1x64x512 .f32) (harg8 : arg8.IsWhole)
  (arg9 : Memref sig .tc .vmem S1x64x512 .f32) (harg9 : arg9.IsWhole)
  (arg10 : Memref sig .tc .vmem S1x64x1024 .f32) (harg10 : arg10.IsWhole)
  (arg11 : Memref sig .tc .vmem S1x64x512 .f32) (harg11 : arg11.IsWhole)
  (arg12 : Memref sig .tc .vmem S4x256x128 .f32) (harg12 : arg12.IsWhole) (hc0 : cond0_0 i)
    (x0 : Vec F S64x512 .f32) (x1 : Vec F S64x512 .f32) (x2 : Vec F S64x1024 .f32) (x3 : Vec F S1x64x512 .f32) (x4 : Vec F S1x4x1x256x128 .f32) (x5 : Vec F S64x1024 .f32)

theorem out0_A_6_eq : out0_A_6 c i arg2 harg2 arg3 harg3 arg4 harg4 arg5 harg5 arg6 harg6 arg7 harg7 arg8 harg8 arg9 harg9 arg10 harg10 arg11 harg11 arg12 harg12 hc0 x0 x1 x2 x3 x4 x5 =
    blkL (resQ (BitVec.ofNat 32 (i 0 : ℕ))) x0 x1 x2 x3 x4 x5 (car0 k0_pay8) (car1 k0_pay8) (car2 k0_pay8) (car3 k0_pay8) := by
  rw [← fill0 arg12 k0_pay8, ← fill1 arg12 k0_pay8, ← fill2 arg12 k0_pay8, ← fill3 arg12 k0_pay8]
  frame_out
  rfl

theorem out0_A_7_eq : out0_A_7 c i arg2 harg2 arg3 harg3 arg4 harg4 arg5 harg5 arg6 harg6 arg7 harg7 arg8 harg8 arg9 harg9 arg10 harg10 arg11 harg11 arg12 harg12 hc0 x0 x1 x2 x3 x4 x5 =
    blkL (resK (BitVec.ofNat 32 (i 0 : ℕ))) x0 x1 x2 x3 x4 x5 (car0 k0_pay8) (car1 k0_pay8) (car2 k0_pay8) (car3 k0_pay8) := by
  rw [← fill0 arg12 k0_pay8, ← fill1 arg12 k0_pay8, ← fill2 arg12 k0_pay8, ← fill3 arg12 k0_pay8]
  frame_out
  rfl

theorem out0_A_8_eq : out0_A_8 c i arg2 harg2 arg3 harg3 arg4 harg4 arg5 harg5 arg6 harg6 arg7 harg7 arg8 harg8 arg9 harg9 arg10 harg10 arg11 harg11 arg12 harg12 hc0 x0 x1 x2 x3 x4 x5 =
    blkE (resV (BitVec.ofNat 32 (i 0 : ℕ))) x0 x1 x2 x3 x4 x5 (car0 k0_pay8) (car1 k0_pay8) (car2 k0_pay8) (car3 k0_pay8) := by
  rw [← fill0 arg12 k0_pay8, ← fill1 arg12 k0_pay8, ← fill2 arg12 k0_pay8, ← fill3 arg12 k0_pay8]
  frame_out
  rfl

theorem out0_A_9_eq : out0_A_9 c i arg2 harg2 arg3 harg3 arg4 harg4 arg5 harg5 arg6 harg6 arg7 harg7 arg8 harg8 arg9 harg9 arg10 harg10 arg11 harg11 arg12 harg12 hc0 x0 x1 x2 x3 x4 x5 =
    blkL (resA (BitVec.ofNat 32 (i 0 : ℕ))) x0 x1 x2 x3 x4 x5 (car0 k0_pay8) (car1 k0_pay8) (car2 k0_pay8) (car3 k0_pay8) := by
  rw [← fill0 arg12 k0_pay8, ← fill1 arg12 k0_pay8, ← fill2 arg12 k0_pay8, ← fill3 arg12 k0_pay8]
  frame_out
  rfl

theorem sout0_A_0_eq : sout0_A_0 c i arg2 harg2 arg3 harg3 arg4 harg4 arg5 harg5 arg6 harg6 arg7 harg7 arg8 harg8 arg9 harg9 arg10 harg10 arg11 harg11 arg12 harg12 hc0 x0 x1 x2 x3 x4 x5 =
    blkSA (resS (BitVec.ofNat 32 (i 0 : ℕ))) x0 x1 x2 x3 x4 x5 (car0 k0_pay8) (car1 k0_pay8) (car2 k0_pay8) (car3 k0_pay8) := by
  rw [← fill0 arg12 k0_pay8, ← fill1 arg12 k0_pay8, ← fill2 arg12 k0_pay8, ← fill3 arg12 k0_pay8]
  frame_out
  rfl

end caseA

end Cert.KernelIdeal.Head

end
-- ==== Proof.Recur.lean ====
/- The recurrence over the chunks over the reals: the rows' order reversed for the second direction, the state's gradient carried
   from chunk to chunk, and the four results of the whole sequence. -/
module

public import proofs.«01_k».proof.Proof.Reals

@[expose] public section

noncomputable section

namespace Cert.Chunk

/-! ## Reversed rows -/

/-- Row `i` in the order of direction `d`. -/
def fl (d : Fin 2) {n : ℕ} (i : Fin n) : Fin n := if d = 0 then i else i.rev

theorem fl_fl (d : Fin 2) {n : ℕ} (i : Fin n) : fl d (fl d i) = i := by unfold fl; split <;> simp

/-- The rows of a matrix in the order of direction `d`. -/
def up (d : Fin 2) {n m : ℕ} (f : M n m) : M n m := fun i => f (fl d i)

theorem sum_fl (d : Fin 2) {n : ℕ} (f : Fin n → ℝ) : ∑ i, f (fl d i) = ∑ i, f i := by
  unfold fl; split
  · rfl
  · exact Equiv.sum_comp Fin.revPerm f

theorem le_fl (d : Fin 2) {n : ℕ} (j i : Fin n) : le d (fl d j) (fl d i) ↔ le 0 j i := by
  unfold fl le; split <;> simp [*]

section
variable (d : Fin 2) (qs k : M 64 128) (v : M 64 256) (la : M 64 128) (S : M 256 128) (g : M 64 256) (G : M 256 128) (b : M 64 128)

/-- A sum over the rows at or before a row, in reversed order. -/
theorem sum_le_fl {n : ℕ} (i : Fin n) (f : Fin n → ℝ) : (∑ j, if le d j (fl d i) then f j else 0) = ∑ j, if le 0 j i then f (fl d j) else 0 := by
  rw [← sum_fl d]
  exact Finset.sum_congr rfl fun j _ => by simp only [le_fl]
theorem sum_ge_fl {n : ℕ} (i : Fin n) (f : Fin n → ℝ) : (∑ j, if le d (fl d i) j then f j else 0) = ∑ j, if le 0 i j then f (fl d j) else 0 := by
  rw [← sum_fl d]
  exact Finset.sum_congr rfl fun j _ => by simp only [le_fl]

theorem cumr_fl : cumr 0 (up d la) = up d (cumr d la) := by
  funext i l; exact (sum_le_fl d i fun j => la j l).symm
theorem tot_fl : tot (up d la) = tot la := by
  funext l; exact sum_fl d fun j => la j l
theorem score_fl (i j : Fin 64) : score 0 (up d qs) (up d k) (up d b) i j = score d qs k b (fl d i) (fl d j) := by
  unfold score; simp only [le_fl]; rfl
theorem dqs_fl : dqs 0 (up d k) (up d v) S (up d g) (up d b) = up d (dqs d k v S g b) := by
  funext i l
  exact congrArg _ (sum_le_fl d i fun j => dscore v g (fl d i) j * Real.exp (b (fl d i) l - b j l) * k j l).symm
theorem dk_fl : dk 0 (up d qs) (up d v) (up d la) (up d g) G (up d b) = up d (dk d qs v la g G b) := by
  funext i l
  unfold dk; rw [tot_fl]
  exact congrArg _ (sum_ge_fl d i fun j => qs j l * (dscore v g j (fl d i) * Real.exp (b j l - b (fl d i) l))).symm
theorem dv_fl : dv 0 (up d qs) (up d k) (up d la) (up d g) G (up d b) = up d (dv d qs k la g G b) := by
  funext j e
  unfold dv; rw [tot_fl]; simp only [score_fl]
  exact congrArg _ (sum_fl d fun i => score d qs k b i (fl d j) * g i e)
theorem dS_fl : dS (up d qs) (up d la) (up d g) G (up d b) = dS qs la g G b := by
  funext e l
  unfold dS; rw [tot_fl]
  exact congrArg _ (sum_fl d fun i => g i e * (qs i l * Real.exp (b i l)))
theorem dtot_fl : dtot (up d k) (up d v) (up d la) S G (up d b) = dtot k v la S G b := by
  funext l
  unfold dtot; rw [tot_fl]
  exact congrArg _ (sum_fl d fun j => k j l * vG v G j l * Real.exp (tot la l - b j l))
theorem dla_fl : dla 0 (up d qs) (up d k) (up d v) (up d la) S (up d g) G (up d b) = up d (dla d qs k v la S g G b) := by
  funext t l
  unfold dla; rw [dtot_fl, dqs_fl, dk_fl]
  exact congrArg _ (sum_ge_fl d t fun i => qs i l * dqs d k v S g b i l - k i l * dk d qs v la g G b i l).symm

end

/-! ## The chunks of the sequence -/

/-- Row `i` of chunk `p`. -/
def row (p : Fin 32) (i : Fin 64) : Fin 2048 := ⟨64 * p + i, by omega⟩

theorem row_rev (p : Fin 32) (i : Fin 64) : (row p i).rev = row p.rev i.rev := by
  ext; simp only [row, Fin.val_rev]; omega
theorem row_fl (d : Fin 2) (p : Fin 32) (i : Fin 64) : fl d (row p i) = row (fl d p) (fl d i) := by
  unfold fl; split
  · rfl
  · exact row_rev p i

/-- The chunk of trip `j`: the last comes first. -/
def ch (j : ℕ) : Fin 32 := ⟨31 - j, by omega⟩
/-- The chunk of trip `j` in direction `d`. -/
def pos (d : Fin 2) (j : ℕ) : Fin 32 := fl d (ch j)
/-- The trip of a chunk in direction `d`. -/
def trip (d : Fin 2) (p : Fin 32) : ℕ := 31 - fl d p

theorem pos_trip (d : Fin 2) (p : Fin 32) : pos d (trip d p) = p := by
  have e : ch (trip d p) = fl d p := by ext; simp only [ch, trip]; omega
  rw [pos, e, fl_fl]
theorem trip_lt (d : Fin 2) (p : Fin 32) : trip d p < 32 := by unfold trip; omega

section
variable (P : M 2048 3072) (A : Fin 2 → M 2048 512) (T : Fin 2 → Fin 4 → Fin 32 → M 256 128) (O : M 2048 1024)

/-! A chunk's tiles of a head. -/

def tq (h : Fin 4) (p : Fin 32) : M 64 128 := fun i l => P (row p i) ⟨128 * h + l, by omega⟩
def tk (h : Fin 4) (p : Fin 32) : M 64 128 := fun i l => P (row p i) ⟨512 + (128 * h + l), by omega⟩
def tv (h : Fin 4) (p : Fin 32) : M 64 256 := fun i e => P (row p i) ⟨1024 + (256 * h + e), by omega⟩
def tg (h : Fin 4) (p : Fin 32) : M 64 256 := fun i e => O (row p i) ⟨256 * h + e, by omega⟩
def ta (d : Fin 2) (h : Fin 4) (p : Fin 32) : M 64 128 := fun i l => A d (row p i) ⟨128 * h + l, by omega⟩
/-- The scaled queries. -/
def ts (h : Fin 4) (p : Fin 32) : M 64 128 := fun i l => tq P h p i l * sc
/-- The running sums of the log-decays. -/
def tb (d : Fin 2) (h : Fin 4) (p : Fin 32) : M 64 128 := cumr d (ta A d h p)

/-- The state's gradient before trip `j`. -/
def Gr (d : Fin 2) (h : Fin 4) : ℕ → M 256 128
  | 0 => fun _ _ => 0
  | j + 1 => dS (ts P h (pos d j)) (ta A d h (pos d j)) (tg O h (pos d j)) (Gr d h j) (tb A d h (pos d j))

/-! The results of a chunk, with `G` the state's gradient that comes in. -/

def rq (d : Fin 2) (h : Fin 4) (p : Fin 32) : M 64 128 := fun i l => dqs d (tk P h p) (tv P h p) (T d h p) (tg O h p) (tb A d h p) i l * sc
def rk (d : Fin 2) (h : Fin 4) (p : Fin 32) (G : M 256 128) : M 64 128 := dk d (ts P h p) (tv P h p) (ta A d h p) (tg O h p) G (tb A d h p)
def rv (d : Fin 2) (h : Fin 4) (p : Fin 32) (G : M 256 128) : M 64 256 := dv d (ts P h p) (tk P h p) (ta A d h p) (tg O h p) G (tb A d h p)
def ra (d : Fin 2) (h : Fin 4) (p : Fin 32) (G : M 256 128) : M 64 128 := dla d (ts P h p) (tk P h p) (tv P h p) (ta A d h p) (T d h p) (tg O h p) G (tb A d h p)

/-! The results of the whole sequence: direction, row and column. -/

/-- A head's columns side by side: column `c` is column `c % w` of head `c / w`. -/
def whole128 (f : Fin 2 → Fin 4 → Fin 32 → M 64 128) : Fin 2 → M 2048 512 := fun d r c =>
  f d ⟨c / 128, by omega⟩ ⟨r / 64, by omega⟩ ⟨r % 64, by omega⟩ ⟨c % 128, by omega⟩
def whole256 (f : Fin 2 → Fin 4 → Fin 32 → M 64 256) : Fin 2 → M 2048 1024 := fun d r c =>
  f d ⟨c / 256, by omega⟩ ⟨r / 64, by omega⟩ ⟨r % 64, by omega⟩ ⟨c % 256, by omega⟩

def resQ : Fin 2 → M 2048 512 := whole128 (rq P A T O)
def resK : Fin 2 → M 2048 512 := whole128 fun d h p => rk P A O d h p (Gr P A O d h (trip d p))
def resV : Fin 2 → M 2048 1024 := whole256 fun d h p => rv P A O d h p (Gr P A O d h (trip d p))
def resA : Fin 2 → M 2048 512 := whole128 fun d h p => ra P A T O d h p (Gr P A O d h (trip d p))

end

end Cert.Chunk

end
-- ==== Proof.Reads.lean ====
/- A grid point's blocks read head by head, over real arrays. -/
module

public import proofs.«01_k».proof.Proof.Blocks
public import proofs.«01_k».proof.Proof.Tiles
public import proofs.«01_k».proof.Proof.Recur

@[expose] public section

noncomputable section

namespace Cert.KernelIdeal.Head

open Cert.Chunk Cert.KernelIdeal Cert.KernelIdeal.Gen Idealize.ShloMosaic Idealize.ShloMosaic.TcCoe Idealize.SL.Sem

/-! ## A head's lanes -/

/-- Columns of head `h` of a row block. -/
def colL (h : Fin 4) (q : M 64 512) : M 64 128 := fun i l => q i ⟨128 * h + l, by omega⟩
def colE (h : Fin 4) (q : M 64 1024) : M 64 256 := fun i l => q i ⟨256 * h + l, by omega⟩

section
variable (q k : M 64 512) (v g : M 64 1024) (a : M 64 512) (s G : Fin 4 → M 256 128)

/-- A point's blocks of log-decays, states and carried states. -/
def bA : Vec Ideal S1x64x512 .f32 := A3 fun _ => a
def bS : Vec Ideal S1x4x1x256x128 .f32 := A5 fun _ h _ => s h
def bG : Vec Ideal S4x256x128 .f32 := A3 G

theorem ldL (o : Fin 2 → ℕ) (inb : ∀ a, o a + (![64, 128] : Fin 2 → ℕ) a ≤ S64x512.size a) (h : Fin 4) (ho : o = ![0, 128 * (h : ℕ)]) :
    View.ld (Val := Elt Ideal) (e' := .f32) (A2 q : Vec Ideal S64x512 .f32) (Rect.unit (s := S64x512) o ![64, 128] inb) = C2 (φ := .f32) (colL h q) := by
  subst ho; funext j
  refine congrArg (fun r : ℝ => (r : EReal)) (congr (congrArg q (Fin.ext ?_)) (Fin.ext ?_)) <;> simp [LoadRect.idx]
theorem ldE (o : Fin 2 → ℕ) (inb : ∀ a, o a + (![64, 256] : Fin 2 → ℕ) a ≤ S64x1024.size a) (h : Fin 4) (ho : o = ![0, 256 * (h : ℕ)]) :
    View.ld (Val := Elt Ideal) (e' := .f32) (A2 v : Vec Ideal S64x1024 .f32) (Rect.unit (s := S64x1024) o ![64, 256] inb) = C2 (φ := .f32) (colE h v) := by
  subst ho; funext j
  refine congrArg (fun r : ℝ => (r : EReal)) (congr (congrArg v (Fin.ext ?_)) (Fin.ext ?_)) <;> simp [LoadRect.idx]
theorem cast64 (f : M 64 128) : shapeCast S64x128 (C3 (φ := .f32) (fun (_ : Fin 1) => f) : FVec Ideal S1x64x128 .f32) shapeCasts_S1x64x128_S64x128 = C2 (φ := .f32) f := by
  funext j; idx_vars j; pointwise []
  simp [C2, C3, ix2, ix3]
theorem cast256 (f : M 256 128) : shapeCast S256x128 (C3 (φ := .f32) (fun (_ : Fin 1) => f) : FVec Ideal S1x256x128 .f32) shapeCasts_S1x256x128_S256x128 = C2 (φ := .f32) f := by
  funext j; idx_vars j; pointwise []
  simp [C2, C3, ix2, ix3]
theorem castS (f : M 256 128) : shapeCast S256x128 (A5 (fun (_ : Fin 1) (_ : Fin 1) (_ : Fin 1) => f) : FVec Ideal S1x1x1x256x128 .f32) shapeCasts_S1x1x1x256x128_S256x128 = C2 (φ := .f32) f := by
  funext j; idx_vars j; pointwise []
  simp [C2, A5, ix2, ix5]
theorem ldA (o : Fin 3 → ℕ) (inb : ∀ a, o a + (![1, 64, 128] : Fin 3 → ℕ) a ≤ S1x64x512.size a) (h : Fin 4) (ho : o = ![0, 0, 128 * (h : ℕ)]) :
    View.ld (Val := Elt Ideal) (e' := .f32) (bA a) (Rect.unit (s := S1x64x512) o ![1, 64, 128] inb) = C3 (φ := .f32) (fun (_ : Fin 1) => colL h a) := by
  subst ho; funext j
  refine congrArg (fun r : ℝ => (r : EReal)) (congr (congrArg a (Fin.ext ?_)) (Fin.ext ?_)) <;> simp [LoadRect.idx]
theorem ldG (o : Fin 3 → ℕ) (inb : ∀ a, o a + (![1, 256, 128] : Fin 3 → ℕ) a ≤ S4x256x128.size a) (h : Fin 4) (ho : o = ![(h : ℕ), 0, 0]) :
    View.ld (Val := Elt Ideal) (e' := .f32) (bG G) (Rect.unit (s := S4x256x128) o ![1, 256, 128] inb) = C3 (φ := .f32) (fun (_ : Fin 1) => G h) := by
  subst ho; funext j
  have j0 : (j 0 : ℕ) = 0 := Nat.lt_one_iff.mp (j 0).isLt
  refine congrArg (fun r : ℝ => (r : EReal)) (congr (congr (congrArg G (Fin.ext ?_)) (Fin.ext ?_)) (Fin.ext ?_)) <;> simp [LoadRect.idx, j0]
theorem ldS (o : Fin 5 → ℕ) (inb : ∀ a, o a + (![1, 1, 1, 256, 128] : Fin 5 → ℕ) a ≤ S1x4x1x256x128.size a) (h : Fin 4) (ho : o = ![0, (h : ℕ), 0, 0, 0]) :
    View.ld (Val := Elt Ideal) (e' := .f32) (bS s) (Rect.unit (s := S1x4x1x256x128) o ![1, 1, 1, 256, 128] inb) = A5 (fun (_ : Fin 1) (_ : Fin 1) (_ : Fin 1) => s h) := by
  subst ho; funext j
  have j1 : (j 1 : ℕ) = 0 := Nat.lt_one_iff.mp (j 1).isLt
  refine congrArg (fun r : ℝ => (r : EReal)) (congr (congr (congrArg s (Fin.ext ?_)) (Fin.ext ?_)) (Fin.ext ?_)) <;> simp [LoadRect.idx, j1]
theorem ldAc (o : Fin 3 → ℕ) (inb : ∀ a, o a + (![1, 64, 128] : Fin 3 → ℕ) a ≤ S1x64x512.size a) (h : Fin 4) (ho : o = ![0, 0, 128 * (h : ℕ)]) :
    shapeCast S64x128 (View.ld (Val := Elt Ideal) (e' := .f32) (bA a) (Rect.unit (s := S1x64x512) o ![1, 64, 128] inb)) shapeCasts_S1x64x128_S64x128 = C2 (φ := .f32) (colL h a) := by
  rw [ldA a o inb h ho]; exact cast64 _
theorem ldGc (o : Fin 3 → ℕ) (inb : ∀ a, o a + (![1, 256, 128] : Fin 3 → ℕ) a ≤ S4x256x128.size a) (h : Fin 4) (ho : o = ![(h : ℕ), 0, 0]) :
    shapeCast S256x128 (View.ld (Val := Elt Ideal) (e' := .f32) (bG G) (Rect.unit (s := S4x256x128) o ![1, 256, 128] inb)) shapeCasts_S1x256x128_S256x128 = C2 (φ := .f32) (G h) := by
  rw [ldG G o inb h ho]; exact cast256 _
theorem ldSc (o : Fin 5 → ℕ) (inb : ∀ a, o a + (![1, 1, 1, 256, 128] : Fin 5 → ℕ) a ≤ S1x4x1x256x128.size a) (h : Fin 4) (ho : o = ![0, (h : ℕ), 0, 0, 0]) :
    shapeCast S256x128 (View.ld (Val := Elt Ideal) (e' := .f32) (bS s) (Rect.unit (s := S1x4x1x256x128) o ![1, 1, 1, 256, 128] inb)) shapeCasts_S1x1x1x256x128_S256x128 = C2 (φ := .f32) (s h) := by
  rw [ldS s o inb h ho]; exact castS _

theorem car0_eq : car0 (bG G) = C2 (G 0) := ldGc G _ _ 0 rfl
theorem at0_eq {t : Shape} (f : HeadFn Ideal t) (X : FVec Ideal S256x128 .f32) : at0 f (A2 q) (A2 k) (A2 v) (bA a) (bS s) (A2 g) X =
    f (C2 (colL 0 q)) (C2 (colL 0 k)) (C2 (colE 0 v)) (C2 (colL 0 a)) (C2 (s 0)) (C2 (colE 0 g)) X := by
  unfold at0
  exact congr (congr (congr (congr (congr (congr (congrArg f (ldL q _ _ 0 rfl)) (ldL k _ _ 0 rfl)) (ldE v _ _ 0 rfl)) (ldAc a _ _ 0 rfl)) (ldSc s _ _ 0 rfl)) (ldE g _ _ 0 rfl)) rfl
theorem car1_eq : car1 (bG G) = C2 (G 1) := ldGc G _ _ 1 rfl
theorem at1_eq {t : Shape} (f : HeadFn Ideal t) (X : FVec Ideal S256x128 .f32) : at1 f (A2 q) (A2 k) (A2 v) (bA a) (bS s) (A2 g) X =
    f (C2 (colL 1 q)) (C2 (colL 1 k)) (C2 (colE 1 v)) (C2 (colL 1 a)) (C2 (s 1)) (C2 (colE 1 g)) X := by
  unfold at1
  exact congr (congr (congr (congr (congr (congr (congrArg f (ldL q _ _ 1 rfl)) (ldL k _ _ 1 rfl)) (ldE v _ _ 1 rfl)) (ldAc a _ _ 1 rfl)) (ldSc s _ _ 1 rfl)) (ldE g _ _ 1 rfl)) rfl
theorem car2_eq : car2 (bG G) = C2 (G 2) := ldGc G _ _ 2 rfl
theorem at2_eq {t : Shape} (f : HeadFn Ideal t) (X : FVec Ideal S256x128 .f32) : at2 f (A2 q) (A2 k) (A2 v) (bA a) (bS s) (A2 g) X =
    f (C2 (colL 2 q)) (C2 (colL 2 k)) (C2 (colE 2 v)) (C2 (colL 2 a)) (C2 (s 2)) (C2 (colE 2 g)) X := by
  unfold at2
  exact congr (congr (congr (congr (congr (congr (congrArg f (ldL q _ _ 2 rfl)) (ldL k _ _ 2 rfl)) (ldE v _ _ 2 rfl)) (ldAc a _ _ 2 rfl)) (ldSc s _ _ 2 rfl)) (ldE g _ _ 2 rfl)) rfl
theorem car3_eq : car3 (bG G) = C2 (G 3) := ldGc G _ _ 3 rfl
theorem at3_eq {t : Shape} (f : HeadFn Ideal t) (X : FVec Ideal S256x128 .f32) : at3 f (A2 q) (A2 k) (A2 v) (bA a) (bS s) (A2 g) X =
    f (C2 (colL 3 q)) (C2 (colL 3 k)) (C2 (colE 3 v)) (C2 (colL 3 a)) (C2 (s 3)) (C2 (colE 3 g)) X := by
  unfold at3
  exact congr (congr (congr (congr (congr (congr (congrArg f (ldL q _ _ 3 rfl)) (ldL k _ _ 3 rfl)) (ldE v _ _ 3 rfl)) (ldAc a _ _ 3 rfl)) (ldSc s _ _ 3 rfl)) (ldE g _ _ 3 rfl)) rfl

/-! ## The blocks a point stores -/

theorem up64 (f : M 64 128) : shapeCast S1x64x128 (C2 (φ := .f32) f) shapeCasts_S64x128_S1x64x128 = C3 (φ := .f32) fun (_ : Fin 1) => f := by
  funext j; idx_vars j; pointwise []
  simp [C2, C3, ix2, ix3]
theorem up64e (f : M 64 256) : shapeCast S1x64x256 (C2 (φ := .f32) f) shapeCasts_S64x256_S1x64x256 = C3 (φ := .f32) fun (_ : Fin 1) => f := by
  funext j; idx_vars j; pointwise []
  simp [C2, C3, ix2, ix3]
theorem up256 (f : M 256 128) : shapeCast S1x256x128 (C2 (φ := .f32) f) shapeCasts_S256x128_S1x256x128 = C3 (φ := .f32) fun (_ : Fin 1) => f := by
  funext j; idx_vars j; pointwise []
  simp [C2, C3, ix2, ix3]

/-- The heads' lanes side by side. -/
def sideL (R : Fin 4 → M 64 128) : M 64 512 := fun i c => R ⟨c / 128, by omega⟩ i ⟨c % 128, by omega⟩
def sideE (R : Fin 4 → M 64 256) : M 64 1024 := fun i c => R ⟨c / 256, by omega⟩ i ⟨c % 256, by omega⟩

def pcL (R : Fin 4 → M 64 128) : List (View.Piece (Elt Ideal) S1x64x512 .f32) :=
    [⟨Rect.unit ![0, 0, 384] ![1, 64, 128] inb_S1x64x512_S1x64x128_0_0_384, shapeCast S1x64x128 (C2 (φ := .f32) (R 3)) shapeCasts_S64x128_S1x64x128⟩,
      ⟨Rect.unit ![0, 0, 256] ![1, 64, 128] inb_S1x64x512_S1x64x128_0_0_256, shapeCast S1x64x128 (C2 (φ := .f32) (R 2)) shapeCasts_S64x128_S1x64x128⟩,
      ⟨Rect.unit ![0, 0, 128] ![1, 64, 128] inb_S1x64x512_S1x64x128_0_0_128, shapeCast S1x64x128 (C2 (φ := .f32) (R 1)) shapeCasts_S64x128_S1x64x128⟩,
      ⟨Rect.unit ![0, 0, 0] ![1, 64, 128] inb_S1x64x512_S1x64x128_0_0_0, shapeCast S1x64x128 (C2 (φ := .f32) (R 0)) shapeCasts_S64x128_S1x64x128⟩]
theorem canonL (R : Fin 4 → M 64 128) : View.canon (pcL R) = A3 fun (_ : Fin 1) => sideL R := by
  funext y
  rw [← List.append_nil (pcL R)]
  refine View.canon_append_of_piecesOf (Val := Elt Ideal) (e := .f32) (A3 fun (_ : Fin 1) => sideL R) [] (pcL R) ⟨?_, ?_, ?_, ?_, trivial⟩ y ((View.cover_of_tiled_head _ _ _ (by rfl) y : ∃ p ∈ pcL R, y ∈ p.1.set))
  all_goals
    intro x
    have hx : (x 2 : ℕ) < 128 := (x 2).isLt
    refine (congrFun (up64 _) x).trans (congrArg (fun r : ℝ => (r : EReal)) (congr (congr (congrArg R (Fin.ext ?_)) (Fin.ext ?_)) (Fin.ext ?_))) <;> simp <;> omega
def pcE (R : Fin 4 → M 64 256) : List (View.Piece (Elt Ideal) S1x64x1024 .f32) :=
    [⟨Rect.unit ![0, 0, 768] ![1, 64, 256] inb_S1x64x1024_S1x64x256_0_0_768, shapeCast S1x64x256 (C2 (φ := .f32) (R 3)) shapeCasts_S64x256_S1x64x256⟩,
      ⟨Rect.unit ![0, 0, 512] ![1, 64, 256] inb_S1x64x1024_S1x64x256_0_0_512, shapeCast S1x64x256 (C2 (φ := .f32) (R 2)) shapeCasts_S64x256_S1x64x256⟩,
      ⟨Rect.unit ![0, 0, 256] ![1, 64, 256] inb_S1x64x1024_S1x64x256_0_0_256, shapeCast S1x64x256 (C2 (φ := .f32) (R 1)) shapeCasts_S64x256_S1x64x256⟩,
      ⟨Rect.unit ![0, 0, 0] ![1, 64, 256] inb_S1x64x1024_S1x64x256_0_0_0, shapeCast S1x64x256 (C2 (φ := .f32) (R 0)) shapeCasts_S64x256_S1x64x256⟩]
theorem canonE (R : Fin 4 → M 64 256) : View.canon (pcE R) = A3 fun (_ : Fin 1) => sideE R := by
  funext y
  rw [← List.append_nil (pcE R)]
  refine View.canon_append_of_piecesOf (Val := Elt Ideal) (e := .f32) (A3 fun (_ : Fin 1) => sideE R) [] (pcE R) ⟨?_, ?_, ?_, ?_, trivial⟩ y ((View.cover_of_tiled_head _ _ _ (by rfl) y : ∃ p ∈ pcE R, y ∈ p.1.set))
  all_goals
    intro x
    have hx : (x 2 : ℕ) < 256 := (x 2).isLt
    refine (congrFun (up64e _) x).trans (congrArg (fun r : ℝ => (r : EReal)) (congr (congr (congrArg R (Fin.ext ?_)) (Fin.ext ?_)) (Fin.ext ?_))) <;> simp <;> omega
def pcG (R : Fin 4 → M 256 128) : List (View.Piece (Elt Ideal) S4x256x128 .f32) :=
    [⟨Rect.unit ![3, 0, 0] ![1, 256, 128] inb_S4x256x128_S1x256x128_3_0_0, shapeCast S1x256x128 (C2 (φ := .f32) (R 3)) shapeCasts_S256x128_S1x256x128⟩,
      ⟨Rect.unit ![2, 0, 0] ![1, 256, 128] inb_S4x256x128_S1x256x128_2_0_0, shapeCast S1x256x128 (C2 (φ := .f32) (R 2)) shapeCasts_S256x128_S1x256x128⟩,
      ⟨Rect.unit ![1, 0, 0] ![1, 256, 128] inb_S4x256x128_S1x256x128_1_0_0, shapeCast S1x256x128 (C2 (φ := .f32) (R 1)) shapeCasts_S256x128_S1x256x128⟩,
      ⟨Rect.unit ![0, 0, 0] ![1, 256, 128] inb_S4x256x128_S1x256x128_0_0_0, shapeCast S1x256x128 (C2 (φ := .f32) (R 0)) shapeCasts_S256x128_S1x256x128⟩]
theorem canonS (L' : List (View.Piece (Elt Ideal) S4x256x128 .f32)) (R : Fin 4 → M 256 128) : View.canon (pcG R ++ L') = bG R := by
  funext y
  refine View.canon_append_of_piecesOf (Val := Elt Ideal) (e := .f32) (bG R) L' (pcG R) ⟨?_, ?_, ?_, ?_, trivial⟩ y ((View.cover_of_tiled_head _ _ _ (by rfl) y : ∃ p ∈ pcG R, y ∈ p.1.set))
  all_goals
    intro x
    have hx : (x 0 : ℕ) = 0 := Nat.lt_one_iff.mp (x 0).isLt
    refine (congrFun (up256 _) x).trans (congrArg (fun r : ℝ => (r : EReal)) (congr (congr (congrArg R (Fin.ext ?_)) (Fin.ext ?_)) (Fin.ext ?_))) <;> simp [hx]

theorem blkL_eq (f : HeadFn Ideal S64x128) (R : Fin 4 → M 64 128)
    (e : ∀ h, f (C2 (colL h q)) (C2 (colL h k)) (C2 (colE h v)) (C2 (colL h a)) (C2 (s h)) (C2 (colE h g)) (C2 (G h)) = C2 (R h)) :
    blkL f (A2 q) (A2 k) (A2 v) (bA a) (bS s) (A2 g) (car0 (bG G)) (car1 (bG G)) (car2 (bG G)) (car3 (bG G)) = A3 fun (_ : Fin 1) => sideL R := by
  unfold blkL
  rw [car0_eq, car1_eq, car2_eq, car3_eq, at0_eq, at1_eq, at2_eq, at3_eq, e, e, e, e]
  exact canonL R
theorem blkE_eq (f : HeadFn Ideal S64x256) (R : Fin 4 → M 64 256)
    (e : ∀ h, f (C2 (colL h q)) (C2 (colL h k)) (C2 (colE h v)) (C2 (colL h a)) (C2 (s h)) (C2 (colE h g)) (C2 (G h)) = C2 (R h)) :
    blkE f (A2 q) (A2 k) (A2 v) (bA a) (bS s) (A2 g) (car0 (bG G)) (car1 (bG G)) (car2 (bG G)) (car3 (bG G)) = A3 fun (_ : Fin 1) => sideE R := by
  unfold blkE
  rw [car0_eq, car1_eq, car2_eq, car3_eq, at0_eq, at1_eq, at2_eq, at3_eq, e, e, e, e]
  exact canonE R
theorem blkS_eq (f : HeadFn Ideal S256x128) (R : Fin 4 → M 256 128)
    (e : ∀ h, f (C2 (colL h q)) (C2 (colL h k)) (C2 (colE h v)) (C2 (colL h a)) (C2 (s h)) (C2 (colE h g)) (C2 (G h)) = C2 (R h)) :
    blkS f (A2 q) (A2 k) (A2 v) (bA a) (bS s) (A2 g) (car0 (bG G)) (car1 (bG G)) (car2 (bG G)) (car3 (bG G)) = bG R := by
  unfold blkS pcsS
  rw [car0_eq, car1_eq, car2_eq, car3_eq, at0_eq, at1_eq, at2_eq, at3_eq, e, e, e, e]
  exact canonS [] R
theorem blkSA_eq (f : HeadFn Ideal S256x128) (R : Fin 4 → M 256 128)
    (e : ∀ h, f (C2 (colL h q)) (C2 (colL h k)) (C2 (colE h v)) (C2 (colL h a)) (C2 (s h)) (C2 (colE h g)) (C2 (G h)) = C2 (R h)) :
    blkSA f (A2 q) (A2 k) (A2 v) (bA a) (bS s) (A2 g) (car0 (bG G)) (car1 (bG G)) (car2 (bG G)) (car3 (bG G)) = bG R := by
  unfold blkSA pcsS
  rw [car0_eq, car1_eq, car2_eq, car3_eq, at0_eq, at1_eq, at2_eq, at3_eq, e, e, e, e]
  exact canonS _ R

/-- The fill of the carried states. -/
theorem fill_eq : k0_pay8 (F := Ideal) = bG fun _ _ _ => 0 := by
  funext j; idx_vars j
  pointwise [k0_pay8]
  rfl

end

end Cert.KernelIdeal.Head

end
-- ==== Proof.Point.lean ====
/- A grid point over the real numbers: the blocks it reads, the state's gradient it carries on and the blocks it leaves. -/
module

public import proofs.«01_k».proof.Proof.HeadOut
public import proofs.«01_k».proof.Proof.Reads
public import proofs.«01_k».proof.Proof.Gen.KernelIdeal.Value

@[expose] public section

noncomputable section

namespace Cert.KernelIdeal.Head

open Cert.Chunk Cert.KernelIdeal Cert.KernelIdeal.Gen Cert.KernelIdeal.Value Idealize.ShloMosaic Idealize.ShloMosaic.TcCoe Idealize.SL.Sem
open Idealize.ShloMosaic.Pipeline (Dat)

/-- The direction of a point. -/
def dt (t : Fin cfg0.N) : Fin 2 := ⟨t / 32, by have h := lt_of_lt_of_eq t.isLt (show cfg0.N = 64 from N_0); omega⟩
/-- The chunk of a point. -/
def pt (t : Fin cfg0.N) : Fin 32 := pos (dt t) (t % 32)

theorem coord_eq : ∀ t : Fin cfg0.N, ((grid0.coords t 0 : Fin _) : ℕ) = (dt t : ℕ) := (by decide +kernel : ∀ t : Fin grid0.N, _)
theorem idx0 : ∀ t : Fin cfg0.N, win0_0.index t = ![(pt t : ℕ), 0] := (by decide +kernel : ∀ t : Fin grid0.N, _)
theorem idx1 : ∀ t : Fin cfg0.N, win0_1.index t = ![(pt t : ℕ), 1] := (by decide +kernel : ∀ t : Fin grid0.N, _)
theorem idx2 : ∀ t : Fin cfg0.N, win0_2.index t = ![(pt t : ℕ), 1] := (by decide +kernel : ∀ t : Fin grid0.N, _)
theorem idx3 : ∀ t : Fin cfg0.N, win0_3.index t = ![(dt t : ℕ), (pt t : ℕ), 0] := (by decide +kernel : ∀ t : Fin grid0.N, _)
theorem idx4 : ∀ t : Fin cfg0.N, win0_4.index t = ![(dt t : ℕ), 0, (pt t : ℕ), 0, 0] := (by decide +kernel : ∀ t : Fin grid0.N, _)
theorem idx5 : ∀ t : Fin cfg0.N, win0_5.index t = ![(pt t : ℕ), 0] := (by decide +kernel : ∀ t : Fin grid0.N, _)
theorem idx6 : ∀ t : Fin cfg0.N, win0_6.index t = ![(dt t : ℕ), (pt t : ℕ), 0] := (by decide +kernel : ∀ t : Fin grid0.N, _)
theorem idx7 : ∀ t : Fin cfg0.N, win0_7.index t = ![(dt t : ℕ), (pt t : ℕ), 0] := (by decide +kernel : ∀ t : Fin grid0.N, _)
theorem idx8 : ∀ t : Fin cfg0.N, win0_8.index t = ![(dt t : ℕ), (pt t : ℕ), 0] := (by decide +kernel : ∀ t : Fin grid0.N, _)
theorem idx9 : ∀ t : Fin cfg0.N, win0_9.index t = ![(dt t : ℕ), (pt t : ℕ), 0] := (by decide +kernel : ∀ t : Fin grid0.N, _)

section
variable (P : M 2048 3072) (A : Fin 2 → M 2048 512) (T : Fin 2 → Fin 4 → Fin 32 → M 256 128) (O : M 2048 1024)

/-! A chunk's rows. -/
def cq (p : Fin 32) : M 64 512 := fun i c => P (Chunk.row p i) ⟨c, by omega⟩
def ck (p : Fin 32) : M 64 512 := fun i c => P (Chunk.row p i) ⟨512 + c, by omega⟩
def cv (p : Fin 32) : M 64 1024 := fun i c => P (Chunk.row p i) ⟨1024 + c, by omega⟩
def ca (d : Fin 2) (p : Fin 32) : M 64 512 := fun i c => A d (Chunk.row p i) c
def cs (d : Fin 2) (p : Fin 32) : Fin 4 → M 256 128 := fun h => T d h p
def cg (p : Fin 32) : M 64 1024 := fun i c => O (Chunk.row p i) c

variable (m : (ℓ : Loc nD τ sig) → Buf (Elt Ideal) ℓ) (c : Dev nD)
  (h0 : m ((c : Thread nD τ).loc main_arg0) = A2 P) (h1 : m ((c : Thread nD τ).loc main_arg1) = A3 A)
  (h2 : m ((c : Thread nD τ).loc main_arg2) = A5 T) (h3 : m ((c : Thread nD τ).loc main_arg3) = A2 O)

include h0 in
theorem iblk0 (t : Fin cfg0.N) : iblk m c 0 t = A2 (cq P (pt t)) := by
  funext j
  blk_simp [iblk, V_main_arg0, idx0 t, h0]
  refine congrArg (fun r : ℝ => (r : EReal)) (congr (congrArg P (Fin.ext ?_)) (Fin.ext ?_)) <;> blk_simp [idx0 t] <;> simp [Chunk.row] <;> omega
include h0 in
theorem iblk1 (t : Fin cfg0.N) : iblk m c 1 t = A2 (ck P (pt t)) := by
  funext j
  blk_simp [iblk, V_main_arg0, idx1 t, h0]
  refine congrArg (fun r : ℝ => (r : EReal)) (congr (congrArg P (Fin.ext ?_)) (Fin.ext ?_)) <;> blk_simp [idx1 t] <;> simp [Chunk.row] <;> omega
include h0 in
theorem iblk2 (t : Fin cfg0.N) : iblk m c 2 t = A2 (cv P (pt t)) := by
  funext j
  blk_simp [iblk, V_main_arg0, idx2 t, h0]
  refine congrArg (fun r : ℝ => (r : EReal)) (congr (congrArg P (Fin.ext ?_)) (Fin.ext ?_)) <;> blk_simp [idx2 t] <;> simp [Chunk.row] <;> omega
include h1 in
theorem iblk3 (t : Fin cfg0.N) : iblk m c 3 t = bA (ca A (dt t) (pt t)) := by
  funext j
  have j0 : (j 0 : ℕ) = 0 := Nat.lt_one_iff.mp (j 0).isLt
  blk_simp [iblk, V_main_arg1, idx3 t, h1]
  refine congrArg (fun r : ℝ => (r : EReal)) (congr (congr (congrArg A (Fin.ext ?_)) (Fin.ext ?_)) (Fin.ext ?_)) <;> blk_simp [idx3 t] <;> simp [Chunk.row, j0] <;> omega
include h2 in
theorem iblk4 (t : Fin cfg0.N) : iblk m c 4 t = bS (cs T (dt t) (pt t)) := by
  funext j
  have j0 : (j 0 : ℕ) = 0 := Nat.lt_one_iff.mp (j 0).isLt
  have j2 : (j 2 : ℕ) = 0 := Nat.lt_one_iff.mp (j 2).isLt
  blk_simp [iblk, V_main_arg2, idx4 t, h2]
  refine congrArg (fun r : ℝ => (r : EReal)) (congr (congr (congr (congr (congrArg T (Fin.ext ?_)) (Fin.ext ?_)) (Fin.ext ?_)) (Fin.ext ?_)) (Fin.ext ?_)) <;> blk_simp [idx4 t] <;> simp [j0, j2]
include h3 in
theorem iblk5 (t : Fin cfg0.N) : iblk m c 5 t = A2 (cg O (pt t)) := by
  funext j
  blk_simp [iblk, V_main_arg3, idx5 t, h3]
  refine congrArg (fun r : ℝ => (r : EReal)) (congr (congrArg O (Fin.ext ?_)) (Fin.ext ?_)) <;> blk_simp [idx5 t] <;> simp [Chunk.row] <;> omega

/-! ## What a point leaves, the state's gradient that comes in given -/

section heads
variable (d : Fin 2) (p : Fin 32) (G : Fin 4 → M 256 128) (h : Fin 4)

theorem headQ : resQ (BitVec.ofNat 32 (Fin.val d)) (C2 (colL h (cq P p))) (C2 (colL h (ck P p))) (C2 (colE h (cv P p))) (C2 (colL h (ca A d p))) (C2 (cs T d p h)) (C2 (colE h (cg O p))) (C2 (G h)) =
    C2 (rq P A T O d h p) := outQ_eq d _ _ _ _ _
theorem headK : resK (BitVec.ofNat 32 (Fin.val d)) (C2 (colL h (cq P p))) (C2 (colL h (ck P p))) (C2 (colE h (cv P p))) (C2 (colL h (ca A d p))) (C2 (cs T d p h)) (C2 (colE h (cg O p))) (C2 (G h)) =
    C2 (rk P A O d h p (G h)) := outK_eq d _ _ _ _ _
theorem headV : resV (BitVec.ofNat 32 (Fin.val d)) (C2 (colL h (cq P p))) (C2 (colL h (ck P p))) (C2 (colE h (cv P p))) (C2 (colL h (ca A d p))) (C2 (cs T d p h)) (C2 (colE h (cg O p))) (C2 (G h)) =
    C2 (rv P A O d h p (G h)) := outV_eq d _ _ _ _ _
theorem headA : resA (BitVec.ofNat 32 (Fin.val d)) (C2 (colL h (cq P p))) (C2 (colL h (ck P p))) (C2 (colE h (cv P p))) (C2 (colL h (ca A d p))) (C2 (cs T d p h)) (C2 (colE h (cg O p))) (C2 (G h)) =
    C2 (ra P A T O d h p (G h)) := outA_eq d _ _ _ _ _ _ _
theorem headS : resS (BitVec.ofNat 32 (Fin.val d)) (C2 (colL h (cq P p))) (C2 (colL h (ck P p))) (C2 (colE h (cv P p))) (C2 (colL h (ca A d p))) (C2 (cs T d p h)) (C2 (colE h (cg O p))) (C2 (G h)) =
    C2 (dS (ts P h p) (ta A d h p) (tg O h p) (G h) (tb A d h p)) := outS_eq d _ _ _ _

end heads

include h0 h1 h2 h3

/-- What point `t` leaves: the four blocks and the carried states. -/
theorem point_A (t : Fin cfg0.N) (ht : t.val % 32 = 0) : outsAt0 m c t.val t.isLt =
    (A3 fun (_ : Fin 1) => sideL fun h => rq P A T O (dt t) h (pt t),
     A3 fun (_ : Fin 1) => sideL fun h => rk P A O (dt t) h (pt t) (Gr P A O (dt t) h (t % 32)),
     A3 fun (_ : Fin 1) => sideE fun h => rv P A O (dt t) h (pt t) (Gr P A O (dt t) h (t % 32)),
     A3 fun (_ : Fin 1) => sideL fun h => ra P A T O (dt t) h (pt t) (Gr P A O (dt t) h (t % 32)),
     bG fun h => Gr P A O (dt t) h (t % 32 + 1)) := by
  rw [outsAt0_A m c t ht, out0_A_6_eq, out0_A_7_eq, out0_A_8_eq, out0_A_9_eq, sout0_A_0_eq, iblk0 P m c h0, iblk1 P m c h0, iblk2 P m c h0, iblk3 A m c h1, iblk4 T m c h2, iblk5 O m c h3,
    fill_eq, coord_eq]
  rw [blkL_eq _ _ _ _ _ _ _ _ _ (headQ P A T O (dt t) (pt t) _), blkL_eq _ _ _ _ _ _ _ _ _ (headK P A T O (dt t) (pt t) _),
    blkE_eq _ _ _ _ _ _ _ _ _ (headV P A T O (dt t) (pt t) _), blkL_eq _ _ _ _ _ _ _ _ _ (headA P A T O (dt t) (pt t) _),
    blkSA_eq _ _ _ _ _ _ _ _ _ (headS P A T O (dt t) (pt t) _)]
  have e : t.val % 32 + 1 = 0 + 1 := by rw [ht]
  rw [e, ht]
  have ep : pt t = pos (dt t) 0 := by unfold pt; rw [ht]
  rw [ep]; rfl
theorem point_B (t : Fin cfg0.N) (ht : ¬ t.val % 32 = 0)
    (ih : (outsAt0 m c (t.val - 1) (Nat.lt_of_le_of_lt (Nat.sub_le _ _) t.isLt)).2.2.2.2 = bG fun h => Gr P A O (dt t) h (t % 32)) : outsAt0 m c t.val t.isLt =
    (A3 fun (_ : Fin 1) => sideL fun h => rq P A T O (dt t) h (pt t),
     A3 fun (_ : Fin 1) => sideL fun h => rk P A O (dt t) h (pt t) (Gr P A O (dt t) h (t % 32)),
     A3 fun (_ : Fin 1) => sideE fun h => rv P A O (dt t) h (pt t) (Gr P A O (dt t) h (t % 32)),
     A3 fun (_ : Fin 1) => sideL fun h => ra P A T O (dt t) h (pt t) (Gr P A O (dt t) h (t % 32)),
     bG fun h => Gr P A O (dt t) h (t % 32 + 1)) := by
  rw [outsAt0_B m c t ht, out0_B_6_eq, out0_B_7_eq, out0_B_8_eq, out0_B_9_eq, sout0_B_0_eq, iblk0 P m c h0, iblk1 P m c h0, iblk2 P m c h0, iblk3 A m c h1, iblk4 T m c h2, iblk5 O m c h3,
    ih, coord_eq]
  rw [blkL_eq _ _ _ _ _ _ _ _ _ (headQ P A T O (dt t) (pt t) _), blkL_eq _ _ _ _ _ _ _ _ _ (headK P A T O (dt t) (pt t) _),
    blkE_eq _ _ _ _ _ _ _ _ _ (headV P A T O (dt t) (pt t) _), blkL_eq _ _ _ _ _ _ _ _ _ (headA P A T O (dt t) (pt t) _),
    blkS_eq _ _ _ _ _ _ _ _ _ (headS P A T O (dt t) (pt t) _)]
  rfl

theorem point : ∀ (n : ℕ) (hn : n < cfg0.N), outsAt0 m c n hn =
    (A3 fun (_ : Fin 1) => sideL fun h => rq P A T O (dt ⟨n, hn⟩) h (pt ⟨n, hn⟩),
     A3 fun (_ : Fin 1) => sideL fun h => rk P A O (dt ⟨n, hn⟩) h (pt ⟨n, hn⟩) (Gr P A O (dt ⟨n, hn⟩) h (n % 32)),
     A3 fun (_ : Fin 1) => sideE fun h => rv P A O (dt ⟨n, hn⟩) h (pt ⟨n, hn⟩) (Gr P A O (dt ⟨n, hn⟩) h (n % 32)),
     A3 fun (_ : Fin 1) => sideL fun h => ra P A T O (dt ⟨n, hn⟩) h (pt ⟨n, hn⟩) (Gr P A O (dt ⟨n, hn⟩) h (n % 32)),
     bG fun h => Gr P A O (dt ⟨n, hn⟩) h (n % 32 + 1))
  | 0, hn => point_A P A T O m c h0 h1 h2 h3 ⟨0, hn⟩ rfl
  | n + 1, hn => by
    by_cases ht : (n + 1) % 32 = 0
    · exact point_A P A T O m c h0 h1 h2 h3 ⟨n + 1, hn⟩ ht
    · refine point_B P A T O m c h0 h1 h2 h3 ⟨n + 1, hn⟩ ht ?_
      have hn' : n < cfg0.N := Nat.lt_of_succ_lt hn
      refine (congrArg (fun z => z.2.2.2.2) (point n hn')).trans ?_
      have e1 : n % 32 + 1 = (n + 1) % 32 := by omega
      have e2 : dt ⟨n, hn'⟩ = dt ⟨n + 1, hn⟩ := Fin.ext (show n / 32 = (n + 1) / 32 by omega)
      show bG (fun h => Gr P A O (dt ⟨n, hn'⟩) h (n % 32 + 1)) = _
      rw [e1, e2]

omit h0 h1 h2 h3

/-! ## The result arrays -/

theorem side_row128 (f : Fin 2 → Fin 4 → Fin 32 → M 64 128) (d : Fin 2) (p : Fin 32) (i : Fin 64) (l : Fin 512) (r : Fin 2048) (hr : (r : ℕ) = 64 * p + i) :
    sideL (fun h => f d h p) i l = whole128 f d r l := by
  have e1 : (⟨r / 64, by omega⟩ : Fin 32) = p := by ext; simp only; omega
  have e2 : (⟨r % 64, by omega⟩ : Fin 64) = i := by ext; simp only; omega
  unfold sideL whole128; rw [e1, e2]
theorem side_row256 (f : Fin 2 → Fin 4 → Fin 32 → M 64 256) (d : Fin 2) (p : Fin 32) (i : Fin 64) (l : Fin 1024) (r : Fin 2048) (hr : (r : ℕ) = 64 * p + i) :
    sideE (fun h => f d h p) i l = whole256 f d r l := by
  have e1 : (⟨r / 64, by omega⟩ : Fin 32) = p := by ext; simp only; omega
  have e2 : (⟨r % 64, by omega⟩ : Fin 64) = i := by ext; simp only; omega
  unfold sideE whole256; rw [e1, e2]

theorem trip_pt (t : Fin cfg0.N) : trip (dt t) (pt t) = t % 32 := by
  unfold trip pt pos; rw [fl_fl]; simp only [ch]; omega

end

end Cert.KernelIdeal.Head

end
-- ==== Proof.Result.lean ====
/- The kernel's result arrays over the real numbers. -/
module

public import proofs.«01_k».proof.Proof.Point

@[expose] public section

noncomputable section

namespace Cert.KernelIdeal.Head

open Cert.Chunk Cert.KernelIdeal Cert.KernelIdeal.Gen Cert.KernelIdeal.Value Idealize.ShloMosaic Idealize.ShloMosaic.TcCoe Idealize.SL.Sem
open Idealize.ShloMosaic.Pipeline (Dat)

variable (P : M 2048 3072) (A : Fin 2 → M 2048 512) (T : Fin 2 → Fin 4 → Fin 32 → M 256 128) (O : M 2048 1024)
variable (m : (ℓ : Loc nD τ sig) → Buf (Elt Ideal) ℓ) (c : Dev nD)
  (h0 : m ((c : Thread nD τ).loc main_arg0) = A2 P) (h1 : m ((c : Thread nD τ).loc main_arg1) = A3 A)
  (h2 : m ((c : Thread nD τ).loc main_arg2) = A5 T) (h3 : m ((c : Thread nD τ).loc main_arg3) = A2 O)

/-- A block of head lanes is the whole array's at the block's place. -/
theorem place128 (f : Fin 2 → Fin 4 → Fin 32 → M 64 128) (t : Fin cfg0.N) (y : S1x64x512.Idx) (z : S2x2048x512.Idx)
    (e0 : (z 0 : ℕ) = dt t) (e1 : (z 1 : ℕ) = 64 * pt t + y 1) (e2 : (z 2 : ℕ) = y 2) :
    (A3 (fun (_ : Fin 1) => sideL fun h => f (dt t) h (pt t)) : FVec Ideal S1x64x512 .f32) y = A3 (whole128 f) z := by
  show ((sideL (fun h => f (dt t) h (pt t)) (y 1) (y 2) : ℝ) : EReal) = (whole128 f (z 0) (z 1) (z 2) : ℝ)
  have a0 : z 0 = dt t := Fin.ext e0
  have a2 : z 2 = y 2 := Fin.ext e2
  rw [side_row128 f (dt t) (pt t) (y 1) (y 2) (z 1) e1, a0, a2]
theorem place256 (f : Fin 2 → Fin 4 → Fin 32 → M 64 256) (t : Fin cfg0.N) (y : S1x64x1024.Idx) (z : S2x2048x1024.Idx)
    (e0 : (z 0 : ℕ) = dt t) (e1 : (z 1 : ℕ) = 64 * pt t + y 1) (e2 : (z 2 : ℕ) = y 2) :
    (A3 (fun (_ : Fin 1) => sideE fun h => f (dt t) h (pt t)) : FVec Ideal S1x64x1024 .f32) y = A3 (whole256 f) z := by
  show ((sideE (fun h => f (dt t) h (pt t)) (y 1) (y 2) : ℝ) : EReal) = (whole256 f (z 0) (z 1) (z 2) : ℝ)
  have a0 : z 0 = dt t := Fin.ext e0
  have a2 : z 2 = y 2 := Fin.ext e2
  rw [side_row256 f (dt t) (pt t) (y 1) (y 2) (z 1) e1, a0, a2]

include h0 h1 h2 h3

theorem finalQ : (dats m 0 c).arrAt 6 cfg0.N = A3 (Chunk.resQ P A T O) := by
  refine (dats m 0 c).arrAt_eq_of_covers 6 _ (by decide +kernel) fun t hf y => ?_
  have y0 : (y 0 : ℕ) = 0 := Nat.lt_one_iff.mp (y 0).isLt
  blk_simp
  rw [after0_6, point P A T O m c h0 h1 h2 h3]
  dsimp only
  refine place128 (fun d h p => rq P A T O d h p) t y _ ?_ ?_ ?_ <;> blk_simp [idx6 t] <;> simp [y0] <;> omega

theorem finalK : (dats m 0 c).arrAt 7 cfg0.N = A3 (Chunk.resK P A O) := by
  refine (dats m 0 c).arrAt_eq_of_covers 7 _ (by decide +kernel) fun t hf y => ?_
  have y0 : (y 0 : ℕ) = 0 := Nat.lt_one_iff.mp (y 0).isLt
  blk_simp
  rw [after0_7, point P A T O m c h0 h1 h2 h3]
  dsimp only
  rw [← trip_pt t]
  refine place128 (fun d h p => rk P A O d h p (Gr P A O d h (trip d p))) t y _ ?_ ?_ ?_ <;> blk_simp [idx7 t] <;> simp [y0] <;> omega

theorem finalV : (dats m 0 c).arrAt 8 cfg0.N = A3 (Chunk.resV P A O) := by
  refine (dats m 0 c).arrAt_eq_of_covers 8 _ (by decide +kernel) fun t hf y => ?_
  have y0 : (y 0 : ℕ) = 0 := Nat.lt_one_iff.mp (y 0).isLt
  blk_simp
  rw [after0_8, point P A T O m c h0 h1 h2 h3]
  dsimp only
  rw [← trip_pt t]
  refine place256 (fun d h p => rv P A O d h p (Gr P A O d h (trip d p))) t y _ ?_ ?_ ?_ <;> blk_simp [idx8 t] <;> simp [y0] <;> omega

theorem finalA : (dats m 0 c).arrAt 9 cfg0.N = A3 (Chunk.resA P A T O) := by
  refine (dats m 0 c).arrAt_eq_of_covers 9 _ (by decide +kernel) fun t hf y => ?_
  have y0 : (y 0 : ℕ) = 0 := Nat.lt_one_iff.mp (y 0).isLt
  blk_simp
  rw [after0_9, point P A T O m c h0 h1 h2 h3]
  dsimp only
  rw [← trip_pt t]
  refine place128 (fun d h p => ra P A T O d h p (Gr P A O d h (trip d p))) t y _ ?_ ?_ ?_ <;> blk_simp [idx9 t] <;> simp [y0] <;> omega

end Cert.KernelIdeal.Head

end
-- ==== Proof.RefStep.lean ====
/- One trip of the reference's loop over the reals: each head's step is the chunk's gradient in the order of its own rows. -/
module

public import proofs.«01_k».proof.Proof.Recur
public import proofs.«01_k».proof.Proof.Gen.ReferenceIdeal.Step

@[expose] public section

noncomputable section

namespace Cert.ReferenceIdeal.Step

open Cert.Chunk Cert.ReferenceIdeal Cert.ReferenceIdeal.Gen Idealize.ShloMosaic Idealize.ShloMosaic.TcCoe Idealize.SL.Sem

/-! ## The chunk a trip takes -/

variable (j : ℕ) (hj : j < 32) (s : State Ideal)

/-- The causal mask. -/
theorem causal_eq (i t : Fin 64) : K_main_v37 (F := Ideal) (ix3 i t 0) = if le 0 t i then 1#1 else 0#1 := by
  pointwise [K_main_v37, K_main_v36, K_main_v35, K_main_c, K_main_call6_v0, K_main_call6_c, K_main_call6_v1, K_main_call6_v2, K_main_call6_v3, K_main_call6_v4, K_main_call6_c_0, K_main_call6_v5]
  revert i t; decide +kernel

theorem b48_eq : b48 j s = fun x => if le 0 (n := 64) (x 3) (x 2) then 1#1 else 0#1 := by
  funext x; idx_vars x; pointwise [b48]; exact causal_eq _ _
theorem b63_eq : b63 j s = fun x => if le 0 (n := 64) (x 3) (x 2) then 1#1 else 0#1 := by
  funext x; idx_vars x; pointwise [b63]; exact causal_eq _ _

theorem sel_if {α : Type} (p : Prop) [Decidable p] (x y : α) : Scalar.select (if p then 1#1 else 0#1) x y = if p then x else y := by
  split <;> rfl

include hj

theorem b3_eq (i : S_.Idx) : b3 (F := Ideal) j s i = BitVec.ofNat 32 (31 - j) := by
  have e : ∀ j : Fin 32, 32#32 - BitVec.ofNat 32 j - 1#32 = BitVec.ofNat 32 (31 - j) := by decide
  exact e ⟨j, hj⟩

theorem starts_eq : (fun k => (((![b3 (F := Ideal) j s, constantI S_ 32 0#32, constantI S_ 32 0#32, constantI S_ 32 0#32, constantI S_ 32 0#32] :
    Fin 5 → (⟨S_, .i32⟩ : BufTy).Contents (Elt Ideal))) k (Shape.Idx.first h_S_)).toInt) =
    fun k => ((![BitVec.ofNat 32 (31 - j), 0#32, 0#32, 0#32, 0#32] : Fin 5 → BitVec 32) k).toInt := by
  funext k; fin_cases k
  · exact congrArg BitVec.toInt (b3_eq j hj s _)
  all_goals rfl

theorem slice128 (f : Fin 32 → Fin 2 → Fin 4 → M 64 128) :
    shapeCast S2x4x64x128 (Host.dynamicSlice S1x2x4x64x128 (A5 f) (fun k => (((![b3 (F := Ideal) j s, constantI S_ 32 0#32, constantI S_ 32 0#32, constantI S_ 32 0#32, constantI S_ 32 0#32] :
      Fin 5 → (⟨S_, .i32⟩ : BufTy).Contents (Elt Ideal))) k (Shape.Idx.first h_S_)).toInt) sliceFits_S32x2x4x64x128_S1x2x4x64x128) shapeCasts_S1x2x4x64x128_S2x4x64x128 =
      A4 (f (ch j)) := by
  have e : ∀ j : Fin 32, ∀ a, Host.clampedStart S32x2x4x64x128 S1x2x4x64x128 rfl
      (fun k => ((![BitVec.ofNat 32 (31 - j), 0#32, 0#32, 0#32, 0#32] : Fin 5 → BitVec 32) k).toInt) a = (![31 - (j : ℕ), 0, 0, 0, 0] : Fin 5 → ℕ) a := by
    decide +kernel
  have e' := e ⟨j, hj⟩
  rw [starts_eq j hj s]
  funext x; idx_vars x
  pointwise []
  simp only [e']
  simp [A5, A4, ix4, ix5, ch]

theorem slice256 (f : Fin 32 → Fin 2 → Fin 4 → M 64 256) :
    shapeCast S2x4x64x256 (Host.dynamicSlice S1x2x4x64x256 (A5 f) (fun k => (((![b3 (F := Ideal) j s, constantI S_ 32 0#32, constantI S_ 32 0#32, constantI S_ 32 0#32, constantI S_ 32 0#32] :
      Fin 5 → (⟨S_, .i32⟩ : BufTy).Contents (Elt Ideal))) k (Shape.Idx.first h_S_)).toInt) sliceFits_S32x2x4x64x256_S1x2x4x64x256) shapeCasts_S1x2x4x64x256_S2x4x64x256 =
      A4 (f (ch j)) := by
  have e : ∀ j : Fin 32, ∀ a, Host.clampedStart S32x2x4x64x256 S1x2x4x64x256 rfl
      (fun k => ((![BitVec.ofNat 32 (31 - j), 0#32, 0#32, 0#32, 0#32] : Fin 5 → BitVec 32) k).toInt) a = (![31 - (j : ℕ), 0, 0, 0, 0] : Fin 5 → ℕ) a := by
    decide +kernel
  have e' := e ⟨j, hj⟩
  rw [starts_eq j hj s]
  funext x; idx_vars x
  pointwise []
  simp only [e']
  simp [A5, A4, ix4, ix5, ch]

theorem sliceSt (f : Fin 32 → Fin 2 → Fin 4 → M 128 256) :
    shapeCast S2x4x128x256 (Host.dynamicSlice S1x2x4x128x256 (A5 f) (fun k => (((![b3 (F := Ideal) j s, constantI S_ 32 0#32, constantI S_ 32 0#32, constantI S_ 32 0#32, constantI S_ 32 0#32] :
      Fin 5 → (⟨S_, .i32⟩ : BufTy).Contents (Elt Ideal))) k (Shape.Idx.first h_S_)).toInt) sliceFits_S32x2x4x128x256_S1x2x4x128x256) shapeCasts_S1x2x4x128x256_S2x4x128x256 =
      A4 (f (ch j)) := by
  have e : ∀ j : Fin 32, ∀ a, Host.clampedStart S32x2x4x128x256 S1x2x4x128x256 rfl
      (fun k => ((![BitVec.ofNat 32 (31 - j), 0#32, 0#32, 0#32, 0#32] : Fin 5 → BitVec 32) k).toInt) a = (![31 - (j : ℕ), 0, 0, 0, 0] : Fin 5 → ℕ) a := by
    decide +kernel
  have e' := e ⟨j, hj⟩
  rw [starts_eq j hj s]
  funext x; idx_vars x
  pointwise []
  simp only [e']
  simp [A5, A4, ix4, ix5, ch]

theorem b17_eq (f : Fin 32 → Fin 2 → Fin 4 → M 64 128) (h : s.main_v54_2 = A5 f) : b17 j s = A4 (f (ch j)) := by
  unfold b17 b16; rw [h]; exact slice128 j hj s f
theorem b23_eq (f : Fin 32 → Fin 2 → Fin 4 → M 64 128) (h : s.main_v54_3 = A5 f) : b23 j s = A4 (f (ch j)) := by
  unfold b23 b22; rw [h]; exact slice128 j hj s f
theorem b29_eq (f : Fin 32 → Fin 2 → Fin 4 → M 64 256) (h : s.main_v54_4 = A5 f) : b29 j s = A4 (f (ch j)) := by
  unfold b29 b28; rw [h]; exact slice256 j hj s f
theorem b35_eq (f : Fin 32 → Fin 2 → Fin 4 → M 64 128) (h : s.main_v54_5 = A5 f) : b35 j s = A4 (f (ch j)) := by
  unfold b35 b34; rw [h]; exact slice128 j hj s f
theorem b41_eq (f : Fin 32 → Fin 2 → Fin 4 → M 64 256) (h : s.main_v54_6 = A5 f) : b41 j s = A4 (f (ch j)) := by
  unfold b41 b40; rw [h]; exact slice256 j hj s f
theorem b11_eq (f : Fin 32 → Fin 2 → Fin 4 → M 128 256) (h : s.main_v54_1 = A5 f) : b11 j s = A4 (f (ch j)) := by
  unfold b11 b10; rw [h]; exact sliceSt j hj s f

omit hj

/-! ## The step -/

section step
variable (qs k a b : Fin 2 → Fin 4 → M 64 128) (v g : Fin 2 → Fin 4 → M 64 256) (S D : Fin 2 → Fin 4 → M 128 256)
  (hS : b11 j s = A4 S) (hk : b23 j s = A4 k) (hv : b29 j s = A4 v) (ha : b35 j s = A4 a) (hg : b41 j s = A4 g)
  (hqs : b44 j s = A4 qs) (hb : b55 j s = A4 b) (hD : s.main_v54_9 = A4 D) (hT : ∀ d h l, b d h 63 l = tot (a d h) l)

/-- A state with its axes exchanged. -/
def tr {n m : ℕ} (f : M n m) : M m n := fun i l => f l i

theorem b44_eq (q : Fin 2 → Fin 4 → M 64 128) (hq : b17 j s = A4 q) : b44 j s = A4 fun d h i l => q d h i l * sc := by
  funext x; idx_vars x; pointwise [b44, b43, b42, hq, A4]; rw [sc_eq]; exact (EReal.coe_mul _ _).symm

theorem b55_eq (ha : b35 j s = A4 a) : b55 j s = A4 fun d h => cumr 0 (a d h) := by
  funext x; idx_vars x
  pointwise [b55, b54, b51, b50, b49, b47, b46, b45, b48_eq, ha, A4, sel_if]
  simp only [cumr, coe_sum, coe_ite, EReal.coe_zero]
  rfl

theorem cumr_last (la : M 64 128) (l : Fin 128) : cumr 0 la 63 l = tot la l := by
  unfold cumr tot
  refine Finset.sum_congr rfl fun t _ => if_pos ?_
  unfold le; simp only [if_true]; exact Fin.le_last t

theorem b68_eq (hb : b55 j s = A4 b) : b68 j s = A5 fun d h i t l => if le 0 t i then Real.exp (b d h i l - b d h t l) else 0 := by
  funext x; idx_vars x
  pointwise [b68, b65, b64, b62, b61, b60, b59, b58, b57, b56, b63_eq, hb, A4, A5]
  exact exp_mask _ _ _

theorem b73_eq (hqs : b44 j s = A4 qs) (hk : b23 j s = A4 k) : b73 j s = A5 fun d h i t l => qs d h i l * k d h t l := by
  funext x; idx_vars x
  pointwise [b73, b72, b71, b70, b69, hk, hqs, A4, A5]
  exact (EReal.coe_mul _ _).symm

include hqs hk hb in
theorem b76_eq : b76 j s = A4 fun d h => score 0 (qs d h) (k d h) (b d h) := by
  funext x; idx_vars x
  pointwise [b76, b75, b74, b73_eq j s qs k hqs hk, b68_eq j s b hb, A4, A5]
  simp only [score]
  split <;> simp [coe_sum]

include hg hv in
theorem b122_eq : b122 j s = A4 fun d h => dscore (v d h) (g d h) := by
  funext x; idx_vars x
  pointwise [b122, hv, hg, A4]
  simp only [dscore, coe_sum, EReal.coe_mul]

include hb in
theorem b77_eq : b77 j s = A4 fun d h i l => Real.exp (b d h i l) := by
  funext x; idx_vars x
  pointwise [b77, hb, A4]; rfl

include hb hT in
theorem b84_eq : b84 j s = A3 fun d h l => Real.exp (tot (a d h) l) := by
  funext x; idx_vars x
  pointwise [b84, b83, b82, hb, A4, A3]
  rw [← hT]; rfl

include hb hT in
theorem b90_eq : b90 j s = A4 fun d h i l => Real.exp (tot (a d h) l - b d h i l) := by
  funext x; idx_vars x
  pointwise [b90, b89, b88, b82, hb, A4]
  rw [← hT]; exact exp_sub_coe _ _

include hv hD in
theorem b97_eq : b97 j s = A4 fun d h => vG (v d h) (tr (D d h)) := by
  funext x; idx_vars x
  pointwise [b97, b96, hv, hD, A4]
  simp only [vG, tr, coe_sum, EReal.coe_mul, mul_comm]

include hS hg in
theorem b126_eq : b126 j s = A4 fun d h => gS (tr (S d h)) (g d h) := by
  funext x; idx_vars x
  pointwise [b126, hg, hS, A4]
  simp only [gS, tr, coe_sum, EReal.coe_mul, mul_comm]

include hk hv hg hqs hb hD hT in
theorem b121_eq : b121 j s = A4 fun d h => dv 0 (qs d h) (k d h) (a d h) (g d h) (tr (D d h)) (b d h) := by
  funext x; idx_vars x
  pointwise [b121, b120, b119, b95, b94, b91, b90_eq j s a b hb hT, hk, hg, hD, b76_eq j s qs k b hk hqs hb, A4]
  simp only [dv, tr, EReal.coe_add, coe_sum, EReal.coe_mul, mul_comm, mul_left_comm]

include hg hqs hb hD hT in
theorem b125_eq : b125 j s = A4 fun d h => tr (dS (qs d h) (a d h) (g d h) (tr (D d h)) (b d h)) := by
  funext x; idx_vars x
  pointwise [b125, b124, b123, b106, b105, b85, b84_eq j s a b hb hT, b78, b77_eq j s b hb, hqs, hg, hD, A4, A3]
  simp only [dS, tr, EReal.coe_add, coe_sum, EReal.coe_mul]

include hS hk hv hg hb in
theorem b149_eq : b149 j s = A4 fun d h => dqs 0 (k d h) (v d h) (tr (S d h)) (g d h) (b d h) := by
  funext x; idx_vars x
  pointwise [b149, b148, b147, b143, b142, b141, b140, b139, b70, b133, b131, b122_eq j s v g hv hg, b68_eq j s b hb, b128, b126_eq j s g S hS hg, b77_eq j s b hb, hk, A4, A5]
  simp only [Finset.univ_unique, Finset.sum_singleton]
  rw [dqs, EReal.coe_add, EReal.coe_mul, coe_sum]
  refine congrArg _ (Finset.sum_congr rfl fun t _ => ?_)
  split <;> simp

include hk hv hg hqs hb hD hT in
theorem b146_eq : b146 j s = A4 fun d h => dk 0 (qs d h) (v d h) (a d h) (g d h) (tr (D d h)) (b d h) := by
  funext x; idx_vars x
  pointwise [b146, b145, b144, b138, b137, b136, b135, b134, b69, b133, b131, b122_eq j s v g hv hg, b68_eq j s b hb, b99, b97_eq j s v D hv hD, b90_eq j s a b hb hT, hqs, A4, A5]
  simp only [Finset.univ_unique, Finset.sum_singleton]
  rw [dk, EReal.coe_add, EReal.coe_mul, coe_sum]
  refine congrArg _ (Finset.sum_congr rfl fun t _ => ?_)
  split <;> simp

include hS hk hv hg hb in
theorem b178_eq : b178 j s = A4 fun d h i l => dqs 0 (k d h) (v d h) (tr (S d h)) (g d h) (b d h) i l * sc := by
  funext x; idx_vars x
  pointwise [b178, b177, b176, b149_eq j s k b v g S hS hk hv hg hb, A4]
  rw [sc_eq]; exact (EReal.coe_mul _ _).symm

include hS hk hb hD hv hT in
/-- What the last row's running sum receives. -/
theorem b115_eq (d : Fin 2) (h : Fin 4) (l : Fin 128) : b115 j s (ix4 d h 0 l) = (dtot (k d h) (v d h) (a d h) (tr (S d h)) (tr (D d h)) (b d h) l : EReal) := by
  pointwise [b115, b114, b113, b112, b111, b110, b109, b108, b107, b103, b102, b101, b100, b98, b84_eq j s a b hb hT, b97_eq j s v D hv hD, b90_eq j s a b hb hT, hk, hS, hD, A4, A3]
  simp only [Finset.univ_unique, Finset.sum_singleton]
  simp only [dtot, tr, EReal.coe_add, coe_sum, EReal.coe_mul]
  rw [add_comm]

include hS hk hb hD hv hT in
theorem b117_eq : b117 j s = A4 fun d h i l => if i = 63 then dtot (k d h) (v d h) (a d h) (tr (S d h)) (tr (D d h)) (b d h) l else 0 := by
  funext x; idx_vars x
  by_cases h : x2 = 63
  · subst h
    pointwise [b117, b116, A4]
    exact b115_eq j s k a b v S D hS hk hv hb hD hT x0 x1 x3
  · pointwise [b117, b116, A4]
    rw [if_neg h, dif_neg fun h' => h (Fin.ext (by have := h'.1; have := x2.isLt; show (x2 : ℕ) = 63; omega))]; rfl

include hk hv hg hqs hb in
/-- What the decay of a pair of rows receives. -/
theorem b153_eq : b153 j s = A5 fun d h i t l =>
    if le 0 t i then qs d h i l * k d h t l * (dscore (v d h) (g d h) i t * Real.exp (b d h i l - b d h t l)) else 0 := by
  funext x; idx_vars x
  pointwise [b153, b152, b151, b150, b132, b131, b63_eq, b73_eq j s qs k hqs hk, b122_eq j s v g hv hg, b68_eq j s b hb, A4, A5, sel_if]
  by_cases h : le 0 x3 x2
  · rw [if_pos h, if_pos h]; refine (if_pos h).trans ?_; rw [← EReal.coe_mul, ← EReal.coe_mul, mul_assoc]
  · rw [if_neg h, if_neg h]; exact if_neg h

include hS hk hv hg hqs hb hD hT in
theorem b166_eq : b166 j s = A4 fun d h i l => qs d h i l * dqs 0 (k d h) (v d h) (tr (S d h)) (g d h) (b d h) i l -
    k d h i l * dk 0 (qs d h) (v d h) (a d h) (g d h) (tr (D d h)) (b d h) i l +
    if i = 63 then dtot (k d h) (v d h) (a d h) (tr (S d h)) (tr (D d h)) (b d h) l else 0 := by
  funext x; idx_vars x
  pointwise [b166, b165, b164, b163, b162, b161, b160, b159, b158, b157, b156, b155, b154, b130, b129, b127, b118, b104, b100, b98,
    b153_eq j s qs k b v g hk hv hg hqs hb, b117_eq j s k a b v S D hS hk hv hb hD hT, b126_eq j s g S hS hg, b77_eq j s b hb, hqs, b97_eq j s v D hv hD,
    b90_eq j s a b hb hT, hk, A4, A5]
  simp only [Finset.univ_unique, Finset.sum_singleton]
  simp only [← EReal.coe_neg, ← coe_sum, ← EReal.coe_mul, ← EReal.coe_add]
  refine congrArg _ ?_
  unfold dqs dk
  rw [Finset.sum_neg_distrib]
  have e1 : ∀ x, (if le 0 x2 x then qs x0 x1 x x3 * k x0 x1 x2 x3 * (dscore (v x0 x1) (g x0 x1) x x2 * Real.exp (b x0 x1 x x3 - b x0 x1 x2 x3)) else 0) =
      k x0 x1 x2 x3 * (if le 0 x2 x then qs x0 x1 x x3 * (dscore (v x0 x1) (g x0 x1) x x2 * Real.exp (b x0 x1 x x3 - b x0 x1 x2 x3)) else 0) := by
    intro x; split <;> ring
  have e2 : ∀ x, (if le 0 x x2 then qs x0 x1 x2 x3 * k x0 x1 x x3 * (dscore (v x0 x1) (g x0 x1) x2 x * Real.exp (b x0 x1 x2 x3 - b x0 x1 x x3)) else 0) =
      qs x0 x1 x2 x3 * (if le 0 x x2 then dscore (v x0 x1) (g x0 x1) x2 x * Real.exp (b x0 x1 x2 x3 - b x0 x1 x x3) * k x0 x1 x x3 else 0) := by
    intro x; split <;> ring
  rw [Finset.sum_congr rfl fun x _ => e1 x, Finset.sum_congr rfl fun x _ => e2 x, ← Finset.mul_sum, ← Finset.mul_sum]
  ring

include hS hk hv hg hqs hb hD hT in
theorem b175_eq : b175 j s = A4 fun d h => dla 0 (qs d h) (k d h) (v d h) (a d h) (tr (S d h)) (g d h) (tr (D d h)) (b d h) := by
  funext x; idx_vars x
  pointwise [b175, b174, b173, b172, b171, b170, b169, b168, b167, b48_eq, b166_eq j s qs k a b v g S D hS hk hv hg hqs hb hD hT, A4, sel_if]
  simp only [Finset.univ_unique, Finset.sum_singleton]
  unfold dla
  rw [EReal.coe_add, coe_sum]
  have e : ((dtot (k x0 x1) (v x0 x1) (a x0 x1) (tr (S x0 x1)) (tr (D x0 x1)) (b x0 x1) x3 : ℝ) : EReal) =
      ∑ x : Fin 64, if x = 63 then ((dtot (k x0 x1) (v x0 x1) (a x0 x1) (tr (S x0 x1)) (tr (D x0 x1)) (b x0 x1) x3 : ℝ) : EReal) else 0 := by
    simp
  rw [e, ← Finset.sum_add_distrib]
  refine Finset.sum_congr rfl fun x _ => ?_
  by_cases h : x = 63
  · subst h
    have hl : le 0 x2 (63 : Fin 64) := by unfold le; simp only [if_true]; exact Fin.le_last x2
    simp only [hl, if_true]
    rw [← EReal.coe_add, add_comm]
  · by_cases hl : le 0 x2 x <;> simp [h, hl]

/-- The one-hot place of a trip's chunk. -/
theorem b182_eq (hj : j < 32) (n : Fin 32) : b182 j s (ix5 n 0 0 0 0) = if n = ch j then 1#1 else 0#1 := by
  pointwise [b182, b181, b180, b179, b5, b4, K_main_v53]
  have e : ∀ j n : Fin 32, IntOp.cmpi CmpIPredicate.eq (BitVec.ofNat 32 n)
      (BitVec.ofNat 32 (Host.clampedStart S32 S1 rfl (fun k => BitVec.toInt (BitVec.ofNat 32 (31 - j))) 0)) = if n = ch j then 1#1 else 0#1 := by
    decide +kernel
  rw [b3_eq j hj s]
  exact e ⟨j, hj⟩ n

theorem b190_eq (hj : j < 32) (f : Fin 32 → Fin 2 → Fin 4 → M 64 128) (x : Fin 2 → Fin 4 → M 64 128) (hf : s.main_v54_10 = A5 f) (hx : b178 j s = A4 x) :
    b190 j s = A5 fun n d h i l => f n d h i l + if n = ch j then x d h i l else 0 := by
  funext y; idx_vars y
  pointwise [b190, b189, b188, b187, b186, b185, b184, b183, hf, hx, b182_eq j s hj, A4, A5, sel_if]
  rw [EReal.coe_add, coe_ite]; rfl

theorem b198_eq (hj : j < 32) (f : Fin 32 → Fin 2 → Fin 4 → M 64 128) (x : Fin 2 → Fin 4 → M 64 128) (hf : s.main_v54_11 = A5 f) (hx : b146 j s = A4 x) :
    b198 j s = A5 fun n d h i l => f n d h i l + if n = ch j then x d h i l else 0 := by
  funext y; idx_vars y
  pointwise [b198, b197, b196, b195, b194, b193, b192, b191, hf, hx, b182_eq j s hj, A4, A5, sel_if]
  rw [EReal.coe_add, coe_ite]; rfl

theorem b206_eq (hj : j < 32) (f : Fin 32 → Fin 2 → Fin 4 → M 64 256) (x : Fin 2 → Fin 4 → M 64 256) (hf : s.main_v54_12 = A5 f) (hx : b121 j s = A4 x) :
    b206 j s = A5 fun n d h i l => f n d h i l + if n = ch j then x d h i l else 0 := by
  funext y; idx_vars y
  pointwise [b206, b205, b204, b203, b202, b201, b200, b199, hf, hx, b182_eq j s hj, A4, A5, sel_if]
  rw [EReal.coe_add, coe_ite]; rfl

theorem b214_eq (hj : j < 32) (f : Fin 32 → Fin 2 → Fin 4 → M 64 128) (x : Fin 2 → Fin 4 → M 64 128) (hf : s.main_v54_13 = A5 f) (hx : b175 j s = A4 x) :
    b214 j s = A5 fun n d h i l => f n d h i l + if n = ch j then x d h i l else 0 := by
  funext y; idx_vars y
  pointwise [b214, b213, b212, b211, b210, b209, b208, b207, hf, hx, b182_eq j s hj, A4, A5, sel_if]
  rw [EReal.coe_add, coe_ite]; rfl

end step

end Cert.ReferenceIdeal.Step

end
-- ==== Proof.RefInit.lean ====
/- The arrays the reference's loop begins with and the arrays it leaves: chunks of the whole arrays, with the rows of the second
   direction reversed. -/
module

public import proofs.«01_k».proof.Proof.RefStep

@[expose] public section

noncomputable section

namespace Cert.ReferenceIdeal.Step

open Cert.Chunk Cert.ReferenceIdeal Cert.ReferenceIdeal.Gen Idealize.ShloMosaic Idealize.ShloMosaic.TcCoe Idealize.SL.Sem

/-! ## Columns into heads, rows into chunks, and back -/

theorem heads128 (f : M 2048 512) : transpose S1x4x2048x128 [0, 2, 1, 3] (shapeCast S1x2048x4x128 (A2 f) shapeCasts_S2048x512_S1x2048x4x128) transposes_S1x2048x4x128_S1x4x2048x128_0_2_1_3 =
    A4 fun (_ : Fin 1) (h : Fin 4) r (l : Fin 128) => f r ⟨128 * h + l, by omega⟩ := by
  funext x; idx_vars x; pointwise []
  simp [A2, A4, ix2, ix4, Nat.mul_comm]
theorem rev128 (f : Fin 1 → Fin 4 → M 2048 128) : (Host.reverse [2] (A4 f) : FVec Ideal S1x4x2048x128 .f32) = A4 fun d h r => f d h r.rev := by
  funext x; idx_vars x; pointwise []
  simp [A4, ix4]
theorem both128 (f g : Fin 1 → Fin 4 → M 2048 128) :
    concatenate S2x4x2048x128 0 [⟨S1x4x2048x128, A4 f⟩, ⟨S1x4x2048x128, A4 g⟩] concatenates_S1x4x2048x128_S1x4x2048x128_S2x4x2048x128_d0 =
    A4 fun (d : Fin 2) h r l => if d = 0 then f 0 h r l else g 0 h r l := by
  funext x; idx_vars x; pointwise []
  fin_cases x0 <;> simp [A4, ix4]
theorem chunks128 (f : Fin 2 → Fin 4 → M 2048 128) :
    transpose S32x2x4x64x128 [2, 0, 1, 3, 4] (shapeCast S2x4x32x64x128 (A4 f) shapeCasts_S2x4x2048x128_S2x4x32x64x128) transposes_S2x4x32x64x128_S32x2x4x64x128_2_0_1_3_4 =
    A5 fun n d h i l => f d h (row n i) l := by
  funext x; idx_vars x; pointwise []
  simp [A4, A5, ix4, ix5, row, Nat.mul_comm]
theorem unchunk128 (f : Fin 32 → Fin 2 → Fin 4 → M 64 128) :
    shapeCast S2x4x2048x128 (transpose S2x4x32x64x128 [1, 2, 0, 3, 4] (A5 f) transposes_S32x2x4x64x128_S2x4x32x64x128_1_2_0_3_4) shapeCasts_S2x4x32x64x128_S2x4x2048x128 =
    A4 fun d h (r : Fin 2048) l => f ⟨r / 64, by omega⟩ d h ⟨r % 64, by omega⟩ l := by
  funext x; idx_vars x; pointwise []
  simp [A4, A5, ix4, ix5]
theorem fst128 (f : Fin 2 → Fin 4 → M 2048 128) : extractStridedSlice S1x4x2048x128 ![0, 0, 0, 0] (A4 f) slices_S2x4x2048x128_S1x4x2048x128_0_0_0_0 =
    A4 fun (_ : Fin 1) => f 0 := by
  funext x; idx_vars x; pointwise []
  simp [A4, ix4]
theorem snd128 (f : Fin 2 → Fin 4 → M 2048 128) : extractStridedSlice S1x4x2048x128 ![1, 0, 0, 0] (A4 f) slices_S2x4x2048x128_S1x4x2048x128_1_0_0_0 =
    A4 fun (_ : Fin 1) => f 1 := by
  funext x; idx_vars x; pointwise []
  simp [A4, ix4]
theorem merge128 (f : Fin 2 → Fin 4 → M 2048 128) :
    shapeCast S2x2048x512 (transpose S2x2048x4x128 [0, 2, 1, 3] (A4 f) transposes_S2x4x2048x128_S2x2048x4x128_0_2_1_3) shapeCasts_S2x2048x4x128_S2x2048x512 =
    A3 fun d r (c : Fin 512) => f d ⟨c / 128, by omega⟩ r ⟨c % 128, by omega⟩ := by
  funext x; idx_vars x; pointwise []
  simp [A4, A3, ix4, ix3]

theorem heads256 (f : M 2048 1024) : transpose S1x4x2048x256 [0, 2, 1, 3] (shapeCast S1x2048x4x256 (A2 f) shapeCasts_S2048x1024_S1x2048x4x256) transposes_S1x2048x4x256_S1x4x2048x256_0_2_1_3 =
    A4 fun (_ : Fin 1) (h : Fin 4) r (l : Fin 256) => f r ⟨256 * h + l, by omega⟩ := by
  funext x; idx_vars x; pointwise []
  simp [A2, A4, ix2, ix4, Nat.mul_comm]
theorem rev256 (f : Fin 1 → Fin 4 → M 2048 256) : (Host.reverse [2] (A4 f) : FVec Ideal S1x4x2048x256 .f32) = A4 fun d h r => f d h r.rev := by
  funext x; idx_vars x; pointwise []
  simp [A4, ix4]
theorem both256 (f g : Fin 1 → Fin 4 → M 2048 256) :
    concatenate S2x4x2048x256 0 [⟨S1x4x2048x256, A4 f⟩, ⟨S1x4x2048x256, A4 g⟩] concatenates_S1x4x2048x256_S1x4x2048x256_S2x4x2048x256_d0 =
    A4 fun (d : Fin 2) h r l => if d = 0 then f 0 h r l else g 0 h r l := by
  funext x; idx_vars x; pointwise []
  fin_cases x0 <;> simp [A4, ix4]
theorem chunks256 (f : Fin 2 → Fin 4 → M 2048 256) :
    transpose S32x2x4x64x256 [2, 0, 1, 3, 4] (shapeCast S2x4x32x64x256 (A4 f) shapeCasts_S2x4x2048x256_S2x4x32x64x256) transposes_S2x4x32x64x256_S32x2x4x64x256_2_0_1_3_4 =
    A5 fun n d h i l => f d h (row n i) l := by
  funext x; idx_vars x; pointwise []
  simp [A4, A5, ix4, ix5, row, Nat.mul_comm]
theorem unchunk256 (f : Fin 32 → Fin 2 → Fin 4 → M 64 256) :
    shapeCast S2x4x2048x256 (transpose S2x4x32x64x256 [1, 2, 0, 3, 4] (A5 f) transposes_S32x2x4x64x256_S2x4x32x64x256_1_2_0_3_4) shapeCasts_S2x4x32x64x256_S2x4x2048x256 =
    A4 fun d h (r : Fin 2048) l => f ⟨r / 64, by omega⟩ d h ⟨r % 64, by omega⟩ l := by
  funext x; idx_vars x; pointwise []
  simp [A4, A5, ix4, ix5]
theorem fst256 (f : Fin 2 → Fin 4 → M 2048 256) : extractStridedSlice S1x4x2048x256 ![0, 0, 0, 0] (A4 f) slices_S2x4x2048x256_S1x4x2048x256_0_0_0_0 =
    A4 fun (_ : Fin 1) => f 0 := by
  funext x; idx_vars x; pointwise []
  simp [A4, ix4]
theorem snd256 (f : Fin 2 → Fin 4 → M 2048 256) : extractStridedSlice S1x4x2048x256 ![1, 0, 0, 0] (A4 f) slices_S2x4x2048x256_S1x4x2048x256_1_0_0_0 =
    A4 fun (_ : Fin 1) => f 1 := by
  funext x; idx_vars x; pointwise []
  simp [A4, ix4]
theorem merge256 (f : Fin 2 → Fin 4 → M 2048 256) :
    shapeCast S2x2048x1024 (transpose S2x2048x4x256 [0, 2, 1, 3] (A4 f) transposes_S2x4x2048x256_S2x2048x4x256_0_2_1_3) shapeCasts_S2x2048x4x256_S2x2048x1024 =
    A3 fun d r (c : Fin 1024) => f d ⟨c / 256, by omega⟩ r ⟨c % 256, by omega⟩ := by
  funext x; idx_vars x; pointwise []
  simp [A4, A3, ix4, ix3]

/-! ## What the loop begins with -/

section
variable (P : M 2048 3072) (A : Fin 2 → M 2048 512) (T : Fin 2 → Fin 4 → Fin 32 → M 256 128) (O : M 2048 1024)

theorem A4_congr {a b c d : ℕ} {f g : Fin a → Fin b → M c d} (e : ∀ x h r l, f x h r l = g x h r l) : A4 f = A4 g := by
  have : f = g := by funext x h r l; exact e x h r l
  rw [this]
theorem A5_congr {n a b c d : ℕ} {f g : Fin n → Fin a → Fin b → M c d} (e : ∀ n x h r l, f n x h r l = g n x h r l) : A5 f = A5 g := by
  have : f = g := by funext n x h r l; exact e n x h r l
  rw [this]

/-- Both directions' rows: those of the second are reversed. -/
theorem dir_if {n m : ℕ} (d : Fin 2) (f : M n m) (r : Fin n) (l : Fin m) : (if d = 0 then f r l else f r.rev l) = f (fl d r) l := by
  unfold fl; split <;> rfl

theorem cols0 : extractStridedSlice S2048x512 ![0, 0] (A2 P) slices_S2048x3072_S2048x512_0_0 = A2 fun r (c : Fin 512) => P r ⟨c, by omega⟩ := by
  funext x; idx_vars x; pointwise []
  simp [A2, ix2]
theorem cols512 : extractStridedSlice S2048x512 ![0, 512] (A2 P) slices_S2048x3072_S2048x512_0_512 = A2 fun r (c : Fin 512) => P r ⟨512 + c, by omega⟩ := by
  funext x; idx_vars x; pointwise []
  simp [A2, ix2, Nat.add_comm]
theorem cols1024 : extractStridedSlice S2048x1024 ![0, 1024] (A2 P) slices_S2048x3072_S2048x1024_0_1024 = A2 fun r (c : Fin 1024) => P r ⟨1024 + c, by omega⟩ := by
  funext x; idx_vars x; pointwise []
  simp [A2, ix2, Nat.add_comm]
theorem la0 : shapeCast S2048x512 (extractStridedSlice S1x2048x512 ![0, 0, 0] (A3 A) slices_S2x2048x512_S1x2048x512_0_0_0) shapeCasts_S1x2048x512_S2048x512 = A2 (A 0) := by
  funext x; idx_vars x; pointwise []
  simp [A2, A3, ix2, ix3]
theorem la1 : shapeCast S2048x512 (extractStridedSlice S1x2048x512 ![1, 0, 0] (A3 A) slices_S2x2048x512_S1x2048x512_1_0_0) shapeCasts_S1x2048x512_S2048x512 = A2 (A 1) := by
  funext x; idx_vars x; pointwise []
  simp [A2, A3, ix2, ix3]

theorem A39_eq : A_main_v39 (F := Ideal) (A2 P) (A3 A) (A5 T) (A2 O) = A5 fun n d h i l => tq P h (fl d n) (fl d i) l := by
  unfold A_main_v39 A_main_v38 A_main_v4 A_main_v3 A_main_v2 A_main_v1 A_main_v0
  rw [cols0, heads128, rev128, both128, chunks128]
  refine A5_congr fun n d h i l => ?_
  unfold tq; rw [← row_fl, ← dir_if d (fun r (l : Fin 128) => P r ⟨128 * h + l, by omega⟩)]
theorem A41_eq : A_main_v41 (F := Ideal) (A2 P) (A3 A) (A5 T) (A2 O) = A5 fun n d h i l => tk P h (fl d n) (fl d i) l := by
  unfold A_main_v41 A_main_v40 A_main_v9 A_main_v8 A_main_v7 A_main_v6 A_main_v5
  rw [cols512, heads128, rev128, both128, chunks128]
  refine A5_congr fun n d h i l => ?_
  unfold tk; rw [← row_fl, ← dir_if d (fun r (l : Fin 128) => P r ⟨512 + (128 * h + l), by omega⟩)]
theorem A43_eq : A_main_v43 (F := Ideal) (A2 P) (A3 A) (A5 T) (A2 O) = A5 fun n d h i l => tv P h (fl d n) (fl d i) l := by
  unfold A_main_v43 A_main_v42 A_main_v14 A_main_v13 A_main_v12 A_main_v11 A_main_v10
  rw [cols1024, heads256, rev256, both256, chunks256]
  refine A5_congr fun n d h i l => ?_
  unfold tv; rw [← row_fl, ← dir_if d (fun r (l : Fin 256) => P r ⟨1024 + (256 * h + l), by omega⟩)]
theorem A47_eq : A_main_v47 (F := Ideal) (A2 P) (A3 A) (A5 T) (A2 O) = A5 fun n d h i l => tg O h (fl d n) (fl d i) l := by
  unfold A_main_v47 A_main_v46 A_main_v18 A_main_v17 A_main_v16 A_main_v15
  rw [heads256, rev256, both256, chunks256]
  refine A5_congr fun n d h i l => ?_
  unfold tg; rw [← row_fl, ← dir_if d (fun r (l : Fin 256) => O r ⟨256 * h + l, by omega⟩)]
theorem A45_eq : A_main_v45 (F := Ideal) (A2 P) (A3 A) (A5 T) (A2 O) = A5 fun n d h i l => ta A d h (fl d n) (fl d i) l := by
  unfold A_main_v45 A_main_v44 A_main_v28 A_main_v27 A_main_v26 A_main_v25 A_main_v24 A_main_v23 A_main_v22 A_main_v21 A_main_v20 A_main_v19
  rw [la0, la1, heads128, heads128, rev128, both128, chunks128]
  refine A5_congr fun n d h i l => ?_
  unfold ta; rw [← row_fl, ← dir_if d (fun r (l : Fin 128) => A d r ⟨128 * h + l, by omega⟩)]
  fin_cases d <;> rfl
theorem A34_eq : A_main_v34 (F := Ideal) (A2 P) (A3 A) (A5 T) (A2 O) = A5 fun n d h => tr (T d h (fl d n)) := by
  funext x; idx_vars x
  pointwise [A_main_v34, A_main_v33, A_main_v32, A_main_v31, A_main_v30, A_main_v29]
  fin_cases x1 <;> simp [A5, ix5, tr, fl]

end

/-! ## What the loop leaves -/

theorem back128 (f : Fin 32 → Fin 2 → Fin 4 → M 64 128) (g : Fin 2 → Fin 4 → Fin 32 → M 64 128) (e : ∀ n d h i l, f n d h i l = g d h (fl d n) (fl d i) l) :
    shapeCast S2x2048x512 (transpose S2x2048x4x128 [0, 2, 1, 3] (concatenate S2x4x2048x128 0 [⟨S1x4x2048x128, (extractStridedSlice S1x4x2048x128 ![0, 0, 0, 0] (shapeCast S2x4x2048x128 (transpose S2x4x32x64x128 [1, 2, 0, 3, 4] (A5 f) transposes_S32x2x4x64x128_S2x4x32x64x128_1_2_0_3_4) shapeCasts_S2x4x32x64x128_S2x4x2048x128) slices_S2x4x2048x128_S1x4x2048x128_0_0_0_0)⟩, ⟨S1x4x2048x128, (Host.reverse [2] (extractStridedSlice S1x4x2048x128 ![1, 0, 0, 0] (shapeCast S2x4x2048x128 (transpose S2x4x32x64x128 [1, 2, 0, 3, 4] (A5 f) transposes_S32x2x4x64x128_S2x4x32x64x128_1_2_0_3_4) shapeCasts_S2x4x32x64x128_S2x4x2048x128) slices_S2x4x2048x128_S1x4x2048x128_1_0_0_0))⟩] concatenates_S1x4x2048x128_S1x4x2048x128_S2x4x2048x128_d0) transposes_S2x4x2048x128_S2x2048x4x128_0_2_1_3) shapeCasts_S2x2048x4x128_S2x2048x512 =
    A3 (whole128 g) := by
  rw [unchunk128, fst128, snd128, rev128, both128, merge128]
  refine congrArg A3 ?_
  funext d r c
  have r1 : (⟨(Fin.rev r : Fin 2048) / 64, by omega⟩ : Fin 32) = Fin.rev ⟨r / 64, by omega⟩ := by ext; simp only [Fin.val_rev]; omega
  have r2 : (⟨(Fin.rev r : Fin 2048) % 64, by omega⟩ : Fin 64) = Fin.rev ⟨r % 64, by omega⟩ := by ext; simp only [Fin.val_rev]; omega
  unfold whole128
  fin_cases d
  · exact e _ _ _ _ _
  · refine (e _ _ _ _ _).trans ?_
    rw [r1, r2]; simp [fl]
theorem back256 (f : Fin 32 → Fin 2 → Fin 4 → M 64 256) (g : Fin 2 → Fin 4 → Fin 32 → M 64 256) (e : ∀ n d h i l, f n d h i l = g d h (fl d n) (fl d i) l) :
    shapeCast S2x2048x1024 (transpose S2x2048x4x256 [0, 2, 1, 3] (concatenate S2x4x2048x256 0 [⟨S1x4x2048x256, (extractStridedSlice S1x4x2048x256 ![0, 0, 0, 0] (shapeCast S2x4x2048x256 (transpose S2x4x32x64x256 [1, 2, 0, 3, 4] (A5 f) transposes_S32x2x4x64x256_S2x4x32x64x256_1_2_0_3_4) shapeCasts_S2x4x32x64x256_S2x4x2048x256) slices_S2x4x2048x256_S1x4x2048x256_0_0_0_0)⟩, ⟨S1x4x2048x256, (Host.reverse [2] (extractStridedSlice S1x4x2048x256 ![1, 0, 0, 0] (shapeCast S2x4x2048x256 (transpose S2x4x32x64x256 [1, 2, 0, 3, 4] (A5 f) transposes_S32x2x4x64x256_S2x4x32x64x256_1_2_0_3_4) shapeCasts_S2x4x32x64x256_S2x4x2048x256) slices_S2x4x2048x256_S1x4x2048x256_1_0_0_0))⟩] concatenates_S1x4x2048x256_S1x4x2048x256_S2x4x2048x256_d0) transposes_S2x4x2048x256_S2x2048x4x256_0_2_1_3) shapeCasts_S2x2048x4x256_S2x2048x1024 =
    A3 (whole256 g) := by
  rw [unchunk256, fst256, snd256, rev256, both256, merge256]
  refine congrArg A3 ?_
  funext d r c
  have r1 : (⟨(Fin.rev r : Fin 2048) / 64, by omega⟩ : Fin 32) = Fin.rev ⟨r / 64, by omega⟩ := by ext; simp only [Fin.val_rev]; omega
  have r2 : (⟨(Fin.rev r : Fin 2048) % 64, by omega⟩ : Fin 64) = Fin.rev ⟨r % 64, by omega⟩ := by ext; simp only [Fin.val_rev]; omega
  unfold whole256
  fin_cases d
  · exact e _ _ _ _ _
  · refine (e _ _ _ _ _).trans ?_
    rw [r1, r2]; simp [fl]

end Cert.ReferenceIdeal.Step

end
-- ==== Proof.RefLoop.lean ====
/- The reference's loop over the reals: before every trip it holds the state's gradient and the results of the chunks passed, and at
   the end the results of the whole sequence. -/
module

public import proofs.«01_k».proof.Proof.RefInit

@[expose] public section

noncomputable section

namespace Cert.ReferenceIdeal.Step

open Cert.Chunk Cert.ReferenceIdeal Cert.ReferenceIdeal.Gen Idealize.ShloMosaic Idealize.ShloMosaic.TcCoe Idealize.SL.Sem

variable (P : M 2048 3072) (A : Fin 2 → M 2048 512) (T : Fin 2 → Fin 4 → Fin 32 → M 256 128) (O : M 2048 1024)

/-- The loop's state before trip `j`. -/
structure Inv (j : ℕ) (s : State Ideal) : Prop where
  D : s.main_v54_9 = A4 fun d h => tr (Gr P A O d h j)
  q : s.main_v54_10 = A5 fun (n : Fin 32) d h i l => if 31 - (n : ℕ) < j then rq P A T O d h (fl d n) (fl d i) l else 0
  k : s.main_v54_11 = A5 fun (n : Fin 32) d h i l => if 31 - (n : ℕ) < j then rk P A O d h (fl d n) (Gr P A O d h (31 - n)) (fl d i) l else 0
  v : s.main_v54_12 = A5 fun (n : Fin 32) d h i l => if 31 - (n : ℕ) < j then rv P A O d h (fl d n) (Gr P A O d h (31 - n)) (fl d i) l else 0
  a : s.main_v54_13 = A5 fun (n : Fin 32) d h i l => if 31 - (n : ℕ) < j then ra P A T O d h (fl d n) (Gr P A O d h (31 - n)) (fl d i) l else 0
  c1 : s.main_v54_1 = A5 fun n d h => tr (T d h (fl d n))
  c2 : s.main_v54_2 = A5 fun n d h i l => tq P h (fl d n) (fl d i) l
  c3 : s.main_v54_3 = A5 fun n d h i l => tk P h (fl d n) (fl d i) l
  c4 : s.main_v54_4 = A5 fun n d h i l => tv P h (fl d n) (fl d i) l
  c5 : s.main_v54_5 = A5 fun n d h i l => ta A d h (fl d n) (fl d i) l
  c6 : s.main_v54_6 = A5 fun n d h i l => tg O h (fl d n) (fl d i) l

theorem inv_zero : Inv P A T O 0 (init (F := Ideal) (A2 P) (A3 A) (A5 T) (A2 O)) := by
  have z : ∀ {p : Prop} [Decidable p] (x : ℝ), ¬ p → ((if p then x else 0 : ℝ) : EReal) = 0 := fun x h => by rw [if_neg h]; rfl
  unfold init
  refine ⟨?_, ?_, ?_, ?_, ?_, A34_eq P A T O, A39_eq P A T O, A41_eq P A T O, A43_eq P A T O, A45_eq P A T O, A47_eq P A T O⟩
  · show K_main_v48 = _
    funext x; idx_vars x; pointwise [K_main_v48, K_main_cst]; exact EReal.coe_zero.symm
  · show K_main_v49 = _
    funext x; idx_vars x; pointwise [K_main_v49, K_main_cst_0]; exact (z _ (Nat.not_lt_zero _)).symm
  · show K_main_v50 = _
    funext x; idx_vars x; pointwise [K_main_v50, K_main_cst_1]; exact (z _ (Nat.not_lt_zero _)).symm
  · show K_main_v51 = _
    funext x; idx_vars x; pointwise [K_main_v51, K_main_cst_2]; exact (z _ (Nat.not_lt_zero _)).symm
  · show K_main_v52 = _
    funext x; idx_vars x; pointwise [K_main_v52, K_main_cst_3]; exact (z _ (Nat.not_lt_zero _)).symm

/-- A trip adds its chunk's values to sums that are zero there. -/
theorem upd (j : ℕ) (hj : j < 32) (n : Fin 32) (x y : ℝ) (e : n = ch j → 31 - (n : ℕ) = j → x = y) :
    ((if 31 - (n : ℕ) < j then x else 0) + if n = ch j then y else 0) = if 31 - (n : ℕ) < j + 1 then x else 0 := by
  by_cases h : n = ch j
  · have hn : (n : ℕ) = 31 - j := congrArg Fin.val h
    have h1 : 31 - (n : ℕ) = j := by omega
    rw [if_neg (by omega), if_pos h, if_pos (by omega), zero_add]; exact (e h h1).symm
  · have hn : (n : ℕ) ≠ 31 - j := fun he => h (Fin.ext he)
    rw [if_neg h, add_zero]
    by_cases h' : 31 - (n : ℕ) < j
    · rw [if_pos h', if_pos (by omega)]
    · rw [if_neg h', if_neg (by omega)]

variable {P A T O}

theorem inv_step {j : ℕ} (hj : j < 32) {s : State Ideal} (I : Inv P A T O j s) : Inv P A T O (j + 1) (step j s) := by
  have hS : b11 j s = A4 fun d h => tr (T d h (pos d j)) := b11_eq j hj s _ I.c1
  have hq : b17 j s = A4 fun d h => up d (tq P h (pos d j)) := b17_eq j hj s _ I.c2
  have hk : b23 j s = A4 fun d h => up d (tk P h (pos d j)) := b23_eq j hj s _ I.c3
  have hv : b29 j s = A4 fun d h => up d (tv P h (pos d j)) := b29_eq j hj s _ I.c4
  have ha : b35 j s = A4 fun d h => up d (ta A d h (pos d j)) := b35_eq j hj s _ I.c5
  have hg : b41 j s = A4 fun d h => up d (tg O h (pos d j)) := b41_eq j hj s _ I.c6
  have hqs : b44 j s = A4 fun d h => up d (ts P h (pos d j)) := b44_eq j s _ hq
  have hb : b55 j s = A4 fun d h => up d (tb A d h (pos d j)) := by
    rw [b55_eq j s _ ha]
    exact A4_congr fun d h i l => by rw [cumr_fl]; rfl
  have hT : ∀ d h l, up d (tb A d h (pos d j)) 63 l = tot (up d (ta A d h (pos d j))) l := fun d h l => by
    rw [← cumr_last, cumr_fl]; rfl
  have e125 := b125_eq j s _ _ _ _ hg hqs hb I.D hT (a := fun d h => up d (ta A d h (pos d j)))
  have e178 := b178_eq j s _ _ _ _ _ hS hk hv hg hb
  have e146 := b146_eq j s _ _ _ _ _ _ _ hk hv hg hqs hb I.D hT
  have e121 := b121_eq j s _ _ _ _ _ _ _ hk hv hg hqs hb I.D hT
  have e175 := b175_eq j s _ _ _ _ _ _ _ _ hS hk hv hg hqs hb I.D hT
  refine ⟨?_, ?_, ?_, ?_, ?_, I.c1, I.c2, I.c3, I.c4, I.c5, I.c6⟩
  · rw [step_main_v54_9, e125]
    exact congrArg A4 (by funext d h; rw [dS_fl]; rfl)
  · rw [step_main_v54_10, b190_eq j s hj _ _ I.q e178]
    exact A5_congr fun n d h i l => upd j hj n _ _ fun e _ => by rw [dqs_fl]; subst e; rfl
  · rw [step_main_v54_11, b198_eq j s hj _ _ I.k e146]
    exact A5_congr fun n d h i l => upd j hj n _ _ fun e e' => by rw [dk_fl, e']; subst e; rfl
  · rw [step_main_v54_12, b206_eq j s hj _ _ I.v e121]
    exact A5_congr fun n d h i l => upd j hj n _ _ fun e e' => by rw [dv_fl, e']; subst e; rfl
  · rw [step_main_v54_13, b214_eq j s hj _ _ I.a e175]
    exact A5_congr fun n d h i l => upd j hj n _ _ fun e e' => by rw [dla_fl, e']; subst e; rfl

theorem trip_fl (d : Fin 2) (n : Fin 32) : trip d (fl d n) = 31 - n := by unfold trip; rw [fl_fl]

section
variable {s : State Ideal} (I : Inv P A T O 32 s)
include I

theorem last_v62 : R_main_v62 s = A3 (resQ P A T O) := by
  unfold R_main_v62; rw [I.q]
  exact back128 _ _ fun n d h i l => if_pos (by omega)
theorem last_v70 : R_main_v70 s = A3 (resK P A O) := by
  unfold R_main_v70; rw [I.k]
  exact back128 _ _ fun n d h i l => by rw [if_pos (by omega), trip_fl]
theorem last_v78 : R_main_v78 s = A3 (resV P A O) := by
  unfold R_main_v78; rw [I.v]
  exact back256 _ _ fun n d h i l => by rw [if_pos (by omega), trip_fl]
theorem last_v86 : R_main_v86 s = A3 (resA P A T O) := by
  unfold R_main_v86; rw [I.a]
  exact back128 _ _ fun n d h i l => by rw [if_pos (by omega), trip_fl]

end

end Cert.ReferenceIdeal.Step

end
-- ==== Proof.Finite.lean ====
/- The precondition read: an array all of whose entries are finite is the array of its real values. -/
module

public import proofs.«01_k».proof.Defs
public import proofs.«01_k».proof.Proof.Reals
public import Idealize.ShloMosaic.Lib.ReduceAll
public import Idealize.ShloMosaic.PureOps.Ideal

@[expose] public section

noncomputable section

namespace Cert.Finite

open Idealize.ShloMosaic Cert.Chunk

/-- A value whose absolute value compares below +∞ is a real. -/
theorem coe_of_lt (x : Ideal .f32)
    (h : FloatOps.cmpf .olt (FloatOps.hostAbsf x) (FloatOps.ofBits (F := Ideal) .f32 0x7F800000#32) = 1#1) :
    ((EReal.toReal x : ℝ) : EReal) = x := by
  have top : Ideal.ofBits .f32 0x7F800000#32 = ⊤ := by simp [Ideal.ofBits, Ideal.ieee]
  have e : Ideal.cmp .olt (max (x : EReal) (-(x : EReal))) (Ideal.ofBits .f32 0x7F800000#32) = 1#1 := h
  have l : max (x : EReal) (-(x : EReal)) < ⊤ := by
    by_contra n
    simp [Ideal.cmp, top, n] at e
  rw [max_lt_iff] at l
  exact EReal.coe_toReal l.1.ne fun b => by simp [b] at l

instance : Subsingleton Cert.Pre_finite.S_.Idx := ⟨fun a b => funext fun i => i.elim0⟩

variable [Cert.Pre_finite.Facts]

/-- Arrays of which the precondition holds have real entries. -/
theorem coe_all (x : FVec Ideal Cert.Pre_finite.S2048x3072 .f32) (a : FVec Ideal Cert.Pre_finite.S2x2048x512 .f32)
    (t : FVec Ideal Cert.Pre_finite.S2x4x32x256x128 .f32) (o : FVec Ideal Cert.Pre_finite.S2048x1024 .f32)
    (h : ∀ i, Cert.Pre_finite.fn (F := Ideal) x a t o i = 1#1) :
    (∀ i, ((EReal.toReal (x i) : ℝ) : EReal) = x i) ∧ (∀ i, ((EReal.toReal (a i) : ℝ) : EReal) = a i)
      ∧ (∀ i, ((EReal.toReal (t i) : ℝ) : EReal) = t i) ∧ ∀ i, ((EReal.toReal (o i) : ℝ) : EReal) = o i := by
  have h0 := h fun i => i.elim0
  obtain ⟨h1, ho⟩ := IntOp.andi_eq_one.1 h0
  obtain ⟨h2, ht⟩ := IntOp.andi_eq_one.1 h1
  obtain ⟨hx, ha⟩ := IntOp.andi_eq_one.1 h2
  exact ⟨fun i => coe_of_lt _ (Host.reduce_andi_all _ _ _ _ _ hx i), fun i => coe_of_lt _ (Host.reduce_andi_all _ _ _ _ _ ha i),
    fun i => coe_of_lt _ (Host.reduce_andi_all _ _ _ _ _ ht i), fun i => coe_of_lt _ (Host.reduce_andi_all _ _ _ _ _ ho i)⟩

/-- An array of real entries is the array of its real values. -/
theorem eq_A2 {a b : ℕ} (x : FVec Ideal ⟨2, ![a, b]⟩ .f32) (h : ∀ i, ((EReal.toReal (x i) : ℝ) : EReal) = x i) : ∃ f, x = A2 f :=
  ⟨fun i j => EReal.toReal (x (ix2 i j)), funext fun i => by
    have e : ix2 (i 0) (i 1) = i := by funext k; fin_cases k <;> rfl
    exact ((congrArg (fun w => ((EReal.toReal (x w) : ℝ) : EReal)) e).trans (h i)).symm⟩
theorem eq_A3 {a b c : ℕ} (x : FVec Ideal ⟨3, ![a, b, c]⟩ .f32) (h : ∀ i, ((EReal.toReal (x i) : ℝ) : EReal) = x i) : ∃ f, x = A3 f :=
  ⟨fun i j k => EReal.toReal (x (ix3 i j k)), funext fun i => by
    have e : ix3 (i 0) (i 1) (i 2) = i := by funext k; fin_cases k <;> rfl
    exact ((congrArg (fun w => ((EReal.toReal (x w) : ℝ) : EReal)) e).trans (h i)).symm⟩
theorem eq_A5 {a b c d e : ℕ} (x : FVec Ideal ⟨5, ![a, b, c, d, e]⟩ .f32) (h : ∀ i, ((EReal.toReal (x i) : ℝ) : EReal) = x i) :
    ∃ f, x = A5 f :=
  ⟨fun i j k l n => EReal.toReal (x (ix5 i j k l n)), funext fun i => by
    have e : ix5 (i 0) (i 1) (i 2) (i 3) (i 4) = i := by funext k; fin_cases k <;> rfl
    exact ((congrArg (fun w => ((EReal.toReal (x w) : ℝ) : EReal)) e).trans (h i)).symm⟩

end Cert.Finite

end
-- ==== Proof.AdamwStep.lean ====
/- One step of AdamW on one weight, over the extended reals. -/
module

public import Idealize.ShloMosaic.Lib.Pipeline.ValueKit

@[expose] public section

noncomputable section

namespace Cert.Adamw

open Idealize.ShloMosaic

/-- The first moment: 0.9·m + 0.1·g. -/
def mom (g a : EReal) : EReal := Ideal.ofBits .f32 0x3F666666#32 * a + Ideal.ofBits .f32 0x3DCCCCCD#32 * g

/-- The second moment: 0.999·v + 0.001·g². -/
def var (g b : EReal) : EReal := Ideal.ofBits .f32 0x3F7FBE77#32 * b + Ideal.ofBits .f32 0x3A83126F#32 * (g * g)

/-- The change of the weight: the moments divided by one minus their factor's tenth power, the quotient's step, and the decay. -/
def delta (w g a b : EReal) : EReal :=
  Ideal.ofBits .f32 0xBA83126F#32 * (Ideal.div (Ideal.div (mom g a) (Ideal.ofBits .f32 0x3F26BD02#32))
    (Ideal.sqrt (Ideal.div (var g b) (Ideal.ofBits .f32 0x3C231ACC#32)) + Ideal.ofBits .f32 0x322BCC77#32)
    + Ideal.ofBits .f32 0x3C23D70A#32 * w)

end Cert.Adamw

end
-- ==== Proof.AdamwMlpW1.lean ====
/- AdamW's step on mlp_w1: the gradient, the change of the weight and the two moments that the kernel's tiles hold are the reference's. -/
module

public import proofs.«01_k».proof.Proof.Gen.KernelAdamwMlpW1Ideal.Value
public import proofs.«01_k».proof.Proof.Gen.ReferenceAdamwMlpW1Ideal.Run
public import proofs.«01_k».proof.Proof.AdamwStep
public import Idealize.ShloMosaic.Lib.Pipeline.ValueKit

@[expose] public section

set_option maxRecDepth 16384

noncomputable section

namespace Cert.KernelAdamwMlpW1Ideal.Value

open Cert.KernelAdamwMlpW1Ideal Cert.KernelAdamwMlpW1Ideal.Gen Idealize.ShloMosaic Idealize.ShloMosaic.TcCoe Idealize.SL.Sem
open Idealize.ShloMosaic.Pipeline (Dat)

variable (m : (ℓ : Loc nD τ sig) → Buf (Elt Ideal) ℓ)

/-- A weight's rows, the layers one after the other. -/
def flat (X : FVec Ideal S4x1024x1024 .f32) : FVec Ideal S4096x1024 .f32 := shapeCast _ X shapeCasts_S4x1024x1024_S4096x1024

/-- Its gradient's rows, from the pack. -/
def part (G : FVec Ideal S13312x1024 .f32) : FVec Ideal S4096x1024 .f32 := fun y => G (ix2 ⟨(y 0).val, by have := (y 0).isLt; simp at this; omega⟩ (y 1))

/-- The gradient. -/
def grad (W A B : FVec Ideal S4x1024x1024 .f32) (G : FVec Ideal S13312x1024 .f32) : FVec Ideal S4096x1024 .f32 :=
  fun y => part G y

/-- The change of the weight. -/
def delta (W A B : FVec Ideal S4x1024x1024 .f32) (G : FVec Ideal S13312x1024 .f32) : FVec Ideal S4096x1024 .f32 :=
  fun y => Cert.Adamw.delta (flat W y) (part G y) (flat A y) (flat B y)

/-- The first moment. -/
def mom (W A B : FVec Ideal S4x1024x1024 .f32) (G : FVec Ideal S13312x1024 .f32) : FVec Ideal S4096x1024 .f32 :=
  fun y => Cert.Adamw.mom (part G y) (flat A y)

/-- The second moment. -/
def var (W A B : FVec Ideal S4x1024x1024 .f32) (G : FVec Ideal S13312x1024 .f32) : FVec Ideal S4096x1024 .f32 :=
  fun y => Cert.Adamw.var (part G y) (flat B y)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem V_w (c : Dev nD) : V m c main_v0 = flat (m ((c : Thread nD τ).loc main_arg0)) := by
  entry_read
  rfl

theorem V_m (c : Dev nD) : V m c main_v1 = flat (m ((c : Thread nD τ).loc main_arg1)) := by
  entry_read
  rfl

theorem V_v (c : Dev nD) : V m c main_v2 = flat (m ((c : Thread nD τ).loc main_arg2)) := by
  entry_read
  rfl

theorem final_grad (c : Dev nD) : (dats m 0 c).arrAt 4 cfg0.N
    = grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [grad, part]
  have hw := V_w m c
  have hm := V_m m c
  have hv := V_v m c
  blk_point [iblk, hw, hm, hv, V_main_arg3, idx t]

theorem final_delta (c : Dev nD) : (dats m 0 c).arrAt 5 cfg0.N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, delta, Cert.Adamw.delta, Cert.Adamw.mom, Cert.Adamw.var, part]
  have hw := V_w m c
  have hm := V_m m c
  have hv := V_v m c
  blk_point [iblk, hw, hm, hv, V_main_arg3, idx t]

theorem final_mom (c : Dev nD) : (dats m 0 c).arrAt 6 cfg0.N
    = mom (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, mom, Cert.Adamw.mom, part]
  have hw := V_w m c
  have hm := V_m m c
  have hv := V_v m c
  blk_point [iblk, hw, hm, hv, V_main_arg3, idx t]

theorem final_var (c : Dev nD) : (dats m 0 c).arrAt 7 cfg0.N
    = var (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay2, var, Cert.Adamw.var, part]
  have hw := V_w m c
  have hm := V_m m c
  have hv := V_v m c
  blk_point [iblk, hw, hm, hv, V_main_arg3, idx t]

end Cert.KernelAdamwMlpW1Ideal.Value

namespace Cert.ReferenceAdamwMlpW1Ideal.Value

open Cert.ReferenceAdamwMlpW1Ideal Cert.ReferenceAdamwMlpW1Ideal.Gen Idealize.ShloMosaic

theorem value_grad (W A B : FVec Ideal S4x1024x1024 .f32) (G : FVec Ideal S13312x1024 .f32) :
    shapeCast _ (shapeCast _ (extractStridedSlice S4096x1024 ![0, 0] G slices_S13312x1024_S4096x1024_0_0) shapeCasts_S4096x1024_S4x1024x1024) shapeCasts_S4x1024x1024_S4096x1024
    = Cert.KernelAdamwMlpW1Ideal.Value.grad W A B G := by
  funext y
  idx_vars y
  pointwise [Cert.KernelAdamwMlpW1Ideal.Value.grad, Cert.KernelAdamwMlpW1Ideal.Value.flat, Cert.KernelAdamwMlpW1Ideal.Value.part]

theorem value_delta (W A B : FVec Ideal S4x1024x1024 .f32) (G : FVec Ideal S13312x1024 .f32) :
    shapeCast _ (mulf (broadcastInDim S4x1024x1024 ![] bcast_S_S4x1024x1024 (constant S_ .f32 0xBA83126F#32)) (addf (Host.divf (Host.divf (addf (mulf (broadcastInDim S4x1024x1024 ![] bcast_S_S4x1024x1024 (constant S_ .f32 0x3F666666#32)) A) (mulf (broadcastInDim S4x1024x1024 ![] bcast_S_S4x1024x1024 (constant S_ .f32 0x3DCCCCCD#32)) (shapeCast _ (extractStridedSlice S4096x1024 ![0, 0] G slices_S13312x1024_S4096x1024_0_0) shapeCasts_S4096x1024_S4x1024x1024))) (broadcastInDim S4x1024x1024 ![] bcast_S_S4x1024x1024 (constant S_ .f32 0x3F26BD02#32))) (addf (Host.sqrt (Host.divf (addf (mulf (broadcastInDim S4x1024x1024 ![] bcast_S_S4x1024x1024 (constant S_ .f32 0x3F7FBE77#32)) B) (mulf (broadcastInDim S4x1024x1024 ![] bcast_S_S4x1024x1024 (constant S_ .f32 0x3A83126F#32)) (mulf (shapeCast _ (extractStridedSlice S4096x1024 ![0, 0] G slices_S13312x1024_S4096x1024_0_0) shapeCasts_S4096x1024_S4x1024x1024) (shapeCast _ (extractStridedSlice S4096x1024 ![0, 0] G slices_S13312x1024_S4096x1024_0_0) shapeCasts_S4096x1024_S4x1024x1024)))) (broadcastInDim S4x1024x1024 ![] bcast_S_S4x1024x1024 (constant S_ .f32 0x3C231ACC#32)))) (broadcastInDim S4x1024x1024 ![] bcast_S_S4x1024x1024 (constant S_ .f32 0x322BCC77#32)))) (mulf (broadcastInDim S4x1024x1024 ![] bcast_S_S4x1024x1024 (constant S_ .f32 0x3C23D70A#32)) W))) shapeCasts_S4x1024x1024_S4096x1024
    = Cert.KernelAdamwMlpW1Ideal.Value.delta W A B G := by
  funext y
  idx_vars y
  pointwise [Cert.KernelAdamwMlpW1Ideal.Value.delta, Cert.Adamw.delta, Cert.Adamw.mom, Cert.Adamw.var, Cert.KernelAdamwMlpW1Ideal.Value.flat, Cert.KernelAdamwMlpW1Ideal.Value.part]

theorem value_mom (W A B : FVec Ideal S4x1024x1024 .f32) (G : FVec Ideal S13312x1024 .f32) :
    shapeCast _ (addf (mulf (broadcastInDim S4x1024x1024 ![] bcast_S_S4x1024x1024 (constant S_ .f32 0x3F666666#32)) A) (mulf (broadcastInDim S4x1024x1024 ![] bcast_S_S4x1024x1024 (constant S_ .f32 0x3DCCCCCD#32)) (shapeCast _ (extractStridedSlice S4096x1024 ![0, 0] G slices_S13312x1024_S4096x1024_0_0) shapeCasts_S4096x1024_S4x1024x1024))) shapeCasts_S4x1024x1024_S4096x1024
    = Cert.KernelAdamwMlpW1Ideal.Value.mom W A B G := by
  funext y
  idx_vars y
  pointwise [Cert.KernelAdamwMlpW1Ideal.Value.mom, Cert.Adamw.mom, Cert.KernelAdamwMlpW1Ideal.Value.flat, Cert.KernelAdamwMlpW1Ideal.Value.part]

theorem value_var (W A B : FVec Ideal S4x1024x1024 .f32) (G : FVec Ideal S13312x1024 .f32) :
    shapeCast _ (addf (mulf (broadcastInDim S4x1024x1024 ![] bcast_S_S4x1024x1024 (constant S_ .f32 0x3F7FBE77#32)) B) (mulf (broadcastInDim S4x1024x1024 ![] bcast_S_S4x1024x1024 (constant S_ .f32 0x3A83126F#32)) (mulf (shapeCast _ (extractStridedSlice S4096x1024 ![0, 0] G slices_S13312x1024_S4096x1024_0_0) shapeCasts_S4096x1024_S4x1024x1024) (shapeCast _ (extractStridedSlice S4096x1024 ![0, 0] G slices_S13312x1024_S4096x1024_0_0) shapeCasts_S4096x1024_S4x1024x1024)))) shapeCasts_S4x1024x1024_S4096x1024
    = Cert.KernelAdamwMlpW1Ideal.Value.var W A B G := by
  funext y
  idx_vars y
  pointwise [Cert.KernelAdamwMlpW1Ideal.Value.var, Cert.Adamw.var, Cert.KernelAdamwMlpW1Ideal.Value.flat, Cert.KernelAdamwMlpW1Ideal.Value.part]

end Cert.ReferenceAdamwMlpW1Ideal.Value

end
-- ==== Proof.AdamwMlpW2.lean ====
/- AdamW's step on mlp_w2: the gradient, the change of the weight and the two moments that the kernel's tiles hold are the reference's. -/
module

public import proofs.«01_k».proof.Proof.Gen.KernelAdamwMlpW2Ideal.Value
public import proofs.«01_k».proof.Proof.Gen.ReferenceAdamwMlpW2Ideal.Run
public import proofs.«01_k».proof.Proof.AdamwStep
public import Idealize.ShloMosaic.Lib.Pipeline.ValueKit

@[expose] public section

set_option maxRecDepth 16384

noncomputable section

namespace Cert.KernelAdamwMlpW2Ideal.Value

open Cert.KernelAdamwMlpW2Ideal Cert.KernelAdamwMlpW2Ideal.Gen Idealize.ShloMosaic Idealize.ShloMosaic.TcCoe Idealize.SL.Sem
open Idealize.ShloMosaic.Pipeline (Dat)

variable (m : (ℓ : Loc nD τ sig) → Buf (Elt Ideal) ℓ)

/-- A weight's rows, the layers one after the other. -/
def flat (X : FVec Ideal S4x1024x1024 .f32) : FVec Ideal S4096x1024 .f32 := shapeCast _ X shapeCasts_S4x1024x1024_S4096x1024

/-- Its gradient's rows, from the pack. -/
def part (G : FVec Ideal S13312x1024 .f32) : FVec Ideal S4096x1024 .f32 := fun y => G (ix2 ⟨4096 + (y 0).val, by have := (y 0).isLt; simp at this; omega⟩ (y 1))

/-- The gradient. -/
def grad (W A B : FVec Ideal S4x1024x1024 .f32) (G : FVec Ideal S13312x1024 .f32) : FVec Ideal S4096x1024 .f32 :=
  fun y => part G y

/-- The change of the weight. -/
def delta (W A B : FVec Ideal S4x1024x1024 .f32) (G : FVec Ideal S13312x1024 .f32) : FVec Ideal S4096x1024 .f32 :=
  fun y => Cert.Adamw.delta (flat W y) (part G y) (flat A y) (flat B y)

/-- The first moment. -/
def mom (W A B : FVec Ideal S4x1024x1024 .f32) (G : FVec Ideal S13312x1024 .f32) : FVec Ideal S4096x1024 .f32 :=
  fun y => Cert.Adamw.mom (part G y) (flat A y)

/-- The second moment. -/
def var (W A B : FVec Ideal S4x1024x1024 .f32) (G : FVec Ideal S13312x1024 .f32) : FVec Ideal S4096x1024 .f32 :=
  fun y => Cert.Adamw.var (part G y) (flat B y)

theorem idx : ∀ t : Fin cfg0.N, win0_0.index t = ![t.val, 0]
    ∧ win0_1.index t = ![t.val, 0]
    ∧ win0_2.index t = ![t.val, 0]
    ∧ win0_3.index t = ![t.val + 8, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem V_w (c : Dev nD) : V m c main_v0 = flat (m ((c : Thread nD τ).loc main_arg0)) := by
  entry_read
  rfl

theorem V_m (c : Dev nD) : V m c main_v1 = flat (m ((c : Thread nD τ).loc main_arg1)) := by
  entry_read
  rfl

theorem V_v (c : Dev nD) : V m c main_v2 = flat (m ((c : Thread nD τ).loc main_arg2)) := by
  entry_read
  rfl

theorem final_grad (c : Dev nD) : (dats m 0 c).arrAt 4 cfg0.N
    = grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [grad, part]
  have hw := V_w m c
  have hm := V_m m c
  have hv := V_v m c
  blk_point [iblk, hw, hm, hv, V_main_arg3, idx t]

theorem final_delta (c : Dev nD) : (dats m 0 c).arrAt 5 cfg0.N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, delta, Cert.Adamw.delta, Cert.Adamw.mom, Cert.Adamw.var, part]
  have hw := V_w m c
  have hm := V_m m c
  have hv := V_v m c
  blk_point [iblk, hw, hm, hv, V_main_arg3, idx t]

theorem final_mom (c : Dev nD) : (dats m 0 c).arrAt 6 cfg0.N
    = mom (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, mom, Cert.Adamw.mom, part]
  have hw := V_w m c
  have hm := V_m m c
  have hv := V_v m c
  blk_point [iblk, hw, hm, hv, V_main_arg3, idx t]

theorem final_var (c : Dev nD) : (dats m 0 c).arrAt 7 cfg0.N
    = var (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay2, var, Cert.Adamw.var, part]
  have hw := V_w m c
  have hm := V_m m c
  have hv := V_v m c
  blk_point [iblk, hw, hm, hv, V_main_arg3, idx t]

end Cert.KernelAdamwMlpW2Ideal.Value

namespace Cert.ReferenceAdamwMlpW2Ideal.Value

open Cert.ReferenceAdamwMlpW2Ideal Cert.ReferenceAdamwMlpW2Ideal.Gen Idealize.ShloMosaic

theorem value_grad (W A B : FVec Ideal S4x1024x1024 .f32) (G : FVec Ideal S13312x1024 .f32) :
    shapeCast _ (shapeCast _ (extractStridedSlice S4096x1024 ![4096, 0] G slices_S13312x1024_S4096x1024_4096_0) shapeCasts_S4096x1024_S4x1024x1024) shapeCasts_S4x1024x1024_S4096x1024
    = Cert.KernelAdamwMlpW2Ideal.Value.grad W A B G := by
  funext y
  idx_vars y
  pointwise [Cert.KernelAdamwMlpW2Ideal.Value.grad, Cert.KernelAdamwMlpW2Ideal.Value.flat, Cert.KernelAdamwMlpW2Ideal.Value.part]

theorem value_delta (W A B : FVec Ideal S4x1024x1024 .f32) (G : FVec Ideal S13312x1024 .f32) :
    shapeCast _ (mulf (broadcastInDim S4x1024x1024 ![] bcast_S_S4x1024x1024 (constant S_ .f32 0xBA83126F#32)) (addf (Host.divf (Host.divf (addf (mulf (broadcastInDim S4x1024x1024 ![] bcast_S_S4x1024x1024 (constant S_ .f32 0x3F666666#32)) A) (mulf (broadcastInDim S4x1024x1024 ![] bcast_S_S4x1024x1024 (constant S_ .f32 0x3DCCCCCD#32)) (shapeCast _ (extractStridedSlice S4096x1024 ![4096, 0] G slices_S13312x1024_S4096x1024_4096_0) shapeCasts_S4096x1024_S4x1024x1024))) (broadcastInDim S4x1024x1024 ![] bcast_S_S4x1024x1024 (constant S_ .f32 0x3F26BD02#32))) (addf (Host.sqrt (Host.divf (addf (mulf (broadcastInDim S4x1024x1024 ![] bcast_S_S4x1024x1024 (constant S_ .f32 0x3F7FBE77#32)) B) (mulf (broadcastInDim S4x1024x1024 ![] bcast_S_S4x1024x1024 (constant S_ .f32 0x3A83126F#32)) (mulf (shapeCast _ (extractStridedSlice S4096x1024 ![4096, 0] G slices_S13312x1024_S4096x1024_4096_0) shapeCasts_S4096x1024_S4x1024x1024) (shapeCast _ (extractStridedSlice S4096x1024 ![4096, 0] G slices_S13312x1024_S4096x1024_4096_0) shapeCasts_S4096x1024_S4x1024x1024)))) (broadcastInDim S4x1024x1024 ![] bcast_S_S4x1024x1024 (constant S_ .f32 0x3C231ACC#32)))) (broadcastInDim S4x1024x1024 ![] bcast_S_S4x1024x1024 (constant S_ .f32 0x322BCC77#32)))) (mulf (broadcastInDim S4x1024x1024 ![] bcast_S_S4x1024x1024 (constant S_ .f32 0x3C23D70A#32)) W))) shapeCasts_S4x1024x1024_S4096x1024
    = Cert.KernelAdamwMlpW2Ideal.Value.delta W A B G := by
  funext y
  idx_vars y
  pointwise [Cert.KernelAdamwMlpW2Ideal.Value.delta, Cert.Adamw.delta, Cert.Adamw.mom, Cert.Adamw.var, Cert.KernelAdamwMlpW2Ideal.Value.flat, Cert.KernelAdamwMlpW2Ideal.Value.part]

theorem value_mom (W A B : FVec Ideal S4x1024x1024 .f32) (G : FVec Ideal S13312x1024 .f32) :
    shapeCast _ (addf (mulf (broadcastInDim S4x1024x1024 ![] bcast_S_S4x1024x1024 (constant S_ .f32 0x3F666666#32)) A) (mulf (broadcastInDim S4x1024x1024 ![] bcast_S_S4x1024x1024 (constant S_ .f32 0x3DCCCCCD#32)) (shapeCast _ (extractStridedSlice S4096x1024 ![4096, 0] G slices_S13312x1024_S4096x1024_4096_0) shapeCasts_S4096x1024_S4x1024x1024))) shapeCasts_S4x1024x1024_S4096x1024
    = Cert.KernelAdamwMlpW2Ideal.Value.mom W A B G := by
  funext y
  idx_vars y
  pointwise [Cert.KernelAdamwMlpW2Ideal.Value.mom, Cert.Adamw.mom, Cert.KernelAdamwMlpW2Ideal.Value.flat, Cert.KernelAdamwMlpW2Ideal.Value.part]

theorem value_var (W A B : FVec Ideal S4x1024x1024 .f32) (G : FVec Ideal S13312x1024 .f32) :
    shapeCast _ (addf (mulf (broadcastInDim S4x1024x1024 ![] bcast_S_S4x1024x1024 (constant S_ .f32 0x3F7FBE77#32)) B) (mulf (broadcastInDim S4x1024x1024 ![] bcast_S_S4x1024x1024 (constant S_ .f32 0x3A83126F#32)) (mulf (shapeCast _ (extractStridedSlice S4096x1024 ![4096, 0] G slices_S13312x1024_S4096x1024_4096_0) shapeCasts_S4096x1024_S4x1024x1024) (shapeCast _ (extractStridedSlice S4096x1024 ![4096, 0] G slices_S13312x1024_S4096x1024_4096_0) shapeCasts_S4096x1024_S4x1024x1024)))) shapeCasts_S4x1024x1024_S4096x1024
    = Cert.KernelAdamwMlpW2Ideal.Value.var W A B G := by
  funext y
  idx_vars y
  pointwise [Cert.KernelAdamwMlpW2Ideal.Value.var, Cert.Adamw.var, Cert.KernelAdamwMlpW2Ideal.Value.flat, Cert.KernelAdamwMlpW2Ideal.Value.part]

end Cert.ReferenceAdamwMlpW2Ideal.Value

end
-- ==== Proof.AdamwAWOut.lean ====
/- AdamW's step on a_w_out: the gradient, the change of the weight and the two moments that the kernel's tiles hold are the reference's. -/
module

public import proofs.«01_k».proof.Proof.Gen.KernelAdamwAWOutIdeal.Value
public import proofs.«01_k».proof.Proof.Gen.ReferenceAdamwAWOutIdeal.Run
public import proofs.«01_k».proof.Proof.AdamwStep
public import Idealize.ShloMosaic.Lib.Pipeline.ValueKit

@[expose] public section

set_option maxRecDepth 16384

noncomputable section

namespace Cert.KernelAdamwAWOutIdeal.Value

open Cert.KernelAdamwAWOutIdeal Cert.KernelAdamwAWOutIdeal.Gen Idealize.ShloMosaic Idealize.ShloMosaic.TcCoe Idealize.SL.Sem
open Idealize.ShloMosaic.Pipeline (Dat)

variable (m : (ℓ : Loc nD τ sig) → Buf (Elt Ideal) ℓ)

/-- A weight's rows, the layers one after the other. -/
def flat (X : FVec Ideal S2x256x1024 .f32) : FVec Ideal S512x1024 .f32 := shapeCast _ X shapeCasts_S2x256x1024_S512x1024

/-- Its gradient's rows, from the pack. -/
def part (G : FVec Ideal S13312x1024 .f32) : FVec Ideal S512x1024 .f32 := fun y => G (ix2 ⟨8192 + (y 0).val, by have := (y 0).isLt; simp at this; omega⟩ (y 1))

/-- The gradient. -/
def grad (W A B : FVec Ideal S2x256x1024 .f32) (G : FVec Ideal S13312x1024 .f32) : FVec Ideal S512x1024 .f32 :=
  fun y => part G y

/-- The change of the weight. -/
def delta (W A B : FVec Ideal S2x256x1024 .f32) (G : FVec Ideal S13312x1024 .f32) : FVec Ideal S512x1024 .f32 :=
  fun y => Cert.Adamw.delta (flat W y) (part G y) (flat A y) (flat B y)

/-- The first moment. -/
def mom (W A B : FVec Ideal S2x256x1024 .f32) (G : FVec Ideal S13312x1024 .f32) : FVec Ideal S512x1024 .f32 :=
  fun y => Cert.Adamw.mom (part G y) (flat A y)

/-- The second moment. -/
def var (W A B : FVec Ideal S2x256x1024 .f32) (G : FVec Ideal S13312x1024 .f32) : FVec Ideal S512x1024 .f32 :=
  fun y => Cert.Adamw.var (part G y) (flat B y)

theorem idx : ∀ t : Fin cfg0.N, win0_0.index t = ![t.val, 0]
    ∧ win0_1.index t = ![t.val, 0]
    ∧ win0_2.index t = ![t.val, 0]
    ∧ win0_3.index t = ![t.val + 16, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem V_w (c : Dev nD) : V m c main_v0 = flat (m ((c : Thread nD τ).loc main_arg0)) := by
  entry_read
  rfl

theorem V_m (c : Dev nD) : V m c main_v1 = flat (m ((c : Thread nD τ).loc main_arg1)) := by
  entry_read
  rfl

theorem V_v (c : Dev nD) : V m c main_v2 = flat (m ((c : Thread nD τ).loc main_arg2)) := by
  entry_read
  rfl

theorem final_grad (c : Dev nD) : (dats m 0 c).arrAt 4 cfg0.N
    = grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [grad, part]
  have hw := V_w m c
  have hm := V_m m c
  have hv := V_v m c
  blk_point [iblk, hw, hm, hv, V_main_arg3, idx t]

theorem final_delta (c : Dev nD) : (dats m 0 c).arrAt 5 cfg0.N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, delta, Cert.Adamw.delta, Cert.Adamw.mom, Cert.Adamw.var, part]
  have hw := V_w m c
  have hm := V_m m c
  have hv := V_v m c
  blk_point [iblk, hw, hm, hv, V_main_arg3, idx t]

theorem final_mom (c : Dev nD) : (dats m 0 c).arrAt 6 cfg0.N
    = mom (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, mom, Cert.Adamw.mom, part]
  have hw := V_w m c
  have hm := V_m m c
  have hv := V_v m c
  blk_point [iblk, hw, hm, hv, V_main_arg3, idx t]

theorem final_var (c : Dev nD) : (dats m 0 c).arrAt 7 cfg0.N
    = var (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay2, var, Cert.Adamw.var, part]
  have hw := V_w m c
  have hm := V_m m c
  have hv := V_v m c
  blk_point [iblk, hw, hm, hv, V_main_arg3, idx t]

end Cert.KernelAdamwAWOutIdeal.Value

namespace Cert.ReferenceAdamwAWOutIdeal.Value

open Cert.ReferenceAdamwAWOutIdeal Cert.ReferenceAdamwAWOutIdeal.Gen Idealize.ShloMosaic

theorem value_grad (W A B : FVec Ideal S2x256x1024 .f32) (G : FVec Ideal S13312x1024 .f32) :
    shapeCast _ (shapeCast _ (extractStridedSlice S512x1024 ![8192, 0] G slices_S13312x1024_S512x1024_8192_0) shapeCasts_S512x1024_S2x256x1024) shapeCasts_S2x256x1024_S512x1024
    = Cert.KernelAdamwAWOutIdeal.Value.grad W A B G := by
  funext y
  idx_vars y
  pointwise [Cert.KernelAdamwAWOutIdeal.Value.grad, Cert.KernelAdamwAWOutIdeal.Value.flat, Cert.KernelAdamwAWOutIdeal.Value.part]

theorem value_delta (W A B : FVec Ideal S2x256x1024 .f32) (G : FVec Ideal S13312x1024 .f32) :
    shapeCast _ (mulf (broadcastInDim S2x256x1024 ![] bcast_S_S2x256x1024 (constant S_ .f32 0xBA83126F#32)) (addf (Host.divf (Host.divf (addf (mulf (broadcastInDim S2x256x1024 ![] bcast_S_S2x256x1024 (constant S_ .f32 0x3F666666#32)) A) (mulf (broadcastInDim S2x256x1024 ![] bcast_S_S2x256x1024 (constant S_ .f32 0x3DCCCCCD#32)) (shapeCast _ (extractStridedSlice S512x1024 ![8192, 0] G slices_S13312x1024_S512x1024_8192_0) shapeCasts_S512x1024_S2x256x1024))) (broadcastInDim S2x256x1024 ![] bcast_S_S2x256x1024 (constant S_ .f32 0x3F26BD02#32))) (addf (Host.sqrt (Host.divf (addf (mulf (broadcastInDim S2x256x1024 ![] bcast_S_S2x256x1024 (constant S_ .f32 0x3F7FBE77#32)) B) (mulf (broadcastInDim S2x256x1024 ![] bcast_S_S2x256x1024 (constant S_ .f32 0x3A83126F#32)) (mulf (shapeCast _ (extractStridedSlice S512x1024 ![8192, 0] G slices_S13312x1024_S512x1024_8192_0) shapeCasts_S512x1024_S2x256x1024) (shapeCast _ (extractStridedSlice S512x1024 ![8192, 0] G slices_S13312x1024_S512x1024_8192_0) shapeCasts_S512x1024_S2x256x1024)))) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) W))) shapeCasts_S2x256x1024_S512x1024
    = Cert.KernelAdamwAWOutIdeal.Value.delta W A B G := by
  funext y
  idx_vars y
  pointwise [Cert.KernelAdamwAWOutIdeal.Value.delta, Cert.Adamw.delta, Cert.Adamw.mom, Cert.Adamw.var, Cert.KernelAdamwAWOutIdeal.Value.flat, Cert.KernelAdamwAWOutIdeal.Value.part]

theorem value_mom (W A B : FVec Ideal S2x256x1024 .f32) (G : FVec Ideal S13312x1024 .f32) :
    shapeCast _ (addf (mulf (broadcastInDim S2x256x1024 ![] bcast_S_S2x256x1024 (constant S_ .f32 0x3F666666#32)) A) (mulf (broadcastInDim S2x256x1024 ![] bcast_S_S2x256x1024 (constant S_ .f32 0x3DCCCCCD#32)) (shapeCast _ (extractStridedSlice S512x1024 ![8192, 0] G slices_S13312x1024_S512x1024_8192_0) shapeCasts_S512x1024_S2x256x1024))) shapeCasts_S2x256x1024_S512x1024
    = Cert.KernelAdamwAWOutIdeal.Value.mom W A B G := by
  funext y
  idx_vars y
  pointwise [Cert.KernelAdamwAWOutIdeal.Value.mom, Cert.Adamw.mom, Cert.KernelAdamwAWOutIdeal.Value.flat, Cert.KernelAdamwAWOutIdeal.Value.part]

theorem value_var (W A B : FVec Ideal S2x256x1024 .f32) (G : FVec Ideal S13312x1024 .f32) :
    shapeCast _ (addf (mulf (broadcastInDim S2x256x1024 ![] bcast_S_S2x256x1024 (constant S_ .f32 0x3F7FBE77#32)) B) (mulf (broadcastInDim S2x256x1024 ![] bcast_S_S2x256x1024 (constant S_ .f32 0x3A83126F#32)) (mulf (shapeCast _ (extractStridedSlice S512x1024 ![8192, 0] G slices_S13312x1024_S512x1024_8192_0) shapeCasts_S512x1024_S2x256x1024) (shapeCast _ (extractStridedSlice S512x1024 ![8192, 0] G slices_S13312x1024_S512x1024_8192_0) shapeCasts_S512x1024_S2x256x1024)))) shapeCasts_S2x256x1024_S512x1024
    = Cert.KernelAdamwAWOutIdeal.Value.var W A B G := by
  funext y
  idx_vars y
  pointwise [Cert.KernelAdamwAWOutIdeal.Value.var, Cert.Adamw.var, Cert.KernelAdamwAWOutIdeal.Value.flat, Cert.KernelAdamwAWOutIdeal.Value.part]

end Cert.ReferenceAdamwAWOutIdeal.Value

end
-- ==== Proof.AdamwBWOut.lean ====
/- AdamW's step on b_w_out: the gradient, the change of the weight and the two moments that the kernel's tiles hold are the reference's. -/
module

public import proofs.«01_k».proof.Proof.Gen.KernelAdamwBWOutIdeal.Value
public import proofs.«01_k».proof.Proof.Gen.ReferenceAdamwBWOutIdeal.Run
public import proofs.«01_k».proof.Proof.AdamwStep
public import Idealize.ShloMosaic.Lib.Pipeline.ValueKit

@[expose] public section

set_option maxRecDepth 16384

noncomputable section

namespace Cert.KernelAdamwBWOutIdeal.Value

open Cert.KernelAdamwBWOutIdeal Cert.KernelAdamwBWOutIdeal.Gen Idealize.ShloMosaic Idealize.ShloMosaic.TcCoe Idealize.SL.Sem
open Idealize.ShloMosaic.Pipeline (Dat)

variable (m : (ℓ : Loc nD τ sig) → Buf (Elt Ideal) ℓ)

/-- A weight's rows, the layers one after the other. -/
def flat (X : FVec Ideal S2x256x1024 .f32) : FVec Ideal S512x1024 .f32 := shapeCast _ X shapeCasts_S2x256x1024_S512x1024

/-- Its gradient's rows, from the pack. -/
def part (G : FVec Ideal S13312x1024 .f32) : FVec Ideal S512x1024 .f32 := fun y => G (ix2 ⟨8704 + (y 0).val, by have := (y 0).isLt; simp at this; omega⟩ (y 1))

/-- The gradient. -/
def grad (W A B : FVec Ideal S2x256x1024 .f32) (G : FVec Ideal S13312x1024 .f32) : FVec Ideal S512x1024 .f32 :=
  fun y => part G y

/-- The change of the weight. -/
def delta (W A B : FVec Ideal S2x256x1024 .f32) (G : FVec Ideal S13312x1024 .f32) : FVec Ideal S512x1024 .f32 :=
  fun y => Cert.Adamw.delta (flat W y) (part G y) (flat A y) (flat B y)

/-- The first moment. -/
def mom (W A B : FVec Ideal S2x256x1024 .f32) (G : FVec Ideal S13312x1024 .f32) : FVec Ideal S512x1024 .f32 :=
  fun y => Cert.Adamw.mom (part G y) (flat A y)

/-- The second moment. -/
def var (W A B : FVec Ideal S2x256x1024 .f32) (G : FVec Ideal S13312x1024 .f32) : FVec Ideal S512x1024 .f32 :=
  fun y => Cert.Adamw.var (part G y) (flat B y)

theorem idx : ∀ t : Fin cfg0.N, win0_0.index t = ![t.val, 0]
    ∧ win0_1.index t = ![t.val, 0]
    ∧ win0_2.index t = ![t.val, 0]
    ∧ win0_3.index t = ![t.val + 17, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem V_w (c : Dev nD) : V m c main_v0 = flat (m ((c : Thread nD τ).loc main_arg0)) := by
  entry_read
  rfl

theorem V_m (c : Dev nD) : V m c main_v1 = flat (m ((c : Thread nD τ).loc main_arg1)) := by
  entry_read
  rfl

theorem V_v (c : Dev nD) : V m c main_v2 = flat (m ((c : Thread nD τ).loc main_arg2)) := by
  entry_read
  rfl

theorem final_grad (c : Dev nD) : (dats m 0 c).arrAt 4 cfg0.N
    = grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [grad, part]
  have hw := V_w m c
  have hm := V_m m c
  have hv := V_v m c
  blk_point [iblk, hw, hm, hv, V_main_arg3, idx t]

theorem final_delta (c : Dev nD) : (dats m 0 c).arrAt 5 cfg0.N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, delta, Cert.Adamw.delta, Cert.Adamw.mom, Cert.Adamw.var, part]
  have hw := V_w m c
  have hm := V_m m c
  have hv := V_v m c
  blk_point [iblk, hw, hm, hv, V_main_arg3, idx t]

theorem final_mom (c : Dev nD) : (dats m 0 c).arrAt 6 cfg0.N
    = mom (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, mom, Cert.Adamw.mom, part]
  have hw := V_w m c
  have hm := V_m m c
  have hv := V_v m c
  blk_point [iblk, hw, hm, hv, V_main_arg3, idx t]

theorem final_var (c : Dev nD) : (dats m 0 c).arrAt 7 cfg0.N
    = var (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay2, var, Cert.Adamw.var, part]
  have hw := V_w m c
  have hm := V_m m c
  have hv := V_v m c
  blk_point [iblk, hw, hm, hv, V_main_arg3, idx t]

end Cert.KernelAdamwBWOutIdeal.Value

namespace Cert.ReferenceAdamwBWOutIdeal.Value

open Cert.ReferenceAdamwBWOutIdeal Cert.ReferenceAdamwBWOutIdeal.Gen Idealize.ShloMosaic

theorem value_grad (W A B : FVec Ideal S2x256x1024 .f32) (G : FVec Ideal S13312x1024 .f32) :
    shapeCast _ (shapeCast _ (extractStridedSlice S512x1024 ![8704, 0] G slices_S13312x1024_S512x1024_8704_0) shapeCasts_S512x1024_S2x256x1024) shapeCasts_S2x256x1024_S512x1024
    = Cert.KernelAdamwBWOutIdeal.Value.grad W A B G := by
  funext y
  idx_vars y
  pointwise [Cert.KernelAdamwBWOutIdeal.Value.grad, Cert.KernelAdamwBWOutIdeal.Value.flat, Cert.KernelAdamwBWOutIdeal.Value.part]

theorem value_delta (W A B : FVec Ideal S2x256x1024 .f32) (G : FVec Ideal S13312x1024 .f32) :
    shapeCast _ (mulf (broadcastInDim S2x256x1024 ![] bcast_S_S2x256x1024 (constant S_ .f32 0xBA83126F#32)) (addf (Host.divf (Host.divf (addf (mulf (broadcastInDim S2x256x1024 ![] bcast_S_S2x256x1024 (constant S_ .f32 0x3F666666#32)) A) (mulf (broadcastInDim S2x256x1024 ![] bcast_S_S2x256x1024 (constant S_ .f32 0x3DCCCCCD#32)) (shapeCast _ (extractStridedSlice S512x1024 ![8704, 0] G slices_S13312x1024_S512x1024_8704_0) shapeCasts_S512x1024_S2x256x1024))) (broadcastInDim S2x256x1024 ![] bcast_S_S2x256x1024 (constant S_ .f32 0x3F26BD02#32))) (addf (Host.sqrt (Host.divf (addf (mulf (broadcastInDim S2x256x1024 ![] bcast_S_S2x256x1024 (constant S_ .f32 0x3F7FBE77#32)) B) (mulf (broadcastInDim S2x256x1024 ![] bcast_S_S2x256x1024 (constant S_ .f32 0x3A83126F#32)) (mulf (shapeCast _ (extractStridedSlice S512x1024 ![8704, 0] G slices_S13312x1024_S512x1024_8704_0) shapeCasts_S512x1024_S2x256x1024) (shapeCast _ (extractStridedSlice S512x1024 ![8704, 0] G slices_S13312x1024_S512x1024_8704_0) shapeCasts_S512x1024_S2x256x1024)))) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) W))) shapeCasts_S2x256x1024_S512x1024
    = Cert.KernelAdamwBWOutIdeal.Value.delta W A B G := by
  funext y
  idx_vars y
  pointwise [Cert.KernelAdamwBWOutIdeal.Value.delta, Cert.Adamw.delta, Cert.Adamw.mom, Cert.Adamw.var, Cert.KernelAdamwBWOutIdeal.Value.flat, Cert.KernelAdamwBWOutIdeal.Value.part]

theorem value_mom (W A B : FVec Ideal S2x256x1024 .f32) (G : FVec Ideal S13312x1024 .f32) :
    shapeCast _ (addf (mulf (broadcastInDim S2x256x1024 ![] bcast_S_S2x256x1024 (constant S_ .f32 0x3F666666#32)) A) (mulf (broadcastInDim S2x256x1024 ![] bcast_S_S2x256x1024 (constant S_ .f32 0x3DCCCCCD#32)) (shapeCast _ (extractStridedSlice S512x1024 ![8704, 0] G slices_S13312x1024_S512x1024_8704_0) shapeCasts_S512x1024_S2x256x1024))) shapeCasts_S2x256x1024_S512x1024
    = Cert.KernelAdamwBWOutIdeal.Value.mom W A B G := by
  funext y
  idx_vars y
  pointwise [Cert.KernelAdamwBWOutIdeal.Value.mom, Cert.Adamw.mom, Cert.KernelAdamwBWOutIdeal.Value.flat, Cert.KernelAdamwBWOutIdeal.Value.part]

theorem value_var (W A B : FVec Ideal S2x256x1024 .f32) (G : FVec Ideal S13312x1024 .f32) :
    shapeCast _ (addf (mulf (broadcastInDim S2x256x1024 ![] bcast_S_S2x256x1024 (constant S_ .f32 0x3F7FBE77#32)) B) (mulf (broadcastInDim S2x256x1024 ![] bcast_S_S2x256x1024 (constant S_ .f32 0x3A83126F#32)) (mulf (shapeCast _ (extractStridedSlice S512x1024 ![8704, 0] G slices_S13312x1024_S512x1024_8704_0) shapeCasts_S512x1024_S2x256x1024) (shapeCast _ (extractStridedSlice S512x1024 ![8704, 0] G slices_S13312x1024_S512x1024_8704_0) shapeCasts_S512x1024_S2x256x1024)))) shapeCasts_S2x256x1024_S512x1024
    = Cert.KernelAdamwBWOutIdeal.Value.var W A B G := by
  funext y
  idx_vars y
  pointwise [Cert.KernelAdamwBWOutIdeal.Value.var, Cert.Adamw.var, Cert.KernelAdamwBWOutIdeal.Value.flat, Cert.KernelAdamwBWOutIdeal.Value.part]

end Cert.ReferenceAdamwBWOutIdeal.Value

end
-- ==== Proof.AdamwAWIn.lean ====
/- AdamW's step on a_w_in: the gradient, the change of the weight and the two moments that the kernel's tiles hold are the reference's. -/
module

public import proofs.«01_k».proof.Proof.Gen.KernelAdamwAWInIdeal.Value
public import proofs.«01_k».proof.Proof.Gen.ReferenceAdamwAWInIdeal.Run
public import proofs.«01_k».proof.Proof.AdamwStep
public import Idealize.ShloMosaic.Lib.Pipeline.ValueKit

@[expose] public section

set_option maxRecDepth 16384

noncomputable section

namespace Cert.KernelAdamwAWInIdeal.Value

open Cert.KernelAdamwAWInIdeal Cert.KernelAdamwAWInIdeal.Gen Idealize.ShloMosaic Idealize.ShloMosaic.TcCoe Idealize.SL.Sem
open Idealize.ShloMosaic.Pipeline (Dat)

variable (m : (ℓ : Loc nD τ sig) → Buf (Elt Ideal) ℓ)

/-- A weight's rows, the layers one after the other. -/
def flat (X : FVec Ideal S2x1024x1028 .f32) : FVec Ideal S2048x1028 .f32 := shapeCast _ X shapeCasts_S2x1024x1028_S2048x1028

/-- Its gradient's rows, from the pack. -/
def part (G : FVec Ideal S13312x1024 .f32) : FVec Ideal S2048x1028 .f32 := fun y => G (ix2 ⟨9216 + ((y 0).val * 1028 + (y 1).val) / 1024, by
    have h0 := (y 0).isLt
    have h1 := (y 1).isLt
    simp at h0 h1
    omega⟩ ⟨((y 0).val * 1028 + (y 1).val) % 1024, by omega⟩)

/-- The gradient. -/
def grad (W A B : FVec Ideal S2x1024x1028 .f32) (G : FVec Ideal S13312x1024 .f32) : FVec Ideal S2048x1028 .f32 :=
  fun y => part G y

/-- The change of the weight. -/
def delta (W A B : FVec Ideal S2x1024x1028 .f32) (G : FVec Ideal S13312x1024 .f32) : FVec Ideal S2048x1028 .f32 :=
  fun y => Cert.Adamw.delta (flat W y) (part G y) (flat A y) (flat B y)

/-- The first moment. -/
def mom (W A B : FVec Ideal S2x1024x1028 .f32) (G : FVec Ideal S13312x1024 .f32) : FVec Ideal S2048x1028 .f32 :=
  fun y => Cert.Adamw.mom (part G y) (flat A y)

/-- The second moment. -/
def var (W A B : FVec Ideal S2x1024x1028 .f32) (G : FVec Ideal S13312x1024 .f32) : FVec Ideal S2048x1028 .f32 :=
  fun y => Cert.Adamw.var (part G y) (flat B y)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem V_w (c : Dev nD) : V m c main_v0 = flat (m ((c : Thread nD τ).loc main_arg0)) := by
  entry_read
  rfl

theorem V_m (c : Dev nD) : V m c main_v1 = flat (m ((c : Thread nD τ).loc main_arg1)) := by
  entry_read
  rfl

theorem V_v (c : Dev nD) : V m c main_v2 = flat (m ((c : Thread nD τ).loc main_arg2)) := by
  entry_read
  rfl

theorem V_g (c : Dev nD) : V m c main_v4 = part (m ((c : Thread nD τ).loc main_arg3)) := by
  entry_read
  funext y
  idx_vars y
  pointwise [part]

theorem final_grad (c : Dev nD) : (dats m 0 c).arrAt 4 cfg0.N
    = grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [grad]
  have hw := V_w m c
  have hm := V_m m c
  have hv := V_v m c
  have hg := V_g m c
  blk_point [iblk, hw, hm, hv, hg, idx t]

theorem final_delta (c : Dev nD) : (dats m 0 c).arrAt 5 cfg0.N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, delta]
  refine Eq.trans (b := Cert.Adamw.delta _ _ _ _) rfl ?_
  have hw := V_w m c
  have hm := V_m m c
  have hv := V_v m c
  have hg := V_g m c
  refine congrArg₂ (fun f x => f x) (congrArg₂ (fun f x => f x) (congrArg₂ Cert.Adamw.delta ?_ ?_) ?_) ?_
  · blk_point [iblk, hw, idx t]
  · blk_point [iblk, hg, idx t]
  · blk_point [iblk, hm, idx t]
  · blk_point [iblk, hv, idx t]

theorem final_mom (c : Dev nD) : (dats m 0 c).arrAt 6 cfg0.N
    = mom (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, mom]
  refine Eq.trans (b := Cert.Adamw.mom _ _) rfl ?_
  have hw := V_w m c
  have hm := V_m m c
  have hv := V_v m c
  have hg := V_g m c
  refine congrArg₂ Cert.Adamw.mom ?_ ?_
  · blk_point [iblk, hg, idx t]
  · blk_point [iblk, hm, idx t]

theorem final_var (c : Dev nD) : (dats m 0 c).arrAt 7 cfg0.N
    = var (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay1, k0_pay3, var]
  refine Eq.trans (b := Cert.Adamw.var _ _) rfl ?_
  have hw := V_w m c
  have hm := V_m m c
  have hv := V_v m c
  have hg := V_g m c
  refine congrArg₂ Cert.Adamw.var ?_ ?_
  · blk_point [iblk, hg, idx t]
  · blk_point [iblk, hv, idx t]

end Cert.KernelAdamwAWInIdeal.Value

namespace Cert.ReferenceAdamwAWInIdeal.Value

open Cert.ReferenceAdamwAWInIdeal Cert.ReferenceAdamwAWInIdeal.Gen Idealize.ShloMosaic

theorem value_grad (W A B : FVec Ideal S2x1024x1028 .f32) (G : FVec Ideal S13312x1024 .f32) :
    shapeCast _ (shapeCast _ (extractStridedSlice S2056x1024 ![9216, 0] G slices_S13312x1024_S2056x1024_9216_0) shapeCasts_S2056x1024_S2x1024x1028) shapeCasts_S2x1024x1028_S2048x1028
    = Cert.KernelAdamwAWInIdeal.Value.grad W A B G := by
  funext y
  idx_vars y
  pointwise [Cert.KernelAdamwAWInIdeal.Value.grad, Cert.KernelAdamwAWInIdeal.Value.flat, Cert.KernelAdamwAWInIdeal.Value.part]

theorem value_delta (W A B : FVec Ideal S2x1024x1028 .f32) (G : FVec Ideal S13312x1024 .f32) :
    shapeCast _ (mulf (broadcastInDim S2x1024x1028 ![] bcast_S_S2x1024x1028 (constant S_ .f32 0xBA83126F#32)) (addf (Host.divf (Host.divf (addf (mulf (broadcastInDim S2x1024x1028 ![] bcast_S_S2x1024x1028 (constant S_ .f32 0x3F666666#32)) A) (mulf (broadcastInDim S2x1024x1028 ![] bcast_S_S2x1024x1028 (constant S_ .f32 0x3DCCCCCD#32)) (shapeCast _ (extractStridedSlice S2056x1024 ![9216, 0] G slices_S13312x1024_S2056x1024_9216_0) shapeCasts_S2056x1024_S2x1024x1028))) (broadcastInDim S2x1024x1028 ![] bcast_S_S2x1024x1028 (constant S_ .f32 0x3F26BD02#32))) (addf (Host.sqrt (Host.divf (addf (mulf (broadcastInDim S2x1024x1028 ![] bcast_S_S2x1024x1028 (constant S_ .f32 0x3F7FBE77#32)) B) (mulf (broadcastInDim S2x1024x1028 ![] bcast_S_S2x1024x1028 (constant S_ .f32 0x3A83126F#32)) (mulf (shapeCast _ (extractStridedSlice S2056x1024 ![9216, 0] G slices_S13312x1024_S2056x1024_9216_0) shapeCasts_S2056x1024_S2x1024x1028) (shapeCast _ (extractStridedSlice S2056x1024 ![9216, 0] G slices_S13312x1024_S2056x1024_9216_0) shapeCasts_S2056x1024_S2x1024x1028)))) (broadcastInDim S2x1024x1028 ![] bcast_S_S2x1024x1028 (constant S_ .f32 0x3C231ACC#32)))) (broadcastInDim S2x1024x1028 ![] bcast_S_S2x1024x1028 (constant S_ .f32 0x322BCC77#32)))) (mulf (broadcastInDim S2x1024x1028 ![] bcast_S_S2x1024x1028 (constant S_ .f32 0x3C23D70A#32)) W))) shapeCasts_S2x1024x1028_S2048x1028
    = Cert.KernelAdamwAWInIdeal.Value.delta W A B G := by
  have h := value_grad W A B G
  generalize shapeCast _ (extractStridedSlice S2056x1024 ![9216, 0] G slices_S13312x1024_S2056x1024_9216_0) shapeCasts_S2056x1024_S2x1024x1028 = X at h ⊢
  funext y
  have hy : Cert.KernelAdamwAWInIdeal.Value.part G y = Cert.KernelAdamwAWInIdeal.Value.flat X y := (congrFun h y).symm
  unfold Cert.KernelAdamwAWInIdeal.Value.delta
  rw [hy]
  clear h hy
  idx_vars y
  pointwise [Cert.Adamw.delta, Cert.Adamw.mom, Cert.Adamw.var, Cert.KernelAdamwAWInIdeal.Value.flat]

theorem value_mom (W A B : FVec Ideal S2x1024x1028 .f32) (G : FVec Ideal S13312x1024 .f32) :
    shapeCast _ (addf (mulf (broadcastInDim S2x1024x1028 ![] bcast_S_S2x1024x1028 (constant S_ .f32 0x3F666666#32)) A) (mulf (broadcastInDim S2x1024x1028 ![] bcast_S_S2x1024x1028 (constant S_ .f32 0x3DCCCCCD#32)) (shapeCast _ (extractStridedSlice S2056x1024 ![9216, 0] G slices_S13312x1024_S2056x1024_9216_0) shapeCasts_S2056x1024_S2x1024x1028))) shapeCasts_S2x1024x1028_S2048x1028
    = Cert.KernelAdamwAWInIdeal.Value.mom W A B G := by
  have h := value_grad W A B G
  generalize shapeCast _ (extractStridedSlice S2056x1024 ![9216, 0] G slices_S13312x1024_S2056x1024_9216_0) shapeCasts_S2056x1024_S2x1024x1028 = X at h ⊢
  funext y
  have hy : Cert.KernelAdamwAWInIdeal.Value.part G y = Cert.KernelAdamwAWInIdeal.Value.flat X y := (congrFun h y).symm
  unfold Cert.KernelAdamwAWInIdeal.Value.mom
  rw [hy]
  clear h hy
  idx_vars y
  pointwise [Cert.Adamw.mom, Cert.KernelAdamwAWInIdeal.Value.flat]

theorem value_var (W A B : FVec Ideal S2x1024x1028 .f32) (G : FVec Ideal S13312x1024 .f32) :
    shapeCast _ (addf (mulf (broadcastInDim S2x1024x1028 ![] bcast_S_S2x1024x1028 (constant S_ .f32 0x3F7FBE77#32)) B) (mulf (broadcastInDim S2x1024x1028 ![] bcast_S_S2x1024x1028 (constant S_ .f32 0x3A83126F#32)) (mulf (shapeCast _ (extractStridedSlice S2056x1024 ![9216, 0] G slices_S13312x1024_S2056x1024_9216_0) shapeCasts_S2056x1024_S2x1024x1028) (shapeCast _ (extractStridedSlice S2056x1024 ![9216, 0] G slices_S13312x1024_S2056x1024_9216_0) shapeCasts_S2056x1024_S2x1024x1028)))) shapeCasts_S2x1024x1028_S2048x1028
    = Cert.KernelAdamwAWInIdeal.Value.var W A B G := by
  have h := value_grad W A B G
  generalize shapeCast _ (extractStridedSlice S2056x1024 ![9216, 0] G slices_S13312x1024_S2056x1024_9216_0) shapeCasts_S2056x1024_S2x1024x1028 = X at h ⊢
  funext y
  have hy : Cert.KernelAdamwAWInIdeal.Value.part G y = Cert.KernelAdamwAWInIdeal.Value.flat X y := (congrFun h y).symm
  unfold Cert.KernelAdamwAWInIdeal.Value.var
  rw [hy]
  clear h hy
  idx_vars y
  pointwise [Cert.Adamw.var, Cert.KernelAdamwAWInIdeal.Value.flat]

end Cert.ReferenceAdamwAWInIdeal.Value

end
-- ==== Proof.AdamwBWIn.lean ====
/- AdamW's step on b_w_in: the gradient, the change of the weight and the two moments that the kernel's tiles hold are the reference's. -/
module

public import proofs.«01_k».proof.Proof.Gen.KernelAdamwBWInIdeal.Value
public import proofs.«01_k».proof.Proof.Gen.ReferenceAdamwBWInIdeal.Run
public import proofs.«01_k».proof.Proof.AdamwStep
public import Idealize.ShloMosaic.Lib.Pipeline.ValueKit

@[expose] public section

set_option maxRecDepth 16384

noncomputable section

namespace Cert.KernelAdamwBWInIdeal.Value

open Cert.KernelAdamwBWInIdeal Cert.KernelAdamwBWInIdeal.Gen Idealize.ShloMosaic Idealize.ShloMosaic.TcCoe Idealize.SL.Sem
open Idealize.ShloMosaic.Pipeline (Dat)

variable (m : (ℓ : Loc nD τ sig) → Buf (Elt Ideal) ℓ)

/-- A weight's rows, the layers one after the other. -/
def flat (X : FVec Ideal S2x1024x772 .f32) : FVec Ideal S2048x772 .f32 := shapeCast _ X shapeCasts_S2x1024x772_S2048x772

/-- Its gradient's rows, from the pack. -/
def part (G : FVec Ideal S13312x1024 .f32) : FVec Ideal S2048x772 .f32 := fun y => G (ix2 ⟨11272 + ((y 0).val * 772 + (y 1).val) / 1024, by
    have h0 := (y 0).isLt
    have h1 := (y 1).isLt
    simp at h0 h1
    omega⟩ ⟨((y 0).val * 772 + (y 1).val) % 1024, by omega⟩)

/-- The gradient. -/
def grad (W A B : FVec Ideal S2x1024x772 .f32) (G : FVec Ideal S13312x1024 .f32) : FVec Ideal S2048x772 .f32 :=
  fun y => part G y

/-- The change of the weight. -/
def delta (W A B : FVec Ideal S2x1024x772 .f32) (G : FVec Ideal S13312x1024 .f32) : FVec Ideal S2048x772 .f32 :=
  fun y => Cert.Adamw.delta (flat W y) (part G y) (flat A y) (flat B y)

/-- The first moment. -/
def mom (W A B : FVec Ideal S2x1024x772 .f32) (G : FVec Ideal S13312x1024 .f32) : FVec Ideal S2048x772 .f32 :=
  fun y => Cert.Adamw.mom (part G y) (flat A y)

/-- The second moment. -/
def var (W A B : FVec Ideal S2x1024x772 .f32) (G : FVec Ideal S13312x1024 .f32) : FVec Ideal S2048x772 .f32 :=
  fun y => Cert.Adamw.var (part G y) (flat B y)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

theorem V_w (c : Dev nD) : V m c main_v0 = flat (m ((c : Thread nD τ).loc main_arg0)) := by
  entry_read
  rfl

theorem V_m (c : Dev nD) : V m c main_v1 = flat (m ((c : Thread nD τ).loc main_arg1)) := by
  entry_read
  rfl

theorem V_v (c : Dev nD) : V m c main_v2 = flat (m ((c : Thread nD τ).loc main_arg2)) := by
  entry_read
  rfl

theorem V_g (c : Dev nD) : V m c main_v4 = part (m ((c : Thread nD τ).loc main_arg3)) := by
  entry_read
  funext y
  idx_vars y
  pointwise [part]

theorem final_grad (c : Dev nD) : (dats m 0 c).arrAt 4 cfg0.N
    = grad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [grad]
  have hw := V_w m c
  have hm := V_m m c
  have hv := V_v m c
  have hg := V_g m c
  blk_point [iblk, hw, hm, hv, hg, idx t]

theorem final_delta (c : Dev nD) : (dats m 0 c).arrAt 5 cfg0.N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, delta]
  refine Eq.trans (b := Cert.Adamw.delta _ _ _ _) rfl ?_
  have hw := V_w m c
  have hm := V_m m c
  have hv := V_v m c
  have hg := V_g m c
  refine congrArg₂ (fun f x => f x) (congrArg₂ (fun f x => f x) (congrArg₂ Cert.Adamw.delta ?_ ?_) ?_) ?_
  · blk_point [iblk, hw, idx t]
  · blk_point [iblk, hg, idx t]
  · blk_point [iblk, hm, idx t]
  · blk_point [iblk, hv, idx t]

theorem final_mom (c : Dev nD) : (dats m 0 c).arrAt 6 cfg0.N
    = mom (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, mom]
  refine Eq.trans (b := Cert.Adamw.mom _ _) rfl ?_
  have hw := V_w m c
  have hm := V_m m c
  have hv := V_v m c
  have hg := V_g m c
  refine congrArg₂ Cert.Adamw.mom ?_ ?_
  · blk_point [iblk, hg, idx t]
  · blk_point [iblk, hm, idx t]

theorem final_var (c : Dev nD) : (dats m 0 c).arrAt 7 cfg0.N
    = var (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay1, k0_pay3, var]
  refine Eq.trans (b := Cert.Adamw.var _ _) rfl ?_
  have hw := V_w m c
  have hm := V_m m c
  have hv := V_v m c
  have hg := V_g m c
  refine congrArg₂ Cert.Adamw.var ?_ ?_
  · blk_point [iblk, hg, idx t]
  · blk_point [iblk, hv, idx t]

end Cert.KernelAdamwBWInIdeal.Value

namespace Cert.ReferenceAdamwBWInIdeal.Value

open Cert.ReferenceAdamwBWInIdeal Cert.ReferenceAdamwBWInIdeal.Gen Idealize.ShloMosaic

theorem value_grad (W A B : FVec Ideal S2x1024x772 .f32) (G : FVec Ideal S13312x1024 .f32) :
    shapeCast _ (shapeCast _ (extractStridedSlice S1544x1024 ![11272, 0] G slices_S13312x1024_S1544x1024_11272_0) shapeCasts_S1544x1024_S2x1024x772) shapeCasts_S2x1024x772_S2048x772
    = Cert.KernelAdamwBWInIdeal.Value.grad W A B G := by
  funext y
  idx_vars y
  pointwise [Cert.KernelAdamwBWInIdeal.Value.grad, Cert.KernelAdamwBWInIdeal.Value.flat, Cert.KernelAdamwBWInIdeal.Value.part]

theorem value_delta (W A B : FVec Ideal S2x1024x772 .f32) (G : FVec Ideal S13312x1024 .f32) :
    shapeCast _ (mulf (broadcastInDim S2x1024x772 ![] bcast_S_S2x1024x772 (constant S_ .f32 0xBA83126F#32)) (addf (Host.divf (Host.divf (addf (mulf (broadcastInDim S2x1024x772 ![] bcast_S_S2x1024x772 (constant S_ .f32 0x3F666666#32)) A) (mulf (broadcastInDim S2x1024x772 ![] bcast_S_S2x1024x772 (constant S_ .f32 0x3DCCCCCD#32)) (shapeCast _ (extractStridedSlice S1544x1024 ![11272, 0] G slices_S13312x1024_S1544x1024_11272_0) shapeCasts_S1544x1024_S2x1024x772))) (broadcastInDim S2x1024x772 ![] bcast_S_S2x1024x772 (constant S_ .f32 0x3F26BD02#32))) (addf (Host.sqrt (Host.divf (addf (mulf (broadcastInDim S2x1024x772 ![] bcast_S_S2x1024x772 (constant S_ .f32 0x3F7FBE77#32)) B) (mulf (broadcastInDim S2x1024x772 ![] bcast_S_S2x1024x772 (constant S_ .f32 0x3A83126F#32)) (mulf (shapeCast _ (extractStridedSlice S1544x1024 ![11272, 0] G slices_S13312x1024_S1544x1024_11272_0) shapeCasts_S1544x1024_S2x1024x772) (shapeCast _ (extractStridedSlice S1544x1024 ![11272, 0] G slices_S13312x1024_S1544x1024_11272_0) shapeCasts_S1544x1024_S2x1024x772)))) (broadcastInDim S2x1024x772 ![] bcast_S_S2x1024x772 (constant S_ .f32 0x3C231ACC#32)))) (broadcastInDim S2x1024x772 ![] bcast_S_S2x1024x772 (constant S_ .f32 0x322BCC77#32)))) (mulf (broadcastInDim S2x1024x772 ![] bcast_S_S2x1024x772 (constant S_ .f32 0x3C23D70A#32)) W))) shapeCasts_S2x1024x772_S2048x772
    = Cert.KernelAdamwBWInIdeal.Value.delta W A B G := by
  have h := value_grad W A B G
  generalize shapeCast _ (extractStridedSlice S1544x1024 ![11272, 0] G slices_S13312x1024_S1544x1024_11272_0) shapeCasts_S1544x1024_S2x1024x772 = X at h ⊢
  funext y
  have hy : Cert.KernelAdamwBWInIdeal.Value.part G y = Cert.KernelAdamwBWInIdeal.Value.flat X y := (congrFun h y).symm
  unfold Cert.KernelAdamwBWInIdeal.Value.delta
  rw [hy]
  clear h hy
  idx_vars y
  pointwise [Cert.Adamw.delta, Cert.Adamw.mom, Cert.Adamw.var, Cert.KernelAdamwBWInIdeal.Value.flat]

theorem value_mom (W A B : FVec Ideal S2x1024x772 .f32) (G : FVec Ideal S13312x1024 .f32) :
    shapeCast _ (addf (mulf (broadcastInDim S2x1024x772 ![] bcast_S_S2x1024x772 (constant S_ .f32 0x3F666666#32)) A) (mulf (broadcastInDim S2x1024x772 ![] bcast_S_S2x1024x772 (constant S_ .f32 0x3DCCCCCD#32)) (shapeCast _ (extractStridedSlice S1544x1024 ![11272, 0] G slices_S13312x1024_S1544x1024_11272_0) shapeCasts_S1544x1024_S2x1024x772))) shapeCasts_S2x1024x772_S2048x772
    = Cert.KernelAdamwBWInIdeal.Value.mom W A B G := by
  have h := value_grad W A B G
  generalize shapeCast _ (extractStridedSlice S1544x1024 ![11272, 0] G slices_S13312x1024_S1544x1024_11272_0) shapeCasts_S1544x1024_S2x1024x772 = X at h ⊢
  funext y
  have hy : Cert.KernelAdamwBWInIdeal.Value.part G y = Cert.KernelAdamwBWInIdeal.Value.flat X y := (congrFun h y).symm
  unfold Cert.KernelAdamwBWInIdeal.Value.mom
  rw [hy]
  clear h hy
  idx_vars y
  pointwise [Cert.Adamw.mom, Cert.KernelAdamwBWInIdeal.Value.flat]

theorem value_var (W A B : FVec Ideal S2x1024x772 .f32) (G : FVec Ideal S13312x1024 .f32) :
    shapeCast _ (addf (mulf (broadcastInDim S2x1024x772 ![] bcast_S_S2x1024x772 (constant S_ .f32 0x3F7FBE77#32)) B) (mulf (broadcastInDim S2x1024x772 ![] bcast_S_S2x1024x772 (constant S_ .f32 0x3A83126F#32)) (mulf (shapeCast _ (extractStridedSlice S1544x1024 ![11272, 0] G slices_S13312x1024_S1544x1024_11272_0) shapeCasts_S1544x1024_S2x1024x772) (shapeCast _ (extractStridedSlice S1544x1024 ![11272, 0] G slices_S13312x1024_S1544x1024_11272_0) shapeCasts_S1544x1024_S2x1024x772)))) shapeCasts_S2x1024x772_S2048x772
    = Cert.KernelAdamwBWInIdeal.Value.var W A B G := by
  have h := value_grad W A B G
  generalize shapeCast _ (extractStridedSlice S1544x1024 ![11272, 0] G slices_S13312x1024_S1544x1024_11272_0) shapeCasts_S1544x1024_S2x1024x772 = X at h ⊢
  funext y
  have hy : Cert.KernelAdamwBWInIdeal.Value.part G y = Cert.KernelAdamwBWInIdeal.Value.flat X y := (congrFun h y).symm
  unfold Cert.KernelAdamwBWInIdeal.Value.var
  rw [hy]
  clear h hy
  idx_vars y
  pointwise [Cert.Adamw.var, Cert.KernelAdamwBWInIdeal.Value.flat]

end Cert.ReferenceAdamwBWInIdeal.Value

end
-- ==== Proof.Update.lean ====
/- The frames of the references of AdamW's steps, and the values of the kernels. -/
module

public import proofs.«01_k».proof.Defs
public import proofs.«01_k».proof.Proof.AdamwMlpW1
public import proofs.«01_k».proof.Proof.AdamwMlpW2
public import proofs.«01_k».proof.Proof.AdamwAWOut
public import proofs.«01_k».proof.Proof.AdamwBWOut
public import proofs.«01_k».proof.Proof.AdamwAWIn
public import proofs.«01_k».proof.Proof.AdamwBWIn

@[expose] public section

noncomputable section

namespace Cert.Proof

open Idealize.ShloMosaic Idealize.SL.Sem

/-- The reference `AdamwMlpW1`'s frame: its run, read at its arguments; it declares no semaphore. -/
theorem frameAdamwMlpW1 : Cert.quiescent_ReferenceAdamwMlpW1Ideal (hReferenceAdamwMlpW1Ideal := Cert.ReferenceAdamwMlpW1Ideal.Gen.facts) := fun m ρ _ =>
  (θ_run Cert.ReferenceAdamwMlpW1Ideal.defs _ _).mono (fun r h => ⟨fun c => (h c).2.2.2.2, Idealize.ShloMosaic.sem_eq_zero_of_no_sems (by decide) r.2⟩)
    (Cert.ReferenceAdamwMlpW1Ideal.Value.run (F := Ideal) m ρ)

/-- The kernel `AdamwMlpW1` and its reference return the same arrays. -/
theorem algebraicAdamwMlpW1 : Cert.algebraic_KernelAdamwMlpW1Ideal_ReferenceAdamwMlpW1Ideal (hKernelAdamwMlpW1Ideal := Cert.KernelAdamwMlpW1Ideal.Gen.facts)
    (hReferenceAdamwMlpW1Ideal := Cert.ReferenceAdamwMlpW1Ideal.Gen.facts) := by
  intro m g m' g' _ args
  refine ⟨fun c => Cert.KernelAdamwMlpW1Ideal.Value.grad (m ((c.tc : Thread Cert.KernelAdamwMlpW1Ideal.nD Cert.KernelAdamwMlpW1Ideal.τ).loc Cert.KernelAdamwMlpW1Ideal.main_arg0)) (m ((c.tc : Thread Cert.KernelAdamwMlpW1Ideal.nD Cert.KernelAdamwMlpW1Ideal.τ).loc Cert.KernelAdamwMlpW1Ideal.main_arg1)) (m ((c.tc : Thread Cert.KernelAdamwMlpW1Ideal.nD Cert.KernelAdamwMlpW1Ideal.τ).loc Cert.KernelAdamwMlpW1Ideal.main_arg2)) (m ((c.tc : Thread Cert.KernelAdamwMlpW1Ideal.nD Cert.KernelAdamwMlpW1Ideal.τ).loc Cert.KernelAdamwMlpW1Ideal.main_arg3)),
    fun c => Cert.KernelAdamwMlpW1Ideal.Value.delta (m ((c.tc : Thread Cert.KernelAdamwMlpW1Ideal.nD Cert.KernelAdamwMlpW1Ideal.τ).loc Cert.KernelAdamwMlpW1Ideal.main_arg0)) (m ((c.tc : Thread Cert.KernelAdamwMlpW1Ideal.nD Cert.KernelAdamwMlpW1Ideal.τ).loc Cert.KernelAdamwMlpW1Ideal.main_arg1)) (m ((c.tc : Thread Cert.KernelAdamwMlpW1Ideal.nD Cert.KernelAdamwMlpW1Ideal.τ).loc Cert.KernelAdamwMlpW1Ideal.main_arg2)) (m ((c.tc : Thread Cert.KernelAdamwMlpW1Ideal.nD Cert.KernelAdamwMlpW1Ideal.τ).loc Cert.KernelAdamwMlpW1Ideal.main_arg3)),
    fun c => Cert.KernelAdamwMlpW1Ideal.Value.mom (m ((c.tc : Thread Cert.KernelAdamwMlpW1Ideal.nD Cert.KernelAdamwMlpW1Ideal.τ).loc Cert.KernelAdamwMlpW1Ideal.main_arg0)) (m ((c.tc : Thread Cert.KernelAdamwMlpW1Ideal.nD Cert.KernelAdamwMlpW1Ideal.τ).loc Cert.KernelAdamwMlpW1Ideal.main_arg1)) (m ((c.tc : Thread Cert.KernelAdamwMlpW1Ideal.nD Cert.KernelAdamwMlpW1Ideal.τ).loc Cert.KernelAdamwMlpW1Ideal.main_arg2)) (m ((c.tc : Thread Cert.KernelAdamwMlpW1Ideal.nD Cert.KernelAdamwMlpW1Ideal.τ).loc Cert.KernelAdamwMlpW1Ideal.main_arg3)),
    fun c => Cert.KernelAdamwMlpW1Ideal.Value.var (m ((c.tc : Thread Cert.KernelAdamwMlpW1Ideal.nD Cert.KernelAdamwMlpW1Ideal.τ).loc Cert.KernelAdamwMlpW1Ideal.main_arg0)) (m ((c.tc : Thread Cert.KernelAdamwMlpW1Ideal.nD Cert.KernelAdamwMlpW1Ideal.τ).loc Cert.KernelAdamwMlpW1Ideal.main_arg1)) (m ((c.tc : Thread Cert.KernelAdamwMlpW1Ideal.nD Cert.KernelAdamwMlpW1Ideal.τ).loc Cert.KernelAdamwMlpW1Ideal.main_arg2)) (m ((c.tc : Thread Cert.KernelAdamwMlpW1Ideal.nD Cert.KernelAdamwMlpW1Ideal.τ).loc Cert.KernelAdamwMlpW1Ideal.main_arg3)), ?_, ?_⟩
  · exact (θ_run Cert.KernelAdamwMlpW1Ideal.defs _ _).mono (fun _ h c => ⟨(h c).1.trans (Cert.KernelAdamwMlpW1Ideal.Value.final_grad m c),
        (h c).2.1.trans (Cert.KernelAdamwMlpW1Ideal.Value.final_delta m c),
        (h c).2.2.1.trans (Cert.KernelAdamwMlpW1Ideal.Value.final_mom m c),
        (h c).2.2.2.1.trans (Cert.KernelAdamwMlpW1Ideal.Value.final_var m c), (h c).2.2.2.2⟩)
      (Cert.KernelAdamwMlpW1Ideal.Value.run_blocks (F := Ideal) m g)
  · refine (θ_run Cert.ReferenceAdamwMlpW1Ideal.defs _ _).mono (fun _ h c => ⟨(h c).1.trans ((Cert.ReferenceAdamwMlpW1Ideal.Value.value_grad (m' ((c.tc : Thread Cert.ReferenceAdamwMlpW1Ideal.nD Cert.ReferenceAdamwMlpW1Ideal.τ).loc Cert.ReferenceAdamwMlpW1Ideal.main_arg0)) (m' ((c.tc : Thread Cert.ReferenceAdamwMlpW1Ideal.nD Cert.ReferenceAdamwMlpW1Ideal.τ).loc Cert.ReferenceAdamwMlpW1Ideal.main_arg1)) (m' ((c.tc : Thread Cert.ReferenceAdamwMlpW1Ideal.nD Cert.ReferenceAdamwMlpW1Ideal.τ).loc Cert.ReferenceAdamwMlpW1Ideal.main_arg2)) (m' ((c.tc : Thread Cert.ReferenceAdamwMlpW1Ideal.nD Cert.ReferenceAdamwMlpW1Ideal.τ).loc Cert.ReferenceAdamwMlpW1Ideal.main_arg3))).trans ?_),
        (h c).2.1.trans ((Cert.ReferenceAdamwMlpW1Ideal.Value.value_delta (m' ((c.tc : Thread Cert.ReferenceAdamwMlpW1Ideal.nD Cert.ReferenceAdamwMlpW1Ideal.τ).loc Cert.ReferenceAdamwMlpW1Ideal.main_arg0)) (m' ((c.tc : Thread Cert.ReferenceAdamwMlpW1Ideal.nD Cert.ReferenceAdamwMlpW1Ideal.τ).loc Cert.ReferenceAdamwMlpW1Ideal.main_arg1)) (m' ((c.tc : Thread Cert.ReferenceAdamwMlpW1Ideal.nD Cert.ReferenceAdamwMlpW1Ideal.τ).loc Cert.ReferenceAdamwMlpW1Ideal.main_arg2)) (m' ((c.tc : Thread Cert.ReferenceAdamwMlpW1Ideal.nD Cert.ReferenceAdamwMlpW1Ideal.τ).loc Cert.ReferenceAdamwMlpW1Ideal.main_arg3))).trans ?_),
        (h c).2.2.1.trans ((Cert.ReferenceAdamwMlpW1Ideal.Value.value_mom (m' ((c.tc : Thread Cert.ReferenceAdamwMlpW1Ideal.nD Cert.ReferenceAdamwMlpW1Ideal.τ).loc Cert.ReferenceAdamwMlpW1Ideal.main_arg0)) (m' ((c.tc : Thread Cert.ReferenceAdamwMlpW1Ideal.nD Cert.ReferenceAdamwMlpW1Ideal.τ).loc Cert.ReferenceAdamwMlpW1Ideal.main_arg1)) (m' ((c.tc : Thread Cert.ReferenceAdamwMlpW1Ideal.nD Cert.ReferenceAdamwMlpW1Ideal.τ).loc Cert.ReferenceAdamwMlpW1Ideal.main_arg2)) (m' ((c.tc : Thread Cert.ReferenceAdamwMlpW1Ideal.nD Cert.ReferenceAdamwMlpW1Ideal.τ).loc Cert.ReferenceAdamwMlpW1Ideal.main_arg3))).trans ?_),
        (h c).2.2.2.1.trans ((Cert.ReferenceAdamwMlpW1Ideal.Value.value_var (m' ((c.tc : Thread Cert.ReferenceAdamwMlpW1Ideal.nD Cert.ReferenceAdamwMlpW1Ideal.τ).loc Cert.ReferenceAdamwMlpW1Ideal.main_arg0)) (m' ((c.tc : Thread Cert.ReferenceAdamwMlpW1Ideal.nD Cert.ReferenceAdamwMlpW1Ideal.τ).loc Cert.ReferenceAdamwMlpW1Ideal.main_arg1)) (m' ((c.tc : Thread Cert.ReferenceAdamwMlpW1Ideal.nD Cert.ReferenceAdamwMlpW1Ideal.τ).loc Cert.ReferenceAdamwMlpW1Ideal.main_arg2)) (m' ((c.tc : Thread Cert.ReferenceAdamwMlpW1Ideal.nD Cert.ReferenceAdamwMlpW1Ideal.τ).loc Cert.ReferenceAdamwMlpW1Ideal.main_arg3))).trans ?_), (h c).2.2.2.2⟩)
      (Cert.ReferenceAdamwMlpW1Ideal.Value.run (F := Ideal) m' g')
    all_goals rw [(args c).1, (args c).2.1, (args c).2.2.1, (args c).2.2.2]

/-- The reference `AdamwMlpW2`'s frame: its run, read at its arguments; it declares no semaphore. -/
theorem frameAdamwMlpW2 : Cert.quiescent_ReferenceAdamwMlpW2Ideal (hReferenceAdamwMlpW2Ideal := Cert.ReferenceAdamwMlpW2Ideal.Gen.facts) := fun m ρ _ =>
  (θ_run Cert.ReferenceAdamwMlpW2Ideal.defs _ _).mono (fun r h => ⟨fun c => (h c).2.2.2.2, Idealize.ShloMosaic.sem_eq_zero_of_no_sems (by decide) r.2⟩)
    (Cert.ReferenceAdamwMlpW2Ideal.Value.run (F := Ideal) m ρ)

/-- The kernel `AdamwMlpW2` and its reference return the same arrays. -/
theorem algebraicAdamwMlpW2 : Cert.algebraic_KernelAdamwMlpW2Ideal_ReferenceAdamwMlpW2Ideal (hKernelAdamwMlpW2Ideal := Cert.KernelAdamwMlpW2Ideal.Gen.facts)
    (hReferenceAdamwMlpW2Ideal := Cert.ReferenceAdamwMlpW2Ideal.Gen.facts) := by
  intro m g m' g' _ args
  refine ⟨fun c => Cert.KernelAdamwMlpW2Ideal.Value.grad (m ((c.tc : Thread Cert.KernelAdamwMlpW2Ideal.nD Cert.KernelAdamwMlpW2Ideal.τ).loc Cert.KernelAdamwMlpW2Ideal.main_arg0)) (m ((c.tc : Thread Cert.KernelAdamwMlpW2Ideal.nD Cert.KernelAdamwMlpW2Ideal.τ).loc Cert.KernelAdamwMlpW2Ideal.main_arg1)) (m ((c.tc : Thread Cert.KernelAdamwMlpW2Ideal.nD Cert.KernelAdamwMlpW2Ideal.τ).loc Cert.KernelAdamwMlpW2Ideal.main_arg2)) (m ((c.tc : Thread Cert.KernelAdamwMlpW2Ideal.nD Cert.KernelAdamwMlpW2Ideal.τ).loc Cert.KernelAdamwMlpW2Ideal.main_arg3)),
    fun c => Cert.KernelAdamwMlpW2Ideal.Value.delta (m ((c.tc : Thread Cert.KernelAdamwMlpW2Ideal.nD Cert.KernelAdamwMlpW2Ideal.τ).loc Cert.KernelAdamwMlpW2Ideal.main_arg0)) (m ((c.tc : Thread Cert.KernelAdamwMlpW2Ideal.nD Cert.KernelAdamwMlpW2Ideal.τ).loc Cert.KernelAdamwMlpW2Ideal.main_arg1)) (m ((c.tc : Thread Cert.KernelAdamwMlpW2Ideal.nD Cert.KernelAdamwMlpW2Ideal.τ).loc Cert.KernelAdamwMlpW2Ideal.main_arg2)) (m ((c.tc : Thread Cert.KernelAdamwMlpW2Ideal.nD Cert.KernelAdamwMlpW2Ideal.τ).loc Cert.KernelAdamwMlpW2Ideal.main_arg3)),
    fun c => Cert.KernelAdamwMlpW2Ideal.Value.mom (m ((c.tc : Thread Cert.KernelAdamwMlpW2Ideal.nD Cert.KernelAdamwMlpW2Ideal.τ).loc Cert.KernelAdamwMlpW2Ideal.main_arg0)) (m ((c.tc : Thread Cert.KernelAdamwMlpW2Ideal.nD Cert.KernelAdamwMlpW2Ideal.τ).loc Cert.KernelAdamwMlpW2Ideal.main_arg1)) (m ((c.tc : Thread Cert.KernelAdamwMlpW2Ideal.nD Cert.KernelAdamwMlpW2Ideal.τ).loc Cert.KernelAdamwMlpW2Ideal.main_arg2)) (m ((c.tc : Thread Cert.KernelAdamwMlpW2Ideal.nD Cert.KernelAdamwMlpW2Ideal.τ).loc Cert.KernelAdamwMlpW2Ideal.main_arg3)),
    fun c => Cert.KernelAdamwMlpW2Ideal.Value.var (m ((c.tc : Thread Cert.KernelAdamwMlpW2Ideal.nD Cert.KernelAdamwMlpW2Ideal.τ).loc Cert.KernelAdamwMlpW2Ideal.main_arg0)) (m ((c.tc : Thread Cert.KernelAdamwMlpW2Ideal.nD Cert.KernelAdamwMlpW2Ideal.τ).loc Cert.KernelAdamwMlpW2Ideal.main_arg1)) (m ((c.tc : Thread Cert.KernelAdamwMlpW2Ideal.nD Cert.KernelAdamwMlpW2Ideal.τ).loc Cert.KernelAdamwMlpW2Ideal.main_arg2)) (m ((c.tc : Thread Cert.KernelAdamwMlpW2Ideal.nD Cert.KernelAdamwMlpW2Ideal.τ).loc Cert.KernelAdamwMlpW2Ideal.main_arg3)), ?_, ?_⟩
  · exact (θ_run Cert.KernelAdamwMlpW2Ideal.defs _ _).mono (fun _ h c => ⟨(h c).1.trans (Cert.KernelAdamwMlpW2Ideal.Value.final_grad m c),
        (h c).2.1.trans (Cert.KernelAdamwMlpW2Ideal.Value.final_delta m c),
        (h c).2.2.1.trans (Cert.KernelAdamwMlpW2Ideal.Value.final_mom m c),
        (h c).2.2.2.1.trans (Cert.KernelAdamwMlpW2Ideal.Value.final_var m c), (h c).2.2.2.2⟩)
      (Cert.KernelAdamwMlpW2Ideal.Value.run_blocks (F := Ideal) m g)
  · refine (θ_run Cert.ReferenceAdamwMlpW2Ideal.defs _ _).mono (fun _ h c => ⟨(h c).1.trans ((Cert.ReferenceAdamwMlpW2Ideal.Value.value_grad (m' ((c.tc : Thread Cert.ReferenceAdamwMlpW2Ideal.nD Cert.ReferenceAdamwMlpW2Ideal.τ).loc Cert.ReferenceAdamwMlpW2Ideal.main_arg0)) (m' ((c.tc : Thread Cert.ReferenceAdamwMlpW2Ideal.nD Cert.ReferenceAdamwMlpW2Ideal.τ).loc Cert.ReferenceAdamwMlpW2Ideal.main_arg1)) (m' ((c.tc : Thread Cert.ReferenceAdamwMlpW2Ideal.nD Cert.ReferenceAdamwMlpW2Ideal.τ).loc Cert.ReferenceAdamwMlpW2Ideal.main_arg2)) (m' ((c.tc : Thread Cert.ReferenceAdamwMlpW2Ideal.nD Cert.ReferenceAdamwMlpW2Ideal.τ).loc Cert.ReferenceAdamwMlpW2Ideal.main_arg3))).trans ?_),
        (h c).2.1.trans ((Cert.ReferenceAdamwMlpW2Ideal.Value.value_delta (m' ((c.tc : Thread Cert.ReferenceAdamwMlpW2Ideal.nD Cert.ReferenceAdamwMlpW2Ideal.τ).loc Cert.ReferenceAdamwMlpW2Ideal.main_arg0)) (m' ((c.tc : Thread Cert.ReferenceAdamwMlpW2Ideal.nD Cert.ReferenceAdamwMlpW2Ideal.τ).loc Cert.ReferenceAdamwMlpW2Ideal.main_arg1)) (m' ((c.tc : Thread Cert.ReferenceAdamwMlpW2Ideal.nD Cert.ReferenceAdamwMlpW2Ideal.τ).loc Cert.ReferenceAdamwMlpW2Ideal.main_arg2)) (m' ((c.tc : Thread Cert.ReferenceAdamwMlpW2Ideal.nD Cert.ReferenceAdamwMlpW2Ideal.τ).loc Cert.ReferenceAdamwMlpW2Ideal.main_arg3))).trans ?_),
        (h c).2.2.1.trans ((Cert.ReferenceAdamwMlpW2Ideal.Value.value_mom (m' ((c.tc : Thread Cert.ReferenceAdamwMlpW2Ideal.nD Cert.ReferenceAdamwMlpW2Ideal.τ).loc Cert.ReferenceAdamwMlpW2Ideal.main_arg0)) (m' ((c.tc : Thread Cert.ReferenceAdamwMlpW2Ideal.nD Cert.ReferenceAdamwMlpW2Ideal.τ).loc Cert.ReferenceAdamwMlpW2Ideal.main_arg1)) (m' ((c.tc : Thread Cert.ReferenceAdamwMlpW2Ideal.nD Cert.ReferenceAdamwMlpW2Ideal.τ).loc Cert.ReferenceAdamwMlpW2Ideal.main_arg2)) (m' ((c.tc : Thread Cert.ReferenceAdamwMlpW2Ideal.nD Cert.ReferenceAdamwMlpW2Ideal.τ).loc Cert.ReferenceAdamwMlpW2Ideal.main_arg3))).trans ?_),
        (h c).2.2.2.1.trans ((Cert.ReferenceAdamwMlpW2Ideal.Value.value_var (m' ((c.tc : Thread Cert.ReferenceAdamwMlpW2Ideal.nD Cert.ReferenceAdamwMlpW2Ideal.τ).loc Cert.ReferenceAdamwMlpW2Ideal.main_arg0)) (m' ((c.tc : Thread Cert.ReferenceAdamwMlpW2Ideal.nD Cert.ReferenceAdamwMlpW2Ideal.τ).loc Cert.ReferenceAdamwMlpW2Ideal.main_arg1)) (m' ((c.tc : Thread Cert.ReferenceAdamwMlpW2Ideal.nD Cert.ReferenceAdamwMlpW2Ideal.τ).loc Cert.ReferenceAdamwMlpW2Ideal.main_arg2)) (m' ((c.tc : Thread Cert.ReferenceAdamwMlpW2Ideal.nD Cert.ReferenceAdamwMlpW2Ideal.τ).loc Cert.ReferenceAdamwMlpW2Ideal.main_arg3))).trans ?_), (h c).2.2.2.2⟩)
      (Cert.ReferenceAdamwMlpW2Ideal.Value.run (F := Ideal) m' g')
    all_goals rw [(args c).1, (args c).2.1, (args c).2.2.1, (args c).2.2.2]

/-- The reference `AdamwAWOut`'s frame: its run, read at its arguments; it declares no semaphore. -/
theorem frameAdamwAWOut : Cert.quiescent_ReferenceAdamwAWOutIdeal (hReferenceAdamwAWOutIdeal := Cert.ReferenceAdamwAWOutIdeal.Gen.facts) := fun m ρ _ =>
  (θ_run Cert.ReferenceAdamwAWOutIdeal.defs _ _).mono (fun r h => ⟨fun c => (h c).2.2.2.2, Idealize.ShloMosaic.sem_eq_zero_of_no_sems (by decide) r.2⟩)
    (Cert.ReferenceAdamwAWOutIdeal.Value.run (F := Ideal) m ρ)

/-- The kernel `AdamwAWOut` and its reference return the same arrays. -/
theorem algebraicAdamwAWOut : Cert.algebraic_KernelAdamwAWOutIdeal_ReferenceAdamwAWOutIdeal (hKernelAdamwAWOutIdeal := Cert.KernelAdamwAWOutIdeal.Gen.facts)
    (hReferenceAdamwAWOutIdeal := Cert.ReferenceAdamwAWOutIdeal.Gen.facts) := by
  intro m g m' g' _ args
  refine ⟨fun c => Cert.KernelAdamwAWOutIdeal.Value.grad (m ((c.tc : Thread Cert.KernelAdamwAWOutIdeal.nD Cert.KernelAdamwAWOutIdeal.τ).loc Cert.KernelAdamwAWOutIdeal.main_arg0)) (m ((c.tc : Thread Cert.KernelAdamwAWOutIdeal.nD Cert.KernelAdamwAWOutIdeal.τ).loc Cert.KernelAdamwAWOutIdeal.main_arg1)) (m ((c.tc : Thread Cert.KernelAdamwAWOutIdeal.nD Cert.KernelAdamwAWOutIdeal.τ).loc Cert.KernelAdamwAWOutIdeal.main_arg2)) (m ((c.tc : Thread Cert.KernelAdamwAWOutIdeal.nD Cert.KernelAdamwAWOutIdeal.τ).loc Cert.KernelAdamwAWOutIdeal.main_arg3)),
    fun c => Cert.KernelAdamwAWOutIdeal.Value.delta (m ((c.tc : Thread Cert.KernelAdamwAWOutIdeal.nD Cert.KernelAdamwAWOutIdeal.τ).loc Cert.KernelAdamwAWOutIdeal.main_arg0)) (m ((c.tc : Thread Cert.KernelAdamwAWOutIdeal.nD Cert.KernelAdamwAWOutIdeal.τ).loc Cert.KernelAdamwAWOutIdeal.main_arg1)) (m ((c.tc : Thread Cert.KernelAdamwAWOutIdeal.nD Cert.KernelAdamwAWOutIdeal.τ).loc Cert.KernelAdamwAWOutIdeal.main_arg2)) (m ((c.tc : Thread Cert.KernelAdamwAWOutIdeal.nD Cert.KernelAdamwAWOutIdeal.τ).loc Cert.KernelAdamwAWOutIdeal.main_arg3)),
    fun c => Cert.KernelAdamwAWOutIdeal.Value.mom (m ((c.tc : Thread Cert.KernelAdamwAWOutIdeal.nD Cert.KernelAdamwAWOutIdeal.τ).loc Cert.KernelAdamwAWOutIdeal.main_arg0)) (m ((c.tc : Thread Cert.KernelAdamwAWOutIdeal.nD Cert.KernelAdamwAWOutIdeal.τ).loc Cert.KernelAdamwAWOutIdeal.main_arg1)) (m ((c.tc : Thread Cert.KernelAdamwAWOutIdeal.nD Cert.KernelAdamwAWOutIdeal.τ).loc Cert.KernelAdamwAWOutIdeal.main_arg2)) (m ((c.tc : Thread Cert.KernelAdamwAWOutIdeal.nD Cert.KernelAdamwAWOutIdeal.τ).loc Cert.KernelAdamwAWOutIdeal.main_arg3)),
    fun c => Cert.KernelAdamwAWOutIdeal.Value.var (m ((c.tc : Thread Cert.KernelAdamwAWOutIdeal.nD Cert.KernelAdamwAWOutIdeal.τ).loc Cert.KernelAdamwAWOutIdeal.main_arg0)) (m ((c.tc : Thread Cert.KernelAdamwAWOutIdeal.nD Cert.KernelAdamwAWOutIdeal.τ).loc Cert.KernelAdamwAWOutIdeal.main_arg1)) (m ((c.tc : Thread Cert.KernelAdamwAWOutIdeal.nD Cert.KernelAdamwAWOutIdeal.τ).loc Cert.KernelAdamwAWOutIdeal.main_arg2)) (m ((c.tc : Thread Cert.KernelAdamwAWOutIdeal.nD Cert.KernelAdamwAWOutIdeal.τ).loc Cert.KernelAdamwAWOutIdeal.main_arg3)), ?_, ?_⟩
  · exact (θ_run Cert.KernelAdamwAWOutIdeal.defs _ _).mono (fun _ h c => ⟨(h c).1.trans (Cert.KernelAdamwAWOutIdeal.Value.final_grad m c),
        (h c).2.1.trans (Cert.KernelAdamwAWOutIdeal.Value.final_delta m c),
        (h c).2.2.1.trans (Cert.KernelAdamwAWOutIdeal.Value.final_mom m c),
        (h c).2.2.2.1.trans (Cert.KernelAdamwAWOutIdeal.Value.final_var m c), (h c).2.2.2.2⟩)
      (Cert.KernelAdamwAWOutIdeal.Value.run_blocks (F := Ideal) m g)
  · refine (θ_run Cert.ReferenceAdamwAWOutIdeal.defs _ _).mono (fun _ h c => ⟨(h c).1.trans ((Cert.ReferenceAdamwAWOutIdeal.Value.value_grad (m' ((c.tc : Thread Cert.ReferenceAdamwAWOutIdeal.nD Cert.ReferenceAdamwAWOutIdeal.τ).loc Cert.ReferenceAdamwAWOutIdeal.main_arg0)) (m' ((c.tc : Thread Cert.ReferenceAdamwAWOutIdeal.nD Cert.ReferenceAdamwAWOutIdeal.τ).loc Cert.ReferenceAdamwAWOutIdeal.main_arg1)) (m' ((c.tc : Thread Cert.ReferenceAdamwAWOutIdeal.nD Cert.ReferenceAdamwAWOutIdeal.τ).loc Cert.ReferenceAdamwAWOutIdeal.main_arg2)) (m' ((c.tc : Thread Cert.ReferenceAdamwAWOutIdeal.nD Cert.ReferenceAdamwAWOutIdeal.τ).loc Cert.ReferenceAdamwAWOutIdeal.main_arg3))).trans ?_),
        (h c).2.1.trans ((Cert.ReferenceAdamwAWOutIdeal.Value.value_delta (m' ((c.tc : Thread Cert.ReferenceAdamwAWOutIdeal.nD Cert.ReferenceAdamwAWOutIdeal.τ).loc Cert.ReferenceAdamwAWOutIdeal.main_arg0)) (m' ((c.tc : Thread Cert.ReferenceAdamwAWOutIdeal.nD Cert.ReferenceAdamwAWOutIdeal.τ).loc Cert.ReferenceAdamwAWOutIdeal.main_arg1)) (m' ((c.tc : Thread Cert.ReferenceAdamwAWOutIdeal.nD Cert.ReferenceAdamwAWOutIdeal.τ).loc Cert.ReferenceAdamwAWOutIdeal.main_arg2)) (m' ((c.tc : Thread Cert.ReferenceAdamwAWOutIdeal.nD Cert.ReferenceAdamwAWOutIdeal.τ).loc Cert.ReferenceAdamwAWOutIdeal.main_arg3))).trans ?_),
        (h c).2.2.1.trans ((Cert.ReferenceAdamwAWOutIdeal.Value.value_mom (m' ((c.tc : Thread Cert.ReferenceAdamwAWOutIdeal.nD Cert.ReferenceAdamwAWOutIdeal.τ).loc Cert.ReferenceAdamwAWOutIdeal.main_arg0)) (m' ((c.tc : Thread Cert.ReferenceAdamwAWOutIdeal.nD Cert.ReferenceAdamwAWOutIdeal.τ).loc Cert.ReferenceAdamwAWOutIdeal.main_arg1)) (m' ((c.tc : Thread Cert.ReferenceAdamwAWOutIdeal.nD Cert.ReferenceAdamwAWOutIdeal.τ).loc Cert.ReferenceAdamwAWOutIdeal.main_arg2)) (m' ((c.tc : Thread Cert.ReferenceAdamwAWOutIdeal.nD Cert.ReferenceAdamwAWOutIdeal.τ).loc Cert.ReferenceAdamwAWOutIdeal.main_arg3))).trans ?_),
        (h c).2.2.2.1.trans ((Cert.ReferenceAdamwAWOutIdeal.Value.value_var (m' ((c.tc : Thread Cert.ReferenceAdamwAWOutIdeal.nD Cert.ReferenceAdamwAWOutIdeal.τ).loc Cert.ReferenceAdamwAWOutIdeal.main_arg0)) (m' ((c.tc : Thread Cert.ReferenceAdamwAWOutIdeal.nD Cert.ReferenceAdamwAWOutIdeal.τ).loc Cert.ReferenceAdamwAWOutIdeal.main_arg1)) (m' ((c.tc : Thread Cert.ReferenceAdamwAWOutIdeal.nD Cert.ReferenceAdamwAWOutIdeal.τ).loc Cert.ReferenceAdamwAWOutIdeal.main_arg2)) (m' ((c.tc : Thread Cert.ReferenceAdamwAWOutIdeal.nD Cert.ReferenceAdamwAWOutIdeal.τ).loc Cert.ReferenceAdamwAWOutIdeal.main_arg3))).trans ?_), (h c).2.2.2.2⟩)
      (Cert.ReferenceAdamwAWOutIdeal.Value.run (F := Ideal) m' g')
    all_goals rw [(args c).1, (args c).2.1, (args c).2.2.1, (args c).2.2.2]

/-- The reference `AdamwBWOut`'s frame: its run, read at its arguments; it declares no semaphore. -/
theorem frameAdamwBWOut : Cert.quiescent_ReferenceAdamwBWOutIdeal (hReferenceAdamwBWOutIdeal := Cert.ReferenceAdamwBWOutIdeal.Gen.facts) := fun m ρ _ =>
  (θ_run Cert.ReferenceAdamwBWOutIdeal.defs _ _).mono (fun r h => ⟨fun c => (h c).2.2.2.2, Idealize.ShloMosaic.sem_eq_zero_of_no_sems (by decide) r.2⟩)
    (Cert.ReferenceAdamwBWOutIdeal.Value.run (F := Ideal) m ρ)

/-- The kernel `AdamwBWOut` and its reference return the same arrays. -/
theorem algebraicAdamwBWOut : Cert.algebraic_KernelAdamwBWOutIdeal_ReferenceAdamwBWOutIdeal (hKernelAdamwBWOutIdeal := Cert.KernelAdamwBWOutIdeal.Gen.facts)
    (hReferenceAdamwBWOutIdeal := Cert.ReferenceAdamwBWOutIdeal.Gen.facts) := by
  intro m g m' g' _ args
  refine ⟨fun c => Cert.KernelAdamwBWOutIdeal.Value.grad (m ((c.tc : Thread Cert.KernelAdamwBWOutIdeal.nD Cert.KernelAdamwBWOutIdeal.τ).loc Cert.KernelAdamwBWOutIdeal.main_arg0)) (m ((c.tc : Thread Cert.KernelAdamwBWOutIdeal.nD Cert.KernelAdamwBWOutIdeal.τ).loc Cert.KernelAdamwBWOutIdeal.main_arg1)) (m ((c.tc : Thread Cert.KernelAdamwBWOutIdeal.nD Cert.KernelAdamwBWOutIdeal.τ).loc Cert.KernelAdamwBWOutIdeal.main_arg2)) (m ((c.tc : Thread Cert.KernelAdamwBWOutIdeal.nD Cert.KernelAdamwBWOutIdeal.τ).loc Cert.KernelAdamwBWOutIdeal.main_arg3)),
    fun c => Cert.KernelAdamwBWOutIdeal.Value.delta (m ((c.tc : Thread Cert.KernelAdamwBWOutIdeal.nD Cert.KernelAdamwBWOutIdeal.τ).loc Cert.KernelAdamwBWOutIdeal.main_arg0)) (m ((c.tc : Thread Cert.KernelAdamwBWOutIdeal.nD Cert.KernelAdamwBWOutIdeal.τ).loc Cert.KernelAdamwBWOutIdeal.main_arg1)) (m ((c.tc : Thread Cert.KernelAdamwBWOutIdeal.nD Cert.KernelAdamwBWOutIdeal.τ).loc Cert.KernelAdamwBWOutIdeal.main_arg2)) (m ((c.tc : Thread Cert.KernelAdamwBWOutIdeal.nD Cert.KernelAdamwBWOutIdeal.τ).loc Cert.KernelAdamwBWOutIdeal.main_arg3)),
    fun c => Cert.KernelAdamwBWOutIdeal.Value.mom (m ((c.tc : Thread Cert.KernelAdamwBWOutIdeal.nD Cert.KernelAdamwBWOutIdeal.τ).loc Cert.KernelAdamwBWOutIdeal.main_arg0)) (m ((c.tc : Thread Cert.KernelAdamwBWOutIdeal.nD Cert.KernelAdamwBWOutIdeal.τ).loc Cert.KernelAdamwBWOutIdeal.main_arg1)) (m ((c.tc : Thread Cert.KernelAdamwBWOutIdeal.nD Cert.KernelAdamwBWOutIdeal.τ).loc Cert.KernelAdamwBWOutIdeal.main_arg2)) (m ((c.tc : Thread Cert.KernelAdamwBWOutIdeal.nD Cert.KernelAdamwBWOutIdeal.τ).loc Cert.KernelAdamwBWOutIdeal.main_arg3)),
    fun c => Cert.KernelAdamwBWOutIdeal.Value.var (m ((c.tc : Thread Cert.KernelAdamwBWOutIdeal.nD Cert.KernelAdamwBWOutIdeal.τ).loc Cert.KernelAdamwBWOutIdeal.main_arg0)) (m ((c.tc : Thread Cert.KernelAdamwBWOutIdeal.nD Cert.KernelAdamwBWOutIdeal.τ).loc Cert.KernelAdamwBWOutIdeal.main_arg1)) (m ((c.tc : Thread Cert.KernelAdamwBWOutIdeal.nD Cert.KernelAdamwBWOutIdeal.τ).loc Cert.KernelAdamwBWOutIdeal.main_arg2)) (m ((c.tc : Thread Cert.KernelAdamwBWOutIdeal.nD Cert.KernelAdamwBWOutIdeal.τ).loc Cert.KernelAdamwBWOutIdeal.main_arg3)), ?_, ?_⟩
  · exact (θ_run Cert.KernelAdamwBWOutIdeal.defs _ _).mono (fun _ h c => ⟨(h c).1.trans (Cert.KernelAdamwBWOutIdeal.Value.final_grad m c),
        (h c).2.1.trans (Cert.KernelAdamwBWOutIdeal.Value.final_delta m c),
        (h c).2.2.1.trans (Cert.KernelAdamwBWOutIdeal.Value.final_mom m c),
        (h c).2.2.2.1.trans (Cert.KernelAdamwBWOutIdeal.Value.final_var m c), (h c).2.2.2.2⟩)
      (Cert.KernelAdamwBWOutIdeal.Value.run_blocks (F := Ideal) m g)
  · refine (θ_run Cert.ReferenceAdamwBWOutIdeal.defs _ _).mono (fun _ h c => ⟨(h c).1.trans ((Cert.ReferenceAdamwBWOutIdeal.Value.value_grad (m' ((c.tc : Thread Cert.ReferenceAdamwBWOutIdeal.nD Cert.ReferenceAdamwBWOutIdeal.τ).loc Cert.ReferenceAdamwBWOutIdeal.main_arg0)) (m' ((c.tc : Thread Cert.ReferenceAdamwBWOutIdeal.nD Cert.ReferenceAdamwBWOutIdeal.τ).loc Cert.ReferenceAdamwBWOutIdeal.main_arg1)) (m' ((c.tc : Thread Cert.ReferenceAdamwBWOutIdeal.nD Cert.ReferenceAdamwBWOutIdeal.τ).loc Cert.ReferenceAdamwBWOutIdeal.main_arg2)) (m' ((c.tc : Thread Cert.ReferenceAdamwBWOutIdeal.nD Cert.ReferenceAdamwBWOutIdeal.τ).loc Cert.ReferenceAdamwBWOutIdeal.main_arg3))).trans ?_),
        (h c).2.1.trans ((Cert.ReferenceAdamwBWOutIdeal.Value.value_delta (m' ((c.tc : Thread Cert.ReferenceAdamwBWOutIdeal.nD Cert.ReferenceAdamwBWOutIdeal.τ).loc Cert.ReferenceAdamwBWOutIdeal.main_arg0)) (m' ((c.tc : Thread Cert.ReferenceAdamwBWOutIdeal.nD Cert.ReferenceAdamwBWOutIdeal.τ).loc Cert.ReferenceAdamwBWOutIdeal.main_arg1)) (m' ((c.tc : Thread Cert.ReferenceAdamwBWOutIdeal.nD Cert.ReferenceAdamwBWOutIdeal.τ).loc Cert.ReferenceAdamwBWOutIdeal.main_arg2)) (m' ((c.tc : Thread Cert.ReferenceAdamwBWOutIdeal.nD Cert.ReferenceAdamwBWOutIdeal.τ).loc Cert.ReferenceAdamwBWOutIdeal.main_arg3))).trans ?_),
        (h c).2.2.1.trans ((Cert.ReferenceAdamwBWOutIdeal.Value.value_mom (m' ((c.tc : Thread Cert.ReferenceAdamwBWOutIdeal.nD Cert.ReferenceAdamwBWOutIdeal.τ).loc Cert.ReferenceAdamwBWOutIdeal.main_arg0)) (m' ((c.tc : Thread Cert.ReferenceAdamwBWOutIdeal.nD Cert.ReferenceAdamwBWOutIdeal.τ).loc Cert.ReferenceAdamwBWOutIdeal.main_arg1)) (m' ((c.tc : Thread Cert.ReferenceAdamwBWOutIdeal.nD Cert.ReferenceAdamwBWOutIdeal.τ).loc Cert.ReferenceAdamwBWOutIdeal.main_arg2)) (m' ((c.tc : Thread Cert.ReferenceAdamwBWOutIdeal.nD Cert.ReferenceAdamwBWOutIdeal.τ).loc Cert.ReferenceAdamwBWOutIdeal.main_arg3))).trans ?_),
        (h c).2.2.2.1.trans ((Cert.ReferenceAdamwBWOutIdeal.Value.value_var (m' ((c.tc : Thread Cert.ReferenceAdamwBWOutIdeal.nD Cert.ReferenceAdamwBWOutIdeal.τ).loc Cert.ReferenceAdamwBWOutIdeal.main_arg0)) (m' ((c.tc : Thread Cert.ReferenceAdamwBWOutIdeal.nD Cert.ReferenceAdamwBWOutIdeal.τ).loc Cert.ReferenceAdamwBWOutIdeal.main_arg1)) (m' ((c.tc : Thread Cert.ReferenceAdamwBWOutIdeal.nD Cert.ReferenceAdamwBWOutIdeal.τ).loc Cert.ReferenceAdamwBWOutIdeal.main_arg2)) (m' ((c.tc : Thread Cert.ReferenceAdamwBWOutIdeal.nD Cert.ReferenceAdamwBWOutIdeal.τ).loc Cert.ReferenceAdamwBWOutIdeal.main_arg3))).trans ?_), (h c).2.2.2.2⟩)
      (Cert.ReferenceAdamwBWOutIdeal.Value.run (F := Ideal) m' g')
    all_goals rw [(args c).1, (args c).2.1, (args c).2.2.1, (args c).2.2.2]

/-- The reference `AdamwAWIn`'s frame: its run, read at its arguments; it declares no semaphore. -/
theorem frameAdamwAWIn : Cert.quiescent_ReferenceAdamwAWInIdeal (hReferenceAdamwAWInIdeal := Cert.ReferenceAdamwAWInIdeal.Gen.facts) := fun m ρ _ =>
  (θ_run Cert.ReferenceAdamwAWInIdeal.defs _ _).mono (fun r h => ⟨fun c => (h c).2.2.2.2, Idealize.ShloMosaic.sem_eq_zero_of_no_sems (by decide) r.2⟩)
    (Cert.ReferenceAdamwAWInIdeal.Value.run (F := Ideal) m ρ)

/-- The kernel `AdamwAWIn` and its reference return the same arrays. -/
theorem algebraicAdamwAWIn : Cert.algebraic_KernelAdamwAWInIdeal_ReferenceAdamwAWInIdeal (hKernelAdamwAWInIdeal := Cert.KernelAdamwAWInIdeal.Gen.facts)
    (hReferenceAdamwAWInIdeal := Cert.ReferenceAdamwAWInIdeal.Gen.facts) := by
  intro m g m' g' _ args
  refine ⟨fun c => Cert.KernelAdamwAWInIdeal.Value.grad (m ((c.tc : Thread Cert.KernelAdamwAWInIdeal.nD Cert.KernelAdamwAWInIdeal.τ).loc Cert.KernelAdamwAWInIdeal.main_arg0)) (m ((c.tc : Thread Cert.KernelAdamwAWInIdeal.nD Cert.KernelAdamwAWInIdeal.τ).loc Cert.KernelAdamwAWInIdeal.main_arg1)) (m ((c.tc : Thread Cert.KernelAdamwAWInIdeal.nD Cert.KernelAdamwAWInIdeal.τ).loc Cert.KernelAdamwAWInIdeal.main_arg2)) (m ((c.tc : Thread Cert.KernelAdamwAWInIdeal.nD Cert.KernelAdamwAWInIdeal.τ).loc Cert.KernelAdamwAWInIdeal.main_arg3)),
    fun c => Cert.KernelAdamwAWInIdeal.Value.delta (m ((c.tc : Thread Cert.KernelAdamwAWInIdeal.nD Cert.KernelAdamwAWInIdeal.τ).loc Cert.KernelAdamwAWInIdeal.main_arg0)) (m ((c.tc : Thread Cert.KernelAdamwAWInIdeal.nD Cert.KernelAdamwAWInIdeal.τ).loc Cert.KernelAdamwAWInIdeal.main_arg1)) (m ((c.tc : Thread Cert.KernelAdamwAWInIdeal.nD Cert.KernelAdamwAWInIdeal.τ).loc Cert.KernelAdamwAWInIdeal.main_arg2)) (m ((c.tc : Thread Cert.KernelAdamwAWInIdeal.nD Cert.KernelAdamwAWInIdeal.τ).loc Cert.KernelAdamwAWInIdeal.main_arg3)),
    fun c => Cert.KernelAdamwAWInIdeal.Value.mom (m ((c.tc : Thread Cert.KernelAdamwAWInIdeal.nD Cert.KernelAdamwAWInIdeal.τ).loc Cert.KernelAdamwAWInIdeal.main_arg0)) (m ((c.tc : Thread Cert.KernelAdamwAWInIdeal.nD Cert.KernelAdamwAWInIdeal.τ).loc Cert.KernelAdamwAWInIdeal.main_arg1)) (m ((c.tc : Thread Cert.KernelAdamwAWInIdeal.nD Cert.KernelAdamwAWInIdeal.τ).loc Cert.KernelAdamwAWInIdeal.main_arg2)) (m ((c.tc : Thread Cert.KernelAdamwAWInIdeal.nD Cert.KernelAdamwAWInIdeal.τ).loc Cert.KernelAdamwAWInIdeal.main_arg3)),
    fun c => Cert.KernelAdamwAWInIdeal.Value.var (m ((c.tc : Thread Cert.KernelAdamwAWInIdeal.nD Cert.KernelAdamwAWInIdeal.τ).loc Cert.KernelAdamwAWInIdeal.main_arg0)) (m ((c.tc : Thread Cert.KernelAdamwAWInIdeal.nD Cert.KernelAdamwAWInIdeal.τ).loc Cert.KernelAdamwAWInIdeal.main_arg1)) (m ((c.tc : Thread Cert.KernelAdamwAWInIdeal.nD Cert.KernelAdamwAWInIdeal.τ).loc Cert.KernelAdamwAWInIdeal.main_arg2)) (m ((c.tc : Thread Cert.KernelAdamwAWInIdeal.nD Cert.KernelAdamwAWInIdeal.τ).loc Cert.KernelAdamwAWInIdeal.main_arg3)), ?_, ?_⟩
  · exact (θ_run Cert.KernelAdamwAWInIdeal.defs _ _).mono (fun _ h c => ⟨(h c).1.trans (Cert.KernelAdamwAWInIdeal.Value.final_grad m c),
        (h c).2.1.trans (Cert.KernelAdamwAWInIdeal.Value.final_delta m c),
        (h c).2.2.1.trans (Cert.KernelAdamwAWInIdeal.Value.final_mom m c),
        (h c).2.2.2.1.trans (Cert.KernelAdamwAWInIdeal.Value.final_var m c), (h c).2.2.2.2⟩)
      (Cert.KernelAdamwAWInIdeal.Value.run_blocks (F := Ideal) m g)
  · refine (θ_run Cert.ReferenceAdamwAWInIdeal.defs _ _).mono (fun _ h c => ⟨(h c).1.trans ((Cert.ReferenceAdamwAWInIdeal.Value.value_grad (m' ((c.tc : Thread Cert.ReferenceAdamwAWInIdeal.nD Cert.ReferenceAdamwAWInIdeal.τ).loc Cert.ReferenceAdamwAWInIdeal.main_arg0)) (m' ((c.tc : Thread Cert.ReferenceAdamwAWInIdeal.nD Cert.ReferenceAdamwAWInIdeal.τ).loc Cert.ReferenceAdamwAWInIdeal.main_arg1)) (m' ((c.tc : Thread Cert.ReferenceAdamwAWInIdeal.nD Cert.ReferenceAdamwAWInIdeal.τ).loc Cert.ReferenceAdamwAWInIdeal.main_arg2)) (m' ((c.tc : Thread Cert.ReferenceAdamwAWInIdeal.nD Cert.ReferenceAdamwAWInIdeal.τ).loc Cert.ReferenceAdamwAWInIdeal.main_arg3))).trans ?_),
        (h c).2.1.trans ((Cert.ReferenceAdamwAWInIdeal.Value.value_delta (m' ((c.tc : Thread Cert.ReferenceAdamwAWInIdeal.nD Cert.ReferenceAdamwAWInIdeal.τ).loc Cert.ReferenceAdamwAWInIdeal.main_arg0)) (m' ((c.tc : Thread Cert.ReferenceAdamwAWInIdeal.nD Cert.ReferenceAdamwAWInIdeal.τ).loc Cert.ReferenceAdamwAWInIdeal.main_arg1)) (m' ((c.tc : Thread Cert.ReferenceAdamwAWInIdeal.nD Cert.ReferenceAdamwAWInIdeal.τ).loc Cert.ReferenceAdamwAWInIdeal.main_arg2)) (m' ((c.tc : Thread Cert.ReferenceAdamwAWInIdeal.nD Cert.ReferenceAdamwAWInIdeal.τ).loc Cert.ReferenceAdamwAWInIdeal.main_arg3))).trans ?_),
        (h c).2.2.1.trans ((Cert.ReferenceAdamwAWInIdeal.Value.value_mom (m' ((c.tc : Thread Cert.ReferenceAdamwAWInIdeal.nD Cert.ReferenceAdamwAWInIdeal.τ).loc Cert.ReferenceAdamwAWInIdeal.main_arg0)) (m' ((c.tc : Thread Cert.ReferenceAdamwAWInIdeal.nD Cert.ReferenceAdamwAWInIdeal.τ).loc Cert.ReferenceAdamwAWInIdeal.main_arg1)) (m' ((c.tc : Thread Cert.ReferenceAdamwAWInIdeal.nD Cert.ReferenceAdamwAWInIdeal.τ).loc Cert.ReferenceAdamwAWInIdeal.main_arg2)) (m' ((c.tc : Thread Cert.ReferenceAdamwAWInIdeal.nD Cert.ReferenceAdamwAWInIdeal.τ).loc Cert.ReferenceAdamwAWInIdeal.main_arg3))).trans ?_),
        (h c).2.2.2.1.trans ((Cert.ReferenceAdamwAWInIdeal.Value.value_var (m' ((c.tc : Thread Cert.ReferenceAdamwAWInIdeal.nD Cert.ReferenceAdamwAWInIdeal.τ).loc Cert.ReferenceAdamwAWInIdeal.main_arg0)) (m' ((c.tc : Thread Cert.ReferenceAdamwAWInIdeal.nD Cert.ReferenceAdamwAWInIdeal.τ).loc Cert.ReferenceAdamwAWInIdeal.main_arg1)) (m' ((c.tc : Thread Cert.ReferenceAdamwAWInIdeal.nD Cert.ReferenceAdamwAWInIdeal.τ).loc Cert.ReferenceAdamwAWInIdeal.main_arg2)) (m' ((c.tc : Thread Cert.ReferenceAdamwAWInIdeal.nD Cert.ReferenceAdamwAWInIdeal.τ).loc Cert.ReferenceAdamwAWInIdeal.main_arg3))).trans ?_), (h c).2.2.2.2⟩)
      (Cert.ReferenceAdamwAWInIdeal.Value.run (F := Ideal) m' g')
    all_goals rw [(args c).1, (args c).2.1, (args c).2.2.1, (args c).2.2.2]

/-- The reference `AdamwBWIn`'s frame: its run, read at its arguments; it declares no semaphore. -/
theorem frameAdamwBWIn : Cert.quiescent_ReferenceAdamwBWInIdeal (hReferenceAdamwBWInIdeal := Cert.ReferenceAdamwBWInIdeal.Gen.facts) := fun m ρ _ =>
  (θ_run Cert.ReferenceAdamwBWInIdeal.defs _ _).mono (fun r h => ⟨fun c => (h c).2.2.2.2, Idealize.ShloMosaic.sem_eq_zero_of_no_sems (by decide) r.2⟩)
    (Cert.ReferenceAdamwBWInIdeal.Value.run (F := Ideal) m ρ)

/-- The kernel `AdamwBWIn` and its reference return the same arrays. -/
theorem algebraicAdamwBWIn : Cert.algebraic_KernelAdamwBWInIdeal_ReferenceAdamwBWInIdeal (hKernelAdamwBWInIdeal := Cert.KernelAdamwBWInIdeal.Gen.facts)
    (hReferenceAdamwBWInIdeal := Cert.ReferenceAdamwBWInIdeal.Gen.facts) := by
  intro m g m' g' _ args
  refine ⟨fun c => Cert.KernelAdamwBWInIdeal.Value.grad (m ((c.tc : Thread Cert.KernelAdamwBWInIdeal.nD Cert.KernelAdamwBWInIdeal.τ).loc Cert.KernelAdamwBWInIdeal.main_arg0)) (m ((c.tc : Thread Cert.KernelAdamwBWInIdeal.nD Cert.KernelAdamwBWInIdeal.τ).loc Cert.KernelAdamwBWInIdeal.main_arg1)) (m ((c.tc : Thread Cert.KernelAdamwBWInIdeal.nD Cert.KernelAdamwBWInIdeal.τ).loc Cert.KernelAdamwBWInIdeal.main_arg2)) (m ((c.tc : Thread Cert.KernelAdamwBWInIdeal.nD Cert.KernelAdamwBWInIdeal.τ).loc Cert.KernelAdamwBWInIdeal.main_arg3)),
    fun c => Cert.KernelAdamwBWInIdeal.Value.delta (m ((c.tc : Thread Cert.KernelAdamwBWInIdeal.nD Cert.KernelAdamwBWInIdeal.τ).loc Cert.KernelAdamwBWInIdeal.main_arg0)) (m ((c.tc : Thread Cert.KernelAdamwBWInIdeal.nD Cert.KernelAdamwBWInIdeal.τ).loc Cert.KernelAdamwBWInIdeal.main_arg1)) (m ((c.tc : Thread Cert.KernelAdamwBWInIdeal.nD Cert.KernelAdamwBWInIdeal.τ).loc Cert.KernelAdamwBWInIdeal.main_arg2)) (m ((c.tc : Thread Cert.KernelAdamwBWInIdeal.nD Cert.KernelAdamwBWInIdeal.τ).loc Cert.KernelAdamwBWInIdeal.main_arg3)),
    fun c => Cert.KernelAdamwBWInIdeal.Value.mom (m ((c.tc : Thread Cert.KernelAdamwBWInIdeal.nD Cert.KernelAdamwBWInIdeal.τ).loc Cert.KernelAdamwBWInIdeal.main_arg0)) (m ((c.tc : Thread Cert.KernelAdamwBWInIdeal.nD Cert.KernelAdamwBWInIdeal.τ).loc Cert.KernelAdamwBWInIdeal.main_arg1)) (m ((c.tc : Thread Cert.KernelAdamwBWInIdeal.nD Cert.KernelAdamwBWInIdeal.τ).loc Cert.KernelAdamwBWInIdeal.main_arg2)) (m ((c.tc : Thread Cert.KernelAdamwBWInIdeal.nD Cert.KernelAdamwBWInIdeal.τ).loc Cert.KernelAdamwBWInIdeal.main_arg3)),
    fun c => Cert.KernelAdamwBWInIdeal.Value.var (m ((c.tc : Thread Cert.KernelAdamwBWInIdeal.nD Cert.KernelAdamwBWInIdeal.τ).loc Cert.KernelAdamwBWInIdeal.main_arg0)) (m ((c.tc : Thread Cert.KernelAdamwBWInIdeal.nD Cert.KernelAdamwBWInIdeal.τ).loc Cert.KernelAdamwBWInIdeal.main_arg1)) (m ((c.tc : Thread Cert.KernelAdamwBWInIdeal.nD Cert.KernelAdamwBWInIdeal.τ).loc Cert.KernelAdamwBWInIdeal.main_arg2)) (m ((c.tc : Thread Cert.KernelAdamwBWInIdeal.nD Cert.KernelAdamwBWInIdeal.τ).loc Cert.KernelAdamwBWInIdeal.main_arg3)), ?_, ?_⟩
  · exact (θ_run Cert.KernelAdamwBWInIdeal.defs _ _).mono (fun _ h c => ⟨(h c).1.trans (Cert.KernelAdamwBWInIdeal.Value.final_grad m c),
        (h c).2.1.trans (Cert.KernelAdamwBWInIdeal.Value.final_delta m c),
        (h c).2.2.1.trans (Cert.KernelAdamwBWInIdeal.Value.final_mom m c),
        (h c).2.2.2.1.trans (Cert.KernelAdamwBWInIdeal.Value.final_var m c), (h c).2.2.2.2⟩)
      (Cert.KernelAdamwBWInIdeal.Value.run_blocks (F := Ideal) m g)
  · refine (θ_run Cert.ReferenceAdamwBWInIdeal.defs _ _).mono (fun _ h c => ⟨(h c).1.trans ((Cert.ReferenceAdamwBWInIdeal.Value.value_grad (m' ((c.tc : Thread Cert.ReferenceAdamwBWInIdeal.nD Cert.ReferenceAdamwBWInIdeal.τ).loc Cert.ReferenceAdamwBWInIdeal.main_arg0)) (m' ((c.tc : Thread Cert.ReferenceAdamwBWInIdeal.nD Cert.ReferenceAdamwBWInIdeal.τ).loc Cert.ReferenceAdamwBWInIdeal.main_arg1)) (m' ((c.tc : Thread Cert.ReferenceAdamwBWInIdeal.nD Cert.ReferenceAdamwBWInIdeal.τ).loc Cert.ReferenceAdamwBWInIdeal.main_arg2)) (m' ((c.tc : Thread Cert.ReferenceAdamwBWInIdeal.nD Cert.ReferenceAdamwBWInIdeal.τ).loc Cert.ReferenceAdamwBWInIdeal.main_arg3))).trans ?_),
        (h c).2.1.trans ((Cert.ReferenceAdamwBWInIdeal.Value.value_delta (m' ((c.tc : Thread Cert.ReferenceAdamwBWInIdeal.nD Cert.ReferenceAdamwBWInIdeal.τ).loc Cert.ReferenceAdamwBWInIdeal.main_arg0)) (m' ((c.tc : Thread Cert.ReferenceAdamwBWInIdeal.nD Cert.ReferenceAdamwBWInIdeal.τ).loc Cert.ReferenceAdamwBWInIdeal.main_arg1)) (m' ((c.tc : Thread Cert.ReferenceAdamwBWInIdeal.nD Cert.ReferenceAdamwBWInIdeal.τ).loc Cert.ReferenceAdamwBWInIdeal.main_arg2)) (m' ((c.tc : Thread Cert.ReferenceAdamwBWInIdeal.nD Cert.ReferenceAdamwBWInIdeal.τ).loc Cert.ReferenceAdamwBWInIdeal.main_arg3))).trans ?_),
        (h c).2.2.1.trans ((Cert.ReferenceAdamwBWInIdeal.Value.value_mom (m' ((c.tc : Thread Cert.ReferenceAdamwBWInIdeal.nD Cert.ReferenceAdamwBWInIdeal.τ).loc Cert.ReferenceAdamwBWInIdeal.main_arg0)) (m' ((c.tc : Thread Cert.ReferenceAdamwBWInIdeal.nD Cert.ReferenceAdamwBWInIdeal.τ).loc Cert.ReferenceAdamwBWInIdeal.main_arg1)) (m' ((c.tc : Thread Cert.ReferenceAdamwBWInIdeal.nD Cert.ReferenceAdamwBWInIdeal.τ).loc Cert.ReferenceAdamwBWInIdeal.main_arg2)) (m' ((c.tc : Thread Cert.ReferenceAdamwBWInIdeal.nD Cert.ReferenceAdamwBWInIdeal.τ).loc Cert.ReferenceAdamwBWInIdeal.main_arg3))).trans ?_),
        (h c).2.2.2.1.trans ((Cert.ReferenceAdamwBWInIdeal.Value.value_var (m' ((c.tc : Thread Cert.ReferenceAdamwBWInIdeal.nD Cert.ReferenceAdamwBWInIdeal.τ).loc Cert.ReferenceAdamwBWInIdeal.main_arg0)) (m' ((c.tc : Thread Cert.ReferenceAdamwBWInIdeal.nD Cert.ReferenceAdamwBWInIdeal.τ).loc Cert.ReferenceAdamwBWInIdeal.main_arg1)) (m' ((c.tc : Thread Cert.ReferenceAdamwBWInIdeal.nD Cert.ReferenceAdamwBWInIdeal.τ).loc Cert.ReferenceAdamwBWInIdeal.main_arg2)) (m' ((c.tc : Thread Cert.ReferenceAdamwBWInIdeal.nD Cert.ReferenceAdamwBWInIdeal.τ).loc Cert.ReferenceAdamwBWInIdeal.main_arg3))).trans ?_), (h c).2.2.2.2⟩)
      (Cert.ReferenceAdamwBWInIdeal.Value.run (F := Ideal) m' g')
    all_goals rw [(args c).1, (args c).2.1, (args c).2.2.1, (args c).2.2.2]

end Cert.Proof

end
-- ==== Proof.AdamwPack.lean ====
/- The small weights in rows of 128, one below the other, and a function of the elements taken through that layout. -/
module

public import proofs.«01_k».proof.Proof.Gen.KernelAdamwSmallIdeal.Frame
public import proofs.«01_k».proof.Proof.AdamwStep
public import Idealize.ShloMosaic.Lib.Pipeline.ValueKit

@[expose] public section

set_option maxRecDepth 16384

noncomputable section

namespace Cert.Adamw

open Idealize.ShloMosaic Cert.KernelAdamwSmallIdeal Cert.KernelAdamwSmallIdeal.Gen

/-- A concatenation of arrays through a function is the function of the concatenation, read at one position. -/
theorem concatenateAt_map {α β : Type} (φ : α → β) (t : Shape) (a : Fin t.rank) (j : t.Idx) :
    ∀ (xs : List ((s : Shape) × (s.Idx → α))) (hs : ∀ s ∈ xs.map (·.1), s.FitsOff t a)
      (hs' : ∀ s ∈ (xs.map fun p => (⟨p.1, φ ∘ p.2⟩ : (s : Shape) × (s.Idx → β))).map (·.1), s.FitsOff t a)
      (c : Nat) (hc : c < (axisSizes t a xs).sum)
      (hc' : c < (axisSizes t a (xs.map fun p => (⟨p.1, φ ∘ p.2⟩ : (s : Shape) × (s.Idx → β)))).sum),
      concatenateAt t a j (xs.map fun p => (⟨p.1, φ ∘ p.2⟩ : (s : Shape) × (s.Idx → β))) hs' c hc' = φ (concatenateAt t a j xs hs c hc)
  | [], _, _, _, hc, _ => absurd hc (Nat.not_lt_zero _)
  | [p], hs, hs', c, hc, hc' => rfl
  | p :: q :: xs, hs, hs', c, hc, hc' => by
    have hp : p.1.FitsOff t a := hs p.1 List.mem_cons_self
    by_cases hlt : c < p.1.size (a.cast hp.rank_eq.symm)
    · simp only [List.map_cons, concatenateAt]
      rw [dif_pos hlt, dif_pos hlt]
      rfl
    · simp only [List.map_cons, concatenateAt]
      rw [dif_neg hlt, dif_neg hlt]
      exact concatenateAt_map φ t a j (q :: xs) _ _ _ _ _

/-- The rows of the eleven weights, and the rows that fill the last tile. -/
structure Rows (α : Type) where
  r0 : S60x128.Idx → α
  r1 : S1x128.Idx → α
  r2 : S1x128.Idx → α
  r3 : S2x128.Idx → α
  r4 : S64x128.Idx → α
  r5 : S4x128.Idx → α
  r6 : S1x128.Idx → α
  r7 : S32x128.Idx → α
  r8 : S32x128.Idx → α
  r9 : S32x128.Idx → α
  r10 : S32x128.Idx → α
  r11 : S3x128.Idx → α

/-- The rows one below the other. -/
def pack {α : Type} (R : Rows α) : S264x128.Idx → α :=
  concatenate S264x128 0 [⟨S60x128, R.r0⟩, ⟨S1x128, R.r1⟩, ⟨S1x128, R.r2⟩, ⟨S2x128, R.r3⟩, ⟨S64x128, R.r4⟩, ⟨S4x128, R.r5⟩, ⟨S1x128, R.r6⟩, ⟨S32x128, R.r7⟩, ⟨S32x128, R.r8⟩, ⟨S32x128, R.r9⟩, ⟨S32x128, R.r10⟩, ⟨S3x128, R.r11⟩] concatenates_S60x128_S1x128_S1x128_S2x128_S64x128_S4x128_S1x128_S32x128_S32x128_S32x128_S32x128_S3x128_S264x128_d0

/-- The rows through a function of the elements. -/
def Rows.map {α β : Type} (φ : α → β) (R : Rows α) : Rows β :=
  ⟨φ ∘ R.r0, φ ∘ R.r1, φ ∘ R.r2, φ ∘ R.r3, φ ∘ R.r4, φ ∘ R.r5, φ ∘ R.r6, φ ∘ R.r7, φ ∘ R.r8, φ ∘ R.r9, φ ∘ R.r10, φ ∘ R.r11⟩

theorem pack_map {α β : Type} (φ : α → β) (R : Rows α) : pack (R.map φ) = φ ∘ pack R := by
  funext j
  refine (concatenate_apply _ _ _ _ j).trans (Eq.trans ?_ (congrArg φ (concatenate_apply _ _ _ _ j).symm))
  exact concatenateAt_map φ S264x128 0 j [⟨S60x128, R.r0⟩, ⟨S1x128, R.r1⟩, ⟨S1x128, R.r2⟩, ⟨S2x128, R.r3⟩, ⟨S64x128, R.r4⟩, ⟨S4x128, R.r5⟩, ⟨S1x128, R.r6⟩, ⟨S32x128, R.r7⟩, ⟨S32x128, R.r8⟩, ⟨S32x128, R.r9⟩, ⟨S32x128, R.r10⟩, ⟨S3x128, R.r11⟩] _ _ _ _ _

/-- Two packs, element by element. -/
def Rows.map₂ {α β γ : Type} (φ : α → β → γ) (R : Rows α) (Q : Rows β) : Rows γ :=
  ⟨fun i => φ (R.r0 i) (Q.r0 i), fun i => φ (R.r1 i) (Q.r1 i), fun i => φ (R.r2 i) (Q.r2 i), fun i => φ (R.r3 i) (Q.r3 i), fun i => φ (R.r4 i) (Q.r4 i), fun i => φ (R.r5 i) (Q.r5 i), fun i => φ (R.r6 i) (Q.r6 i), fun i => φ (R.r7 i) (Q.r7 i), fun i => φ (R.r8 i) (Q.r8 i), fun i => φ (R.r9 i) (Q.r9 i), fun i => φ (R.r10 i) (Q.r10 i), fun i => φ (R.r11 i) (Q.r11 i)⟩

theorem pack_map₂ {α β γ : Type} (φ : α → β → γ) (R : Rows α) (Q : Rows β) :
    pack (R.map₂ φ Q) = fun j => φ (pack R j) (pack Q j) := by
  have h1 : pack R = Prod.fst ∘ pack (R.map₂ Prod.mk Q) := (pack_map Prod.fst (R.map₂ Prod.mk Q)).symm.trans rfl |>.symm
  have h2 : pack Q = Prod.snd ∘ pack (R.map₂ Prod.mk Q) := (pack_map Prod.snd (R.map₂ Prod.mk Q)).symm.trans rfl |>.symm
  have h3 : pack (R.map₂ φ Q) = (fun p => φ p.1 p.2) ∘ pack (R.map₂ Prod.mk Q) := pack_map (fun p : α × β => φ p.1 p.2) (R.map₂ Prod.mk Q)
  funext j
  rw [h1, h2, h3]
  rfl

/-- The eleven small weights, or their moments, or their gradients. -/
structure Small where
  a_conv : FVec Ideal S2x5x768 .f32
  a_alog : FVec Ideal S2x2x8 .f32
  a_dt_bias : FVec Ideal S2x2x8 .f32
  a_norm_g : FVec Ideal S2x128 .f32
  b_gate_w2 : FVec Ideal S2x2x16x128 .f32
  b_gate_b : FVec Ideal S2x2x128 .f32
  b_norm_g : FVec Ideal S2x64 .f32
  ln1_g : FVec Ideal S4x1024 .f32
  ln1_b : FVec Ideal S4x1024 .f32
  ln2_g : FVec Ideal S4x1024 .f32
  ln2_b : FVec Ideal S4x1024 .f32

/-- Their rows. The heads' rates and biases fill a quarter of a row each; zeros fill the rest. -/
def Small.rows (X : Small) : Rows EReal :=
  ⟨shapeCast _ X.a_conv shapeCasts_S2x5x768_S60x128,
   pad S1x128 ![0, 0] ![0, 96] ![0, 0] (shapeCast _ X.a_alog shapeCasts_S2x2x8_S1x32) (sitofp (F := Ideal) .f32 (constantI S_ 32 0#32)) pads_S1x32_S1x128_000_0960 h_S_,
   pad S1x128 ![0, 0] ![0, 96] ![0, 0] (shapeCast _ X.a_dt_bias shapeCasts_S2x2x8_S1x32) (sitofp (F := Ideal) .f32 (constantI S_ 32 0#32)) pads_S1x32_S1x128_000_0960 h_S_,
   X.a_norm_g,
   shapeCast _ X.b_gate_w2 shapeCasts_S2x2x16x128_S64x128,
   shapeCast _ X.b_gate_b shapeCasts_S2x2x128_S4x128,
   shapeCast _ X.b_norm_g shapeCasts_S2x64_S1x128,
   shapeCast _ X.ln1_g shapeCasts_S4x1024_S32x128,
   shapeCast _ X.ln1_b shapeCasts_S4x1024_S32x128,
   shapeCast _ X.ln2_g shapeCasts_S4x1024_S32x128,
   shapeCast _ X.ln2_b shapeCasts_S4x1024_S32x128,
   broadcastInDim S3x128 ![] bcast_S_S3x128 (constant (F := Ideal) S_ .f32 0x00000000#32)⟩

/-- The four arrays that the step returns, on the packed weights. -/
def smallGrad (W A B G : Small) : FVec Ideal S264x128 .f32 := pack G.rows

def smallMom (W A B G : Small) : FVec Ideal S264x128 .f32 := fun y => mom (pack G.rows y) (pack A.rows y)

def smallVar (W A B G : Small) : FVec Ideal S264x128 .f32 := fun y => var (pack G.rows y) (pack B.rows y)

def smallDelta (W A B G : Small) : FVec Ideal S264x128 .f32 :=
  fun y => delta (pack W.rows y) (pack G.rows y) (pack A.rows y) (pack B.rows y)

/-- Padding with an element that the function keeps, through the function. -/
theorem pad_map₂ {s u : Shape} (f : EReal → EReal → EReal) (t : Shape) (lo hi interior : Fin s.rank → Nat)
    (x y : s.Idx → EReal) (v : u.Idx → EReal) (h : s.Pads lo hi interior t) (hu : 0 < u.numel) (hv : ∀ i, f (v i) (v i) = v i) :
    pad t lo hi interior (fun i => f (x i) (y i)) v h hu = fun j => f (pad t lo hi interior x v h hu j) (pad t lo hi interior y v h hu j) := by
  funext j
  unfold pad
  split
  · rfl
  · exact (hv _).symm

theorem pad_map₄ {s u : Shape} (f : EReal → EReal → EReal → EReal → EReal) (t : Shape) (lo hi interior : Fin s.rank → Nat)
    (x y z w : s.Idx → EReal) (v : u.Idx → EReal) (h : s.Pads lo hi interior t) (hu : 0 < u.numel) (hv : ∀ i, f (v i) (v i) (v i) (v i) = v i) :
    pad t lo hi interior (fun i => f (x i) (y i) (z i) (w i)) v h hu
      = fun j => f (pad t lo hi interior x v h hu j) (pad t lo hi interior y v h hu j) (pad t lo hi interior z v h hu j) (pad t lo hi interior w v h hu j) := by
  funext j
  unfold pad
  split
  · rfl
  · exact (hv _).symm

theorem filler : FloatOps.sitofp (F := Ideal) .f32 0#32 = (0 : EReal) := by
  simp [FloatOps.sitofp]

theorem mom_zero : mom 0 0 = 0 := by
  simp [mom]

theorem var_zero : var 0 0 = 0 := by
  simp [var]

theorem delta_zero : delta 0 0 0 0 = 0 := by
  have h1 : Ideal.ofBits .f32 0x3F26BD02#32 ≠ 0 := by
    simp [Ideal.ofBits, Ideal.ieee]
  have h2 : Ideal.ofBits .f32 0x3C231ACC#32 ≠ 0 := by
    simp [Ideal.ofBits, Ideal.ieee]
  have h3 : Ideal.ofBits .f32 0x322BCC77#32 ≠ 0 := by
    simp [Ideal.ofBits, Ideal.ieee]
  have hs : Ideal.sqrt 0 = 0 := by
    have := Ideal.sqrt_coe (r := 0)
    simpa using this
  simp [delta, mom_zero, var_zero, Ideal.div, h1, h2, h3, hs]

/-- Thirty-two elements, then zeros: a row. -/
abbrev padRow (X : FVec Ideal S2x2x8 .f32) : FVec Ideal S1x128 .f32 :=
  pad S1x128 ![0, 0] ![0, 96] ![0, 0] (shapeCast _ X shapeCasts_S2x2x8_S1x32) (sitofp (F := Ideal) .f32 (constantI S_ 32 0#32)) pads_S1x32_S1x128_000_0960 h_S_

theorem padRow_mom (G A : FVec Ideal S2x2x8 .f32) :
    padRow (fun i => mom (G i) (A i)) = fun j => mom (padRow G j) (padRow A j) :=
  pad_map₂ mom S1x128 _ _ _ (shapeCast S1x32 G _) (shapeCast S1x32 A _) _ _ _ fun _ => by
    refine Eq.trans (b := mom 0 0) ?_ (mom_zero.trans filler.symm)
    exact congrArg₂ mom filler filler

theorem padRow_var (G B : FVec Ideal S2x2x8 .f32) :
    padRow (fun i => var (G i) (B i)) = fun j => var (padRow G j) (padRow B j) :=
  pad_map₂ var S1x128 _ _ _ (shapeCast S1x32 G _) (shapeCast S1x32 B _) _ _ _ fun _ => by
    refine Eq.trans (b := var 0 0) ?_ (var_zero.trans filler.symm)
    exact congrArg₂ var filler filler

theorem padRow_delta (W G A B : FVec Ideal S2x2x8 .f32) :
    padRow (fun i => delta (W i) (G i) (A i) (B i)) = fun j => delta (padRow W j) (padRow G j) (padRow A j) (padRow B j) :=
  pad_map₄ delta S1x128 _ _ _ (shapeCast S1x32 W _) (shapeCast S1x32 G _) (shapeCast S1x32 A _) (shapeCast S1x32 B _) _ _ _ fun _ => by
    refine Eq.trans (b := delta 0 0 0 0) ?_ (delta_zero.trans filler.symm)
    exact congrArg (fun z => delta z z z z) filler

end Cert.Adamw

end
-- ==== Proof.AdamwSmallTiles.lean ====
/- AdamW's step on the small weights: the packed arrays that the kernel returns are the reference's. -/
module

public import proofs.«01_k».proof.Proof.Gen.KernelAdamwSmallIdeal.Value
public import proofs.«01_k».proof.Proof.AdamwPack
public import Idealize.ShloMosaic.Lib.Pipeline.ValueKit

@[expose] public section

set_option maxRecDepth 65536

noncomputable section

namespace Cert.KernelAdamwSmallIdeal.Value

open Cert.KernelAdamwSmallIdeal Cert.KernelAdamwSmallIdeal.Gen Idealize.ShloMosaic Idealize.ShloMosaic.TcCoe Idealize.SL.Sem Cert.Adamw
open Idealize.ShloMosaic.Pipeline (Dat)

variable (m : (ℓ : Loc nD τ sig) → Buf (Elt Ideal) ℓ)

/-- The weights, as launched. -/
def arg_w (c : Dev nD) : Small :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10)⟩

/-- The first moments, as launched. -/
def arg_m (c : Dev nD) : Small :=
  ⟨m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21)⟩

/-- The second moments, as launched. -/
def arg_v (c : Dev nD) : Small :=
  ⟨m ((c : Thread nD τ).loc main_arg22),
   m ((c : Thread nD τ).loc main_arg23),
   m ((c : Thread nD τ).loc main_arg24),
   m ((c : Thread nD τ).loc main_arg25),
   m ((c : Thread nD τ).loc main_arg26),
   m ((c : Thread nD τ).loc main_arg27),
   m ((c : Thread nD τ).loc main_arg28),
   m ((c : Thread nD τ).loc main_arg29),
   m ((c : Thread nD τ).loc main_arg30),
   m ((c : Thread nD τ).loc main_arg31),
   m ((c : Thread nD τ).loc main_arg32)⟩

/-- The gradients, as launched. -/
def arg_g (c : Dev nD) : Small :=
  ⟨m ((c : Thread nD τ).loc main_arg33),
   m ((c : Thread nD τ).loc main_arg34),
   m ((c : Thread nD τ).loc main_arg35),
   m ((c : Thread nD τ).loc main_arg36),
   m ((c : Thread nD τ).loc main_arg37),
   m ((c : Thread nD τ).loc main_arg38),
   m ((c : Thread nD τ).loc main_arg39),
   m ((c : Thread nD τ).loc main_arg40),
   m ((c : Thread nD τ).loc main_arg41),
   m ((c : Thread nD τ).loc main_arg42),
   m ((c : Thread nD τ).loc main_arg43)⟩

theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

theorem V_w (c : Dev nD) : V m c main_v13 = pack (arg_w m c).rows := by
  entry_read
  rfl

theorem V_m (c : Dev nD) : V m c main_v27 = pack (arg_m m c).rows := by
  entry_read
  rfl

theorem V_v (c : Dev nD) : V m c main_v41 = pack (arg_v m c).rows := by
  entry_read
  rfl

theorem V_g (c : Dev nD) : V m c main_v55 = pack (arg_g m c).rows := by
  entry_read
  rfl

theorem final_grad (c : Dev nD) : (dats m 0 c).arrAt 4 cfg0.N = smallGrad (arg_w m c) (arg_m m c) (arg_v m c) (arg_g m c) := by
  refine (dats m 0 c).arrAt_eq_of_covers 4 _ (by decide +kernel) fun t hf y => ?_
  blk_simp
  rw [after0_4]
  frame_out
  pointwise [k0_pay1, smallGrad]
  have hg := V_g m c
  blk_point [iblk, hg, idx t]

theorem final_delta (c : Dev nD) : (dats m 0 c).arrAt 5 cfg0.N = smallDelta (arg_w m c) (arg_m m c) (arg_v m c) (arg_g m c) := by
  refine (dats m 0 c).arrAt_eq_of_covers 5 _ (by decide +kernel) fun t hf y => ?_
  blk_simp
  rw [after0_5]
  frame_out
  pointwise [k0_pay1, k0_pay2, k0_pay3, k0_pay4, smallDelta]
  have hw := V_w m c
  have hg := V_g m c
  have hm := V_m m c
  have hv := V_v m c
  refine Eq.trans (b := Cert.Adamw.delta _ _ _ _) rfl ?_
  refine congrArg₂ (fun f x => f x) (congrArg₂ (fun f x => f x) (congrArg₂ Cert.Adamw.delta ?_ ?_) ?_) ?_
  · blk_point [iblk, hw, idx t]
  · blk_point [iblk, hg, idx t]
  · blk_point [iblk, hm, idx t]
  · blk_point [iblk, hv, idx t]

theorem final_mom (c : Dev nD) : (dats m 0 c).arrAt 6 cfg0.N = smallMom (arg_w m c) (arg_m m c) (arg_v m c) (arg_g m c) := by
  refine (dats m 0 c).arrAt_eq_of_covers 6 _ (by decide +kernel) fun t hf y => ?_
  blk_simp
  rw [after0_6]
  frame_out
  pointwise [k0_pay1, k0_pay2, smallMom]
  have hg := V_g m c
  have hm := V_m m c
  refine Eq.trans (b := Cert.Adamw.mom _ _) rfl ?_
  refine congrArg₂ Cert.Adamw.mom ?_ ?_
  · blk_point [iblk, hg, idx t]
  · blk_point [iblk, hm, idx t]

theorem final_var (c : Dev nD) : (dats m 0 c).arrAt 7 cfg0.N = smallVar (arg_w m c) (arg_m m c) (arg_v m c) (arg_g m c) := by
  refine (dats m 0 c).arrAt_eq_of_covers 7 _ (by decide +kernel) fun t hf y => ?_
  blk_simp
  rw [after0_7]
  frame_out
  pointwise [k0_pay1, k0_pay3, smallVar]
  have hg := V_g m c
  have hv := V_v m c
  refine Eq.trans (b := Cert.Adamw.var _ _) rfl ?_
  refine congrArg₂ Cert.Adamw.var ?_ ?_
  · blk_point [iblk, hg, idx t]
  · blk_point [iblk, hv, idx t]

end Cert.KernelAdamwSmallIdeal.Value

end
-- ==== Proof.AdamwSmallRef.lean ====
/- AdamW's step on the small weights: the reference's arrays, laid out in rows. -/
module

public import proofs.«01_k».proof.Proof.Gen.ReferenceAdamwSmallIdeal.Run
public import proofs.«01_k».proof.Proof.AdamwPack
public import Idealize.ShloMosaic.Lib.Pipeline.ValueKit

@[expose] public section

set_option maxRecDepth 65536

noncomputable section

namespace Cert.ReferenceAdamwSmallIdeal.Value

open Cert.ReferenceAdamwSmallIdeal Cert.ReferenceAdamwSmallIdeal.Gen Idealize.ShloMosaic Idealize.SL.Sem Cert.Adamw

variable (V0 : Valuation τ sig (Elt Ideal))

/-- The weights. -/
def arg_w : Small :=
  ⟨V0 (Proc.devRef .tc main_arg0),
   V0 (Proc.devRef .tc main_arg1),
   V0 (Proc.devRef .tc main_arg2),
   V0 (Proc.devRef .tc main_arg3),
   V0 (Proc.devRef .tc main_arg4),
   V0 (Proc.devRef .tc main_arg5),
   V0 (Proc.devRef .tc main_arg6),
   V0 (Proc.devRef .tc main_arg7),
   V0 (Proc.devRef .tc main_arg8),
   V0 (Proc.devRef .tc main_arg9),
   V0 (Proc.devRef .tc main_arg10)⟩

/-- The first moments. -/
def arg_m : Small :=
  ⟨V0 (Proc.devRef .tc main_arg11),
   V0 (Proc.devRef .tc main_arg12),
   V0 (Proc.devRef .tc main_arg13),
   V0 (Proc.devRef .tc main_arg14),
   V0 (Proc.devRef .tc main_arg15),
   V0 (Proc.devRef .tc main_arg16),
   V0 (Proc.devRef .tc main_arg17),
   V0 (Proc.devRef .tc main_arg18),
   V0 (Proc.devRef .tc main_arg19),
   V0 (Proc.devRef .tc main_arg20),
   V0 (Proc.devRef .tc main_arg21)⟩

/-- The second moments. -/
def arg_v : Small :=
  ⟨V0 (Proc.devRef .tc main_arg22),
   V0 (Proc.devRef .tc main_arg23),
   V0 (Proc.devRef .tc main_arg24),
   V0 (Proc.devRef .tc main_arg25),
   V0 (Proc.devRef .tc main_arg26),
   V0 (Proc.devRef .tc main_arg27),
   V0 (Proc.devRef .tc main_arg28),
   V0 (Proc.devRef .tc main_arg29),
   V0 (Proc.devRef .tc main_arg30),
   V0 (Proc.devRef .tc main_arg31),
   V0 (Proc.devRef .tc main_arg32)⟩

/-- The gradients. -/
def arg_g : Small :=
  ⟨V0 (Proc.devRef .tc main_arg33),
   V0 (Proc.devRef .tc main_arg34),
   V0 (Proc.devRef .tc main_arg35),
   V0 (Proc.devRef .tc main_arg36),
   V0 (Proc.devRef .tc main_arg37),
   V0 (Proc.devRef .tc main_arg38),
   V0 (Proc.devRef .tc main_arg39),
   V0 (Proc.devRef .tc main_arg40),
   V0 (Proc.devRef .tc main_arg41),
   V0 (Proc.devRef .tc main_arg42),
   V0 (Proc.devRef .tc main_arg43)⟩

/-- Twelve rows, each equal to its counterpart. -/
theorem pack_congr {α : Type} {R Q : Rows α} (h0 : R.r0 = Q.r0) (h1 : R.r1 = Q.r1) (h2 : R.r2 = Q.r2) (h3 : R.r3 = Q.r3) (h4 : R.r4 = Q.r4) (h5 : R.r5 = Q.r5) (h6 : R.r6 = Q.r6) (h7 : R.r7 = Q.r7) (h8 : R.r8 = Q.r8) (h9 : R.r9 = Q.r9) (h10 : R.r10 = Q.r10) (h11 : R.r11 = Q.r11) : pack R = pack Q := by
  cases R
  cases Q
  simp only at h0 h1 h2 h3 h4 h5 h6 h7 h8 h9 h10 h11
  subst h0 h1 h2 h3 h4 h5 h6 h7 h8 h9 h10 h11
  rfl

theorem value_grad : (concatenate S264x128 0 [⟨S60x128, ((shapeCast _ ((V0) (Proc.devRef .tc main_arg33)) shapeCasts_S2x5x768_S60x128) : (⟨S60x128, .f32⟩ : BufTy).Contents (Elt Ideal))⟩, ⟨S1x128, ((pad S1x128 ![0, 0] ![0, 96] ![0, 0] (shapeCast _ ((V0) (Proc.devRef .tc main_arg34)) shapeCasts_S2x2x8_S1x32) (sitofp (F := Ideal) .f32 (constantI S_ 32 0#32)) pads_S1x32_S1x128_000_0960 h_S_) : (⟨S1x128, .f32⟩ : BufTy).Contents (Elt Ideal))⟩, ⟨S1x128, ((pad S1x128 ![0, 0] ![0, 96] ![0, 0] (shapeCast _ ((V0) (Proc.devRef .tc main_arg35)) shapeCasts_S2x2x8_S1x32) (sitofp (F := Ideal) .f32 (constantI S_ 32 0#32)) pads_S1x32_S1x128_000_0960 h_S_) : (⟨S1x128, .f32⟩ : BufTy).Contents (Elt Ideal))⟩, ⟨S2x128, (((V0) (Proc.devRef .tc main_arg36)) : (⟨S2x128, .f32⟩ : BufTy).Contents (Elt Ideal))⟩, ⟨S64x128, ((shapeCast _ ((V0) (Proc.devRef .tc main_arg37)) shapeCasts_S2x2x16x128_S64x128) : (⟨S64x128, .f32⟩ : BufTy).Contents (Elt Ideal))⟩, ⟨S4x128, ((shapeCast _ ((V0) (Proc.devRef .tc main_arg38)) shapeCasts_S2x2x128_S4x128) : (⟨S4x128, .f32⟩ : BufTy).Contents (Elt Ideal))⟩, ⟨S1x128, ((shapeCast _ ((V0) (Proc.devRef .tc main_arg39)) shapeCasts_S2x64_S1x128) : (⟨S1x128, .f32⟩ : BufTy).Contents (Elt Ideal))⟩, ⟨S32x128, ((shapeCast _ ((V0) (Proc.devRef .tc main_arg40)) shapeCasts_S4x1024_S32x128) : (⟨S32x128, .f32⟩ : BufTy).Contents (Elt Ideal))⟩, ⟨S32x128, ((shapeCast _ ((V0) (Proc.devRef .tc main_arg41)) shapeCasts_S4x1024_S32x128) : (⟨S32x128, .f32⟩ : BufTy).Contents (Elt Ideal))⟩, ⟨S32x128, ((shapeCast _ ((V0) (Proc.devRef .tc main_arg42)) shapeCasts_S4x1024_S32x128) : (⟨S32x128, .f32⟩ : BufTy).Contents (Elt Ideal))⟩, ⟨S32x128, ((shapeCast _ ((V0) (Proc.devRef .tc main_arg43)) shapeCasts_S4x1024_S32x128) : (⟨S32x128, .f32⟩ : BufTy).Contents (Elt Ideal))⟩, ⟨S3x128, ((broadcastInDim S3x128 ![] bcast_S_S3x128 (constant (F := Ideal) S_ .f32 0x00000000#32)) : (⟨S3x128, .f32⟩ : BufTy).Contents (Elt Ideal))⟩] concatenates_S60x128_S1x128_S1x128_S2x128_S64x128_S4x128_S1x128_S32x128_S32x128_S32x128_S32x128_S3x128_S264x128_d0 : (⟨S264x128, .f32⟩ : BufTy).Contents (Elt Ideal))
    = smallGrad (arg_w V0) (arg_m V0) (arg_v V0) (arg_g V0) := by
  rfl

theorem value_delta : res_main_v291 (V0)
    = smallDelta (arg_w V0) (arg_m V0) (arg_v V0) (arg_g V0) := by
  unfold res_main_v291
  refine Eq.trans (b := pack (Rows.map₂ (fun f x => f x) (Rows.map₂ (fun f x => f x) (Rows.map₂ delta (arg_w V0).rows (arg_g V0).rows) (arg_m V0).rows) (arg_v V0).rows)) ?_ ((pack_map₂ _ _ _).trans (by rw [pack_map₂, pack_map₂]; rfl))
  refine pack_congr (R := ⟨_, _, _, _, _, _, _, _, _, _, _, _⟩) ?_ ?_ ?_ ?_ ?_ ?_ ?_ ?_ ?_ ?_ ?_ ?_
  · rfl
  · exact padRow_delta (arg_w V0).a_alog (arg_g V0).a_alog (arg_m V0).a_alog (arg_v V0).a_alog
  · exact padRow_delta (arg_w V0).a_dt_bias (arg_g V0).a_dt_bias (arg_m V0).a_dt_bias (arg_v V0).a_dt_bias
  · rfl
  · rfl
  · rfl
  · rfl
  · rfl
  · rfl
  · rfl
  · rfl
  · funext i
    idx_vars i
    pointwise [Rows.map₂, Small.rows]
    exact delta_zero.symm

theorem value_mom : (concatenate S264x128 0 [⟨S60x128, ((shapeCast _ (res_main_v4 (V0)) shapeCasts_S2x5x768_S60x128) : (⟨S60x128, .f32⟩ : BufTy).Contents (Elt Ideal))⟩, ⟨S1x128, ((pad S1x128 ![0, 0] ![0, 96] ![0, 0] (shapeCast _ (res_main_v28 (V0)) shapeCasts_S2x2x8_S1x32) (sitofp (F := Ideal) .f32 (constantI S_ 32 0#32)) pads_S1x32_S1x128_000_0960 h_S_) : (⟨S1x128, .f32⟩ : BufTy).Contents (Elt Ideal))⟩, ⟨S1x128, ((pad S1x128 ![0, 0] ![0, 96] ![0, 0] (shapeCast _ (res_main_v52 (V0)) shapeCasts_S2x2x8_S1x32) (sitofp (F := Ideal) .f32 (constantI S_ 32 0#32)) pads_S1x32_S1x128_000_0960 h_S_) : (⟨S1x128, .f32⟩ : BufTy).Contents (Elt Ideal))⟩, ⟨S2x128, ((res_main_v76 (V0)) : (⟨S2x128, .f32⟩ : BufTy).Contents (Elt Ideal))⟩, ⟨S64x128, ((shapeCast _ (res_main_v100 (V0)) shapeCasts_S2x2x16x128_S64x128) : (⟨S64x128, .f32⟩ : BufTy).Contents (Elt Ideal))⟩, ⟨S4x128, ((shapeCast _ (res_main_v124 (V0)) shapeCasts_S2x2x128_S4x128) : (⟨S4x128, .f32⟩ : BufTy).Contents (Elt Ideal))⟩, ⟨S1x128, ((shapeCast _ (res_main_v148 (V0)) shapeCasts_S2x64_S1x128) : (⟨S1x128, .f32⟩ : BufTy).Contents (Elt Ideal))⟩, ⟨S32x128, ((shapeCast _ (res_main_v172 (V0)) shapeCasts_S4x1024_S32x128) : (⟨S32x128, .f32⟩ : BufTy).Contents (Elt Ideal))⟩, ⟨S32x128, ((shapeCast _ (res_main_v196 (V0)) shapeCasts_S4x1024_S32x128) : (⟨S32x128, .f32⟩ : BufTy).Contents (Elt Ideal))⟩, ⟨S32x128, ((shapeCast _ (res_main_v220 (V0)) shapeCasts_S4x1024_S32x128) : (⟨S32x128, .f32⟩ : BufTy).Contents (Elt Ideal))⟩, ⟨S32x128, ((shapeCast _ (res_main_v244 (V0)) shapeCasts_S4x1024_S32x128) : (⟨S32x128, .f32⟩ : BufTy).Contents (Elt Ideal))⟩, ⟨S3x128, ((broadcastInDim S3x128 ![] bcast_S_S3x128 (constant (F := Ideal) S_ .f32 0x00000000#32)) : (⟨S3x128, .f32⟩ : BufTy).Contents (Elt Ideal))⟩] concatenates_S60x128_S1x128_S1x128_S2x128_S64x128_S4x128_S1x128_S32x128_S32x128_S32x128_S32x128_S3x128_S264x128_d0 : (⟨S264x128, .f32⟩ : BufTy).Contents (Elt Ideal))
    = smallMom (arg_w V0) (arg_m V0) (arg_v V0) (arg_g V0) := by
  refine Eq.trans (b := pack (Rows.map₂ mom (arg_g V0).rows (arg_m V0).rows)) ?_ (pack_map₂ _ _ _)
  refine pack_congr (R := ⟨_, _, _, _, _, _, _, _, _, _, _, _⟩) ?_ ?_ ?_ ?_ ?_ ?_ ?_ ?_ ?_ ?_ ?_ ?_
  · rfl
  · exact padRow_mom (arg_g V0).a_alog (arg_m V0).a_alog
  · exact padRow_mom (arg_g V0).a_dt_bias (arg_m V0).a_dt_bias
  · rfl
  · rfl
  · rfl
  · rfl
  · rfl
  · rfl
  · rfl
  · rfl
  · funext i
    idx_vars i
    pointwise [Rows.map₂, Small.rows]
    exact mom_zero.symm

theorem value_var : (concatenate S264x128 0 [⟨S60x128, ((shapeCast _ (res_main_v10 (V0)) shapeCasts_S2x5x768_S60x128) : (⟨S60x128, .f32⟩ : BufTy).Contents (Elt Ideal))⟩, ⟨S1x128, ((pad S1x128 ![0, 0] ![0, 96] ![0, 0] (shapeCast _ (res_main_v34 (V0)) shapeCasts_S2x2x8_S1x32) (sitofp (F := Ideal) .f32 (constantI S_ 32 0#32)) pads_S1x32_S1x128_000_0960 h_S_) : (⟨S1x128, .f32⟩ : BufTy).Contents (Elt Ideal))⟩, ⟨S1x128, ((pad S1x128 ![0, 0] ![0, 96] ![0, 0] (shapeCast _ (res_main_v58 (V0)) shapeCasts_S2x2x8_S1x32) (sitofp (F := Ideal) .f32 (constantI S_ 32 0#32)) pads_S1x32_S1x128_000_0960 h_S_) : (⟨S1x128, .f32⟩ : BufTy).Contents (Elt Ideal))⟩, ⟨S2x128, ((res_main_v82 (V0)) : (⟨S2x128, .f32⟩ : BufTy).Contents (Elt Ideal))⟩, ⟨S64x128, ((shapeCast _ (res_main_v106 (V0)) shapeCasts_S2x2x16x128_S64x128) : (⟨S64x128, .f32⟩ : BufTy).Contents (Elt Ideal))⟩, ⟨S4x128, ((shapeCast _ (res_main_v130 (V0)) shapeCasts_S2x2x128_S4x128) : (⟨S4x128, .f32⟩ : BufTy).Contents (Elt Ideal))⟩, ⟨S1x128, ((shapeCast _ (res_main_v154 (V0)) shapeCasts_S2x64_S1x128) : (⟨S1x128, .f32⟩ : BufTy).Contents (Elt Ideal))⟩, ⟨S32x128, ((shapeCast _ (res_main_v178 (V0)) shapeCasts_S4x1024_S32x128) : (⟨S32x128, .f32⟩ : BufTy).Contents (Elt Ideal))⟩, ⟨S32x128, ((shapeCast _ (res_main_v202 (V0)) shapeCasts_S4x1024_S32x128) : (⟨S32x128, .f32⟩ : BufTy).Contents (Elt Ideal))⟩, ⟨S32x128, ((shapeCast _ (res_main_v226 (V0)) shapeCasts_S4x1024_S32x128) : (⟨S32x128, .f32⟩ : BufTy).Contents (Elt Ideal))⟩, ⟨S32x128, ((shapeCast _ (res_main_v250 (V0)) shapeCasts_S4x1024_S32x128) : (⟨S32x128, .f32⟩ : BufTy).Contents (Elt Ideal))⟩, ⟨S3x128, ((broadcastInDim S3x128 ![] bcast_S_S3x128 (constant (F := Ideal) S_ .f32 0x00000000#32)) : (⟨S3x128, .f32⟩ : BufTy).Contents (Elt Ideal))⟩] concatenates_S60x128_S1x128_S1x128_S2x128_S64x128_S4x128_S1x128_S32x128_S32x128_S32x128_S32x128_S3x128_S264x128_d0 : (⟨S264x128, .f32⟩ : BufTy).Contents (Elt Ideal))
    = smallVar (arg_w V0) (arg_m V0) (arg_v V0) (arg_g V0) := by
  refine Eq.trans (b := pack (Rows.map₂ var (arg_g V0).rows (arg_v V0).rows)) ?_ (pack_map₂ _ _ _)
  refine pack_congr (R := ⟨_, _, _, _, _, _, _, _, _, _, _, _⟩) ?_ ?_ ?_ ?_ ?_ ?_ ?_ ?_ ?_ ?_ ?_ ?_
  · rfl
  · exact padRow_var (arg_g V0).a_alog (arg_v V0).a_alog
  · exact padRow_var (arg_g V0).a_dt_bias (arg_v V0).a_dt_bias
  · rfl
  · rfl
  · rfl
  · rfl
  · rfl
  · rfl
  · rfl
  · rfl
  · funext i
    idx_vars i
    pointwise [Rows.map₂, Small.rows]
    exact var_zero.symm

end Cert.ReferenceAdamwSmallIdeal.Value

end
-- ==== Proof.UpdateSmall.lean ====
/- The frame of the reference of AdamW's step on the small weights, and the values of the kernel. -/
module

public import proofs.«01_k».proof.Defs
public import proofs.«01_k».proof.Proof.AdamwSmallTiles
public import proofs.«01_k».proof.Proof.AdamwSmallRef

@[expose] public section

noncomputable section

namespace Cert.Proof

open Idealize.ShloMosaic Idealize.SL.Sem Idealize.ShloMosaic.StableHlo

/-- The reference `AdamwSmall`'s frame: its run, read at its arguments; it declares no semaphore. -/
theorem frameAdamwSmall : Cert.quiescent_ReferenceAdamwSmallIdeal (hReferenceAdamwSmallIdeal := Cert.ReferenceAdamwSmallIdeal.Gen.facts) := fun m ρ _ =>
  (θ_run Cert.ReferenceAdamwSmallIdeal.defs _ _).mono (fun r h => ⟨fun c => (h c).2.2.2.2, Idealize.ShloMosaic.sem_eq_zero_of_no_sems (by decide) r.2⟩)
    (Cert.ReferenceAdamwSmallIdeal.Value.run (F := Ideal) m ρ)

/-- Eleven equal arrays. -/
theorem small_congr {X Y : Cert.Adamw.Small} (h0 : X.a_conv = Y.a_conv) (h1 : X.a_alog = Y.a_alog) (h2 : X.a_dt_bias = Y.a_dt_bias) (h3 : X.a_norm_g = Y.a_norm_g) (h4 : X.b_gate_w2 = Y.b_gate_w2) (h5 : X.b_gate_b = Y.b_gate_b) (h6 : X.b_norm_g = Y.b_norm_g) (h7 : X.ln1_g = Y.ln1_g) (h8 : X.ln1_b = Y.ln1_b) (h9 : X.ln2_g = Y.ln2_g) (h10 : X.ln2_b = Y.ln2_b) : X = Y := by
  cases X
  cases Y
  simp only at h0 h1 h2 h3 h4 h5 h6 h7 h8 h9 h10
  subst h0 h1 h2 h3 h4 h5 h6 h7 h8 h9 h10
  rfl

/-- The kernel `AdamwSmall` and its reference return the same arrays. -/
theorem algebraicAdamwSmall : Cert.algebraic_KernelAdamwSmallIdeal_ReferenceAdamwSmallIdeal (hKernelAdamwSmallIdeal := Cert.KernelAdamwSmallIdeal.Gen.facts)
    (hReferenceAdamwSmallIdeal := Cert.ReferenceAdamwSmallIdeal.Gen.facts) := by
  intro m g m' g' _ args
  have hw : ∀ c, Cert.ReferenceAdamwSmallIdeal.Value.arg_w (launchContents m' c) = Cert.KernelAdamwSmallIdeal.Value.arg_w m c := fun c =>
    small_congr (args c).1
      (args c).2.1
      (args c).2.2.1
      (args c).2.2.2.1
      (args c).2.2.2.2.1
      (args c).2.2.2.2.2.1
      (args c).2.2.2.2.2.2.1
      (args c).2.2.2.2.2.2.2.1
      (args c).2.2.2.2.2.2.2.2.1
      (args c).2.2.2.2.2.2.2.2.2.1
      (args c).2.2.2.2.2.2.2.2.2.2.1
  have hm : ∀ c, Cert.ReferenceAdamwSmallIdeal.Value.arg_m (launchContents m' c) = Cert.KernelAdamwSmallIdeal.Value.arg_m m c := fun c =>
    small_congr (args c).2.2.2.2.2.2.2.2.2.2.2.1
      (args c).2.2.2.2.2.2.2.2.2.2.2.2.1
      (args c).2.2.2.2.2.2.2.2.2.2.2.2.2.1
      (args c).2.2.2.2.2.2.2.2.2.2.2.2.2.2.1
      (args c).2.2.2.2.2.2.2.2.2.2.2.2.2.2.2.1
      (args c).2.2.2.2.2.2.2.2.2.2.2.2.2.2.2.2.1
      (args c).2.2.2.2.2.2.2.2.2.2.2.2.2.2.2.2.2.1
      (args c).2.2.2.2.2.2.2.2.2.2.2.2.2.2.2.2.2.2.1
      (args c).2.2.2.2.2.2.2.2.2.2.2.2.2.2.2.2.2.2.2.1
      (args c).2.2.2.2.2.2.2.2.2.2.2.2.2.2.2.2.2.2.2.2.1
      (args c).2.2.2.2.2.2.2.2.2.2.2.2.2.2.2.2.2.2.2.2.2.1
  have hv : ∀ c, Cert.ReferenceAdamwSmallIdeal.Value.arg_v (launchContents m' c) = Cert.KernelAdamwSmallIdeal.Value.arg_v m c := fun c =>
    small_congr (args c).2.2.2.2.2.2.2.2.2.2.2.2.2.2.2.2.2.2.2.2.2.2.1
      (args c).2.2.2.2.2.2.2.2.2.2.2.2.2.2.2.2.2.2.2.2.2.2.2.1
      (args c).2.2.2.2.2.2.2.2.2.2.2.2.2.2.2.2.2.2.2.2.2.2.2.2.1
      (args c).2.2.2.2.2.2.2.2.2.2.2.2.2.2.2.2.2.2.2.2.2.2.2.2.2.1
      (args c).2.2.2.2.2.2.2.2.2.2.2.2.2.2.2.2.2.2.2.2.2.2.2.2.2.2.1
      (args c).2.2.2.2.2.2.2.2.2.2.2.2.2.2.2.2.2.2.2.2.2.2.2.2.2.2.2.1
      (args c).2.2.2.2.2.2.2.2.2.2.2.2.2.2.2.2.2.2.2.2.2.2.2.2.2.2.2.2.1
      (args c).2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.1
  have hg : ∀ c, Cert.ReferenceAdamwSmallIdeal.Value.arg_g (launchContents m' c) = Cert.KernelAdamwSmallIdeal.Value.arg_g m c := fun c =>
    small_congr (args c).2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.2.2.2.2.2.2.2.2.1
      (args c).2.2.2.2.2.2.2.2.2.2.2.2.2.2.2.2.2.2.2.2.2.2.2.2.2.2.2.2.2.2.2.2.2.2.2.2.2.2.2.2.2.2.2
  refine ⟨fun c => Cert.Adamw.smallGrad (Cert.KernelAdamwSmallIdeal.Value.arg_w m c) (Cert.KernelAdamwSmallIdeal.Value.arg_m m c) (Cert.KernelAdamwSmallIdeal.Value.arg_v m c) (Cert.KernelAdamwSmallIdeal.Value.arg_g m c),
    fun c => Cert.Adamw.smallDelta (Cert.KernelAdamwSmallIdeal.Value.arg_w m c) (Cert.KernelAdamwSmallIdeal.Value.arg_m m c) (Cert.KernelAdamwSmallIdeal.Value.arg_v m c) (Cert.KernelAdamwSmallIdeal.Value.arg_g m c),
    fun c => Cert.Adamw.smallMom (Cert.KernelAdamwSmallIdeal.Value.arg_w m c) (Cert.KernelAdamwSmallIdeal.Value.arg_m m c) (Cert.KernelAdamwSmallIdeal.Value.arg_v m c) (Cert.KernelAdamwSmallIdeal.Value.arg_g m c),
    fun c => Cert.Adamw.smallVar (Cert.KernelAdamwSmallIdeal.Value.arg_w m c) (Cert.KernelAdamwSmallIdeal.Value.arg_m m c) (Cert.KernelAdamwSmallIdeal.Value.arg_v m c) (Cert.KernelAdamwSmallIdeal.Value.arg_g m c), ?_, ?_⟩
  · exact (θ_run Cert.KernelAdamwSmallIdeal.defs _ _).mono (fun _ h c => ⟨(h c).1.trans (Cert.KernelAdamwSmallIdeal.Value.final_grad m c),
        (h c).2.1.trans (Cert.KernelAdamwSmallIdeal.Value.final_delta m c),
        (h c).2.2.1.trans (Cert.KernelAdamwSmallIdeal.Value.final_mom m c),
        (h c).2.2.2.1.trans (Cert.KernelAdamwSmallIdeal.Value.final_var m c), (h c).2.2.2.2⟩)
      (Cert.KernelAdamwSmallIdeal.Value.run_blocks (F := Ideal) m g)
  · refine (θ_run Cert.ReferenceAdamwSmallIdeal.defs _ _).mono (fun _ h c => ⟨(h c).1.trans ((Cert.ReferenceAdamwSmallIdeal.Value.value_grad (launchContents m' c)).trans ?_),
        (h c).2.1.trans ((Cert.ReferenceAdamwSmallIdeal.Value.value_delta (launchContents m' c)).trans ?_),
        (h c).2.2.1.trans ((Cert.ReferenceAdamwSmallIdeal.Value.value_mom (launchContents m' c)).trans ?_),
        (h c).2.2.2.1.trans ((Cert.ReferenceAdamwSmallIdeal.Value.value_var (launchContents m' c)).trans ?_), (h c).2.2.2.2⟩)
      (Cert.ReferenceAdamwSmallIdeal.Value.run (F := Ideal) m' g')
    all_goals rw [hw, hm, hv, hg]

end Cert.Proof

end
-- ==== Proof.ProdMlpUp.lean ====
/- The MLP's first product and its activation: the kernel's tiles are the reference's. -/
module

public import proofs.«01_k».proof.Proof.Gen.KernelMlpUpIdeal.Value
public import proofs.«01_k».proof.Proof.Gen.ReferenceMlpUpIdeal.Run
public import Idealize.ShloMosaic.Lib.Pipeline.ValueKit

@[expose] public section

set_option maxRecDepth 16384

noncomputable section

namespace Cert.KernelMlpUpIdeal.Value

open Cert.KernelMlpUpIdeal Cert.KernelMlpUpIdeal.Gen Idealize.ShloMosaic Idealize.ShloMosaic.TcCoe Idealize.SL.Sem
open Idealize.ShloMosaic.Pipeline (Dat)

variable (m : (ℓ : Loc nD τ sig) → Buf (Elt Ideal) ℓ)

/-- The hidden layer. -/
def prod (X : FVec Ideal S2048x1024 .f32) (W : FVec Ideal S1024x4096 .f32) : FVec Ideal S2048x4096 .f32 :=
  fun y => ∑ k : Fin 1024, (X (ix2 (y 0) k) : EReal) * W (ix2 k (y 1))

/-- Its activation. -/
def act (X : FVec Ideal S2048x1024 .f32) (W : FVec Ideal S1024x4096 .f32) : FVec Ideal S2048x4096 .bf16 :=
  fun y => (max (∑ k : Fin 1024, (X (ix2 (y 0) k) : EReal) * W (ix2 k (y 1))) 0 * max (∑ k : Fin 1024, (X (ix2 (y 0) k) : EReal) * W (ix2 k (y 1))) 0 : EReal)

theorem idx : ∀ t : Fin cfg0.N, win0_0.index t = ![t.val / 4, 0]
    ∧ win0_1.index t = ![t.val % 4, 0, 0]
    ∧ win0_2.index t = ![t.val / 4, t.val % 4]
    ∧ win0_3.index t = ![t.val / 4, t.val % 4] :=
  (by decide +kernel : ∀ t : Fin grid0.N, _)

theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, prod]
  blk_point [iblk, V, idx t]

theorem final_act (c : Dev nD) : (dats m 0 c).arrAt 3 cfg0.N
    = act (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  pointwise [k0_pay1, k0_pay2, act]
  blk_point [iblk, V, idx t]

end Cert.KernelMlpUpIdeal.Value

namespace Cert.ReferenceMlpUpIdeal.Value

open Cert.ReferenceMlpUpIdeal Cert.ReferenceMlpUpIdeal.Gen Idealize.ShloMosaic

/-- The reference's result is the same array. -/
theorem value (X : FVec Ideal S2048x1024 .f32) (W : FVec Ideal S1024x4096 .f32) :
    Host.dotGeneral dot_S2048x1024_S1024x4096_S2048x4096_1_0_0_1_n_n none X W = Cert.KernelMlpUpIdeal.Value.prod X W := by
  funext y
  idx_vars y
  pointwise [Cert.KernelMlpUpIdeal.Value.prod]

theorem value_act (X : FVec Ideal S2048x1024 .f32) (W : FVec Ideal S1024x4096 .f32) :
    truncf .bf16 (mulf (maximumf (Host.dotGeneral dot_S2048x1024_S1024x4096_S2048x4096_1_0_0_1_n_n none X W) (broadcastInDim S2048x4096 ![] bcast_S_S2048x4096 (constant S_ .f32 0x00000000#32))) (maximumf (Host.dotGeneral dot_S2048x1024_S1024x4096_S2048x4096_1_0_0_1_n_n none X W) (broadcastInDim S2048x4096 ![] bcast_S_S2048x4096 (constant S_ .f32 0x00000000#32)))) bitsLt_bf16_f32 = Cert.KernelMlpUpIdeal.Value.act X W := by
  funext y
  idx_vars y
  pointwise [Cert.KernelMlpUpIdeal.Value.act]

end Cert.ReferenceMlpUpIdeal.Value

end
-- ==== Proof.ProdMlpDown.lean ====
/- The MLP's second product: the columns' runs of the kernel's sums are the reference's one sum. -/
module

public import proofs.«01_k».proof.Proof.Gen.KernelMlpDownIdeal.Value
public import proofs.«01_k».proof.Proof.Gen.ReferenceMlpDownIdeal.Run
public import Idealize.ShloMosaic.Lib.Pipeline.ValueKit

@[expose] public section

set_option maxRecDepth 16384

noncomputable section

namespace Cert.KernelMlpDownIdeal.Value

open Cert.KernelMlpDownIdeal Cert.KernelMlpDownIdeal.Gen Idealize.ShloMosaic Idealize.ShloMosaic.TcCoe Idealize.SL.Sem
open Idealize.ShloMosaic.Pipeline (Dat)

variable (m : (ℓ : Loc nD τ sig) → Buf (Elt Ideal) ℓ)

/-- The output. -/
def prod (A : FVec Ideal S2048x4096 .f32) (W : FVec Ideal S4096x1024 .f32) : FVec Ideal S2048x1024 .f32 :=
  fun y => ∑ k : Fin 4096, (A (ix2 (y 0) k) : EReal) * W (ix2 k (y 1))

/-- The activation of the hidden layer. -/
def act (H : FVec Ideal S2048x4096 .f32) : FVec Ideal S2048x4096 .f32 := fun i => (max (H i) 0 * max (H i) 0 : EReal)

theorem idx : ∀ t : Fin cfg0.N, win0_0.index t = ![t.val / 4, t.val % 4]
    ∧ win0_1.index t = ![t.val % 4, 0, 0]
    ∧ win0_2.index t = ![t.val / 4, 0] :=
  (by decide +kernel : ∀ t : Fin grid0.N, _)

/-- The product of the run's first blocks. -/
theorem first (a : Vec Ideal S1024x1024 .bf16) (b : Vec Ideal S1x1024x1024 .bf16) (j : S1024x1024.Idx) :
    k0_pay1 a b j = (0 : EReal) + ∑ k : Fin 1024, (a (ix2 (j 0) k) : EReal) * b (ix3 0 k (j 1)) := by
  pointwise [k0_pay1]

/-- A later product, added to what the block holds. -/
theorem next (a : Vec Ideal S1024x1024 .bf16) (b : Vec Ideal S1x1024x1024 .bf16) (o : Vec Ideal S1024x1024 .f32) (j : S1024x1024.Idx) :
    k0_pay2 a b o j = (o j : EReal) + ∑ k : Fin 1024, (a (ix2 (j 0) k) : EReal) * b (ix3 0 k (j 1)) := by
  pointwise [k0_pay1, k0_pay2]

/-- The activation, as the host prepares it. -/
theorem V_act (c : Dev nD) : V m c main_v3 = act (m ((c : Thread nD τ).loc main_arg0)) := by
  entry_read
  funext i
  idx_vars i
  pointwise [act]

/-- The weight, as the host prepares it. -/
theorem V_w (c : Dev nD) (i : S4x1024x1024.Idx) : V m c main_v5 i
    = (m ((c : Thread nD τ).loc main_arg1)) (ix2 ⟨(i 0).val * 1024 + (i 1).val, by have h0 : (i 0).val < 4 := (i 0).isLt; have h1 : (i 1).val < 1024 := (i 1).isLt; omega⟩ (i 2)) := by
  entry_read
  idx_vars i
  pointwise

theorem final (c : Dev nD) : (dats m 0 c).arrAt 2 cfg0.N
    = prod (act (m ((c : Thread nD τ).loc main_arg0))) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [first, zero_add])
    (fun t h j => by rw [outsAt0_B m c t h (by omega)]; frame_out; rw [next])
    t ((flush0_2 t).mp hf) _, zero_add]
  have hA := V_act m c
  unfold prod
  refine Fin.sum_mul_add_congr fun s k hl => ?_
  blk_point [iblk, hA, V_w, idx t, idx ⟨_, Pipeline.run_point_lt_of_flush t ((flush0_2 t).mp hf) s⟩]

end Cert.KernelMlpDownIdeal.Value

namespace Cert.ReferenceMlpDownIdeal.Value

open Cert.ReferenceMlpDownIdeal Cert.ReferenceMlpDownIdeal.Gen Idealize.ShloMosaic

/-- The reference's result is the same array. -/
theorem value (H : FVec Ideal S2048x4096 .f32) (W : FVec Ideal S4096x1024 .f32) :
    Host.dotGeneral dot_S2048x4096_S4096x1024_S2048x1024_1_0_0_1_n_n none (mulf (maximumf H (broadcastInDim S2048x4096 ![] bcast_S_S2048x4096 (constant S_ .f32 0x00000000#32))) (maximumf H (broadcastInDim S2048x4096 ![] bcast_S_S2048x4096 (constant S_ .f32 0x00000000#32)))) W = Cert.KernelMlpDownIdeal.Value.prod (Cert.KernelMlpDownIdeal.Value.act H) W := by
  funext y
  idx_vars y
  pointwise [Cert.KernelMlpDownIdeal.Value.prod, Cert.KernelMlpDownIdeal.Value.act]

end Cert.ReferenceMlpDownIdeal.Value

end
-- ==== Proof.ProdGdnProj.lean ====
/- The delta rule's input projection: the kernel's tiles are the reference's product. -/
module

public import proofs.«01_k».proof.Proof.Gen.KernelGdnProjIdeal.Value
public import proofs.«01_k».proof.Proof.Gen.ReferenceGdnProjIdeal.Run
public import Idealize.ShloMosaic.Lib.Pipeline.ValueKit

@[expose] public section

set_option maxRecDepth 16384

noncomputable section

namespace Cert.KernelGdnProjIdeal.Value

open Cert.KernelGdnProjIdeal Cert.KernelGdnProjIdeal.Gen Idealize.ShloMosaic Idealize.ShloMosaic.TcCoe Idealize.SL.Sem
open Idealize.ShloMosaic.Pipeline (Dat)

variable (m : (ℓ : Loc nD τ sig) → Buf (Elt Ideal) ℓ)

/-- The projection. -/
def prod (X : FVec Ideal S2048x1024 .f32) (W : FVec Ideal S1024x4096 .f32) : FVec Ideal S2048x4096 .f32 :=
  fun y => ∑ k : Fin 1024, (X (ix2 (y 0) k) : EReal) * W (ix2 k (y 1))

theorem idx : ∀ t : Fin cfg0.N, win0_0.index t = ![t.val / 4, 0]
    ∧ win0_1.index t = ![0, t.val % 4]
    ∧ win0_2.index t = ![t.val / 4, t.val % 4] :=
  (by decide +kernel : ∀ t : Fin grid0.N, _)

theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, prod]
  blk_point [iblk, V, idx t]

end Cert.KernelGdnProjIdeal.Value

namespace Cert.ReferenceGdnProjIdeal.Value

open Cert.ReferenceGdnProjIdeal Cert.ReferenceGdnProjIdeal.Gen Idealize.ShloMosaic

/-- The reference's result is the same array. -/
theorem value (X : FVec Ideal S2048x1024 .f32) (W : FVec Ideal S1024x4096 .f32) :
    Host.dotGeneral dot_S2048x1024_S1024x4096_S2048x4096_1_0_0_1_n_n none X W = Cert.KernelGdnProjIdeal.Value.prod X W := by
  funext y
  idx_vars y
  pointwise [Cert.KernelGdnProjIdeal.Value.prod]

end Cert.ReferenceGdnProjIdeal.Value

end
-- ==== Proof.ProdGlaProj.lean ====
/- The gated linear attention's input projection: the kernel's tiles are the reference's product. -/
module

public import proofs.«01_k».proof.Proof.Gen.KernelGlaProjIdeal.Value
public import proofs.«01_k».proof.Proof.Gen.ReferenceGlaProjIdeal.Run
public import Idealize.ShloMosaic.Lib.Pipeline.ValueKit

@[expose] public section

set_option maxRecDepth 16384

noncomputable section

namespace Cert.KernelGlaProjIdeal.Value

open Cert.KernelGlaProjIdeal Cert.KernelGlaProjIdeal.Gen Idealize.ShloMosaic Idealize.ShloMosaic.TcCoe Idealize.SL.Sem
open Idealize.ShloMosaic.Pipeline (Dat)

variable (m : (ℓ : Loc nD τ sig) → Buf (Elt Ideal) ℓ)

/-- The projection. -/
def prod (X : FVec Ideal S2048x1024 .f32) (W : FVec Ideal S1024x3072 .f32) : FVec Ideal S2048x3072 .f32 :=
  fun y => ∑ k : Fin 1024, (X (ix2 (y 0) k) : EReal) * W (ix2 k (y 1))

theorem idx : ∀ t : Fin cfg0.N, win0_0.index t = ![t.val / 3, 0]
    ∧ win0_1.index t = ![0, t.val % 3]
    ∧ win0_2.index t = ![t.val / 3, t.val % 3] :=
  (by decide +kernel : ∀ t : Fin grid0.N, _)

theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, prod]
  blk_point [iblk, V, idx t]

end Cert.KernelGlaProjIdeal.Value

namespace Cert.ReferenceGlaProjIdeal.Value

open Cert.ReferenceGlaProjIdeal Cert.ReferenceGlaProjIdeal.Gen Idealize.ShloMosaic

/-- The reference's result is the same array. -/
theorem value (X : FVec Ideal S2048x1024 .f32) (W : FVec Ideal S1024x3072 .f32) :
    Host.dotGeneral dot_S2048x1024_S1024x3072_S2048x3072_1_0_0_1_n_n none X W = Cert.KernelGlaProjIdeal.Value.prod X W := by
  funext y
  idx_vars y
  pointwise [Cert.KernelGlaProjIdeal.Value.prod]

end Cert.ReferenceGlaProjIdeal.Value

end
-- ==== Proof.ProdGateProj.lean ====
/- A mixer's gate projection: the kernel's tiles are the reference's product. -/
module

public import proofs.«01_k».proof.Proof.Gen.KernelGateProjIdeal.Value
public import proofs.«01_k».proof.Proof.Gen.ReferenceGateProjIdeal.Run
public import Idealize.ShloMosaic.Lib.Pipeline.ValueKit

@[expose] public section

set_option maxRecDepth 16384

noncomputable section

namespace Cert.KernelGateProjIdeal.Value

open Cert.KernelGateProjIdeal Cert.KernelGateProjIdeal.Gen Idealize.ShloMosaic Idealize.ShloMosaic.TcCoe Idealize.SL.Sem
open Idealize.ShloMosaic.Pipeline (Dat)

variable (m : (ℓ : Loc nD τ sig) → Buf (Elt Ideal) ℓ)

/-- The projection. -/
def prod (X : FVec Ideal S2048x1024 .f32) (W : FVec Ideal S1024x128 .f32) : FVec Ideal S2048x128 .f32 :=
  fun y => ∑ k : Fin 1024, (X (ix2 (y 0) k) : EReal) * W (ix2 k (y 1))

theorem idx : ∀ t : Fin cfg0.N, win0_0.index t = ![t.val, 0]
    ∧ win0_1.index t = ![0, 0]
    ∧ win0_2.index t = ![t.val, 0] :=
  (by decide +kernel : ∀ t : Fin grid0.N, _)

theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, prod]
  blk_point [iblk, V, idx t]

end Cert.KernelGateProjIdeal.Value

namespace Cert.ReferenceGateProjIdeal.Value

open Cert.ReferenceGateProjIdeal Cert.ReferenceGateProjIdeal.Gen Idealize.ShloMosaic

/-- The reference's result is the same array. -/
theorem value (X : FVec Ideal S2048x1024 .f32) (W : FVec Ideal S1024x128 .f32) :
    Host.dotGeneral dot_S2048x1024_S1024x128_S2048x128_1_0_0_1_n_n none X W = Cert.KernelGateProjIdeal.Value.prod X W := by
  funext y
  idx_vars y
  pointwise [Cert.KernelGateProjIdeal.Value.prod]

end Cert.ReferenceGateProjIdeal.Value

end
-- ==== Proof.ProdOutProj.lean ====
/- A mixer's output projection: the kernel's tiles are the reference's product. -/
module

public import proofs.«01_k».proof.Proof.Gen.KernelOutProjIdeal.Value
public import proofs.«01_k».proof.Proof.Gen.ReferenceOutProjIdeal.Run
public import Idealize.ShloMosaic.Lib.Pipeline.ValueKit

@[expose] public section

set_option maxRecDepth 16384

noncomputable section

namespace Cert.KernelOutProjIdeal.Value

open Cert.KernelOutProjIdeal Cert.KernelOutProjIdeal.Gen Idealize.ShloMosaic Idealize.ShloMosaic.TcCoe Idealize.SL.Sem
open Idealize.ShloMosaic.Pipeline (Dat)

variable (m : (ℓ : Loc nD τ sig) → Buf (Elt Ideal) ℓ)

/-- The projection. -/
def prod (X : FVec Ideal S2048x1024 .f32) (W : FVec Ideal S1024x1024 .f32) : FVec Ideal S2048x1024 .f32 :=
  fun y => ∑ k : Fin 1024, (X (ix2 (y 0) k) : EReal) * W (ix2 k (y 1))

theorem idx : ∀ t : Fin cfg0.N, win0_0.index t = ![t.val, 0]
    ∧ win0_1.index t = ![0, 0]
    ∧ win0_2.index t = ![t.val, 0] :=
  (by decide +kernel : ∀ t : Fin grid0.N, _)

theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, prod]
  blk_point [iblk, V, idx t]

end Cert.KernelOutProjIdeal.Value

namespace Cert.ReferenceOutProjIdeal.Value

open Cert.ReferenceOutProjIdeal Cert.ReferenceOutProjIdeal.Gen Idealize.ShloMosaic

/-- The reference's result is the same array. -/
theorem value (X : FVec Ideal S2048x1024 .f32) (W : FVec Ideal S1024x1024 .f32) :
    Host.dotGeneral dot_S2048x1024_S1024x1024_S2048x1024_1_0_0_1_n_n none X W = Cert.KernelOutProjIdeal.Value.prod X W := by
  funext y
  idx_vars y
  pointwise [Cert.KernelOutProjIdeal.Value.prod]

end Cert.ReferenceOutProjIdeal.Value

end
-- ==== Proof.Forward.lean ====
/- The frames of the references of the forward products, and the values of the kernels. -/
module

public import proofs.«01_k».proof.Defs
public import proofs.«01_k».proof.Proof.ProdMlpUp
public import proofs.«01_k».proof.Proof.ProdMlpDown
public import proofs.«01_k».proof.Proof.ProdGdnProj
public import proofs.«01_k».proof.Proof.ProdGlaProj
public import proofs.«01_k».proof.Proof.ProdGateProj
public import proofs.«01_k».proof.Proof.ProdOutProj

@[expose] public section

noncomputable section

namespace Cert.Proof

open Idealize.ShloMosaic Idealize.SL.Sem

/-- The reference `MlpUp`'s frame: its run, read at its arguments; it declares no semaphore. -/
theorem frameMlpUp : Cert.quiescent_ReferenceMlpUpIdeal (hReferenceMlpUpIdeal := Cert.ReferenceMlpUpIdeal.Gen.facts) := fun m ρ _ =>
  (θ_run Cert.ReferenceMlpUpIdeal.defs _ _).mono (fun r h => ⟨fun c => (h c).2.2, Idealize.ShloMosaic.sem_eq_zero_of_no_sems (by decide) r.2⟩)
    (Cert.ReferenceMlpUpIdeal.Value.run (F := Ideal) m ρ)

/-- The kernel `MlpUp` and its reference return the same arrays. -/
theorem algebraicMlpUp : Cert.algebraic_KernelMlpUpIdeal_ReferenceMlpUpIdeal (hKernelMlpUpIdeal := Cert.KernelMlpUpIdeal.Gen.facts)
    (hReferenceMlpUpIdeal := Cert.ReferenceMlpUpIdeal.Gen.facts) := by
  intro m g m' g' _ args
  refine ⟨fun c => Cert.KernelMlpUpIdeal.Value.prod (m ((c.tc : Thread Cert.KernelMlpUpIdeal.nD Cert.KernelMlpUpIdeal.τ).loc Cert.KernelMlpUpIdeal.main_arg0)) (m ((c.tc : Thread Cert.KernelMlpUpIdeal.nD Cert.KernelMlpUpIdeal.τ).loc Cert.KernelMlpUpIdeal.main_arg1)),
    fun c => Cert.KernelMlpUpIdeal.Value.act (m ((c.tc : Thread Cert.KernelMlpUpIdeal.nD Cert.KernelMlpUpIdeal.τ).loc Cert.KernelMlpUpIdeal.main_arg0)) (m ((c.tc : Thread Cert.KernelMlpUpIdeal.nD Cert.KernelMlpUpIdeal.τ).loc Cert.KernelMlpUpIdeal.main_arg1)), ?_, ?_⟩
  · exact (θ_run Cert.KernelMlpUpIdeal.defs _ _).mono (fun _ h c => ⟨(h c).1.trans (Cert.KernelMlpUpIdeal.Value.final m c),
        (h c).2.1.trans (Cert.KernelMlpUpIdeal.Value.final_act m c), (h c).2.2⟩)
      (Cert.KernelMlpUpIdeal.Value.run_blocks (F := Ideal) m g)
  · refine (θ_run Cert.ReferenceMlpUpIdeal.defs _ _).mono (fun _ h c => ⟨(h c).1.trans ((Cert.ReferenceMlpUpIdeal.Value.value _ _).trans ?_),
        (h c).2.1.trans ((Cert.ReferenceMlpUpIdeal.Value.value_act _ _).trans ?_), (h c).2.2⟩)
      (Cert.ReferenceMlpUpIdeal.Value.run (F := Ideal) m' g')
    all_goals rw [(args c).1, (args c).2]

/-- The reference `MlpDown`'s frame: its run, read at its arguments; it declares no semaphore. -/
theorem frameMlpDown : Cert.quiescent_ReferenceMlpDownIdeal (hReferenceMlpDownIdeal := Cert.ReferenceMlpDownIdeal.Gen.facts) := fun m ρ _ =>
  (θ_run Cert.ReferenceMlpDownIdeal.defs _ _).mono (fun r h => ⟨fun c => (h c).2, Idealize.ShloMosaic.sem_eq_zero_of_no_sems (by decide) r.2⟩)
    (Cert.ReferenceMlpDownIdeal.Value.run (F := Ideal) m ρ)

/-- The kernel `MlpDown` and its reference return one array. -/
theorem algebraicMlpDown : Cert.algebraic_KernelMlpDownIdeal_ReferenceMlpDownIdeal (hKernelMlpDownIdeal := Cert.KernelMlpDownIdeal.Gen.facts)
    (hReferenceMlpDownIdeal := Cert.ReferenceMlpDownIdeal.Gen.facts) := by
  intro m g m' g' _ args
  refine ⟨fun c => Cert.KernelMlpDownIdeal.Value.prod (Cert.KernelMlpDownIdeal.Value.act (m ((c.tc : Thread Cert.KernelMlpDownIdeal.nD Cert.KernelMlpDownIdeal.τ).loc Cert.KernelMlpDownIdeal.main_arg0))) (m ((c.tc : Thread Cert.KernelMlpDownIdeal.nD Cert.KernelMlpDownIdeal.τ).loc Cert.KernelMlpDownIdeal.main_arg1)), ?_, ?_⟩
  · exact (θ_run Cert.KernelMlpDownIdeal.defs _ _).mono (fun _ h c => ⟨(h c).1.trans (Cert.KernelMlpDownIdeal.Value.final m c), (h c).2⟩)
      (Cert.KernelMlpDownIdeal.Value.run_blocks (F := Ideal) m g)
  · refine (θ_run Cert.ReferenceMlpDownIdeal.defs _ _).mono (fun _ h c => ⟨(h c).1.trans ((Cert.ReferenceMlpDownIdeal.Value.value _ _).trans ?_), (h c).2⟩)
      (Cert.ReferenceMlpDownIdeal.Value.run (F := Ideal) m' g')
    rw [(args c).1, (args c).2]

/-- The reference `GdnProj`'s frame: its run, read at its arguments; it declares no semaphore. -/
theorem frameGdnProj : Cert.quiescent_ReferenceGdnProjIdeal (hReferenceGdnProjIdeal := Cert.ReferenceGdnProjIdeal.Gen.facts) := fun m ρ _ =>
  (θ_run Cert.ReferenceGdnProjIdeal.defs _ _).mono (fun r h => ⟨fun c => (h c).2, Idealize.ShloMosaic.sem_eq_zero_of_no_sems (by decide) r.2⟩)
    (Cert.ReferenceGdnProjIdeal.Value.run (F := Ideal) m ρ)

/-- The kernel `GdnProj` and its reference return one array. -/
theorem algebraicGdnProj : Cert.algebraic_KernelGdnProjIdeal_ReferenceGdnProjIdeal (hKernelGdnProjIdeal := Cert.KernelGdnProjIdeal.Gen.facts)
    (hReferenceGdnProjIdeal := Cert.ReferenceGdnProjIdeal.Gen.facts) := by
  intro m g m' g' _ args
  refine ⟨fun c => Cert.KernelGdnProjIdeal.Value.prod (m ((c.tc : Thread Cert.KernelGdnProjIdeal.nD Cert.KernelGdnProjIdeal.τ).loc Cert.KernelGdnProjIdeal.main_arg0)) (m ((c.tc : Thread Cert.KernelGdnProjIdeal.nD Cert.KernelGdnProjIdeal.τ).loc Cert.KernelGdnProjIdeal.main_arg1)), ?_, ?_⟩
  · exact (θ_run Cert.KernelGdnProjIdeal.defs _ _).mono (fun _ h c => ⟨(h c).1.trans (Cert.KernelGdnProjIdeal.Value.final m c), (h c).2⟩)
      (Cert.KernelGdnProjIdeal.Value.run_blocks (F := Ideal) m g)
  · refine (θ_run Cert.ReferenceGdnProjIdeal.defs _ _).mono (fun _ h c => ⟨(h c).1.trans ((Cert.ReferenceGdnProjIdeal.Value.value _ _).trans ?_), (h c).2⟩)
      (Cert.ReferenceGdnProjIdeal.Value.run (F := Ideal) m' g')
    rw [(args c).1, (args c).2]

/-- The reference `GlaProj`'s frame: its run, read at its arguments; it declares no semaphore. -/
theorem frameGlaProj : Cert.quiescent_ReferenceGlaProjIdeal (hReferenceGlaProjIdeal := Cert.ReferenceGlaProjIdeal.Gen.facts) := fun m ρ _ =>
  (θ_run Cert.ReferenceGlaProjIdeal.defs _ _).mono (fun r h => ⟨fun c => (h c).2, Idealize.ShloMosaic.sem_eq_zero_of_no_sems (by decide) r.2⟩)
    (Cert.ReferenceGlaProjIdeal.Value.run (F := Ideal) m ρ)

/-- The kernel `GlaProj` and its reference return one array. -/
theorem algebraicGlaProj : Cert.algebraic_KernelGlaProjIdeal_ReferenceGlaProjIdeal (hKernelGlaProjIdeal := Cert.KernelGlaProjIdeal.Gen.facts)
    (hReferenceGlaProjIdeal := Cert.ReferenceGlaProjIdeal.Gen.facts) := by
  intro m g m' g' _ args
  refine ⟨fun c => Cert.KernelGlaProjIdeal.Value.prod (m ((c.tc : Thread Cert.KernelGlaProjIdeal.nD Cert.KernelGlaProjIdeal.τ).loc Cert.KernelGlaProjIdeal.main_arg0)) (m ((c.tc : Thread Cert.KernelGlaProjIdeal.nD Cert.KernelGlaProjIdeal.τ).loc Cert.KernelGlaProjIdeal.main_arg1)), ?_, ?_⟩
  · exact (θ_run Cert.KernelGlaProjIdeal.defs _ _).mono (fun _ h c => ⟨(h c).1.trans (Cert.KernelGlaProjIdeal.Value.final m c), (h c).2⟩)
      (Cert.KernelGlaProjIdeal.Value.run_blocks (F := Ideal) m g)
  · refine (θ_run Cert.ReferenceGlaProjIdeal.defs _ _).mono (fun _ h c => ⟨(h c).1.trans ((Cert.ReferenceGlaProjIdeal.Value.value _ _).trans ?_), (h c).2⟩)
      (Cert.ReferenceGlaProjIdeal.Value.run (F := Ideal) m' g')
    rw [(args c).1, (args c).2]

/-- The reference `GateProj`'s frame: its run, read at its arguments; it declares no semaphore. -/
theorem frameGateProj : Cert.quiescent_ReferenceGateProjIdeal (hReferenceGateProjIdeal := Cert.ReferenceGateProjIdeal.Gen.facts) := fun m ρ _ =>
  (θ_run Cert.ReferenceGateProjIdeal.defs _ _).mono (fun r h => ⟨fun c => (h c).2, Idealize.ShloMosaic.sem_eq_zero_of_no_sems (by decide) r.2⟩)
    (Cert.ReferenceGateProjIdeal.Value.run (F := Ideal) m ρ)

/-- The kernel `GateProj` and its reference return one array. -/
theorem algebraicGateProj : Cert.algebraic_KernelGateProjIdeal_ReferenceGateProjIdeal (hKernelGateProjIdeal := Cert.KernelGateProjIdeal.Gen.facts)
    (hReferenceGateProjIdeal := Cert.ReferenceGateProjIdeal.Gen.facts) := by
  intro m g m' g' _ args
  refine ⟨fun c => Cert.KernelGateProjIdeal.Value.prod (m ((c.tc : Thread Cert.KernelGateProjIdeal.nD Cert.KernelGateProjIdeal.τ).loc Cert.KernelGateProjIdeal.main_arg0)) (m ((c.tc : Thread Cert.KernelGateProjIdeal.nD Cert.KernelGateProjIdeal.τ).loc Cert.KernelGateProjIdeal.main_arg1)), ?_, ?_⟩
  · exact (θ_run Cert.KernelGateProjIdeal.defs _ _).mono (fun _ h c => ⟨(h c).1.trans (Cert.KernelGateProjIdeal.Value.final m c), (h c).2⟩)
      (Cert.KernelGateProjIdeal.Value.run_blocks (F := Ideal) m g)
  · refine (θ_run Cert.ReferenceGateProjIdeal.defs _ _).mono (fun _ h c => ⟨(h c).1.trans ((Cert.ReferenceGateProjIdeal.Value.value _ _).trans ?_), (h c).2⟩)
      (Cert.ReferenceGateProjIdeal.Value.run (F := Ideal) m' g')
    rw [(args c).1, (args c).2]

/-- The reference `OutProj`'s frame: its run, read at its arguments; it declares no semaphore. -/
theorem frameOutProj : Cert.quiescent_ReferenceOutProjIdeal (hReferenceOutProjIdeal := Cert.ReferenceOutProjIdeal.Gen.facts) := fun m ρ _ =>
  (θ_run Cert.ReferenceOutProjIdeal.defs _ _).mono (fun r h => ⟨fun c => (h c).2, Idealize.ShloMosaic.sem_eq_zero_of_no_sems (by decide) r.2⟩)
    (Cert.ReferenceOutProjIdeal.Value.run (F := Ideal) m ρ)

/-- The kernel `OutProj` and its reference return one array. -/
theorem algebraicOutProj : Cert.algebraic_KernelOutProjIdeal_ReferenceOutProjIdeal (hKernelOutProjIdeal := Cert.KernelOutProjIdeal.Gen.facts)
    (hReferenceOutProjIdeal := Cert.ReferenceOutProjIdeal.Gen.facts) := by
  intro m g m' g' _ args
  refine ⟨fun c => Cert.KernelOutProjIdeal.Value.prod (m ((c.tc : Thread Cert.KernelOutProjIdeal.nD Cert.KernelOutProjIdeal.τ).loc Cert.KernelOutProjIdeal.main_arg0)) (m ((c.tc : Thread Cert.KernelOutProjIdeal.nD Cert.KernelOutProjIdeal.τ).loc Cert.KernelOutProjIdeal.main_arg1)), ?_, ?_⟩
  · exact (θ_run Cert.KernelOutProjIdeal.defs _ _).mono (fun _ h c => ⟨(h c).1.trans (Cert.KernelOutProjIdeal.Value.final m c), (h c).2⟩)
      (Cert.KernelOutProjIdeal.Value.run_blocks (F := Ideal) m g)
  · refine (θ_run Cert.ReferenceOutProjIdeal.defs _ _).mono (fun _ h c => ⟨(h c).1.trans ((Cert.ReferenceOutProjIdeal.Value.value _ _).trans ?_), (h c).2⟩)
      (Cert.ReferenceOutProjIdeal.Value.run (F := Ideal) m' g')
    rw [(args c).1, (args c).2]

end Cert.Proof

end
-- ==== Proof.ProdGdnDw.lean ====
/- The gradient of the delta rule's input projection: the rows' runs of the kernel's sums are the reference's one sum. -/
module

public import proofs.«01_k».proof.Proof.Gen.KernelGdnDwIdeal.Value
public import proofs.«01_k».proof.Proof.Gen.ReferenceGdnDwIdeal.Run
public import Idealize.ShloMosaic.Lib.Pipeline.ValueKit

@[expose] public section

set_option maxRecDepth 16384

noncomputable section

namespace Cert.KernelGdnDwIdeal.Value

open Cert.KernelGdnDwIdeal Cert.KernelGdnDwIdeal.Gen Idealize.ShloMosaic Idealize.ShloMosaic.TcCoe Idealize.SL.Sem
open Idealize.ShloMosaic.Pipeline (Dat)

variable (m : (ℓ : Loc nD τ sig) → Buf (Elt Ideal) ℓ)

/-- The weight's gradient. -/
def grad (X : FVec Ideal S2048x1024 .f32) (D : FVec Ideal S2048x4096 .f32) : FVec Ideal S1024x4096 .f32 :=
  fun y => ∑ k : Fin 2048, (X (ix2 k (y 0)) : EReal) * D (ix2 k (y 1))

theorem idx : ∀ t : Fin cfg0.N, win0_0.index t = ![t.val % 2, 0]
    ∧ win0_1.index t = ![t.val % 2, t.val / 2]
    ∧ win0_2.index t = ![0, t.val / 2] :=
  (by decide +kernel : ∀ t : Fin grid0.N, _)

/-- The product of the run's first blocks. -/
theorem first (a : Vec Ideal S1024x1024 .bf16) (b : Vec Ideal S1024x1024 .f32) (j : S1024x1024.Idx) :
    k0_pay1 a b j = (0 : EReal) + ∑ k : Fin 1024, (a (ix2 k (j 0)) : EReal) * b (ix2 k (j 1)) := by
  pointwise [k0_pay1]

/-- A later product, added to what the block holds. -/
theorem next (a : Vec Ideal S1024x1024 .bf16) (b : Vec Ideal S1024x1024 .f32) (o : Vec Ideal S1024x1024 .f32) (j : S1024x1024.Idx) :
    k0_pay2 a b o j = (o j : EReal) + ∑ k : Fin 1024, (a (ix2 k (j 0)) : EReal) * b (ix2 k (j 1)) := by
  pointwise [k0_pay1, k0_pay2]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first, zero_add])
    (fun t h j => by rw [outsAt0_B m c t h (by omega)]; frame_out; rw [next])
    t ((flush0_2 t).mp hf) _, zero_add]
  unfold grad
  refine Fin.sum_mul_add_congr fun s k hl => ?_
  blk_point [iblk, V, idx t, idx ⟨_, Pipeline.run_point_lt_of_flush t ((flush0_2 t).mp hf) s⟩]

end Cert.KernelGdnDwIdeal.Value

namespace Cert.ReferenceGdnDwIdeal.Value

open Cert.ReferenceGdnDwIdeal Cert.ReferenceGdnDwIdeal.Gen Idealize.ShloMosaic

/-- The reference's result is the same array. -/
theorem value (X : FVec Ideal S2048x1024 .f32) (D : FVec Ideal S2048x4096 .f32) :
    transpose S1024x4096 [1, 0] (Host.dotGeneral dot_S2048x4096_S2048x1024_S4096x1024_0_0_1_1_n_n none D X) transposes_S4096x1024_S1024x4096_1_0 = Cert.KernelGdnDwIdeal.Value.grad X D := by
  funext y
  idx_vars y
  pointwise [Cert.KernelGdnDwIdeal.Value.grad]
  exact Fin.sum_fin_congr fun _ => mul_comm _ _

end Cert.ReferenceGdnDwIdeal.Value

end
-- ==== Proof.ProdGdnDx.lean ====
/- The gradient of the delta rule's input: the columns' runs of the kernel's sums are the reference's one sum, and the other paths' gradient is added last. -/
module

public import proofs.«01_k».proof.Proof.Gen.KernelGdnDxIdeal.Value
public import proofs.«01_k».proof.Proof.Gen.ReferenceGdnDxIdeal.Run
public import Idealize.ShloMosaic.Lib.Pipeline.ValueKit

@[expose] public section

set_option maxRecDepth 16384

noncomputable section

namespace Cert.KernelGdnDxIdeal.Value

open Cert.KernelGdnDxIdeal Cert.KernelGdnDxIdeal.Gen Idealize.ShloMosaic Idealize.ShloMosaic.TcCoe Idealize.SL.Sem
open Idealize.ShloMosaic.Pipeline (Dat)

variable (m : (ℓ : Loc nD τ sig) → Buf (Elt Ideal) ℓ)

/-- The input's gradient. -/
def grad (W : FVec Ideal S1024x4096 .f32) (D : FVec Ideal S2048x4096 .f32) (R : FVec Ideal S2048x1024 .f32) :
    FVec Ideal S2048x1024 .f32 :=
  fun y => (∑ k : Fin 4096, (D (ix2 (y 0) k) : EReal) * W (ix2 (y 1) k)) + R y

theorem idx : ∀ t : Fin cfg0.N, win0_0.index t = ![t.val / 4, t.val % 4]
    ∧ win0_1.index t = ![0, t.val % 4]
    ∧ win0_2.index t = ![t.val / 4, 0]
    ∧ win0_3.index t = ![t.val / 4, 0] :=
  (by decide +kernel : ∀ t : Fin grid0.N, _)

/-- The product of the run's first blocks. -/
theorem first (a : Vec Ideal S1024x1024 .f32) (b : Vec Ideal S1024x1024 .bf16) (j : S1024x1024.Idx) :
    k0_pay1 a b j = (0 : EReal) + ∑ k : Fin 1024, (a (ix2 (j 0) k) : EReal) * b (ix2 (j 1) k) := by
  pointwise [k0_pay1]

/-- A later product, added to what the block holds. -/
theorem next (a : Vec Ideal S1024x1024 .f32) (b : Vec Ideal S1024x1024 .bf16) (o : Vec Ideal S1024x1024 .f32) (j : S1024x1024.Idx) :
    k0_pay2 a b o j = (o j : EReal) + ∑ k : Fin 1024, (a (ix2 (j 0) k) : EReal) * b (ix2 (j 1) k) := by
  pointwise [k0_pay1, k0_pay2]

/-- The gradient by the other paths, added last. -/
theorem last (o r : Vec Ideal S1024x1024 .f32) (j : S1024x1024.Idx) :
    k0_pay3 o r j = (o j : EReal) + r j := by
  pointwise [k0_pay3]

/-- What the block holds after a point's product, before the other paths' gradient. -/
def acc (c : Dev nD) (n : ℕ) (h : n < cfg0.N) : Vec Ideal S1024x1024 .f32 :=
  if n % 4 = 3 then k0_pay2 (iblk m c 0 ⟨n, h⟩) (iblk m c 1 ⟨n, h⟩) (outsAt0 m c (n - 1) (Nat.lt_of_le_of_lt (Nat.sub_le _ _) h))
  else outsAt0 m c n h

theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  have e : outsAt0 m c t.val t.isLt = k0_pay3 (acc m c t.val t.isLt) (iblk m c 2 t) := by
    rw [outsAt0_C m c t (by omega) (by omega) h3, acc, if_pos h3]; frame_out
  blk_simp
  rw [after0_3, e, last, Pipeline.eq_sum_fin_of_reset_step_apply_of_flush (fun n h => acc m c n h) 4 (fun _ => 0) _
    (fun t h j => by
      show acc m c t.val t.isLt j = _
      rw [acc, if_neg (by omega), outsAt0_A m c t h (by omega) (by omega)]; frame_out; rw [first, zero_add])
    (fun t h j => by
      show acc m c t.val t.isLt j = acc m c (t.val - 1) _ j + _
      have e : acc m c t.val t.isLt = k0_pay2 (iblk m c 0 t) (iblk m c 1 t) (acc m c (t.val - 1) (Nat.lt_of_le_of_lt (Nat.sub_le _ _) t.isLt)) := by
        rw [acc, acc, if_neg (show ¬(t.val - 1) % 4 = 3 by omega)]
        split
        · rfl
        · rw [outsAt0_B m c t h (by omega) (by omega)]; frame_out
      rw [e, next])
    t h3 _, zero_add]
  unfold grad
  refine congrArg₂ (fun a b : EReal => a + b) ?_ ?_
  · refine Fin.sum_mul_add_congr fun s k hl => ?_
    blk_point [iblk, V, idx t, idx ⟨_, Pipeline.run_point_lt_of_flush t h3 s⟩]
  · blk_point [iblk, V, idx t]

end Cert.KernelGdnDxIdeal.Value

namespace Cert.ReferenceGdnDxIdeal.Value

open Cert.ReferenceGdnDxIdeal Cert.ReferenceGdnDxIdeal.Gen Idealize.ShloMosaic

/-- The reference's result is the same array. -/
theorem value (W : FVec Ideal S1024x4096 .f32) (D : FVec Ideal S2048x4096 .f32) (R : FVec Ideal S2048x1024 .f32) :
    addf (mulf (broadcastInDim S2048x1024 ![] bcast_S_S2048x1024 (constant S_ .f32 0x3F800000#32)) R) (Host.dotGeneral dot_S2048x4096_S1024x4096_S2048x1024_1_1_0_0_n_n none D W) = Cert.KernelGdnDxIdeal.Value.grad W D R := by
  funext y
  idx_vars y
  pointwise [Cert.KernelGdnDxIdeal.Value.grad]
  exact add_comm _ _

end Cert.ReferenceGdnDxIdeal.Value

end
-- ==== Proof.ProdGlaDw.lean ====
/- The gradient of the gated linear attention's input projection: the rows' runs of the kernel's sums are the reference's one sum. -/
module

public import proofs.«01_k».proof.Proof.Gen.KernelGlaDwIdeal.Value
public import proofs.«01_k».proof.Proof.Gen.ReferenceGlaDwIdeal.Run
public import Idealize.ShloMosaic.Lib.Pipeline.ValueKit

@[expose] public section

set_option maxRecDepth 16384

noncomputable section

namespace Cert.KernelGlaDwIdeal.Value

open Cert.KernelGlaDwIdeal Cert.KernelGlaDwIdeal.Gen Idealize.ShloMosaic Idealize.ShloMosaic.TcCoe Idealize.SL.Sem
open Idealize.ShloMosaic.Pipeline (Dat)

variable (m : (ℓ : Loc nD τ sig) → Buf (Elt Ideal) ℓ)

/-- The weight's gradient. -/
def grad (X : FVec Ideal S2048x1024 .f32) (D : FVec Ideal S2048x3072 .f32) : FVec Ideal S1024x3072 .f32 :=
  fun y => ∑ k : Fin 2048, (X (ix2 k (y 0)) : EReal) * D (ix2 k (y 1))

theorem idx : ∀ t : Fin cfg0.N, win0_0.index t = ![t.val % 2, 0]
    ∧ win0_1.index t = ![t.val % 2, t.val / 2]
    ∧ win0_2.index t = ![0, t.val / 2] :=
  (by decide +kernel : ∀ t : Fin grid0.N, _)

/-- The product of the run's first blocks. -/
theorem first (a : Vec Ideal S1024x1024 .bf16) (b : Vec Ideal S1024x1024 .f32) (j : S1024x1024.Idx) :
    k0_pay1 a b j = (0 : EReal) + ∑ k : Fin 1024, (a (ix2 k (j 0)) : EReal) * b (ix2 k (j 1)) := by
  pointwise [k0_pay1]

/-- A later product, added to what the block holds. -/
theorem next (a : Vec Ideal S1024x1024 .bf16) (b : Vec Ideal S1024x1024 .f32) (o : Vec Ideal S1024x1024 .f32) (j : S1024x1024.Idx) :
    k0_pay2 a b o j = (o j : EReal) + ∑ k : Fin 1024, (a (ix2 k (j 0)) : EReal) * b (ix2 k (j 1)) := by
  pointwise [k0_pay1, k0_pay2]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first, zero_add])
    (fun t h j => by rw [outsAt0_B m c t h (by omega)]; frame_out; rw [next])
    t ((flush0_2 t).mp hf) _, zero_add]
  unfold grad
  refine Fin.sum_mul_add_congr fun s k hl => ?_
  blk_point [iblk, V, idx t, idx ⟨_, Pipeline.run_point_lt_of_flush t ((flush0_2 t).mp hf) s⟩]

end Cert.KernelGlaDwIdeal.Value

namespace Cert.ReferenceGlaDwIdeal.Value

open Cert.ReferenceGlaDwIdeal Cert.ReferenceGlaDwIdeal.Gen Idealize.ShloMosaic

/-- The reference's result is the same array. -/
theorem value (X : FVec Ideal S2048x1024 .f32) (D : FVec Ideal S2048x3072 .f32) :
    transpose S1024x3072 [1, 0] (Host.dotGeneral dot_S2048x3072_S2048x1024_S3072x1024_0_0_1_1_n_n none D X) transposes_S3072x1024_S1024x3072_1_0 = Cert.KernelGlaDwIdeal.Value.grad X D := by
  funext y
  idx_vars y
  pointwise [Cert.KernelGlaDwIdeal.Value.grad]
  exact Fin.sum_fin_congr fun _ => mul_comm _ _

end Cert.ReferenceGlaDwIdeal.Value

end
-- ==== Proof.ProdGlaDx.lean ====
/- The gradient of the gated linear attention's input: the columns' runs of the kernel's sums are the reference's one sum, and the other paths' gradient is added last. -/
module

public import proofs.«01_k».proof.Proof.Gen.KernelGlaDxIdeal.Value
public import proofs.«01_k».proof.Proof.Gen.ReferenceGlaDxIdeal.Run
public import Idealize.ShloMosaic.Lib.Pipeline.ValueKit

@[expose] public section

set_option maxRecDepth 16384

noncomputable section

namespace Cert.KernelGlaDxIdeal.Value

open Cert.KernelGlaDxIdeal Cert.KernelGlaDxIdeal.Gen Idealize.ShloMosaic Idealize.ShloMosaic.TcCoe Idealize.SL.Sem
open Idealize.ShloMosaic.Pipeline (Dat)

variable (m : (ℓ : Loc nD τ sig) → Buf (Elt Ideal) ℓ)

/-- The input's gradient. -/
def grad (W : FVec Ideal S1024x3072 .f32) (D : FVec Ideal S2048x3072 .f32) (R : FVec Ideal S2048x1024 .f32) :
    FVec Ideal S2048x1024 .f32 :=
  fun y => (∑ k : Fin 3072, (D (ix2 (y 0) k) : EReal) * W (ix2 (y 1) k)) + R y

theorem idx : ∀ t : Fin cfg0.N, win0_0.index t = ![t.val / 3, t.val % 3]
    ∧ win0_1.index t = ![0, t.val % 3]
    ∧ win0_2.index t = ![t.val / 3, 0]
    ∧ win0_3.index t = ![t.val / 3, 0] :=
  (by decide +kernel : ∀ t : Fin grid0.N, _)

/-- The product of the run's first blocks. -/
theorem first (a : Vec Ideal S1024x1024 .f32) (b : Vec Ideal S1024x1024 .bf16) (j : S1024x1024.Idx) :
    k0_pay1 a b j = (0 : EReal) + ∑ k : Fin 1024, (a (ix2 (j 0) k) : EReal) * b (ix2 (j 1) k) := by
  pointwise [k0_pay1]

/-- A later product, added to what the block holds. -/
theorem next (a : Vec Ideal S1024x1024 .f32) (b : Vec Ideal S1024x1024 .bf16) (o : Vec Ideal S1024x1024 .f32) (j : S1024x1024.Idx) :
    k0_pay2 a b o j = (o j : EReal) + ∑ k : Fin 1024, (a (ix2 (j 0) k) : EReal) * b (ix2 (j 1) k) := by
  pointwise [k0_pay1, k0_pay2]

/-- The gradient by the other paths, added last. -/
theorem last (o r : Vec Ideal S1024x1024 .f32) (j : S1024x1024.Idx) :
    k0_pay3 o r j = (o j : EReal) + r j := by
  pointwise [k0_pay3]

/-- What the block holds after a point's product, before the other paths' gradient. -/
def acc (c : Dev nD) (n : ℕ) (h : n < cfg0.N) : Vec Ideal S1024x1024 .f32 :=
  if n % 3 = 2 then k0_pay2 (iblk m c 0 ⟨n, h⟩) (iblk m c 1 ⟨n, h⟩) (outsAt0 m c (n - 1) (Nat.lt_of_le_of_lt (Nat.sub_le _ _) h))
  else outsAt0 m c n h

theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 3 = 2 := (flush0_3 t).mp hf
  have e : outsAt0 m c t.val t.isLt = k0_pay3 (acc m c t.val t.isLt) (iblk m c 2 t) := by
    rw [outsAt0_C m c t (by omega) (by omega) h3, acc, if_pos h3]; frame_out
  blk_simp
  rw [after0_3, e, last, Pipeline.eq_sum_fin_of_reset_step_apply_of_flush (fun n h => acc m c n h) 3 (fun _ => 0) _
    (fun t h j => by
      show acc m c t.val t.isLt j = _
      rw [acc, if_neg (by omega), outsAt0_A m c t h (by omega) (by omega)]; frame_out; rw [first, zero_add])
    (fun t h j => by
      show acc m c t.val t.isLt j = acc m c (t.val - 1) _ j + _
      have e : acc m c t.val t.isLt = k0_pay2 (iblk m c 0 t) (iblk m c 1 t) (acc m c (t.val - 1) (Nat.lt_of_le_of_lt (Nat.sub_le _ _) t.isLt)) := by
        rw [acc, acc, if_neg (show ¬(t.val - 1) % 3 = 2 by omega)]
        split
        · rfl
        · rw [outsAt0_B m c t h (by omega) (by omega)]; frame_out
      rw [e, next])
    t h3 _, zero_add]
  unfold grad
  refine congrArg₂ (fun a b : EReal => a + b) ?_ ?_
  · refine Fin.sum_mul_add_congr fun s k hl => ?_
    blk_point [iblk, V, idx t, idx ⟨_, Pipeline.run_point_lt_of_flush t h3 s⟩]
  · blk_point [iblk, V, idx t]

end Cert.KernelGlaDxIdeal.Value

namespace Cert.ReferenceGlaDxIdeal.Value

open Cert.ReferenceGlaDxIdeal Cert.ReferenceGlaDxIdeal.Gen Idealize.ShloMosaic

/-- The reference's result is the same array. -/
theorem value (W : FVec Ideal S1024x3072 .f32) (D : FVec Ideal S2048x3072 .f32) (R : FVec Ideal S2048x1024 .f32) :
    addf (mulf (broadcastInDim S2048x1024 ![] bcast_S_S2048x1024 (constant S_ .f32 0x3F800000#32)) R) (Host.dotGeneral dot_S2048x3072_S1024x3072_S2048x1024_1_1_0_0_n_n none D W) = Cert.KernelGlaDxIdeal.Value.grad W D R := by
  funext y
  idx_vars y
  pointwise [Cert.KernelGlaDxIdeal.Value.grad]
  exact add_comm _ _

end Cert.ReferenceGlaDxIdeal.Value

end
-- ==== Proof.ProdOutDw.lean ====
/- The gradient of a mixer's output projection: the rows' runs of the kernel's sums are the reference's one sum. -/
module

public import proofs.«01_k».proof.Proof.Gen.KernelOutDwIdeal.Value
public import proofs.«01_k».proof.Proof.Gen.ReferenceOutDwIdeal.Run
public import Idealize.ShloMosaic.Lib.Pipeline.ValueKit

@[expose] public section

set_option maxRecDepth 16384

noncomputable section

namespace Cert.KernelOutDwIdeal.Value

open Cert.KernelOutDwIdeal Cert.KernelOutDwIdeal.Gen Idealize.ShloMosaic Idealize.ShloMosaic.TcCoe Idealize.SL.Sem
open Idealize.ShloMosaic.Pipeline (Dat)

variable (m : (ℓ : Loc nD τ sig) → Buf (Elt Ideal) ℓ)

/-- The weight's gradient. -/
def grad (X : FVec Ideal S2048x1024 .f32) (D : FVec Ideal S2048x1024 .f32) : FVec Ideal S1024x1024 .f32 :=
  fun y => ∑ k : Fin 2048, (X (ix2 k (y 0)) : EReal) * D (ix2 k (y 1))

theorem idx : ∀ t : Fin cfg0.N, win0_0.index t = ![t.val % 2, 0]
    ∧ win0_1.index t = ![t.val % 2, 0]
    ∧ win0_2.index t = ![0, 0] :=
  (by decide +kernel : ∀ t : Fin grid0.N, _)

/-- The product of the run's first blocks. -/
theorem first (a : Vec Ideal S1024x1024 .f32) (b : Vec Ideal S1024x1024 .f32) (j : S1024x1024.Idx) :
    k0_pay1 a b j = (0 : EReal) + ∑ k : Fin 1024, (a (ix2 k (j 0)) : EReal) * b (ix2 k (j 1)) := by
  pointwise [k0_pay1]

/-- A later product, added to what the block holds. -/
theorem next (a : Vec Ideal S1024x1024 .f32) (b : Vec Ideal S1024x1024 .f32) (o : Vec Ideal S1024x1024 .f32) (j : S1024x1024.Idx) :
    k0_pay2 a b o j = (o j : EReal) + ∑ k : Fin 1024, (a (ix2 k (j 0)) : EReal) * b (ix2 k (j 1)) := by
  pointwise [k0_pay1, k0_pay2]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first, zero_add])
    (fun t h j => by rw [outsAt0_B m c t h (by omega)]; frame_out; rw [next])
    t ((flush0_2 t).mp hf) _, zero_add]
  unfold grad
  refine Fin.sum_mul_add_congr fun s k hl => ?_
  blk_point [iblk, V, idx t, idx ⟨_, Pipeline.run_point_lt_of_flush t ((flush0_2 t).mp hf) s⟩]

end Cert.KernelOutDwIdeal.Value

namespace Cert.ReferenceOutDwIdeal.Value

open Cert.ReferenceOutDwIdeal Cert.ReferenceOutDwIdeal.Gen Idealize.ShloMosaic

/-- The reference's result is the same array. -/
theorem value (X : FVec Ideal S2048x1024 .f32) (D : FVec Ideal S2048x1024 .f32) :
    transpose S1024x1024 [1, 0] (Host.dotGeneral dot_S2048x1024_S2048x1024_S1024x1024_0_0_1_1_n_n none D X) transposes_S1024x1024_S1024x1024_1_0 = Cert.KernelOutDwIdeal.Value.grad X D := by
  funext y
  idx_vars y
  pointwise [Cert.KernelOutDwIdeal.Value.grad]
  exact Fin.sum_fin_congr fun _ => mul_comm _ _

end Cert.ReferenceOutDwIdeal.Value

end
-- ==== Proof.ProdOutDy.lean ====
/- The gradient of the output projection's input: the kernel's tiles are the reference's product. -/
module

public import proofs.«01_k».proof.Proof.Gen.KernelOutDyIdeal.Value
public import proofs.«01_k».proof.Proof.Gen.ReferenceOutDyIdeal.Run
public import Idealize.ShloMosaic.Lib.Pipeline.ValueKit

@[expose] public section

set_option maxRecDepth 16384

noncomputable section

namespace Cert.KernelOutDyIdeal.Value

open Cert.KernelOutDyIdeal Cert.KernelOutDyIdeal.Gen Idealize.ShloMosaic Idealize.ShloMosaic.TcCoe Idealize.SL.Sem
open Idealize.ShloMosaic.Pipeline (Dat)

variable (m : (ℓ : Loc nD τ sig) → Buf (Elt Ideal) ℓ)

/-- The gradient of the output projection's input. -/
def grad (W : FVec Ideal S1024x1024 .f32) (D : FVec Ideal S2048x1024 .f32) : FVec Ideal S2048x1024 .f32 :=
  fun y => ∑ k : Fin 1024, (D (ix2 (y 0) k) : EReal) * W (ix2 (y 1) k)

theorem idx : ∀ t : Fin cfg0.N, win0_0.index t = ![t.val, 0]
    ∧ win0_1.index t = ![0, 0]
    ∧ win0_2.index t = ![t.val, 0] :=
  (by decide +kernel : ∀ t : Fin grid0.N, _)

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay1, grad]
  blk_point [iblk, V, idx t]

end Cert.KernelOutDyIdeal.Value

namespace Cert.ReferenceOutDyIdeal.Value

open Cert.ReferenceOutDyIdeal Cert.ReferenceOutDyIdeal.Gen Idealize.ShloMosaic

/-- The reference's result is the same array. -/
theorem value (W : FVec Ideal S1024x1024 .f32) (D : FVec Ideal S2048x1024 .f32) :
    Host.dotGeneral dot_S2048x1024_S1024x1024_S2048x1024_1_1_0_0_n_n none D W = Cert.KernelOutDyIdeal.Value.grad W D := by
  funext y
  idx_vars y
  pointwise [Cert.KernelOutDyIdeal.Value.grad]

end Cert.ReferenceOutDyIdeal.Value

end
-- ==== Proof.ProdGateDw.lean ====
/- The gradient of a mixer's gate projection: the rows' runs of the kernel's sums are the reference's one sum. -/
module

public import proofs.«01_k».proof.Proof.Gen.KernelGateDwIdeal.Value
public import proofs.«01_k».proof.Proof.Gen.ReferenceGateDwIdeal.Run
public import Idealize.ShloMosaic.Lib.Pipeline.ValueKit

@[expose] public section

set_option maxRecDepth 16384

noncomputable section

namespace Cert.KernelGateDwIdeal.Value

open Cert.KernelGateDwIdeal Cert.KernelGateDwIdeal.Gen Idealize.ShloMosaic Idealize.ShloMosaic.TcCoe Idealize.SL.Sem
open Idealize.ShloMosaic.Pipeline (Dat)

variable (m : (ℓ : Loc nD τ sig) → Buf (Elt Ideal) ℓ)

/-- The weight's gradient. -/
def grad (X : FVec Ideal S2048x1024 .f32) (D : FVec Ideal S2048x128 .f32) : FVec Ideal S1024x128 .f32 :=
  fun y => ∑ k : Fin 2048, (X (ix2 k (y 0)) : EReal) * D (ix2 k (y 1))

theorem idx : ∀ t : Fin cfg0.N, win0_0.index t = ![t.val % 2, 0]
    ∧ win0_1.index t = ![t.val % 2, 0]
    ∧ win0_2.index t = ![0, 0] :=
  (by decide +kernel : ∀ t : Fin grid0.N, _)

/-- The product of the run's first blocks. -/
theorem first (a : Vec Ideal S1024x1024 .bf16) (b : Vec Ideal S1024x128 .f32) (j : S1024x128.Idx) :
    k0_pay1 a b j = (0 : EReal) + ∑ k : Fin 1024, (a (ix2 k (j 0)) : EReal) * b (ix2 k (j 1)) := by
  pointwise [k0_pay1]

/-- A later product, added to what the block holds. -/
theorem next (a : Vec Ideal S1024x1024 .bf16) (b : Vec Ideal S1024x128 .f32) (o : Vec Ideal S1024x128 .f32) (j : S1024x128.Idx) :
    k0_pay2 a b o j = (o j : EReal) + ∑ k : Fin 1024, (a (ix2 k (j 0)) : EReal) * b (ix2 k (j 1)) := by
  pointwise [k0_pay1, k0_pay2]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first, zero_add])
    (fun t h j => by rw [outsAt0_B m c t h (by omega)]; frame_out; rw [next])
    t ((flush0_2 t).mp hf) _, zero_add]
  unfold grad
  refine Fin.sum_mul_add_congr fun s k hl => ?_
  blk_point [iblk, V, idx t, idx ⟨_, Pipeline.run_point_lt_of_flush t ((flush0_2 t).mp hf) s⟩]

end Cert.KernelGateDwIdeal.Value

namespace Cert.ReferenceGateDwIdeal.Value

open Cert.ReferenceGateDwIdeal Cert.ReferenceGateDwIdeal.Gen Idealize.ShloMosaic

/-- The reference's result is the same array. -/
theorem value (X : FVec Ideal S2048x1024 .f32) (D : FVec Ideal S2048x128 .f32) :
    transpose S1024x128 [1, 0] (Host.dotGeneral dot_S2048x128_S2048x1024_S128x1024_0_0_1_1_n_n none D X) transposes_S128x1024_S1024x128_1_0 = Cert.KernelGateDwIdeal.Value.grad X D := by
  funext y
  idx_vars y
  pointwise [Cert.KernelGateDwIdeal.Value.grad]
  exact Fin.sum_fin_congr fun _ => mul_comm _ _

end Cert.ReferenceGateDwIdeal.Value

end
-- ==== Proof.ProdGateDx.lean ====
/- The gate projection's share of the input's gradient: the kernel's tiles are the reference's product and the residual's share. -/
module

public import proofs.«01_k».proof.Proof.Gen.KernelGateDxIdeal.Value
public import proofs.«01_k».proof.Proof.Gen.ReferenceGateDxIdeal.Run
public import Idealize.ShloMosaic.Lib.Pipeline.ValueKit

@[expose] public section

set_option maxRecDepth 16384

noncomputable section

namespace Cert.KernelGateDxIdeal.Value

open Cert.KernelGateDxIdeal Cert.KernelGateDxIdeal.Gen Idealize.ShloMosaic Idealize.ShloMosaic.TcCoe Idealize.SL.Sem
open Idealize.ShloMosaic.Pipeline (Dat)

variable (m : (ℓ : Loc nD τ sig) → Buf (Elt Ideal) ℓ)

/-- The gate projection's share of the input's gradient, and the residual's. -/
def grad (W : FVec Ideal S1024x128 .f32) (D : FVec Ideal S2048x128 .f32) (R : FVec Ideal S2048x1024 .f32) : FVec Ideal S2048x1024 .f32 :=
  fun y => (∑ k : Fin 128, (D (ix2 (y 0) k) : EReal) * W (ix2 (y 1) k)) + Ideal.ofBits .f32 0x3FD744FD#32 * R y

theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay1, k0_pay2, k0_pay3, grad]
  blk_point [iblk, V, idx t]

end Cert.KernelGateDxIdeal.Value

namespace Cert.ReferenceGateDxIdeal.Value

open Cert.ReferenceGateDxIdeal Cert.ReferenceGateDxIdeal.Gen Idealize.ShloMosaic

/-- The reference's result is the same array. -/
theorem value (W : FVec Ideal S1024x128 .f32) (D : FVec Ideal S2048x128 .f32) (R : FVec Ideal S2048x1024 .f32) :
    addf (mulf (broadcastInDim S2048x1024 ![] bcast_S_S2048x1024 (constant S_ .f32 0x3FD744FD#32)) R) (Host.dotGeneral dot_S2048x128_S1024x128_S2048x1024_1_1_0_0_n_n none D W) = Cert.KernelGateDxIdeal.Value.grad W D R := by
  funext y
  idx_vars y
  pointwise [Cert.KernelGateDxIdeal.Value.grad]
  exact add_comm _ _

end Cert.ReferenceGateDxIdeal.Value

end
-- ==== Proof.ProdGateDw2.lean ====
/- The gradient of the second factor of the decay's gate: the rows' runs of the kernel's sums are the reference's one sum. -/
module

public import proofs.«01_k».proof.Proof.Gen.KernelGateDw2Ideal.Value
public import proofs.«01_k».proof.Proof.Gen.ReferenceGateDw2Ideal.Run
public import Idealize.ShloMosaic.Lib.Pipeline.ValueKit

@[expose] public section

set_option maxRecDepth 16384

noncomputable section

namespace Cert.KernelGateDw2Ideal.Value

open Cert.KernelGateDw2Ideal Cert.KernelGateDw2Ideal.Gen Idealize.ShloMosaic Idealize.ShloMosaic.TcCoe Idealize.SL.Sem
open Idealize.ShloMosaic.Pipeline (Dat)

variable (m : (ℓ : Loc nD τ sig) → Buf (Elt Ideal) ℓ)

/-- The weight's gradient. -/
def grad (X : FVec Ideal S2048x128 .f32) (D : FVec Ideal S2048x512 .f32) : FVec Ideal S128x512 .f32 :=
  fun y => ∑ k : Fin 2048, (X (ix2 k (y 0)) : EReal) * D (ix2 k (y 1))

theorem idx : ∀ t : Fin cfg0.N, win0_0.index t = ![t.val % 2, 0]
    ∧ win0_1.index t = ![t.val % 2, 0]
    ∧ win0_2.index t = ![0, 0] :=
  (by decide +kernel : ∀ t : Fin grid0.N, _)

/-- The product of the run's first blocks. -/
theorem first (a : Vec Ideal S1024x128 .f32) (b : Vec Ideal S1024x512 .f32) (j : S128x512.Idx) :
    k0_pay1 a b j = (0 : EReal) + ∑ k : Fin 1024, (a (ix2 k (j 0)) : EReal) * b (ix2 k (j 1)) := by
  pointwise [k0_pay1]

/-- A later product, added to what the block holds. -/
theorem next (a : Vec Ideal S1024x128 .f32) (b : Vec Ideal S1024x512 .f32) (o : Vec Ideal S128x512 .f32) (j : S128x512.Idx) :
    k0_pay2 a b o j = (o j : EReal) + ∑ k : Fin 1024, (a (ix2 k (j 0)) : EReal) * b (ix2 k (j 1)) := by
  pointwise [k0_pay1, k0_pay2]

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first, zero_add])
    (fun t h j => by rw [outsAt0_B m c t h (by omega)]; frame_out; rw [next])
    t ((flush0_2 t).mp hf) _, zero_add]
  unfold grad
  refine Fin.sum_mul_add_congr fun s k hl => ?_
  blk_point [iblk, V, idx t, idx ⟨_, Pipeline.run_point_lt_of_flush t ((flush0_2 t).mp hf) s⟩]

end Cert.KernelGateDw2Ideal.Value

namespace Cert.ReferenceGateDw2Ideal.Value

open Cert.ReferenceGateDw2Ideal Cert.ReferenceGateDw2Ideal.Gen Idealize.ShloMosaic

/-- The reference's result is the same array. -/
theorem value (X : FVec Ideal S2048x128 .f32) (D : FVec Ideal S2048x512 .f32) :
    transpose S128x512 [1, 0] (Host.dotGeneral dot_S2048x512_S2048x128_S512x128_0_0_1_1_n_n none D X) transposes_S512x128_S128x512_1_0 = Cert.KernelGateDw2Ideal.Value.grad X D := by
  funext y
  idx_vars y
  pointwise [Cert.KernelGateDw2Ideal.Value.grad]
  exact Fin.sum_fin_congr fun _ => mul_comm _ _

end Cert.ReferenceGateDw2Ideal.Value

end
-- ==== Proof.MixerBackward.lean ====
/- The frames of the references of the projections' backward products, and the values of the kernels. -/
module

public import proofs.«01_k».proof.Defs
public import proofs.«01_k».proof.Proof.ProdGdnDw
public import proofs.«01_k».proof.Proof.ProdGdnDx
public import proofs.«01_k».proof.Proof.ProdGlaDw
public import proofs.«01_k».proof.Proof.ProdGlaDx
public import proofs.«01_k».proof.Proof.ProdOutDw
public import proofs.«01_k».proof.Proof.ProdOutDy
public import proofs.«01_k».proof.Proof.ProdGateDw
public import proofs.«01_k».proof.Proof.ProdGateDx
public import proofs.«01_k».proof.Proof.ProdGateDw2

@[expose] public section

noncomputable section

namespace Cert.Proof

open Idealize.ShloMosaic Idealize.SL.Sem

/-- The reference `GdnDw`'s frame: its run, read at its arguments; it declares no semaphore. -/
theorem frameGdnDw : Cert.quiescent_ReferenceGdnDwIdeal (hReferenceGdnDwIdeal := Cert.ReferenceGdnDwIdeal.Gen.facts) := fun m ρ _ =>
  (θ_run Cert.ReferenceGdnDwIdeal.defs _ _).mono (fun r h => ⟨fun c => (h c).2, Idealize.ShloMosaic.sem_eq_zero_of_no_sems (by decide) r.2⟩)
    (Cert.ReferenceGdnDwIdeal.Value.run (F := Ideal) m ρ)

/-- The kernel `GdnDw` and its reference return one array. -/
theorem algebraicGdnDw : Cert.algebraic_KernelGdnDwIdeal_ReferenceGdnDwIdeal (hKernelGdnDwIdeal := Cert.KernelGdnDwIdeal.Gen.facts)
    (hReferenceGdnDwIdeal := Cert.ReferenceGdnDwIdeal.Gen.facts) := by
  intro m g m' g' _ args
  refine ⟨fun c => Cert.KernelGdnDwIdeal.Value.grad (m ((c.tc : Thread Cert.KernelGdnDwIdeal.nD Cert.KernelGdnDwIdeal.τ).loc Cert.KernelGdnDwIdeal.main_arg0)) (m ((c.tc : Thread Cert.KernelGdnDwIdeal.nD Cert.KernelGdnDwIdeal.τ).loc Cert.KernelGdnDwIdeal.main_arg1)), ?_, ?_⟩
  · exact (θ_run Cert.KernelGdnDwIdeal.defs _ _).mono (fun _ h c => ⟨(h c).1.trans (Cert.KernelGdnDwIdeal.Value.final m c), (h c).2⟩)
      (Cert.KernelGdnDwIdeal.Value.run_blocks (F := Ideal) m g)
  · refine (θ_run Cert.ReferenceGdnDwIdeal.defs _ _).mono (fun _ h c => ⟨(h c).1.trans ((Cert.ReferenceGdnDwIdeal.Value.value _ _).trans ?_), (h c).2⟩)
      (Cert.ReferenceGdnDwIdeal.Value.run (F := Ideal) m' g')
    rw [(args c).1, (args c).2]

/-- The reference `GdnDx`'s frame: its run, read at its arguments; it declares no semaphore. -/
theorem frameGdnDx : Cert.quiescent_ReferenceGdnDxIdeal (hReferenceGdnDxIdeal := Cert.ReferenceGdnDxIdeal.Gen.facts) := fun m ρ _ =>
  (θ_run Cert.ReferenceGdnDxIdeal.defs _ _).mono (fun r h => ⟨fun c => (h c).2, Idealize.ShloMosaic.sem_eq_zero_of_no_sems (by decide) r.2⟩)
    (Cert.ReferenceGdnDxIdeal.Value.run (F := Ideal) m ρ)

/-- The kernel `GdnDx` and its reference return one array. -/
theorem algebraicGdnDx : Cert.algebraic_KernelGdnDxIdeal_ReferenceGdnDxIdeal (hKernelGdnDxIdeal := Cert.KernelGdnDxIdeal.Gen.facts)
    (hReferenceGdnDxIdeal := Cert.ReferenceGdnDxIdeal.Gen.facts) := by
  intro m g m' g' _ args
  refine ⟨fun c => Cert.KernelGdnDxIdeal.Value.grad (m ((c.tc : Thread Cert.KernelGdnDxIdeal.nD Cert.KernelGdnDxIdeal.τ).loc Cert.KernelGdnDxIdeal.main_arg0)) (m ((c.tc : Thread Cert.KernelGdnDxIdeal.nD Cert.KernelGdnDxIdeal.τ).loc Cert.KernelGdnDxIdeal.main_arg1)) (m ((c.tc : Thread Cert.KernelGdnDxIdeal.nD Cert.KernelGdnDxIdeal.τ).loc Cert.KernelGdnDxIdeal.main_arg2)), ?_, ?_⟩
  · exact (θ_run Cert.KernelGdnDxIdeal.defs _ _).mono (fun _ h c => ⟨(h c).1.trans (Cert.KernelGdnDxIdeal.Value.final m c), (h c).2⟩)
      (Cert.KernelGdnDxIdeal.Value.run_blocks (F := Ideal) m g)
  · refine (θ_run Cert.ReferenceGdnDxIdeal.defs _ _).mono (fun _ h c => ⟨(h c).1.trans ((Cert.ReferenceGdnDxIdeal.Value.value _ _ _).trans ?_), (h c).2⟩)
      (Cert.ReferenceGdnDxIdeal.Value.run (F := Ideal) m' g')
    rw [(args c).1, (args c).2.1, (args c).2.2]

/-- The reference `GlaDw`'s frame: its run, read at its arguments; it declares no semaphore. -/
theorem frameGlaDw : Cert.quiescent_ReferenceGlaDwIdeal (hReferenceGlaDwIdeal := Cert.ReferenceGlaDwIdeal.Gen.facts) := fun m ρ _ =>
  (θ_run Cert.ReferenceGlaDwIdeal.defs _ _).mono (fun r h => ⟨fun c => (h c).2, Idealize.ShloMosaic.sem_eq_zero_of_no_sems (by decide) r.2⟩)
    (Cert.ReferenceGlaDwIdeal.Value.run (F := Ideal) m ρ)

/-- The kernel `GlaDw` and its reference return one array. -/
theorem algebraicGlaDw : Cert.algebraic_KernelGlaDwIdeal_ReferenceGlaDwIdeal (hKernelGlaDwIdeal := Cert.KernelGlaDwIdeal.Gen.facts)
    (hReferenceGlaDwIdeal := Cert.ReferenceGlaDwIdeal.Gen.facts) := by
  intro m g m' g' _ args
  refine ⟨fun c => Cert.KernelGlaDwIdeal.Value.grad (m ((c.tc : Thread Cert.KernelGlaDwIdeal.nD Cert.KernelGlaDwIdeal.τ).loc Cert.KernelGlaDwIdeal.main_arg0)) (m ((c.tc : Thread Cert.KernelGlaDwIdeal.nD Cert.KernelGlaDwIdeal.τ).loc Cert.KernelGlaDwIdeal.main_arg1)), ?_, ?_⟩
  · exact (θ_run Cert.KernelGlaDwIdeal.defs _ _).mono (fun _ h c => ⟨(h c).1.trans (Cert.KernelGlaDwIdeal.Value.final m c), (h c).2⟩)
      (Cert.KernelGlaDwIdeal.Value.run_blocks (F := Ideal) m g)
  · refine (θ_run Cert.ReferenceGlaDwIdeal.defs _ _).mono (fun _ h c => ⟨(h c).1.trans ((Cert.ReferenceGlaDwIdeal.Value.value _ _).trans ?_), (h c).2⟩)
      (Cert.ReferenceGlaDwIdeal.Value.run (F := Ideal) m' g')
    rw [(args c).1, (args c).2]

/-- The reference `GlaDx`'s frame: its run, read at its arguments; it declares no semaphore. -/
theorem frameGlaDx : Cert.quiescent_ReferenceGlaDxIdeal (hReferenceGlaDxIdeal := Cert.ReferenceGlaDxIdeal.Gen.facts) := fun m ρ _ =>
  (θ_run Cert.ReferenceGlaDxIdeal.defs _ _).mono (fun r h => ⟨fun c => (h c).2, Idealize.ShloMosaic.sem_eq_zero_of_no_sems (by decide) r.2⟩)
    (Cert.ReferenceGlaDxIdeal.Value.run (F := Ideal) m ρ)

/-- The kernel `GlaDx` and its reference return one array. -/
theorem algebraicGlaDx : Cert.algebraic_KernelGlaDxIdeal_ReferenceGlaDxIdeal (hKernelGlaDxIdeal := Cert.KernelGlaDxIdeal.Gen.facts)
    (hReferenceGlaDxIdeal := Cert.ReferenceGlaDxIdeal.Gen.facts) := by
  intro m g m' g' _ args
  refine ⟨fun c => Cert.KernelGlaDxIdeal.Value.grad (m ((c.tc : Thread Cert.KernelGlaDxIdeal.nD Cert.KernelGlaDxIdeal.τ).loc Cert.KernelGlaDxIdeal.main_arg0)) (m ((c.tc : Thread Cert.KernelGlaDxIdeal.nD Cert.KernelGlaDxIdeal.τ).loc Cert.KernelGlaDxIdeal.main_arg1)) (m ((c.tc : Thread Cert.KernelGlaDxIdeal.nD Cert.KernelGlaDxIdeal.τ).loc Cert.KernelGlaDxIdeal.main_arg2)), ?_, ?_⟩
  · exact (θ_run Cert.KernelGlaDxIdeal.defs _ _).mono (fun _ h c => ⟨(h c).1.trans (Cert.KernelGlaDxIdeal.Value.final m c), (h c).2⟩)
      (Cert.KernelGlaDxIdeal.Value.run_blocks (F := Ideal) m g)
  · refine (θ_run Cert.ReferenceGlaDxIdeal.defs _ _).mono (fun _ h c => ⟨(h c).1.trans ((Cert.ReferenceGlaDxIdeal.Value.value _ _ _).trans ?_), (h c).2⟩)
      (Cert.ReferenceGlaDxIdeal.Value.run (F := Ideal) m' g')
    rw [(args c).1, (args c).2.1, (args c).2.2]

/-- The reference `OutDw`'s frame: its run, read at its arguments; it declares no semaphore. -/
theorem frameOutDw : Cert.quiescent_ReferenceOutDwIdeal (hReferenceOutDwIdeal := Cert.ReferenceOutDwIdeal.Gen.facts) := fun m ρ _ =>
  (θ_run Cert.ReferenceOutDwIdeal.defs _ _).mono (fun r h => ⟨fun c => (h c).2, Idealize.ShloMosaic.sem_eq_zero_of_no_sems (by decide) r.2⟩)
    (Cert.ReferenceOutDwIdeal.Value.run (F := Ideal) m ρ)

/-- The kernel `OutDw` and its reference return one array. -/
theorem algebraicOutDw : Cert.algebraic_KernelOutDwIdeal_ReferenceOutDwIdeal (hKernelOutDwIdeal := Cert.KernelOutDwIdeal.Gen.facts)
    (hReferenceOutDwIdeal := Cert.ReferenceOutDwIdeal.Gen.facts) := by
  intro m g m' g' _ args
  refine ⟨fun c => Cert.KernelOutDwIdeal.Value.grad (m ((c.tc : Thread Cert.KernelOutDwIdeal.nD Cert.KernelOutDwIdeal.τ).loc Cert.KernelOutDwIdeal.main_arg0)) (m ((c.tc : Thread Cert.KernelOutDwIdeal.nD Cert.KernelOutDwIdeal.τ).loc Cert.KernelOutDwIdeal.main_arg1)), ?_, ?_⟩
  · exact (θ_run Cert.KernelOutDwIdeal.defs _ _).mono (fun _ h c => ⟨(h c).1.trans (Cert.KernelOutDwIdeal.Value.final m c), (h c).2⟩)
      (Cert.KernelOutDwIdeal.Value.run_blocks (F := Ideal) m g)
  · refine (θ_run Cert.ReferenceOutDwIdeal.defs _ _).mono (fun _ h c => ⟨(h c).1.trans ((Cert.ReferenceOutDwIdeal.Value.value _ _).trans ?_), (h c).2⟩)
      (Cert.ReferenceOutDwIdeal.Value.run (F := Ideal) m' g')
    rw [(args c).1, (args c).2]

/-- The reference `OutDy`'s frame: its run, read at its arguments; it declares no semaphore. -/
theorem frameOutDy : Cert.quiescent_ReferenceOutDyIdeal (hReferenceOutDyIdeal := Cert.ReferenceOutDyIdeal.Gen.facts) := fun m ρ _ =>
  (θ_run Cert.ReferenceOutDyIdeal.defs _ _).mono (fun r h => ⟨fun c => (h c).2, Idealize.ShloMosaic.sem_eq_zero_of_no_sems (by decide) r.2⟩)
    (Cert.ReferenceOutDyIdeal.Value.run (F := Ideal) m ρ)

/-- The kernel `OutDy` and its reference return one array. -/
theorem algebraicOutDy : Cert.algebraic_KernelOutDyIdeal_ReferenceOutDyIdeal (hKernelOutDyIdeal := Cert.KernelOutDyIdeal.Gen.facts)
    (hReferenceOutDyIdeal := Cert.ReferenceOutDyIdeal.Gen.facts) := by
  intro m g m' g' _ args
  refine ⟨fun c => Cert.KernelOutDyIdeal.Value.grad (m ((c.tc : Thread Cert.KernelOutDyIdeal.nD Cert.KernelOutDyIdeal.τ).loc Cert.KernelOutDyIdeal.main_arg0)) (m ((c.tc : Thread Cert.KernelOutDyIdeal.nD Cert.KernelOutDyIdeal.τ).loc Cert.KernelOutDyIdeal.main_arg1)), ?_, ?_⟩
  · exact (θ_run Cert.KernelOutDyIdeal.defs _ _).mono (fun _ h c => ⟨(h c).1.trans (Cert.KernelOutDyIdeal.Value.final m c), (h c).2⟩)
      (Cert.KernelOutDyIdeal.Value.run_blocks (F := Ideal) m g)
  · refine (θ_run Cert.ReferenceOutDyIdeal.defs _ _).mono (fun _ h c => ⟨(h c).1.trans ((Cert.ReferenceOutDyIdeal.Value.value _ _).trans ?_), (h c).2⟩)
      (Cert.ReferenceOutDyIdeal.Value.run (F := Ideal) m' g')
    rw [(args c).1, (args c).2]

/-- The reference `GateDw`'s frame: its run, read at its arguments; it declares no semaphore. -/
theorem frameGateDw : Cert.quiescent_ReferenceGateDwIdeal (hReferenceGateDwIdeal := Cert.ReferenceGateDwIdeal.Gen.facts) := fun m ρ _ =>
  (θ_run Cert.ReferenceGateDwIdeal.defs _ _).mono (fun r h => ⟨fun c => (h c).2, Idealize.ShloMosaic.sem_eq_zero_of_no_sems (by decide) r.2⟩)
    (Cert.ReferenceGateDwIdeal.Value.run (F := Ideal) m ρ)

/-- The kernel `GateDw` and its reference return one array. -/
theorem algebraicGateDw : Cert.algebraic_KernelGateDwIdeal_ReferenceGateDwIdeal (hKernelGateDwIdeal := Cert.KernelGateDwIdeal.Gen.facts)
    (hReferenceGateDwIdeal := Cert.ReferenceGateDwIdeal.Gen.facts) := by
  intro m g m' g' _ args
  refine ⟨fun c => Cert.KernelGateDwIdeal.Value.grad (m ((c.tc : Thread Cert.KernelGateDwIdeal.nD Cert.KernelGateDwIdeal.τ).loc Cert.KernelGateDwIdeal.main_arg0)) (m ((c.tc : Thread Cert.KernelGateDwIdeal.nD Cert.KernelGateDwIdeal.τ).loc Cert.KernelGateDwIdeal.main_arg1)), ?_, ?_⟩
  · exact (θ_run Cert.KernelGateDwIdeal.defs _ _).mono (fun _ h c => ⟨(h c).1.trans (Cert.KernelGateDwIdeal.Value.final m c), (h c).2⟩)
      (Cert.KernelGateDwIdeal.Value.run_blocks (F := Ideal) m g)
  · refine (θ_run Cert.ReferenceGateDwIdeal.defs _ _).mono (fun _ h c => ⟨(h c).1.trans ((Cert.ReferenceGateDwIdeal.Value.value _ _).trans ?_), (h c).2⟩)
      (Cert.ReferenceGateDwIdeal.Value.run (F := Ideal) m' g')
    rw [(args c).1, (args c).2]

/-- The reference `GateDx`'s frame: its run, read at its arguments; it declares no semaphore. -/
theorem frameGateDx : Cert.quiescent_ReferenceGateDxIdeal (hReferenceGateDxIdeal := Cert.ReferenceGateDxIdeal.Gen.facts) := fun m ρ _ =>
  (θ_run Cert.ReferenceGateDxIdeal.defs _ _).mono (fun r h => ⟨fun c => (h c).2, Idealize.ShloMosaic.sem_eq_zero_of_no_sems (by decide) r.2⟩)
    (Cert.ReferenceGateDxIdeal.Value.run (F := Ideal) m ρ)

/-- The kernel `GateDx` and its reference return one array. -/
theorem algebraicGateDx : Cert.algebraic_KernelGateDxIdeal_ReferenceGateDxIdeal (hKernelGateDxIdeal := Cert.KernelGateDxIdeal.Gen.facts)
    (hReferenceGateDxIdeal := Cert.ReferenceGateDxIdeal.Gen.facts) := by
  intro m g m' g' _ args
  refine ⟨fun c => Cert.KernelGateDxIdeal.Value.grad (m ((c.tc : Thread Cert.KernelGateDxIdeal.nD Cert.KernelGateDxIdeal.τ).loc Cert.KernelGateDxIdeal.main_arg0)) (m ((c.tc : Thread Cert.KernelGateDxIdeal.nD Cert.KernelGateDxIdeal.τ).loc Cert.KernelGateDxIdeal.main_arg1)) (m ((c.tc : Thread Cert.KernelGateDxIdeal.nD Cert.KernelGateDxIdeal.τ).loc Cert.KernelGateDxIdeal.main_arg2)), ?_, ?_⟩
  · exact (θ_run Cert.KernelGateDxIdeal.defs _ _).mono (fun _ h c => ⟨(h c).1.trans (Cert.KernelGateDxIdeal.Value.final m c), (h c).2⟩)
      (Cert.KernelGateDxIdeal.Value.run_blocks (F := Ideal) m g)
  · refine (θ_run Cert.ReferenceGateDxIdeal.defs _ _).mono (fun _ h c => ⟨(h c).1.trans ((Cert.ReferenceGateDxIdeal.Value.value _ _ _).trans ?_), (h c).2⟩)
      (Cert.ReferenceGateDxIdeal.Value.run (F := Ideal) m' g')
    rw [(args c).1, (args c).2.1, (args c).2.2]

/-- The reference `GateDw2`'s frame: its run, read at its arguments; it declares no semaphore. -/
theorem frameGateDw2 : Cert.quiescent_ReferenceGateDw2Ideal (hReferenceGateDw2Ideal := Cert.ReferenceGateDw2Ideal.Gen.facts) := fun m ρ _ =>
  (θ_run Cert.ReferenceGateDw2Ideal.defs _ _).mono (fun r h => ⟨fun c => (h c).2, Idealize.ShloMosaic.sem_eq_zero_of_no_sems (by decide) r.2⟩)
    (Cert.ReferenceGateDw2Ideal.Value.run (F := Ideal) m ρ)

/-- The kernel `GateDw2` and its reference return one array. -/
theorem algebraicGateDw2 : Cert.algebraic_KernelGateDw2Ideal_ReferenceGateDw2Ideal (hKernelGateDw2Ideal := Cert.KernelGateDw2Ideal.Gen.facts)
    (hReferenceGateDw2Ideal := Cert.ReferenceGateDw2Ideal.Gen.facts) := by
  intro m g m' g' _ args
  refine ⟨fun c => Cert.KernelGateDw2Ideal.Value.grad (m ((c.tc : Thread Cert.KernelGateDw2Ideal.nD Cert.KernelGateDw2Ideal.τ).loc Cert.KernelGateDw2Ideal.main_arg0)) (m ((c.tc : Thread Cert.KernelGateDw2Ideal.nD Cert.KernelGateDw2Ideal.τ).loc Cert.KernelGateDw2Ideal.main_arg1)), ?_, ?_⟩
  · exact (θ_run Cert.KernelGateDw2Ideal.defs _ _).mono (fun _ h c => ⟨(h c).1.trans (Cert.KernelGateDw2Ideal.Value.final m c), (h c).2⟩)
      (Cert.KernelGateDw2Ideal.Value.run_blocks (F := Ideal) m g)
  · refine (θ_run Cert.ReferenceGateDw2Ideal.defs _ _).mono (fun _ h c => ⟨(h c).1.trans ((Cert.ReferenceGateDw2Ideal.Value.value _ _).trans ?_), (h c).2⟩)
      (Cert.ReferenceGateDw2Ideal.Value.run (F := Ideal) m' g')
    rw [(args c).1, (args c).2]

end Cert.Proof

end
-- ==== Proof.MlpDh.lean ====
/- The gradient of the MLP's hidden layer: the kernel's tiles are the reference's product, gated by the squared ReLU's derivative. -/
module

public import proofs.«01_k».proof.Proof.Gen.KernelDhIdeal.Value
public import proofs.«01_k».proof.Proof.Gen.ReferenceDhIdeal.Run
public import Idealize.ShloMosaic.Lib.Pipeline.ValueKit

@[expose] public section

set_option maxRecDepth 16384

noncomputable section

namespace Cert.KernelDhIdeal.Value

open Cert.KernelDhIdeal Cert.KernelDhIdeal.Gen Idealize.ShloMosaic Idealize.ShloMosaic.TcCoe Idealize.SL.Sem
open Idealize.ShloMosaic.Pipeline (Dat)

variable (m : (ℓ : Loc nD τ sig) → Buf (Elt Ideal) ℓ)

/-- The hidden layer's gradient. -/
def grad (H : FVec Ideal S2048x4096 .f32) (W : FVec Ideal S4096x1024 .f32) (O : FVec Ideal S2048x1024 .f32) :
    FVec Ideal S2048x4096 .f32 :=
  fun y => (∑ k : Fin 1024, (O (ix2 (y 0) k) : EReal) * W (ix2 (y 1) k)) * (2 * max (H y) 0)

theorem two : Ideal.ofBits .f32 1073741824#32 = 2 := by
  simp [Ideal.ofBits, Ideal.ieee]
  rw [← EReal.coe_mul, show (8388608 : ℝ) * (2 ^ 22)⁻¹ = 2 by norm_num]
  rfl

theorem add_self (x : EReal) : x + x = 2 * x := by
  induction x with
  | bot => simp [EReal.mul_bot_of_pos]
  | top => simp [EReal.mul_top_of_pos]
  | coe r => exact (congrArg _ (two_mul r).symm).trans (EReal.coe_mul 2 r)

theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4] :=
  (by decide +kernel : ∀ t : Fin grid0.N, _)

theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay1, k0_pay2, k0_pay3, grad]
  rw [two]
  blk_point [iblk, V, idx t]

end Cert.KernelDhIdeal.Value

namespace Cert.ReferenceDhIdeal.Value

open Cert.ReferenceDhIdeal Cert.ReferenceDhIdeal.Gen Idealize.ShloMosaic

/-- The reference's result is the same array. -/
theorem value (H : FVec Ideal S2048x4096 .f32) (W : FVec Ideal S4096x1024 .f32) (O : FVec Ideal S2048x1024 .f32) :
    select (cmpf .ogt H (broadcastInDim S2048x4096 ![] bcast_S_S2048x4096 (constant S_ .f32 0x00000000#32))) (addf (mulf (maximumf H (broadcastInDim S2048x4096 ![] bcast_S_S2048x4096 (constant S_ .f32 0x00000000#32))) (Host.dotGeneral dot_S2048x1024_S4096x1024_S2048x4096_1_1_0_0_n_n none O W)) (mulf (Host.dotGeneral dot_S2048x1024_S4096x1024_S2048x4096_1_1_0_0_n_n none O W) (maximumf H (broadcastInDim S2048x4096 ![] bcast_S_S2048x4096 (constant S_ .f32 0x00000000#32))))) (broadcastInDim S2048x4096 ![] bcast_S_S2048x4096 (constant S_ .f32 0x00000000#32)) = Cert.KernelDhIdeal.Value.grad H W O := by
  funext y
  idx_vars y
  pointwise [Cert.KernelDhIdeal.Value.grad]
  rcases lt_or_ge (0 : EReal) (H (ix2 y0 y1)) with h | h
  · rw [if_pos h, mul_comm (max _ _), Cert.KernelDhIdeal.Value.add_self, mul_left_comm]
  · rw [if_neg (not_lt.mpr h), max_eq_right h, mul_zero, mul_zero]

end Cert.ReferenceDhIdeal.Value

end
-- ==== Proof.MlpDw2.lean ====
/- The gradient of the MLP's second weight: the rows' runs of the kernel's sums are the reference's one sum. -/
module

public import proofs.«01_k».proof.Proof.Gen.KernelDw2Ideal.Value
public import proofs.«01_k».proof.Proof.Gen.ReferenceDw2Ideal.Run
public import Idealize.ShloMosaic.Lib.Pipeline.ValueKit

@[expose] public section

set_option maxRecDepth 16384

noncomputable section

namespace Cert.KernelDw2Ideal.Value

open Cert.KernelDw2Ideal Cert.KernelDw2Ideal.Gen Idealize.ShloMosaic Idealize.ShloMosaic.TcCoe Idealize.SL.Sem
open Idealize.ShloMosaic.Pipeline (Dat)

variable (m : (ℓ : Loc nD τ sig) → Buf (Elt Ideal) ℓ)

/-- The row of the weight that a block's row is. -/
def row (y : S4x1024x1024.Idx) : Fin 4096 := ⟨(y 0).val * 1024 + (y 1).val, by have h0 : (y 0).val < 4 := (y 0).isLt; have h1 : (y 1).val < 1024 := (y 1).isLt; omega⟩

/-- The second weight's gradient, a block of rows per device. -/
def grad (A : FVec Ideal S2048x4096 .f32) (R : FVec Ideal S2048x1024 .f32) : FVec Ideal S4x1024x1024 .f32 :=
  fun y => ∑ k : Fin 2048, (A (ix2 k (row y)) : EReal) * R (ix2 k (y 2))

/-- The activation of the hidden layer. -/
def act (H : FVec Ideal S2048x4096 .f32) : FVec Ideal S2048x4096 .f32 := fun i => (max (H i) 0 * max (H i) 0 : EReal)

theorem idx : ∀ t : Fin cfg0.N, win0_0.index t = ![t.val % 2, t.val / 2] ∧ win0_1.index t = ![t.val % 2, 0]
    ∧ win0_2.index t = ![t.val / 2, 0, 0] :=
  (by decide +kernel : ∀ t : Fin grid0.N, _)

/-- The product of the run's first blocks. -/
theorem first (a : Vec Ideal S1024x1024 .bf16) (b : Vec Ideal S1024x1024 .f32) (j : S1x1024x1024.Idx) :
    k0_pay2 a b j = (0 : EReal) + ∑ k : Fin 1024, (a (ix2 k (j 1)) : EReal) * b (ix2 k (j 2)) := by
  pointwise [k0_pay1, k0_pay2]

/-- A later product, added to what the block holds. -/
theorem next (a : Vec Ideal S1024x1024 .bf16) (b : Vec Ideal S1024x1024 .f32) (o : Vec Ideal S1x1024x1024 .f32) (j : S1x1024x1024.Idx) :
    k0_pay3 a b o j = (o j : EReal) + ∑ k : Fin 1024, (a (ix2 k (j 1)) : EReal) * b (ix2 k (j 2)) := by
  pointwise [k0_pay1, k0_pay3]
  blk_ext

/-- The activation, as the host prepares it. -/
theorem V_act (c : Dev nD) : V m c main_v3
    = act (m ((c : Thread nD τ).loc main_arg0)) := by
  entry_read
  funext i
  idx_vars i
  pointwise [act]

theorem final (c : Dev nD) : (dats m 0 c).arrAt 2 cfg0.N
    = grad (act (m ((c : Thread nD τ).loc main_arg0))) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first, zero_add])
    (fun t h j => by rw [outsAt0_B m c t h (by omega)]; frame_out; rw [next])
    t ((flush0_2 t).mp hf) _, zero_add]
  have hA := V_act m c
  unfold grad row
  refine Fin.sum_mul_add_congr fun s k hl => ?_
  blk_point [iblk, hA, V_main_arg1, idx t, idx ⟨_, Pipeline.run_point_lt_of_flush t ((flush0_2 t).mp hf) s⟩]

end Cert.KernelDw2Ideal.Value

namespace Cert.ReferenceDw2Ideal.Value

open Cert.ReferenceDw2Ideal Cert.ReferenceDw2Ideal.Gen Idealize.ShloMosaic

/-- The reference's result is the same array. -/
theorem value (H : FVec Ideal S2048x4096 .f32) (R : FVec Ideal S2048x1024 .f32) :
    shapeCast _ (transpose S4096x1024 [1, 0] (Host.dotGeneral dot_S2048x1024_S2048x4096_S1024x4096_0_0_1_1_n_n none R (mulf (maximumf H (broadcastInDim S2048x4096 ![] bcast_S_S2048x4096 (constant S_ .f32 0x00000000#32))) (maximumf H (broadcastInDim S2048x4096 ![] bcast_S_S2048x4096 (constant S_ .f32 0x00000000#32))))) transposes_S1024x4096_S4096x1024_1_0) shapeCasts_S4096x1024_S4x1024x1024 = Cert.KernelDw2Ideal.Value.grad (Cert.KernelDw2Ideal.Value.act H) R := by
  funext y
  idx_vars y
  pointwise [Cert.KernelDw2Ideal.Value.grad, Cert.KernelDw2Ideal.Value.act, Cert.KernelDw2Ideal.Value.row]
  exact Fin.sum_fin_congr fun _ => mul_comm _ _

end Cert.ReferenceDw2Ideal.Value

end
-- ==== Proof.MlpDw1.lean ====
/- The gradient of the MLP's first weight: the rows' runs of the kernel's sums are the reference's one sum. -/
module

public import proofs.«01_k».proof.Proof.Gen.KernelDw1Ideal.Value
public import proofs.«01_k».proof.Proof.Gen.ReferenceDw1Ideal.Run
public import Idealize.ShloMosaic.Lib.Pipeline.ValueKit

@[expose] public section

set_option maxRecDepth 16384

noncomputable section

namespace Cert.KernelDw1Ideal.Value

open Cert.KernelDw1Ideal Cert.KernelDw1Ideal.Gen Idealize.ShloMosaic Idealize.ShloMosaic.TcCoe Idealize.SL.Sem
open Idealize.ShloMosaic.Pipeline (Dat)

variable (m : (ℓ : Loc nD τ sig) → Buf (Elt Ideal) ℓ)

/-- The first weight's gradient, a block of columns per device. -/
def grad (X : FVec Ideal S2048x1024 .f32) (D : FVec Ideal S2048x4096 .f32) : FVec Ideal S4x1024x1024 .f32 :=
  fun y => ∑ k : Fin 2048, (X (ix2 k (y 1)) : EReal) * D (ix2 k (⟨(y 0).val * 1024 + (y 2).val, by have h0 : (y 0).val < 4 := (y 0).isLt; have h2 : (y 2).val < 1024 := (y 2).isLt; omega⟩))

theorem idx : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

/-- The product of the run's first blocks. -/
theorem first (a : Vec Ideal S1024x1024 .bf16) (b : Vec Ideal S1024x1024 .f32) (j : S1x1024x1024.Idx) :
    k0_pay2 a b j = (0 : EReal) + ∑ k : Fin 1024, (a (ix2 k (j 1)) : EReal) * b (ix2 k (j 2)) := by
  pointwise [k0_pay1, k0_pay2]

/-- A later product, added to what the block holds. -/
theorem next (a : Vec Ideal S1024x1024 .bf16) (b : Vec Ideal S1024x1024 .f32) (o : Vec Ideal S1x1024x1024 .f32) (j : S1x1024x1024.Idx) :
    k0_pay3 a b o j = (o j : EReal) + ∑ k : Fin 1024, (a (ix2 k (j 1)) : EReal) * b (ix2 k (j 2)) := by
  pointwise [k0_pay1, k0_pay3]
  blk_ext

theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first, zero_add])
    (fun t h j => by rw [outsAt0_B m c t h (by omega)]; frame_out; rw [next])
    t ((flush0_2 t).mp hf) _, zero_add]
  unfold grad
  refine Fin.sum_mul_add_congr fun s k hl => ?_
  blk_point [iblk, V, idx t, idx ⟨_, Pipeline.run_point_lt_of_flush t ((flush0_2 t).mp hf) s⟩]

end Cert.KernelDw1Ideal.Value

namespace Cert.ReferenceDw1Ideal.Value

open Cert.ReferenceDw1Ideal Cert.ReferenceDw1Ideal.Gen Idealize.ShloMosaic

/-- The reference's result is the same array. -/
theorem value (X : FVec Ideal S2048x1024 .f32) (D : FVec Ideal S2048x4096 .f32) :
    transpose S4x1024x1024 [1, 0, 2] (shapeCast _ (transpose S1024x4096 [1, 0] (Host.dotGeneral dot_S2048x4096_S2048x1024_S4096x1024_0_0_1_1_n_n none D X) transposes_S4096x1024_S1024x4096_1_0) shapeCasts_S1024x4096_S1024x4x1024) transposes_S1024x4x1024_S4x1024x1024_1_0_2 = Cert.KernelDw1Ideal.Value.grad X D := by
  funext y
  idx_vars y
  pointwise [Cert.KernelDw1Ideal.Value.grad]
  exact Fin.sum_fin_congr fun _ => mul_comm _ _

end Cert.ReferenceDw1Ideal.Value

end
-- ==== Proof.MlpDx.lean ====
/- The gradient of the MLP's input: the columns' runs of the kernel's sums are the reference's one sum, and the residual's share is added last. -/
module

public import proofs.«01_k».proof.Proof.Gen.KernelDxIdeal.Value
public import proofs.«01_k».proof.Proof.Gen.ReferenceDxIdeal.Run
public import Idealize.ShloMosaic.Lib.Pipeline.ValueKit

@[expose] public section

set_option maxRecDepth 16384

noncomputable section

namespace Cert.KernelDxIdeal.Value

open Cert.KernelDxIdeal Cert.KernelDxIdeal.Gen Idealize.ShloMosaic Idealize.ShloMosaic.TcCoe Idealize.SL.Sem
open Idealize.ShloMosaic.Pipeline (Dat)

variable (m : (ℓ : Loc nD τ sig) → Buf (Elt Ideal) ℓ)

/-- The input's gradient. -/
def grad (W : FVec Ideal S1024x4096 .f32) (D : FVec Ideal S2048x4096 .f32) (R : FVec Ideal S2048x1024 .f32) :
    FVec Ideal S2048x1024 .f32 :=
  fun y => (∑ k : Fin 4096, (D (ix2 (y 0) k) : EReal) * W (ix2 (y 1) k)) + Ideal.ofBits .f32 0x3FD744FD#32 * R y

theorem idx : ∀ t : Fin cfg0.N, win0_0.index t = ![t.val / 4, t.val % 4] ∧ win0_1.index t = ![t.val % 4, 0, 0]
    ∧ win0_2.index t = ![t.val / 4, 0] ∧ win0_3.index t = ![t.val / 4, 0] :=
  (by decide +kernel : ∀ t : Fin grid0.N, _)

/-- The product of the run's first blocks. -/
theorem first (a : Vec Ideal S1024x1024 .f32) (b : Vec Ideal S1x1024x1024 .bf16) (j : S1024x1024.Idx) :
    k0_pay1 a b j = (0 : EReal) + ∑ k : Fin 1024, (a (ix2 (j 0) k) : EReal) * b (ix3 0 (j 1) k) := by
  pointwise [k0_pay1]

/-- A later product, added to what the block holds. -/
theorem next (a : Vec Ideal S1024x1024 .f32) (b : Vec Ideal S1x1024x1024 .bf16) (o : Vec Ideal S1024x1024 .f32) (j : S1024x1024.Idx) :
    k0_pay2 a b o j = (o j : EReal) + ∑ k : Fin 1024, (a (ix2 (j 0) k) : EReal) * b (ix3 0 (j 1) k) := by
  pointwise [k0_pay1, k0_pay2]

/-- The residual's share, added last. -/
theorem last (o r : Vec Ideal S1024x1024 .f32) (j : S1024x1024.Idx) :
    k0_pay3 o r j = (o j : EReal) + Ideal.ofBits .f32 0x3FD744FD#32 * r j := by
  pointwise [k0_pay3]

/-- What the block holds after a point's product, before the residual's share. -/
def acc (c : Dev nD) (n : ℕ) (h : n < cfg0.N) : Vec Ideal S1024x1024 .f32 :=
  if n % 4 = 3 then k0_pay2 (iblk m c 0 ⟨n, h⟩) (iblk m c 1 ⟨n, h⟩) (outsAt0 m c (n - 1) (Nat.lt_of_le_of_lt (Nat.sub_le _ _) h))
  else outsAt0 m c n h

theorem final (c : Dev nD) : (dats m 0 c).arrAt 3 cfg0.N
    = grad (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  have e : outsAt0 m c t.val t.isLt = k0_pay3 (acc m c t.val t.isLt) (iblk m c 2 t) := by
    rw [outsAt0_C m c t (by omega) (by omega) h3, acc, if_pos h3]; frame_out
  blk_simp
  rw [after0_3, e, last, Pipeline.eq_sum_fin_of_reset_step_apply_of_flush (fun n h => acc m c n h) 4 (fun _ => 0) _
    (fun t h j => by
      show acc m c t.val t.isLt j = _
      rw [acc, if_neg (by omega), outsAt0_A m c t h (by omega) (by omega)]; frame_out; rw [first, zero_add])
    (fun t h j => by
      show acc m c t.val t.isLt j = acc m c (t.val - 1) _ j + _
      have e : acc m c t.val t.isLt = k0_pay2 (iblk m c 0 t) (iblk m c 1 t) (acc m c (t.val - 1) (Nat.lt_of_le_of_lt (Nat.sub_le _ _) t.isLt)) := by
        rw [acc, acc, if_neg (show ¬(t.val - 1) % 4 = 3 by omega)]
        split
        · rfl
        · rw [outsAt0_B m c t h (by omega) (by omega)]; frame_out
      rw [e, next])
    t h3 _, zero_add]
  unfold grad
  refine congrArg₂ (fun a b : EReal => a + b) ?_ ?_
  · refine Fin.sum_mul_add_congr fun s k hl => ?_
    blk_point [iblk, V, idx t, idx ⟨_, Pipeline.run_point_lt_of_flush t h3 s⟩]
  · blk_point [iblk, V, idx t]

end Cert.KernelDxIdeal.Value

namespace Cert.ReferenceDxIdeal.Value

open Cert.ReferenceDxIdeal Cert.ReferenceDxIdeal.Gen Idealize.ShloMosaic

/-- The reference's result is the same array. -/
theorem value (W : FVec Ideal S1024x4096 .f32) (D : FVec Ideal S2048x4096 .f32) (R : FVec Ideal S2048x1024 .f32) :
    addf (mulf (broadcastInDim S2048x1024 ![] bcast_S_S2048x1024 (constant S_ .f32 0x3FD744FD#32)) R) (Host.dotGeneral dot_S2048x4096_S1024x4096_S2048x1024_1_1_0_0_n_n none D W) = Cert.KernelDxIdeal.Value.grad W D R := by
  funext y
  idx_vars y
  pointwise [Cert.KernelDxIdeal.Value.grad]
  exact add_comm _ _

end Cert.ReferenceDxIdeal.Value

end
-- ==== Proof.Mlp.lean ====
/- The frames of the references of the MLP's products, and the values of the kernels. -/
module

public import proofs.«01_k».proof.Defs
public import proofs.«01_k».proof.Proof.MlpDh
public import proofs.«01_k».proof.Proof.MlpDw2
public import proofs.«01_k».proof.Proof.MlpDw1
public import proofs.«01_k».proof.Proof.MlpDx

@[expose] public section

noncomputable section

namespace Cert.Proof

open Idealize.ShloMosaic Idealize.SL.Sem

/-- The reference `Dh`'s frame: its run, read at its arguments; it declares no semaphore. -/
theorem frameDh : Cert.quiescent_ReferenceDhIdeal (hReferenceDhIdeal := Cert.ReferenceDhIdeal.Gen.facts) := fun m ρ _ =>
  (θ_run Cert.ReferenceDhIdeal.defs _ _).mono (fun r h => ⟨fun c => (h c).2, Idealize.ShloMosaic.sem_eq_zero_of_no_sems (by decide) r.2⟩)
    (Cert.ReferenceDhIdeal.Value.run (F := Ideal) m ρ)

/-- The kernel `Dh` and its reference return one array. -/
theorem algebraicDh : Cert.algebraic_KernelDhIdeal_ReferenceDhIdeal (hKernelDhIdeal := Cert.KernelDhIdeal.Gen.facts)
    (hReferenceDhIdeal := Cert.ReferenceDhIdeal.Gen.facts) := by
  intro m g m' g' _ args
  refine ⟨fun c => Cert.KernelDhIdeal.Value.grad (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)) (m ((c.tc : Thread Cert.KernelDhIdeal.nD Cert.KernelDhIdeal.τ).loc Cert.KernelDhIdeal.main_arg2)), ?_, ?_⟩
  · exact (θ_run Cert.KernelDhIdeal.defs _ _).mono (fun _ h c => ⟨(h c).1.trans (Cert.KernelDhIdeal.Value.final m c), (h c).2⟩)
      (Cert.KernelDhIdeal.Value.run_blocks (F := Ideal) m g)
  · refine (θ_run Cert.ReferenceDhIdeal.defs _ _).mono (fun _ h c => ⟨(h c).1.trans ((Cert.ReferenceDhIdeal.Value.value _ _ _).trans ?_), (h c).2⟩)
      (Cert.ReferenceDhIdeal.Value.run (F := Ideal) m' g')
    rw [(args c).1, (args c).2.1, (args c).2.2]

/-- The reference `Dw2`'s frame: its run, read at its arguments; it declares no semaphore. -/
theorem frameDw2 : Cert.quiescent_ReferenceDw2Ideal (hReferenceDw2Ideal := Cert.ReferenceDw2Ideal.Gen.facts) := fun m ρ _ =>
  (θ_run Cert.ReferenceDw2Ideal.defs _ _).mono (fun r h => ⟨fun c => (h c).2, Idealize.ShloMosaic.sem_eq_zero_of_no_sems (by decide) r.2⟩)
    (Cert.ReferenceDw2Ideal.Value.run (F := Ideal) m ρ)

/-- The kernel `Dw2` and its reference return one array. -/
theorem algebraicDw2 : Cert.algebraic_KernelDw2Ideal_ReferenceDw2Ideal (hKernelDw2Ideal := Cert.KernelDw2Ideal.Gen.facts)
    (hReferenceDw2Ideal := Cert.ReferenceDw2Ideal.Gen.facts) := by
  intro m g m' g' _ args
  refine ⟨fun c => Cert.KernelDw2Ideal.Value.grad (Cert.KernelDw2Ideal.Value.act (m ((c.tc : Thread Cert.KernelDw2Ideal.nD Cert.KernelDw2Ideal.τ).loc Cert.KernelDw2Ideal.main_arg0))) (m ((c.tc : Thread Cert.KernelDw2Ideal.nD Cert.KernelDw2Ideal.τ).loc Cert.KernelDw2Ideal.main_arg1)), ?_, ?_⟩
  · exact (θ_run Cert.KernelDw2Ideal.defs _ _).mono (fun _ h c => ⟨(h c).1.trans (Cert.KernelDw2Ideal.Value.final m c), (h c).2⟩)
      (Cert.KernelDw2Ideal.Value.run_blocks (F := Ideal) m g)
  · refine (θ_run Cert.ReferenceDw2Ideal.defs _ _).mono (fun _ h c => ⟨(h c).1.trans ((Cert.ReferenceDw2Ideal.Value.value _ _).trans ?_), (h c).2⟩)
      (Cert.ReferenceDw2Ideal.Value.run (F := Ideal) m' g')
    rw [(args c).1, (args c).2]

/-- The reference `Dw1`'s frame: its run, read at its arguments; it declares no semaphore. -/
theorem frameDw1 : Cert.quiescent_ReferenceDw1Ideal (hReferenceDw1Ideal := Cert.ReferenceDw1Ideal.Gen.facts) := fun m ρ _ =>
  (θ_run Cert.ReferenceDw1Ideal.defs _ _).mono (fun r h => ⟨fun c => (h c).2, Idealize.ShloMosaic.sem_eq_zero_of_no_sems (by decide) r.2⟩)
    (Cert.ReferenceDw1Ideal.Value.run (F := Ideal) m ρ)

/-- The kernel `Dw1` and its reference return one array. -/
theorem algebraicDw1 : Cert.algebraic_KernelDw1Ideal_ReferenceDw1Ideal (hKernelDw1Ideal := Cert.KernelDw1Ideal.Gen.facts)
    (hReferenceDw1Ideal := Cert.ReferenceDw1Ideal.Gen.facts) := by
  intro m g m' g' _ args
  refine ⟨fun c => Cert.KernelDw1Ideal.Value.grad (m ((c.tc : Thread Cert.KernelDw1Ideal.nD Cert.KernelDw1Ideal.τ).loc Cert.KernelDw1Ideal.main_arg0)) (m ((c.tc : Thread Cert.KernelDw1Ideal.nD Cert.KernelDw1Ideal.τ).loc Cert.KernelDw1Ideal.main_arg1)), ?_, ?_⟩
  · exact (θ_run Cert.KernelDw1Ideal.defs _ _).mono (fun _ h c => ⟨(h c).1.trans (Cert.KernelDw1Ideal.Value.final m c), (h c).2⟩)
      (Cert.KernelDw1Ideal.Value.run_blocks (F := Ideal) m g)
  · refine (θ_run Cert.ReferenceDw1Ideal.defs _ _).mono (fun _ h c => ⟨(h c).1.trans ((Cert.ReferenceDw1Ideal.Value.value _ _).trans ?_), (h c).2⟩)
      (Cert.ReferenceDw1Ideal.Value.run (F := Ideal) m' g')
    rw [(args c).1, (args c).2]

/-- The reference `Dx`'s frame: its run, read at its arguments; it declares no semaphore. -/
theorem frameDx : Cert.quiescent_ReferenceDxIdeal (hReferenceDxIdeal := Cert.ReferenceDxIdeal.Gen.facts) := fun m ρ _ =>
  (θ_run Cert.ReferenceDxIdeal.defs _ _).mono (fun r h => ⟨fun c => (h c).2, Idealize.ShloMosaic.sem_eq_zero_of_no_sems (by decide) r.2⟩)
    (Cert.ReferenceDxIdeal.Value.run (F := Ideal) m ρ)

/-- The kernel `Dx` and its reference return one array. -/
theorem algebraicDx : Cert.algebraic_KernelDxIdeal_ReferenceDxIdeal (hKernelDxIdeal := Cert.KernelDxIdeal.Gen.facts)
    (hReferenceDxIdeal := Cert.ReferenceDxIdeal.Gen.facts) := by
  intro m g m' g' _ args
  refine ⟨fun c => Cert.KernelDxIdeal.Value.grad (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)), ?_, ?_⟩
  · exact (θ_run Cert.KernelDxIdeal.defs _ _).mono (fun _ h c => ⟨(h c).1.trans (Cert.KernelDxIdeal.Value.final m c), (h c).2⟩)
      (Cert.KernelDxIdeal.Value.run_blocks (F := Ideal) m g)
  · refine (θ_run Cert.ReferenceDxIdeal.defs _ _).mono (fun _ h c => ⟨(h c).1.trans ((Cert.ReferenceDxIdeal.Value.value _ _ _).trans ?_), (h c).2⟩)
      (Cert.ReferenceDxIdeal.Value.run (F := Ideal) m' g')
    rw [(args c).1, (args c).2.1, (args c).2.2]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Pre_finite
public import proofs.«01_k».proof.Proof.Gen.KernelDh
public import proofs.«01_k».proof.Proof.Gen.KernelDh.Skeleton
public import proofs.«01_k».proof.Proof.Gen.KernelDh.Launch
public import proofs.«01_k».proof.Proof.Gen.KernelDh.Points
public import proofs.«01_k».proof.Proof.Gen.KernelDh.Frame
public import proofs.«01_k».proof.Proof.Gen.KernelDhIdeal
public import proofs.«01_k».proof.Proof.Gen.KernelDhIdeal.Skeleton
public import proofs.«01_k».proof.Proof.Gen.KernelDhIdeal.Launch
public import proofs.«01_k».proof.Proof.Gen.KernelDhIdeal.Points
public import proofs.«01_k».proof.Proof.Gen.KernelDhIdeal.Frame
public import proofs.«01_k».proof.Proof.Gen.KernelDhIdeal.Value
public import proofs.«01_k».proof.Proof.Gen.ReferenceDhIdeal.Run
public import proofs.«01_k».proof.Proof.Gen.KernelDw2
public import proofs.«01_k».proof.Proof.Gen.KernelDw2.Skeleton
public import proofs.«01_k».proof.Proof.Gen.KernelDw2.Launch
public import proofs.«01_k».proof.Proof.Gen.KernelDw2.Points
public import proofs.«01_k».proof.Proof.Gen.KernelDw2.Frame
public import proofs.«01_k».proof.Proof.Gen.KernelDw2Ideal
public import proofs.«01_k».proof.Proof.Gen.KernelDw2Ideal.Skeleton
public import proofs.«01_k».proof.Proof.Gen.KernelDw2Ideal.Launch
public import proofs.«01_k».proof.Proof.Gen.KernelDw2Ideal.Points
public import proofs.«01_k».proof.Proof.Gen.KernelDw2Ideal.Frame
public import proofs.«01_k».proof.Proof.Gen.KernelDw2Ideal.Value
public import proofs.«01_k».proof.Proof.Gen.ReferenceDw2Ideal.Run
public import proofs.«01_k».proof.Proof.Gen.KernelDw1
public import proofs.«01_k».proof.Proof.Gen.KernelDw1.Skeleton
public import proofs.«01_k».proof.Proof.Gen.KernelDw1.Launch
public import proofs.«01_k».proof.Proof.Gen.KernelDw1.Points
public import proofs.«01_k».proof.Proof.Gen.KernelDw1.Frame
public import proofs.«01_k».proof.Proof.Gen.KernelDw1Ideal
public import proofs.«01_k».proof.Proof.Gen.KernelDw1Ideal.Skeleton
public import proofs.«01_k».proof.Proof.Gen.KernelDw1Ideal.Launch
public import proofs.«01_k».proof.Proof.Gen.KernelDw1Ideal.Points
public import proofs.«01_k».proof.Proof.Gen.KernelDw1Ideal.Frame
public import proofs.«01_k».proof.Proof.Gen.KernelDw1Ideal.Value
public import proofs.«01_k».proof.Proof.Gen.ReferenceDw1Ideal.Run
public import proofs.«01_k».proof.Proof.Gen.KernelDx
public import proofs.«01_k».proof.Proof.Gen.KernelDx.Skeleton
public import proofs.«01_k».proof.Proof.Gen.KernelDx.Launch
public import proofs.«01_k».proof.Proof.Gen.KernelDx.Points
public import proofs.«01_k».proof.Proof.Gen.KernelDx.Frame
public import proofs.«01_k».proof.Proof.Gen.KernelDxIdeal
public import proofs.«01_k».proof.Proof.Gen.KernelDxIdeal.Skeleton
public import proofs.«01_k».proof.Proof.Gen.KernelDxIdeal.Launch
public import proofs.«01_k».proof.Proof.Gen.KernelDxIdeal.Points
public import proofs.«01_k».proof.Proof.Gen.KernelDxIdeal.Frame
public import proofs.«01_k».proof.Proof.Gen.KernelDxIdeal.Value
public import proofs.«01_k».proof.Proof.Gen.ReferenceDxIdeal.Run
public import proofs.«01_k».proof.Proof.Gen.KernelGdnDw
public import proofs.«01_k».proof.Proof.Gen.KernelGdnDw.Skeleton
public import proofs.«01_k».proof.Proof.Gen.KernelGdnDw.Launch
public import proofs.«01_k».proof.Proof.Gen.KernelGdnDw.Points
public import proofs.«01_k».proof.Proof.Gen.KernelGdnDw.Frame
public import proofs.«01_k».proof.Proof.Gen.KernelGdnDwIdeal
public import proofs.«01_k».proof.Proof.Gen.KernelGdnDwIdeal.Skeleton
public import proofs.«01_k».proof.Proof.Gen.KernelGdnDwIdeal.Launch
public import proofs.«01_k».proof.Proof.Gen.KernelGdnDwIdeal.Points
public import proofs.«01_k».proof.Proof.Gen.KernelGdnDwIdeal.Frame
public import proofs.«01_k».proof.Proof.Gen.KernelGdnDwIdeal.Value
public import proofs.«01_k».proof.Proof.Gen.ReferenceGdnDwIdeal.Run
public import proofs.«01_k».proof.Proof.Gen.KernelGdnDx
public import proofs.«01_k».proof.Proof.Gen.KernelGdnDx.Skeleton
public import proofs.«01_k».proof.Proof.Gen.KernelGdnDx.Launch
public import proofs.«01_k».proof.Proof.Gen.KernelGdnDx.Points
public import proofs.«01_k».proof.Proof.Gen.KernelGdnDx.Frame
public import proofs.«01_k».proof.Proof.Gen.KernelGdnDxIdeal
public import proofs.«01_k».proof.Proof.Gen.KernelGdnDxIdeal.Skeleton
public import proofs.«01_k».proof.Proof.Gen.KernelGdnDxIdeal.Launch
public import proofs.«01_k».proof.Proof.Gen.KernelGdnDxIdeal.Points
public import proofs.«01_k».proof.Proof.Gen.KernelGdnDxIdeal.Frame
public import proofs.«01_k».proof.Proof.Gen.KernelGdnDxIdeal.Value
public import proofs.«01_k».proof.Proof.Gen.ReferenceGdnDxIdeal.Run
public import proofs.«01_k».proof.Proof.Gen.KernelGlaDw
public import proofs.«01_k».proof.Proof.Gen.KernelGlaDw.Skeleton
public import proofs.«01_k».proof.Proof.Gen.KernelGlaDw.Launch
public import proofs.«01_k».proof.Proof.Gen.KernelGlaDw.Points
public import proofs.«01_k».proof.Proof.Gen.KernelGlaDw.Frame
public import proofs.«01_k».proof.Proof.Gen.KernelGlaDwIdeal
public import proofs.«01_k».proof.Proof.Gen.KernelGlaDwIdeal.Skeleton
public import proofs.«01_k».proof.Proof.Gen.KernelGlaDwIdeal.Launch
public import proofs.«01_k».proof.Proof.Gen.KernelGlaDwIdeal.Points
public import proofs.«01_k».proof.Proof.Gen.KernelGlaDwIdeal.Frame
public import proofs.«01_k».proof.Proof.Gen.KernelGlaDwIdeal.Value
public import proofs.«01_k».proof.Proof.Gen.ReferenceGlaDwIdeal.Run
public import proofs.«01_k».proof.Proof.Gen.KernelGlaDx
public import proofs.«01_k».proof.Proof.Gen.KernelGlaDx.Skeleton
public import proofs.«01_k».proof.Proof.Gen.KernelGlaDx.Launch
public import proofs.«01_k».proof.Proof.Gen.KernelGlaDx.Points
public import proofs.«01_k».proof.Proof.Gen.KernelGlaDx.Frame
public import proofs.«01_k».proof.Proof.Gen.KernelGlaDxIdeal
public import proofs.«01_k».proof.Proof.Gen.KernelGlaDxIdeal.Skeleton
public import proofs.«01_k».proof.Proof.Gen.KernelGlaDxIdeal.Launch
public import proofs.«01_k».proof.Proof.Gen.KernelGlaDxIdeal.Points
public import proofs.«01_k».proof.Proof.Gen.KernelGlaDxIdeal.Frame
public import proofs.«01_k».proof.Proof.Gen.KernelGlaDxIdeal.Value
public import proofs.«01_k».proof.Proof.Gen.ReferenceGlaDxIdeal.Run
public import proofs.«01_k».proof.Proof.Gen.KernelOutDw
public import proofs.«01_k».proof.Proof.Gen.KernelOutDw.Skeleton
public import proofs.«01_k».proof.Proof.Gen.KernelOutDw.Launch
public import proofs.«01_k».proof.Proof.Gen.KernelOutDw.Points
public import proofs.«01_k».proof.Proof.Gen.KernelOutDw.Frame
public import proofs.«01_k».proof.Proof.Gen.KernelOutDwIdeal
public import proofs.«01_k».proof.Proof.Gen.KernelOutDwIdeal.Skeleton
public import proofs.«01_k».proof.Proof.Gen.KernelOutDwIdeal.Launch
public import proofs.«01_k».proof.Proof.Gen.KernelOutDwIdeal.Points
public import proofs.«01_k».proof.Proof.Gen.KernelOutDwIdeal.Frame
public import proofs.«01_k».proof.Proof.Gen.KernelOutDwIdeal.Value
public import proofs.«01_k».proof.Proof.Gen.ReferenceOutDwIdeal.Run
public import proofs.«01_k».proof.Proof.Gen.KernelOutDy
public import proofs.«01_k».proof.Proof.Gen.KernelOutDy.Skeleton
public import proofs.«01_k».proof.Proof.Gen.KernelOutDy.Launch
public import proofs.«01_k».proof.Proof.Gen.KernelOutDy.Points
public import proofs.«01_k».proof.Proof.Gen.KernelOutDy.Frame
public import proofs.«01_k».proof.Proof.Gen.KernelOutDyIdeal
public import proofs.«01_k».proof.Proof.Gen.KernelOutDyIdeal.Skeleton
public import proofs.«01_k».proof.Proof.Gen.KernelOutDyIdeal.Launch
public import proofs.«01_k».proof.Proof.Gen.KernelOutDyIdeal.Points
public import proofs.«01_k».proof.Proof.Gen.KernelOutDyIdeal.Frame
public import proofs.«01_k».proof.Proof.Gen.KernelOutDyIdeal.Value
public import proofs.«01_k».proof.Proof.Gen.ReferenceOutDyIdeal.Run
public import proofs.«01_k».proof.Proof.Gen.KernelGateDw
public import proofs.«01_k».proof.Proof.Gen.KernelGateDw.Skeleton
public import proofs.«01_k».proof.Proof.Gen.KernelGateDw.Launch
public import proofs.«01_k».proof.Proof.Gen.KernelGateDw.Points
public import proofs.«01_k».proof.Proof.Gen.KernelGateDw.Frame
public import proofs.«01_k».proof.Proof.Gen.KernelGateDwIdeal
public import proofs.«01_k».proof.Proof.Gen.KernelGateDwIdeal.Skeleton
public import proofs.«01_k».proof.Proof.Gen.KernelGateDwIdeal.Launch
public import proofs.«01_k».proof.Proof.Gen.KernelGateDwIdeal.Points
public import proofs.«01_k».proof.Proof.Gen.KernelGateDwIdeal.Frame
public import proofs.«01_k».proof.Proof.Gen.KernelGateDwIdeal.Value
public import proofs.«01_k».proof.Proof.Gen.ReferenceGateDwIdeal.Run
public import proofs.«01_k».proof.Proof.Gen.KernelGateDx
public import proofs.«01_k».proof.Proof.Gen.KernelGateDx.Skeleton
public import proofs.«01_k».proof.Proof.Gen.KernelGateDx.Launch
public import proofs.«01_k».proof.Proof.Gen.KernelGateDx.Points
public import proofs.«01_k».proof.Proof.Gen.KernelGateDx.Frame
public import proofs.«01_k».proof.Proof.Gen.KernelGateDxIdeal
public import proofs.«01_k».proof.Proof.Gen.KernelGateDxIdeal.Skeleton
public import proofs.«01_k».proof.Proof.Gen.KernelGateDxIdeal.Launch
public import proofs.«01_k».proof.Proof.Gen.KernelGateDxIdeal.Points
public import proofs.«01_k».proof.Proof.Gen.KernelGateDxIdeal.Frame
public import proofs.«01_k».proof.Proof.Gen.KernelGateDxIdeal.Value
public import proofs.«01_k».proof.Proof.Gen.ReferenceGateDxIdeal.Run
public import proofs.«01_k».proof.Proof.Gen.KernelGateDw2
public import proofs.«01_k».proof.Proof.Gen.KernelGateDw2.Skeleton
public import proofs.«01_k».proof.Proof.Gen.KernelGateDw2.Launch
public import proofs.«01_k».proof.Proof.Gen.KernelGateDw2.Points
public import proofs.«01_k».proof.Proof.Gen.KernelGateDw2.Frame
public import proofs.«01_k».proof.Proof.Gen.KernelGateDw2Ideal
public import proofs.«01_k».proof.Proof.Gen.KernelGateDw2Ideal.Skeleton
public import proofs.«01_k».proof.Proof.Gen.KernelGateDw2Ideal.Launch
public import proofs.«01_k».proof.Proof.Gen.KernelGateDw2Ideal.Points
public import proofs.«01_k».proof.Proof.Gen.KernelGateDw2Ideal.Frame
public import proofs.«01_k».proof.Proof.Gen.KernelGateDw2Ideal.Value
public import proofs.«01_k».proof.Proof.Gen.ReferenceGateDw2Ideal.Run
public import proofs.«01_k».proof.Proof.Gen.KernelMlpUp
public import proofs.«01_k».proof.Proof.Gen.KernelMlpUp.Skeleton
public import proofs.«01_k».proof.Proof.Gen.KernelMlpUp.Launch
public import proofs.«01_k».proof.Proof.Gen.KernelMlpUp.Points
public import proofs.«01_k».proof.Proof.Gen.KernelMlpUp.Frame
public import proofs.«01_k».proof.Proof.Gen.KernelMlpUpIdeal
public import proofs.«01_k».proof.Proof.Gen.KernelMlpUpIdeal.Skeleton
public import proofs.«01_k».proof.Proof.Gen.KernelMlpUpIdeal.Launch
public import proofs.«01_k».proof.Proof.Gen.KernelMlpUpIdeal.Points
public import proofs.«01_k».proof.Proof.Gen.KernelMlpUpIdeal.Frame
public import proofs.«01_k».proof.Proof.Gen.KernelMlpUpIdeal.Value
public import proofs.«01_k».proof.Proof.Gen.ReferenceMlpUpIdeal.Run
public import proofs.«01_k».proof.Proof.Gen.KernelMlpDown
public import proofs.«01_k».proof.Proof.Gen.KernelMlpDown.Skeleton
public import proofs.«01_k».proof.Proof.Gen.KernelMlpDown.Launch
public import proofs.«01_k».proof.Proof.Gen.KernelMlpDown.Points
public import proofs.«01_k».proof.Proof.Gen.KernelMlpDown.Frame
public import proofs.«01_k».proof.Proof.Gen.KernelMlpDownIdeal
public import proofs.«01_k».proof.Proof.Gen.KernelMlpDownIdeal.Skeleton
public import proofs.«01_k».proof.Proof.Gen.KernelMlpDownIdeal.Launch
public import proofs.«01_k».proof.Proof.Gen.KernelMlpDownIdeal.Points
public import proofs.«01_k».proof.Proof.Gen.KernelMlpDownIdeal.Frame
public import proofs.«01_k».proof.Proof.Gen.KernelMlpDownIdeal.Value
public import proofs.«01_k».proof.Proof.Gen.ReferenceMlpDownIdeal.Run
public import proofs.«01_k».proof.Proof.Gen.KernelGdnProj
public import proofs.«01_k».proof.Proof.Gen.KernelGdnProj.Skeleton
public import proofs.«01_k».proof.Proof.Gen.KernelGdnProj.Launch
public import proofs.«01_k».proof.Proof.Gen.KernelGdnProj.Points
public import proofs.«01_k».proof.Proof.Gen.KernelGdnProj.Frame
public import proofs.«01_k».proof.Proof.Gen.KernelGdnProjIdeal
public import proofs.«01_k».proof.Proof.Gen.KernelGdnProjIdeal.Skeleton
public import proofs.«01_k».proof.Proof.Gen.KernelGdnProjIdeal.Launch
public import proofs.«01_k».proof.Proof.Gen.KernelGdnProjIdeal.Points
public import proofs.«01_k».proof.Proof.Gen.KernelGdnProjIdeal.Frame
public import proofs.«01_k».proof.Proof.Gen.KernelGdnProjIdeal.Value
public import proofs.«01_k».proof.Proof.Gen.ReferenceGdnProjIdeal.Run
public import proofs.«01_k».proof.Proof.Gen.KernelGlaProj
public import proofs.«01_k».proof.Proof.Gen.KernelGlaProj.Skeleton
public import proofs.«01_k».proof.Proof.Gen.KernelGlaProj.Launch
public import proofs.«01_k».proof.Proof.Gen.KernelGlaProj.Points
public import proofs.«01_k».proof.Proof.Gen.KernelGlaProj.Frame
public import proofs.«01_k».proof.Proof.Gen.KernelGlaProjIdeal
public import proofs.«01_k».proof.Proof.Gen.KernelGlaProjIdeal.Skeleton
public import proofs.«01_k».proof.Proof.Gen.KernelGlaProjIdeal.Launch
public import proofs.«01_k».proof.Proof.Gen.KernelGlaProjIdeal.Points
public import proofs.«01_k».proof.Proof.Gen.KernelGlaProjIdeal.Frame
public import proofs.«01_k».proof.Proof.Gen.KernelGlaProjIdeal.Value
public import proofs.«01_k».proof.Proof.Gen.ReferenceGlaProjIdeal.Run
public import proofs.«01_k».proof.Proof.Gen.KernelGateProj
public import proofs.«01_k».proof.Proof.Gen.KernelGateProj.Skeleton
public import proofs.«01_k».proof.Proof.Gen.KernelGateProj.Launch
public import proofs.«01_k».proof.Proof.Gen.KernelGateProj.Points
public import proofs.«01_k».proof.Proof.Gen.KernelGateProj.Frame
public import proofs.«01_k».proof.Proof.Gen.KernelGateProjIdeal
public import proofs.«01_k».proof.Proof.Gen.KernelGateProjIdeal.Skeleton
public import proofs.«01_k».proof.Proof.Gen.KernelGateProjIdeal.Launch
public import proofs.«01_k».proof.Proof.Gen.KernelGateProjIdeal.Points
public import proofs.«01_k».proof.Proof.Gen.KernelGateProjIdeal.Frame
public import proofs.«01_k».proof.Proof.Gen.KernelGateProjIdeal.Value
public import proofs.«01_k».proof.Proof.Gen.ReferenceGateProjIdeal.Run
public import proofs.«01_k».proof.Proof.Gen.KernelOutProj
public import proofs.«01_k».proof.Proof.Gen.KernelOutProj.Skeleton
public import proofs.«01_k».proof.Proof.Gen.KernelOutProj.Launch
public import proofs.«01_k».proof.Proof.Gen.KernelOutProj.Points
public import proofs.«01_k».proof.Proof.Gen.KernelOutProj.Frame
public import proofs.«01_k».proof.Proof.Gen.KernelOutProjIdeal
public import proofs.«01_k».proof.Proof.Gen.KernelOutProjIdeal.Skeleton
public import proofs.«01_k».proof.Proof.Gen.KernelOutProjIdeal.Launch
public import proofs.«01_k».proof.Proof.Gen.KernelOutProjIdeal.Points
public import proofs.«01_k».proof.Proof.Gen.KernelOutProjIdeal.Frame
public import proofs.«01_k».proof.Proof.Gen.KernelOutProjIdeal.Value
public import proofs.«01_k».proof.Proof.Gen.ReferenceOutProjIdeal.Run
public import proofs.«01_k».proof.Proof.Gen.KernelAdamwMlpW1
public import proofs.«01_k».proof.Proof.Gen.KernelAdamwMlpW1.Skeleton
public import proofs.«01_k».proof.Proof.Gen.KernelAdamwMlpW1.Launch
public import proofs.«01_k».proof.Proof.Gen.KernelAdamwMlpW1.Points
public import proofs.«01_k».proof.Proof.Gen.KernelAdamwMlpW1.Frame
public import proofs.«01_k».proof.Proof.Gen.KernelAdamwMlpW1Ideal
public import proofs.«01_k».proof.Proof.Gen.KernelAdamwMlpW1Ideal.Skeleton
public import proofs.«01_k».proof.Proof.Gen.KernelAdamwMlpW1Ideal.Launch
public import proofs.«01_k».proof.Proof.Gen.KernelAdamwMlpW1Ideal.Points
public import proofs.«01_k».proof.Proof.Gen.KernelAdamwMlpW1Ideal.Frame
public import proofs.«01_k».proof.Proof.Gen.KernelAdamwMlpW1Ideal.Value
public import proofs.«01_k».proof.Proof.Gen.ReferenceAdamwMlpW1Ideal.Run
public import proofs.«01_k».proof.Proof.Gen.KernelAdamwMlpW2
public import proofs.«01_k».proof.Proof.Gen.KernelAdamwMlpW2.Skeleton
public import proofs.«01_k».proof.Proof.Gen.KernelAdamwMlpW2.Launch
public import proofs.«01_k».proof.Proof.Gen.KernelAdamwMlpW2.Points
public import proofs.«01_k».proof.Proof.Gen.KernelAdamwMlpW2.Frame
public import proofs.«01_k».proof.Proof.Gen.KernelAdamwMlpW2Ideal
public import proofs.«01_k».proof.Proof.Gen.KernelAdamwMlpW2Ideal.Skeleton
public import proofs.«01_k».proof.Proof.Gen.KernelAdamwMlpW2Ideal.Launch
public import proofs.«01_k».proof.Proof.Gen.KernelAdamwMlpW2Ideal.Points
public import proofs.«01_k».proof.Proof.Gen.KernelAdamwMlpW2Ideal.Frame
public import proofs.«01_k».proof.Proof.Gen.KernelAdamwMlpW2Ideal.Value
public import proofs.«01_k».proof.Proof.Gen.ReferenceAdamwMlpW2Ideal.Run
public import proofs.«01_k».proof.Proof.Gen.KernelAdamwAWOut
public import proofs.«01_k».proof.Proof.Gen.KernelAdamwAWOut.Skeleton
public import proofs.«01_k».proof.Proof.Gen.KernelAdamwAWOut.Launch
public import proofs.«01_k».proof.Proof.Gen.KernelAdamwAWOut.Points
public import proofs.«01_k».proof.Proof.Gen.KernelAdamwAWOut.Frame
public import proofs.«01_k».proof.Proof.Gen.KernelAdamwAWOutIdeal
public import proofs.«01_k».proof.Proof.Gen.KernelAdamwAWOutIdeal.Skeleton
public import proofs.«01_k».proof.Proof.Gen.KernelAdamwAWOutIdeal.Launch
public import proofs.«01_k».proof.Proof.Gen.KernelAdamwAWOutIdeal.Points
public import proofs.«01_k».proof.Proof.Gen.KernelAdamwAWOutIdeal.Frame
public import proofs.«01_k».proof.Proof.Gen.KernelAdamwAWOutIdeal.Value
public import proofs.«01_k».proof.Proof.Gen.ReferenceAdamwAWOutIdeal.Run
public import proofs.«01_k».proof.Proof.Gen.KernelAdamwBWOut
public import proofs.«01_k».proof.Proof.Gen.KernelAdamwBWOut.Skeleton
public import proofs.«01_k».proof.Proof.Gen.KernelAdamwBWOut.Launch
public import proofs.«01_k».proof.Proof.Gen.KernelAdamwBWOut.Points
public import proofs.«01_k».proof.Proof.Gen.KernelAdamwBWOut.Frame
public import proofs.«01_k».proof.Proof.Gen.KernelAdamwBWOutIdeal
public import proofs.«01_k».proof.Proof.Gen.KernelAdamwBWOutIdeal.Skeleton
public import proofs.«01_k».proof.Proof.Gen.KernelAdamwBWOutIdeal.Launch
public import proofs.«01_k».proof.Proof.Gen.KernelAdamwBWOutIdeal.Points
public import proofs.«01_k».proof.Proof.Gen.KernelAdamwBWOutIdeal.Frame
public import proofs.«01_k».proof.Proof.Gen.KernelAdamwBWOutIdeal.Value
public import proofs.«01_k».proof.Proof.Gen.ReferenceAdamwBWOutIdeal.Run
public import proofs.«01_k».proof.Proof.Gen.KernelAdamwAWIn
public import proofs.«01_k».proof.Proof.Gen.KernelAdamwAWIn.Skeleton
public import proofs.«01_k».proof.Proof.Gen.KernelAdamwAWIn.Launch
public import proofs.«01_k».proof.Proof.Gen.KernelAdamwAWIn.Points
public import proofs.«01_k».proof.Proof.Gen.KernelAdamwAWIn.Frame
public import proofs.«01_k».proof.Proof.Gen.KernelAdamwAWInIdeal
public import proofs.«01_k».proof.Proof.Gen.KernelAdamwAWInIdeal.Skeleton
public import proofs.«01_k».proof.Proof.Gen.KernelAdamwAWInIdeal.Launch
public import proofs.«01_k».proof.Proof.Gen.KernelAdamwAWInIdeal.Points
public import proofs.«01_k».proof.Proof.Gen.KernelAdamwAWInIdeal.Frame
public import proofs.«01_k».proof.Proof.Gen.KernelAdamwAWInIdeal.Value
public import proofs.«01_k».proof.Proof.Gen.ReferenceAdamwAWInIdeal.Run
public import proofs.«01_k».proof.Proof.Gen.KernelAdamwBWIn
public import proofs.«01_k».proof.Proof.Gen.KernelAdamwBWIn.Skeleton
public import proofs.«01_k».proof.Proof.Gen.KernelAdamwBWIn.Launch
public import proofs.«01_k».proof.Proof.Gen.KernelAdamwBWIn.Points
public import proofs.«01_k».proof.Proof.Gen.KernelAdamwBWIn.Frame
public import proofs.«01_k».proof.Proof.Gen.KernelAdamwBWInIdeal
public import proofs.«01_k».proof.Proof.Gen.KernelAdamwBWInIdeal.Skeleton
public import proofs.«01_k».proof.Proof.Gen.KernelAdamwBWInIdeal.Launch
public import proofs.«01_k».proof.Proof.Gen.KernelAdamwBWInIdeal.Points
public import proofs.«01_k».proof.Proof.Gen.KernelAdamwBWInIdeal.Frame
public import proofs.«01_k».proof.Proof.Gen.KernelAdamwBWInIdeal.Value
public import proofs.«01_k».proof.Proof.Gen.ReferenceAdamwBWInIdeal.Run
public import proofs.«01_k».proof.Proof.Gen.KernelAdamwSmall
public import proofs.«01_k».proof.Proof.Gen.KernelAdamwSmall.Skeleton
public import proofs.«01_k».proof.Proof.Gen.KernelAdamwSmall.Launch
public import proofs.«01_k».proof.Proof.Gen.KernelAdamwSmall.Points
public import proofs.«01_k».proof.Proof.Gen.KernelAdamwSmall.Frame
public import proofs.«01_k».proof.Proof.Gen.KernelAdamwSmallIdeal
public import proofs.«01_k».proof.Proof.Gen.KernelAdamwSmallIdeal.Skeleton
public import proofs.«01_k».proof.Proof.Gen.KernelAdamwSmallIdeal.Launch
public import proofs.«01_k».proof.Proof.Gen.KernelAdamwSmallIdeal.Points
public import proofs.«01_k».proof.Proof.Gen.KernelAdamwSmallIdeal.Frame
public import proofs.«01_k».proof.Proof.Gen.KernelAdamwSmallIdeal.Value
public import proofs.«01_k».proof.Proof.Gen.ReferenceAdamwSmallIdeal.Run
public import proofs.«01_k».proof.Proof.Result
public import proofs.«01_k».proof.Proof.RefLoop
public import proofs.«01_k».proof.Proof.Finite
public import proofs.«01_k».proof.Proof.Update
public import proofs.«01_k».proof.Proof.UpdateSmall
public import proofs.«01_k».proof.Proof.Forward
public import proofs.«01_k».proof.Proof.MixerBackward
public import proofs.«01_k».proof.Proof.Mlp
public import Idealize.ShloMosaic.Adequacy
public import Idealize.ShloMosaic.Init

@[expose] public section

noncomputable section

namespace Cert.Proof

open Idealize.ShloMosaic Idealize.SL.Sem

/-- The reference's frame: its run, read at its arguments; it declares no semaphore. -/
theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The reference's loop, `n` trips from the arguments' state. -/
def iter (m : (ℓ : Loc Cert.ReferenceIdeal.nD Cert.ReferenceIdeal.τ Cert.ReferenceIdeal.sig) → Buf (Elt Ideal) ℓ)
    (c : Dev Cert.ReferenceIdeal.nD) (n : ℕ) : Cert.ReferenceIdeal.Step.State Ideal :=
  n.rec (Cert.ReferenceIdeal.StepRun.initState m c) Cert.ReferenceIdeal.Step.step

/-- Both programs' results are the arrays of the real recurrence's gradients. -/
theorem algebraic : Cert.algebraic_KernelIdeal_ReferenceIdeal_pre_finite := by
  intro m g m' g' pre args
  have fin : ∀ c : Dev Cert.KernelIdeal.nD, ∃ P A T O,
      m ((c.tc : Thread Cert.KernelIdeal.nD Cert.KernelIdeal.τ).loc Cert.KernelIdeal.main_arg0) = Cert.Chunk.A2 P
      ∧ m ((c.tc : Thread Cert.KernelIdeal.nD Cert.KernelIdeal.τ).loc Cert.KernelIdeal.main_arg1) = Cert.Chunk.A3 A
      ∧ m ((c.tc : Thread Cert.KernelIdeal.nD Cert.KernelIdeal.τ).loc Cert.KernelIdeal.main_arg2) = Cert.Chunk.A5 T
      ∧ m ((c.tc : Thread Cert.KernelIdeal.nD Cert.KernelIdeal.τ).loc Cert.KernelIdeal.main_arg3) = Cert.Chunk.A2 O := fun c => by
    obtain ⟨hx, ha, ht, ho⟩ := Cert.Finite.coe_all _ _ _ _ fun i => congrFun (pre c) i
    obtain ⟨P, e0⟩ := Cert.Finite.eq_A2 _ hx
    obtain ⟨A, e1⟩ := Cert.Finite.eq_A3 _ ha
    obtain ⟨T, e2⟩ := Cert.Finite.eq_A5 _ ht
    obtain ⟨O, e3⟩ := Cert.Finite.eq_A2 _ ho
    exact ⟨P, A, T, O, e0, e1, e2, e3⟩
  choose P A T O h0 h1 h2 h3 using fin
  have inv : ∀ c : Dev Cert.KernelIdeal.nD, ∀ n ≤ 32, Cert.ReferenceIdeal.Step.Inv (P c) (A c) (T c) (O c) n (iter m' c n) := by
    intro c n
    induction n with
    | zero =>
      intro _
      have e : iter m' c 0 = Cert.ReferenceIdeal.Step.init (F := Ideal) (Cert.Chunk.A2 (P c)) (Cert.Chunk.A3 (A c))
          (Cert.Chunk.A5 (T c)) (Cert.Chunk.A2 (O c)) := by
        rw [← h0 c, ← h1 c, ← h2 c, ← h3 c, ← (args c).1, ← (args c).2.1, ← (args c).2.2.1, ← (args c).2.2.2]
        rfl
      rw [e]
      exact Cert.ReferenceIdeal.Step.inv_zero ..
    | succ n ih => exact fun hn => Cert.ReferenceIdeal.Step.inv_step (by omega) (ih (by omega))
  refine ⟨fun c => Cert.Chunk.A3 (Cert.Chunk.resQ (P c) (A c) (T c) (O c)), fun c => Cert.Chunk.A3 (Cert.Chunk.resK (P c) (A c) (O c)),
    fun c => Cert.Chunk.A3 (Cert.Chunk.resV (P c) (A c) (O c)), fun c => Cert.Chunk.A3 (Cert.Chunk.resA (P c) (A c) (T c) (O c)), ?_, ?_⟩
  · exact (θ_run Cert.KernelIdeal.defs _ _).mono (fun _ h c =>
      ⟨(h c).1.trans (Cert.KernelIdeal.Head.finalQ _ _ _ _ m c (h0 c) (h1 c) (h2 c) (h3 c)),
        (h c).2.1.trans (Cert.KernelIdeal.Head.finalK _ _ _ _ m c (h0 c) (h1 c) (h2 c) (h3 c)),
        (h c).2.2.1.trans (Cert.KernelIdeal.Head.finalV _ _ _ _ m c (h0 c) (h1 c) (h2 c) (h3 c)),
        (h c).2.2.2.1.trans (Cert.KernelIdeal.Head.finalA _ _ _ _ m c (h0 c) (h1 c) (h2 c) (h3 c)),
        (h c).2.2.2.2⟩) (Cert.KernelIdeal.Value.run_blocks (F := Ideal) m g)
  · exact (θ_run Cert.ReferenceIdeal.defs _ _).mono (fun _ h c =>
      ⟨(h c).1.trans (Cert.ReferenceIdeal.Step.last_v62 (inv c 32 le_rfl)),
        (h c).2.1.trans (Cert.ReferenceIdeal.Step.last_v70 (inv c 32 le_rfl)),
        (h c).2.2.1.trans (Cert.ReferenceIdeal.Step.last_v78 (inv c 32 le_rfl)),
        (h c).2.2.2.1.trans (Cert.ReferenceIdeal.Step.last_v86 (inv c 32 le_rfl)),
        (h c).2.2.2.2⟩) (Cert.ReferenceIdeal.StepRun.run_iter (F := Ideal) m' g' (iter m') (fun _ => rfl) fun _ _ => rfl)

theorem claim : Cert.Claim := ⟨Cert.Kernel.Gen.facts, Cert.KernelIdeal.Gen.facts, Cert.ReferenceIdeal.Gen.facts,
  Cert.KernelDh.Gen.facts, Cert.KernelDhIdeal.Gen.facts, Cert.ReferenceDhIdeal.Gen.facts,
  Cert.KernelDw2.Gen.facts, Cert.KernelDw2Ideal.Gen.facts, Cert.ReferenceDw2Ideal.Gen.facts,
  Cert.KernelDw1.Gen.facts, Cert.KernelDw1Ideal.Gen.facts, Cert.ReferenceDw1Ideal.Gen.facts,
  Cert.KernelDx.Gen.facts, Cert.KernelDxIdeal.Gen.facts, Cert.ReferenceDxIdeal.Gen.facts,
  Cert.KernelGdnDw.Gen.facts, Cert.KernelGdnDwIdeal.Gen.facts, Cert.ReferenceGdnDwIdeal.Gen.facts,
  Cert.KernelGdnDx.Gen.facts, Cert.KernelGdnDxIdeal.Gen.facts, Cert.ReferenceGdnDxIdeal.Gen.facts,
  Cert.KernelGlaDw.Gen.facts, Cert.KernelGlaDwIdeal.Gen.facts, Cert.ReferenceGlaDwIdeal.Gen.facts,
  Cert.KernelGlaDx.Gen.facts, Cert.KernelGlaDxIdeal.Gen.facts, Cert.ReferenceGlaDxIdeal.Gen.facts,
  Cert.KernelOutDw.Gen.facts, Cert.KernelOutDwIdeal.Gen.facts, Cert.ReferenceOutDwIdeal.Gen.facts,
  Cert.KernelOutDy.Gen.facts, Cert.KernelOutDyIdeal.Gen.facts, Cert.ReferenceOutDyIdeal.Gen.facts,
  Cert.KernelGateDw.Gen.facts, Cert.KernelGateDwIdeal.Gen.facts, Cert.ReferenceGateDwIdeal.Gen.facts,
  Cert.KernelGateDx.Gen.facts, Cert.KernelGateDxIdeal.Gen.facts, Cert.ReferenceGateDxIdeal.Gen.facts,
  Cert.KernelGateDw2.Gen.facts, Cert.KernelGateDw2Ideal.Gen.facts, Cert.ReferenceGateDw2Ideal.Gen.facts,
  Cert.KernelMlpUp.Gen.facts, Cert.KernelMlpUpIdeal.Gen.facts, Cert.ReferenceMlpUpIdeal.Gen.facts,
  Cert.KernelMlpDown.Gen.facts, Cert.KernelMlpDownIdeal.Gen.facts, Cert.ReferenceMlpDownIdeal.Gen.facts,
  Cert.KernelGdnProj.Gen.facts, Cert.KernelGdnProjIdeal.Gen.facts, Cert.ReferenceGdnProjIdeal.Gen.facts,
  Cert.KernelGlaProj.Gen.facts, Cert.KernelGlaProjIdeal.Gen.facts, Cert.ReferenceGlaProjIdeal.Gen.facts,
  Cert.KernelGateProj.Gen.facts, Cert.KernelGateProjIdeal.Gen.facts, Cert.ReferenceGateProjIdeal.Gen.facts,
  Cert.KernelOutProj.Gen.facts, Cert.KernelOutProjIdeal.Gen.facts, Cert.ReferenceOutProjIdeal.Gen.facts,
  Cert.KernelAdamwMlpW1.Gen.facts, Cert.KernelAdamwMlpW1Ideal.Gen.facts, Cert.ReferenceAdamwMlpW1Ideal.Gen.facts,
  Cert.KernelAdamwMlpW2.Gen.facts, Cert.KernelAdamwMlpW2Ideal.Gen.facts, Cert.ReferenceAdamwMlpW2Ideal.Gen.facts,
  Cert.KernelAdamwAWOut.Gen.facts, Cert.KernelAdamwAWOutIdeal.Gen.facts, Cert.ReferenceAdamwAWOutIdeal.Gen.facts,
  Cert.KernelAdamwBWOut.Gen.facts, Cert.KernelAdamwBWOutIdeal.Gen.facts, Cert.ReferenceAdamwBWOutIdeal.Gen.facts,
  Cert.KernelAdamwAWIn.Gen.facts, Cert.KernelAdamwAWInIdeal.Gen.facts, Cert.ReferenceAdamwAWInIdeal.Gen.facts,
  Cert.KernelAdamwBWIn.Gen.facts, Cert.KernelAdamwBWInIdeal.Gen.facts, Cert.ReferenceAdamwBWInIdeal.Gen.facts,
  Cert.KernelAdamwSmall.Gen.facts, Cert.KernelAdamwSmallIdeal.Gen.facts, Cert.ReferenceAdamwSmallIdeal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_r m ρ, fun m ρ _ => frame_r m ρ,
  fun m ρ _ => Cert.KernelDh.Gen.frame m ρ, fun m ρ _ => Cert.KernelDhIdeal.Gen.frame m ρ, frameDh,
  fun m ρ _ => Cert.KernelDw2.Gen.frame m ρ, fun m ρ _ => Cert.KernelDw2Ideal.Gen.frame m ρ, frameDw2,
  fun m ρ _ => Cert.KernelDw1.Gen.frame m ρ, fun m ρ _ => Cert.KernelDw1Ideal.Gen.frame m ρ, frameDw1,
  fun m ρ _ => Cert.KernelDx.Gen.frame m ρ, fun m ρ _ => Cert.KernelDxIdeal.Gen.frame m ρ, frameDx,
  fun m ρ _ => Cert.KernelGdnDw.Gen.frame m ρ, fun m ρ _ => Cert.KernelGdnDwIdeal.Gen.frame m ρ, frameGdnDw,
  fun m ρ _ => Cert.KernelGdnDx.Gen.frame m ρ, fun m ρ _ => Cert.KernelGdnDxIdeal.Gen.frame m ρ, frameGdnDx,
  fun m ρ _ => Cert.KernelGlaDw.Gen.frame m ρ, fun m ρ _ => Cert.KernelGlaDwIdeal.Gen.frame m ρ, frameGlaDw,
  fun m ρ _ => Cert.KernelGlaDx.Gen.frame m ρ, fun m ρ _ => Cert.KernelGlaDxIdeal.Gen.frame m ρ, frameGlaDx,
  fun m ρ _ => Cert.KernelOutDw.Gen.frame m ρ, fun m ρ _ => Cert.KernelOutDwIdeal.Gen.frame m ρ, frameOutDw,
  fun m ρ _ => Cert.KernelOutDy.Gen.frame m ρ, fun m ρ _ => Cert.KernelOutDyIdeal.Gen.frame m ρ, frameOutDy,
  fun m ρ _ => Cert.KernelGateDw.Gen.frame m ρ, fun m ρ _ => Cert.KernelGateDwIdeal.Gen.frame m ρ, frameGateDw,
  fun m ρ _ => Cert.KernelGateDx.Gen.frame m ρ, fun m ρ _ => Cert.KernelGateDxIdeal.Gen.frame m ρ, frameGateDx,
  fun m ρ _ => Cert.KernelGateDw2.Gen.frame m ρ, fun m ρ _ => Cert.KernelGateDw2Ideal.Gen.frame m ρ, frameGateDw2,
  fun m ρ _ => Cert.KernelMlpUp.Gen.frame m ρ, fun m ρ _ => Cert.KernelMlpUpIdeal.Gen.frame m ρ, frameMlpUp,
  fun m ρ _ => Cert.KernelMlpDown.Gen.frame m ρ, fun m ρ _ => Cert.KernelMlpDownIdeal.Gen.frame m ρ, frameMlpDown,
  fun m ρ _ => Cert.KernelGdnProj.Gen.frame m ρ, fun m ρ _ => Cert.KernelGdnProjIdeal.Gen.frame m ρ, frameGdnProj,
  fun m ρ _ => Cert.KernelGlaProj.Gen.frame m ρ, fun m ρ _ => Cert.KernelGlaProjIdeal.Gen.frame m ρ, frameGlaProj,
  fun m ρ _ => Cert.KernelGateProj.Gen.frame m ρ, fun m ρ _ => Cert.KernelGateProjIdeal.Gen.frame m ρ, frameGateProj,
  fun m ρ _ => Cert.KernelOutProj.Gen.frame m ρ, fun m ρ _ => Cert.KernelOutProjIdeal.Gen.frame m ρ, frameOutProj,
  fun m ρ _ => Cert.KernelAdamwMlpW1.Gen.frame m ρ, fun m ρ _ => Cert.KernelAdamwMlpW1Ideal.Gen.frame m ρ, frameAdamwMlpW1,
  fun m ρ _ => Cert.KernelAdamwMlpW2.Gen.frame m ρ, fun m ρ _ => Cert.KernelAdamwMlpW2Ideal.Gen.frame m ρ, frameAdamwMlpW2,
  fun m ρ _ => Cert.KernelAdamwAWOut.Gen.frame m ρ, fun m ρ _ => Cert.KernelAdamwAWOutIdeal.Gen.frame m ρ, frameAdamwAWOut,
  fun m ρ _ => Cert.KernelAdamwBWOut.Gen.frame m ρ, fun m ρ _ => Cert.KernelAdamwBWOutIdeal.Gen.frame m ρ, frameAdamwBWOut,
  fun m ρ _ => Cert.KernelAdamwAWIn.Gen.frame m ρ, fun m ρ _ => Cert.KernelAdamwAWInIdeal.Gen.frame m ρ, frameAdamwAWIn,
  fun m ρ _ => Cert.KernelAdamwBWIn.Gen.frame m ρ, fun m ρ _ => Cert.KernelAdamwBWInIdeal.Gen.frame m ρ, frameAdamwBWIn,
  fun m ρ _ => Cert.KernelAdamwSmall.Gen.frame m ρ, fun m ρ _ => Cert.KernelAdamwSmallIdeal.Gen.frame m ρ, frameAdamwSmall,
  trivial, algebraic,
  trivial, algebraicDh,
  trivial, algebraicDw2,
  trivial, algebraicDw1,
  trivial, algebraicDx,
  trivial, algebraicGdnDw,
  trivial, algebraicGdnDx,
  trivial, algebraicGlaDw,
  trivial, algebraicGlaDx,
  trivial, algebraicOutDw,
  trivial, algebraicOutDy,
  trivial, algebraicGateDw,
  trivial, algebraicGateDx,
  trivial, algebraicGateDw2,
  trivial, algebraicMlpUp,
  trivial, algebraicMlpDown,
  trivial, algebraicGdnProj,
  trivial, algebraicGlaProj,
  trivial, algebraicGateProj,
  trivial, algebraicOutProj,
  trivial, algebraicAdamwMlpW1,
  trivial, algebraicAdamwMlpW2,
  trivial, algebraicAdamwAWOut,
  trivial, algebraicAdamwBWOut,
  trivial, algebraicAdamwAWIn,
  trivial, algebraicAdamwBWIn,
  trivial, algebraicAdamwSmall⟩

end Cert.Proof

end
